-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![16384, 1024]⟩ (Layout.meshBlock [2, 4, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S16384x1024 : Shape := ⟨2, ![16384, 1024]⟩
abbrev S24 : Shape := ⟨1, ![24]⟩
abbrev S9 : Shape := ⟨1, ![9]⟩
abbrev S28 : Shape := ⟨1, ![28]⟩
abbrev S_ : Shape := ⟨0, ![]⟩
abbrev S128x1024 : Shape := ⟨2, ![128, 1024]⟩
abbrev S1 : Shape := ⟨1, ![1]⟩
abbrev S1024x1024 : Shape := ⟨2, ![1024, 1024]⟩

abbrev nBuf : Space → Nat
  | .hbm => 2
  | .vmem => 2
  | .smem => 0
  | _ => 0

abbrev bufTy : (tb : Table) → Fin (tcTables nBuf tb) → BufTy
  | .hbm, ⟨0, _⟩ => ⟨S4096x1024, .bf16⟩
  | .hbm, ⟨1, _⟩ => ⟨S16384x1024, .bf16⟩
  | .local _ .vmem, ⟨0, _⟩ => ⟨S4096x1024, .bf16⟩
  | .local _ .vmem, ⟨1, _⟩ => ⟨S16384x1024, .bf16⟩
  | _, _ => ⟨S4096x1024, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_3 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_4 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | _ => false

abbrev dmaSemScopedAt (i : Nat) : Bool := match i / 128 with
  | 0 => dmaSemScopedAt0_0 i
  | 1 => dmaSemScopedAt0_1 i
  | 2 => dmaSemScopedAt0_2 i
  | 3 => dmaSemScopedAt0_3 i
  | 4 => dmaSemScopedAt0_4 i
  | _ => false

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 545 → Bool
  | ⟨i, _⟩ => dmaSemScopedAt i

abbrev sig : RefSig :=
  (ofTc nBuf bufTy 1 545 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v33 : BitVec 1 := Scalar.cmpi .sge v8 c1_i32_15
  let v34 : BitVec 32 := Scalar.extui v33
  let c0_i32_16 : BitVec 32 := 0#32
  let v35 : BitVec 1 := Scalar.cmpi .ne v34 c0_i32_16
  v35

def k0_dev1 (d0 : Dev nD) : Nat :=
  let c0_i32_1749 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1748 : BitVec 32 := 16#32
  let v2637 : BitVec 32 := Scalar.muli v2 c16_i32_1748
  let v2638 : BitVec 32 := Scalar.addi c0_i32_1749 v2637
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1750 : BitVec 32 := 4#32
  let v2639 : BitVec 32 := Scalar.muli v5 c4_i32_1750
  let v2640 : BitVec 32 := Scalar.addi v2638 v2639
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c1_i32_1751 : BitVec 32 := 1#32
  let v2641 : BitVec 32 := Scalar.muli v2636 c1_i32_1751
  let v2642 : BitVec 32 := Scalar.addi v2640 v2641
  v2642.toNat
def k0_cond2 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_17 : BitVec 32 := 2#32
  let v36 : BitVec 1 := Scalar.cmpi .sle v8 c2_i32_17
  let v37 : BitVec 32 := Scalar.extui v36
  let c0_i32_18 : BitVec 32 := 0#32
  let v38 : BitVec 1 := Scalar.cmpi .ne v37 c0_i32_18
  v38

def k0_dev2 (d0 : Dev nD) : Nat :=
  let c0_i32_1749 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1748 : BitVec 32 := 16#32
  let v2637 : BitVec 32 := Scalar.muli v2 c16_i32_1748
  let v2638 : BitVec 32 := Scalar.addi c0_i32_1749 v2637
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1750 : BitVec 32 := 4#32
  let v2639 : BitVec 32 := Scalar.muli v5 c4_i32_1750
  let v2640 : BitVec 32 := Scalar.addi v2638 v2639
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c1_i32_1751 : BitVec 32 := 1#32
  let v2641 : BitVec 32 := Scalar.muli v2636 c1_i32_1751
  let v2642 : BitVec 32 := Scalar.addi v2640 v2641
  v2642.toNat
def k0_dev3 (d0 : Dev nD) : Nat :=
  let c0_i32_21 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_20 : BitVec 32 := 16#32
  let v39 : BitVec 32 := Scalar.muli v31 c16_i32_20
  let v40 : BitVec 32 := Scalar.addi c0_i32_21 v39
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_22 : BitVec 32 := 4#32
  let v41 : BitVec 32 := Scalar.muli v5 c4_i32_22
  let v42 : BitVec 32 := Scalar.addi v40 v41
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v43 : BitVec 32 := Scalar.muli v8 c1_i32_23
  let v44 : BitVec 32 := Scalar.addi v42 v43
  v44.toNat
def k0_dev4 (d0 : Dev nD) : Nat :=
  let c0_i32_26 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_25 : BitVec 32 := 16#32
  let v45 : BitVec 32 := Scalar.muli v2 c16_i32_25
  let v46 : BitVec 32 := Scalar.addi c0_i32_26 v45
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_27 : BitVec 32 := 4#32
  let v47 : BitVec 32 := Scalar.muli v21 c4_i32_27
  let v48 : BitVec 32 := Scalar.addi v46 v47
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_28 : BitVec 32 := 1#32
  let v49 : BitVec 32 := Scalar.muli v8 c1_i32_28
  let v50 : BitVec 32 := Scalar.addi v48 v49
  v50.toNat
def k0_amt1 (d0 : Dev nD) : BitVec 32 :=
  let c2_i32_30 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_29 : BitVec 32 := 1#32
  let v51 : BitVec 1 := Scalar.cmpi .sge v8 c1_i32_29
  let v52 : BitVec 32 := Scalar.extui v51
  let v53 : BitVec 32 := Scalar.addi c2_i32_30 v52
  let c2_i32_31 : BitVec 32 := 2#32
  let v54 : BitVec 1 := Scalar.cmpi .sle v8 c2_i32_31
  let v55 : BitVec 32 := Scalar.extui v54
  let v56 : BitVec 32 := Scalar.addi v53 v55
  v56

def k0_off1 (d0 : Dev nD) (c0_i32_32 : BitVec 32) : Fin 2 → Nat :=
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32 : BitVec 32 := 1024#32
  let v57 : BitVec 32 := Scalar.muli v23 c1024_i32
  let v58 : BitVec 32 := Scalar.addi v57 c0_i32_32
  let v59 : Index := Scalar.indexCast v58
  let c0 : Index := 0#32
  ![v59.toNat, 0]
def k0_off2 (d0 : Dev nD) (c0_i32_34 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4096_i32 : BitVec 32 := 4096#32
  let v62 : BitVec 32 := Scalar.muli v8 c4096_i32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_33 : BitVec 32 := 1024#32
  let v63 : BitVec 32 := Scalar.muli v23 c1024_i32_33
  let v64 : BitVec 32 := Scalar.addi v62 v63
  let v65 : BitVec 32 := Scalar.addi v64 c0_i32_34
  let v66 : Index := Scalar.indexCast v65
  let c0_35 : Index := 0#32
  ![v66.toNat, 0]
def k0_cond3 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_36 : BitVec 32 := 2#32
  let v70 : BitVec 1 := Scalar.cmpi .sle v8 c2_i32_36
  let c0_i32_37 : BitVec 32 := 0#32
  let v71 : BitVec 1 := Scalar.cmpi .sge v8 c0_i32_37
  let v72 : BitVec 1 := Scalar.andi v70 v71
  let v73 : BitVec 32 := Scalar.extui v72
  let c0_i32_38 : BitVec 32 := 0#32
  let v74 : BitVec 1 := Scalar.cmpi .ne v73 c0_i32_38
  v74

def k0_off3 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1746 : BitVec 32 := 0#32
  let v2636 : BitVec 32 := Scalar.subi v8 c0_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c0_i32_1749 : BitVec 32 := 0#32
  let v2640 : BitVec 32 := Scalar.addi v2639 c0_i32_1749
  let c0_i32_1757 : BitVec 32 := 0#32
  ![v2640.toNat, 0]
def k0_dev5 (d0 : Dev nD) : Nat :=
  let c0_i32_1754 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1753 : BitVec 32 := 16#32
  let v2642 : BitVec 32 := Scalar.muli v2 c16_i32_1753
  let v2643 : BitVec 32 := Scalar.addi c0_i32_1754 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1755 : BitVec 32 := 4#32
  let v2644 : BitVec 32 := Scalar.muli v5 c4_i32_1755
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.addi v8 c1_i32_1750
  let c1_i32_1756 : BitVec 32 := 1#32
  let v2646 : BitVec 32 := Scalar.muli v2641 c1_i32_1756
  let v2647 : BitVec 32 := Scalar.addi v2645 v2646
  v2647.toNat
def k0_cond4 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_39 : BitVec 32 := 1#32
  let v75 : BitVec 1 := Scalar.cmpi .sge v8 c1_i32_39
  let c0_i32_40 : BitVec 32 := 0#32
  let v76 : BitVec 32 := Scalar.addi v8 c0_i32_40
  let c3_i32_41 : BitVec 32 := 3#32
  let v77 : BitVec 1 := Scalar.cmpi .sle v76 c3_i32_41
  let v78 : BitVec 1 := Scalar.andi v75 v77
  let v79 : BitVec 32 := Scalar.extui v78
  let c0_i32_42 : BitVec 32 := 0#32
  let v80 : BitVec 1 := Scalar.cmpi .ne v79 c0_i32_42
  v80

def k0_off4 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1746 : BitVec 32 := 0#32
  let v2636 : BitVec 32 := Scalar.addi v8 c0_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c0_i32_1749 : BitVec 32 := 0#32
  let v2640 : BitVec 32 := Scalar.addi v2639 c0_i32_1749
  let c0_i32_1757 : BitVec 32 := 0#32
  ![v2640.toNat, 0]
def k0_dev6 (d0 : Dev nD) : Nat :=
  let c0_i32_1754 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1753 : BitVec 32 := 16#32
  let v2642 : BitVec 32 := Scalar.muli v2 c16_i32_1753
  let v2643 : BitVec 32 := Scalar.addi c0_i32_1754 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1755 : BitVec 32 := 4#32
  let v2644 : BitVec 32 := Scalar.muli v5 c4_i32_1755
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.subi v8 c1_i32_1750
  let c1_i32_1756 : BitVec 32 := 1#32
  let v2646 : BitVec 32 := Scalar.muli v2641 c1_i32_1756
  let v2647 : BitVec 32 := Scalar.addi v2645 v2646
  v2647.toNat
def k0_cond5 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_49 : BitVec 32 := 2#32
  let v94 : BitVec 1 := Scalar.cmpi .sle v8 c2_i32_49
  let c0_i32_50 : BitVec 32 := 0#32
  let v95 : BitVec 1 := Scalar.cmpi .sge v8 c0_i32_50
  let v96 : BitVec 1 := Scalar.andi v94 v95
  let v97 : BitVec 32 := Scalar.extui v96
  let c0_i32_51 : BitVec 32 := 0#32
  let v98 : BitVec 1 := Scalar.cmpi .ne v97 c0_i32_51
  v98

def k0_off5 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1746 : BitVec 32 := 0#32
  let v2636 : BitVec 32 := Scalar.subi v8 c0_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c128_i32_1749 : BitVec 32 := 128#32
  let v2640 : BitVec 32 := Scalar.addi v2639 c128_i32_1749
  let c0_i32_1757 : BitVec 32 := 0#32
  ![v2640.toNat, 0]
def k0_dev7 (d0 : Dev nD) : Nat :=
  let c0_i32_1754 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1753 : BitVec 32 := 16#32
  let v2642 : BitVec 32 := Scalar.muli v2 c16_i32_1753
  let v2643 : BitVec 32 := Scalar.addi c0_i32_1754 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1755 : BitVec 32 := 4#32
  let v2644 : BitVec 32 := Scalar.muli v5 c4_i32_1755
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.addi v8 c1_i32_1750
  let c1_i32_1756 : BitVec 32 := 1#32
  let v2646 : BitVec 32 := Scalar.muli v2641 c1_i32_1756
  let v2647 : BitVec 32 := Scalar.addi v2645 v2646
  v2647.toNat
def k0_cond6 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_52 : BitVec 32 := 1#32
  let v99 : BitVec 1 := Scalar.cmpi .sge v8 c1_i32_52
  let c0_i32_53 : BitVec 32 := 0#32
  let v100 : BitVec 32 := Scalar.addi v8 c0_i32_53
  let c3_i32_54 : BitVec 32 := 3#32
  let v101 : BitVec 1 := Scalar.cmpi .sle v100 c3_i32_54
  let v102 : BitVec 1 := Scalar.andi v99 v101
  let v103 : BitVec 32 := Scalar.extui v102
  let c0_i32_55 : BitVec 32 := 0#32
  let v104 : BitVec 1 := Scalar.cmpi .ne v103 c0_i32_55
  v104

def k0_off6 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1746 : BitVec 32 := 0#32
  let v2636 : BitVec 32 := Scalar.addi v8 c0_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c128_i32_1749 : BitVec 32 := 128#32
  let v2640 : BitVec 32 := Scalar.addi v2639 c128_i32_1749
  let c0_i32_1757 : BitVec 32 := 0#32
  ![v2640.toNat, 0]
def k0_dev8 (d0 : Dev nD) : Nat :=
  let c0_i32_1754 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1753 : BitVec 32 := 16#32
  let v2642 : BitVec 32 := Scalar.muli v2 c16_i32_1753
  let v2643 : BitVec 32 := Scalar.addi c0_i32_1754 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1755 : BitVec 32 := 4#32
  let v2644 : BitVec 32 := Scalar.muli v5 c4_i32_1755
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.subi v8 c1_i32_1750
  let c1_i32_1756 : BitVec 32 := 1#32
  let v2646 : BitVec 32 := Scalar.muli v2641 c1_i32_1756
  let v2647 : BitVec 32 := Scalar.addi v2645 v2646
  v2647.toNat
def k0_cond7 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_62 : BitVec 32 := 2#32
  let v118 : BitVec 1 := Scalar.cmpi .sle v8 c2_i32_62
  let c0_i32_63 : BitVec 32 := 0#32
  let v119 : BitVec 1 := Scalar.cmpi .sge v8 c0_i32_63
  let v120 : BitVec 1 := Scalar.andi v118 v119
  let v121 : BitVec 32 := Scalar.extui v120
  let c0_i32_64 : BitVec 32 := 0#32
  let v122 : BitVec 1 := Scalar.cmpi .ne v121 c0_i32_64
  v122

def k0_off7 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1746 : BitVec 32 := 0#32
  let v2636 : BitVec 32 := Scalar.subi v8 c0_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c256_i32_1749 : BitVec 32 := 256#32
  let v2640 : BitVec 32 := Scalar.addi v2639 c256_i32_1749
  let c0_i32_1757 : BitVec 32 := 0#32
  ![v2640.toNat, 0]
def k0_dev9 (d0 : Dev nD) : Nat :=
  let c0_i32_1754 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1753 : BitVec 32 := 16#32
  let v2642 : BitVec 32 := Scalar.muli v2 c16_i32_1753
  let v2643 : BitVec 32 := Scalar.addi c0_i32_1754 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1755 : BitVec 32 := 4#32
  let v2644 : BitVec 32 := Scalar.muli v5 c4_i32_1755
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.addi v8 c1_i32_1750
  let c1_i32_1756 : BitVec 32 := 1#32
  let v2646 : BitVec 32 := Scalar.muli v2641 c1_i32_1756
  let v2647 : BitVec 32 := Scalar.addi v2645 v2646
  v2647.toNat
def k0_cond8 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_65 : BitVec 32 := 1#32
  let v123 : BitVec 1 := Scalar.cmpi .sge v8 c1_i32_65
  let c0_i32_66 : BitVec 32 := 0#32
  let v124 : BitVec 32 := Scalar.addi v8 c0_i32_66
  let c3_i32_67 : BitVec 32 := 3#32
  let v125 : BitVec 1 := Scalar.cmpi .sle v124 c3_i32_67
  let v126 : BitVec 1 := Scalar.andi v123 v125
  let v127 : BitVec 32 := Scalar.extui v126
  let c0_i32_68 : BitVec 32 := 0#32
  let v128 : BitVec 1 := Scalar.cmpi .ne v127 c0_i32_68
  v128

def k0_off8 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1746 : BitVec 32 := 0#32
  let v2636 : BitVec 32 := Scalar.addi v8 c0_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c256_i32_1749 : BitVec 32 := 256#32
  let v2640 : BitVec 32 := Scalar.addi v2639 c256_i32_1749
  let c0_i32_1757 : BitVec 32 := 0#32
  ![v2640.toNat, 0]
def k0_dev10 (d0 : Dev nD) : Nat :=
  let c0_i32_1754 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1753 : BitVec 32 := 16#32
  let v2642 : BitVec 32 := Scalar.muli v2 c16_i32_1753
  let v2643 : BitVec 32 := Scalar.addi c0_i32_1754 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1755 : BitVec 32 := 4#32
  let v2644 : BitVec 32 := Scalar.muli v5 c4_i32_1755
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.subi v8 c1_i32_1750
  let c1_i32_1756 : BitVec 32 := 1#32
  let v2646 : BitVec 32 := Scalar.muli v2641 c1_i32_1756
  let v2647 : BitVec 32 := Scalar.addi v2645 v2646
  v2647.toNat
def k0_cond9 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_75 : BitVec 32 := 2#32
  let v142 : BitVec 1 := Scalar.cmpi .sle v8 c2_i32_75
  let c0_i32_76 : BitVec 32 := 0#32
  let v143 : BitVec 1 := Scalar.cmpi .sge v8 c0_i32_76
  let v144 : BitVec 1 := Scalar.andi v142 v143
  let v145 : BitVec 32 := Scalar.extui v144
  let c0_i32_77 : BitVec 32 := 0#32
  let v146 : BitVec 1 := Scalar.cmpi .ne v145 c0_i32_77
  v146

def k0_off9 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1746 : BitVec 32 := 0#32
  let v2636 : BitVec 32 := Scalar.subi v8 c0_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c384_i32_1749 : BitVec 32 := 384#32
  let v2640 : BitVec 32 := Scalar.addi v2639 c384_i32_1749
  let c0_i32_1757 : BitVec 32 := 0#32
  ![v2640.toNat, 0]
def k0_dev11 (d0 : Dev nD) : Nat :=
  let c0_i32_1754 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1753 : BitVec 32 := 16#32
  let v2642 : BitVec 32 := Scalar.muli v2 c16_i32_1753
  let v2643 : BitVec 32 := Scalar.addi c0_i32_1754 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1755 : BitVec 32 := 4#32
  let v2644 : BitVec 32 := Scalar.muli v5 c4_i32_1755
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.addi v8 c1_i32_1750
  let c1_i32_1756 : BitVec 32 := 1#32
  let v2646 : BitVec 32 := Scalar.muli v2641 c1_i32_1756
  let v2647 : BitVec 32 := Scalar.addi v2645 v2646
  v2647.toNat
def k0_cond10 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_78 : BitVec 32 := 1#32
  let v147 : BitVec 1 := Scalar.cmpi .sge v8 c1_i32_78
  let c0_i32_79 : BitVec 32 := 0#32
  let v148 : BitVec 32 := Scalar.addi v8 c0_i32_79
  let c3_i32_80 : BitVec 32 := 3#32
  let v149 : BitVec 1 := Scalar.cmpi .sle v148 c3_i32_80
  let v150 : BitVec 1 := Scalar.andi v147 v149
  let v151 : BitVec 32 := Scalar.extui v150
  let c0_i32_81 : BitVec 32 := 0#32
  let v152 : BitVec 1 := Scalar.cmpi .ne v151 c0_i32_81
  v152

def k0_off10 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1746 : BitVec 32 := 0#32
  let v2636 : BitVec 32 := Scalar.addi v8 c0_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c384_i32_1749 : BitVec 32 := 384#32
  let v2640 : BitVec 32 := Scalar.addi v2639 c384_i32_1749
  let c0_i32_1757 : BitVec 32 := 0#32
  ![v2640.toNat, 0]
def k0_dev12 (d0 : Dev nD) : Nat :=
  let c0_i32_1754 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1753 : BitVec 32 := 16#32
  let v2642 : BitVec 32 := Scalar.muli v2 c16_i32_1753
  let v2643 : BitVec 32 := Scalar.addi c0_i32_1754 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1755 : BitVec 32 := 4#32
  let v2644 : BitVec 32 := Scalar.muli v5 c4_i32_1755
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.subi v8 c1_i32_1750
  let c1_i32_1756 : BitVec 32 := 1#32
  let v2646 : BitVec 32 := Scalar.muli v2641 c1_i32_1756
  let v2647 : BitVec 32 := Scalar.addi v2645 v2646
  v2647.toNat
def k0_cond11 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_88 : BitVec 32 := 2#32
  let v166 : BitVec 1 := Scalar.cmpi .sle v8 c2_i32_88
  let c0_i32_89 : BitVec 32 := 0#32
  let v167 : BitVec 1 := Scalar.cmpi .sge v8 c0_i32_89
  let v168 : BitVec 1 := Scalar.andi v166 v167
  let v169 : BitVec 32 := Scalar.extui v168
  let c0_i32_90 : BitVec 32 := 0#32
  let v170 : BitVec 1 := Scalar.cmpi .ne v169 c0_i32_90
  v170

def k0_off11 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1746 : BitVec 32 := 0#32
  let v2636 : BitVec 32 := Scalar.subi v8 c0_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c512_i32_1749 : BitVec 32 := 512#32
  let v2640 : BitVec 32 := Scalar.addi v2639 c512_i32_1749
  let c0_i32_1757 : BitVec 32 := 0#32
  ![v2640.toNat, 0]
def k0_dev13 (d0 : Dev nD) : Nat :=
  let c0_i32_1754 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1753 : BitVec 32 := 16#32
  let v2642 : BitVec 32 := Scalar.muli v2 c16_i32_1753
  let v2643 : BitVec 32 := Scalar.addi c0_i32_1754 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1755 : BitVec 32 := 4#32
  let v2644 : BitVec 32 := Scalar.muli v5 c4_i32_1755
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.addi v8 c1_i32_1750
  let c1_i32_1756 : BitVec 32 := 1#32
  let v2646 : BitVec 32 := Scalar.muli v2641 c1_i32_1756
  let v2647 : BitVec 32 := Scalar.addi v2645 v2646
  v2647.toNat
def k0_cond12 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_91 : BitVec 32 := 1#32
  let v171 : BitVec 1 := Scalar.cmpi .sge v8 c1_i32_91
  let c0_i32_92 : BitVec 32 := 0#32
  let v172 : BitVec 32 := Scalar.addi v8 c0_i32_92
  let c3_i32_93 : BitVec 32 := 3#32
  let v173 : BitVec 1 := Scalar.cmpi .sle v172 c3_i32_93
  let v174 : BitVec 1 := Scalar.andi v171 v173
  let v175 : BitVec 32 := Scalar.extui v174
  let c0_i32_94 : BitVec 32 := 0#32
  let v176 : BitVec 1 := Scalar.cmpi .ne v175 c0_i32_94
  v176

def k0_off12 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1746 : BitVec 32 := 0#32
  let v2636 : BitVec 32 := Scalar.addi v8 c0_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c512_i32_1749 : BitVec 32 := 512#32
  let v2640 : BitVec 32 := Scalar.addi v2639 c512_i32_1749
  let c0_i32_1757 : BitVec 32 := 0#32
  ![v2640.toNat, 0]
def k0_dev14 (d0 : Dev nD) : Nat :=
  let c0_i32_1754 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1753 : BitVec 32 := 16#32
  let v2642 : BitVec 32 := Scalar.muli v2 c16_i32_1753
  let v2643 : BitVec 32 := Scalar.addi c0_i32_1754 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1755 : BitVec 32 := 4#32
  let v2644 : BitVec 32 := Scalar.muli v5 c4_i32_1755
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.subi v8 c1_i32_1750
  let c1_i32_1756 : BitVec 32 := 1#32
  let v2646 : BitVec 32 := Scalar.muli v2641 c1_i32_1756
  let v2647 : BitVec 32 := Scalar.addi v2645 v2646
  v2647.toNat
def k0_cond13 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_101 : BitVec 32 := 2#32
  let v190 : BitVec 1 := Scalar.cmpi .sle v8 c2_i32_101
  let c0_i32_102 : BitVec 32 := 0#32
  let v191 : BitVec 1 := Scalar.cmpi .sge v8 c0_i32_102
  let v192 : BitVec 1 := Scalar.andi v190 v191
  let v193 : BitVec 32 := Scalar.extui v192
  let c0_i32_103 : BitVec 32 := 0#32
  let v194 : BitVec 1 := Scalar.cmpi .ne v193 c0_i32_103
  v194

def k0_off13 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1746 : BitVec 32 := 0#32
  let v2636 : BitVec 32 := Scalar.subi v8 c0_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c640_i32_1749 : BitVec 32 := 640#32
  let v2640 : BitVec 32 := Scalar.addi v2639 c640_i32_1749
  let c0_i32_1756 : BitVec 32 := 0#32
  ![v2640.toNat, 0]
def k0_dev15 (d0 : Dev nD) : Nat :=
  let c0_i32_1753 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1752 : BitVec 32 := 16#32
  let v2642 : BitVec 32 := Scalar.muli v2 c16_i32_1752
  let v2643 : BitVec 32 := Scalar.addi c0_i32_1753 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1754 : BitVec 32 := 4#32
  let v2644 : BitVec 32 := Scalar.muli v5 c4_i32_1754
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.addi v8 c1_i32_1750
  let c1_i32_1755 : BitVec 32 := 1#32
  let v2646 : BitVec 32 := Scalar.muli v2641 c1_i32_1755
  let v2647 : BitVec 32 := Scalar.addi v2645 v2646
  v2647.toNat
def k0_cond14 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_104 : BitVec 32 := 1#32
  let v195 : BitVec 1 := Scalar.cmpi .sge v8 c1_i32_104
  let c0_i32_105 : BitVec 32 := 0#32
  let v196 : BitVec 32 := Scalar.addi v8 c0_i32_105
  let c3_i32_106 : BitVec 32 := 3#32
  let v197 : BitVec 1 := Scalar.cmpi .sle v196 c3_i32_106
  let v198 : BitVec 1 := Scalar.andi v195 v197
  let v199 : BitVec 32 := Scalar.extui v198
  let c0_i32_107 : BitVec 32 := 0#32
  let v200 : BitVec 1 := Scalar.cmpi .ne v199 c0_i32_107
  v200

def k0_off14 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1746 : BitVec 32 := 0#32
  let v2636 : BitVec 32 := Scalar.addi v8 c0_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c640_i32_1749 : BitVec 32 := 640#32
  let v2640 : BitVec 32 := Scalar.addi v2639 c640_i32_1749
  let c0_i32_1756 : BitVec 32 := 0#32
  ![v2640.toNat, 0]
def k0_dev16 (d0 : Dev nD) : Nat :=
  let c0_i32_1753 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1752 : BitVec 32 := 16#32
  let v2642 : BitVec 32 := Scalar.muli v2 c16_i32_1752
  let v2643 : BitVec 32 := Scalar.addi c0_i32_1753 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1754 : BitVec 32 := 4#32
  let v2644 : BitVec 32 := Scalar.muli v5 c4_i32_1754
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.subi v8 c1_i32_1750
  let c1_i32_1755 : BitVec 32 := 1#32
  let v2646 : BitVec 32 := Scalar.muli v2641 c1_i32_1755
  let v2647 : BitVec 32 := Scalar.addi v2645 v2646
  v2647.toNat
def k0_cond15 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_114 : BitVec 32 := 2#32
  let v214 : BitVec 1 := Scalar.cmpi .sle v8 c2_i32_114
  let c0_i32_115 : BitVec 32 := 0#32
  let v215 : BitVec 1 := Scalar.cmpi .sge v8 c0_i32_115
  let v216 : BitVec 1 := Scalar.andi v214 v215
  let v217 : BitVec 32 := Scalar.extui v216
  let c0_i32_116 : BitVec 32 := 0#32
  let v218 : BitVec 1 := Scalar.cmpi .ne v217 c0_i32_116
  v218

def k0_off15 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1746 : BitVec 32 := 0#32
  let v2636 : BitVec 32 := Scalar.subi v8 c0_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c768_i32_1749 : BitVec 32 := 768#32
  let v2640 : BitVec 32 := Scalar.addi v2639 c768_i32_1749
  let c0_i32_1756 : BitVec 32 := 0#32
  ![v2640.toNat, 0]
def k0_dev17 (d0 : Dev nD) : Nat :=
  let c0_i32_1753 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1752 : BitVec 32 := 16#32
  let v2642 : BitVec 32 := Scalar.muli v2 c16_i32_1752
  let v2643 : BitVec 32 := Scalar.addi c0_i32_1753 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1754 : BitVec 32 := 4#32
  let v2644 : BitVec 32 := Scalar.muli v5 c4_i32_1754
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.addi v8 c1_i32_1750
  let c1_i32_1755 : BitVec 32 := 1#32
  let v2646 : BitVec 32 := Scalar.muli v2641 c1_i32_1755
  let v2647 : BitVec 32 := Scalar.addi v2645 v2646
  v2647.toNat
def k0_cond16 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_117 : BitVec 32 := 1#32
  let v219 : BitVec 1 := Scalar.cmpi .sge v8 c1_i32_117
  let c0_i32_118 : BitVec 32 := 0#32
  let v220 : BitVec 32 := Scalar.addi v8 c0_i32_118
  let c3_i32_119 : BitVec 32 := 3#32
  let v221 : BitVec 1 := Scalar.cmpi .sle v220 c3_i32_119
  let v222 : BitVec 1 := Scalar.andi v219 v221
  let v223 : BitVec 32 := Scalar.extui v222
  let c0_i32_120 : BitVec 32 := 0#32
  let v224 : BitVec 1 := Scalar.cmpi .ne v223 c0_i32_120
  v224

def k0_off16 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1746 : BitVec 32 := 0#32
  let v2636 : BitVec 32 := Scalar.addi v8 c0_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c768_i32_1749 : BitVec 32 := 768#32
  let v2640 : BitVec 32 := Scalar.addi v2639 c768_i32_1749
  let c0_i32_1756 : BitVec 32 := 0#32
  ![v2640.toNat, 0]
def k0_dev18 (d0 : Dev nD) : Nat :=
  let c0_i32_1753 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1752 : BitVec 32 := 16#32
  let v2642 : BitVec 32 := Scalar.muli v2 c16_i32_1752
  let v2643 : BitVec 32 := Scalar.addi c0_i32_1753 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1754 : BitVec 32 := 4#32
  let v2644 : BitVec 32 := Scalar.muli v5 c4_i32_1754
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.subi v8 c1_i32_1750
  let c1_i32_1755 : BitVec 32 := 1#32
  let v2646 : BitVec 32 := Scalar.muli v2641 c1_i32_1755
  let v2647 : BitVec 32 := Scalar.addi v2645 v2646
  v2647.toNat
def k0_cond17 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_127 : BitVec 32 := 2#32
  let v238 : BitVec 1 := Scalar.cmpi .sle v8 c2_i32_127
  let c0_i32_128 : BitVec 32 := 0#32
  let v239 : BitVec 1 := Scalar.cmpi .sge v8 c0_i32_128
  let v240 : BitVec 1 := Scalar.andi v238 v239
  let v241 : BitVec 32 := Scalar.extui v240
  let c0_i32_129 : BitVec 32 := 0#32
  let v242 : BitVec 1 := Scalar.cmpi .ne v241 c0_i32_129
  v242

def k0_off17 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1746 : BitVec 32 := 0#32
  let v2636 : BitVec 32 := Scalar.subi v8 c0_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c896_i32_1749 : BitVec 32 := 896#32
  let v2640 : BitVec 32 := Scalar.addi v2639 c896_i32_1749
  let c0_i32_1756 : BitVec 32 := 0#32
  ![v2640.toNat, 0]
def k0_dev19 (d0 : Dev nD) : Nat :=
  let c0_i32_1753 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1752 : BitVec 32 := 16#32
  let v2642 : BitVec 32 := Scalar.muli v2 c16_i32_1752
  let v2643 : BitVec 32 := Scalar.addi c0_i32_1753 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1754 : BitVec 32 := 4#32
  let v2644 : BitVec 32 := Scalar.muli v5 c4_i32_1754
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.addi v8 c1_i32_1750
  let c1_i32_1755 : BitVec 32 := 1#32
  let v2646 : BitVec 32 := Scalar.muli v2641 c1_i32_1755
  let v2647 : BitVec 32 := Scalar.addi v2645 v2646
  v2647.toNat
def k0_cond18 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_130 : BitVec 32 := 1#32
  let v243 : BitVec 1 := Scalar.cmpi .sge v8 c1_i32_130
  let c0_i32_131 : BitVec 32 := 0#32
  let v244 : BitVec 32 := Scalar.addi v8 c0_i32_131
  let c3_i32_132 : BitVec 32 := 3#32
  let v245 : BitVec 1 := Scalar.cmpi .sle v244 c3_i32_132
  let v246 : BitVec 1 := Scalar.andi v243 v245
  let v247 : BitVec 32 := Scalar.extui v246
  let c0_i32_133 : BitVec 32 := 0#32
  let v248 : BitVec 1 := Scalar.cmpi .ne v247 c0_i32_133
  v248

def k0_off18 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1746 : BitVec 32 := 0#32
  let v2636 : BitVec 32 := Scalar.addi v8 c0_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c896_i32_1749 : BitVec 32 := 896#32
  let v2640 : BitVec 32 := Scalar.addi v2639 c896_i32_1749
  let c0_i32_1756 : BitVec 32 := 0#32
  ![v2640.toNat, 0]
def k0_dev20 (d0 : Dev nD) : Nat :=
  let c0_i32_1753 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1752 : BitVec 32 := 16#32
  let v2642 : BitVec 32 := Scalar.muli v2 c16_i32_1752
  let v2643 : BitVec 32 := Scalar.addi c0_i32_1753 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1754 : BitVec 32 := 4#32
  let v2644 : BitVec 32 := Scalar.muli v5 c4_i32_1754
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.subi v8 c1_i32_1750
  let c1_i32_1755 : BitVec 32 := 1#32
  let v2646 : BitVec 32 := Scalar.muli v2641 c1_i32_1755
  let v2647 : BitVec 32 := Scalar.addi v2645 v2646
  v2647.toNat
def k0_off19 (d0 : Dev nD) (c0_i32_135 : BitVec 32) : Fin 2 → Nat :=
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_134 : BitVec 32 := 1024#32
  let v249 : BitVec 32 := Scalar.muli v30 c1024_i32_134
  let v250 : BitVec 32 := Scalar.addi v249 c0_i32_135
  let v251 : Index := Scalar.indexCast v250
  let c0_136 : Index := 0#32
  ![v251.toNat, 0]
def k0_off20 (d0 : Dev nD) (c0_i32_139 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4096_i32_137 : BitVec 32 := 4096#32
  let v254 : BitVec 32 := Scalar.muli v8 c4096_i32_137
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_138 : BitVec 32 := 1024#32
  let v255 : BitVec 32 := Scalar.muli v30 c1024_i32_138
  let v256 : BitVec 32 := Scalar.addi v254 v255
  let v257 : BitVec 32 := Scalar.addi v256 c0_i32_139
  let v258 : Index := Scalar.indexCast v257
  let c0_140 : Index := 0#32
  ![v258.toNat, 0]
def k0_cond19 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_141 : BitVec 32 := 2#32
  let v262 : BitVec 1 := Scalar.cmpi .sle v8 c2_i32_141
  let c0_i32_142 : BitVec 32 := 0#32
  let v263 : BitVec 1 := Scalar.cmpi .sge v8 c0_i32_142
  let v264 : BitVec 1 := Scalar.andi v262 v263
  let v265 : BitVec 32 := Scalar.extui v264
  let c0_i32_143 : BitVec 32 := 0#32
  let v266 : BitVec 1 := Scalar.cmpi .ne v265 c0_i32_143
  v266

def k0_off21 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1746 : BitVec 32 := 0#32
  let v2636 : BitVec 32 := Scalar.subi v8 c0_i32_1746
  let c4096_i32_1747 : BitVec 32 := 4096#32
  let v2637 : BitVec 32 := Scalar.muli v2636 c4096_i32_1747
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1748 : BitVec 32 := 1024#32
  let v2638 : BitVec 32 := Scalar.muli v30 c1024_i32_1748
  let v2639 : BitVec 32 := Scalar.addi v2637 v2638
  let c0_i32_1749 : BitVec 32 := 0#32
  let v2640 : BitVec 32 := Scalar.addi v2639 c0_i32_1749
  let c0_i32_1757 : BitVec 32 := 0#32
  ![v2640.toNat, 0]
def k0_dev21 (d0 : Dev nD) : Nat :=
  let c0_i32_1754 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1753 : BitVec 32 := 16#32
  let v2642 : BitVec 32 := Scalar.muli v2 c16_i32_1753
  let v2643 : BitVec 32 := Scalar.addi c0_i32_1754 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1755 : BitVec 32 := 4#32
  let v2644 : BitVec 32 := Scalar.muli v5 c4_i32_1755
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.addi v8 c1_i32_1750
  let c1_i32_1756 : BitVec 32 := 1#32
  let v2646 : BitVec 32 := Scalar.muli v2641 c1_i32_1756
  let v2647 : BitVec 32 := Scalar.addi v2645 v2646
  v2647.toNat
def k0_cond20 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_144 : BitVec 32 := 1#32
  let v267 : BitVec 1 := Scalar.cmpi .sge v8 c1_i32_144
  let c0_i32_145 : BitVec 32 := 0#32
  let v268 : BitVec 32 := Scalar.addi v8 c0_i32_145
  let c3_i32_146 : BitVec 32 := 3#32
  let v269 : BitVec 1 := Scalar.cmpi .sle v268 c3_i32_146
  let v270 : BitVec 1 := Scalar.andi v267 v269
  let v271 : BitVec 32 := Scalar.extui v270
  let c0_i32_147 : BitVec 32 := 0#32
  let v272 : BitVec 1 := Scalar.cmpi .ne v271 c0_i32_147
  v272

def k0_off22 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1746 : BitVec 32 := 0#32
  let v2636 : BitVec 32 := Scalar.addi v8 c0_i32_1746
  let c4096_i32_1747 : BitVec 32 := 4096#32
  let v2637 : BitVec 32 := Scalar.muli v2636 c4096_i32_1747
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1748 : BitVec 32 := 1024#32
  let v2638 : BitVec 32 := Scalar.muli v30 c1024_i32_1748
  let v2639 : BitVec 32 := Scalar.addi v2637 v2638
  let c0_i32_1749 : BitVec 32 := 0#32
  let v2640 : BitVec 32 := Scalar.addi v2639 c0_i32_1749
  let c0_i32_1757 : BitVec 32 := 0#32
  ![v2640.toNat, 0]
def k0_dev22 (d0 : Dev nD) : Nat :=
  let c0_i32_1754 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1753 : BitVec 32 := 16#32
  let v2642 : BitVec 32 := Scalar.muli v2 c16_i32_1753
  let v2643 : BitVec 32 := Scalar.addi c0_i32_1754 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1755 : BitVec 32 := 4#32
  let v2644 : BitVec 32 := Scalar.muli v5 c4_i32_1755
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.subi v8 c1_i32_1750
  let c1_i32_1756 : BitVec 32 := 1#32
  let v2646 : BitVec 32 := Scalar.muli v2641 c1_i32_1756
  let v2647 : BitVec 32 := Scalar.addi v2645 v2646
  v2647.toNat
def k0_cond21 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_155 : BitVec 32 := 2#32
  let v286 : BitVec 1 := Scalar.cmpi .sle v8 c2_i32_155
  let c0_i32_156 : BitVec 32 := 0#32
  let v287 : BitVec 1 := Scalar.cmpi .sge v8 c0_i32_156
  let v288 : BitVec 1 := Scalar.andi v286 v287
  let v289 : BitVec 32 := Scalar.extui v288
  let c0_i32_157 : BitVec 32 := 0#32
  let v290 : BitVec 1 := Scalar.cmpi .ne v289 c0_i32_157
  v290

def k0_off23 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1746 : BitVec 32 := 0#32
  let v2636 : BitVec 32 := Scalar.subi v8 c0_i32_1746
  let c4096_i32_1747 : BitVec 32 := 4096#32
  let v2637 : BitVec 32 := Scalar.muli v2636 c4096_i32_1747
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1748 : BitVec 32 := 1024#32
  let v2638 : BitVec 32 := Scalar.muli v30 c1024_i32_1748
  let v2639 : BitVec 32 := Scalar.addi v2637 v2638
  let c128_i32_1749 : BitVec 32 := 128#32
  let v2640 : BitVec 32 := Scalar.addi v2639 c128_i32_1749
  let c0_i32_1757 : BitVec 32 := 0#32
  ![v2640.toNat, 0]
def k0_dev23 (d0 : Dev nD) : Nat :=
  let c0_i32_1754 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1753 : BitVec 32 := 16#32
  let v2642 : BitVec 32 := Scalar.muli v2 c16_i32_1753
  let v2643 : BitVec 32 := Scalar.addi c0_i32_1754 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1755 : BitVec 32 := 4#32
  let v2644 : BitVec 32 := Scalar.muli v5 c4_i32_1755
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.addi v8 c1_i32_1750
  let c1_i32_1756 : BitVec 32 := 1#32
  let v2646 : BitVec 32 := Scalar.muli v2641 c1_i32_1756
  let v2647 : BitVec 32 := Scalar.addi v2645 v2646
  v2647.toNat
def k0_cond22 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_158 : BitVec 32 := 1#32
  let v291 : BitVec 1 := Scalar.cmpi .sge v8 c1_i32_158
  let c0_i32_159 : BitVec 32 := 0#32
  let v292 : BitVec 32 := Scalar.addi v8 c0_i32_159
  let c3_i32_160 : BitVec 32 := 3#32
  let v293 : BitVec 1 := Scalar.cmpi .sle v292 c3_i32_160
  let v294 : BitVec 1 := Scalar.andi v291 v293
  let v295 : BitVec 32 := Scalar.extui v294
  let c0_i32_161 : BitVec 32 := 0#32
  let v296 : BitVec 1 := Scalar.cmpi .ne v295 c0_i32_161
  v296

def k0_off24 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1746 : BitVec 32 := 0#32
  let v2636 : BitVec 32 := Scalar.addi v8 c0_i32_1746
  let c4096_i32_1747 : BitVec 32 := 4096#32
  let v2637 : BitVec 32 := Scalar.muli v2636 c4096_i32_1747
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1748 : BitVec 32 := 1024#32
  let v2638 : BitVec 32 := Scalar.muli v30 c1024_i32_1748
  let v2639 : BitVec 32 := Scalar.addi v2637 v2638
  let c128_i32_1749 : BitVec 32 := 128#32
  let v2640 : BitVec 32 := Scalar.addi v2639 c128_i32_1749
  let c0_i32_1757 : BitVec 32 := 0#32
  ![v2640.toNat, 0]
def k0_dev24 (d0 : Dev nD) : Nat :=
  let c0_i32_1754 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1753 : BitVec 32 := 16#32
  let v2642 : BitVec 32 := Scalar.muli v2 c16_i32_1753
  let v2643 : BitVec 32 := Scalar.addi c0_i32_1754 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1755 : BitVec 32 := 4#32
  let v2644 : BitVec 32 := Scalar.muli v5 c4_i32_1755
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.subi v8 c1_i32_1750
  let c1_i32_1756 : BitVec 32 := 1#32
  let v2646 : BitVec 32 := Scalar.muli v2641 c1_i32_1756
  let v2647 : BitVec 32 := Scalar.addi v2645 v2646
  v2647.toNat
def k0_cond23 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_169 : BitVec 32 := 2#32
  let v310 : BitVec 1 := Scalar.cmpi .sle v8 c2_i32_169
  let c0_i32_170 : BitVec 32 := 0#32
  let v311 : BitVec 1 := Scalar.cmpi .sge v8 c0_i32_170
  let v312 : BitVec 1 := Scalar.andi v310 v311
  let v313 : BitVec 32 := Scalar.extui v312
  let c0_i32_171 : BitVec 32 := 0#32
  let v314 : BitVec 1 := Scalar.cmpi .ne v313 c0_i32_171
  v314

def k0_off25 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1746 : BitVec 32 := 0#32
  let v2636 : BitVec 32 := Scalar.subi v8 c0_i32_1746
  let c4096_i32_1747 : BitVec 32 := 4096#32
  let v2637 : BitVec 32 := Scalar.muli v2636 c4096_i32_1747
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1748 : BitVec 32 := 1024#32
  let v2638 : BitVec 32 := Scalar.muli v30 c1024_i32_1748
  let v2639 : BitVec 32 := Scalar.addi v2637 v2638
  let c256_i32_1749 : BitVec 32 := 256#32
  let v2640 : BitVec 32 := Scalar.addi v2639 c256_i32_1749
  let c0_i32_1757 : BitVec 32 := 0#32
  ![v2640.toNat, 0]
def k0_dev25 (d0 : Dev nD) : Nat :=
  let c0_i32_1754 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1753 : BitVec 32 := 16#32
  let v2642 : BitVec 32 := Scalar.muli v2 c16_i32_1753
  let v2643 : BitVec 32 := Scalar.addi c0_i32_1754 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1755 : BitVec 32 := 4#32
  let v2644 : BitVec 32 := Scalar.muli v5 c4_i32_1755
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.addi v8 c1_i32_1750
  let c1_i32_1756 : BitVec 32 := 1#32
  let v2646 : BitVec 32 := Scalar.muli v2641 c1_i32_1756
  let v2647 : BitVec 32 := Scalar.addi v2645 v2646
  v2647.toNat
def k0_cond24 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_172 : BitVec 32 := 1#32
  let v315 : BitVec 1 := Scalar.cmpi .sge v8 c1_i32_172
  let c0_i32_173 : BitVec 32 := 0#32
  let v316 : BitVec 32 := Scalar.addi v8 c0_i32_173
  let c3_i32_174 : BitVec 32 := 3#32
  let v317 : BitVec 1 := Scalar.cmpi .sle v316 c3_i32_174
  let v318 : BitVec 1 := Scalar.andi v315 v317
  let v319 : BitVec 32 := Scalar.extui v318
  let c0_i32_175 : BitVec 32 := 0#32
  let v320 : BitVec 1 := Scalar.cmpi .ne v319 c0_i32_175
  v320

def k0_off26 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1746 : BitVec 32 := 0#32
  let v2636 : BitVec 32 := Scalar.addi v8 c0_i32_1746
  let c4096_i32_1747 : BitVec 32 := 4096#32
  let v2637 : BitVec 32 := Scalar.muli v2636 c4096_i32_1747
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1748 : BitVec 32 := 1024#32
  let v2638 : BitVec 32 := Scalar.muli v30 c1024_i32_1748
  let v2639 : BitVec 32 := Scalar.addi v2637 v2638
  let c256_i32_1749 : BitVec 32 := 256#32
  let v2640 : BitVec 32 := Scalar.addi v2639 c256_i32_1749
  let c0_i32_1757 : BitVec 32 := 0#32
  ![v2640.toNat, 0]
def k0_dev26 (d0 : Dev nD) : Nat :=
  let c0_i32_1754 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1753 : BitVec 32 := 16#32
  let v2642 : BitVec 32 := Scalar.muli v2 c16_i32_1753
  let v2643 : BitVec 32 := Scalar.addi c0_i32_1754 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1755 : BitVec 32 := 4#32
  let v2644 : BitVec 32 := Scalar.muli v5 c4_i32_1755
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.subi v8 c1_i32_1750
  let c1_i32_1756 : BitVec 32 := 1#32
  let v2646 : BitVec 32 := Scalar.muli v2641 c1_i32_1756
  let v2647 : BitVec 32 := Scalar.addi v2645 v2646
  v2647.toNat
def k0_off27 (d0 : Dev nD) (c0_i32_176 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4096_i32_185 : BitVec 32 := 4096#32
  let v335 : BitVec 32 := Scalar.muli v8 c4096_i32_185
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v321 : BitVec 32 := Scalar.addi v23 c0_i32_176
  let c4_i32_177 : BitVec 32 := 4#32
  let c0_i32_178 : BitVec 32 := 0#32
  let v322 : BitVec 1 := Scalar.cmpi .eq c4_i32_177 c0_i32_178
  let c1_i32_179 : BitVec 32 := 1#32
  let v323 : BitVec 32 := Scalar.select v322 c1_i32_179 c4_i32_177
  let v324 : BitVec 32 := Scalar.remsi v321 v323
  let c0_i32_181 : BitVec 32 := 0#32
  let v326 : BitVec 1 := Scalar.cmpi .slt v324 c0_i32_181
  let c0_i32_182 : BitVec 32 := 0#32
  let v327 : BitVec 1 := Scalar.cmpi .slt v323 c0_i32_182
  let v328 : BitVec 1 := Scalar.xori v326 v327
  let c0_i32_180 : BitVec 32 := 0#32
  let v325 : BitVec 1 := Scalar.cmpi .ne v324 c0_i32_180
  let v329 : BitVec 1 := Scalar.andi v328 v325
  let v330 : BitVec 32 := Scalar.addi v324 v323
  let v331 : BitVec 32 := Scalar.select v329 v330 v324
  let c1024_i32_186 : BitVec 32 := 1024#32
  let v336 : BitVec 32 := Scalar.muli v331 c1024_i32_186
  let v337 : BitVec 32 := Scalar.addi v335 v336
  let c0_i32_188 : BitVec 32 := 0#32
  ![v337.toNat, 0]
def k0_cond25 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_190 : BitVec 32 := 1#32
  let v342 : BitVec 1 := Scalar.cmpi .sge v8 c1_i32_190
  let v343 : BitVec 32 := Scalar.extui v342
  let c0_i32_191 : BitVec 32 := 0#32
  let v344 : BitVec 1 := Scalar.cmpi .ne v343 c0_i32_191
  v344

def k0_off28 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c0_i32_1747 : BitVec 32 := 0#32
  let v2637 : BitVec 32 := Scalar.subi v2636 c0_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c0_i32_1750 : BitVec 32 := 0#32
  let v2641 : BitVec 32 := Scalar.addi v2640 c0_i32_1750
  let c0_i32_1757 : BitVec 32 := 0#32
  ![v2641.toNat, 0]
def k0_dev27 (d0 : Dev nD) : Nat :=
  let c0_i32_1767 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1766 : BitVec 32 := 16#32
  let v2658 : BitVec 32 := Scalar.muli v31 c16_i32_1766
  let v2659 : BitVec 32 := Scalar.addi c0_i32_1767 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1768 : BitVec 32 := 4#32
  let v2660 : BitVec 32 := Scalar.muli v5 c4_i32_1768
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1769 : BitVec 32 := 1#32
  let v2662 : BitVec 32 := Scalar.muli v8 c1_i32_1769
  let v2663 : BitVec 32 := Scalar.addi v2661 v2662
  v2663.toNat
def k0_dev28 (d0 : Dev nD) : Nat :=
  let c0_i32_1780 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1779 : BitVec 32 := 16#32
  let v2676 : BitVec 32 := Scalar.muli v2 c16_i32_1779
  let v2677 : BitVec 32 := Scalar.addi c0_i32_1780 v2676
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1781 : BitVec 32 := 4#32
  let v2678 : BitVec 32 := Scalar.muli v21 c4_i32_1781
  let v2679 : BitVec 32 := Scalar.addi v2677 v2678
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1782 : BitVec 32 := 1#32
  let v2680 : BitVec 32 := Scalar.muli v8 c1_i32_1782
  let v2681 : BitVec 32 := Scalar.addi v2679 v2680
  v2681.toNat
def k0_cond26 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_192 : BitVec 32 := 2#32
  let v345 : BitVec 1 := Scalar.cmpi .sle v8 c2_i32_192
  let c1_i32_193 : BitVec 32 := 1#32
  let v346 : BitVec 1 := Scalar.cmpi .sge v8 c1_i32_193
  let v347 : BitVec 1 := Scalar.andi v345 v346
  let v348 : BitVec 32 := Scalar.extui v347
  let c0_i32_194 : BitVec 32 := 0#32
  let v349 : BitVec 1 := Scalar.cmpi .ne v348 c0_i32_194
  v349

def k0_off29 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c0_i32_1749 : BitVec 32 := 0#32
  let v2640 : BitVec 32 := Scalar.addi v2639 c0_i32_1749
  let c0_i32_1756 : BitVec 32 := 0#32
  ![v2640.toNat, 0]
def k0_dev29 (d0 : Dev nD) : Nat :=
  let c0_i32_1753 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1752 : BitVec 32 := 16#32
  let v2642 : BitVec 32 := Scalar.muli v2 c16_i32_1752
  let v2643 : BitVec 32 := Scalar.addi c0_i32_1753 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1754 : BitVec 32 := 4#32
  let v2644 : BitVec 32 := Scalar.muli v5 c4_i32_1754
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.addi v8 c1_i32_1750
  let c1_i32_1755 : BitVec 32 := 1#32
  let v2646 : BitVec 32 := Scalar.muli v2641 c1_i32_1755
  let v2647 : BitVec 32 := Scalar.addi v2645 v2646
  v2647.toNat
def k0_cond27 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_195 : BitVec 32 := 1#32
  let v350 : BitVec 32 := Scalar.addi v8 c1_i32_195
  let c0_i32_196 : BitVec 32 := 0#32
  let v351 : BitVec 32 := Scalar.addi v350 c0_i32_196
  let c3_i32_197 : BitVec 32 := 3#32
  let v352 : BitVec 1 := Scalar.cmpi .sle v351 c3_i32_197
  let v353 : BitVec 32 := Scalar.extui v352
  let c0_i32_198 : BitVec 32 := 0#32
  let v354 : BitVec 1 := Scalar.cmpi .ne v353 c0_i32_198
  v354

def k0_off30 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c0_i32_1747 : BitVec 32 := 0#32
  let v2637 : BitVec 32 := Scalar.addi v2636 c0_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c0_i32_1750 : BitVec 32 := 0#32
  let v2641 : BitVec 32 := Scalar.addi v2640 c0_i32_1750
  let c0_i32_1757 : BitVec 32 := 0#32
  ![v2641.toNat, 0]
def k0_dev30 (d0 : Dev nD) : Nat :=
  let c0_i32_1767 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1766 : BitVec 32 := 16#32
  let v2658 : BitVec 32 := Scalar.muli v31 c16_i32_1766
  let v2659 : BitVec 32 := Scalar.addi c0_i32_1767 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1768 : BitVec 32 := 4#32
  let v2660 : BitVec 32 := Scalar.muli v5 c4_i32_1768
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1769 : BitVec 32 := 1#32
  let v2662 : BitVec 32 := Scalar.muli v8 c1_i32_1769
  let v2663 : BitVec 32 := Scalar.addi v2661 v2662
  v2663.toNat
def k0_dev31 (d0 : Dev nD) : Nat :=
  let c0_i32_1780 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1779 : BitVec 32 := 16#32
  let v2676 : BitVec 32 := Scalar.muli v2 c16_i32_1779
  let v2677 : BitVec 32 := Scalar.addi c0_i32_1780 v2676
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1781 : BitVec 32 := 4#32
  let v2678 : BitVec 32 := Scalar.muli v21 c4_i32_1781
  let v2679 : BitVec 32 := Scalar.addi v2677 v2678
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1782 : BitVec 32 := 1#32
  let v2680 : BitVec 32 := Scalar.muli v8 c1_i32_1782
  let v2681 : BitVec 32 := Scalar.addi v2679 v2680
  v2681.toNat
def k0_cond28 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_199 : BitVec 32 := 1#32
  let v355 : BitVec 1 := Scalar.cmpi .sge v8 c1_i32_199
  let c1_i32_200 : BitVec 32 := 1#32
  let v356 : BitVec 32 := Scalar.addi v8 c1_i32_200
  let c3_i32_201 : BitVec 32 := 3#32
  let v357 : BitVec 1 := Scalar.cmpi .sle v356 c3_i32_201
  let v358 : BitVec 1 := Scalar.andi v355 v357
  let v359 : BitVec 32 := Scalar.extui v358
  let c0_i32_202 : BitVec 32 := 0#32
  let v360 : BitVec 1 := Scalar.cmpi .ne v359 c0_i32_202
  v360

def k0_off31 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c0_i32_1749 : BitVec 32 := 0#32
  let v2640 : BitVec 32 := Scalar.addi v2639 c0_i32_1749
  let c0_i32_1756 : BitVec 32 := 0#32
  ![v2640.toNat, 0]
def k0_dev32 (d0 : Dev nD) : Nat :=
  let c0_i32_1753 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1752 : BitVec 32 := 16#32
  let v2642 : BitVec 32 := Scalar.muli v2 c16_i32_1752
  let v2643 : BitVec 32 := Scalar.addi c0_i32_1753 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1754 : BitVec 32 := 4#32
  let v2644 : BitVec 32 := Scalar.muli v5 c4_i32_1754
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.subi v8 c1_i32_1750
  let c1_i32_1755 : BitVec 32 := 1#32
  let v2646 : BitVec 32 := Scalar.muli v2641 c1_i32_1755
  let v2647 : BitVec 32 := Scalar.addi v2645 v2646
  v2647.toNat
def k0_cond29 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_203 : BitVec 32 := 1#32
  let v361 : BitVec 1 := Scalar.cmpi .sge v8 c1_i32_203
  let v362 : BitVec 32 := Scalar.extui v361
  let c0_i32_204 : BitVec 32 := 0#32
  let v363 : BitVec 1 := Scalar.cmpi .ne v362 c0_i32_204
  v363

def k0_off32 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c0_i32_1747 : BitVec 32 := 0#32
  let v2637 : BitVec 32 := Scalar.subi v2636 c0_i32_1747
  let c4096_i32_1748 : BitVec 32 := 4096#32
  let v2638 : BitVec 32 := Scalar.muli v2637 c4096_i32_1748
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1749 : BitVec 32 := 1024#32
  let v2639 : BitVec 32 := Scalar.muli v30 c1024_i32_1749
  let v2640 : BitVec 32 := Scalar.addi v2638 v2639
  let c0_i32_1750 : BitVec 32 := 0#32
  let v2641 : BitVec 32 := Scalar.addi v2640 c0_i32_1750
  let c0_i32_1757 : BitVec 32 := 0#32
  ![v2641.toNat, 0]
def k0_cond30 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_205 : BitVec 32 := 2#32
  let v364 : BitVec 1 := Scalar.cmpi .sle v8 c2_i32_205
  let c1_i32_206 : BitVec 32 := 1#32
  let v365 : BitVec 1 := Scalar.cmpi .sge v8 c1_i32_206
  let v366 : BitVec 1 := Scalar.andi v364 v365
  let v367 : BitVec 32 := Scalar.extui v366
  let c0_i32_207 : BitVec 32 := 0#32
  let v368 : BitVec 1 := Scalar.cmpi .ne v367 c0_i32_207
  v368

def k0_off33 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c4096_i32_1747 : BitVec 32 := 4096#32
  let v2637 : BitVec 32 := Scalar.muli v2636 c4096_i32_1747
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1748 : BitVec 32 := 1024#32
  let v2638 : BitVec 32 := Scalar.muli v30 c1024_i32_1748
  let v2639 : BitVec 32 := Scalar.addi v2637 v2638
  let c0_i32_1749 : BitVec 32 := 0#32
  let v2640 : BitVec 32 := Scalar.addi v2639 c0_i32_1749
  let c0_i32_1757 : BitVec 32 := 0#32
  ![v2640.toNat, 0]
def k0_dev33 (d0 : Dev nD) : Nat :=
  let c0_i32_1754 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1753 : BitVec 32 := 16#32
  let v2642 : BitVec 32 := Scalar.muli v2 c16_i32_1753
  let v2643 : BitVec 32 := Scalar.addi c0_i32_1754 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1755 : BitVec 32 := 4#32
  let v2644 : BitVec 32 := Scalar.muli v5 c4_i32_1755
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.addi v8 c1_i32_1750
  let c1_i32_1756 : BitVec 32 := 1#32
  let v2646 : BitVec 32 := Scalar.muli v2641 c1_i32_1756
  let v2647 : BitVec 32 := Scalar.addi v2645 v2646
  v2647.toNat
def k0_cond31 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_208 : BitVec 32 := 1#32
  let v369 : BitVec 32 := Scalar.addi v8 c1_i32_208
  let c0_i32_209 : BitVec 32 := 0#32
  let v370 : BitVec 32 := Scalar.addi v369 c0_i32_209
  let c3_i32_210 : BitVec 32 := 3#32
  let v371 : BitVec 1 := Scalar.cmpi .sle v370 c3_i32_210
  let v372 : BitVec 32 := Scalar.extui v371
  let c0_i32_211 : BitVec 32 := 0#32
  let v373 : BitVec 1 := Scalar.cmpi .ne v372 c0_i32_211
  v373

def k0_off34 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c0_i32_1747 : BitVec 32 := 0#32
  let v2637 : BitVec 32 := Scalar.addi v2636 c0_i32_1747
  let c4096_i32_1748 : BitVec 32 := 4096#32
  let v2638 : BitVec 32 := Scalar.muli v2637 c4096_i32_1748
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1749 : BitVec 32 := 1024#32
  let v2639 : BitVec 32 := Scalar.muli v30 c1024_i32_1749
  let v2640 : BitVec 32 := Scalar.addi v2638 v2639
  let c0_i32_1750 : BitVec 32 := 0#32
  let v2641 : BitVec 32 := Scalar.addi v2640 c0_i32_1750
  let c0_i32_1757 : BitVec 32 := 0#32
  ![v2641.toNat, 0]
def k0_cond32 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_212 : BitVec 32 := 1#32
  let v374 : BitVec 1 := Scalar.cmpi .sge v8 c1_i32_212
  let c1_i32_213 : BitVec 32 := 1#32
  let v375 : BitVec 32 := Scalar.addi v8 c1_i32_213
  let c3_i32_214 : BitVec 32 := 3#32
  let v376 : BitVec 1 := Scalar.cmpi .sle v375 c3_i32_214
  let v377 : BitVec 1 := Scalar.andi v374 v376
  let v378 : BitVec 32 := Scalar.extui v377
  let c0_i32_215 : BitVec 32 := 0#32
  let v379 : BitVec 1 := Scalar.cmpi .ne v378 c0_i32_215
  v379

def k0_off35 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c4096_i32_1747 : BitVec 32 := 4096#32
  let v2637 : BitVec 32 := Scalar.muli v2636 c4096_i32_1747
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1748 : BitVec 32 := 1024#32
  let v2638 : BitVec 32 := Scalar.muli v30 c1024_i32_1748
  let v2639 : BitVec 32 := Scalar.addi v2637 v2638
  let c0_i32_1749 : BitVec 32 := 0#32
  let v2640 : BitVec 32 := Scalar.addi v2639 c0_i32_1749
  let c0_i32_1757 : BitVec 32 := 0#32
  ![v2640.toNat, 0]
def k0_dev34 (d0 : Dev nD) : Nat :=
  let c0_i32_1754 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1753 : BitVec 32 := 16#32
  let v2642 : BitVec 32 := Scalar.muli v2 c16_i32_1753
  let v2643 : BitVec 32 := Scalar.addi c0_i32_1754 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1755 : BitVec 32 := 4#32
  let v2644 : BitVec 32 := Scalar.muli v5 c4_i32_1755
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.subi v8 c1_i32_1750
  let c1_i32_1756 : BitVec 32 := 1#32
  let v2646 : BitVec 32 := Scalar.muli v2641 c1_i32_1756
  let v2647 : BitVec 32 := Scalar.addi v2645 v2646
  v2647.toNat
def k0_cond33 (d0 : Dev nD) : BitVec 1 :=
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1_i32_216 : BitVec 32 := 1#32
  let v380 : BitVec 32 := Scalar.addi v23 c1_i32_216
  let c4_i32_217 : BitVec 32 := 4#32
  let c0_i32_218 : BitVec 32 := 0#32
  let v381 : BitVec 1 := Scalar.cmpi .eq c4_i32_217 c0_i32_218
  let c1_i32_219 : BitVec 32 := 1#32
  let v382 : BitVec 32 := Scalar.select v381 c1_i32_219 c4_i32_217
  let v383 : BitVec 32 := Scalar.remsi v380 v382
  let c0_i32_221 : BitVec 32 := 0#32
  let v385 : BitVec 1 := Scalar.cmpi .slt v383 c0_i32_221
  let c0_i32_222 : BitVec 32 := 0#32
  let v386 : BitVec 1 := Scalar.cmpi .slt v382 c0_i32_222
  let v387 : BitVec 1 := Scalar.xori v385 v386
  let c0_i32_220 : BitVec 32 := 0#32
  let v384 : BitVec 1 := Scalar.cmpi .ne v383 c0_i32_220
  let v388 : BitVec 1 := Scalar.andi v387 v384
  let v389 : BitVec 32 := Scalar.addi v383 v382
  let v390 : BitVec 32 := Scalar.select v388 v389 v383
  let c3_i32 : BitVec 32 := 3#32
  let v30 : BitVec 32 := Scalar.subi c3_i32 v23
  let v391 : BitVec 1 := Scalar.cmpi .ne v390 v30
  let v392 : BitVec 32 := Scalar.extui v391
  let c0_i32_223 : BitVec 32 := 0#32
  let v393 : BitVec 1 := Scalar.cmpi .ne v392 c0_i32_223
  v393

def k0_off36 (d0 : Dev nD) : Fin 2 → Nat :=
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1_i32_216 : BitVec 32 := 1#32
  let v380 : BitVec 32 := Scalar.addi v23 c1_i32_216
  let c4_i32_217 : BitVec 32 := 4#32
  let c0_i32_218 : BitVec 32 := 0#32
  let v381 : BitVec 1 := Scalar.cmpi .eq c4_i32_217 c0_i32_218
  let c1_i32_219 : BitVec 32 := 1#32
  let v382 : BitVec 32 := Scalar.select v381 c1_i32_219 c4_i32_217
  let v383 : BitVec 32 := Scalar.remsi v380 v382
  let c0_i32_221 : BitVec 32 := 0#32
  let v385 : BitVec 1 := Scalar.cmpi .slt v383 c0_i32_221
  let c0_i32_222 : BitVec 32 := 0#32
  let v386 : BitVec 1 := Scalar.cmpi .slt v382 c0_i32_222
  let v387 : BitVec 1 := Scalar.xori v385 v386
  let c0_i32_220 : BitVec 32 := 0#32
  let v384 : BitVec 1 := Scalar.cmpi .ne v383 c0_i32_220
  let v388 : BitVec 1 := Scalar.andi v387 v384
  let v389 : BitVec 32 := Scalar.addi v383 v382
  let v390 : BitVec 32 := Scalar.select v388 v389 v383
  let c1024_i32_1746 : BitVec 32 := 1024#32
  let v2636 : BitVec 32 := Scalar.muli v390 c1024_i32_1746
  let c0_i32_1747 : BitVec 32 := 0#32
  let v2637 : BitVec 32 := Scalar.addi v2636 c0_i32_1747
  let v2638 : Index := Scalar.indexCast v2637
  let c0_1748 : Index := 0#32
  ![v2638.toNat, 0]
def k0_off37 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4096_i32_1749 : BitVec 32 := 4096#32
  let v2641 : BitVec 32 := Scalar.muli v8 c4096_i32_1749
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1_i32_216 : BitVec 32 := 1#32
  let v380 : BitVec 32 := Scalar.addi v23 c1_i32_216
  let c4_i32_217 : BitVec 32 := 4#32
  let c0_i32_218 : BitVec 32 := 0#32
  let v381 : BitVec 1 := Scalar.cmpi .eq c4_i32_217 c0_i32_218
  let c1_i32_219 : BitVec 32 := 1#32
  let v382 : BitVec 32 := Scalar.select v381 c1_i32_219 c4_i32_217
  let v383 : BitVec 32 := Scalar.remsi v380 v382
  let c0_i32_221 : BitVec 32 := 0#32
  let v385 : BitVec 1 := Scalar.cmpi .slt v383 c0_i32_221
  let c0_i32_222 : BitVec 32 := 0#32
  let v386 : BitVec 1 := Scalar.cmpi .slt v382 c0_i32_222
  let v387 : BitVec 1 := Scalar.xori v385 v386
  let c0_i32_220 : BitVec 32 := 0#32
  let v384 : BitVec 1 := Scalar.cmpi .ne v383 c0_i32_220
  let v388 : BitVec 1 := Scalar.andi v387 v384
  let v389 : BitVec 32 := Scalar.addi v383 v382
  let v390 : BitVec 32 := Scalar.select v388 v389 v383
  let c1024_i32_1750 : BitVec 32 := 1024#32
  let v2642 : BitVec 32 := Scalar.muli v390 c1024_i32_1750
  let v2643 : BitVec 32 := Scalar.addi v2641 v2642
  let c0_i32_1751 : BitVec 32 := 0#32
  let v2644 : BitVec 32 := Scalar.addi v2643 c0_i32_1751
  let v2645 : Index := Scalar.indexCast v2644
  let c0_1752 : Index := 0#32
  ![v2645.toNat, 0]
def k0_cond34 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_224 : BitVec 32 := 1#32
  let v394 : BitVec 1 := Scalar.cmpi .sge v8 c1_i32_224
  let v395 : BitVec 32 := Scalar.extui v394
  let c0_i32_225 : BitVec 32 := 0#32
  let v396 : BitVec 1 := Scalar.cmpi .ne v395 c0_i32_225
  v396

def k0_off38 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c0_i32_1747 : BitVec 32 := 0#32
  let v2637 : BitVec 32 := Scalar.subi v2636 c0_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c128_i32_1750 : BitVec 32 := 128#32
  let v2641 : BitVec 32 := Scalar.addi v2640 c128_i32_1750
  let c0_i32_1757 : BitVec 32 := 0#32
  ![v2641.toNat, 0]
def k0_dev35 (d0 : Dev nD) : Nat :=
  let c0_i32_1767 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1766 : BitVec 32 := 16#32
  let v2658 : BitVec 32 := Scalar.muli v31 c16_i32_1766
  let v2659 : BitVec 32 := Scalar.addi c0_i32_1767 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1768 : BitVec 32 := 4#32
  let v2660 : BitVec 32 := Scalar.muli v5 c4_i32_1768
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1769 : BitVec 32 := 1#32
  let v2662 : BitVec 32 := Scalar.muli v8 c1_i32_1769
  let v2663 : BitVec 32 := Scalar.addi v2661 v2662
  v2663.toNat
def k0_dev36 (d0 : Dev nD) : Nat :=
  let c0_i32_1780 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1779 : BitVec 32 := 16#32
  let v2676 : BitVec 32 := Scalar.muli v2 c16_i32_1779
  let v2677 : BitVec 32 := Scalar.addi c0_i32_1780 v2676
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1781 : BitVec 32 := 4#32
  let v2678 : BitVec 32 := Scalar.muli v21 c4_i32_1781
  let v2679 : BitVec 32 := Scalar.addi v2677 v2678
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1782 : BitVec 32 := 1#32
  let v2680 : BitVec 32 := Scalar.muli v8 c1_i32_1782
  let v2681 : BitVec 32 := Scalar.addi v2679 v2680
  v2681.toNat
def k0_cond35 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_226 : BitVec 32 := 2#32
  let v397 : BitVec 1 := Scalar.cmpi .sle v8 c2_i32_226
  let c1_i32_227 : BitVec 32 := 1#32
  let v398 : BitVec 1 := Scalar.cmpi .sge v8 c1_i32_227
  let v399 : BitVec 1 := Scalar.andi v397 v398
  let v400 : BitVec 32 := Scalar.extui v399
  let c0_i32_228 : BitVec 32 := 0#32
  let v401 : BitVec 1 := Scalar.cmpi .ne v400 c0_i32_228
  v401

def k0_off39 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c128_i32_1749 : BitVec 32 := 128#32
  let v2640 : BitVec 32 := Scalar.addi v2639 c128_i32_1749
  let c0_i32_1756 : BitVec 32 := 0#32
  ![v2640.toNat, 0]
def k0_dev37 (d0 : Dev nD) : Nat :=
  let c0_i32_1753 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1752 : BitVec 32 := 16#32
  let v2642 : BitVec 32 := Scalar.muli v2 c16_i32_1752
  let v2643 : BitVec 32 := Scalar.addi c0_i32_1753 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1754 : BitVec 32 := 4#32
  let v2644 : BitVec 32 := Scalar.muli v5 c4_i32_1754
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.addi v8 c1_i32_1750
  let c1_i32_1755 : BitVec 32 := 1#32
  let v2646 : BitVec 32 := Scalar.muli v2641 c1_i32_1755
  let v2647 : BitVec 32 := Scalar.addi v2645 v2646
  v2647.toNat
def k0_cond36 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_229 : BitVec 32 := 1#32
  let v402 : BitVec 32 := Scalar.addi v8 c1_i32_229
  let c0_i32_230 : BitVec 32 := 0#32
  let v403 : BitVec 32 := Scalar.addi v402 c0_i32_230
  let c3_i32_231 : BitVec 32 := 3#32
  let v404 : BitVec 1 := Scalar.cmpi .sle v403 c3_i32_231
  let v405 : BitVec 32 := Scalar.extui v404
  let c0_i32_232 : BitVec 32 := 0#32
  let v406 : BitVec 1 := Scalar.cmpi .ne v405 c0_i32_232
  v406

def k0_off40 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c0_i32_1747 : BitVec 32 := 0#32
  let v2637 : BitVec 32 := Scalar.addi v2636 c0_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c128_i32_1750 : BitVec 32 := 128#32
  let v2641 : BitVec 32 := Scalar.addi v2640 c128_i32_1750
  let c0_i32_1757 : BitVec 32 := 0#32
  ![v2641.toNat, 0]
def k0_dev38 (d0 : Dev nD) : Nat :=
  let c0_i32_1767 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1766 : BitVec 32 := 16#32
  let v2658 : BitVec 32 := Scalar.muli v31 c16_i32_1766
  let v2659 : BitVec 32 := Scalar.addi c0_i32_1767 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1768 : BitVec 32 := 4#32
  let v2660 : BitVec 32 := Scalar.muli v5 c4_i32_1768
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1769 : BitVec 32 := 1#32
  let v2662 : BitVec 32 := Scalar.muli v8 c1_i32_1769
  let v2663 : BitVec 32 := Scalar.addi v2661 v2662
  v2663.toNat
def k0_dev39 (d0 : Dev nD) : Nat :=
  let c0_i32_1780 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1779 : BitVec 32 := 16#32
  let v2676 : BitVec 32 := Scalar.muli v2 c16_i32_1779
  let v2677 : BitVec 32 := Scalar.addi c0_i32_1780 v2676
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1781 : BitVec 32 := 4#32
  let v2678 : BitVec 32 := Scalar.muli v21 c4_i32_1781
  let v2679 : BitVec 32 := Scalar.addi v2677 v2678
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1782 : BitVec 32 := 1#32
  let v2680 : BitVec 32 := Scalar.muli v8 c1_i32_1782
  let v2681 : BitVec 32 := Scalar.addi v2679 v2680
  v2681.toNat
def k0_cond37 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_233 : BitVec 32 := 1#32
  let v407 : BitVec 1 := Scalar.cmpi .sge v8 c1_i32_233
  let c1_i32_234 : BitVec 32 := 1#32
  let v408 : BitVec 32 := Scalar.addi v8 c1_i32_234
  let c3_i32_235 : BitVec 32 := 3#32
  let v409 : BitVec 1 := Scalar.cmpi .sle v408 c3_i32_235
  let v410 : BitVec 1 := Scalar.andi v407 v409
  let v411 : BitVec 32 := Scalar.extui v410
  let c0_i32_236 : BitVec 32 := 0#32
  let v412 : BitVec 1 := Scalar.cmpi .ne v411 c0_i32_236
  v412

def k0_off41 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c128_i32_1749 : BitVec 32 := 128#32
  let v2640 : BitVec 32 := Scalar.addi v2639 c128_i32_1749
  let c0_i32_1756 : BitVec 32 := 0#32
  ![v2640.toNat, 0]
def k0_dev40 (d0 : Dev nD) : Nat :=
  let c0_i32_1753 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1752 : BitVec 32 := 16#32
  let v2642 : BitVec 32 := Scalar.muli v2 c16_i32_1752
  let v2643 : BitVec 32 := Scalar.addi c0_i32_1753 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1754 : BitVec 32 := 4#32
  let v2644 : BitVec 32 := Scalar.muli v5 c4_i32_1754
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.subi v8 c1_i32_1750
  let c1_i32_1755 : BitVec 32 := 1#32
  let v2646 : BitVec 32 := Scalar.muli v2641 c1_i32_1755
  let v2647 : BitVec 32 := Scalar.addi v2645 v2646
  v2647.toNat
def k0_cond38 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_237 : BitVec 32 := 1#32
  let v413 : BitVec 1 := Scalar.cmpi .sge v8 c1_i32_237
  let v414 : BitVec 32 := Scalar.extui v413
  let c0_i32_238 : BitVec 32 := 0#32
  let v415 : BitVec 1 := Scalar.cmpi .ne v414 c0_i32_238
  v415

def k0_off42 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c0_i32_1747 : BitVec 32 := 0#32
  let v2637 : BitVec 32 := Scalar.subi v2636 c0_i32_1747
  let c4096_i32_1748 : BitVec 32 := 4096#32
  let v2638 : BitVec 32 := Scalar.muli v2637 c4096_i32_1748
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1749 : BitVec 32 := 1024#32
  let v2639 : BitVec 32 := Scalar.muli v30 c1024_i32_1749
  let v2640 : BitVec 32 := Scalar.addi v2638 v2639
  let c128_i32_1750 : BitVec 32 := 128#32
  let v2641 : BitVec 32 := Scalar.addi v2640 c128_i32_1750
  let c0_i32_1757 : BitVec 32 := 0#32
  ![v2641.toNat, 0]
def k0_cond39 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_239 : BitVec 32 := 2#32
  let v416 : BitVec 1 := Scalar.cmpi .sle v8 c2_i32_239
  let c1_i32_240 : BitVec 32 := 1#32
  let v417 : BitVec 1 := Scalar.cmpi .sge v8 c1_i32_240
  let v418 : BitVec 1 := Scalar.andi v416 v417
  let v419 : BitVec 32 := Scalar.extui v418
  let c0_i32_241 : BitVec 32 := 0#32
  let v420 : BitVec 1 := Scalar.cmpi .ne v419 c0_i32_241
  v420

def k0_off43 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c4096_i32_1747 : BitVec 32 := 4096#32
  let v2637 : BitVec 32 := Scalar.muli v2636 c4096_i32_1747
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1748 : BitVec 32 := 1024#32
  let v2638 : BitVec 32 := Scalar.muli v30 c1024_i32_1748
  let v2639 : BitVec 32 := Scalar.addi v2637 v2638
  let c128_i32_1749 : BitVec 32 := 128#32
  let v2640 : BitVec 32 := Scalar.addi v2639 c128_i32_1749
  let c0_i32_1757 : BitVec 32 := 0#32
  ![v2640.toNat, 0]
def k0_dev41 (d0 : Dev nD) : Nat :=
  let c0_i32_1754 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1753 : BitVec 32 := 16#32
  let v2642 : BitVec 32 := Scalar.muli v2 c16_i32_1753
  let v2643 : BitVec 32 := Scalar.addi c0_i32_1754 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1755 : BitVec 32 := 4#32
  let v2644 : BitVec 32 := Scalar.muli v5 c4_i32_1755
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.addi v8 c1_i32_1750
  let c1_i32_1756 : BitVec 32 := 1#32
  let v2646 : BitVec 32 := Scalar.muli v2641 c1_i32_1756
  let v2647 : BitVec 32 := Scalar.addi v2645 v2646
  v2647.toNat
def k0_cond40 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_242 : BitVec 32 := 1#32
  let v421 : BitVec 32 := Scalar.addi v8 c1_i32_242
  let c0_i32_243 : BitVec 32 := 0#32
  let v422 : BitVec 32 := Scalar.addi v421 c0_i32_243
  let c3_i32_244 : BitVec 32 := 3#32
  let v423 : BitVec 1 := Scalar.cmpi .sle v422 c3_i32_244
  let v424 : BitVec 32 := Scalar.extui v423
  let c0_i32_245 : BitVec 32 := 0#32
  let v425 : BitVec 1 := Scalar.cmpi .ne v424 c0_i32_245
  v425

def k0_off44 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c0_i32_1747 : BitVec 32 := 0#32
  let v2637 : BitVec 32 := Scalar.addi v2636 c0_i32_1747
  let c4096_i32_1748 : BitVec 32 := 4096#32
  let v2638 : BitVec 32 := Scalar.muli v2637 c4096_i32_1748
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1749 : BitVec 32 := 1024#32
  let v2639 : BitVec 32 := Scalar.muli v30 c1024_i32_1749
  let v2640 : BitVec 32 := Scalar.addi v2638 v2639
  let c128_i32_1750 : BitVec 32 := 128#32
  let v2641 : BitVec 32 := Scalar.addi v2640 c128_i32_1750
  let c0_i32_1757 : BitVec 32 := 0#32
  ![v2641.toNat, 0]
def k0_cond41 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_246 : BitVec 32 := 1#32
  let v426 : BitVec 1 := Scalar.cmpi .sge v8 c1_i32_246
  let c1_i32_247 : BitVec 32 := 1#32
  let v427 : BitVec 32 := Scalar.addi v8 c1_i32_247
  let c3_i32_248 : BitVec 32 := 3#32
  let v428 : BitVec 1 := Scalar.cmpi .sle v427 c3_i32_248
  let v429 : BitVec 1 := Scalar.andi v426 v428
  let v430 : BitVec 32 := Scalar.extui v429
  let c0_i32_249 : BitVec 32 := 0#32
  let v431 : BitVec 1 := Scalar.cmpi .ne v430 c0_i32_249
  v431

def k0_off45 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c4096_i32_1747 : BitVec 32 := 4096#32
  let v2637 : BitVec 32 := Scalar.muli v2636 c4096_i32_1747
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1748 : BitVec 32 := 1024#32
  let v2638 : BitVec 32 := Scalar.muli v30 c1024_i32_1748
  let v2639 : BitVec 32 := Scalar.addi v2637 v2638
  let c128_i32_1749 : BitVec 32 := 128#32
  let v2640 : BitVec 32 := Scalar.addi v2639 c128_i32_1749
  let c0_i32_1757 : BitVec 32 := 0#32
  ![v2640.toNat, 0]
def k0_dev42 (d0 : Dev nD) : Nat :=
  let c0_i32_1754 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1753 : BitVec 32 := 16#32
  let v2642 : BitVec 32 := Scalar.muli v2 c16_i32_1753
  let v2643 : BitVec 32 := Scalar.addi c0_i32_1754 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1755 : BitVec 32 := 4#32
  let v2644 : BitVec 32 := Scalar.muli v5 c4_i32_1755
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.subi v8 c1_i32_1750
  let c1_i32_1756 : BitVec 32 := 1#32
  let v2646 : BitVec 32 := Scalar.muli v2641 c1_i32_1756
  let v2647 : BitVec 32 := Scalar.addi v2645 v2646
  v2647.toNat
def k0_cond42 (d0 : Dev nD) : BitVec 1 :=
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1_i32_250 : BitVec 32 := 1#32
  let v432 : BitVec 32 := Scalar.addi v23 c1_i32_250
  let c4_i32_251 : BitVec 32 := 4#32
  let c0_i32_252 : BitVec 32 := 0#32
  let v433 : BitVec 1 := Scalar.cmpi .eq c4_i32_251 c0_i32_252
  let c1_i32_253 : BitVec 32 := 1#32
  let v434 : BitVec 32 := Scalar.select v433 c1_i32_253 c4_i32_251
  let v435 : BitVec 32 := Scalar.remsi v432 v434
  let c0_i32_255 : BitVec 32 := 0#32
  let v437 : BitVec 1 := Scalar.cmpi .slt v435 c0_i32_255
  let c0_i32_256 : BitVec 32 := 0#32
  let v438 : BitVec 1 := Scalar.cmpi .slt v434 c0_i32_256
  let v439 : BitVec 1 := Scalar.xori v437 v438
  let c0_i32_254 : BitVec 32 := 0#32
  let v436 : BitVec 1 := Scalar.cmpi .ne v435 c0_i32_254
  let v440 : BitVec 1 := Scalar.andi v439 v436
  let v441 : BitVec 32 := Scalar.addi v435 v434
  let v442 : BitVec 32 := Scalar.select v440 v441 v435
  let c3_i32 : BitVec 32 := 3#32
  let v30 : BitVec 32 := Scalar.subi c3_i32 v23
  let v443 : BitVec 1 := Scalar.cmpi .ne v442 v30
  let v444 : BitVec 32 := Scalar.extui v443
  let c0_i32_257 : BitVec 32 := 0#32
  let v445 : BitVec 1 := Scalar.cmpi .ne v444 c0_i32_257
  v445

def k0_off46 (d0 : Dev nD) : Fin 2 → Nat :=
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1_i32_250 : BitVec 32 := 1#32
  let v432 : BitVec 32 := Scalar.addi v23 c1_i32_250
  let c4_i32_251 : BitVec 32 := 4#32
  let c0_i32_252 : BitVec 32 := 0#32
  let v433 : BitVec 1 := Scalar.cmpi .eq c4_i32_251 c0_i32_252
  let c1_i32_253 : BitVec 32 := 1#32
  let v434 : BitVec 32 := Scalar.select v433 c1_i32_253 c4_i32_251
  let v435 : BitVec 32 := Scalar.remsi v432 v434
  let c0_i32_255 : BitVec 32 := 0#32
  let v437 : BitVec 1 := Scalar.cmpi .slt v435 c0_i32_255
  let c0_i32_256 : BitVec 32 := 0#32
  let v438 : BitVec 1 := Scalar.cmpi .slt v434 c0_i32_256
  let v439 : BitVec 1 := Scalar.xori v437 v438
  let c0_i32_254 : BitVec 32 := 0#32
  let v436 : BitVec 1 := Scalar.cmpi .ne v435 c0_i32_254
  let v440 : BitVec 1 := Scalar.andi v439 v436
  let v441 : BitVec 32 := Scalar.addi v435 v434
  let v442 : BitVec 32 := Scalar.select v440 v441 v435
  let c1024_i32_1746 : BitVec 32 := 1024#32
  let v2636 : BitVec 32 := Scalar.muli v442 c1024_i32_1746
  let c128_i32_1747 : BitVec 32 := 128#32
  let v2637 : BitVec 32 := Scalar.addi v2636 c128_i32_1747
  let v2638 : Index := Scalar.indexCast v2637
  let c0_1748 : Index := 0#32
  ![v2638.toNat, 0]
def k0_off47 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4096_i32_1749 : BitVec 32 := 4096#32
  let v2641 : BitVec 32 := Scalar.muli v8 c4096_i32_1749
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1_i32_250 : BitVec 32 := 1#32
  let v432 : BitVec 32 := Scalar.addi v23 c1_i32_250
  let c4_i32_251 : BitVec 32 := 4#32
  let c0_i32_252 : BitVec 32 := 0#32
  let v433 : BitVec 1 := Scalar.cmpi .eq c4_i32_251 c0_i32_252
  let c1_i32_253 : BitVec 32 := 1#32
  let v434 : BitVec 32 := Scalar.select v433 c1_i32_253 c4_i32_251
  let v435 : BitVec 32 := Scalar.remsi v432 v434
  let c0_i32_255 : BitVec 32 := 0#32
  let v437 : BitVec 1 := Scalar.cmpi .slt v435 c0_i32_255
  let c0_i32_256 : BitVec 32 := 0#32
  let v438 : BitVec 1 := Scalar.cmpi .slt v434 c0_i32_256
  let v439 : BitVec 1 := Scalar.xori v437 v438
  let c0_i32_254 : BitVec 32 := 0#32
  let v436 : BitVec 1 := Scalar.cmpi .ne v435 c0_i32_254
  let v440 : BitVec 1 := Scalar.andi v439 v436
  let v441 : BitVec 32 := Scalar.addi v435 v434
  let v442 : BitVec 32 := Scalar.select v440 v441 v435
  let c1024_i32_1750 : BitVec 32 := 1024#32
  let v2642 : BitVec 32 := Scalar.muli v442 c1024_i32_1750
  let v2643 : BitVec 32 := Scalar.addi v2641 v2642
  let c128_i32_1751 : BitVec 32 := 128#32
  let v2644 : BitVec 32 := Scalar.addi v2643 c128_i32_1751
  let v2645 : Index := Scalar.indexCast v2644
  let c0_1752 : Index := 0#32
  ![v2645.toNat, 0]
def k0_cond43 (d0 : Dev nD) : BitVec 1 :=
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1_i32_258 : BitVec 32 := 1#32
  let v446 : BitVec 32 := Scalar.addi v23 c1_i32_258
  let c4_i32_259 : BitVec 32 := 4#32
  let c0_i32_260 : BitVec 32 := 0#32
  let v447 : BitVec 1 := Scalar.cmpi .eq c4_i32_259 c0_i32_260
  let c1_i32_261 : BitVec 32 := 1#32
  let v448 : BitVec 32 := Scalar.select v447 c1_i32_261 c4_i32_259
  let v449 : BitVec 32 := Scalar.remsi v446 v448
  let c0_i32_263 : BitVec 32 := 0#32
  let v451 : BitVec 1 := Scalar.cmpi .slt v449 c0_i32_263
  let c0_i32_264 : BitVec 32 := 0#32
  let v452 : BitVec 1 := Scalar.cmpi .slt v448 c0_i32_264
  let v453 : BitVec 1 := Scalar.xori v451 v452
  let c0_i32_262 : BitVec 32 := 0#32
  let v450 : BitVec 1 := Scalar.cmpi .ne v449 c0_i32_262
  let v454 : BitVec 1 := Scalar.andi v453 v450
  let v455 : BitVec 32 := Scalar.addi v449 v448
  let v456 : BitVec 32 := Scalar.select v454 v455 v449
  let c3_i32 : BitVec 32 := 3#32
  let v30 : BitVec 32 := Scalar.subi c3_i32 v23
  let v457 : BitVec 1 := Scalar.cmpi .ne v456 v30
  let v458 : BitVec 32 := Scalar.extui v457
  let c0_i32_265 : BitVec 32 := 0#32
  let v459 : BitVec 1 := Scalar.cmpi .ne v458 c0_i32_265
  v459

def k0_off48 (d0 : Dev nD) : Fin 2 → Nat :=
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1_i32_258 : BitVec 32 := 1#32
  let v446 : BitVec 32 := Scalar.addi v23 c1_i32_258
  let c4_i32_259 : BitVec 32 := 4#32
  let c0_i32_260 : BitVec 32 := 0#32
  let v447 : BitVec 1 := Scalar.cmpi .eq c4_i32_259 c0_i32_260
  let c1_i32_261 : BitVec 32 := 1#32
  let v448 : BitVec 32 := Scalar.select v447 c1_i32_261 c4_i32_259
  let v449 : BitVec 32 := Scalar.remsi v446 v448
  let c0_i32_263 : BitVec 32 := 0#32
  let v451 : BitVec 1 := Scalar.cmpi .slt v449 c0_i32_263
  let c0_i32_264 : BitVec 32 := 0#32
  let v452 : BitVec 1 := Scalar.cmpi .slt v448 c0_i32_264
  let v453 : BitVec 1 := Scalar.xori v451 v452
  let c0_i32_262 : BitVec 32 := 0#32
  let v450 : BitVec 1 := Scalar.cmpi .ne v449 c0_i32_262
  let v454 : BitVec 1 := Scalar.andi v453 v450
  let v455 : BitVec 32 := Scalar.addi v449 v448
  let v456 : BitVec 32 := Scalar.select v454 v455 v449
  let c1024_i32_1746 : BitVec 32 := 1024#32
  let v2636 : BitVec 32 := Scalar.muli v456 c1024_i32_1746
  let c256_i32_1747 : BitVec 32 := 256#32
  let v2637 : BitVec 32 := Scalar.addi v2636 c256_i32_1747
  let v2638 : Index := Scalar.indexCast v2637
  let c0_1748 : Index := 0#32
  ![v2638.toNat, 0]
def k0_off49 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4096_i32_1749 : BitVec 32 := 4096#32
  let v2641 : BitVec 32 := Scalar.muli v8 c4096_i32_1749
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1_i32_258 : BitVec 32 := 1#32
  let v446 : BitVec 32 := Scalar.addi v23 c1_i32_258
  let c4_i32_259 : BitVec 32 := 4#32
  let c0_i32_260 : BitVec 32 := 0#32
  let v447 : BitVec 1 := Scalar.cmpi .eq c4_i32_259 c0_i32_260
  let c1_i32_261 : BitVec 32 := 1#32
  let v448 : BitVec 32 := Scalar.select v447 c1_i32_261 c4_i32_259
  let v449 : BitVec 32 := Scalar.remsi v446 v448
  let c0_i32_263 : BitVec 32 := 0#32
  let v451 : BitVec 1 := Scalar.cmpi .slt v449 c0_i32_263
  let c0_i32_264 : BitVec 32 := 0#32
  let v452 : BitVec 1 := Scalar.cmpi .slt v448 c0_i32_264
  let v453 : BitVec 1 := Scalar.xori v451 v452
  let c0_i32_262 : BitVec 32 := 0#32
  let v450 : BitVec 1 := Scalar.cmpi .ne v449 c0_i32_262
  let v454 : BitVec 1 := Scalar.andi v453 v450
  let v455 : BitVec 32 := Scalar.addi v449 v448
  let v456 : BitVec 32 := Scalar.select v454 v455 v449
  let c1024_i32_1750 : BitVec 32 := 1024#32
  let v2642 : BitVec 32 := Scalar.muli v456 c1024_i32_1750
  let v2643 : BitVec 32 := Scalar.addi v2641 v2642
  let c256_i32_1751 : BitVec 32 := 256#32
  let v2644 : BitVec 32 := Scalar.addi v2643 c256_i32_1751
  let v2645 : Index := Scalar.indexCast v2644
  let c0_1752 : Index := 0#32
  ![v2645.toNat, 0]
def k0_cond44 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_266 : BitVec 32 := 1#32
  let v460 : BitVec 1 := Scalar.cmpi .sge v8 c1_i32_266
  let v461 : BitVec 32 := Scalar.extui v460
  let c0_i32_267 : BitVec 32 := 0#32
  let v462 : BitVec 1 := Scalar.cmpi .ne v461 c0_i32_267
  v462

def k0_off50 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c0_i32_1747 : BitVec 32 := 0#32
  let v2637 : BitVec 32 := Scalar.subi v2636 c0_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c256_i32_1750 : BitVec 32 := 256#32
  let v2641 : BitVec 32 := Scalar.addi v2640 c256_i32_1750
  let c0_i32_1757 : BitVec 32 := 0#32
  ![v2641.toNat, 0]
def k0_dev43 (d0 : Dev nD) : Nat :=
  let c0_i32_1767 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1766 : BitVec 32 := 16#32
  let v2658 : BitVec 32 := Scalar.muli v31 c16_i32_1766
  let v2659 : BitVec 32 := Scalar.addi c0_i32_1767 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1768 : BitVec 32 := 4#32
  let v2660 : BitVec 32 := Scalar.muli v5 c4_i32_1768
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1769 : BitVec 32 := 1#32
  let v2662 : BitVec 32 := Scalar.muli v8 c1_i32_1769
  let v2663 : BitVec 32 := Scalar.addi v2661 v2662
  v2663.toNat
def k0_dev44 (d0 : Dev nD) : Nat :=
  let c0_i32_1780 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1779 : BitVec 32 := 16#32
  let v2676 : BitVec 32 := Scalar.muli v2 c16_i32_1779
  let v2677 : BitVec 32 := Scalar.addi c0_i32_1780 v2676
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1781 : BitVec 32 := 4#32
  let v2678 : BitVec 32 := Scalar.muli v21 c4_i32_1781
  let v2679 : BitVec 32 := Scalar.addi v2677 v2678
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1782 : BitVec 32 := 1#32
  let v2680 : BitVec 32 := Scalar.muli v8 c1_i32_1782
  let v2681 : BitVec 32 := Scalar.addi v2679 v2680
  v2681.toNat
def k0_cond45 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_268 : BitVec 32 := 2#32
  let v463 : BitVec 1 := Scalar.cmpi .sle v8 c2_i32_268
  let c1_i32_269 : BitVec 32 := 1#32
  let v464 : BitVec 1 := Scalar.cmpi .sge v8 c1_i32_269
  let v465 : BitVec 1 := Scalar.andi v463 v464
  let v466 : BitVec 32 := Scalar.extui v465
  let c0_i32_270 : BitVec 32 := 0#32
  let v467 : BitVec 1 := Scalar.cmpi .ne v466 c0_i32_270
  v467

def k0_off51 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c256_i32_1749 : BitVec 32 := 256#32
  let v2640 : BitVec 32 := Scalar.addi v2639 c256_i32_1749
  let c0_i32_1756 : BitVec 32 := 0#32
  ![v2640.toNat, 0]
def k0_dev45 (d0 : Dev nD) : Nat :=
  let c0_i32_1753 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1752 : BitVec 32 := 16#32
  let v2642 : BitVec 32 := Scalar.muli v2 c16_i32_1752
  let v2643 : BitVec 32 := Scalar.addi c0_i32_1753 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1754 : BitVec 32 := 4#32
  let v2644 : BitVec 32 := Scalar.muli v5 c4_i32_1754
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.addi v8 c1_i32_1750
  let c1_i32_1755 : BitVec 32 := 1#32
  let v2646 : BitVec 32 := Scalar.muli v2641 c1_i32_1755
  let v2647 : BitVec 32 := Scalar.addi v2645 v2646
  v2647.toNat
def k0_cond46 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_271 : BitVec 32 := 1#32
  let v468 : BitVec 32 := Scalar.addi v8 c1_i32_271
  let c0_i32_272 : BitVec 32 := 0#32
  let v469 : BitVec 32 := Scalar.addi v468 c0_i32_272
  let c3_i32_273 : BitVec 32 := 3#32
  let v470 : BitVec 1 := Scalar.cmpi .sle v469 c3_i32_273
  let v471 : BitVec 32 := Scalar.extui v470
  let c0_i32_274 : BitVec 32 := 0#32
  let v472 : BitVec 1 := Scalar.cmpi .ne v471 c0_i32_274
  v472

def k0_off52 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c0_i32_1747 : BitVec 32 := 0#32
  let v2637 : BitVec 32 := Scalar.addi v2636 c0_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c256_i32_1750 : BitVec 32 := 256#32
  let v2641 : BitVec 32 := Scalar.addi v2640 c256_i32_1750
  let c0_i32_1757 : BitVec 32 := 0#32
  ![v2641.toNat, 0]
def k0_dev46 (d0 : Dev nD) : Nat :=
  let c0_i32_1767 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1766 : BitVec 32 := 16#32
  let v2658 : BitVec 32 := Scalar.muli v31 c16_i32_1766
  let v2659 : BitVec 32 := Scalar.addi c0_i32_1767 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1768 : BitVec 32 := 4#32
  let v2660 : BitVec 32 := Scalar.muli v5 c4_i32_1768
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1769 : BitVec 32 := 1#32
  let v2662 : BitVec 32 := Scalar.muli v8 c1_i32_1769
  let v2663 : BitVec 32 := Scalar.addi v2661 v2662
  v2663.toNat
def k0_dev47 (d0 : Dev nD) : Nat :=
  let c0_i32_1780 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1779 : BitVec 32 := 16#32
  let v2676 : BitVec 32 := Scalar.muli v2 c16_i32_1779
  let v2677 : BitVec 32 := Scalar.addi c0_i32_1780 v2676
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1781 : BitVec 32 := 4#32
  let v2678 : BitVec 32 := Scalar.muli v21 c4_i32_1781
  let v2679 : BitVec 32 := Scalar.addi v2677 v2678
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1782 : BitVec 32 := 1#32
  let v2680 : BitVec 32 := Scalar.muli v8 c1_i32_1782
  let v2681 : BitVec 32 := Scalar.addi v2679 v2680
  v2681.toNat
def k0_cond47 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_275 : BitVec 32 := 1#32
  let v473 : BitVec 1 := Scalar.cmpi .sge v8 c1_i32_275
  let c1_i32_276 : BitVec 32 := 1#32
  let v474 : BitVec 32 := Scalar.addi v8 c1_i32_276
  let c3_i32_277 : BitVec 32 := 3#32
  let v475 : BitVec 1 := Scalar.cmpi .sle v474 c3_i32_277
  let v476 : BitVec 1 := Scalar.andi v473 v475
  let v477 : BitVec 32 := Scalar.extui v476
  let c0_i32_278 : BitVec 32 := 0#32
  let v478 : BitVec 1 := Scalar.cmpi .ne v477 c0_i32_278
  v478

def k0_off53 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c256_i32_1749 : BitVec 32 := 256#32
  let v2640 : BitVec 32 := Scalar.addi v2639 c256_i32_1749
  let c0_i32_1756 : BitVec 32 := 0#32
  ![v2640.toNat, 0]
def k0_dev48 (d0 : Dev nD) : Nat :=
  let c0_i32_1753 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1752 : BitVec 32 := 16#32
  let v2642 : BitVec 32 := Scalar.muli v2 c16_i32_1752
  let v2643 : BitVec 32 := Scalar.addi c0_i32_1753 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1754 : BitVec 32 := 4#32
  let v2644 : BitVec 32 := Scalar.muli v5 c4_i32_1754
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.subi v8 c1_i32_1750
  let c1_i32_1755 : BitVec 32 := 1#32
  let v2646 : BitVec 32 := Scalar.muli v2641 c1_i32_1755
  let v2647 : BitVec 32 := Scalar.addi v2645 v2646
  v2647.toNat
def k0_cond48 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_279 : BitVec 32 := 1#32
  let v479 : BitVec 1 := Scalar.cmpi .sge v8 c1_i32_279
  let v480 : BitVec 32 := Scalar.extui v479
  let c0_i32_280 : BitVec 32 := 0#32
  let v481 : BitVec 1 := Scalar.cmpi .ne v480 c0_i32_280
  v481

def k0_off54 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c0_i32_1747 : BitVec 32 := 0#32
  let v2637 : BitVec 32 := Scalar.subi v2636 c0_i32_1747
  let c4096_i32_1748 : BitVec 32 := 4096#32
  let v2638 : BitVec 32 := Scalar.muli v2637 c4096_i32_1748
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1749 : BitVec 32 := 1024#32
  let v2639 : BitVec 32 := Scalar.muli v30 c1024_i32_1749
  let v2640 : BitVec 32 := Scalar.addi v2638 v2639
  let c256_i32_1750 : BitVec 32 := 256#32
  let v2641 : BitVec 32 := Scalar.addi v2640 c256_i32_1750
  let c0_i32_1757 : BitVec 32 := 0#32
  ![v2641.toNat, 0]
def k0_cond49 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_281 : BitVec 32 := 2#32
  let v482 : BitVec 1 := Scalar.cmpi .sle v8 c2_i32_281
  let c1_i32_282 : BitVec 32 := 1#32
  let v483 : BitVec 1 := Scalar.cmpi .sge v8 c1_i32_282
  let v484 : BitVec 1 := Scalar.andi v482 v483
  let v485 : BitVec 32 := Scalar.extui v484
  let c0_i32_283 : BitVec 32 := 0#32
  let v486 : BitVec 1 := Scalar.cmpi .ne v485 c0_i32_283
  v486

def k0_off55 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c4096_i32_1747 : BitVec 32 := 4096#32
  let v2637 : BitVec 32 := Scalar.muli v2636 c4096_i32_1747
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1748 : BitVec 32 := 1024#32
  let v2638 : BitVec 32 := Scalar.muli v30 c1024_i32_1748
  let v2639 : BitVec 32 := Scalar.addi v2637 v2638
  let c256_i32_1749 : BitVec 32 := 256#32
  let v2640 : BitVec 32 := Scalar.addi v2639 c256_i32_1749
  let c0_i32_1756 : BitVec 32 := 0#32
  ![v2640.toNat, 0]
def k0_dev49 (d0 : Dev nD) : Nat :=
  let c0_i32_1753 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1752 : BitVec 32 := 16#32
  let v2642 : BitVec 32 := Scalar.muli v2 c16_i32_1752
  let v2643 : BitVec 32 := Scalar.addi c0_i32_1753 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1754 : BitVec 32 := 4#32
  let v2644 : BitVec 32 := Scalar.muli v5 c4_i32_1754
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.addi v8 c1_i32_1750
  let c1_i32_1755 : BitVec 32 := 1#32
  let v2646 : BitVec 32 := Scalar.muli v2641 c1_i32_1755
  let v2647 : BitVec 32 := Scalar.addi v2645 v2646
  v2647.toNat
def k0_cond50 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_284 : BitVec 32 := 1#32
  let v487 : BitVec 32 := Scalar.addi v8 c1_i32_284
  let c0_i32_285 : BitVec 32 := 0#32
  let v488 : BitVec 32 := Scalar.addi v487 c0_i32_285
  let c3_i32_286 : BitVec 32 := 3#32
  let v489 : BitVec 1 := Scalar.cmpi .sle v488 c3_i32_286
  let v490 : BitVec 32 := Scalar.extui v489
  let c0_i32_287 : BitVec 32 := 0#32
  let v491 : BitVec 1 := Scalar.cmpi .ne v490 c0_i32_287
  v491

def k0_off56 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c0_i32_1747 : BitVec 32 := 0#32
  let v2637 : BitVec 32 := Scalar.addi v2636 c0_i32_1747
  let c4096_i32_1748 : BitVec 32 := 4096#32
  let v2638 : BitVec 32 := Scalar.muli v2637 c4096_i32_1748
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1749 : BitVec 32 := 1024#32
  let v2639 : BitVec 32 := Scalar.muli v30 c1024_i32_1749
  let v2640 : BitVec 32 := Scalar.addi v2638 v2639
  let c256_i32_1750 : BitVec 32 := 256#32
  let v2641 : BitVec 32 := Scalar.addi v2640 c256_i32_1750
  let c0_i32_1757 : BitVec 32 := 0#32
  ![v2641.toNat, 0]
def k0_cond51 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_288 : BitVec 32 := 1#32
  let v492 : BitVec 1 := Scalar.cmpi .sge v8 c1_i32_288
  let c1_i32_289 : BitVec 32 := 1#32
  let v493 : BitVec 32 := Scalar.addi v8 c1_i32_289
  let c3_i32_290 : BitVec 32 := 3#32
  let v494 : BitVec 1 := Scalar.cmpi .sle v493 c3_i32_290
  let v495 : BitVec 1 := Scalar.andi v492 v494
  let v496 : BitVec 32 := Scalar.extui v495
  let c0_i32_291 : BitVec 32 := 0#32
  let v497 : BitVec 1 := Scalar.cmpi .ne v496 c0_i32_291
  v497

def k0_off57 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c4096_i32_1747 : BitVec 32 := 4096#32
  let v2637 : BitVec 32 := Scalar.muli v2636 c4096_i32_1747
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1748 : BitVec 32 := 1024#32
  let v2638 : BitVec 32 := Scalar.muli v30 c1024_i32_1748
  let v2639 : BitVec 32 := Scalar.addi v2637 v2638
  let c256_i32_1749 : BitVec 32 := 256#32
  let v2640 : BitVec 32 := Scalar.addi v2639 c256_i32_1749
  let c0_i32_1756 : BitVec 32 := 0#32
  ![v2640.toNat, 0]
def k0_dev50 (d0 : Dev nD) : Nat :=
  let c0_i32_1753 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1752 : BitVec 32 := 16#32
  let v2642 : BitVec 32 := Scalar.muli v2 c16_i32_1752
  let v2643 : BitVec 32 := Scalar.addi c0_i32_1753 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1754 : BitVec 32 := 4#32
  let v2644 : BitVec 32 := Scalar.muli v5 c4_i32_1754
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.subi v8 c1_i32_1750
  let c1_i32_1755 : BitVec 32 := 1#32
  let v2646 : BitVec 32 := Scalar.muli v2641 c1_i32_1755
  let v2647 : BitVec 32 := Scalar.addi v2645 v2646
  v2647.toNat
def k0_off58 (d0 : Dev nD) (c1_i32_292 : BitVec 32) (c384_i32_300 : BitVec 32) : Fin 2 → Nat :=
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v498 : BitVec 32 := Scalar.addi v23 c1_i32_292
  let c4_i32_293 : BitVec 32 := 4#32
  let c0_i32_294 : BitVec 32 := 0#32
  let v499 : BitVec 1 := Scalar.cmpi .eq c4_i32_293 c0_i32_294
  let c1_i32_295 : BitVec 32 := 1#32
  let v500 : BitVec 32 := Scalar.select v499 c1_i32_295 c4_i32_293
  let v501 : BitVec 32 := Scalar.remsi v498 v500
  let c0_i32_297 : BitVec 32 := 0#32
  let v503 : BitVec 1 := Scalar.cmpi .slt v501 c0_i32_297
  let c0_i32_298 : BitVec 32 := 0#32
  let v504 : BitVec 1 := Scalar.cmpi .slt v500 c0_i32_298
  let v505 : BitVec 1 := Scalar.xori v503 v504
  let c0_i32_296 : BitVec 32 := 0#32
  let v502 : BitVec 1 := Scalar.cmpi .ne v501 c0_i32_296
  let v506 : BitVec 1 := Scalar.andi v505 v502
  let v507 : BitVec 32 := Scalar.addi v501 v500
  let v508 : BitVec 32 := Scalar.select v506 v507 v501
  let c1024_i32_299 : BitVec 32 := 1024#32
  let v509 : BitVec 32 := Scalar.muli v508 c1024_i32_299
  let v510 : BitVec 32 := Scalar.addi v509 c384_i32_300
  let v511 : Index := Scalar.indexCast v510
  let c0_301 : Index := 0#32
  ![v511.toNat, 0]
def k0_off59 (d0 : Dev nD) (c1_i32_292 : BitVec 32) (c384_i32_304 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4096_i32_302 : BitVec 32 := 4096#32
  let v514 : BitVec 32 := Scalar.muli v8 c4096_i32_302
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v498 : BitVec 32 := Scalar.addi v23 c1_i32_292
  let c4_i32_293 : BitVec 32 := 4#32
  let c0_i32_294 : BitVec 32 := 0#32
  let v499 : BitVec 1 := Scalar.cmpi .eq c4_i32_293 c0_i32_294
  let c1_i32_295 : BitVec 32 := 1#32
  let v500 : BitVec 32 := Scalar.select v499 c1_i32_295 c4_i32_293
  let v501 : BitVec 32 := Scalar.remsi v498 v500
  let c0_i32_297 : BitVec 32 := 0#32
  let v503 : BitVec 1 := Scalar.cmpi .slt v501 c0_i32_297
  let c0_i32_298 : BitVec 32 := 0#32
  let v504 : BitVec 1 := Scalar.cmpi .slt v500 c0_i32_298
  let v505 : BitVec 1 := Scalar.xori v503 v504
  let c0_i32_296 : BitVec 32 := 0#32
  let v502 : BitVec 1 := Scalar.cmpi .ne v501 c0_i32_296
  let v506 : BitVec 1 := Scalar.andi v505 v502
  let v507 : BitVec 32 := Scalar.addi v501 v500
  let v508 : BitVec 32 := Scalar.select v506 v507 v501
  let c1024_i32_303 : BitVec 32 := 1024#32
  let v515 : BitVec 32 := Scalar.muli v508 c1024_i32_303
  let v516 : BitVec 32 := Scalar.addi v514 v515
  let v517 : BitVec 32 := Scalar.addi v516 c384_i32_304
  let v518 : Index := Scalar.indexCast v517
  let c0_305 : Index := 0#32
  ![v518.toNat, 0]
def k0_cond52 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_306 : BitVec 32 := 1#32
  let v522 : BitVec 1 := Scalar.cmpi .sge v8 c1_i32_306
  let v523 : BitVec 32 := Scalar.extui v522
  let c0_i32_307 : BitVec 32 := 0#32
  let v524 : BitVec 1 := Scalar.cmpi .ne v523 c0_i32_307
  v524

def k0_off60 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c0_i32_1747 : BitVec 32 := 0#32
  let v2637 : BitVec 32 := Scalar.subi v2636 c0_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c384_i32_1750 : BitVec 32 := 384#32
  let v2641 : BitVec 32 := Scalar.addi v2640 c384_i32_1750
  let c0_i32_1757 : BitVec 32 := 0#32
  ![v2641.toNat, 0]
def k0_dev51 (d0 : Dev nD) : Nat :=
  let c0_i32_1767 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1766 : BitVec 32 := 16#32
  let v2658 : BitVec 32 := Scalar.muli v31 c16_i32_1766
  let v2659 : BitVec 32 := Scalar.addi c0_i32_1767 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1768 : BitVec 32 := 4#32
  let v2660 : BitVec 32 := Scalar.muli v5 c4_i32_1768
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1769 : BitVec 32 := 1#32
  let v2662 : BitVec 32 := Scalar.muli v8 c1_i32_1769
  let v2663 : BitVec 32 := Scalar.addi v2661 v2662
  v2663.toNat
def k0_dev52 (d0 : Dev nD) : Nat :=
  let c0_i32_1780 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1779 : BitVec 32 := 16#32
  let v2676 : BitVec 32 := Scalar.muli v2 c16_i32_1779
  let v2677 : BitVec 32 := Scalar.addi c0_i32_1780 v2676
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1781 : BitVec 32 := 4#32
  let v2678 : BitVec 32 := Scalar.muli v21 c4_i32_1781
  let v2679 : BitVec 32 := Scalar.addi v2677 v2678
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1782 : BitVec 32 := 1#32
  let v2680 : BitVec 32 := Scalar.muli v8 c1_i32_1782
  let v2681 : BitVec 32 := Scalar.addi v2679 v2680
  v2681.toNat
def k0_cond53 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_308 : BitVec 32 := 2#32
  let v525 : BitVec 1 := Scalar.cmpi .sle v8 c2_i32_308
  let c1_i32_309 : BitVec 32 := 1#32
  let v526 : BitVec 1 := Scalar.cmpi .sge v8 c1_i32_309
  let v527 : BitVec 1 := Scalar.andi v525 v526
  let v528 : BitVec 32 := Scalar.extui v527
  let c0_i32_310 : BitVec 32 := 0#32
  let v529 : BitVec 1 := Scalar.cmpi .ne v528 c0_i32_310
  v529

def k0_off61 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c384_i32_1749 : BitVec 32 := 384#32
  let v2640 : BitVec 32 := Scalar.addi v2639 c384_i32_1749
  let c0_i32_1757 : BitVec 32 := 0#32
  ![v2640.toNat, 0]
def k0_dev53 (d0 : Dev nD) : Nat :=
  let c0_i32_1754 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1753 : BitVec 32 := 16#32
  let v2642 : BitVec 32 := Scalar.muli v2 c16_i32_1753
  let v2643 : BitVec 32 := Scalar.addi c0_i32_1754 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1755 : BitVec 32 := 4#32
  let v2644 : BitVec 32 := Scalar.muli v5 c4_i32_1755
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.addi v8 c1_i32_1750
  let c1_i32_1756 : BitVec 32 := 1#32
  let v2646 : BitVec 32 := Scalar.muli v2641 c1_i32_1756
  let v2647 : BitVec 32 := Scalar.addi v2645 v2646
  v2647.toNat
def k0_cond54 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_311 : BitVec 32 := 1#32
  let v530 : BitVec 32 := Scalar.addi v8 c1_i32_311
  let c0_i32_312 : BitVec 32 := 0#32
  let v531 : BitVec 32 := Scalar.addi v530 c0_i32_312
  let c3_i32_313 : BitVec 32 := 3#32
  let v532 : BitVec 1 := Scalar.cmpi .sle v531 c3_i32_313
  let v533 : BitVec 32 := Scalar.extui v532
  let c0_i32_314 : BitVec 32 := 0#32
  let v534 : BitVec 1 := Scalar.cmpi .ne v533 c0_i32_314
  v534

def k0_off62 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c0_i32_1747 : BitVec 32 := 0#32
  let v2637 : BitVec 32 := Scalar.addi v2636 c0_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c384_i32_1750 : BitVec 32 := 384#32
  let v2641 : BitVec 32 := Scalar.addi v2640 c384_i32_1750
  let c0_i32_1757 : BitVec 32 := 0#32
  ![v2641.toNat, 0]
def k0_dev54 (d0 : Dev nD) : Nat :=
  let c0_i32_1767 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1766 : BitVec 32 := 16#32
  let v2658 : BitVec 32 := Scalar.muli v31 c16_i32_1766
  let v2659 : BitVec 32 := Scalar.addi c0_i32_1767 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1768 : BitVec 32 := 4#32
  let v2660 : BitVec 32 := Scalar.muli v5 c4_i32_1768
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1769 : BitVec 32 := 1#32
  let v2662 : BitVec 32 := Scalar.muli v8 c1_i32_1769
  let v2663 : BitVec 32 := Scalar.addi v2661 v2662
  v2663.toNat
def k0_dev55 (d0 : Dev nD) : Nat :=
  let c0_i32_1780 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1779 : BitVec 32 := 16#32
  let v2676 : BitVec 32 := Scalar.muli v2 c16_i32_1779
  let v2677 : BitVec 32 := Scalar.addi c0_i32_1780 v2676
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1781 : BitVec 32 := 4#32
  let v2678 : BitVec 32 := Scalar.muli v21 c4_i32_1781
  let v2679 : BitVec 32 := Scalar.addi v2677 v2678
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1782 : BitVec 32 := 1#32
  let v2680 : BitVec 32 := Scalar.muli v8 c1_i32_1782
  let v2681 : BitVec 32 := Scalar.addi v2679 v2680
  v2681.toNat
def k0_cond55 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_315 : BitVec 32 := 1#32
  let v535 : BitVec 1 := Scalar.cmpi .sge v8 c1_i32_315
  let c1_i32_316 : BitVec 32 := 1#32
  let v536 : BitVec 32 := Scalar.addi v8 c1_i32_316
  let c3_i32_317 : BitVec 32 := 3#32
  let v537 : BitVec 1 := Scalar.cmpi .sle v536 c3_i32_317
  let v538 : BitVec 1 := Scalar.andi v535 v537
  let v539 : BitVec 32 := Scalar.extui v538
  let c0_i32_318 : BitVec 32 := 0#32
  let v540 : BitVec 1 := Scalar.cmpi .ne v539 c0_i32_318
  v540

def k0_off63 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c384_i32_1749 : BitVec 32 := 384#32
  let v2640 : BitVec 32 := Scalar.addi v2639 c384_i32_1749
  let c0_i32_1757 : BitVec 32 := 0#32
  ![v2640.toNat, 0]
def k0_dev56 (d0 : Dev nD) : Nat :=
  let c0_i32_1754 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1753 : BitVec 32 := 16#32
  let v2642 : BitVec 32 := Scalar.muli v2 c16_i32_1753
  let v2643 : BitVec 32 := Scalar.addi c0_i32_1754 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1755 : BitVec 32 := 4#32
  let v2644 : BitVec 32 := Scalar.muli v5 c4_i32_1755
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.subi v8 c1_i32_1750
  let c1_i32_1756 : BitVec 32 := 1#32
  let v2646 : BitVec 32 := Scalar.muli v2641 c1_i32_1756
  let v2647 : BitVec 32 := Scalar.addi v2645 v2646
  v2647.toNat
def k0_cond56 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_347 : BitVec 32 := 1#32
  let v589 : BitVec 1 := Scalar.cmpi .sge v8 c1_i32_347
  let v590 : BitVec 32 := Scalar.extui v589
  let c0_i32_348 : BitVec 32 := 0#32
  let v591 : BitVec 1 := Scalar.cmpi .ne v590 c0_i32_348
  v591

def k0_off64 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c0_i32_1747 : BitVec 32 := 0#32
  let v2637 : BitVec 32 := Scalar.subi v2636 c0_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c512_i32_1750 : BitVec 32 := 512#32
  let v2641 : BitVec 32 := Scalar.addi v2640 c512_i32_1750
  let c0_i32_1757 : BitVec 32 := 0#32
  ![v2641.toNat, 0]
def k0_dev57 (d0 : Dev nD) : Nat :=
  let c0_i32_1767 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1766 : BitVec 32 := 16#32
  let v2658 : BitVec 32 := Scalar.muli v31 c16_i32_1766
  let v2659 : BitVec 32 := Scalar.addi c0_i32_1767 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1768 : BitVec 32 := 4#32
  let v2660 : BitVec 32 := Scalar.muli v5 c4_i32_1768
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1769 : BitVec 32 := 1#32
  let v2662 : BitVec 32 := Scalar.muli v8 c1_i32_1769
  let v2663 : BitVec 32 := Scalar.addi v2661 v2662
  v2663.toNat
def k0_dev58 (d0 : Dev nD) : Nat :=
  let c0_i32_1780 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1779 : BitVec 32 := 16#32
  let v2676 : BitVec 32 := Scalar.muli v2 c16_i32_1779
  let v2677 : BitVec 32 := Scalar.addi c0_i32_1780 v2676
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1781 : BitVec 32 := 4#32
  let v2678 : BitVec 32 := Scalar.muli v21 c4_i32_1781
  let v2679 : BitVec 32 := Scalar.addi v2677 v2678
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1782 : BitVec 32 := 1#32
  let v2680 : BitVec 32 := Scalar.muli v8 c1_i32_1782
  let v2681 : BitVec 32 := Scalar.addi v2679 v2680
  v2681.toNat
def k0_cond57 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_349 : BitVec 32 := 2#32
  let v592 : BitVec 1 := Scalar.cmpi .sle v8 c2_i32_349
  let c1_i32_350 : BitVec 32 := 1#32
  let v593 : BitVec 1 := Scalar.cmpi .sge v8 c1_i32_350
  let v594 : BitVec 1 := Scalar.andi v592 v593
  let v595 : BitVec 32 := Scalar.extui v594
  let c0_i32_351 : BitVec 32 := 0#32
  let v596 : BitVec 1 := Scalar.cmpi .ne v595 c0_i32_351
  v596

def k0_off65 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c512_i32_1749 : BitVec 32 := 512#32
  let v2640 : BitVec 32 := Scalar.addi v2639 c512_i32_1749
  let c0_i32_1756 : BitVec 32 := 0#32
  ![v2640.toNat, 0]
def k0_dev59 (d0 : Dev nD) : Nat :=
  let c0_i32_1753 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1752 : BitVec 32 := 16#32
  let v2642 : BitVec 32 := Scalar.muli v2 c16_i32_1752
  let v2643 : BitVec 32 := Scalar.addi c0_i32_1753 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1754 : BitVec 32 := 4#32
  let v2644 : BitVec 32 := Scalar.muli v5 c4_i32_1754
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.addi v8 c1_i32_1750
  let c1_i32_1755 : BitVec 32 := 1#32
  let v2646 : BitVec 32 := Scalar.muli v2641 c1_i32_1755
  let v2647 : BitVec 32 := Scalar.addi v2645 v2646
  v2647.toNat
def k0_cond58 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_352 : BitVec 32 := 1#32
  let v597 : BitVec 32 := Scalar.addi v8 c1_i32_352
  let c0_i32_353 : BitVec 32 := 0#32
  let v598 : BitVec 32 := Scalar.addi v597 c0_i32_353
  let c3_i32_354 : BitVec 32 := 3#32
  let v599 : BitVec 1 := Scalar.cmpi .sle v598 c3_i32_354
  let v600 : BitVec 32 := Scalar.extui v599
  let c0_i32_355 : BitVec 32 := 0#32
  let v601 : BitVec 1 := Scalar.cmpi .ne v600 c0_i32_355
  v601

def k0_off66 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c0_i32_1747 : BitVec 32 := 0#32
  let v2637 : BitVec 32 := Scalar.addi v2636 c0_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c512_i32_1750 : BitVec 32 := 512#32
  let v2641 : BitVec 32 := Scalar.addi v2640 c512_i32_1750
  let c0_i32_1757 : BitVec 32 := 0#32
  ![v2641.toNat, 0]
def k0_dev60 (d0 : Dev nD) : Nat :=
  let c0_i32_1767 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1766 : BitVec 32 := 16#32
  let v2658 : BitVec 32 := Scalar.muli v31 c16_i32_1766
  let v2659 : BitVec 32 := Scalar.addi c0_i32_1767 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1768 : BitVec 32 := 4#32
  let v2660 : BitVec 32 := Scalar.muli v5 c4_i32_1768
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1769 : BitVec 32 := 1#32
  let v2662 : BitVec 32 := Scalar.muli v8 c1_i32_1769
  let v2663 : BitVec 32 := Scalar.addi v2661 v2662
  v2663.toNat
def k0_dev61 (d0 : Dev nD) : Nat :=
  let c0_i32_1780 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1779 : BitVec 32 := 16#32
  let v2676 : BitVec 32 := Scalar.muli v2 c16_i32_1779
  let v2677 : BitVec 32 := Scalar.addi c0_i32_1780 v2676
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1781 : BitVec 32 := 4#32
  let v2678 : BitVec 32 := Scalar.muli v21 c4_i32_1781
  let v2679 : BitVec 32 := Scalar.addi v2677 v2678
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1782 : BitVec 32 := 1#32
  let v2680 : BitVec 32 := Scalar.muli v8 c1_i32_1782
  let v2681 : BitVec 32 := Scalar.addi v2679 v2680
  v2681.toNat
def k0_cond59 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_356 : BitVec 32 := 1#32
  let v602 : BitVec 1 := Scalar.cmpi .sge v8 c1_i32_356
  let c1_i32_357 : BitVec 32 := 1#32
  let v603 : BitVec 32 := Scalar.addi v8 c1_i32_357
  let c3_i32_358 : BitVec 32 := 3#32
  let v604 : BitVec 1 := Scalar.cmpi .sle v603 c3_i32_358
  let v605 : BitVec 1 := Scalar.andi v602 v604
  let v606 : BitVec 32 := Scalar.extui v605
  let c0_i32_359 : BitVec 32 := 0#32
  let v607 : BitVec 1 := Scalar.cmpi .ne v606 c0_i32_359
  v607

def k0_off67 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c512_i32_1749 : BitVec 32 := 512#32
  let v2640 : BitVec 32 := Scalar.addi v2639 c512_i32_1749
  let c0_i32_1756 : BitVec 32 := 0#32
  ![v2640.toNat, 0]
def k0_dev62 (d0 : Dev nD) : Nat :=
  let c0_i32_1753 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1752 : BitVec 32 := 16#32
  let v2642 : BitVec 32 := Scalar.muli v2 c16_i32_1752
  let v2643 : BitVec 32 := Scalar.addi c0_i32_1753 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1754 : BitVec 32 := 4#32
  let v2644 : BitVec 32 := Scalar.muli v5 c4_i32_1754
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.subi v8 c1_i32_1750
  let c1_i32_1755 : BitVec 32 := 1#32
  let v2646 : BitVec 32 := Scalar.muli v2641 c1_i32_1755
  let v2647 : BitVec 32 := Scalar.addi v2645 v2646
  v2647.toNat
def k0_cond60 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_374 : BitVec 32 := 1#32
  let v632 : BitVec 1 := Scalar.cmpi .sge v8 c1_i32_374
  let v633 : BitVec 32 := Scalar.extui v632
  let c0_i32_375 : BitVec 32 := 0#32
  let v634 : BitVec 1 := Scalar.cmpi .ne v633 c0_i32_375
  v634

def k0_off68 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c0_i32_1747 : BitVec 32 := 0#32
  let v2637 : BitVec 32 := Scalar.subi v2636 c0_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c640_i32_1750 : BitVec 32 := 640#32
  let v2641 : BitVec 32 := Scalar.addi v2640 c640_i32_1750
  let c0_i32_1756 : BitVec 32 := 0#32
  ![v2641.toNat, 0]
def k0_dev63 (d0 : Dev nD) : Nat :=
  let c0_i32_1766 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1765 : BitVec 32 := 16#32
  let v2658 : BitVec 32 := Scalar.muli v31 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1767 : BitVec 32 := 4#32
  let v2660 : BitVec 32 := Scalar.muli v5 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_dev64 (d0 : Dev nD) : Nat :=
  let c0_i32_1779 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1778 : BitVec 32 := 16#32
  let v2676 : BitVec 32 := Scalar.muli v2 c16_i32_1778
  let v2677 : BitVec 32 := Scalar.addi c0_i32_1779 v2676
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1780 : BitVec 32 := 4#32
  let v2678 : BitVec 32 := Scalar.muli v21 c4_i32_1780
  let v2679 : BitVec 32 := Scalar.addi v2677 v2678
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1781 : BitVec 32 := 1#32
  let v2680 : BitVec 32 := Scalar.muli v8 c1_i32_1781
  let v2681 : BitVec 32 := Scalar.addi v2679 v2680
  v2681.toNat
def k0_cond61 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_376 : BitVec 32 := 2#32
  let v635 : BitVec 1 := Scalar.cmpi .sle v8 c2_i32_376
  let c1_i32_377 : BitVec 32 := 1#32
  let v636 : BitVec 1 := Scalar.cmpi .sge v8 c1_i32_377
  let v637 : BitVec 1 := Scalar.andi v635 v636
  let v638 : BitVec 32 := Scalar.extui v637
  let c0_i32_378 : BitVec 32 := 0#32
  let v639 : BitVec 1 := Scalar.cmpi .ne v638 c0_i32_378
  v639

def k0_off69 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c640_i32_1749 : BitVec 32 := 640#32
  let v2640 : BitVec 32 := Scalar.addi v2639 c640_i32_1749
  let c0_i32_1756 : BitVec 32 := 0#32
  ![v2640.toNat, 0]
def k0_dev65 (d0 : Dev nD) : Nat :=
  let c0_i32_1753 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1752 : BitVec 32 := 16#32
  let v2642 : BitVec 32 := Scalar.muli v2 c16_i32_1752
  let v2643 : BitVec 32 := Scalar.addi c0_i32_1753 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1754 : BitVec 32 := 4#32
  let v2644 : BitVec 32 := Scalar.muli v5 c4_i32_1754
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.addi v8 c1_i32_1750
  let c1_i32_1755 : BitVec 32 := 1#32
  let v2646 : BitVec 32 := Scalar.muli v2641 c1_i32_1755
  let v2647 : BitVec 32 := Scalar.addi v2645 v2646
  v2647.toNat
def k0_cond62 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_379 : BitVec 32 := 1#32
  let v640 : BitVec 32 := Scalar.addi v8 c1_i32_379
  let c0_i32_380 : BitVec 32 := 0#32
  let v641 : BitVec 32 := Scalar.addi v640 c0_i32_380
  let c3_i32_381 : BitVec 32 := 3#32
  let v642 : BitVec 1 := Scalar.cmpi .sle v641 c3_i32_381
  let v643 : BitVec 32 := Scalar.extui v642
  let c0_i32_382 : BitVec 32 := 0#32
  let v644 : BitVec 1 := Scalar.cmpi .ne v643 c0_i32_382
  v644

def k0_off70 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c0_i32_1747 : BitVec 32 := 0#32
  let v2637 : BitVec 32 := Scalar.addi v2636 c0_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c640_i32_1750 : BitVec 32 := 640#32
  let v2641 : BitVec 32 := Scalar.addi v2640 c640_i32_1750
  let c0_i32_1756 : BitVec 32 := 0#32
  ![v2641.toNat, 0]
def k0_dev66 (d0 : Dev nD) : Nat :=
  let c0_i32_1766 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1765 : BitVec 32 := 16#32
  let v2658 : BitVec 32 := Scalar.muli v31 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1767 : BitVec 32 := 4#32
  let v2660 : BitVec 32 := Scalar.muli v5 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_dev67 (d0 : Dev nD) : Nat :=
  let c0_i32_1779 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1778 : BitVec 32 := 16#32
  let v2676 : BitVec 32 := Scalar.muli v2 c16_i32_1778
  let v2677 : BitVec 32 := Scalar.addi c0_i32_1779 v2676
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1780 : BitVec 32 := 4#32
  let v2678 : BitVec 32 := Scalar.muli v21 c4_i32_1780
  let v2679 : BitVec 32 := Scalar.addi v2677 v2678
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1781 : BitVec 32 := 1#32
  let v2680 : BitVec 32 := Scalar.muli v8 c1_i32_1781
  let v2681 : BitVec 32 := Scalar.addi v2679 v2680
  v2681.toNat
def k0_cond63 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_383 : BitVec 32 := 1#32
  let v645 : BitVec 1 := Scalar.cmpi .sge v8 c1_i32_383
  let c1_i32_384 : BitVec 32 := 1#32
  let v646 : BitVec 32 := Scalar.addi v8 c1_i32_384
  let c3_i32_385 : BitVec 32 := 3#32
  let v647 : BitVec 1 := Scalar.cmpi .sle v646 c3_i32_385
  let v648 : BitVec 1 := Scalar.andi v645 v647
  let v649 : BitVec 32 := Scalar.extui v648
  let c0_i32_386 : BitVec 32 := 0#32
  let v650 : BitVec 1 := Scalar.cmpi .ne v649 c0_i32_386
  v650

def k0_off71 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c640_i32_1749 : BitVec 32 := 640#32
  let v2640 : BitVec 32 := Scalar.addi v2639 c640_i32_1749
  let c0_i32_1756 : BitVec 32 := 0#32
  ![v2640.toNat, 0]
def k0_dev68 (d0 : Dev nD) : Nat :=
  let c0_i32_1753 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1752 : BitVec 32 := 16#32
  let v2642 : BitVec 32 := Scalar.muli v2 c16_i32_1752
  let v2643 : BitVec 32 := Scalar.addi c0_i32_1753 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1754 : BitVec 32 := 4#32
  let v2644 : BitVec 32 := Scalar.muli v5 c4_i32_1754
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.subi v8 c1_i32_1750
  let c1_i32_1755 : BitVec 32 := 1#32
  let v2646 : BitVec 32 := Scalar.muli v2641 c1_i32_1755
  let v2647 : BitVec 32 := Scalar.addi v2645 v2646
  v2647.toNat
def k0_cond64 (d0 : Dev nD) : BitVec 1 :=
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c2_i32_415 : BitVec 32 := 2#32
  let v696 : BitVec 32 := Scalar.addi v23 c2_i32_415
  let c4_i32_416 : BitVec 32 := 4#32
  let c0_i32_417 : BitVec 32 := 0#32
  let v697 : BitVec 1 := Scalar.cmpi .eq c4_i32_416 c0_i32_417
  let c1_i32_418 : BitVec 32 := 1#32
  let v698 : BitVec 32 := Scalar.select v697 c1_i32_418 c4_i32_416
  let v699 : BitVec 32 := Scalar.remsi v696 v698
  let c0_i32_420 : BitVec 32 := 0#32
  let v701 : BitVec 1 := Scalar.cmpi .slt v699 c0_i32_420
  let c0_i32_421 : BitVec 32 := 0#32
  let v702 : BitVec 1 := Scalar.cmpi .slt v698 c0_i32_421
  let v703 : BitVec 1 := Scalar.xori v701 v702
  let c0_i32_419 : BitVec 32 := 0#32
  let v700 : BitVec 1 := Scalar.cmpi .ne v699 c0_i32_419
  let v704 : BitVec 1 := Scalar.andi v703 v700
  let v705 : BitVec 32 := Scalar.addi v699 v698
  let v706 : BitVec 32 := Scalar.select v704 v705 v699
  let c3_i32 : BitVec 32 := 3#32
  let v30 : BitVec 32 := Scalar.subi c3_i32 v23
  let v707 : BitVec 1 := Scalar.cmpi .ne v706 v30
  let v708 : BitVec 32 := Scalar.extui v707
  let c0_i32_422 : BitVec 32 := 0#32
  let v709 : BitVec 1 := Scalar.cmpi .ne v708 c0_i32_422
  v709

def k0_off72 (d0 : Dev nD) : Fin 2 → Nat :=
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c2_i32_415 : BitVec 32 := 2#32
  let v696 : BitVec 32 := Scalar.addi v23 c2_i32_415
  let c4_i32_416 : BitVec 32 := 4#32
  let c0_i32_417 : BitVec 32 := 0#32
  let v697 : BitVec 1 := Scalar.cmpi .eq c4_i32_416 c0_i32_417
  let c1_i32_418 : BitVec 32 := 1#32
  let v698 : BitVec 32 := Scalar.select v697 c1_i32_418 c4_i32_416
  let v699 : BitVec 32 := Scalar.remsi v696 v698
  let c0_i32_420 : BitVec 32 := 0#32
  let v701 : BitVec 1 := Scalar.cmpi .slt v699 c0_i32_420
  let c0_i32_421 : BitVec 32 := 0#32
  let v702 : BitVec 1 := Scalar.cmpi .slt v698 c0_i32_421
  let v703 : BitVec 1 := Scalar.xori v701 v702
  let c0_i32_419 : BitVec 32 := 0#32
  let v700 : BitVec 1 := Scalar.cmpi .ne v699 c0_i32_419
  let v704 : BitVec 1 := Scalar.andi v703 v700
  let v705 : BitVec 32 := Scalar.addi v699 v698
  let v706 : BitVec 32 := Scalar.select v704 v705 v699
  let c1024_i32_1746 : BitVec 32 := 1024#32
  let v2636 : BitVec 32 := Scalar.muli v706 c1024_i32_1746
  let c0_i32_1747 : BitVec 32 := 0#32
  let v2637 : BitVec 32 := Scalar.addi v2636 c0_i32_1747
  let v2638 : Index := Scalar.indexCast v2637
  let c0_1748 : Index := 0#32
  ![v2638.toNat, 0]
def k0_off73 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4096_i32_1749 : BitVec 32 := 4096#32
  let v2641 : BitVec 32 := Scalar.muli v8 c4096_i32_1749
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c2_i32_415 : BitVec 32 := 2#32
  let v696 : BitVec 32 := Scalar.addi v23 c2_i32_415
  let c4_i32_416 : BitVec 32 := 4#32
  let c0_i32_417 : BitVec 32 := 0#32
  let v697 : BitVec 1 := Scalar.cmpi .eq c4_i32_416 c0_i32_417
  let c1_i32_418 : BitVec 32 := 1#32
  let v698 : BitVec 32 := Scalar.select v697 c1_i32_418 c4_i32_416
  let v699 : BitVec 32 := Scalar.remsi v696 v698
  let c0_i32_420 : BitVec 32 := 0#32
  let v701 : BitVec 1 := Scalar.cmpi .slt v699 c0_i32_420
  let c0_i32_421 : BitVec 32 := 0#32
  let v702 : BitVec 1 := Scalar.cmpi .slt v698 c0_i32_421
  let v703 : BitVec 1 := Scalar.xori v701 v702
  let c0_i32_419 : BitVec 32 := 0#32
  let v700 : BitVec 1 := Scalar.cmpi .ne v699 c0_i32_419
  let v704 : BitVec 1 := Scalar.andi v703 v700
  let v705 : BitVec 32 := Scalar.addi v699 v698
  let v706 : BitVec 32 := Scalar.select v704 v705 v699
  let c1024_i32_1750 : BitVec 32 := 1024#32
  let v2642 : BitVec 32 := Scalar.muli v706 c1024_i32_1750
  let v2643 : BitVec 32 := Scalar.addi v2641 v2642
  let c0_i32_1751 : BitVec 32 := 0#32
  let v2644 : BitVec 32 := Scalar.addi v2643 c0_i32_1751
  let v2645 : Index := Scalar.indexCast v2644
  let c0_1752 : Index := 0#32
  ![v2645.toNat, 0]
def k0_cond65 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_423 : BitVec 32 := 1#32
  let v710 : BitVec 1 := Scalar.cmpi .sge v8 c1_i32_423
  let v711 : BitVec 32 := Scalar.extui v710
  let c0_i32_424 : BitVec 32 := 0#32
  let v712 : BitVec 1 := Scalar.cmpi .ne v711 c0_i32_424
  v712

def k0_off74 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c0_i32_1747 : BitVec 32 := 0#32
  let v2637 : BitVec 32 := Scalar.subi v2636 c0_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c768_i32_1750 : BitVec 32 := 768#32
  let v2641 : BitVec 32 := Scalar.addi v2640 c768_i32_1750
  let c0_i32_1756 : BitVec 32 := 0#32
  ![v2641.toNat, 0]
def k0_dev69 (d0 : Dev nD) : Nat :=
  let c0_i32_1766 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1765 : BitVec 32 := 16#32
  let v2658 : BitVec 32 := Scalar.muli v31 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1767 : BitVec 32 := 4#32
  let v2660 : BitVec 32 := Scalar.muli v5 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_dev70 (d0 : Dev nD) : Nat :=
  let c0_i32_1779 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1778 : BitVec 32 := 16#32
  let v2676 : BitVec 32 := Scalar.muli v2 c16_i32_1778
  let v2677 : BitVec 32 := Scalar.addi c0_i32_1779 v2676
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1780 : BitVec 32 := 4#32
  let v2678 : BitVec 32 := Scalar.muli v21 c4_i32_1780
  let v2679 : BitVec 32 := Scalar.addi v2677 v2678
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1781 : BitVec 32 := 1#32
  let v2680 : BitVec 32 := Scalar.muli v8 c1_i32_1781
  let v2681 : BitVec 32 := Scalar.addi v2679 v2680
  v2681.toNat
def k0_cond66 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_425 : BitVec 32 := 2#32
  let v713 : BitVec 1 := Scalar.cmpi .sle v8 c2_i32_425
  let c1_i32_426 : BitVec 32 := 1#32
  let v714 : BitVec 1 := Scalar.cmpi .sge v8 c1_i32_426
  let v715 : BitVec 1 := Scalar.andi v713 v714
  let v716 : BitVec 32 := Scalar.extui v715
  let c0_i32_427 : BitVec 32 := 0#32
  let v717 : BitVec 1 := Scalar.cmpi .ne v716 c0_i32_427
  v717

def k0_off75 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c768_i32_1749 : BitVec 32 := 768#32
  let v2640 : BitVec 32 := Scalar.addi v2639 c768_i32_1749
  let c0_i32_1756 : BitVec 32 := 0#32
  ![v2640.toNat, 0]
def k0_dev71 (d0 : Dev nD) : Nat :=
  let c0_i32_1753 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1752 : BitVec 32 := 16#32
  let v2642 : BitVec 32 := Scalar.muli v2 c16_i32_1752
  let v2643 : BitVec 32 := Scalar.addi c0_i32_1753 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1754 : BitVec 32 := 4#32
  let v2644 : BitVec 32 := Scalar.muli v5 c4_i32_1754
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.addi v8 c1_i32_1750
  let c1_i32_1755 : BitVec 32 := 1#32
  let v2646 : BitVec 32 := Scalar.muli v2641 c1_i32_1755
  let v2647 : BitVec 32 := Scalar.addi v2645 v2646
  v2647.toNat
def k0_cond67 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_428 : BitVec 32 := 1#32
  let v718 : BitVec 32 := Scalar.addi v8 c1_i32_428
  let c0_i32_429 : BitVec 32 := 0#32
  let v719 : BitVec 32 := Scalar.addi v718 c0_i32_429
  let c3_i32_430 : BitVec 32 := 3#32
  let v720 : BitVec 1 := Scalar.cmpi .sle v719 c3_i32_430
  let v721 : BitVec 32 := Scalar.extui v720
  let c0_i32_431 : BitVec 32 := 0#32
  let v722 : BitVec 1 := Scalar.cmpi .ne v721 c0_i32_431
  v722

def k0_off76 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c0_i32_1747 : BitVec 32 := 0#32
  let v2637 : BitVec 32 := Scalar.addi v2636 c0_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c768_i32_1750 : BitVec 32 := 768#32
  let v2641 : BitVec 32 := Scalar.addi v2640 c768_i32_1750
  let c0_i32_1756 : BitVec 32 := 0#32
  ![v2641.toNat, 0]
def k0_dev72 (d0 : Dev nD) : Nat :=
  let c0_i32_1766 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1765 : BitVec 32 := 16#32
  let v2658 : BitVec 32 := Scalar.muli v31 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1767 : BitVec 32 := 4#32
  let v2660 : BitVec 32 := Scalar.muli v5 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_dev73 (d0 : Dev nD) : Nat :=
  let c0_i32_1779 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1778 : BitVec 32 := 16#32
  let v2676 : BitVec 32 := Scalar.muli v2 c16_i32_1778
  let v2677 : BitVec 32 := Scalar.addi c0_i32_1779 v2676
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1780 : BitVec 32 := 4#32
  let v2678 : BitVec 32 := Scalar.muli v21 c4_i32_1780
  let v2679 : BitVec 32 := Scalar.addi v2677 v2678
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1781 : BitVec 32 := 1#32
  let v2680 : BitVec 32 := Scalar.muli v8 c1_i32_1781
  let v2681 : BitVec 32 := Scalar.addi v2679 v2680
  v2681.toNat
def k0_cond68 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_432 : BitVec 32 := 1#32
  let v723 : BitVec 1 := Scalar.cmpi .sge v8 c1_i32_432
  let c1_i32_433 : BitVec 32 := 1#32
  let v724 : BitVec 32 := Scalar.addi v8 c1_i32_433
  let c3_i32_434 : BitVec 32 := 3#32
  let v725 : BitVec 1 := Scalar.cmpi .sle v724 c3_i32_434
  let v726 : BitVec 1 := Scalar.andi v723 v725
  let v727 : BitVec 32 := Scalar.extui v726
  let c0_i32_435 : BitVec 32 := 0#32
  let v728 : BitVec 1 := Scalar.cmpi .ne v727 c0_i32_435
  v728

def k0_off77 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c768_i32_1749 : BitVec 32 := 768#32
  let v2640 : BitVec 32 := Scalar.addi v2639 c768_i32_1749
  let c0_i32_1756 : BitVec 32 := 0#32
  ![v2640.toNat, 0]
def k0_dev74 (d0 : Dev nD) : Nat :=
  let c0_i32_1753 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1752 : BitVec 32 := 16#32
  let v2642 : BitVec 32 := Scalar.muli v2 c16_i32_1752
  let v2643 : BitVec 32 := Scalar.addi c0_i32_1753 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1754 : BitVec 32 := 4#32
  let v2644 : BitVec 32 := Scalar.muli v5 c4_i32_1754
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.subi v8 c1_i32_1750
  let c1_i32_1755 : BitVec 32 := 1#32
  let v2646 : BitVec 32 := Scalar.muli v2641 c1_i32_1755
  let v2647 : BitVec 32 := Scalar.addi v2645 v2646
  v2647.toNat
def k0_cond69 (d0 : Dev nD) : BitVec 1 :=
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c2_i32_436 : BitVec 32 := 2#32
  let v729 : BitVec 32 := Scalar.addi v23 c2_i32_436
  let c4_i32_437 : BitVec 32 := 4#32
  let c0_i32_438 : BitVec 32 := 0#32
  let v730 : BitVec 1 := Scalar.cmpi .eq c4_i32_437 c0_i32_438
  let c1_i32_439 : BitVec 32 := 1#32
  let v731 : BitVec 32 := Scalar.select v730 c1_i32_439 c4_i32_437
  let v732 : BitVec 32 := Scalar.remsi v729 v731
  let c0_i32_441 : BitVec 32 := 0#32
  let v734 : BitVec 1 := Scalar.cmpi .slt v732 c0_i32_441
  let c0_i32_442 : BitVec 32 := 0#32
  let v735 : BitVec 1 := Scalar.cmpi .slt v731 c0_i32_442
  let v736 : BitVec 1 := Scalar.xori v734 v735
  let c0_i32_440 : BitVec 32 := 0#32
  let v733 : BitVec 1 := Scalar.cmpi .ne v732 c0_i32_440
  let v737 : BitVec 1 := Scalar.andi v736 v733
  let v738 : BitVec 32 := Scalar.addi v732 v731
  let v739 : BitVec 32 := Scalar.select v737 v738 v732
  let c3_i32 : BitVec 32 := 3#32
  let v30 : BitVec 32 := Scalar.subi c3_i32 v23
  let v740 : BitVec 1 := Scalar.cmpi .ne v739 v30
  let v741 : BitVec 32 := Scalar.extui v740
  let c0_i32_443 : BitVec 32 := 0#32
  let v742 : BitVec 1 := Scalar.cmpi .ne v741 c0_i32_443
  v742

def k0_off78 (d0 : Dev nD) : Fin 2 → Nat :=
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c2_i32_436 : BitVec 32 := 2#32
  let v729 : BitVec 32 := Scalar.addi v23 c2_i32_436
  let c4_i32_437 : BitVec 32 := 4#32
  let c0_i32_438 : BitVec 32 := 0#32
  let v730 : BitVec 1 := Scalar.cmpi .eq c4_i32_437 c0_i32_438
  let c1_i32_439 : BitVec 32 := 1#32
  let v731 : BitVec 32 := Scalar.select v730 c1_i32_439 c4_i32_437
  let v732 : BitVec 32 := Scalar.remsi v729 v731
  let c0_i32_441 : BitVec 32 := 0#32
  let v734 : BitVec 1 := Scalar.cmpi .slt v732 c0_i32_441
  let c0_i32_442 : BitVec 32 := 0#32
  let v735 : BitVec 1 := Scalar.cmpi .slt v731 c0_i32_442
  let v736 : BitVec 1 := Scalar.xori v734 v735
  let c0_i32_440 : BitVec 32 := 0#32
  let v733 : BitVec 1 := Scalar.cmpi .ne v732 c0_i32_440
  let v737 : BitVec 1 := Scalar.andi v736 v733
  let v738 : BitVec 32 := Scalar.addi v732 v731
  let v739 : BitVec 32 := Scalar.select v737 v738 v732
  let c1024_i32_1746 : BitVec 32 := 1024#32
  let v2636 : BitVec 32 := Scalar.muli v739 c1024_i32_1746
  let c128_i32_1747 : BitVec 32 := 128#32
  let v2637 : BitVec 32 := Scalar.addi v2636 c128_i32_1747
  let v2638 : Index := Scalar.indexCast v2637
  let c0_1748 : Index := 0#32
  ![v2638.toNat, 0]
def k0_off79 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4096_i32_1749 : BitVec 32 := 4096#32
  let v2641 : BitVec 32 := Scalar.muli v8 c4096_i32_1749
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c2_i32_436 : BitVec 32 := 2#32
  let v729 : BitVec 32 := Scalar.addi v23 c2_i32_436
  let c4_i32_437 : BitVec 32 := 4#32
  let c0_i32_438 : BitVec 32 := 0#32
  let v730 : BitVec 1 := Scalar.cmpi .eq c4_i32_437 c0_i32_438
  let c1_i32_439 : BitVec 32 := 1#32
  let v731 : BitVec 32 := Scalar.select v730 c1_i32_439 c4_i32_437
  let v732 : BitVec 32 := Scalar.remsi v729 v731
  let c0_i32_441 : BitVec 32 := 0#32
  let v734 : BitVec 1 := Scalar.cmpi .slt v732 c0_i32_441
  let c0_i32_442 : BitVec 32 := 0#32
  let v735 : BitVec 1 := Scalar.cmpi .slt v731 c0_i32_442
  let v736 : BitVec 1 := Scalar.xori v734 v735
  let c0_i32_440 : BitVec 32 := 0#32
  let v733 : BitVec 1 := Scalar.cmpi .ne v732 c0_i32_440
  let v737 : BitVec 1 := Scalar.andi v736 v733
  let v738 : BitVec 32 := Scalar.addi v732 v731
  let v739 : BitVec 32 := Scalar.select v737 v738 v732
  let c1024_i32_1750 : BitVec 32 := 1024#32
  let v2642 : BitVec 32 := Scalar.muli v739 c1024_i32_1750
  let v2643 : BitVec 32 := Scalar.addi v2641 v2642
  let c128_i32_1751 : BitVec 32 := 128#32
  let v2644 : BitVec 32 := Scalar.addi v2643 c128_i32_1751
  let v2645 : Index := Scalar.indexCast v2644
  let c0_1752 : Index := 0#32
  ![v2645.toNat, 0]
def k0_cond70 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_444 : BitVec 32 := 1#32
  let v743 : BitVec 1 := Scalar.cmpi .sge v8 c1_i32_444
  let v744 : BitVec 32 := Scalar.extui v743
  let c0_i32_445 : BitVec 32 := 0#32
  let v745 : BitVec 1 := Scalar.cmpi .ne v744 c0_i32_445
  v745

def k0_off80 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c0_i32_1747 : BitVec 32 := 0#32
  let v2637 : BitVec 32 := Scalar.subi v2636 c0_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c896_i32_1750 : BitVec 32 := 896#32
  let v2641 : BitVec 32 := Scalar.addi v2640 c896_i32_1750
  let c0_i32_1756 : BitVec 32 := 0#32
  ![v2641.toNat, 0]
def k0_dev75 (d0 : Dev nD) : Nat :=
  let c0_i32_1766 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1765 : BitVec 32 := 16#32
  let v2658 : BitVec 32 := Scalar.muli v31 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1767 : BitVec 32 := 4#32
  let v2660 : BitVec 32 := Scalar.muli v5 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_dev76 (d0 : Dev nD) : Nat :=
  let c0_i32_1779 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1778 : BitVec 32 := 16#32
  let v2676 : BitVec 32 := Scalar.muli v2 c16_i32_1778
  let v2677 : BitVec 32 := Scalar.addi c0_i32_1779 v2676
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1780 : BitVec 32 := 4#32
  let v2678 : BitVec 32 := Scalar.muli v21 c4_i32_1780
  let v2679 : BitVec 32 := Scalar.addi v2677 v2678
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1781 : BitVec 32 := 1#32
  let v2680 : BitVec 32 := Scalar.muli v8 c1_i32_1781
  let v2681 : BitVec 32 := Scalar.addi v2679 v2680
  v2681.toNat
def k0_off81 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2688 : BitVec 32 := Scalar.subi v8 c1_i32_1784
  let c0_i32_1785 : BitVec 32 := 0#32
  let v2689 : BitVec 32 := Scalar.subi v2688 c0_i32_1785
  let c4096_i32_1788 : BitVec 32 := 4096#32
  let v2693 : BitVec 32 := Scalar.muli v2689 c4096_i32_1788
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1789 : BitVec 32 := 1024#32
  let v2694 : BitVec 32 := Scalar.muli v23 c1024_i32_1789
  let v2695 : BitVec 32 := Scalar.addi v2693 v2694
  let c0_i32_1791 : BitVec 32 := 0#32
  ![v2695.toNat, 0]
def k0_cond71 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_446 : BitVec 32 := 2#32
  let v746 : BitVec 1 := Scalar.cmpi .sle v8 c2_i32_446
  let c1_i32_447 : BitVec 32 := 1#32
  let v747 : BitVec 1 := Scalar.cmpi .sge v8 c1_i32_447
  let v748 : BitVec 1 := Scalar.andi v746 v747
  let v749 : BitVec 32 := Scalar.extui v748
  let c0_i32_448 : BitVec 32 := 0#32
  let v750 : BitVec 1 := Scalar.cmpi .ne v749 c0_i32_448
  v750

def k0_off82 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c896_i32_1749 : BitVec 32 := 896#32
  let v2640 : BitVec 32 := Scalar.addi v2639 c896_i32_1749
  let c0_i32_1756 : BitVec 32 := 0#32
  ![v2640.toNat, 0]
def k0_dev77 (d0 : Dev nD) : Nat :=
  let c0_i32_1753 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1752 : BitVec 32 := 16#32
  let v2642 : BitVec 32 := Scalar.muli v2 c16_i32_1752
  let v2643 : BitVec 32 := Scalar.addi c0_i32_1753 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1754 : BitVec 32 := 4#32
  let v2644 : BitVec 32 := Scalar.muli v5 c4_i32_1754
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.addi v8 c1_i32_1750
  let c1_i32_1755 : BitVec 32 := 1#32
  let v2646 : BitVec 32 := Scalar.muli v2641 c1_i32_1755
  let v2647 : BitVec 32 := Scalar.addi v2645 v2646
  v2647.toNat
def k0_cond72 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_449 : BitVec 32 := 1#32
  let v751 : BitVec 32 := Scalar.addi v8 c1_i32_449
  let c0_i32_450 : BitVec 32 := 0#32
  let v752 : BitVec 32 := Scalar.addi v751 c0_i32_450
  let c3_i32_451 : BitVec 32 := 3#32
  let v753 : BitVec 1 := Scalar.cmpi .sle v752 c3_i32_451
  let v754 : BitVec 32 := Scalar.extui v753
  let c0_i32_452 : BitVec 32 := 0#32
  let v755 : BitVec 1 := Scalar.cmpi .ne v754 c0_i32_452
  v755

def k0_off83 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c0_i32_1747 : BitVec 32 := 0#32
  let v2637 : BitVec 32 := Scalar.addi v2636 c0_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c896_i32_1750 : BitVec 32 := 896#32
  let v2641 : BitVec 32 := Scalar.addi v2640 c896_i32_1750
  let c0_i32_1756 : BitVec 32 := 0#32
  ![v2641.toNat, 0]
def k0_dev78 (d0 : Dev nD) : Nat :=
  let c0_i32_1766 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1765 : BitVec 32 := 16#32
  let v2658 : BitVec 32 := Scalar.muli v31 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1767 : BitVec 32 := 4#32
  let v2660 : BitVec 32 := Scalar.muli v5 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_dev79 (d0 : Dev nD) : Nat :=
  let c0_i32_1779 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1778 : BitVec 32 := 16#32
  let v2676 : BitVec 32 := Scalar.muli v2 c16_i32_1778
  let v2677 : BitVec 32 := Scalar.addi c0_i32_1779 v2676
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1780 : BitVec 32 := 4#32
  let v2678 : BitVec 32 := Scalar.muli v21 c4_i32_1780
  let v2679 : BitVec 32 := Scalar.addi v2677 v2678
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1781 : BitVec 32 := 1#32
  let v2680 : BitVec 32 := Scalar.muli v8 c1_i32_1781
  let v2681 : BitVec 32 := Scalar.addi v2679 v2680
  v2681.toNat
def k0_off84 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2688 : BitVec 32 := Scalar.addi v8 c1_i32_1784
  let c0_i32_1785 : BitVec 32 := 0#32
  let v2689 : BitVec 32 := Scalar.addi v2688 c0_i32_1785
  let c4096_i32_1788 : BitVec 32 := 4096#32
  let v2693 : BitVec 32 := Scalar.muli v2689 c4096_i32_1788
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1789 : BitVec 32 := 1024#32
  let v2694 : BitVec 32 := Scalar.muli v23 c1024_i32_1789
  let v2695 : BitVec 32 := Scalar.addi v2693 v2694
  let c0_i32_1791 : BitVec 32 := 0#32
  ![v2695.toNat, 0]
def k0_cond73 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_453 : BitVec 32 := 1#32
  let v756 : BitVec 1 := Scalar.cmpi .sge v8 c1_i32_453
  let c1_i32_454 : BitVec 32 := 1#32
  let v757 : BitVec 32 := Scalar.addi v8 c1_i32_454
  let c3_i32_455 : BitVec 32 := 3#32
  let v758 : BitVec 1 := Scalar.cmpi .sle v757 c3_i32_455
  let v759 : BitVec 1 := Scalar.andi v756 v758
  let v760 : BitVec 32 := Scalar.extui v759
  let c0_i32_456 : BitVec 32 := 0#32
  let v761 : BitVec 1 := Scalar.cmpi .ne v760 c0_i32_456
  v761

def k0_off85 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c896_i32_1749 : BitVec 32 := 896#32
  let v2640 : BitVec 32 := Scalar.addi v2639 c896_i32_1749
  let c0_i32_1756 : BitVec 32 := 0#32
  ![v2640.toNat, 0]
def k0_dev80 (d0 : Dev nD) : Nat :=
  let c0_i32_1753 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1752 : BitVec 32 := 16#32
  let v2642 : BitVec 32 := Scalar.muli v2 c16_i32_1752
  let v2643 : BitVec 32 := Scalar.addi c0_i32_1753 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1754 : BitVec 32 := 4#32
  let v2644 : BitVec 32 := Scalar.muli v5 c4_i32_1754
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.subi v8 c1_i32_1750
  let c1_i32_1755 : BitVec 32 := 1#32
  let v2646 : BitVec 32 := Scalar.muli v2641 c1_i32_1755
  let v2647 : BitVec 32 := Scalar.addi v2645 v2646
  v2647.toNat
def k0_cond74 (d0 : Dev nD) : BitVec 1 :=
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c2_i32_457 : BitVec 32 := 2#32
  let v762 : BitVec 32 := Scalar.addi v23 c2_i32_457
  let c4_i32_458 : BitVec 32 := 4#32
  let c0_i32_459 : BitVec 32 := 0#32
  let v763 : BitVec 1 := Scalar.cmpi .eq c4_i32_458 c0_i32_459
  let c1_i32_460 : BitVec 32 := 1#32
  let v764 : BitVec 32 := Scalar.select v763 c1_i32_460 c4_i32_458
  let v765 : BitVec 32 := Scalar.remsi v762 v764
  let c0_i32_462 : BitVec 32 := 0#32
  let v767 : BitVec 1 := Scalar.cmpi .slt v765 c0_i32_462
  let c0_i32_463 : BitVec 32 := 0#32
  let v768 : BitVec 1 := Scalar.cmpi .slt v764 c0_i32_463
  let v769 : BitVec 1 := Scalar.xori v767 v768
  let c0_i32_461 : BitVec 32 := 0#32
  let v766 : BitVec 1 := Scalar.cmpi .ne v765 c0_i32_461
  let v770 : BitVec 1 := Scalar.andi v769 v766
  let v771 : BitVec 32 := Scalar.addi v765 v764
  let v772 : BitVec 32 := Scalar.select v770 v771 v765
  let c3_i32 : BitVec 32 := 3#32
  let v30 : BitVec 32 := Scalar.subi c3_i32 v23
  let v773 : BitVec 1 := Scalar.cmpi .ne v772 v30
  let v774 : BitVec 32 := Scalar.extui v773
  let c0_i32_464 : BitVec 32 := 0#32
  let v775 : BitVec 1 := Scalar.cmpi .ne v774 c0_i32_464
  v775

def k0_off86 (d0 : Dev nD) : Fin 2 → Nat :=
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c2_i32_457 : BitVec 32 := 2#32
  let v762 : BitVec 32 := Scalar.addi v23 c2_i32_457
  let c4_i32_458 : BitVec 32 := 4#32
  let c0_i32_459 : BitVec 32 := 0#32
  let v763 : BitVec 1 := Scalar.cmpi .eq c4_i32_458 c0_i32_459
  let c1_i32_460 : BitVec 32 := 1#32
  let v764 : BitVec 32 := Scalar.select v763 c1_i32_460 c4_i32_458
  let v765 : BitVec 32 := Scalar.remsi v762 v764
  let c0_i32_462 : BitVec 32 := 0#32
  let v767 : BitVec 1 := Scalar.cmpi .slt v765 c0_i32_462
  let c0_i32_463 : BitVec 32 := 0#32
  let v768 : BitVec 1 := Scalar.cmpi .slt v764 c0_i32_463
  let v769 : BitVec 1 := Scalar.xori v767 v768
  let c0_i32_461 : BitVec 32 := 0#32
  let v766 : BitVec 1 := Scalar.cmpi .ne v765 c0_i32_461
  let v770 : BitVec 1 := Scalar.andi v769 v766
  let v771 : BitVec 32 := Scalar.addi v765 v764
  let v772 : BitVec 32 := Scalar.select v770 v771 v765
  let c1024_i32_1746 : BitVec 32 := 1024#32
  let v2636 : BitVec 32 := Scalar.muli v772 c1024_i32_1746
  let c256_i32_1747 : BitVec 32 := 256#32
  let v2637 : BitVec 32 := Scalar.addi v2636 c256_i32_1747
  let v2638 : Index := Scalar.indexCast v2637
  let c0_1748 : Index := 0#32
  ![v2638.toNat, 0]
def k0_off87 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4096_i32_1749 : BitVec 32 := 4096#32
  let v2641 : BitVec 32 := Scalar.muli v8 c4096_i32_1749
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c2_i32_457 : BitVec 32 := 2#32
  let v762 : BitVec 32 := Scalar.addi v23 c2_i32_457
  let c4_i32_458 : BitVec 32 := 4#32
  let c0_i32_459 : BitVec 32 := 0#32
  let v763 : BitVec 1 := Scalar.cmpi .eq c4_i32_458 c0_i32_459
  let c1_i32_460 : BitVec 32 := 1#32
  let v764 : BitVec 32 := Scalar.select v763 c1_i32_460 c4_i32_458
  let v765 : BitVec 32 := Scalar.remsi v762 v764
  let c0_i32_462 : BitVec 32 := 0#32
  let v767 : BitVec 1 := Scalar.cmpi .slt v765 c0_i32_462
  let c0_i32_463 : BitVec 32 := 0#32
  let v768 : BitVec 1 := Scalar.cmpi .slt v764 c0_i32_463
  let v769 : BitVec 1 := Scalar.xori v767 v768
  let c0_i32_461 : BitVec 32 := 0#32
  let v766 : BitVec 1 := Scalar.cmpi .ne v765 c0_i32_461
  let v770 : BitVec 1 := Scalar.andi v769 v766
  let v771 : BitVec 32 := Scalar.addi v765 v764
  let v772 : BitVec 32 := Scalar.select v770 v771 v765
  let c1024_i32_1750 : BitVec 32 := 1024#32
  let v2642 : BitVec 32 := Scalar.muli v772 c1024_i32_1750
  let v2643 : BitVec 32 := Scalar.addi v2641 v2642
  let c256_i32_1751 : BitVec 32 := 256#32
  let v2644 : BitVec 32 := Scalar.addi v2643 c256_i32_1751
  let v2645 : Index := Scalar.indexCast v2644
  let c0_1752 : Index := 0#32
  ![v2645.toNat, 0]
def k0_cond75 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_479 : BitVec 32 := 2#32
  let v800 : BitVec 1 := Scalar.cmpi .sge v8 c2_i32_479
  let v801 : BitVec 32 := Scalar.extui v800
  let c0_i32_480 : BitVec 32 := 0#32
  let v802 : BitVec 1 := Scalar.cmpi .ne v801 c0_i32_480
  v802

def k0_off88 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c1_i32_1747 : BitVec 32 := 1#32
  let v2637 : BitVec 32 := Scalar.subi v2636 c1_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c0_i32_1750 : BitVec 32 := 0#32
  let v2641 : BitVec 32 := Scalar.addi v2640 c0_i32_1750
  let c0_i32_1756 : BitVec 32 := 0#32
  ![v2641.toNat, 0]
def k0_dev81 (d0 : Dev nD) : Nat :=
  let c0_i32_1766 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1765 : BitVec 32 := 16#32
  let v2658 : BitVec 32 := Scalar.muli v31 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1767 : BitVec 32 := 4#32
  let v2660 : BitVec 32 := Scalar.muli v5 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_dev82 (d0 : Dev nD) : Nat :=
  let c0_i32_1779 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1778 : BitVec 32 := 16#32
  let v2676 : BitVec 32 := Scalar.muli v2 c16_i32_1778
  let v2677 : BitVec 32 := Scalar.addi c0_i32_1779 v2676
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1780 : BitVec 32 := 4#32
  let v2678 : BitVec 32 := Scalar.muli v21 c4_i32_1780
  let v2679 : BitVec 32 := Scalar.addi v2677 v2678
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1781 : BitVec 32 := 1#32
  let v2680 : BitVec 32 := Scalar.muli v8 c1_i32_1781
  let v2681 : BitVec 32 := Scalar.addi v2679 v2680
  v2681.toNat
def k0_cond76 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_481 : BitVec 32 := 2#32
  let v803 : BitVec 1 := Scalar.cmpi .sle v8 c2_i32_481
  let c2_i32_482 : BitVec 32 := 2#32
  let v804 : BitVec 1 := Scalar.cmpi .sge v8 c2_i32_482
  let v805 : BitVec 1 := Scalar.andi v803 v804
  let v806 : BitVec 32 := Scalar.extui v805
  let c0_i32_483 : BitVec 32 := 0#32
  let v807 : BitVec 1 := Scalar.cmpi .ne v806 c0_i32_483
  v807

def k0_off89 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1746 : BitVec 32 := 2#32
  let v2636 : BitVec 32 := Scalar.subi v8 c2_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c0_i32_1749 : BitVec 32 := 0#32
  let v2640 : BitVec 32 := Scalar.addi v2639 c0_i32_1749
  let c0_i32_1757 : BitVec 32 := 0#32
  ![v2640.toNat, 0]
def k0_dev83 (d0 : Dev nD) : Nat :=
  let c0_i32_1754 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1753 : BitVec 32 := 16#32
  let v2642 : BitVec 32 := Scalar.muli v2 c16_i32_1753
  let v2643 : BitVec 32 := Scalar.addi c0_i32_1754 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1755 : BitVec 32 := 4#32
  let v2644 : BitVec 32 := Scalar.muli v5 c4_i32_1755
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.addi v8 c1_i32_1750
  let c1_i32_1756 : BitVec 32 := 1#32
  let v2646 : BitVec 32 := Scalar.muli v2641 c1_i32_1756
  let v2647 : BitVec 32 := Scalar.addi v2645 v2646
  v2647.toNat
def k0_cond77 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_484 : BitVec 32 := 1#32
  let v808 : BitVec 32 := Scalar.addi v8 c1_i32_484
  let c1_i32_485 : BitVec 32 := 1#32
  let v809 : BitVec 32 := Scalar.addi v808 c1_i32_485
  let c3_i32_486 : BitVec 32 := 3#32
  let v810 : BitVec 1 := Scalar.cmpi .sle v809 c3_i32_486
  let v811 : BitVec 32 := Scalar.extui v810
  let c0_i32_487 : BitVec 32 := 0#32
  let v812 : BitVec 1 := Scalar.cmpi .ne v811 c0_i32_487
  v812

def k0_off90 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c1_i32_1747 : BitVec 32 := 1#32
  let v2637 : BitVec 32 := Scalar.addi v2636 c1_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c0_i32_1750 : BitVec 32 := 0#32
  let v2641 : BitVec 32 := Scalar.addi v2640 c0_i32_1750
  let c0_i32_1756 : BitVec 32 := 0#32
  ![v2641.toNat, 0]
def k0_dev84 (d0 : Dev nD) : Nat :=
  let c0_i32_1766 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1765 : BitVec 32 := 16#32
  let v2658 : BitVec 32 := Scalar.muli v31 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1767 : BitVec 32 := 4#32
  let v2660 : BitVec 32 := Scalar.muli v5 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_dev85 (d0 : Dev nD) : Nat :=
  let c0_i32_1779 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1778 : BitVec 32 := 16#32
  let v2676 : BitVec 32 := Scalar.muli v2 c16_i32_1778
  let v2677 : BitVec 32 := Scalar.addi c0_i32_1779 v2676
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1780 : BitVec 32 := 4#32
  let v2678 : BitVec 32 := Scalar.muli v21 c4_i32_1780
  let v2679 : BitVec 32 := Scalar.addi v2677 v2678
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1781 : BitVec 32 := 1#32
  let v2680 : BitVec 32 := Scalar.muli v8 c1_i32_1781
  let v2681 : BitVec 32 := Scalar.addi v2679 v2680
  v2681.toNat
def k0_cond78 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_488 : BitVec 32 := 1#32
  let v813 : BitVec 1 := Scalar.cmpi .sge v8 c1_i32_488
  let c2_i32_489 : BitVec 32 := 2#32
  let v814 : BitVec 32 := Scalar.addi v8 c2_i32_489
  let c3_i32_490 : BitVec 32 := 3#32
  let v815 : BitVec 1 := Scalar.cmpi .sle v814 c3_i32_490
  let v816 : BitVec 1 := Scalar.andi v813 v815
  let v817 : BitVec 32 := Scalar.extui v816
  let c0_i32_491 : BitVec 32 := 0#32
  let v818 : BitVec 1 := Scalar.cmpi .ne v817 c0_i32_491
  v818

def k0_off91 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1746 : BitVec 32 := 2#32
  let v2636 : BitVec 32 := Scalar.addi v8 c2_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c0_i32_1749 : BitVec 32 := 0#32
  let v2640 : BitVec 32 := Scalar.addi v2639 c0_i32_1749
  let c0_i32_1757 : BitVec 32 := 0#32
  ![v2640.toNat, 0]
def k0_dev86 (d0 : Dev nD) : Nat :=
  let c0_i32_1754 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1753 : BitVec 32 := 16#32
  let v2642 : BitVec 32 := Scalar.muli v2 c16_i32_1753
  let v2643 : BitVec 32 := Scalar.addi c0_i32_1754 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1755 : BitVec 32 := 4#32
  let v2644 : BitVec 32 := Scalar.muli v5 c4_i32_1755
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.subi v8 c1_i32_1750
  let c1_i32_1756 : BitVec 32 := 1#32
  let v2646 : BitVec 32 := Scalar.muli v2641 c1_i32_1756
  let v2647 : BitVec 32 := Scalar.addi v2645 v2646
  v2647.toNat
def k0_cond79 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_492 : BitVec 32 := 2#32
  let v819 : BitVec 1 := Scalar.cmpi .sge v8 c2_i32_492
  let v820 : BitVec 32 := Scalar.extui v819
  let c0_i32_493 : BitVec 32 := 0#32
  let v821 : BitVec 1 := Scalar.cmpi .ne v820 c0_i32_493
  v821

def k0_off92 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c1_i32_1747 : BitVec 32 := 1#32
  let v2637 : BitVec 32 := Scalar.subi v2636 c1_i32_1747
  let c4096_i32_1748 : BitVec 32 := 4096#32
  let v2638 : BitVec 32 := Scalar.muli v2637 c4096_i32_1748
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1749 : BitVec 32 := 1024#32
  let v2639 : BitVec 32 := Scalar.muli v30 c1024_i32_1749
  let v2640 : BitVec 32 := Scalar.addi v2638 v2639
  let c0_i32_1750 : BitVec 32 := 0#32
  let v2641 : BitVec 32 := Scalar.addi v2640 c0_i32_1750
  let c0_i32_1757 : BitVec 32 := 0#32
  ![v2641.toNat, 0]
def k0_cond80 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_494 : BitVec 32 := 2#32
  let v822 : BitVec 1 := Scalar.cmpi .sle v8 c2_i32_494
  let c2_i32_495 : BitVec 32 := 2#32
  let v823 : BitVec 1 := Scalar.cmpi .sge v8 c2_i32_495
  let v824 : BitVec 1 := Scalar.andi v822 v823
  let v825 : BitVec 32 := Scalar.extui v824
  let c0_i32_496 : BitVec 32 := 0#32
  let v826 : BitVec 1 := Scalar.cmpi .ne v825 c0_i32_496
  v826

def k0_off93 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1746 : BitVec 32 := 2#32
  let v2636 : BitVec 32 := Scalar.subi v8 c2_i32_1746
  let c4096_i32_1747 : BitVec 32 := 4096#32
  let v2637 : BitVec 32 := Scalar.muli v2636 c4096_i32_1747
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1748 : BitVec 32 := 1024#32
  let v2638 : BitVec 32 := Scalar.muli v30 c1024_i32_1748
  let v2639 : BitVec 32 := Scalar.addi v2637 v2638
  let c0_i32_1749 : BitVec 32 := 0#32
  let v2640 : BitVec 32 := Scalar.addi v2639 c0_i32_1749
  let c0_i32_1756 : BitVec 32 := 0#32
  ![v2640.toNat, 0]
def k0_dev87 (d0 : Dev nD) : Nat :=
  let c0_i32_1753 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1752 : BitVec 32 := 16#32
  let v2642 : BitVec 32 := Scalar.muli v2 c16_i32_1752
  let v2643 : BitVec 32 := Scalar.addi c0_i32_1753 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1754 : BitVec 32 := 4#32
  let v2644 : BitVec 32 := Scalar.muli v5 c4_i32_1754
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.addi v8 c1_i32_1750
  let c1_i32_1755 : BitVec 32 := 1#32
  let v2646 : BitVec 32 := Scalar.muli v2641 c1_i32_1755
  let v2647 : BitVec 32 := Scalar.addi v2645 v2646
  v2647.toNat
def k0_cond81 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_497 : BitVec 32 := 1#32
  let v827 : BitVec 32 := Scalar.addi v8 c1_i32_497
  let c1_i32_498 : BitVec 32 := 1#32
  let v828 : BitVec 32 := Scalar.addi v827 c1_i32_498
  let c3_i32_499 : BitVec 32 := 3#32
  let v829 : BitVec 1 := Scalar.cmpi .sle v828 c3_i32_499
  let v830 : BitVec 32 := Scalar.extui v829
  let c0_i32_500 : BitVec 32 := 0#32
  let v831 : BitVec 1 := Scalar.cmpi .ne v830 c0_i32_500
  v831

def k0_off94 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c1_i32_1747 : BitVec 32 := 1#32
  let v2637 : BitVec 32 := Scalar.addi v2636 c1_i32_1747
  let c4096_i32_1748 : BitVec 32 := 4096#32
  let v2638 : BitVec 32 := Scalar.muli v2637 c4096_i32_1748
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1749 : BitVec 32 := 1024#32
  let v2639 : BitVec 32 := Scalar.muli v30 c1024_i32_1749
  let v2640 : BitVec 32 := Scalar.addi v2638 v2639
  let c0_i32_1750 : BitVec 32 := 0#32
  let v2641 : BitVec 32 := Scalar.addi v2640 c0_i32_1750
  let c0_i32_1757 : BitVec 32 := 0#32
  ![v2641.toNat, 0]
def k0_cond82 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_501 : BitVec 32 := 1#32
  let v832 : BitVec 1 := Scalar.cmpi .sge v8 c1_i32_501
  let c2_i32_502 : BitVec 32 := 2#32
  let v833 : BitVec 32 := Scalar.addi v8 c2_i32_502
  let c3_i32_503 : BitVec 32 := 3#32
  let v834 : BitVec 1 := Scalar.cmpi .sle v833 c3_i32_503
  let v835 : BitVec 1 := Scalar.andi v832 v834
  let v836 : BitVec 32 := Scalar.extui v835
  let c0_i32_504 : BitVec 32 := 0#32
  let v837 : BitVec 1 := Scalar.cmpi .ne v836 c0_i32_504
  v837

def k0_off95 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1746 : BitVec 32 := 2#32
  let v2636 : BitVec 32 := Scalar.addi v8 c2_i32_1746
  let c4096_i32_1747 : BitVec 32 := 4096#32
  let v2637 : BitVec 32 := Scalar.muli v2636 c4096_i32_1747
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1748 : BitVec 32 := 1024#32
  let v2638 : BitVec 32 := Scalar.muli v30 c1024_i32_1748
  let v2639 : BitVec 32 := Scalar.addi v2637 v2638
  let c0_i32_1749 : BitVec 32 := 0#32
  let v2640 : BitVec 32 := Scalar.addi v2639 c0_i32_1749
  let c0_i32_1756 : BitVec 32 := 0#32
  ![v2640.toNat, 0]
def k0_dev88 (d0 : Dev nD) : Nat :=
  let c0_i32_1753 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1752 : BitVec 32 := 16#32
  let v2642 : BitVec 32 := Scalar.muli v2 c16_i32_1752
  let v2643 : BitVec 32 := Scalar.addi c0_i32_1753 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1754 : BitVec 32 := 4#32
  let v2644 : BitVec 32 := Scalar.muli v5 c4_i32_1754
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.subi v8 c1_i32_1750
  let c1_i32_1755 : BitVec 32 := 1#32
  let v2646 : BitVec 32 := Scalar.muli v2641 c1_i32_1755
  let v2647 : BitVec 32 := Scalar.addi v2645 v2646
  v2647.toNat
def k0_cond83 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_505 : BitVec 32 := 1#32
  let v838 : BitVec 1 := Scalar.cmpi .sge v8 c1_i32_505
  let v839 : BitVec 32 := Scalar.extui v838
  let c0_i32_506 : BitVec 32 := 0#32
  let v840 : BitVec 1 := Scalar.cmpi .ne v839 c0_i32_506
  v840

def k0_off96 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c0_i32_1747 : BitVec 32 := 0#32
  let v2637 : BitVec 32 := Scalar.subi v2636 c0_i32_1747
  let c4096_i32_1748 : BitVec 32 := 4096#32
  let v2638 : BitVec 32 := Scalar.muli v2637 c4096_i32_1748
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1749 : BitVec 32 := 1024#32
  let v2639 : BitVec 32 := Scalar.muli v26 c1024_i32_1749
  let v2640 : BitVec 32 := Scalar.addi v2638 v2639
  let c0_i32_1750 : BitVec 32 := 0#32
  let v2641 : BitVec 32 := Scalar.addi v2640 c0_i32_1750
  let c0_i32_1757 : BitVec 32 := 0#32
  ![v2641.toNat, 0]
def k0_cond84 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_507 : BitVec 32 := 1#32
  let v841 : BitVec 1 := Scalar.cmpi .sge v8 c1_i32_507
  let v842 : BitVec 32 := Scalar.extui v841
  let c0_i32_508 : BitVec 32 := 0#32
  let v843 : BitVec 1 := Scalar.cmpi .ne v842 c0_i32_508
  v843

def k0_off97 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c0_i32_1747 : BitVec 32 := 0#32
  let v2637 : BitVec 32 := Scalar.subi v2636 c0_i32_1747
  let c4096_i32_1748 : BitVec 32 := 4096#32
  let v2638 : BitVec 32 := Scalar.muli v2637 c4096_i32_1748
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1749 : BitVec 32 := 1024#32
  let v2639 : BitVec 32 := Scalar.muli v29 c1024_i32_1749
  let v2640 : BitVec 32 := Scalar.addi v2638 v2639
  let c0_i32_1750 : BitVec 32 := 0#32
  let v2641 : BitVec 32 := Scalar.addi v2640 c0_i32_1750
  let c0_i32_1757 : BitVec 32 := 0#32
  ![v2641.toNat, 0]
def k0_cond85 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_509 : BitVec 32 := 1#32
  let v844 : BitVec 32 := Scalar.addi v8 c1_i32_509
  let c0_i32_510 : BitVec 32 := 0#32
  let v845 : BitVec 32 := Scalar.addi v844 c0_i32_510
  let c3_i32_511 : BitVec 32 := 3#32
  let v846 : BitVec 1 := Scalar.cmpi .sle v845 c3_i32_511
  let v847 : BitVec 32 := Scalar.extui v846
  let c0_i32_512 : BitVec 32 := 0#32
  let v848 : BitVec 1 := Scalar.cmpi .ne v847 c0_i32_512
  v848

def k0_off98 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c0_i32_1747 : BitVec 32 := 0#32
  let v2637 : BitVec 32 := Scalar.addi v2636 c0_i32_1747
  let c4096_i32_1748 : BitVec 32 := 4096#32
  let v2638 : BitVec 32 := Scalar.muli v2637 c4096_i32_1748
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1749 : BitVec 32 := 1024#32
  let v2639 : BitVec 32 := Scalar.muli v26 c1024_i32_1749
  let v2640 : BitVec 32 := Scalar.addi v2638 v2639
  let c0_i32_1750 : BitVec 32 := 0#32
  let v2641 : BitVec 32 := Scalar.addi v2640 c0_i32_1750
  let c0_i32_1757 : BitVec 32 := 0#32
  ![v2641.toNat, 0]
def k0_cond86 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_513 : BitVec 32 := 1#32
  let v849 : BitVec 32 := Scalar.addi v8 c1_i32_513
  let c0_i32_514 : BitVec 32 := 0#32
  let v850 : BitVec 32 := Scalar.addi v849 c0_i32_514
  let c3_i32_515 : BitVec 32 := 3#32
  let v851 : BitVec 1 := Scalar.cmpi .sle v850 c3_i32_515
  let v852 : BitVec 32 := Scalar.extui v851
  let c0_i32_516 : BitVec 32 := 0#32
  let v853 : BitVec 1 := Scalar.cmpi .ne v852 c0_i32_516
  v853

def k0_off99 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c0_i32_1747 : BitVec 32 := 0#32
  let v2637 : BitVec 32 := Scalar.addi v2636 c0_i32_1747
  let c4096_i32_1748 : BitVec 32 := 4096#32
  let v2638 : BitVec 32 := Scalar.muli v2637 c4096_i32_1748
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1749 : BitVec 32 := 1024#32
  let v2639 : BitVec 32 := Scalar.muli v29 c1024_i32_1749
  let v2640 : BitVec 32 := Scalar.addi v2638 v2639
  let c0_i32_1750 : BitVec 32 := 0#32
  let v2641 : BitVec 32 := Scalar.addi v2640 c0_i32_1750
  let c0_i32_1757 : BitVec 32 := 0#32
  ![v2641.toNat, 0]
def k0_cond87 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_531 : BitVec 32 := 2#32
  let v878 : BitVec 1 := Scalar.cmpi .sge v8 c2_i32_531
  let v879 : BitVec 32 := Scalar.extui v878
  let c0_i32_532 : BitVec 32 := 0#32
  let v880 : BitVec 1 := Scalar.cmpi .ne v879 c0_i32_532
  v880

def k0_off100 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c1_i32_1747 : BitVec 32 := 1#32
  let v2637 : BitVec 32 := Scalar.subi v2636 c1_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c128_i32_1750 : BitVec 32 := 128#32
  let v2641 : BitVec 32 := Scalar.addi v2640 c128_i32_1750
  let c0_i32_1756 : BitVec 32 := 0#32
  ![v2641.toNat, 0]
def k0_dev89 (d0 : Dev nD) : Nat :=
  let c0_i32_1766 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1765 : BitVec 32 := 16#32
  let v2658 : BitVec 32 := Scalar.muli v31 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1767 : BitVec 32 := 4#32
  let v2660 : BitVec 32 := Scalar.muli v5 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_dev90 (d0 : Dev nD) : Nat :=
  let c0_i32_1779 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1778 : BitVec 32 := 16#32
  let v2676 : BitVec 32 := Scalar.muli v2 c16_i32_1778
  let v2677 : BitVec 32 := Scalar.addi c0_i32_1779 v2676
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1780 : BitVec 32 := 4#32
  let v2678 : BitVec 32 := Scalar.muli v21 c4_i32_1780
  let v2679 : BitVec 32 := Scalar.addi v2677 v2678
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1781 : BitVec 32 := 1#32
  let v2680 : BitVec 32 := Scalar.muli v8 c1_i32_1781
  let v2681 : BitVec 32 := Scalar.addi v2679 v2680
  v2681.toNat
def k0_cond88 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_533 : BitVec 32 := 2#32
  let v881 : BitVec 1 := Scalar.cmpi .sle v8 c2_i32_533
  let c2_i32_534 : BitVec 32 := 2#32
  let v882 : BitVec 1 := Scalar.cmpi .sge v8 c2_i32_534
  let v883 : BitVec 1 := Scalar.andi v881 v882
  let v884 : BitVec 32 := Scalar.extui v883
  let c0_i32_535 : BitVec 32 := 0#32
  let v885 : BitVec 1 := Scalar.cmpi .ne v884 c0_i32_535
  v885

def k0_off101 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1746 : BitVec 32 := 2#32
  let v2636 : BitVec 32 := Scalar.subi v8 c2_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c128_i32_1749 : BitVec 32 := 128#32
  let v2640 : BitVec 32 := Scalar.addi v2639 c128_i32_1749
  let c0_i32_1756 : BitVec 32 := 0#32
  ![v2640.toNat, 0]
def k0_dev91 (d0 : Dev nD) : Nat :=
  let c0_i32_1753 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1752 : BitVec 32 := 16#32
  let v2642 : BitVec 32 := Scalar.muli v2 c16_i32_1752
  let v2643 : BitVec 32 := Scalar.addi c0_i32_1753 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1754 : BitVec 32 := 4#32
  let v2644 : BitVec 32 := Scalar.muli v5 c4_i32_1754
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.addi v8 c1_i32_1750
  let c1_i32_1755 : BitVec 32 := 1#32
  let v2646 : BitVec 32 := Scalar.muli v2641 c1_i32_1755
  let v2647 : BitVec 32 := Scalar.addi v2645 v2646
  v2647.toNat
def k0_cond89 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_536 : BitVec 32 := 1#32
  let v886 : BitVec 32 := Scalar.addi v8 c1_i32_536
  let c1_i32_537 : BitVec 32 := 1#32
  let v887 : BitVec 32 := Scalar.addi v886 c1_i32_537
  let c3_i32_538 : BitVec 32 := 3#32
  let v888 : BitVec 1 := Scalar.cmpi .sle v887 c3_i32_538
  let v889 : BitVec 32 := Scalar.extui v888
  let c0_i32_539 : BitVec 32 := 0#32
  let v890 : BitVec 1 := Scalar.cmpi .ne v889 c0_i32_539
  v890

def k0_off102 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c1_i32_1747 : BitVec 32 := 1#32
  let v2637 : BitVec 32 := Scalar.addi v2636 c1_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c128_i32_1750 : BitVec 32 := 128#32
  let v2641 : BitVec 32 := Scalar.addi v2640 c128_i32_1750
  let c0_i32_1756 : BitVec 32 := 0#32
  ![v2641.toNat, 0]
def k0_dev92 (d0 : Dev nD) : Nat :=
  let c0_i32_1766 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1765 : BitVec 32 := 16#32
  let v2658 : BitVec 32 := Scalar.muli v31 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1767 : BitVec 32 := 4#32
  let v2660 : BitVec 32 := Scalar.muli v5 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_dev93 (d0 : Dev nD) : Nat :=
  let c0_i32_1779 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1778 : BitVec 32 := 16#32
  let v2676 : BitVec 32 := Scalar.muli v2 c16_i32_1778
  let v2677 : BitVec 32 := Scalar.addi c0_i32_1779 v2676
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1780 : BitVec 32 := 4#32
  let v2678 : BitVec 32 := Scalar.muli v21 c4_i32_1780
  let v2679 : BitVec 32 := Scalar.addi v2677 v2678
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1781 : BitVec 32 := 1#32
  let v2680 : BitVec 32 := Scalar.muli v8 c1_i32_1781
  let v2681 : BitVec 32 := Scalar.addi v2679 v2680
  v2681.toNat
def k0_cond90 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_540 : BitVec 32 := 1#32
  let v891 : BitVec 1 := Scalar.cmpi .sge v8 c1_i32_540
  let c2_i32_541 : BitVec 32 := 2#32
  let v892 : BitVec 32 := Scalar.addi v8 c2_i32_541
  let c3_i32_542 : BitVec 32 := 3#32
  let v893 : BitVec 1 := Scalar.cmpi .sle v892 c3_i32_542
  let v894 : BitVec 1 := Scalar.andi v891 v893
  let v895 : BitVec 32 := Scalar.extui v894
  let c0_i32_543 : BitVec 32 := 0#32
  let v896 : BitVec 1 := Scalar.cmpi .ne v895 c0_i32_543
  v896

def k0_off103 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1746 : BitVec 32 := 2#32
  let v2636 : BitVec 32 := Scalar.addi v8 c2_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c128_i32_1749 : BitVec 32 := 128#32
  let v2640 : BitVec 32 := Scalar.addi v2639 c128_i32_1749
  let c0_i32_1756 : BitVec 32 := 0#32
  ![v2640.toNat, 0]
def k0_dev94 (d0 : Dev nD) : Nat :=
  let c0_i32_1753 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1752 : BitVec 32 := 16#32
  let v2642 : BitVec 32 := Scalar.muli v2 c16_i32_1752
  let v2643 : BitVec 32 := Scalar.addi c0_i32_1753 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1754 : BitVec 32 := 4#32
  let v2644 : BitVec 32 := Scalar.muli v5 c4_i32_1754
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.subi v8 c1_i32_1750
  let c1_i32_1755 : BitVec 32 := 1#32
  let v2646 : BitVec 32 := Scalar.muli v2641 c1_i32_1755
  let v2647 : BitVec 32 := Scalar.addi v2645 v2646
  v2647.toNat
def k0_cond91 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_544 : BitVec 32 := 2#32
  let v897 : BitVec 1 := Scalar.cmpi .sge v8 c2_i32_544
  let v898 : BitVec 32 := Scalar.extui v897
  let c0_i32_545 : BitVec 32 := 0#32
  let v899 : BitVec 1 := Scalar.cmpi .ne v898 c0_i32_545
  v899

def k0_off104 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c1_i32_1747 : BitVec 32 := 1#32
  let v2637 : BitVec 32 := Scalar.subi v2636 c1_i32_1747
  let c4096_i32_1748 : BitVec 32 := 4096#32
  let v2638 : BitVec 32 := Scalar.muli v2637 c4096_i32_1748
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1749 : BitVec 32 := 1024#32
  let v2639 : BitVec 32 := Scalar.muli v30 c1024_i32_1749
  let v2640 : BitVec 32 := Scalar.addi v2638 v2639
  let c128_i32_1750 : BitVec 32 := 128#32
  let v2641 : BitVec 32 := Scalar.addi v2640 c128_i32_1750
  let c0_i32_1757 : BitVec 32 := 0#32
  ![v2641.toNat, 0]
def k0_cond92 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_546 : BitVec 32 := 2#32
  let v900 : BitVec 1 := Scalar.cmpi .sle v8 c2_i32_546
  let c2_i32_547 : BitVec 32 := 2#32
  let v901 : BitVec 1 := Scalar.cmpi .sge v8 c2_i32_547
  let v902 : BitVec 1 := Scalar.andi v900 v901
  let v903 : BitVec 32 := Scalar.extui v902
  let c0_i32_548 : BitVec 32 := 0#32
  let v904 : BitVec 1 := Scalar.cmpi .ne v903 c0_i32_548
  v904

def k0_off105 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1746 : BitVec 32 := 2#32
  let v2636 : BitVec 32 := Scalar.subi v8 c2_i32_1746
  let c4096_i32_1747 : BitVec 32 := 4096#32
  let v2637 : BitVec 32 := Scalar.muli v2636 c4096_i32_1747
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1748 : BitVec 32 := 1024#32
  let v2638 : BitVec 32 := Scalar.muli v30 c1024_i32_1748
  let v2639 : BitVec 32 := Scalar.addi v2637 v2638
  let c128_i32_1749 : BitVec 32 := 128#32
  let v2640 : BitVec 32 := Scalar.addi v2639 c128_i32_1749
  let c0_i32_1756 : BitVec 32 := 0#32
  ![v2640.toNat, 0]
def k0_dev95 (d0 : Dev nD) : Nat :=
  let c0_i32_1753 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1752 : BitVec 32 := 16#32
  let v2642 : BitVec 32 := Scalar.muli v2 c16_i32_1752
  let v2643 : BitVec 32 := Scalar.addi c0_i32_1753 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1754 : BitVec 32 := 4#32
  let v2644 : BitVec 32 := Scalar.muli v5 c4_i32_1754
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.addi v8 c1_i32_1750
  let c1_i32_1755 : BitVec 32 := 1#32
  let v2646 : BitVec 32 := Scalar.muli v2641 c1_i32_1755
  let v2647 : BitVec 32 := Scalar.addi v2645 v2646
  v2647.toNat
def k0_cond93 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_549 : BitVec 32 := 1#32
  let v905 : BitVec 32 := Scalar.addi v8 c1_i32_549
  let c1_i32_550 : BitVec 32 := 1#32
  let v906 : BitVec 32 := Scalar.addi v905 c1_i32_550
  let c3_i32_551 : BitVec 32 := 3#32
  let v907 : BitVec 1 := Scalar.cmpi .sle v906 c3_i32_551
  let v908 : BitVec 32 := Scalar.extui v907
  let c0_i32_552 : BitVec 32 := 0#32
  let v909 : BitVec 1 := Scalar.cmpi .ne v908 c0_i32_552
  v909

def k0_off106 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c1_i32_1747 : BitVec 32 := 1#32
  let v2637 : BitVec 32 := Scalar.addi v2636 c1_i32_1747
  let c4096_i32_1748 : BitVec 32 := 4096#32
  let v2638 : BitVec 32 := Scalar.muli v2637 c4096_i32_1748
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1749 : BitVec 32 := 1024#32
  let v2639 : BitVec 32 := Scalar.muli v30 c1024_i32_1749
  let v2640 : BitVec 32 := Scalar.addi v2638 v2639
  let c128_i32_1750 : BitVec 32 := 128#32
  let v2641 : BitVec 32 := Scalar.addi v2640 c128_i32_1750
  let c0_i32_1757 : BitVec 32 := 0#32
  ![v2641.toNat, 0]
def k0_cond94 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_553 : BitVec 32 := 1#32
  let v910 : BitVec 1 := Scalar.cmpi .sge v8 c1_i32_553
  let c2_i32_554 : BitVec 32 := 2#32
  let v911 : BitVec 32 := Scalar.addi v8 c2_i32_554
  let c3_i32_555 : BitVec 32 := 3#32
  let v912 : BitVec 1 := Scalar.cmpi .sle v911 c3_i32_555
  let v913 : BitVec 1 := Scalar.andi v910 v912
  let v914 : BitVec 32 := Scalar.extui v913
  let c0_i32_556 : BitVec 32 := 0#32
  let v915 : BitVec 1 := Scalar.cmpi .ne v914 c0_i32_556
  v915

def k0_off107 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1746 : BitVec 32 := 2#32
  let v2636 : BitVec 32 := Scalar.addi v8 c2_i32_1746
  let c4096_i32_1747 : BitVec 32 := 4096#32
  let v2637 : BitVec 32 := Scalar.muli v2636 c4096_i32_1747
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1748 : BitVec 32 := 1024#32
  let v2638 : BitVec 32 := Scalar.muli v30 c1024_i32_1748
  let v2639 : BitVec 32 := Scalar.addi v2637 v2638
  let c128_i32_1749 : BitVec 32 := 128#32
  let v2640 : BitVec 32 := Scalar.addi v2639 c128_i32_1749
  let c0_i32_1756 : BitVec 32 := 0#32
  ![v2640.toNat, 0]
def k0_dev96 (d0 : Dev nD) : Nat :=
  let c0_i32_1753 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1752 : BitVec 32 := 16#32
  let v2642 : BitVec 32 := Scalar.muli v2 c16_i32_1752
  let v2643 : BitVec 32 := Scalar.addi c0_i32_1753 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1754 : BitVec 32 := 4#32
  let v2644 : BitVec 32 := Scalar.muli v5 c4_i32_1754
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.subi v8 c1_i32_1750
  let c1_i32_1755 : BitVec 32 := 1#32
  let v2646 : BitVec 32 := Scalar.muli v2641 c1_i32_1755
  let v2647 : BitVec 32 := Scalar.addi v2645 v2646
  v2647.toNat
def k0_cond95 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_557 : BitVec 32 := 1#32
  let v916 : BitVec 1 := Scalar.cmpi .sge v8 c1_i32_557
  let v917 : BitVec 32 := Scalar.extui v916
  let c0_i32_558 : BitVec 32 := 0#32
  let v918 : BitVec 1 := Scalar.cmpi .ne v917 c0_i32_558
  v918

def k0_off108 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c0_i32_1747 : BitVec 32 := 0#32
  let v2637 : BitVec 32 := Scalar.subi v2636 c0_i32_1747
  let c4096_i32_1748 : BitVec 32 := 4096#32
  let v2638 : BitVec 32 := Scalar.muli v2637 c4096_i32_1748
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1749 : BitVec 32 := 1024#32
  let v2639 : BitVec 32 := Scalar.muli v26 c1024_i32_1749
  let v2640 : BitVec 32 := Scalar.addi v2638 v2639
  let c128_i32_1750 : BitVec 32 := 128#32
  let v2641 : BitVec 32 := Scalar.addi v2640 c128_i32_1750
  let c0_i32_1757 : BitVec 32 := 0#32
  ![v2641.toNat, 0]
def k0_cond96 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_559 : BitVec 32 := 1#32
  let v919 : BitVec 1 := Scalar.cmpi .sge v8 c1_i32_559
  let v920 : BitVec 32 := Scalar.extui v919
  let c0_i32_560 : BitVec 32 := 0#32
  let v921 : BitVec 1 := Scalar.cmpi .ne v920 c0_i32_560
  v921

def k0_off109 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c0_i32_1747 : BitVec 32 := 0#32
  let v2637 : BitVec 32 := Scalar.subi v2636 c0_i32_1747
  let c4096_i32_1748 : BitVec 32 := 4096#32
  let v2638 : BitVec 32 := Scalar.muli v2637 c4096_i32_1748
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1749 : BitVec 32 := 1024#32
  let v2639 : BitVec 32 := Scalar.muli v29 c1024_i32_1749
  let v2640 : BitVec 32 := Scalar.addi v2638 v2639
  let c128_i32_1750 : BitVec 32 := 128#32
  let v2641 : BitVec 32 := Scalar.addi v2640 c128_i32_1750
  let c0_i32_1757 : BitVec 32 := 0#32
  ![v2641.toNat, 0]
def k0_cond97 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_561 : BitVec 32 := 1#32
  let v922 : BitVec 32 := Scalar.addi v8 c1_i32_561
  let c0_i32_562 : BitVec 32 := 0#32
  let v923 : BitVec 32 := Scalar.addi v922 c0_i32_562
  let c3_i32_563 : BitVec 32 := 3#32
  let v924 : BitVec 1 := Scalar.cmpi .sle v923 c3_i32_563
  let v925 : BitVec 32 := Scalar.extui v924
  let c0_i32_564 : BitVec 32 := 0#32
  let v926 : BitVec 1 := Scalar.cmpi .ne v925 c0_i32_564
  v926

def k0_off110 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c0_i32_1747 : BitVec 32 := 0#32
  let v2637 : BitVec 32 := Scalar.addi v2636 c0_i32_1747
  let c4096_i32_1748 : BitVec 32 := 4096#32
  let v2638 : BitVec 32 := Scalar.muli v2637 c4096_i32_1748
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1749 : BitVec 32 := 1024#32
  let v2639 : BitVec 32 := Scalar.muli v26 c1024_i32_1749
  let v2640 : BitVec 32 := Scalar.addi v2638 v2639
  let c128_i32_1750 : BitVec 32 := 128#32
  let v2641 : BitVec 32 := Scalar.addi v2640 c128_i32_1750
  let c0_i32_1757 : BitVec 32 := 0#32
  ![v2641.toNat, 0]
def k0_cond98 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_565 : BitVec 32 := 1#32
  let v927 : BitVec 32 := Scalar.addi v8 c1_i32_565
  let c0_i32_566 : BitVec 32 := 0#32
  let v928 : BitVec 32 := Scalar.addi v927 c0_i32_566
  let c3_i32_567 : BitVec 32 := 3#32
  let v929 : BitVec 1 := Scalar.cmpi .sle v928 c3_i32_567
  let v930 : BitVec 32 := Scalar.extui v929
  let c0_i32_568 : BitVec 32 := 0#32
  let v931 : BitVec 1 := Scalar.cmpi .ne v930 c0_i32_568
  v931

def k0_off111 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c0_i32_1747 : BitVec 32 := 0#32
  let v2637 : BitVec 32 := Scalar.addi v2636 c0_i32_1747
  let c4096_i32_1748 : BitVec 32 := 4096#32
  let v2638 : BitVec 32 := Scalar.muli v2637 c4096_i32_1748
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1749 : BitVec 32 := 1024#32
  let v2639 : BitVec 32 := Scalar.muli v29 c1024_i32_1749
  let v2640 : BitVec 32 := Scalar.addi v2638 v2639
  let c128_i32_1750 : BitVec 32 := 128#32
  let v2641 : BitVec 32 := Scalar.addi v2640 c128_i32_1750
  let c0_i32_1757 : BitVec 32 := 0#32
  ![v2641.toNat, 0]
def k0_cond99 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_597 : BitVec 32 := 2#32
  let v980 : BitVec 1 := Scalar.cmpi .sge v8 c2_i32_597
  let v981 : BitVec 32 := Scalar.extui v980
  let c0_i32_598 : BitVec 32 := 0#32
  let v982 : BitVec 1 := Scalar.cmpi .ne v981 c0_i32_598
  v982

def k0_off112 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c1_i32_1747 : BitVec 32 := 1#32
  let v2637 : BitVec 32 := Scalar.subi v2636 c1_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c256_i32_1750 : BitVec 32 := 256#32
  let v2641 : BitVec 32 := Scalar.addi v2640 c256_i32_1750
  let c0_i32_1756 : BitVec 32 := 0#32
  ![v2641.toNat, 0]
def k0_dev97 (d0 : Dev nD) : Nat :=
  let c0_i32_1766 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1765 : BitVec 32 := 16#32
  let v2658 : BitVec 32 := Scalar.muli v31 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1767 : BitVec 32 := 4#32
  let v2660 : BitVec 32 := Scalar.muli v5 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_dev98 (d0 : Dev nD) : Nat :=
  let c0_i32_1779 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1778 : BitVec 32 := 16#32
  let v2676 : BitVec 32 := Scalar.muli v2 c16_i32_1778
  let v2677 : BitVec 32 := Scalar.addi c0_i32_1779 v2676
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1780 : BitVec 32 := 4#32
  let v2678 : BitVec 32 := Scalar.muli v21 c4_i32_1780
  let v2679 : BitVec 32 := Scalar.addi v2677 v2678
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1781 : BitVec 32 := 1#32
  let v2680 : BitVec 32 := Scalar.muli v8 c1_i32_1781
  let v2681 : BitVec 32 := Scalar.addi v2679 v2680
  v2681.toNat
def k0_cond100 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_599 : BitVec 32 := 2#32
  let v983 : BitVec 1 := Scalar.cmpi .sle v8 c2_i32_599
  let c2_i32_600 : BitVec 32 := 2#32
  let v984 : BitVec 1 := Scalar.cmpi .sge v8 c2_i32_600
  let v985 : BitVec 1 := Scalar.andi v983 v984
  let v986 : BitVec 32 := Scalar.extui v985
  let c0_i32_601 : BitVec 32 := 0#32
  let v987 : BitVec 1 := Scalar.cmpi .ne v986 c0_i32_601
  v987

def k0_off113 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1746 : BitVec 32 := 2#32
  let v2636 : BitVec 32 := Scalar.subi v8 c2_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c256_i32_1749 : BitVec 32 := 256#32
  let v2640 : BitVec 32 := Scalar.addi v2639 c256_i32_1749
  let c0_i32_1756 : BitVec 32 := 0#32
  ![v2640.toNat, 0]
def k0_dev99 (d0 : Dev nD) : Nat :=
  let c0_i32_1753 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1752 : BitVec 32 := 16#32
  let v2642 : BitVec 32 := Scalar.muli v2 c16_i32_1752
  let v2643 : BitVec 32 := Scalar.addi c0_i32_1753 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1754 : BitVec 32 := 4#32
  let v2644 : BitVec 32 := Scalar.muli v5 c4_i32_1754
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.addi v8 c1_i32_1750
  let c1_i32_1755 : BitVec 32 := 1#32
  let v2646 : BitVec 32 := Scalar.muli v2641 c1_i32_1755
  let v2647 : BitVec 32 := Scalar.addi v2645 v2646
  v2647.toNat
def k0_cond101 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_602 : BitVec 32 := 1#32
  let v988 : BitVec 32 := Scalar.addi v8 c1_i32_602
  let c1_i32_603 : BitVec 32 := 1#32
  let v989 : BitVec 32 := Scalar.addi v988 c1_i32_603
  let c3_i32_604 : BitVec 32 := 3#32
  let v990 : BitVec 1 := Scalar.cmpi .sle v989 c3_i32_604
  let v991 : BitVec 32 := Scalar.extui v990
  let c0_i32_605 : BitVec 32 := 0#32
  let v992 : BitVec 1 := Scalar.cmpi .ne v991 c0_i32_605
  v992

def k0_off114 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c1_i32_1747 : BitVec 32 := 1#32
  let v2637 : BitVec 32 := Scalar.addi v2636 c1_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c256_i32_1750 : BitVec 32 := 256#32
  let v2641 : BitVec 32 := Scalar.addi v2640 c256_i32_1750
  let c0_i32_1756 : BitVec 32 := 0#32
  ![v2641.toNat, 0]
def k0_dev100 (d0 : Dev nD) : Nat :=
  let c0_i32_1766 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1765 : BitVec 32 := 16#32
  let v2658 : BitVec 32 := Scalar.muli v31 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1767 : BitVec 32 := 4#32
  let v2660 : BitVec 32 := Scalar.muli v5 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_dev101 (d0 : Dev nD) : Nat :=
  let c0_i32_1779 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1778 : BitVec 32 := 16#32
  let v2676 : BitVec 32 := Scalar.muli v2 c16_i32_1778
  let v2677 : BitVec 32 := Scalar.addi c0_i32_1779 v2676
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1780 : BitVec 32 := 4#32
  let v2678 : BitVec 32 := Scalar.muli v21 c4_i32_1780
  let v2679 : BitVec 32 := Scalar.addi v2677 v2678
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1781 : BitVec 32 := 1#32
  let v2680 : BitVec 32 := Scalar.muli v8 c1_i32_1781
  let v2681 : BitVec 32 := Scalar.addi v2679 v2680
  v2681.toNat
def k0_cond102 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_606 : BitVec 32 := 1#32
  let v993 : BitVec 1 := Scalar.cmpi .sge v8 c1_i32_606
  let c2_i32_607 : BitVec 32 := 2#32
  let v994 : BitVec 32 := Scalar.addi v8 c2_i32_607
  let c3_i32_608 : BitVec 32 := 3#32
  let v995 : BitVec 1 := Scalar.cmpi .sle v994 c3_i32_608
  let v996 : BitVec 1 := Scalar.andi v993 v995
  let v997 : BitVec 32 := Scalar.extui v996
  let c0_i32_609 : BitVec 32 := 0#32
  let v998 : BitVec 1 := Scalar.cmpi .ne v997 c0_i32_609
  v998

def k0_off115 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1746 : BitVec 32 := 2#32
  let v2636 : BitVec 32 := Scalar.addi v8 c2_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c256_i32_1749 : BitVec 32 := 256#32
  let v2640 : BitVec 32 := Scalar.addi v2639 c256_i32_1749
  let c0_i32_1756 : BitVec 32 := 0#32
  ![v2640.toNat, 0]
def k0_dev102 (d0 : Dev nD) : Nat :=
  let c0_i32_1753 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1752 : BitVec 32 := 16#32
  let v2642 : BitVec 32 := Scalar.muli v2 c16_i32_1752
  let v2643 : BitVec 32 := Scalar.addi c0_i32_1753 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1754 : BitVec 32 := 4#32
  let v2644 : BitVec 32 := Scalar.muli v5 c4_i32_1754
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.subi v8 c1_i32_1750
  let c1_i32_1755 : BitVec 32 := 1#32
  let v2646 : BitVec 32 := Scalar.muli v2641 c1_i32_1755
  let v2647 : BitVec 32 := Scalar.addi v2645 v2646
  v2647.toNat
def k0_cond103 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_610 : BitVec 32 := 2#32
  let v999 : BitVec 1 := Scalar.cmpi .sge v8 c2_i32_610
  let v1000 : BitVec 32 := Scalar.extui v999
  let c0_i32_611 : BitVec 32 := 0#32
  let v1001 : BitVec 1 := Scalar.cmpi .ne v1000 c0_i32_611
  v1001

def k0_off116 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c1_i32_1747 : BitVec 32 := 1#32
  let v2637 : BitVec 32 := Scalar.subi v2636 c1_i32_1747
  let c4096_i32_1748 : BitVec 32 := 4096#32
  let v2638 : BitVec 32 := Scalar.muli v2637 c4096_i32_1748
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1749 : BitVec 32 := 1024#32
  let v2639 : BitVec 32 := Scalar.muli v30 c1024_i32_1749
  let v2640 : BitVec 32 := Scalar.addi v2638 v2639
  let c256_i32_1750 : BitVec 32 := 256#32
  let v2641 : BitVec 32 := Scalar.addi v2640 c256_i32_1750
  let c0_i32_1756 : BitVec 32 := 0#32
  ![v2641.toNat, 0]
def k0_cond104 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_612 : BitVec 32 := 2#32
  let v1002 : BitVec 1 := Scalar.cmpi .sle v8 c2_i32_612
  let c2_i32_613 : BitVec 32 := 2#32
  let v1003 : BitVec 1 := Scalar.cmpi .sge v8 c2_i32_613
  let v1004 : BitVec 1 := Scalar.andi v1002 v1003
  let v1005 : BitVec 32 := Scalar.extui v1004
  let c0_i32_614 : BitVec 32 := 0#32
  let v1006 : BitVec 1 := Scalar.cmpi .ne v1005 c0_i32_614
  v1006

def k0_off117 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1746 : BitVec 32 := 2#32
  let v2636 : BitVec 32 := Scalar.subi v8 c2_i32_1746
  let c4096_i32_1747 : BitVec 32 := 4096#32
  let v2637 : BitVec 32 := Scalar.muli v2636 c4096_i32_1747
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1748 : BitVec 32 := 1024#32
  let v2638 : BitVec 32 := Scalar.muli v30 c1024_i32_1748
  let v2639 : BitVec 32 := Scalar.addi v2637 v2638
  let c256_i32_1749 : BitVec 32 := 256#32
  let v2640 : BitVec 32 := Scalar.addi v2639 c256_i32_1749
  let c0_i32_1756 : BitVec 32 := 0#32
  ![v2640.toNat, 0]
def k0_dev103 (d0 : Dev nD) : Nat :=
  let c0_i32_1753 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1752 : BitVec 32 := 16#32
  let v2642 : BitVec 32 := Scalar.muli v2 c16_i32_1752
  let v2643 : BitVec 32 := Scalar.addi c0_i32_1753 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1754 : BitVec 32 := 4#32
  let v2644 : BitVec 32 := Scalar.muli v5 c4_i32_1754
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.addi v8 c1_i32_1750
  let c1_i32_1755 : BitVec 32 := 1#32
  let v2646 : BitVec 32 := Scalar.muli v2641 c1_i32_1755
  let v2647 : BitVec 32 := Scalar.addi v2645 v2646
  v2647.toNat
def k0_cond105 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_615 : BitVec 32 := 1#32
  let v1007 : BitVec 32 := Scalar.addi v8 c1_i32_615
  let c1_i32_616 : BitVec 32 := 1#32
  let v1008 : BitVec 32 := Scalar.addi v1007 c1_i32_616
  let c3_i32_617 : BitVec 32 := 3#32
  let v1009 : BitVec 1 := Scalar.cmpi .sle v1008 c3_i32_617
  let v1010 : BitVec 32 := Scalar.extui v1009
  let c0_i32_618 : BitVec 32 := 0#32
  let v1011 : BitVec 1 := Scalar.cmpi .ne v1010 c0_i32_618
  v1011

def k0_off118 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c1_i32_1747 : BitVec 32 := 1#32
  let v2637 : BitVec 32 := Scalar.addi v2636 c1_i32_1747
  let c4096_i32_1748 : BitVec 32 := 4096#32
  let v2638 : BitVec 32 := Scalar.muli v2637 c4096_i32_1748
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1749 : BitVec 32 := 1024#32
  let v2639 : BitVec 32 := Scalar.muli v30 c1024_i32_1749
  let v2640 : BitVec 32 := Scalar.addi v2638 v2639
  let c256_i32_1750 : BitVec 32 := 256#32
  let v2641 : BitVec 32 := Scalar.addi v2640 c256_i32_1750
  let c0_i32_1756 : BitVec 32 := 0#32
  ![v2641.toNat, 0]
def k0_cond106 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_619 : BitVec 32 := 1#32
  let v1012 : BitVec 1 := Scalar.cmpi .sge v8 c1_i32_619
  let c2_i32_620 : BitVec 32 := 2#32
  let v1013 : BitVec 32 := Scalar.addi v8 c2_i32_620
  let c3_i32_621 : BitVec 32 := 3#32
  let v1014 : BitVec 1 := Scalar.cmpi .sle v1013 c3_i32_621
  let v1015 : BitVec 1 := Scalar.andi v1012 v1014
  let v1016 : BitVec 32 := Scalar.extui v1015
  let c0_i32_622 : BitVec 32 := 0#32
  let v1017 : BitVec 1 := Scalar.cmpi .ne v1016 c0_i32_622
  v1017

def k0_off119 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1746 : BitVec 32 := 2#32
  let v2636 : BitVec 32 := Scalar.addi v8 c2_i32_1746
  let c4096_i32_1747 : BitVec 32 := 4096#32
  let v2637 : BitVec 32 := Scalar.muli v2636 c4096_i32_1747
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1748 : BitVec 32 := 1024#32
  let v2638 : BitVec 32 := Scalar.muli v30 c1024_i32_1748
  let v2639 : BitVec 32 := Scalar.addi v2637 v2638
  let c256_i32_1749 : BitVec 32 := 256#32
  let v2640 : BitVec 32 := Scalar.addi v2639 c256_i32_1749
  let c0_i32_1756 : BitVec 32 := 0#32
  ![v2640.toNat, 0]
def k0_dev104 (d0 : Dev nD) : Nat :=
  let c0_i32_1753 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1752 : BitVec 32 := 16#32
  let v2642 : BitVec 32 := Scalar.muli v2 c16_i32_1752
  let v2643 : BitVec 32 := Scalar.addi c0_i32_1753 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1754 : BitVec 32 := 4#32
  let v2644 : BitVec 32 := Scalar.muli v5 c4_i32_1754
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.subi v8 c1_i32_1750
  let c1_i32_1755 : BitVec 32 := 1#32
  let v2646 : BitVec 32 := Scalar.muli v2641 c1_i32_1755
  let v2647 : BitVec 32 := Scalar.addi v2645 v2646
  v2647.toNat
def k0_cond107 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_623 : BitVec 32 := 1#32
  let v1018 : BitVec 1 := Scalar.cmpi .sge v8 c1_i32_623
  let v1019 : BitVec 32 := Scalar.extui v1018
  let c0_i32_624 : BitVec 32 := 0#32
  let v1020 : BitVec 1 := Scalar.cmpi .ne v1019 c0_i32_624
  v1020

def k0_off120 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c0_i32_1747 : BitVec 32 := 0#32
  let v2637 : BitVec 32 := Scalar.subi v2636 c0_i32_1747
  let c4096_i32_1748 : BitVec 32 := 4096#32
  let v2638 : BitVec 32 := Scalar.muli v2637 c4096_i32_1748
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1749 : BitVec 32 := 1024#32
  let v2639 : BitVec 32 := Scalar.muli v26 c1024_i32_1749
  let v2640 : BitVec 32 := Scalar.addi v2638 v2639
  let c256_i32_1750 : BitVec 32 := 256#32
  let v2641 : BitVec 32 := Scalar.addi v2640 c256_i32_1750
  let c0_i32_1757 : BitVec 32 := 0#32
  ![v2641.toNat, 0]
def k0_cond108 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_625 : BitVec 32 := 1#32
  let v1021 : BitVec 1 := Scalar.cmpi .sge v8 c1_i32_625
  let v1022 : BitVec 32 := Scalar.extui v1021
  let c0_i32_626 : BitVec 32 := 0#32
  let v1023 : BitVec 1 := Scalar.cmpi .ne v1022 c0_i32_626
  v1023

def k0_off121 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c0_i32_1747 : BitVec 32 := 0#32
  let v2637 : BitVec 32 := Scalar.subi v2636 c0_i32_1747
  let c4096_i32_1748 : BitVec 32 := 4096#32
  let v2638 : BitVec 32 := Scalar.muli v2637 c4096_i32_1748
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1749 : BitVec 32 := 1024#32
  let v2639 : BitVec 32 := Scalar.muli v29 c1024_i32_1749
  let v2640 : BitVec 32 := Scalar.addi v2638 v2639
  let c256_i32_1750 : BitVec 32 := 256#32
  let v2641 : BitVec 32 := Scalar.addi v2640 c256_i32_1750
  let c0_i32_1757 : BitVec 32 := 0#32
  ![v2641.toNat, 0]
def k0_cond109 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_627 : BitVec 32 := 1#32
  let v1024 : BitVec 32 := Scalar.addi v8 c1_i32_627
  let c0_i32_628 : BitVec 32 := 0#32
  let v1025 : BitVec 32 := Scalar.addi v1024 c0_i32_628
  let c3_i32_629 : BitVec 32 := 3#32
  let v1026 : BitVec 1 := Scalar.cmpi .sle v1025 c3_i32_629
  let v1027 : BitVec 32 := Scalar.extui v1026
  let c0_i32_630 : BitVec 32 := 0#32
  let v1028 : BitVec 1 := Scalar.cmpi .ne v1027 c0_i32_630
  v1028

def k0_off122 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c0_i32_1747 : BitVec 32 := 0#32
  let v2637 : BitVec 32 := Scalar.addi v2636 c0_i32_1747
  let c4096_i32_1748 : BitVec 32 := 4096#32
  let v2638 : BitVec 32 := Scalar.muli v2637 c4096_i32_1748
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1749 : BitVec 32 := 1024#32
  let v2639 : BitVec 32 := Scalar.muli v26 c1024_i32_1749
  let v2640 : BitVec 32 := Scalar.addi v2638 v2639
  let c256_i32_1750 : BitVec 32 := 256#32
  let v2641 : BitVec 32 := Scalar.addi v2640 c256_i32_1750
  let c0_i32_1757 : BitVec 32 := 0#32
  ![v2641.toNat, 0]
def k0_cond110 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_631 : BitVec 32 := 1#32
  let v1029 : BitVec 32 := Scalar.addi v8 c1_i32_631
  let c0_i32_632 : BitVec 32 := 0#32
  let v1030 : BitVec 32 := Scalar.addi v1029 c0_i32_632
  let c3_i32_633 : BitVec 32 := 3#32
  let v1031 : BitVec 1 := Scalar.cmpi .sle v1030 c3_i32_633
  let v1032 : BitVec 32 := Scalar.extui v1031
  let c0_i32_634 : BitVec 32 := 0#32
  let v1033 : BitVec 1 := Scalar.cmpi .ne v1032 c0_i32_634
  v1033

def k0_off123 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c0_i32_1747 : BitVec 32 := 0#32
  let v2637 : BitVec 32 := Scalar.addi v2636 c0_i32_1747
  let c4096_i32_1748 : BitVec 32 := 4096#32
  let v2638 : BitVec 32 := Scalar.muli v2637 c4096_i32_1748
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1749 : BitVec 32 := 1024#32
  let v2639 : BitVec 32 := Scalar.muli v29 c1024_i32_1749
  let v2640 : BitVec 32 := Scalar.addi v2638 v2639
  let c256_i32_1750 : BitVec 32 := 256#32
  let v2641 : BitVec 32 := Scalar.addi v2640 c256_i32_1750
  let c0_i32_1757 : BitVec 32 := 0#32
  ![v2641.toNat, 0]
def k0_cond111 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_663 : BitVec 32 := 2#32
  let v1079 : BitVec 1 := Scalar.cmpi .sge v8 c2_i32_663
  let v1080 : BitVec 32 := Scalar.extui v1079
  let c0_i32_664 : BitVec 32 := 0#32
  let v1081 : BitVec 1 := Scalar.cmpi .ne v1080 c0_i32_664
  v1081

def k0_off124 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c1_i32_1747 : BitVec 32 := 1#32
  let v2637 : BitVec 32 := Scalar.subi v2636 c1_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c384_i32_1750 : BitVec 32 := 384#32
  let v2641 : BitVec 32 := Scalar.addi v2640 c384_i32_1750
  let c0_i32_1757 : BitVec 32 := 0#32
  ![v2641.toNat, 0]
def k0_dev105 (d0 : Dev nD) : Nat :=
  let c0_i32_1767 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1766 : BitVec 32 := 16#32
  let v2658 : BitVec 32 := Scalar.muli v31 c16_i32_1766
  let v2659 : BitVec 32 := Scalar.addi c0_i32_1767 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1768 : BitVec 32 := 4#32
  let v2660 : BitVec 32 := Scalar.muli v5 c4_i32_1768
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1769 : BitVec 32 := 1#32
  let v2662 : BitVec 32 := Scalar.muli v8 c1_i32_1769
  let v2663 : BitVec 32 := Scalar.addi v2661 v2662
  v2663.toNat
def k0_dev106 (d0 : Dev nD) : Nat :=
  let c0_i32_1780 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1779 : BitVec 32 := 16#32
  let v2676 : BitVec 32 := Scalar.muli v2 c16_i32_1779
  let v2677 : BitVec 32 := Scalar.addi c0_i32_1780 v2676
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1781 : BitVec 32 := 4#32
  let v2678 : BitVec 32 := Scalar.muli v21 c4_i32_1781
  let v2679 : BitVec 32 := Scalar.addi v2677 v2678
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1782 : BitVec 32 := 1#32
  let v2680 : BitVec 32 := Scalar.muli v8 c1_i32_1782
  let v2681 : BitVec 32 := Scalar.addi v2679 v2680
  v2681.toNat
def k0_cond112 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_665 : BitVec 32 := 2#32
  let v1082 : BitVec 1 := Scalar.cmpi .sle v8 c2_i32_665
  let c2_i32_666 : BitVec 32 := 2#32
  let v1083 : BitVec 1 := Scalar.cmpi .sge v8 c2_i32_666
  let v1084 : BitVec 1 := Scalar.andi v1082 v1083
  let v1085 : BitVec 32 := Scalar.extui v1084
  let c0_i32_667 : BitVec 32 := 0#32
  let v1086 : BitVec 1 := Scalar.cmpi .ne v1085 c0_i32_667
  v1086

def k0_off125 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1746 : BitVec 32 := 2#32
  let v2636 : BitVec 32 := Scalar.subi v8 c2_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c384_i32_1749 : BitVec 32 := 384#32
  let v2640 : BitVec 32 := Scalar.addi v2639 c384_i32_1749
  let c0_i32_1756 : BitVec 32 := 0#32
  ![v2640.toNat, 0]
def k0_dev107 (d0 : Dev nD) : Nat :=
  let c0_i32_1753 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1752 : BitVec 32 := 16#32
  let v2642 : BitVec 32 := Scalar.muli v2 c16_i32_1752
  let v2643 : BitVec 32 := Scalar.addi c0_i32_1753 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1754 : BitVec 32 := 4#32
  let v2644 : BitVec 32 := Scalar.muli v5 c4_i32_1754
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.addi v8 c1_i32_1750
  let c1_i32_1755 : BitVec 32 := 1#32
  let v2646 : BitVec 32 := Scalar.muli v2641 c1_i32_1755
  let v2647 : BitVec 32 := Scalar.addi v2645 v2646
  v2647.toNat
def k0_cond113 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_668 : BitVec 32 := 1#32
  let v1087 : BitVec 32 := Scalar.addi v8 c1_i32_668
  let c1_i32_669 : BitVec 32 := 1#32
  let v1088 : BitVec 32 := Scalar.addi v1087 c1_i32_669
  let c3_i32_670 : BitVec 32 := 3#32
  let v1089 : BitVec 1 := Scalar.cmpi .sle v1088 c3_i32_670
  let v1090 : BitVec 32 := Scalar.extui v1089
  let c0_i32_671 : BitVec 32 := 0#32
  let v1091 : BitVec 1 := Scalar.cmpi .ne v1090 c0_i32_671
  v1091

def k0_off126 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c1_i32_1747 : BitVec 32 := 1#32
  let v2637 : BitVec 32 := Scalar.addi v2636 c1_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c384_i32_1750 : BitVec 32 := 384#32
  let v2641 : BitVec 32 := Scalar.addi v2640 c384_i32_1750
  let c0_i32_1757 : BitVec 32 := 0#32
  ![v2641.toNat, 0]
def k0_dev108 (d0 : Dev nD) : Nat :=
  let c0_i32_1767 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1766 : BitVec 32 := 16#32
  let v2658 : BitVec 32 := Scalar.muli v31 c16_i32_1766
  let v2659 : BitVec 32 := Scalar.addi c0_i32_1767 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1768 : BitVec 32 := 4#32
  let v2660 : BitVec 32 := Scalar.muli v5 c4_i32_1768
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1769 : BitVec 32 := 1#32
  let v2662 : BitVec 32 := Scalar.muli v8 c1_i32_1769
  let v2663 : BitVec 32 := Scalar.addi v2661 v2662
  v2663.toNat
def k0_dev109 (d0 : Dev nD) : Nat :=
  let c0_i32_1780 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1779 : BitVec 32 := 16#32
  let v2676 : BitVec 32 := Scalar.muli v2 c16_i32_1779
  let v2677 : BitVec 32 := Scalar.addi c0_i32_1780 v2676
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1781 : BitVec 32 := 4#32
  let v2678 : BitVec 32 := Scalar.muli v21 c4_i32_1781
  let v2679 : BitVec 32 := Scalar.addi v2677 v2678
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1782 : BitVec 32 := 1#32
  let v2680 : BitVec 32 := Scalar.muli v8 c1_i32_1782
  let v2681 : BitVec 32 := Scalar.addi v2679 v2680
  v2681.toNat
def k0_cond114 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_672 : BitVec 32 := 1#32
  let v1092 : BitVec 1 := Scalar.cmpi .sge v8 c1_i32_672
  let c2_i32_673 : BitVec 32 := 2#32
  let v1093 : BitVec 32 := Scalar.addi v8 c2_i32_673
  let c3_i32_674 : BitVec 32 := 3#32
  let v1094 : BitVec 1 := Scalar.cmpi .sle v1093 c3_i32_674
  let v1095 : BitVec 1 := Scalar.andi v1092 v1094
  let v1096 : BitVec 32 := Scalar.extui v1095
  let c0_i32_675 : BitVec 32 := 0#32
  let v1097 : BitVec 1 := Scalar.cmpi .ne v1096 c0_i32_675
  v1097

def k0_off127 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1746 : BitVec 32 := 2#32
  let v2636 : BitVec 32 := Scalar.addi v8 c2_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c384_i32_1749 : BitVec 32 := 384#32
  let v2640 : BitVec 32 := Scalar.addi v2639 c384_i32_1749
  let c0_i32_1756 : BitVec 32 := 0#32
  ![v2640.toNat, 0]
def k0_dev110 (d0 : Dev nD) : Nat :=
  let c0_i32_1753 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1752 : BitVec 32 := 16#32
  let v2642 : BitVec 32 := Scalar.muli v2 c16_i32_1752
  let v2643 : BitVec 32 := Scalar.addi c0_i32_1753 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1754 : BitVec 32 := 4#32
  let v2644 : BitVec 32 := Scalar.muli v5 c4_i32_1754
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.subi v8 c1_i32_1750
  let c1_i32_1755 : BitVec 32 := 1#32
  let v2646 : BitVec 32 := Scalar.muli v2641 c1_i32_1755
  let v2647 : BitVec 32 := Scalar.addi v2645 v2646
  v2647.toNat
def k0_cond115 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_676 : BitVec 32 := 1#32
  let v1098 : BitVec 1 := Scalar.cmpi .sge v8 c1_i32_676
  let v1099 : BitVec 32 := Scalar.extui v1098
  let c0_i32_677 : BitVec 32 := 0#32
  let v1100 : BitVec 1 := Scalar.cmpi .ne v1099 c0_i32_677
  v1100

def k0_off128 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c0_i32_1747 : BitVec 32 := 0#32
  let v2637 : BitVec 32 := Scalar.subi v2636 c0_i32_1747
  let c4096_i32_1748 : BitVec 32 := 4096#32
  let v2638 : BitVec 32 := Scalar.muli v2637 c4096_i32_1748
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1749 : BitVec 32 := 1024#32
  let v2639 : BitVec 32 := Scalar.muli v26 c1024_i32_1749
  let v2640 : BitVec 32 := Scalar.addi v2638 v2639
  let c384_i32_1750 : BitVec 32 := 384#32
  let v2641 : BitVec 32 := Scalar.addi v2640 c384_i32_1750
  let c0_i32_1757 : BitVec 32 := 0#32
  ![v2641.toNat, 0]
def k0_cond116 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_678 : BitVec 32 := 1#32
  let v1101 : BitVec 1 := Scalar.cmpi .sge v8 c1_i32_678
  let v1102 : BitVec 32 := Scalar.extui v1101
  let c0_i32_679 : BitVec 32 := 0#32
  let v1103 : BitVec 1 := Scalar.cmpi .ne v1102 c0_i32_679
  v1103

def k0_off129 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c0_i32_1747 : BitVec 32 := 0#32
  let v2637 : BitVec 32 := Scalar.subi v2636 c0_i32_1747
  let c4096_i32_1748 : BitVec 32 := 4096#32
  let v2638 : BitVec 32 := Scalar.muli v2637 c4096_i32_1748
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1749 : BitVec 32 := 1024#32
  let v2639 : BitVec 32 := Scalar.muli v29 c1024_i32_1749
  let v2640 : BitVec 32 := Scalar.addi v2638 v2639
  let c384_i32_1750 : BitVec 32 := 384#32
  let v2641 : BitVec 32 := Scalar.addi v2640 c384_i32_1750
  let c0_i32_1757 : BitVec 32 := 0#32
  ![v2641.toNat, 0]
def k0_dev111 (d0 : Dev nD) : Nat :=
  let c0_i32_1767 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1766 : BitVec 32 := 16#32
  let v2658 : BitVec 32 := Scalar.muli v31 c16_i32_1766
  let v2659 : BitVec 32 := Scalar.addi c0_i32_1767 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1768 : BitVec 32 := 4#32
  let v2660 : BitVec 32 := Scalar.muli v5 c4_i32_1768
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1769 : BitVec 32 := 1#32
  let v2662 : BitVec 32 := Scalar.muli v8 c1_i32_1769
  let v2663 : BitVec 32 := Scalar.addi v2661 v2662
  v2663.toNat
def k0_cond117 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_680 : BitVec 32 := 1#32
  let v1104 : BitVec 32 := Scalar.addi v8 c1_i32_680
  let c0_i32_681 : BitVec 32 := 0#32
  let v1105 : BitVec 32 := Scalar.addi v1104 c0_i32_681
  let c3_i32_682 : BitVec 32 := 3#32
  let v1106 : BitVec 1 := Scalar.cmpi .sle v1105 c3_i32_682
  let v1107 : BitVec 32 := Scalar.extui v1106
  let c0_i32_683 : BitVec 32 := 0#32
  let v1108 : BitVec 1 := Scalar.cmpi .ne v1107 c0_i32_683
  v1108

def k0_off130 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c0_i32_1747 : BitVec 32 := 0#32
  let v2637 : BitVec 32 := Scalar.addi v2636 c0_i32_1747
  let c4096_i32_1748 : BitVec 32 := 4096#32
  let v2638 : BitVec 32 := Scalar.muli v2637 c4096_i32_1748
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1749 : BitVec 32 := 1024#32
  let v2639 : BitVec 32 := Scalar.muli v26 c1024_i32_1749
  let v2640 : BitVec 32 := Scalar.addi v2638 v2639
  let c384_i32_1750 : BitVec 32 := 384#32
  let v2641 : BitVec 32 := Scalar.addi v2640 c384_i32_1750
  let c0_i32_1757 : BitVec 32 := 0#32
  ![v2641.toNat, 0]
def k0_cond118 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_684 : BitVec 32 := 1#32
  let v1109 : BitVec 32 := Scalar.addi v8 c1_i32_684
  let c0_i32_685 : BitVec 32 := 0#32
  let v1110 : BitVec 32 := Scalar.addi v1109 c0_i32_685
  let c3_i32_686 : BitVec 32 := 3#32
  let v1111 : BitVec 1 := Scalar.cmpi .sle v1110 c3_i32_686
  let v1112 : BitVec 32 := Scalar.extui v1111
  let c0_i32_687 : BitVec 32 := 0#32
  let v1113 : BitVec 1 := Scalar.cmpi .ne v1112 c0_i32_687
  v1113

def k0_off131 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c0_i32_1747 : BitVec 32 := 0#32
  let v2637 : BitVec 32 := Scalar.addi v2636 c0_i32_1747
  let c4096_i32_1748 : BitVec 32 := 4096#32
  let v2638 : BitVec 32 := Scalar.muli v2637 c4096_i32_1748
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1749 : BitVec 32 := 1024#32
  let v2639 : BitVec 32 := Scalar.muli v29 c1024_i32_1749
  let v2640 : BitVec 32 := Scalar.addi v2638 v2639
  let c384_i32_1750 : BitVec 32 := 384#32
  let v2641 : BitVec 32 := Scalar.addi v2640 c384_i32_1750
  let c0_i32_1757 : BitVec 32 := 0#32
  ![v2641.toNat, 0]
def k0_dev112 (d0 : Dev nD) : Nat :=
  let c0_i32_1767 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1766 : BitVec 32 := 16#32
  let v2658 : BitVec 32 := Scalar.muli v31 c16_i32_1766
  let v2659 : BitVec 32 := Scalar.addi c0_i32_1767 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1768 : BitVec 32 := 4#32
  let v2660 : BitVec 32 := Scalar.muli v5 c4_i32_1768
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1769 : BitVec 32 := 1#32
  let v2662 : BitVec 32 := Scalar.muli v8 c1_i32_1769
  let v2663 : BitVec 32 := Scalar.addi v2661 v2662
  v2663.toNat
def k0_cond119 (d0 : Dev nD) : BitVec 1 :=
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c3_i32_688 : BitVec 32 := 3#32
  let v1114 : BitVec 32 := Scalar.addi v23 c3_i32_688
  let c4_i32_689 : BitVec 32 := 4#32
  let c0_i32_690 : BitVec 32 := 0#32
  let v1115 : BitVec 1 := Scalar.cmpi .eq c4_i32_689 c0_i32_690
  let c1_i32_691 : BitVec 32 := 1#32
  let v1116 : BitVec 32 := Scalar.select v1115 c1_i32_691 c4_i32_689
  let v1117 : BitVec 32 := Scalar.remsi v1114 v1116
  let c0_i32_693 : BitVec 32 := 0#32
  let v1119 : BitVec 1 := Scalar.cmpi .slt v1117 c0_i32_693
  let c0_i32_694 : BitVec 32 := 0#32
  let v1120 : BitVec 1 := Scalar.cmpi .slt v1116 c0_i32_694
  let v1121 : BitVec 1 := Scalar.xori v1119 v1120
  let c0_i32_692 : BitVec 32 := 0#32
  let v1118 : BitVec 1 := Scalar.cmpi .ne v1117 c0_i32_692
  let v1122 : BitVec 1 := Scalar.andi v1121 v1118
  let v1123 : BitVec 32 := Scalar.addi v1117 v1116
  let v1124 : BitVec 32 := Scalar.select v1122 v1123 v1117
  let c3_i32 : BitVec 32 := 3#32
  let v30 : BitVec 32 := Scalar.subi c3_i32 v23
  let v1125 : BitVec 1 := Scalar.cmpi .ne v1124 v30
  let v1126 : BitVec 32 := Scalar.extui v1125
  let c0_i32_695 : BitVec 32 := 0#32
  let v1127 : BitVec 1 := Scalar.cmpi .ne v1126 c0_i32_695
  v1127

def k0_off132 (d0 : Dev nD) : Fin 2 → Nat :=
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c3_i32_688 : BitVec 32 := 3#32
  let v1114 : BitVec 32 := Scalar.addi v23 c3_i32_688
  let c4_i32_689 : BitVec 32 := 4#32
  let c0_i32_690 : BitVec 32 := 0#32
  let v1115 : BitVec 1 := Scalar.cmpi .eq c4_i32_689 c0_i32_690
  let c1_i32_691 : BitVec 32 := 1#32
  let v1116 : BitVec 32 := Scalar.select v1115 c1_i32_691 c4_i32_689
  let v1117 : BitVec 32 := Scalar.remsi v1114 v1116
  let c0_i32_693 : BitVec 32 := 0#32
  let v1119 : BitVec 1 := Scalar.cmpi .slt v1117 c0_i32_693
  let c0_i32_694 : BitVec 32 := 0#32
  let v1120 : BitVec 1 := Scalar.cmpi .slt v1116 c0_i32_694
  let v1121 : BitVec 1 := Scalar.xori v1119 v1120
  let c0_i32_692 : BitVec 32 := 0#32
  let v1118 : BitVec 1 := Scalar.cmpi .ne v1117 c0_i32_692
  let v1122 : BitVec 1 := Scalar.andi v1121 v1118
  let v1123 : BitVec 32 := Scalar.addi v1117 v1116
  let v1124 : BitVec 32 := Scalar.select v1122 v1123 v1117
  let c1024_i32_1746 : BitVec 32 := 1024#32
  let v2636 : BitVec 32 := Scalar.muli v1124 c1024_i32_1746
  let c0_i32_1747 : BitVec 32 := 0#32
  let v2637 : BitVec 32 := Scalar.addi v2636 c0_i32_1747
  let v2638 : Index := Scalar.indexCast v2637
  let c0_1748 : Index := 0#32
  ![v2638.toNat, 0]
def k0_off133 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4096_i32_1749 : BitVec 32 := 4096#32
  let v2641 : BitVec 32 := Scalar.muli v8 c4096_i32_1749
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c3_i32_688 : BitVec 32 := 3#32
  let v1114 : BitVec 32 := Scalar.addi v23 c3_i32_688
  let c4_i32_689 : BitVec 32 := 4#32
  let c0_i32_690 : BitVec 32 := 0#32
  let v1115 : BitVec 1 := Scalar.cmpi .eq c4_i32_689 c0_i32_690
  let c1_i32_691 : BitVec 32 := 1#32
  let v1116 : BitVec 32 := Scalar.select v1115 c1_i32_691 c4_i32_689
  let v1117 : BitVec 32 := Scalar.remsi v1114 v1116
  let c0_i32_693 : BitVec 32 := 0#32
  let v1119 : BitVec 1 := Scalar.cmpi .slt v1117 c0_i32_693
  let c0_i32_694 : BitVec 32 := 0#32
  let v1120 : BitVec 1 := Scalar.cmpi .slt v1116 c0_i32_694
  let v1121 : BitVec 1 := Scalar.xori v1119 v1120
  let c0_i32_692 : BitVec 32 := 0#32
  let v1118 : BitVec 1 := Scalar.cmpi .ne v1117 c0_i32_692
  let v1122 : BitVec 1 := Scalar.andi v1121 v1118
  let v1123 : BitVec 32 := Scalar.addi v1117 v1116
  let v1124 : BitVec 32 := Scalar.select v1122 v1123 v1117
  let c1024_i32_1750 : BitVec 32 := 1024#32
  let v2642 : BitVec 32 := Scalar.muli v1124 c1024_i32_1750
  let v2643 : BitVec 32 := Scalar.addi v2641 v2642
  let c0_i32_1751 : BitVec 32 := 0#32
  let v2644 : BitVec 32 := Scalar.addi v2643 c0_i32_1751
  let v2645 : Index := Scalar.indexCast v2644
  let c0_1752 : Index := 0#32
  ![v2645.toNat, 0]
def k0_cond120 (d0 : Dev nD) : BitVec 1 :=
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c3_i32_696 : BitVec 32 := 3#32
  let v1128 : BitVec 32 := Scalar.addi v23 c3_i32_696
  let c4_i32_697 : BitVec 32 := 4#32
  let c0_i32_698 : BitVec 32 := 0#32
  let v1129 : BitVec 1 := Scalar.cmpi .eq c4_i32_697 c0_i32_698
  let c1_i32_699 : BitVec 32 := 1#32
  let v1130 : BitVec 32 := Scalar.select v1129 c1_i32_699 c4_i32_697
  let v1131 : BitVec 32 := Scalar.remsi v1128 v1130
  let c0_i32_701 : BitVec 32 := 0#32
  let v1133 : BitVec 1 := Scalar.cmpi .slt v1131 c0_i32_701
  let c0_i32_702 : BitVec 32 := 0#32
  let v1134 : BitVec 1 := Scalar.cmpi .slt v1130 c0_i32_702
  let v1135 : BitVec 1 := Scalar.xori v1133 v1134
  let c0_i32_700 : BitVec 32 := 0#32
  let v1132 : BitVec 1 := Scalar.cmpi .ne v1131 c0_i32_700
  let v1136 : BitVec 1 := Scalar.andi v1135 v1132
  let v1137 : BitVec 32 := Scalar.addi v1131 v1130
  let v1138 : BitVec 32 := Scalar.select v1136 v1137 v1131
  let c3_i32 : BitVec 32 := 3#32
  let v30 : BitVec 32 := Scalar.subi c3_i32 v23
  let v1139 : BitVec 1 := Scalar.cmpi .ne v1138 v30
  let v1140 : BitVec 32 := Scalar.extui v1139
  let c0_i32_703 : BitVec 32 := 0#32
  let v1141 : BitVec 1 := Scalar.cmpi .ne v1140 c0_i32_703
  v1141

def k0_off134 (d0 : Dev nD) : Fin 2 → Nat :=
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c3_i32_696 : BitVec 32 := 3#32
  let v1128 : BitVec 32 := Scalar.addi v23 c3_i32_696
  let c4_i32_697 : BitVec 32 := 4#32
  let c0_i32_698 : BitVec 32 := 0#32
  let v1129 : BitVec 1 := Scalar.cmpi .eq c4_i32_697 c0_i32_698
  let c1_i32_699 : BitVec 32 := 1#32
  let v1130 : BitVec 32 := Scalar.select v1129 c1_i32_699 c4_i32_697
  let v1131 : BitVec 32 := Scalar.remsi v1128 v1130
  let c0_i32_701 : BitVec 32 := 0#32
  let v1133 : BitVec 1 := Scalar.cmpi .slt v1131 c0_i32_701
  let c0_i32_702 : BitVec 32 := 0#32
  let v1134 : BitVec 1 := Scalar.cmpi .slt v1130 c0_i32_702
  let v1135 : BitVec 1 := Scalar.xori v1133 v1134
  let c0_i32_700 : BitVec 32 := 0#32
  let v1132 : BitVec 1 := Scalar.cmpi .ne v1131 c0_i32_700
  let v1136 : BitVec 1 := Scalar.andi v1135 v1132
  let v1137 : BitVec 32 := Scalar.addi v1131 v1130
  let v1138 : BitVec 32 := Scalar.select v1136 v1137 v1131
  let c1024_i32_1746 : BitVec 32 := 1024#32
  let v2636 : BitVec 32 := Scalar.muli v1138 c1024_i32_1746
  let c128_i32_1747 : BitVec 32 := 128#32
  let v2637 : BitVec 32 := Scalar.addi v2636 c128_i32_1747
  let v2638 : Index := Scalar.indexCast v2637
  let c0_1748 : Index := 0#32
  ![v2638.toNat, 0]
def k0_off135 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4096_i32_1749 : BitVec 32 := 4096#32
  let v2641 : BitVec 32 := Scalar.muli v8 c4096_i32_1749
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c3_i32_696 : BitVec 32 := 3#32
  let v1128 : BitVec 32 := Scalar.addi v23 c3_i32_696
  let c4_i32_697 : BitVec 32 := 4#32
  let c0_i32_698 : BitVec 32 := 0#32
  let v1129 : BitVec 1 := Scalar.cmpi .eq c4_i32_697 c0_i32_698
  let c1_i32_699 : BitVec 32 := 1#32
  let v1130 : BitVec 32 := Scalar.select v1129 c1_i32_699 c4_i32_697
  let v1131 : BitVec 32 := Scalar.remsi v1128 v1130
  let c0_i32_701 : BitVec 32 := 0#32
  let v1133 : BitVec 1 := Scalar.cmpi .slt v1131 c0_i32_701
  let c0_i32_702 : BitVec 32 := 0#32
  let v1134 : BitVec 1 := Scalar.cmpi .slt v1130 c0_i32_702
  let v1135 : BitVec 1 := Scalar.xori v1133 v1134
  let c0_i32_700 : BitVec 32 := 0#32
  let v1132 : BitVec 1 := Scalar.cmpi .ne v1131 c0_i32_700
  let v1136 : BitVec 1 := Scalar.andi v1135 v1132
  let v1137 : BitVec 32 := Scalar.addi v1131 v1130
  let v1138 : BitVec 32 := Scalar.select v1136 v1137 v1131
  let c1024_i32_1750 : BitVec 32 := 1024#32
  let v2642 : BitVec 32 := Scalar.muli v1138 c1024_i32_1750
  let v2643 : BitVec 32 := Scalar.addi v2641 v2642
  let c128_i32_1751 : BitVec 32 := 128#32
  let v2644 : BitVec 32 := Scalar.addi v2643 c128_i32_1751
  let v2645 : Index := Scalar.indexCast v2644
  let c0_1752 : Index := 0#32
  ![v2645.toNat, 0]
def k0_cond121 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_704 : BitVec 32 := 2#32
  let v1142 : BitVec 1 := Scalar.cmpi .sge v8 c2_i32_704
  let v1143 : BitVec 32 := Scalar.extui v1142
  let c0_i32_705 : BitVec 32 := 0#32
  let v1144 : BitVec 1 := Scalar.cmpi .ne v1143 c0_i32_705
  v1144

def k0_off136 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c1_i32_1747 : BitVec 32 := 1#32
  let v2637 : BitVec 32 := Scalar.subi v2636 c1_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c512_i32_1750 : BitVec 32 := 512#32
  let v2641 : BitVec 32 := Scalar.addi v2640 c512_i32_1750
  let c0_i32_1756 : BitVec 32 := 0#32
  ![v2641.toNat, 0]
def k0_dev113 (d0 : Dev nD) : Nat :=
  let c0_i32_1766 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1765 : BitVec 32 := 16#32
  let v2658 : BitVec 32 := Scalar.muli v31 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1767 : BitVec 32 := 4#32
  let v2660 : BitVec 32 := Scalar.muli v5 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_dev114 (d0 : Dev nD) : Nat :=
  let c0_i32_1779 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1778 : BitVec 32 := 16#32
  let v2676 : BitVec 32 := Scalar.muli v2 c16_i32_1778
  let v2677 : BitVec 32 := Scalar.addi c0_i32_1779 v2676
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1780 : BitVec 32 := 4#32
  let v2678 : BitVec 32 := Scalar.muli v21 c4_i32_1780
  let v2679 : BitVec 32 := Scalar.addi v2677 v2678
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1781 : BitVec 32 := 1#32
  let v2680 : BitVec 32 := Scalar.muli v8 c1_i32_1781
  let v2681 : BitVec 32 := Scalar.addi v2679 v2680
  v2681.toNat
def k0_cond122 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_706 : BitVec 32 := 2#32
  let v1145 : BitVec 1 := Scalar.cmpi .sle v8 c2_i32_706
  let c2_i32_707 : BitVec 32 := 2#32
  let v1146 : BitVec 1 := Scalar.cmpi .sge v8 c2_i32_707
  let v1147 : BitVec 1 := Scalar.andi v1145 v1146
  let v1148 : BitVec 32 := Scalar.extui v1147
  let c0_i32_708 : BitVec 32 := 0#32
  let v1149 : BitVec 1 := Scalar.cmpi .ne v1148 c0_i32_708
  v1149

def k0_off137 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1746 : BitVec 32 := 2#32
  let v2636 : BitVec 32 := Scalar.subi v8 c2_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c512_i32_1749 : BitVec 32 := 512#32
  let v2640 : BitVec 32 := Scalar.addi v2639 c512_i32_1749
  let c0_i32_1756 : BitVec 32 := 0#32
  ![v2640.toNat, 0]
def k0_dev115 (d0 : Dev nD) : Nat :=
  let c0_i32_1753 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1752 : BitVec 32 := 16#32
  let v2642 : BitVec 32 := Scalar.muli v2 c16_i32_1752
  let v2643 : BitVec 32 := Scalar.addi c0_i32_1753 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1754 : BitVec 32 := 4#32
  let v2644 : BitVec 32 := Scalar.muli v5 c4_i32_1754
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.addi v8 c1_i32_1750
  let c1_i32_1755 : BitVec 32 := 1#32
  let v2646 : BitVec 32 := Scalar.muli v2641 c1_i32_1755
  let v2647 : BitVec 32 := Scalar.addi v2645 v2646
  v2647.toNat
def k0_cond123 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_709 : BitVec 32 := 1#32
  let v1150 : BitVec 32 := Scalar.addi v8 c1_i32_709
  let c1_i32_710 : BitVec 32 := 1#32
  let v1151 : BitVec 32 := Scalar.addi v1150 c1_i32_710
  let c3_i32_711 : BitVec 32 := 3#32
  let v1152 : BitVec 1 := Scalar.cmpi .sle v1151 c3_i32_711
  let v1153 : BitVec 32 := Scalar.extui v1152
  let c0_i32_712 : BitVec 32 := 0#32
  let v1154 : BitVec 1 := Scalar.cmpi .ne v1153 c0_i32_712
  v1154

def k0_off138 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c1_i32_1747 : BitVec 32 := 1#32
  let v2637 : BitVec 32 := Scalar.addi v2636 c1_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c512_i32_1750 : BitVec 32 := 512#32
  let v2641 : BitVec 32 := Scalar.addi v2640 c512_i32_1750
  let c0_i32_1756 : BitVec 32 := 0#32
  ![v2641.toNat, 0]
def k0_dev116 (d0 : Dev nD) : Nat :=
  let c0_i32_1766 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1765 : BitVec 32 := 16#32
  let v2658 : BitVec 32 := Scalar.muli v31 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1767 : BitVec 32 := 4#32
  let v2660 : BitVec 32 := Scalar.muli v5 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_dev117 (d0 : Dev nD) : Nat :=
  let c0_i32_1779 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1778 : BitVec 32 := 16#32
  let v2676 : BitVec 32 := Scalar.muli v2 c16_i32_1778
  let v2677 : BitVec 32 := Scalar.addi c0_i32_1779 v2676
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1780 : BitVec 32 := 4#32
  let v2678 : BitVec 32 := Scalar.muli v21 c4_i32_1780
  let v2679 : BitVec 32 := Scalar.addi v2677 v2678
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1781 : BitVec 32 := 1#32
  let v2680 : BitVec 32 := Scalar.muli v8 c1_i32_1781
  let v2681 : BitVec 32 := Scalar.addi v2679 v2680
  v2681.toNat
def k0_cond124 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_713 : BitVec 32 := 1#32
  let v1155 : BitVec 1 := Scalar.cmpi .sge v8 c1_i32_713
  let c2_i32_714 : BitVec 32 := 2#32
  let v1156 : BitVec 32 := Scalar.addi v8 c2_i32_714
  let c3_i32_715 : BitVec 32 := 3#32
  let v1157 : BitVec 1 := Scalar.cmpi .sle v1156 c3_i32_715
  let v1158 : BitVec 1 := Scalar.andi v1155 v1157
  let v1159 : BitVec 32 := Scalar.extui v1158
  let c0_i32_716 : BitVec 32 := 0#32
  let v1160 : BitVec 1 := Scalar.cmpi .ne v1159 c0_i32_716
  v1160

def k0_off139 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1746 : BitVec 32 := 2#32
  let v2636 : BitVec 32 := Scalar.addi v8 c2_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c512_i32_1749 : BitVec 32 := 512#32
  let v2640 : BitVec 32 := Scalar.addi v2639 c512_i32_1749
  let c0_i32_1756 : BitVec 32 := 0#32
  ![v2640.toNat, 0]
def k0_dev118 (d0 : Dev nD) : Nat :=
  let c0_i32_1753 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1752 : BitVec 32 := 16#32
  let v2642 : BitVec 32 := Scalar.muli v2 c16_i32_1752
  let v2643 : BitVec 32 := Scalar.addi c0_i32_1753 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1754 : BitVec 32 := 4#32
  let v2644 : BitVec 32 := Scalar.muli v5 c4_i32_1754
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.subi v8 c1_i32_1750
  let c1_i32_1755 : BitVec 32 := 1#32
  let v2646 : BitVec 32 := Scalar.muli v2641 c1_i32_1755
  let v2647 : BitVec 32 := Scalar.addi v2645 v2646
  v2647.toNat
def k0_cond125 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_717 : BitVec 32 := 1#32
  let v1161 : BitVec 1 := Scalar.cmpi .sge v8 c1_i32_717
  let v1162 : BitVec 32 := Scalar.extui v1161
  let c0_i32_718 : BitVec 32 := 0#32
  let v1163 : BitVec 1 := Scalar.cmpi .ne v1162 c0_i32_718
  v1163

def k0_off140 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c0_i32_1747 : BitVec 32 := 0#32
  let v2637 : BitVec 32 := Scalar.subi v2636 c0_i32_1747
  let c4096_i32_1748 : BitVec 32 := 4096#32
  let v2638 : BitVec 32 := Scalar.muli v2637 c4096_i32_1748
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1749 : BitVec 32 := 1024#32
  let v2639 : BitVec 32 := Scalar.muli v26 c1024_i32_1749
  let v2640 : BitVec 32 := Scalar.addi v2638 v2639
  let c512_i32_1750 : BitVec 32 := 512#32
  let v2641 : BitVec 32 := Scalar.addi v2640 c512_i32_1750
  let c0_i32_1757 : BitVec 32 := 0#32
  ![v2641.toNat, 0]
def k0_cond126 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_719 : BitVec 32 := 1#32
  let v1164 : BitVec 1 := Scalar.cmpi .sge v8 c1_i32_719
  let v1165 : BitVec 32 := Scalar.extui v1164
  let c0_i32_720 : BitVec 32 := 0#32
  let v1166 : BitVec 1 := Scalar.cmpi .ne v1165 c0_i32_720
  v1166

def k0_off141 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c0_i32_1747 : BitVec 32 := 0#32
  let v2637 : BitVec 32 := Scalar.subi v2636 c0_i32_1747
  let c4096_i32_1748 : BitVec 32 := 4096#32
  let v2638 : BitVec 32 := Scalar.muli v2637 c4096_i32_1748
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1749 : BitVec 32 := 1024#32
  let v2639 : BitVec 32 := Scalar.muli v29 c1024_i32_1749
  let v2640 : BitVec 32 := Scalar.addi v2638 v2639
  let c512_i32_1750 : BitVec 32 := 512#32
  let v2641 : BitVec 32 := Scalar.addi v2640 c512_i32_1750
  let c0_i32_1757 : BitVec 32 := 0#32
  ![v2641.toNat, 0]
def k0_dev119 (d0 : Dev nD) : Nat :=
  let c0_i32_1767 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1766 : BitVec 32 := 16#32
  let v2658 : BitVec 32 := Scalar.muli v31 c16_i32_1766
  let v2659 : BitVec 32 := Scalar.addi c0_i32_1767 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1768 : BitVec 32 := 4#32
  let v2660 : BitVec 32 := Scalar.muli v5 c4_i32_1768
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1769 : BitVec 32 := 1#32
  let v2662 : BitVec 32 := Scalar.muli v8 c1_i32_1769
  let v2663 : BitVec 32 := Scalar.addi v2661 v2662
  v2663.toNat
def k0_cond127 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_721 : BitVec 32 := 1#32
  let v1167 : BitVec 32 := Scalar.addi v8 c1_i32_721
  let c0_i32_722 : BitVec 32 := 0#32
  let v1168 : BitVec 32 := Scalar.addi v1167 c0_i32_722
  let c3_i32_723 : BitVec 32 := 3#32
  let v1169 : BitVec 1 := Scalar.cmpi .sle v1168 c3_i32_723
  let v1170 : BitVec 32 := Scalar.extui v1169
  let c0_i32_724 : BitVec 32 := 0#32
  let v1171 : BitVec 1 := Scalar.cmpi .ne v1170 c0_i32_724
  v1171

def k0_off142 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c0_i32_1747 : BitVec 32 := 0#32
  let v2637 : BitVec 32 := Scalar.addi v2636 c0_i32_1747
  let c4096_i32_1748 : BitVec 32 := 4096#32
  let v2638 : BitVec 32 := Scalar.muli v2637 c4096_i32_1748
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1749 : BitVec 32 := 1024#32
  let v2639 : BitVec 32 := Scalar.muli v26 c1024_i32_1749
  let v2640 : BitVec 32 := Scalar.addi v2638 v2639
  let c512_i32_1750 : BitVec 32 := 512#32
  let v2641 : BitVec 32 := Scalar.addi v2640 c512_i32_1750
  let c0_i32_1757 : BitVec 32 := 0#32
  ![v2641.toNat, 0]
def k0_cond128 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_725 : BitVec 32 := 1#32
  let v1172 : BitVec 32 := Scalar.addi v8 c1_i32_725
  let c0_i32_726 : BitVec 32 := 0#32
  let v1173 : BitVec 32 := Scalar.addi v1172 c0_i32_726
  let c3_i32_727 : BitVec 32 := 3#32
  let v1174 : BitVec 1 := Scalar.cmpi .sle v1173 c3_i32_727
  let v1175 : BitVec 32 := Scalar.extui v1174
  let c0_i32_728 : BitVec 32 := 0#32
  let v1176 : BitVec 1 := Scalar.cmpi .ne v1175 c0_i32_728
  v1176

def k0_off143 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c0_i32_1747 : BitVec 32 := 0#32
  let v2637 : BitVec 32 := Scalar.addi v2636 c0_i32_1747
  let c4096_i32_1748 : BitVec 32 := 4096#32
  let v2638 : BitVec 32 := Scalar.muli v2637 c4096_i32_1748
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1749 : BitVec 32 := 1024#32
  let v2639 : BitVec 32 := Scalar.muli v29 c1024_i32_1749
  let v2640 : BitVec 32 := Scalar.addi v2638 v2639
  let c512_i32_1750 : BitVec 32 := 512#32
  let v2641 : BitVec 32 := Scalar.addi v2640 c512_i32_1750
  let c0_i32_1757 : BitVec 32 := 0#32
  ![v2641.toNat, 0]
def k0_dev120 (d0 : Dev nD) : Nat :=
  let c0_i32_1767 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1766 : BitVec 32 := 16#32
  let v2658 : BitVec 32 := Scalar.muli v31 c16_i32_1766
  let v2659 : BitVec 32 := Scalar.addi c0_i32_1767 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1768 : BitVec 32 := 4#32
  let v2660 : BitVec 32 := Scalar.muli v5 c4_i32_1768
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1769 : BitVec 32 := 1#32
  let v2662 : BitVec 32 := Scalar.muli v8 c1_i32_1769
  let v2663 : BitVec 32 := Scalar.addi v2661 v2662
  v2663.toNat
def k0_cond129 (d0 : Dev nD) : BitVec 1 :=
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c3_i32_729 : BitVec 32 := 3#32
  let v1177 : BitVec 32 := Scalar.addi v23 c3_i32_729
  let c4_i32_730 : BitVec 32 := 4#32
  let c0_i32_731 : BitVec 32 := 0#32
  let v1178 : BitVec 1 := Scalar.cmpi .eq c4_i32_730 c0_i32_731
  let c1_i32_732 : BitVec 32 := 1#32
  let v1179 : BitVec 32 := Scalar.select v1178 c1_i32_732 c4_i32_730
  let v1180 : BitVec 32 := Scalar.remsi v1177 v1179
  let c0_i32_734 : BitVec 32 := 0#32
  let v1182 : BitVec 1 := Scalar.cmpi .slt v1180 c0_i32_734
  let c0_i32_735 : BitVec 32 := 0#32
  let v1183 : BitVec 1 := Scalar.cmpi .slt v1179 c0_i32_735
  let v1184 : BitVec 1 := Scalar.xori v1182 v1183
  let c0_i32_733 : BitVec 32 := 0#32
  let v1181 : BitVec 1 := Scalar.cmpi .ne v1180 c0_i32_733
  let v1185 : BitVec 1 := Scalar.andi v1184 v1181
  let v1186 : BitVec 32 := Scalar.addi v1180 v1179
  let v1187 : BitVec 32 := Scalar.select v1185 v1186 v1180
  let c3_i32 : BitVec 32 := 3#32
  let v30 : BitVec 32 := Scalar.subi c3_i32 v23
  let v1188 : BitVec 1 := Scalar.cmpi .ne v1187 v30
  let v1189 : BitVec 32 := Scalar.extui v1188
  let c0_i32_736 : BitVec 32 := 0#32
  let v1190 : BitVec 1 := Scalar.cmpi .ne v1189 c0_i32_736
  v1190

def k0_off144 (d0 : Dev nD) : Fin 2 → Nat :=
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c3_i32_729 : BitVec 32 := 3#32
  let v1177 : BitVec 32 := Scalar.addi v23 c3_i32_729
  let c4_i32_730 : BitVec 32 := 4#32
  let c0_i32_731 : BitVec 32 := 0#32
  let v1178 : BitVec 1 := Scalar.cmpi .eq c4_i32_730 c0_i32_731
  let c1_i32_732 : BitVec 32 := 1#32
  let v1179 : BitVec 32 := Scalar.select v1178 c1_i32_732 c4_i32_730
  let v1180 : BitVec 32 := Scalar.remsi v1177 v1179
  let c0_i32_734 : BitVec 32 := 0#32
  let v1182 : BitVec 1 := Scalar.cmpi .slt v1180 c0_i32_734
  let c0_i32_735 : BitVec 32 := 0#32
  let v1183 : BitVec 1 := Scalar.cmpi .slt v1179 c0_i32_735
  let v1184 : BitVec 1 := Scalar.xori v1182 v1183
  let c0_i32_733 : BitVec 32 := 0#32
  let v1181 : BitVec 1 := Scalar.cmpi .ne v1180 c0_i32_733
  let v1185 : BitVec 1 := Scalar.andi v1184 v1181
  let v1186 : BitVec 32 := Scalar.addi v1180 v1179
  let v1187 : BitVec 32 := Scalar.select v1185 v1186 v1180
  let c1024_i32_1746 : BitVec 32 := 1024#32
  let v2636 : BitVec 32 := Scalar.muli v1187 c1024_i32_1746
  let c256_i32_1747 : BitVec 32 := 256#32
  let v2637 : BitVec 32 := Scalar.addi v2636 c256_i32_1747
  let v2638 : Index := Scalar.indexCast v2637
  let c0_1748 : Index := 0#32
  ![v2638.toNat, 0]
def k0_off145 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4096_i32_1749 : BitVec 32 := 4096#32
  let v2641 : BitVec 32 := Scalar.muli v8 c4096_i32_1749
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c3_i32_729 : BitVec 32 := 3#32
  let v1177 : BitVec 32 := Scalar.addi v23 c3_i32_729
  let c4_i32_730 : BitVec 32 := 4#32
  let c0_i32_731 : BitVec 32 := 0#32
  let v1178 : BitVec 1 := Scalar.cmpi .eq c4_i32_730 c0_i32_731
  let c1_i32_732 : BitVec 32 := 1#32
  let v1179 : BitVec 32 := Scalar.select v1178 c1_i32_732 c4_i32_730
  let v1180 : BitVec 32 := Scalar.remsi v1177 v1179
  let c0_i32_734 : BitVec 32 := 0#32
  let v1182 : BitVec 1 := Scalar.cmpi .slt v1180 c0_i32_734
  let c0_i32_735 : BitVec 32 := 0#32
  let v1183 : BitVec 1 := Scalar.cmpi .slt v1179 c0_i32_735
  let v1184 : BitVec 1 := Scalar.xori v1182 v1183
  let c0_i32_733 : BitVec 32 := 0#32
  let v1181 : BitVec 1 := Scalar.cmpi .ne v1180 c0_i32_733
  let v1185 : BitVec 1 := Scalar.andi v1184 v1181
  let v1186 : BitVec 32 := Scalar.addi v1180 v1179
  let v1187 : BitVec 32 := Scalar.select v1185 v1186 v1180
  let c1024_i32_1750 : BitVec 32 := 1024#32
  let v2642 : BitVec 32 := Scalar.muli v1187 c1024_i32_1750
  let v2643 : BitVec 32 := Scalar.addi v2641 v2642
  let c256_i32_1751 : BitVec 32 := 256#32
  let v2644 : BitVec 32 := Scalar.addi v2643 c256_i32_1751
  let v2645 : Index := Scalar.indexCast v2644
  let c0_1752 : Index := 0#32
  ![v2645.toNat, 0]
def k0_cond130 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_737 : BitVec 32 := 2#32
  let v1191 : BitVec 1 := Scalar.cmpi .sge v8 c2_i32_737
  let v1192 : BitVec 32 := Scalar.extui v1191
  let c0_i32_738 : BitVec 32 := 0#32
  let v1193 : BitVec 1 := Scalar.cmpi .ne v1192 c0_i32_738
  v1193

def k0_off146 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c1_i32_1747 : BitVec 32 := 1#32
  let v2637 : BitVec 32 := Scalar.subi v2636 c1_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c640_i32_1750 : BitVec 32 := 640#32
  let v2641 : BitVec 32 := Scalar.addi v2640 c640_i32_1750
  let c0_i32_1756 : BitVec 32 := 0#32
  ![v2641.toNat, 0]
def k0_dev121 (d0 : Dev nD) : Nat :=
  let c0_i32_1766 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1765 : BitVec 32 := 16#32
  let v2658 : BitVec 32 := Scalar.muli v31 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1767 : BitVec 32 := 4#32
  let v2660 : BitVec 32 := Scalar.muli v5 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_dev122 (d0 : Dev nD) : Nat :=
  let c0_i32_1779 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1778 : BitVec 32 := 16#32
  let v2676 : BitVec 32 := Scalar.muli v2 c16_i32_1778
  let v2677 : BitVec 32 := Scalar.addi c0_i32_1779 v2676
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1780 : BitVec 32 := 4#32
  let v2678 : BitVec 32 := Scalar.muli v21 c4_i32_1780
  let v2679 : BitVec 32 := Scalar.addi v2677 v2678
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1781 : BitVec 32 := 1#32
  let v2680 : BitVec 32 := Scalar.muli v8 c1_i32_1781
  let v2681 : BitVec 32 := Scalar.addi v2679 v2680
  v2681.toNat
def k0_cond131 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_739 : BitVec 32 := 2#32
  let v1194 : BitVec 1 := Scalar.cmpi .sle v8 c2_i32_739
  let c2_i32_740 : BitVec 32 := 2#32
  let v1195 : BitVec 1 := Scalar.cmpi .sge v8 c2_i32_740
  let v1196 : BitVec 1 := Scalar.andi v1194 v1195
  let v1197 : BitVec 32 := Scalar.extui v1196
  let c0_i32_741 : BitVec 32 := 0#32
  let v1198 : BitVec 1 := Scalar.cmpi .ne v1197 c0_i32_741
  v1198

def k0_off147 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1746 : BitVec 32 := 2#32
  let v2636 : BitVec 32 := Scalar.subi v8 c2_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c640_i32_1749 : BitVec 32 := 640#32
  let v2640 : BitVec 32 := Scalar.addi v2639 c640_i32_1749
  let c0_i32_1756 : BitVec 32 := 0#32
  ![v2640.toNat, 0]
def k0_dev123 (d0 : Dev nD) : Nat :=
  let c0_i32_1753 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1752 : BitVec 32 := 16#32
  let v2642 : BitVec 32 := Scalar.muli v2 c16_i32_1752
  let v2643 : BitVec 32 := Scalar.addi c0_i32_1753 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1754 : BitVec 32 := 4#32
  let v2644 : BitVec 32 := Scalar.muli v5 c4_i32_1754
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.addi v8 c1_i32_1750
  let c1_i32_1755 : BitVec 32 := 1#32
  let v2646 : BitVec 32 := Scalar.muli v2641 c1_i32_1755
  let v2647 : BitVec 32 := Scalar.addi v2645 v2646
  v2647.toNat
def k0_cond132 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_742 : BitVec 32 := 1#32
  let v1199 : BitVec 32 := Scalar.addi v8 c1_i32_742
  let c1_i32_743 : BitVec 32 := 1#32
  let v1200 : BitVec 32 := Scalar.addi v1199 c1_i32_743
  let c3_i32_744 : BitVec 32 := 3#32
  let v1201 : BitVec 1 := Scalar.cmpi .sle v1200 c3_i32_744
  let v1202 : BitVec 32 := Scalar.extui v1201
  let c0_i32_745 : BitVec 32 := 0#32
  let v1203 : BitVec 1 := Scalar.cmpi .ne v1202 c0_i32_745
  v1203

def k0_off148 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c1_i32_1747 : BitVec 32 := 1#32
  let v2637 : BitVec 32 := Scalar.addi v2636 c1_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c640_i32_1750 : BitVec 32 := 640#32
  let v2641 : BitVec 32 := Scalar.addi v2640 c640_i32_1750
  let c0_i32_1756 : BitVec 32 := 0#32
  ![v2641.toNat, 0]
def k0_dev124 (d0 : Dev nD) : Nat :=
  let c0_i32_1766 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1765 : BitVec 32 := 16#32
  let v2658 : BitVec 32 := Scalar.muli v31 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1767 : BitVec 32 := 4#32
  let v2660 : BitVec 32 := Scalar.muli v5 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_dev125 (d0 : Dev nD) : Nat :=
  let c0_i32_1779 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1778 : BitVec 32 := 16#32
  let v2676 : BitVec 32 := Scalar.muli v2 c16_i32_1778
  let v2677 : BitVec 32 := Scalar.addi c0_i32_1779 v2676
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1780 : BitVec 32 := 4#32
  let v2678 : BitVec 32 := Scalar.muli v21 c4_i32_1780
  let v2679 : BitVec 32 := Scalar.addi v2677 v2678
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1781 : BitVec 32 := 1#32
  let v2680 : BitVec 32 := Scalar.muli v8 c1_i32_1781
  let v2681 : BitVec 32 := Scalar.addi v2679 v2680
  v2681.toNat
def k0_cond133 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_746 : BitVec 32 := 1#32
  let v1204 : BitVec 1 := Scalar.cmpi .sge v8 c1_i32_746
  let c2_i32_747 : BitVec 32 := 2#32
  let v1205 : BitVec 32 := Scalar.addi v8 c2_i32_747
  let c3_i32_748 : BitVec 32 := 3#32
  let v1206 : BitVec 1 := Scalar.cmpi .sle v1205 c3_i32_748
  let v1207 : BitVec 1 := Scalar.andi v1204 v1206
  let v1208 : BitVec 32 := Scalar.extui v1207
  let c0_i32_749 : BitVec 32 := 0#32
  let v1209 : BitVec 1 := Scalar.cmpi .ne v1208 c0_i32_749
  v1209

def k0_off149 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1746 : BitVec 32 := 2#32
  let v2636 : BitVec 32 := Scalar.addi v8 c2_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c640_i32_1749 : BitVec 32 := 640#32
  let v2640 : BitVec 32 := Scalar.addi v2639 c640_i32_1749
  let c0_i32_1756 : BitVec 32 := 0#32
  ![v2640.toNat, 0]
def k0_dev126 (d0 : Dev nD) : Nat :=
  let c0_i32_1753 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1752 : BitVec 32 := 16#32
  let v2642 : BitVec 32 := Scalar.muli v2 c16_i32_1752
  let v2643 : BitVec 32 := Scalar.addi c0_i32_1753 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1754 : BitVec 32 := 4#32
  let v2644 : BitVec 32 := Scalar.muli v5 c4_i32_1754
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.subi v8 c1_i32_1750
  let c1_i32_1755 : BitVec 32 := 1#32
  let v2646 : BitVec 32 := Scalar.muli v2641 c1_i32_1755
  let v2647 : BitVec 32 := Scalar.addi v2645 v2646
  v2647.toNat
def k0_cond134 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_750 : BitVec 32 := 1#32
  let v1210 : BitVec 1 := Scalar.cmpi .sge v8 c1_i32_750
  let v1211 : BitVec 32 := Scalar.extui v1210
  let c0_i32_751 : BitVec 32 := 0#32
  let v1212 : BitVec 1 := Scalar.cmpi .ne v1211 c0_i32_751
  v1212

def k0_off150 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c0_i32_1747 : BitVec 32 := 0#32
  let v2637 : BitVec 32 := Scalar.subi v2636 c0_i32_1747
  let c4096_i32_1748 : BitVec 32 := 4096#32
  let v2638 : BitVec 32 := Scalar.muli v2637 c4096_i32_1748
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1749 : BitVec 32 := 1024#32
  let v2639 : BitVec 32 := Scalar.muli v26 c1024_i32_1749
  let v2640 : BitVec 32 := Scalar.addi v2638 v2639
  let c640_i32_1750 : BitVec 32 := 640#32
  let v2641 : BitVec 32 := Scalar.addi v2640 c640_i32_1750
  let c0_i32_1756 : BitVec 32 := 0#32
  ![v2641.toNat, 0]
def k0_dev127 (d0 : Dev nD) : Nat :=
  let c0_i32_1766 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1765 : BitVec 32 := 16#32
  let v2658 : BitVec 32 := Scalar.muli v2 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1767 : BitVec 32 := 4#32
  let v2660 : BitVec 32 := Scalar.muli v21 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_cond135 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_752 : BitVec 32 := 1#32
  let v1213 : BitVec 1 := Scalar.cmpi .sge v8 c1_i32_752
  let v1214 : BitVec 32 := Scalar.extui v1213
  let c0_i32_753 : BitVec 32 := 0#32
  let v1215 : BitVec 1 := Scalar.cmpi .ne v1214 c0_i32_753
  v1215

def k0_off151 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c0_i32_1747 : BitVec 32 := 0#32
  let v2637 : BitVec 32 := Scalar.subi v2636 c0_i32_1747
  let c4096_i32_1748 : BitVec 32 := 4096#32
  let v2638 : BitVec 32 := Scalar.muli v2637 c4096_i32_1748
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1749 : BitVec 32 := 1024#32
  let v2639 : BitVec 32 := Scalar.muli v29 c1024_i32_1749
  let v2640 : BitVec 32 := Scalar.addi v2638 v2639
  let c640_i32_1750 : BitVec 32 := 640#32
  let v2641 : BitVec 32 := Scalar.addi v2640 c640_i32_1750
  let c0_i32_1756 : BitVec 32 := 0#32
  ![v2641.toNat, 0]
def k0_cond136 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_754 : BitVec 32 := 1#32
  let v1216 : BitVec 32 := Scalar.addi v8 c1_i32_754
  let c0_i32_755 : BitVec 32 := 0#32
  let v1217 : BitVec 32 := Scalar.addi v1216 c0_i32_755
  let c3_i32_756 : BitVec 32 := 3#32
  let v1218 : BitVec 1 := Scalar.cmpi .sle v1217 c3_i32_756
  let v1219 : BitVec 32 := Scalar.extui v1218
  let c0_i32_757 : BitVec 32 := 0#32
  let v1220 : BitVec 1 := Scalar.cmpi .ne v1219 c0_i32_757
  v1220

def k0_off152 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c0_i32_1747 : BitVec 32 := 0#32
  let v2637 : BitVec 32 := Scalar.addi v2636 c0_i32_1747
  let c4096_i32_1748 : BitVec 32 := 4096#32
  let v2638 : BitVec 32 := Scalar.muli v2637 c4096_i32_1748
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1749 : BitVec 32 := 1024#32
  let v2639 : BitVec 32 := Scalar.muli v26 c1024_i32_1749
  let v2640 : BitVec 32 := Scalar.addi v2638 v2639
  let c640_i32_1750 : BitVec 32 := 640#32
  let v2641 : BitVec 32 := Scalar.addi v2640 c640_i32_1750
  let c0_i32_1756 : BitVec 32 := 0#32
  ![v2641.toNat, 0]
def k0_dev128 (d0 : Dev nD) : Nat :=
  let c0_i32_1766 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1765 : BitVec 32 := 16#32
  let v2658 : BitVec 32 := Scalar.muli v2 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1767 : BitVec 32 := 4#32
  let v2660 : BitVec 32 := Scalar.muli v21 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_cond137 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_758 : BitVec 32 := 1#32
  let v1221 : BitVec 32 := Scalar.addi v8 c1_i32_758
  let c0_i32_759 : BitVec 32 := 0#32
  let v1222 : BitVec 32 := Scalar.addi v1221 c0_i32_759
  let c3_i32_760 : BitVec 32 := 3#32
  let v1223 : BitVec 1 := Scalar.cmpi .sle v1222 c3_i32_760
  let v1224 : BitVec 32 := Scalar.extui v1223
  let c0_i32_761 : BitVec 32 := 0#32
  let v1225 : BitVec 1 := Scalar.cmpi .ne v1224 c0_i32_761
  v1225

def k0_off153 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c0_i32_1747 : BitVec 32 := 0#32
  let v2637 : BitVec 32 := Scalar.addi v2636 c0_i32_1747
  let c4096_i32_1748 : BitVec 32 := 4096#32
  let v2638 : BitVec 32 := Scalar.muli v2637 c4096_i32_1748
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1749 : BitVec 32 := 1024#32
  let v2639 : BitVec 32 := Scalar.muli v29 c1024_i32_1749
  let v2640 : BitVec 32 := Scalar.addi v2638 v2639
  let c640_i32_1750 : BitVec 32 := 640#32
  let v2641 : BitVec 32 := Scalar.addi v2640 c640_i32_1750
  let c0_i32_1756 : BitVec 32 := 0#32
  ![v2641.toNat, 0]
def k0_cond138 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_790 : BitVec 32 := 2#32
  let v1274 : BitVec 1 := Scalar.cmpi .sge v8 c2_i32_790
  let v1275 : BitVec 32 := Scalar.extui v1274
  let c0_i32_791 : BitVec 32 := 0#32
  let v1276 : BitVec 1 := Scalar.cmpi .ne v1275 c0_i32_791
  v1276

def k0_off154 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c1_i32_1747 : BitVec 32 := 1#32
  let v2637 : BitVec 32 := Scalar.subi v2636 c1_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c768_i32_1750 : BitVec 32 := 768#32
  let v2641 : BitVec 32 := Scalar.addi v2640 c768_i32_1750
  let c0_i32_1756 : BitVec 32 := 0#32
  ![v2641.toNat, 0]
def k0_dev129 (d0 : Dev nD) : Nat :=
  let c0_i32_1766 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1765 : BitVec 32 := 16#32
  let v2658 : BitVec 32 := Scalar.muli v31 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1767 : BitVec 32 := 4#32
  let v2660 : BitVec 32 := Scalar.muli v5 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_dev130 (d0 : Dev nD) : Nat :=
  let c0_i32_1779 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1778 : BitVec 32 := 16#32
  let v2676 : BitVec 32 := Scalar.muli v2 c16_i32_1778
  let v2677 : BitVec 32 := Scalar.addi c0_i32_1779 v2676
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1780 : BitVec 32 := 4#32
  let v2678 : BitVec 32 := Scalar.muli v21 c4_i32_1780
  let v2679 : BitVec 32 := Scalar.addi v2677 v2678
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1781 : BitVec 32 := 1#32
  let v2680 : BitVec 32 := Scalar.muli v8 c1_i32_1781
  let v2681 : BitVec 32 := Scalar.addi v2679 v2680
  v2681.toNat
def k0_cond139 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_792 : BitVec 32 := 2#32
  let v1277 : BitVec 1 := Scalar.cmpi .sle v8 c2_i32_792
  let c2_i32_793 : BitVec 32 := 2#32
  let v1278 : BitVec 1 := Scalar.cmpi .sge v8 c2_i32_793
  let v1279 : BitVec 1 := Scalar.andi v1277 v1278
  let v1280 : BitVec 32 := Scalar.extui v1279
  let c0_i32_794 : BitVec 32 := 0#32
  let v1281 : BitVec 1 := Scalar.cmpi .ne v1280 c0_i32_794
  v1281

def k0_off155 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1746 : BitVec 32 := 2#32
  let v2636 : BitVec 32 := Scalar.subi v8 c2_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c768_i32_1749 : BitVec 32 := 768#32
  let v2640 : BitVec 32 := Scalar.addi v2639 c768_i32_1749
  let c0_i32_1756 : BitVec 32 := 0#32
  ![v2640.toNat, 0]
def k0_dev131 (d0 : Dev nD) : Nat :=
  let c0_i32_1753 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1752 : BitVec 32 := 16#32
  let v2642 : BitVec 32 := Scalar.muli v2 c16_i32_1752
  let v2643 : BitVec 32 := Scalar.addi c0_i32_1753 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1754 : BitVec 32 := 4#32
  let v2644 : BitVec 32 := Scalar.muli v5 c4_i32_1754
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.addi v8 c1_i32_1750
  let c1_i32_1755 : BitVec 32 := 1#32
  let v2646 : BitVec 32 := Scalar.muli v2641 c1_i32_1755
  let v2647 : BitVec 32 := Scalar.addi v2645 v2646
  v2647.toNat
def k0_cond140 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_795 : BitVec 32 := 1#32
  let v1282 : BitVec 32 := Scalar.addi v8 c1_i32_795
  let c1_i32_796 : BitVec 32 := 1#32
  let v1283 : BitVec 32 := Scalar.addi v1282 c1_i32_796
  let c3_i32_797 : BitVec 32 := 3#32
  let v1284 : BitVec 1 := Scalar.cmpi .sle v1283 c3_i32_797
  let v1285 : BitVec 32 := Scalar.extui v1284
  let c0_i32_798 : BitVec 32 := 0#32
  let v1286 : BitVec 1 := Scalar.cmpi .ne v1285 c0_i32_798
  v1286

def k0_off156 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c1_i32_1747 : BitVec 32 := 1#32
  let v2637 : BitVec 32 := Scalar.addi v2636 c1_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c768_i32_1750 : BitVec 32 := 768#32
  let v2641 : BitVec 32 := Scalar.addi v2640 c768_i32_1750
  let c0_i32_1756 : BitVec 32 := 0#32
  ![v2641.toNat, 0]
def k0_dev132 (d0 : Dev nD) : Nat :=
  let c0_i32_1766 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1765 : BitVec 32 := 16#32
  let v2658 : BitVec 32 := Scalar.muli v31 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1767 : BitVec 32 := 4#32
  let v2660 : BitVec 32 := Scalar.muli v5 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_dev133 (d0 : Dev nD) : Nat :=
  let c0_i32_1779 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1778 : BitVec 32 := 16#32
  let v2676 : BitVec 32 := Scalar.muli v2 c16_i32_1778
  let v2677 : BitVec 32 := Scalar.addi c0_i32_1779 v2676
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1780 : BitVec 32 := 4#32
  let v2678 : BitVec 32 := Scalar.muli v21 c4_i32_1780
  let v2679 : BitVec 32 := Scalar.addi v2677 v2678
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1781 : BitVec 32 := 1#32
  let v2680 : BitVec 32 := Scalar.muli v8 c1_i32_1781
  let v2681 : BitVec 32 := Scalar.addi v2679 v2680
  v2681.toNat
def k0_cond141 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_799 : BitVec 32 := 1#32
  let v1287 : BitVec 1 := Scalar.cmpi .sge v8 c1_i32_799
  let c2_i32_800 : BitVec 32 := 2#32
  let v1288 : BitVec 32 := Scalar.addi v8 c2_i32_800
  let c3_i32_801 : BitVec 32 := 3#32
  let v1289 : BitVec 1 := Scalar.cmpi .sle v1288 c3_i32_801
  let v1290 : BitVec 1 := Scalar.andi v1287 v1289
  let v1291 : BitVec 32 := Scalar.extui v1290
  let c0_i32_802 : BitVec 32 := 0#32
  let v1292 : BitVec 1 := Scalar.cmpi .ne v1291 c0_i32_802
  v1292

def k0_off157 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1746 : BitVec 32 := 2#32
  let v2636 : BitVec 32 := Scalar.addi v8 c2_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c768_i32_1749 : BitVec 32 := 768#32
  let v2640 : BitVec 32 := Scalar.addi v2639 c768_i32_1749
  let c0_i32_1756 : BitVec 32 := 0#32
  ![v2640.toNat, 0]
def k0_dev134 (d0 : Dev nD) : Nat :=
  let c0_i32_1753 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1752 : BitVec 32 := 16#32
  let v2642 : BitVec 32 := Scalar.muli v2 c16_i32_1752
  let v2643 : BitVec 32 := Scalar.addi c0_i32_1753 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1754 : BitVec 32 := 4#32
  let v2644 : BitVec 32 := Scalar.muli v5 c4_i32_1754
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.subi v8 c1_i32_1750
  let c1_i32_1755 : BitVec 32 := 1#32
  let v2646 : BitVec 32 := Scalar.muli v2641 c1_i32_1755
  let v2647 : BitVec 32 := Scalar.addi v2645 v2646
  v2647.toNat
def k0_cond142 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_803 : BitVec 32 := 1#32
  let v1293 : BitVec 1 := Scalar.cmpi .sge v8 c1_i32_803
  let v1294 : BitVec 32 := Scalar.extui v1293
  let c0_i32_804 : BitVec 32 := 0#32
  let v1295 : BitVec 1 := Scalar.cmpi .ne v1294 c0_i32_804
  v1295

def k0_off158 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c0_i32_1747 : BitVec 32 := 0#32
  let v2637 : BitVec 32 := Scalar.subi v2636 c0_i32_1747
  let c4096_i32_1748 : BitVec 32 := 4096#32
  let v2638 : BitVec 32 := Scalar.muli v2637 c4096_i32_1748
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1749 : BitVec 32 := 1024#32
  let v2639 : BitVec 32 := Scalar.muli v26 c1024_i32_1749
  let v2640 : BitVec 32 := Scalar.addi v2638 v2639
  let c768_i32_1750 : BitVec 32 := 768#32
  let v2641 : BitVec 32 := Scalar.addi v2640 c768_i32_1750
  let c0_i32_1756 : BitVec 32 := 0#32
  ![v2641.toNat, 0]
def k0_dev135 (d0 : Dev nD) : Nat :=
  let c0_i32_1766 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1765 : BitVec 32 := 16#32
  let v2658 : BitVec 32 := Scalar.muli v2 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1767 : BitVec 32 := 4#32
  let v2660 : BitVec 32 := Scalar.muli v21 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_cond143 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_805 : BitVec 32 := 1#32
  let v1296 : BitVec 1 := Scalar.cmpi .sge v8 c1_i32_805
  let v1297 : BitVec 32 := Scalar.extui v1296
  let c0_i32_806 : BitVec 32 := 0#32
  let v1298 : BitVec 1 := Scalar.cmpi .ne v1297 c0_i32_806
  v1298

def k0_off159 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c0_i32_1747 : BitVec 32 := 0#32
  let v2637 : BitVec 32 := Scalar.subi v2636 c0_i32_1747
  let c4096_i32_1748 : BitVec 32 := 4096#32
  let v2638 : BitVec 32 := Scalar.muli v2637 c4096_i32_1748
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1749 : BitVec 32 := 1024#32
  let v2639 : BitVec 32 := Scalar.muli v29 c1024_i32_1749
  let v2640 : BitVec 32 := Scalar.addi v2638 v2639
  let c768_i32_1750 : BitVec 32 := 768#32
  let v2641 : BitVec 32 := Scalar.addi v2640 c768_i32_1750
  let c0_i32_1756 : BitVec 32 := 0#32
  ![v2641.toNat, 0]
def k0_cond144 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_807 : BitVec 32 := 1#32
  let v1299 : BitVec 32 := Scalar.addi v8 c1_i32_807
  let c0_i32_808 : BitVec 32 := 0#32
  let v1300 : BitVec 32 := Scalar.addi v1299 c0_i32_808
  let c3_i32_809 : BitVec 32 := 3#32
  let v1301 : BitVec 1 := Scalar.cmpi .sle v1300 c3_i32_809
  let v1302 : BitVec 32 := Scalar.extui v1301
  let c0_i32_810 : BitVec 32 := 0#32
  let v1303 : BitVec 1 := Scalar.cmpi .ne v1302 c0_i32_810
  v1303

def k0_off160 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c0_i32_1747 : BitVec 32 := 0#32
  let v2637 : BitVec 32 := Scalar.addi v2636 c0_i32_1747
  let c4096_i32_1748 : BitVec 32 := 4096#32
  let v2638 : BitVec 32 := Scalar.muli v2637 c4096_i32_1748
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1749 : BitVec 32 := 1024#32
  let v2639 : BitVec 32 := Scalar.muli v26 c1024_i32_1749
  let v2640 : BitVec 32 := Scalar.addi v2638 v2639
  let c768_i32_1750 : BitVec 32 := 768#32
  let v2641 : BitVec 32 := Scalar.addi v2640 c768_i32_1750
  let c0_i32_1756 : BitVec 32 := 0#32
  ![v2641.toNat, 0]
def k0_dev136 (d0 : Dev nD) : Nat :=
  let c0_i32_1766 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1765 : BitVec 32 := 16#32
  let v2658 : BitVec 32 := Scalar.muli v2 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1767 : BitVec 32 := 4#32
  let v2660 : BitVec 32 := Scalar.muli v21 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_cond145 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_811 : BitVec 32 := 1#32
  let v1304 : BitVec 32 := Scalar.addi v8 c1_i32_811
  let c0_i32_812 : BitVec 32 := 0#32
  let v1305 : BitVec 32 := Scalar.addi v1304 c0_i32_812
  let c3_i32_813 : BitVec 32 := 3#32
  let v1306 : BitVec 1 := Scalar.cmpi .sle v1305 c3_i32_813
  let v1307 : BitVec 32 := Scalar.extui v1306
  let c0_i32_814 : BitVec 32 := 0#32
  let v1308 : BitVec 1 := Scalar.cmpi .ne v1307 c0_i32_814
  v1308

def k0_off161 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c0_i32_1747 : BitVec 32 := 0#32
  let v2637 : BitVec 32 := Scalar.addi v2636 c0_i32_1747
  let c4096_i32_1748 : BitVec 32 := 4096#32
  let v2638 : BitVec 32 := Scalar.muli v2637 c4096_i32_1748
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1749 : BitVec 32 := 1024#32
  let v2639 : BitVec 32 := Scalar.muli v29 c1024_i32_1749
  let v2640 : BitVec 32 := Scalar.addi v2638 v2639
  let c768_i32_1750 : BitVec 32 := 768#32
  let v2641 : BitVec 32 := Scalar.addi v2640 c768_i32_1750
  let c0_i32_1756 : BitVec 32 := 0#32
  ![v2641.toNat, 0]
def k0_cond146 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_829 : BitVec 32 := 2#32
  let v1333 : BitVec 1 := Scalar.cmpi .sge v8 c2_i32_829
  let v1334 : BitVec 32 := Scalar.extui v1333
  let c0_i32_830 : BitVec 32 := 0#32
  let v1335 : BitVec 1 := Scalar.cmpi .ne v1334 c0_i32_830
  v1335

def k0_off162 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c1_i32_1747 : BitVec 32 := 1#32
  let v2637 : BitVec 32 := Scalar.subi v2636 c1_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c896_i32_1750 : BitVec 32 := 896#32
  let v2641 : BitVec 32 := Scalar.addi v2640 c896_i32_1750
  let c0_i32_1756 : BitVec 32 := 0#32
  ![v2641.toNat, 0]
def k0_dev137 (d0 : Dev nD) : Nat :=
  let c0_i32_1766 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1765 : BitVec 32 := 16#32
  let v2658 : BitVec 32 := Scalar.muli v31 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1767 : BitVec 32 := 4#32
  let v2660 : BitVec 32 := Scalar.muli v5 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_dev138 (d0 : Dev nD) : Nat :=
  let c0_i32_1779 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1778 : BitVec 32 := 16#32
  let v2676 : BitVec 32 := Scalar.muli v2 c16_i32_1778
  let v2677 : BitVec 32 := Scalar.addi c0_i32_1779 v2676
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1780 : BitVec 32 := 4#32
  let v2678 : BitVec 32 := Scalar.muli v21 c4_i32_1780
  let v2679 : BitVec 32 := Scalar.addi v2677 v2678
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1781 : BitVec 32 := 1#32
  let v2680 : BitVec 32 := Scalar.muli v8 c1_i32_1781
  let v2681 : BitVec 32 := Scalar.addi v2679 v2680
  v2681.toNat
def k0_off163 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2688 : BitVec 32 := Scalar.subi v8 c1_i32_1784
  let c1_i32_1785 : BitVec 32 := 1#32
  let v2689 : BitVec 32 := Scalar.subi v2688 c1_i32_1785
  let c4096_i32_1788 : BitVec 32 := 4096#32
  let v2693 : BitVec 32 := Scalar.muli v2689 c4096_i32_1788
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1789 : BitVec 32 := 1024#32
  let v2694 : BitVec 32 := Scalar.muli v23 c1024_i32_1789
  let v2695 : BitVec 32 := Scalar.addi v2693 v2694
  let c0_i32_1790 : BitVec 32 := 0#32
  ![v2695.toNat, 0]
def k0_cond147 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_831 : BitVec 32 := 2#32
  let v1336 : BitVec 1 := Scalar.cmpi .sle v8 c2_i32_831
  let c2_i32_832 : BitVec 32 := 2#32
  let v1337 : BitVec 1 := Scalar.cmpi .sge v8 c2_i32_832
  let v1338 : BitVec 1 := Scalar.andi v1336 v1337
  let v1339 : BitVec 32 := Scalar.extui v1338
  let c0_i32_833 : BitVec 32 := 0#32
  let v1340 : BitVec 1 := Scalar.cmpi .ne v1339 c0_i32_833
  v1340

def k0_off164 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1746 : BitVec 32 := 2#32
  let v2636 : BitVec 32 := Scalar.subi v8 c2_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c896_i32_1749 : BitVec 32 := 896#32
  let v2640 : BitVec 32 := Scalar.addi v2639 c896_i32_1749
  let c0_i32_1756 : BitVec 32 := 0#32
  ![v2640.toNat, 0]
def k0_dev139 (d0 : Dev nD) : Nat :=
  let c0_i32_1753 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1752 : BitVec 32 := 16#32
  let v2642 : BitVec 32 := Scalar.muli v2 c16_i32_1752
  let v2643 : BitVec 32 := Scalar.addi c0_i32_1753 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1754 : BitVec 32 := 4#32
  let v2644 : BitVec 32 := Scalar.muli v5 c4_i32_1754
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.addi v8 c1_i32_1750
  let c1_i32_1755 : BitVec 32 := 1#32
  let v2646 : BitVec 32 := Scalar.muli v2641 c1_i32_1755
  let v2647 : BitVec 32 := Scalar.addi v2645 v2646
  v2647.toNat
def k0_cond148 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_834 : BitVec 32 := 1#32
  let v1341 : BitVec 32 := Scalar.addi v8 c1_i32_834
  let c1_i32_835 : BitVec 32 := 1#32
  let v1342 : BitVec 32 := Scalar.addi v1341 c1_i32_835
  let c3_i32_836 : BitVec 32 := 3#32
  let v1343 : BitVec 1 := Scalar.cmpi .sle v1342 c3_i32_836
  let v1344 : BitVec 32 := Scalar.extui v1343
  let c0_i32_837 : BitVec 32 := 0#32
  let v1345 : BitVec 1 := Scalar.cmpi .ne v1344 c0_i32_837
  v1345

def k0_off165 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c1_i32_1747 : BitVec 32 := 1#32
  let v2637 : BitVec 32 := Scalar.addi v2636 c1_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c896_i32_1750 : BitVec 32 := 896#32
  let v2641 : BitVec 32 := Scalar.addi v2640 c896_i32_1750
  let c0_i32_1756 : BitVec 32 := 0#32
  ![v2641.toNat, 0]
def k0_dev140 (d0 : Dev nD) : Nat :=
  let c0_i32_1766 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1765 : BitVec 32 := 16#32
  let v2658 : BitVec 32 := Scalar.muli v31 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1767 : BitVec 32 := 4#32
  let v2660 : BitVec 32 := Scalar.muli v5 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_dev141 (d0 : Dev nD) : Nat :=
  let c0_i32_1779 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1778 : BitVec 32 := 16#32
  let v2676 : BitVec 32 := Scalar.muli v2 c16_i32_1778
  let v2677 : BitVec 32 := Scalar.addi c0_i32_1779 v2676
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1780 : BitVec 32 := 4#32
  let v2678 : BitVec 32 := Scalar.muli v21 c4_i32_1780
  let v2679 : BitVec 32 := Scalar.addi v2677 v2678
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1781 : BitVec 32 := 1#32
  let v2680 : BitVec 32 := Scalar.muli v8 c1_i32_1781
  let v2681 : BitVec 32 := Scalar.addi v2679 v2680
  v2681.toNat
def k0_off166 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2688 : BitVec 32 := Scalar.addi v8 c1_i32_1784
  let c1_i32_1785 : BitVec 32 := 1#32
  let v2689 : BitVec 32 := Scalar.addi v2688 c1_i32_1785
  let c4096_i32_1788 : BitVec 32 := 4096#32
  let v2693 : BitVec 32 := Scalar.muli v2689 c4096_i32_1788
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1789 : BitVec 32 := 1024#32
  let v2694 : BitVec 32 := Scalar.muli v23 c1024_i32_1789
  let v2695 : BitVec 32 := Scalar.addi v2693 v2694
  let c0_i32_1790 : BitVec 32 := 0#32
  ![v2695.toNat, 0]
def k0_cond149 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_838 : BitVec 32 := 1#32
  let v1346 : BitVec 1 := Scalar.cmpi .sge v8 c1_i32_838
  let c2_i32_839 : BitVec 32 := 2#32
  let v1347 : BitVec 32 := Scalar.addi v8 c2_i32_839
  let c3_i32_840 : BitVec 32 := 3#32
  let v1348 : BitVec 1 := Scalar.cmpi .sle v1347 c3_i32_840
  let v1349 : BitVec 1 := Scalar.andi v1346 v1348
  let v1350 : BitVec 32 := Scalar.extui v1349
  let c0_i32_841 : BitVec 32 := 0#32
  let v1351 : BitVec 1 := Scalar.cmpi .ne v1350 c0_i32_841
  v1351

def k0_off167 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1746 : BitVec 32 := 2#32
  let v2636 : BitVec 32 := Scalar.addi v8 c2_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c896_i32_1749 : BitVec 32 := 896#32
  let v2640 : BitVec 32 := Scalar.addi v2639 c896_i32_1749
  let c0_i32_1756 : BitVec 32 := 0#32
  ![v2640.toNat, 0]
def k0_dev142 (d0 : Dev nD) : Nat :=
  let c0_i32_1753 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1752 : BitVec 32 := 16#32
  let v2642 : BitVec 32 := Scalar.muli v2 c16_i32_1752
  let v2643 : BitVec 32 := Scalar.addi c0_i32_1753 v2642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1754 : BitVec 32 := 4#32
  let v2644 : BitVec 32 := Scalar.muli v5 c4_i32_1754
  let v2645 : BitVec 32 := Scalar.addi v2643 v2644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1750 : BitVec 32 := 1#32
  let v2641 : BitVec 32 := Scalar.subi v8 c1_i32_1750
  let c1_i32_1755 : BitVec 32 := 1#32
  let v2646 : BitVec 32 := Scalar.muli v2641 c1_i32_1755
  let v2647 : BitVec 32 := Scalar.addi v2645 v2646
  v2647.toNat
def k0_cond150 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_842 : BitVec 32 := 1#32
  let v1352 : BitVec 1 := Scalar.cmpi .sge v8 c1_i32_842
  let v1353 : BitVec 32 := Scalar.extui v1352
  let c0_i32_843 : BitVec 32 := 0#32
  let v1354 : BitVec 1 := Scalar.cmpi .ne v1353 c0_i32_843
  v1354

def k0_off168 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c0_i32_1747 : BitVec 32 := 0#32
  let v2637 : BitVec 32 := Scalar.subi v2636 c0_i32_1747
  let c4096_i32_1748 : BitVec 32 := 4096#32
  let v2638 : BitVec 32 := Scalar.muli v2637 c4096_i32_1748
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1749 : BitVec 32 := 1024#32
  let v2639 : BitVec 32 := Scalar.muli v26 c1024_i32_1749
  let v2640 : BitVec 32 := Scalar.addi v2638 v2639
  let c896_i32_1750 : BitVec 32 := 896#32
  let v2641 : BitVec 32 := Scalar.addi v2640 c896_i32_1750
  let c0_i32_1756 : BitVec 32 := 0#32
  ![v2641.toNat, 0]
def k0_dev143 (d0 : Dev nD) : Nat :=
  let c0_i32_1766 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1765 : BitVec 32 := 16#32
  let v2658 : BitVec 32 := Scalar.muli v2 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1767 : BitVec 32 := 4#32
  let v2660 : BitVec 32 := Scalar.muli v21 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_off169 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1771 : BitVec 32 := 1#32
  let v2670 : BitVec 32 := Scalar.subi v8 c1_i32_1771
  let c0_i32_1772 : BitVec 32 := 0#32
  let v2671 : BitVec 32 := Scalar.subi v2670 c0_i32_1772
  let c4096_i32_1775 : BitVec 32 := 4096#32
  let v2675 : BitVec 32 := Scalar.muli v2671 c4096_i32_1775
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1776 : BitVec 32 := 1024#32
  let v2676 : BitVec 32 := Scalar.muli v26 c1024_i32_1776
  let v2677 : BitVec 32 := Scalar.addi v2675 v2676
  let c0_i32_1778 : BitVec 32 := 0#32
  ![v2677.toNat, 0]
def k0_cond151 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_844 : BitVec 32 := 1#32
  let v1355 : BitVec 1 := Scalar.cmpi .sge v8 c1_i32_844
  let v1356 : BitVec 32 := Scalar.extui v1355
  let c0_i32_845 : BitVec 32 := 0#32
  let v1357 : BitVec 1 := Scalar.cmpi .ne v1356 c0_i32_845
  v1357

def k0_off170 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c0_i32_1747 : BitVec 32 := 0#32
  let v2637 : BitVec 32 := Scalar.subi v2636 c0_i32_1747
  let c4096_i32_1748 : BitVec 32 := 4096#32
  let v2638 : BitVec 32 := Scalar.muli v2637 c4096_i32_1748
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1749 : BitVec 32 := 1024#32
  let v2639 : BitVec 32 := Scalar.muli v29 c1024_i32_1749
  let v2640 : BitVec 32 := Scalar.addi v2638 v2639
  let c896_i32_1750 : BitVec 32 := 896#32
  let v2641 : BitVec 32 := Scalar.addi v2640 c896_i32_1750
  let c0_i32_1756 : BitVec 32 := 0#32
  ![v2641.toNat, 0]
def k0_off171 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1758 : BitVec 32 := 1#32
  let v2652 : BitVec 32 := Scalar.subi v8 c1_i32_1758
  let c0_i32_1759 : BitVec 32 := 0#32
  let v2653 : BitVec 32 := Scalar.subi v2652 c0_i32_1759
  let c4096_i32_1762 : BitVec 32 := 4096#32
  let v2657 : BitVec 32 := Scalar.muli v2653 c4096_i32_1762
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1763 : BitVec 32 := 1024#32
  let v2658 : BitVec 32 := Scalar.muli v29 c1024_i32_1763
  let v2659 : BitVec 32 := Scalar.addi v2657 v2658
  let c0_i32_1764 : BitVec 32 := 0#32
  ![v2659.toNat, 0]
def k0_cond152 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_846 : BitVec 32 := 1#32
  let v1358 : BitVec 32 := Scalar.addi v8 c1_i32_846
  let c0_i32_847 : BitVec 32 := 0#32
  let v1359 : BitVec 32 := Scalar.addi v1358 c0_i32_847
  let c3_i32_848 : BitVec 32 := 3#32
  let v1360 : BitVec 1 := Scalar.cmpi .sle v1359 c3_i32_848
  let v1361 : BitVec 32 := Scalar.extui v1360
  let c0_i32_849 : BitVec 32 := 0#32
  let v1362 : BitVec 1 := Scalar.cmpi .ne v1361 c0_i32_849
  v1362

def k0_off172 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c0_i32_1747 : BitVec 32 := 0#32
  let v2637 : BitVec 32 := Scalar.addi v2636 c0_i32_1747
  let c4096_i32_1748 : BitVec 32 := 4096#32
  let v2638 : BitVec 32 := Scalar.muli v2637 c4096_i32_1748
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1749 : BitVec 32 := 1024#32
  let v2639 : BitVec 32 := Scalar.muli v26 c1024_i32_1749
  let v2640 : BitVec 32 := Scalar.addi v2638 v2639
  let c896_i32_1750 : BitVec 32 := 896#32
  let v2641 : BitVec 32 := Scalar.addi v2640 c896_i32_1750
  let c0_i32_1756 : BitVec 32 := 0#32
  ![v2641.toNat, 0]
def k0_dev144 (d0 : Dev nD) : Nat :=
  let c0_i32_1766 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1765 : BitVec 32 := 16#32
  let v2658 : BitVec 32 := Scalar.muli v2 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1767 : BitVec 32 := 4#32
  let v2660 : BitVec 32 := Scalar.muli v21 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_off173 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1771 : BitVec 32 := 1#32
  let v2670 : BitVec 32 := Scalar.addi v8 c1_i32_1771
  let c0_i32_1772 : BitVec 32 := 0#32
  let v2671 : BitVec 32 := Scalar.addi v2670 c0_i32_1772
  let c4096_i32_1775 : BitVec 32 := 4096#32
  let v2675 : BitVec 32 := Scalar.muli v2671 c4096_i32_1775
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1776 : BitVec 32 := 1024#32
  let v2676 : BitVec 32 := Scalar.muli v26 c1024_i32_1776
  let v2677 : BitVec 32 := Scalar.addi v2675 v2676
  let c0_i32_1777 : BitVec 32 := 0#32
  ![v2677.toNat, 0]
def k0_cond153 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_850 : BitVec 32 := 1#32
  let v1363 : BitVec 32 := Scalar.addi v8 c1_i32_850
  let c0_i32_851 : BitVec 32 := 0#32
  let v1364 : BitVec 32 := Scalar.addi v1363 c0_i32_851
  let c3_i32_852 : BitVec 32 := 3#32
  let v1365 : BitVec 1 := Scalar.cmpi .sle v1364 c3_i32_852
  let v1366 : BitVec 32 := Scalar.extui v1365
  let c0_i32_853 : BitVec 32 := 0#32
  let v1367 : BitVec 1 := Scalar.cmpi .ne v1366 c0_i32_853
  v1367

def k0_off174 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c0_i32_1747 : BitVec 32 := 0#32
  let v2637 : BitVec 32 := Scalar.addi v2636 c0_i32_1747
  let c4096_i32_1748 : BitVec 32 := 4096#32
  let v2638 : BitVec 32 := Scalar.muli v2637 c4096_i32_1748
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1749 : BitVec 32 := 1024#32
  let v2639 : BitVec 32 := Scalar.muli v29 c1024_i32_1749
  let v2640 : BitVec 32 := Scalar.addi v2638 v2639
  let c896_i32_1750 : BitVec 32 := 896#32
  let v2641 : BitVec 32 := Scalar.addi v2640 c896_i32_1750
  let c0_i32_1756 : BitVec 32 := 0#32
  ![v2641.toNat, 0]
def k0_off175 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1758 : BitVec 32 := 1#32
  let v2652 : BitVec 32 := Scalar.addi v8 c1_i32_1758
  let c0_i32_1759 : BitVec 32 := 0#32
  let v2653 : BitVec 32 := Scalar.addi v2652 c0_i32_1759
  let c4096_i32_1762 : BitVec 32 := 4096#32
  let v2657 : BitVec 32 := Scalar.muli v2653 c4096_i32_1762
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1763 : BitVec 32 := 1024#32
  let v2658 : BitVec 32 := Scalar.muli v29 c1024_i32_1763
  let v2659 : BitVec 32 := Scalar.addi v2657 v2658
  let c0_i32_1764 : BitVec 32 := 0#32
  ![v2659.toNat, 0]
def k0_cond154 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_895 : BitVec 32 := 3#32
  let v1437 : BitVec 1 := Scalar.cmpi .sge v8 c3_i32_895
  let v1438 : BitVec 32 := Scalar.extui v1437
  let c0_i32_896 : BitVec 32 := 0#32
  let v1439 : BitVec 1 := Scalar.cmpi .ne v1438 c0_i32_896
  v1439

def k0_off176 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c2_i32_1747 : BitVec 32 := 2#32
  let v2637 : BitVec 32 := Scalar.subi v2636 c2_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c0_i32_1750 : BitVec 32 := 0#32
  let v2641 : BitVec 32 := Scalar.addi v2640 c0_i32_1750
  let c0_i32_1757 : BitVec 32 := 0#32
  ![v2641.toNat, 0]
def k0_dev145 (d0 : Dev nD) : Nat :=
  let c0_i32_1767 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1766 : BitVec 32 := 16#32
  let v2658 : BitVec 32 := Scalar.muli v31 c16_i32_1766
  let v2659 : BitVec 32 := Scalar.addi c0_i32_1767 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1768 : BitVec 32 := 4#32
  let v2660 : BitVec 32 := Scalar.muli v5 c4_i32_1768
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1769 : BitVec 32 := 1#32
  let v2662 : BitVec 32 := Scalar.muli v8 c1_i32_1769
  let v2663 : BitVec 32 := Scalar.addi v2661 v2662
  v2663.toNat
def k0_dev146 (d0 : Dev nD) : Nat :=
  let c0_i32_1780 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1779 : BitVec 32 := 16#32
  let v2676 : BitVec 32 := Scalar.muli v2 c16_i32_1779
  let v2677 : BitVec 32 := Scalar.addi c0_i32_1780 v2676
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1781 : BitVec 32 := 4#32
  let v2678 : BitVec 32 := Scalar.muli v21 c4_i32_1781
  let v2679 : BitVec 32 := Scalar.addi v2677 v2678
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1782 : BitVec 32 := 1#32
  let v2680 : BitVec 32 := Scalar.muli v8 c1_i32_1782
  let v2681 : BitVec 32 := Scalar.addi v2679 v2680
  v2681.toNat
def k0_cond155 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_897 : BitVec 32 := 1#32
  let v1440 : BitVec 32 := Scalar.addi v8 c1_i32_897
  let c2_i32_898 : BitVec 32 := 2#32
  let v1441 : BitVec 32 := Scalar.addi v1440 c2_i32_898
  let c3_i32_899 : BitVec 32 := 3#32
  let v1442 : BitVec 1 := Scalar.cmpi .sle v1441 c3_i32_899
  let v1443 : BitVec 32 := Scalar.extui v1442
  let c0_i32_900 : BitVec 32 := 0#32
  let v1444 : BitVec 1 := Scalar.cmpi .ne v1443 c0_i32_900
  v1444

def k0_off177 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c2_i32_1747 : BitVec 32 := 2#32
  let v2637 : BitVec 32 := Scalar.addi v2636 c2_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c0_i32_1750 : BitVec 32 := 0#32
  let v2641 : BitVec 32 := Scalar.addi v2640 c0_i32_1750
  let c0_i32_1757 : BitVec 32 := 0#32
  ![v2641.toNat, 0]
def k0_dev147 (d0 : Dev nD) : Nat :=
  let c0_i32_1767 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1766 : BitVec 32 := 16#32
  let v2658 : BitVec 32 := Scalar.muli v31 c16_i32_1766
  let v2659 : BitVec 32 := Scalar.addi c0_i32_1767 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1768 : BitVec 32 := 4#32
  let v2660 : BitVec 32 := Scalar.muli v5 c4_i32_1768
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1769 : BitVec 32 := 1#32
  let v2662 : BitVec 32 := Scalar.muli v8 c1_i32_1769
  let v2663 : BitVec 32 := Scalar.addi v2661 v2662
  v2663.toNat
def k0_dev148 (d0 : Dev nD) : Nat :=
  let c0_i32_1780 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1779 : BitVec 32 := 16#32
  let v2676 : BitVec 32 := Scalar.muli v2 c16_i32_1779
  let v2677 : BitVec 32 := Scalar.addi c0_i32_1780 v2676
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1781 : BitVec 32 := 4#32
  let v2678 : BitVec 32 := Scalar.muli v21 c4_i32_1781
  let v2679 : BitVec 32 := Scalar.addi v2677 v2678
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1782 : BitVec 32 := 1#32
  let v2680 : BitVec 32 := Scalar.muli v8 c1_i32_1782
  let v2681 : BitVec 32 := Scalar.addi v2679 v2680
  v2681.toNat
def k0_cond156 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_901 : BitVec 32 := 3#32
  let v1445 : BitVec 1 := Scalar.cmpi .sge v8 c3_i32_901
  let v1446 : BitVec 32 := Scalar.extui v1445
  let c0_i32_902 : BitVec 32 := 0#32
  let v1447 : BitVec 1 := Scalar.cmpi .ne v1446 c0_i32_902
  v1447

def k0_off178 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c2_i32_1747 : BitVec 32 := 2#32
  let v2637 : BitVec 32 := Scalar.subi v2636 c2_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c128_i32_1750 : BitVec 32 := 128#32
  let v2641 : BitVec 32 := Scalar.addi v2640 c128_i32_1750
  let c0_i32_1756 : BitVec 32 := 0#32
  ![v2641.toNat, 0]
def k0_dev149 (d0 : Dev nD) : Nat :=
  let c0_i32_1766 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1765 : BitVec 32 := 16#32
  let v2658 : BitVec 32 := Scalar.muli v31 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1767 : BitVec 32 := 4#32
  let v2660 : BitVec 32 := Scalar.muli v5 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_dev150 (d0 : Dev nD) : Nat :=
  let c0_i32_1779 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1778 : BitVec 32 := 16#32
  let v2676 : BitVec 32 := Scalar.muli v2 c16_i32_1778
  let v2677 : BitVec 32 := Scalar.addi c0_i32_1779 v2676
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1780 : BitVec 32 := 4#32
  let v2678 : BitVec 32 := Scalar.muli v21 c4_i32_1780
  let v2679 : BitVec 32 := Scalar.addi v2677 v2678
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1781 : BitVec 32 := 1#32
  let v2680 : BitVec 32 := Scalar.muli v8 c1_i32_1781
  let v2681 : BitVec 32 := Scalar.addi v2679 v2680
  v2681.toNat
def k0_cond157 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_903 : BitVec 32 := 1#32
  let v1448 : BitVec 32 := Scalar.addi v8 c1_i32_903
  let c2_i32_904 : BitVec 32 := 2#32
  let v1449 : BitVec 32 := Scalar.addi v1448 c2_i32_904
  let c3_i32_905 : BitVec 32 := 3#32
  let v1450 : BitVec 1 := Scalar.cmpi .sle v1449 c3_i32_905
  let v1451 : BitVec 32 := Scalar.extui v1450
  let c0_i32_906 : BitVec 32 := 0#32
  let v1452 : BitVec 1 := Scalar.cmpi .ne v1451 c0_i32_906
  v1452

def k0_off179 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c2_i32_1747 : BitVec 32 := 2#32
  let v2637 : BitVec 32 := Scalar.addi v2636 c2_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c128_i32_1750 : BitVec 32 := 128#32
  let v2641 : BitVec 32 := Scalar.addi v2640 c128_i32_1750
  let c0_i32_1756 : BitVec 32 := 0#32
  ![v2641.toNat, 0]
def k0_dev151 (d0 : Dev nD) : Nat :=
  let c0_i32_1766 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1765 : BitVec 32 := 16#32
  let v2658 : BitVec 32 := Scalar.muli v31 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1767 : BitVec 32 := 4#32
  let v2660 : BitVec 32 := Scalar.muli v5 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_dev152 (d0 : Dev nD) : Nat :=
  let c0_i32_1779 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1778 : BitVec 32 := 16#32
  let v2676 : BitVec 32 := Scalar.muli v2 c16_i32_1778
  let v2677 : BitVec 32 := Scalar.addi c0_i32_1779 v2676
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1780 : BitVec 32 := 4#32
  let v2678 : BitVec 32 := Scalar.muli v21 c4_i32_1780
  let v2679 : BitVec 32 := Scalar.addi v2677 v2678
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1781 : BitVec 32 := 1#32
  let v2680 : BitVec 32 := Scalar.muli v8 c1_i32_1781
  let v2681 : BitVec 32 := Scalar.addi v2679 v2680
  v2681.toNat
def k0_cond158 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_907 : BitVec 32 := 3#32
  let v1453 : BitVec 1 := Scalar.cmpi .sge v8 c3_i32_907
  let v1454 : BitVec 32 := Scalar.extui v1453
  let c0_i32_908 : BitVec 32 := 0#32
  let v1455 : BitVec 1 := Scalar.cmpi .ne v1454 c0_i32_908
  v1455

def k0_off180 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c2_i32_1747 : BitVec 32 := 2#32
  let v2637 : BitVec 32 := Scalar.subi v2636 c2_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c256_i32_1750 : BitVec 32 := 256#32
  let v2641 : BitVec 32 := Scalar.addi v2640 c256_i32_1750
  let c0_i32_1756 : BitVec 32 := 0#32
  ![v2641.toNat, 0]
def k0_dev153 (d0 : Dev nD) : Nat :=
  let c0_i32_1766 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1765 : BitVec 32 := 16#32
  let v2658 : BitVec 32 := Scalar.muli v31 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1767 : BitVec 32 := 4#32
  let v2660 : BitVec 32 := Scalar.muli v5 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_dev154 (d0 : Dev nD) : Nat :=
  let c0_i32_1779 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1778 : BitVec 32 := 16#32
  let v2676 : BitVec 32 := Scalar.muli v2 c16_i32_1778
  let v2677 : BitVec 32 := Scalar.addi c0_i32_1779 v2676
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1780 : BitVec 32 := 4#32
  let v2678 : BitVec 32 := Scalar.muli v21 c4_i32_1780
  let v2679 : BitVec 32 := Scalar.addi v2677 v2678
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1781 : BitVec 32 := 1#32
  let v2680 : BitVec 32 := Scalar.muli v8 c1_i32_1781
  let v2681 : BitVec 32 := Scalar.addi v2679 v2680
  v2681.toNat
def k0_cond159 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_909 : BitVec 32 := 1#32
  let v1456 : BitVec 32 := Scalar.addi v8 c1_i32_909
  let c2_i32_910 : BitVec 32 := 2#32
  let v1457 : BitVec 32 := Scalar.addi v1456 c2_i32_910
  let c3_i32_911 : BitVec 32 := 3#32
  let v1458 : BitVec 1 := Scalar.cmpi .sle v1457 c3_i32_911
  let v1459 : BitVec 32 := Scalar.extui v1458
  let c0_i32_912 : BitVec 32 := 0#32
  let v1460 : BitVec 1 := Scalar.cmpi .ne v1459 c0_i32_912
  v1460

def k0_off181 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c2_i32_1747 : BitVec 32 := 2#32
  let v2637 : BitVec 32 := Scalar.addi v2636 c2_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c256_i32_1750 : BitVec 32 := 256#32
  let v2641 : BitVec 32 := Scalar.addi v2640 c256_i32_1750
  let c0_i32_1756 : BitVec 32 := 0#32
  ![v2641.toNat, 0]
def k0_dev155 (d0 : Dev nD) : Nat :=
  let c0_i32_1766 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1765 : BitVec 32 := 16#32
  let v2658 : BitVec 32 := Scalar.muli v31 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1767 : BitVec 32 := 4#32
  let v2660 : BitVec 32 := Scalar.muli v5 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_dev156 (d0 : Dev nD) : Nat :=
  let c0_i32_1779 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1778 : BitVec 32 := 16#32
  let v2676 : BitVec 32 := Scalar.muli v2 c16_i32_1778
  let v2677 : BitVec 32 := Scalar.addi c0_i32_1779 v2676
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1780 : BitVec 32 := 4#32
  let v2678 : BitVec 32 := Scalar.muli v21 c4_i32_1780
  let v2679 : BitVec 32 := Scalar.addi v2677 v2678
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1781 : BitVec 32 := 1#32
  let v2680 : BitVec 32 := Scalar.muli v8 c1_i32_1781
  let v2681 : BitVec 32 := Scalar.addi v2679 v2680
  v2681.toNat
def k0_cond160 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_913 : BitVec 32 := 3#32
  let v1461 : BitVec 1 := Scalar.cmpi .sge v8 c3_i32_913
  let v1462 : BitVec 32 := Scalar.extui v1461
  let c0_i32_914 : BitVec 32 := 0#32
  let v1463 : BitVec 1 := Scalar.cmpi .ne v1462 c0_i32_914
  v1463

def k0_off182 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c2_i32_1747 : BitVec 32 := 2#32
  let v2637 : BitVec 32 := Scalar.subi v2636 c2_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c384_i32_1750 : BitVec 32 := 384#32
  let v2641 : BitVec 32 := Scalar.addi v2640 c384_i32_1750
  let c0_i32_1756 : BitVec 32 := 0#32
  ![v2641.toNat, 0]
def k0_dev157 (d0 : Dev nD) : Nat :=
  let c0_i32_1766 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1765 : BitVec 32 := 16#32
  let v2658 : BitVec 32 := Scalar.muli v31 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1767 : BitVec 32 := 4#32
  let v2660 : BitVec 32 := Scalar.muli v5 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_dev158 (d0 : Dev nD) : Nat :=
  let c0_i32_1779 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1778 : BitVec 32 := 16#32
  let v2676 : BitVec 32 := Scalar.muli v2 c16_i32_1778
  let v2677 : BitVec 32 := Scalar.addi c0_i32_1779 v2676
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1780 : BitVec 32 := 4#32
  let v2678 : BitVec 32 := Scalar.muli v21 c4_i32_1780
  let v2679 : BitVec 32 := Scalar.addi v2677 v2678
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1781 : BitVec 32 := 1#32
  let v2680 : BitVec 32 := Scalar.muli v8 c1_i32_1781
  let v2681 : BitVec 32 := Scalar.addi v2679 v2680
  v2681.toNat
def k0_cond161 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_915 : BitVec 32 := 1#32
  let v1464 : BitVec 32 := Scalar.addi v8 c1_i32_915
  let c2_i32_916 : BitVec 32 := 2#32
  let v1465 : BitVec 32 := Scalar.addi v1464 c2_i32_916
  let c3_i32_917 : BitVec 32 := 3#32
  let v1466 : BitVec 1 := Scalar.cmpi .sle v1465 c3_i32_917
  let v1467 : BitVec 32 := Scalar.extui v1466
  let c0_i32_918 : BitVec 32 := 0#32
  let v1468 : BitVec 1 := Scalar.cmpi .ne v1467 c0_i32_918
  v1468

def k0_off183 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c2_i32_1747 : BitVec 32 := 2#32
  let v2637 : BitVec 32 := Scalar.addi v2636 c2_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c384_i32_1750 : BitVec 32 := 384#32
  let v2641 : BitVec 32 := Scalar.addi v2640 c384_i32_1750
  let c0_i32_1756 : BitVec 32 := 0#32
  ![v2641.toNat, 0]
def k0_dev159 (d0 : Dev nD) : Nat :=
  let c0_i32_1766 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1765 : BitVec 32 := 16#32
  let v2658 : BitVec 32 := Scalar.muli v31 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1767 : BitVec 32 := 4#32
  let v2660 : BitVec 32 := Scalar.muli v5 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_dev160 (d0 : Dev nD) : Nat :=
  let c0_i32_1779 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1778 : BitVec 32 := 16#32
  let v2676 : BitVec 32 := Scalar.muli v2 c16_i32_1778
  let v2677 : BitVec 32 := Scalar.addi c0_i32_1779 v2676
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1780 : BitVec 32 := 4#32
  let v2678 : BitVec 32 := Scalar.muli v21 c4_i32_1780
  let v2679 : BitVec 32 := Scalar.addi v2677 v2678
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1781 : BitVec 32 := 1#32
  let v2680 : BitVec 32 := Scalar.muli v8 c1_i32_1781
  let v2681 : BitVec 32 := Scalar.addi v2679 v2680
  v2681.toNat
def k0_cond162 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_919 : BitVec 32 := 3#32
  let v1469 : BitVec 1 := Scalar.cmpi .sge v8 c3_i32_919
  let v1470 : BitVec 32 := Scalar.extui v1469
  let c0_i32_920 : BitVec 32 := 0#32
  let v1471 : BitVec 1 := Scalar.cmpi .ne v1470 c0_i32_920
  v1471

def k0_off184 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c2_i32_1747 : BitVec 32 := 2#32
  let v2637 : BitVec 32 := Scalar.subi v2636 c2_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c512_i32_1750 : BitVec 32 := 512#32
  let v2641 : BitVec 32 := Scalar.addi v2640 c512_i32_1750
  let c0_i32_1756 : BitVec 32 := 0#32
  ![v2641.toNat, 0]
def k0_dev161 (d0 : Dev nD) : Nat :=
  let c0_i32_1766 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1765 : BitVec 32 := 16#32
  let v2658 : BitVec 32 := Scalar.muli v31 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1767 : BitVec 32 := 4#32
  let v2660 : BitVec 32 := Scalar.muli v5 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_dev162 (d0 : Dev nD) : Nat :=
  let c0_i32_1779 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1778 : BitVec 32 := 16#32
  let v2676 : BitVec 32 := Scalar.muli v2 c16_i32_1778
  let v2677 : BitVec 32 := Scalar.addi c0_i32_1779 v2676
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1780 : BitVec 32 := 4#32
  let v2678 : BitVec 32 := Scalar.muli v21 c4_i32_1780
  let v2679 : BitVec 32 := Scalar.addi v2677 v2678
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1781 : BitVec 32 := 1#32
  let v2680 : BitVec 32 := Scalar.muli v8 c1_i32_1781
  let v2681 : BitVec 32 := Scalar.addi v2679 v2680
  v2681.toNat
def k0_cond163 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_921 : BitVec 32 := 1#32
  let v1472 : BitVec 32 := Scalar.addi v8 c1_i32_921
  let c2_i32_922 : BitVec 32 := 2#32
  let v1473 : BitVec 32 := Scalar.addi v1472 c2_i32_922
  let c3_i32_923 : BitVec 32 := 3#32
  let v1474 : BitVec 1 := Scalar.cmpi .sle v1473 c3_i32_923
  let v1475 : BitVec 32 := Scalar.extui v1474
  let c0_i32_924 : BitVec 32 := 0#32
  let v1476 : BitVec 1 := Scalar.cmpi .ne v1475 c0_i32_924
  v1476

def k0_off185 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c2_i32_1747 : BitVec 32 := 2#32
  let v2637 : BitVec 32 := Scalar.addi v2636 c2_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c512_i32_1750 : BitVec 32 := 512#32
  let v2641 : BitVec 32 := Scalar.addi v2640 c512_i32_1750
  let c0_i32_1756 : BitVec 32 := 0#32
  ![v2641.toNat, 0]
def k0_dev163 (d0 : Dev nD) : Nat :=
  let c0_i32_1766 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1765 : BitVec 32 := 16#32
  let v2658 : BitVec 32 := Scalar.muli v31 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1767 : BitVec 32 := 4#32
  let v2660 : BitVec 32 := Scalar.muli v5 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_dev164 (d0 : Dev nD) : Nat :=
  let c0_i32_1779 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1778 : BitVec 32 := 16#32
  let v2676 : BitVec 32 := Scalar.muli v2 c16_i32_1778
  let v2677 : BitVec 32 := Scalar.addi c0_i32_1779 v2676
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1780 : BitVec 32 := 4#32
  let v2678 : BitVec 32 := Scalar.muli v21 c4_i32_1780
  let v2679 : BitVec 32 := Scalar.addi v2677 v2678
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1781 : BitVec 32 := 1#32
  let v2680 : BitVec 32 := Scalar.muli v8 c1_i32_1781
  let v2681 : BitVec 32 := Scalar.addi v2679 v2680
  v2681.toNat
def k0_cond164 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_925 : BitVec 32 := 3#32
  let v1477 : BitVec 1 := Scalar.cmpi .sge v8 c3_i32_925
  let v1478 : BitVec 32 := Scalar.extui v1477
  let c0_i32_926 : BitVec 32 := 0#32
  let v1479 : BitVec 1 := Scalar.cmpi .ne v1478 c0_i32_926
  v1479

def k0_off186 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c2_i32_1747 : BitVec 32 := 2#32
  let v2637 : BitVec 32 := Scalar.subi v2636 c2_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c640_i32_1750 : BitVec 32 := 640#32
  let v2641 : BitVec 32 := Scalar.addi v2640 c640_i32_1750
  let c0_i32_1756 : BitVec 32 := 0#32
  ![v2641.toNat, 0]
def k0_dev165 (d0 : Dev nD) : Nat :=
  let c0_i32_1766 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1765 : BitVec 32 := 16#32
  let v2658 : BitVec 32 := Scalar.muli v31 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1767 : BitVec 32 := 4#32
  let v2660 : BitVec 32 := Scalar.muli v5 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_dev166 (d0 : Dev nD) : Nat :=
  let c0_i32_1779 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1778 : BitVec 32 := 16#32
  let v2676 : BitVec 32 := Scalar.muli v2 c16_i32_1778
  let v2677 : BitVec 32 := Scalar.addi c0_i32_1779 v2676
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1780 : BitVec 32 := 4#32
  let v2678 : BitVec 32 := Scalar.muli v21 c4_i32_1780
  let v2679 : BitVec 32 := Scalar.addi v2677 v2678
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1781 : BitVec 32 := 1#32
  let v2680 : BitVec 32 := Scalar.muli v8 c1_i32_1781
  let v2681 : BitVec 32 := Scalar.addi v2679 v2680
  v2681.toNat
def k0_cond165 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_927 : BitVec 32 := 1#32
  let v1480 : BitVec 32 := Scalar.addi v8 c1_i32_927
  let c2_i32_928 : BitVec 32 := 2#32
  let v1481 : BitVec 32 := Scalar.addi v1480 c2_i32_928
  let c3_i32_929 : BitVec 32 := 3#32
  let v1482 : BitVec 1 := Scalar.cmpi .sle v1481 c3_i32_929
  let v1483 : BitVec 32 := Scalar.extui v1482
  let c0_i32_930 : BitVec 32 := 0#32
  let v1484 : BitVec 1 := Scalar.cmpi .ne v1483 c0_i32_930
  v1484

def k0_off187 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c2_i32_1747 : BitVec 32 := 2#32
  let v2637 : BitVec 32 := Scalar.addi v2636 c2_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c640_i32_1750 : BitVec 32 := 640#32
  let v2641 : BitVec 32 := Scalar.addi v2640 c640_i32_1750
  let c0_i32_1756 : BitVec 32 := 0#32
  ![v2641.toNat, 0]
def k0_dev167 (d0 : Dev nD) : Nat :=
  let c0_i32_1766 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1765 : BitVec 32 := 16#32
  let v2658 : BitVec 32 := Scalar.muli v31 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1767 : BitVec 32 := 4#32
  let v2660 : BitVec 32 := Scalar.muli v5 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_dev168 (d0 : Dev nD) : Nat :=
  let c0_i32_1779 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1778 : BitVec 32 := 16#32
  let v2676 : BitVec 32 := Scalar.muli v2 c16_i32_1778
  let v2677 : BitVec 32 := Scalar.addi c0_i32_1779 v2676
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1780 : BitVec 32 := 4#32
  let v2678 : BitVec 32 := Scalar.muli v21 c4_i32_1780
  let v2679 : BitVec 32 := Scalar.addi v2677 v2678
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1781 : BitVec 32 := 1#32
  let v2680 : BitVec 32 := Scalar.muli v8 c1_i32_1781
  let v2681 : BitVec 32 := Scalar.addi v2679 v2680
  v2681.toNat
def k0_cond166 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_931 : BitVec 32 := 3#32
  let v1485 : BitVec 1 := Scalar.cmpi .sge v8 c3_i32_931
  let v1486 : BitVec 32 := Scalar.extui v1485
  let c0_i32_932 : BitVec 32 := 0#32
  let v1487 : BitVec 1 := Scalar.cmpi .ne v1486 c0_i32_932
  v1487

def k0_off188 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c2_i32_1747 : BitVec 32 := 2#32
  let v2637 : BitVec 32 := Scalar.subi v2636 c2_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c768_i32_1750 : BitVec 32 := 768#32
  let v2641 : BitVec 32 := Scalar.addi v2640 c768_i32_1750
  let c0_i32_1756 : BitVec 32 := 0#32
  ![v2641.toNat, 0]
def k0_dev169 (d0 : Dev nD) : Nat :=
  let c0_i32_1766 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1765 : BitVec 32 := 16#32
  let v2658 : BitVec 32 := Scalar.muli v31 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1767 : BitVec 32 := 4#32
  let v2660 : BitVec 32 := Scalar.muli v5 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_dev170 (d0 : Dev nD) : Nat :=
  let c0_i32_1779 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1778 : BitVec 32 := 16#32
  let v2676 : BitVec 32 := Scalar.muli v2 c16_i32_1778
  let v2677 : BitVec 32 := Scalar.addi c0_i32_1779 v2676
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1780 : BitVec 32 := 4#32
  let v2678 : BitVec 32 := Scalar.muli v21 c4_i32_1780
  let v2679 : BitVec 32 := Scalar.addi v2677 v2678
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1781 : BitVec 32 := 1#32
  let v2680 : BitVec 32 := Scalar.muli v8 c1_i32_1781
  let v2681 : BitVec 32 := Scalar.addi v2679 v2680
  v2681.toNat
def k0_cond167 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_933 : BitVec 32 := 1#32
  let v1488 : BitVec 32 := Scalar.addi v8 c1_i32_933
  let c2_i32_934 : BitVec 32 := 2#32
  let v1489 : BitVec 32 := Scalar.addi v1488 c2_i32_934
  let c3_i32_935 : BitVec 32 := 3#32
  let v1490 : BitVec 1 := Scalar.cmpi .sle v1489 c3_i32_935
  let v1491 : BitVec 32 := Scalar.extui v1490
  let c0_i32_936 : BitVec 32 := 0#32
  let v1492 : BitVec 1 := Scalar.cmpi .ne v1491 c0_i32_936
  v1492

def k0_off189 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c2_i32_1747 : BitVec 32 := 2#32
  let v2637 : BitVec 32 := Scalar.addi v2636 c2_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c768_i32_1750 : BitVec 32 := 768#32
  let v2641 : BitVec 32 := Scalar.addi v2640 c768_i32_1750
  let c0_i32_1756 : BitVec 32 := 0#32
  ![v2641.toNat, 0]
def k0_dev171 (d0 : Dev nD) : Nat :=
  let c0_i32_1766 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1765 : BitVec 32 := 16#32
  let v2658 : BitVec 32 := Scalar.muli v31 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1767 : BitVec 32 := 4#32
  let v2660 : BitVec 32 := Scalar.muli v5 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_dev172 (d0 : Dev nD) : Nat :=
  let c0_i32_1779 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1778 : BitVec 32 := 16#32
  let v2676 : BitVec 32 := Scalar.muli v2 c16_i32_1778
  let v2677 : BitVec 32 := Scalar.addi c0_i32_1779 v2676
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1780 : BitVec 32 := 4#32
  let v2678 : BitVec 32 := Scalar.muli v21 c4_i32_1780
  let v2679 : BitVec 32 := Scalar.addi v2677 v2678
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1781 : BitVec 32 := 1#32
  let v2680 : BitVec 32 := Scalar.muli v8 c1_i32_1781
  let v2681 : BitVec 32 := Scalar.addi v2679 v2680
  v2681.toNat
def k0_cond168 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_937 : BitVec 32 := 3#32
  let v1493 : BitVec 1 := Scalar.cmpi .sge v8 c3_i32_937
  let v1494 : BitVec 32 := Scalar.extui v1493
  let c0_i32_938 : BitVec 32 := 0#32
  let v1495 : BitVec 1 := Scalar.cmpi .ne v1494 c0_i32_938
  v1495

def k0_off190 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c2_i32_1747 : BitVec 32 := 2#32
  let v2637 : BitVec 32 := Scalar.subi v2636 c2_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c896_i32_1750 : BitVec 32 := 896#32
  let v2641 : BitVec 32 := Scalar.addi v2640 c896_i32_1750
  let c0_i32_1756 : BitVec 32 := 0#32
  ![v2641.toNat, 0]
def k0_dev173 (d0 : Dev nD) : Nat :=
  let c0_i32_1766 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1765 : BitVec 32 := 16#32
  let v2658 : BitVec 32 := Scalar.muli v31 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1767 : BitVec 32 := 4#32
  let v2660 : BitVec 32 := Scalar.muli v5 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_dev174 (d0 : Dev nD) : Nat :=
  let c0_i32_1779 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1778 : BitVec 32 := 16#32
  let v2676 : BitVec 32 := Scalar.muli v2 c16_i32_1778
  let v2677 : BitVec 32 := Scalar.addi c0_i32_1779 v2676
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1780 : BitVec 32 := 4#32
  let v2678 : BitVec 32 := Scalar.muli v21 c4_i32_1780
  let v2679 : BitVec 32 := Scalar.addi v2677 v2678
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1781 : BitVec 32 := 1#32
  let v2680 : BitVec 32 := Scalar.muli v8 c1_i32_1781
  let v2681 : BitVec 32 := Scalar.addi v2679 v2680
  v2681.toNat
def k0_off191 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2688 : BitVec 32 := Scalar.subi v8 c1_i32_1784
  let c2_i32_1785 : BitVec 32 := 2#32
  let v2689 : BitVec 32 := Scalar.subi v2688 c2_i32_1785
  let c4096_i32_1788 : BitVec 32 := 4096#32
  let v2693 : BitVec 32 := Scalar.muli v2689 c4096_i32_1788
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1789 : BitVec 32 := 1024#32
  let v2694 : BitVec 32 := Scalar.muli v23 c1024_i32_1789
  let v2695 : BitVec 32 := Scalar.addi v2693 v2694
  let c0_i32_1790 : BitVec 32 := 0#32
  ![v2695.toNat, 0]
def k0_cond169 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_939 : BitVec 32 := 1#32
  let v1496 : BitVec 32 := Scalar.addi v8 c1_i32_939
  let c2_i32_940 : BitVec 32 := 2#32
  let v1497 : BitVec 32 := Scalar.addi v1496 c2_i32_940
  let c3_i32_941 : BitVec 32 := 3#32
  let v1498 : BitVec 1 := Scalar.cmpi .sle v1497 c3_i32_941
  let v1499 : BitVec 32 := Scalar.extui v1498
  let c0_i32_942 : BitVec 32 := 0#32
  let v1500 : BitVec 1 := Scalar.cmpi .ne v1499 c0_i32_942
  v1500

def k0_off192 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c2_i32_1747 : BitVec 32 := 2#32
  let v2637 : BitVec 32 := Scalar.addi v2636 c2_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c896_i32_1750 : BitVec 32 := 896#32
  let v2641 : BitVec 32 := Scalar.addi v2640 c896_i32_1750
  let c0_i32_1756 : BitVec 32 := 0#32
  ![v2641.toNat, 0]
def k0_dev175 (d0 : Dev nD) : Nat :=
  let c0_i32_1766 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1765 : BitVec 32 := 16#32
  let v2658 : BitVec 32 := Scalar.muli v31 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1767 : BitVec 32 := 4#32
  let v2660 : BitVec 32 := Scalar.muli v5 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_dev176 (d0 : Dev nD) : Nat :=
  let c0_i32_1779 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1778 : BitVec 32 := 16#32
  let v2676 : BitVec 32 := Scalar.muli v2 c16_i32_1778
  let v2677 : BitVec 32 := Scalar.addi c0_i32_1779 v2676
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1780 : BitVec 32 := 4#32
  let v2678 : BitVec 32 := Scalar.muli v21 c4_i32_1780
  let v2679 : BitVec 32 := Scalar.addi v2677 v2678
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1781 : BitVec 32 := 1#32
  let v2680 : BitVec 32 := Scalar.muli v8 c1_i32_1781
  let v2681 : BitVec 32 := Scalar.addi v2679 v2680
  v2681.toNat
def k0_off193 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1784 : BitVec 32 := 1#32
  let v2688 : BitVec 32 := Scalar.addi v8 c1_i32_1784
  let c2_i32_1785 : BitVec 32 := 2#32
  let v2689 : BitVec 32 := Scalar.addi v2688 c2_i32_1785
  let c4096_i32_1788 : BitVec 32 := 4096#32
  let v2693 : BitVec 32 := Scalar.muli v2689 c4096_i32_1788
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1789 : BitVec 32 := 1024#32
  let v2694 : BitVec 32 := Scalar.muli v23 c1024_i32_1789
  let v2695 : BitVec 32 := Scalar.addi v2693 v2694
  let c0_i32_1790 : BitVec 32 := 0#32
  ![v2695.toNat, 0]
def k0_cond170 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_943 : BitVec 32 := 3#32
  let v1501 : BitVec 1 := Scalar.cmpi .sge v8 c3_i32_943
  let v1502 : BitVec 32 := Scalar.extui v1501
  let c0_i32_944 : BitVec 32 := 0#32
  let v1503 : BitVec 1 := Scalar.cmpi .ne v1502 c0_i32_944
  v1503

def k0_off194 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c2_i32_1747 : BitVec 32 := 2#32
  let v2637 : BitVec 32 := Scalar.subi v2636 c2_i32_1747
  let c4096_i32_1748 : BitVec 32 := 4096#32
  let v2638 : BitVec 32 := Scalar.muli v2637 c4096_i32_1748
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1749 : BitVec 32 := 1024#32
  let v2639 : BitVec 32 := Scalar.muli v30 c1024_i32_1749
  let v2640 : BitVec 32 := Scalar.addi v2638 v2639
  let c0_i32_1750 : BitVec 32 := 0#32
  let v2641 : BitVec 32 := Scalar.addi v2640 c0_i32_1750
  let c0_i32_1756 : BitVec 32 := 0#32
  ![v2641.toNat, 0]
def k0_cond171 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_945 : BitVec 32 := 1#32
  let v1504 : BitVec 32 := Scalar.addi v8 c1_i32_945
  let c2_i32_946 : BitVec 32 := 2#32
  let v1505 : BitVec 32 := Scalar.addi v1504 c2_i32_946
  let c3_i32_947 : BitVec 32 := 3#32
  let v1506 : BitVec 1 := Scalar.cmpi .sle v1505 c3_i32_947
  let v1507 : BitVec 32 := Scalar.extui v1506
  let c0_i32_948 : BitVec 32 := 0#32
  let v1508 : BitVec 1 := Scalar.cmpi .ne v1507 c0_i32_948
  v1508

def k0_off195 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c2_i32_1747 : BitVec 32 := 2#32
  let v2637 : BitVec 32 := Scalar.addi v2636 c2_i32_1747
  let c4096_i32_1748 : BitVec 32 := 4096#32
  let v2638 : BitVec 32 := Scalar.muli v2637 c4096_i32_1748
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1749 : BitVec 32 := 1024#32
  let v2639 : BitVec 32 := Scalar.muli v30 c1024_i32_1749
  let v2640 : BitVec 32 := Scalar.addi v2638 v2639
  let c0_i32_1750 : BitVec 32 := 0#32
  let v2641 : BitVec 32 := Scalar.addi v2640 c0_i32_1750
  let c0_i32_1756 : BitVec 32 := 0#32
  ![v2641.toNat, 0]
def k0_cond172 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_949 : BitVec 32 := 3#32
  let v1509 : BitVec 1 := Scalar.cmpi .sge v8 c3_i32_949
  let v1510 : BitVec 32 := Scalar.extui v1509
  let c0_i32_950 : BitVec 32 := 0#32
  let v1511 : BitVec 1 := Scalar.cmpi .ne v1510 c0_i32_950
  v1511

def k0_off196 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c2_i32_1747 : BitVec 32 := 2#32
  let v2637 : BitVec 32 := Scalar.subi v2636 c2_i32_1747
  let c4096_i32_1748 : BitVec 32 := 4096#32
  let v2638 : BitVec 32 := Scalar.muli v2637 c4096_i32_1748
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1749 : BitVec 32 := 1024#32
  let v2639 : BitVec 32 := Scalar.muli v30 c1024_i32_1749
  let v2640 : BitVec 32 := Scalar.addi v2638 v2639
  let c128_i32_1750 : BitVec 32 := 128#32
  let v2641 : BitVec 32 := Scalar.addi v2640 c128_i32_1750
  let c0_i32_1756 : BitVec 32 := 0#32
  ![v2641.toNat, 0]
def k0_cond173 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_951 : BitVec 32 := 1#32
  let v1512 : BitVec 32 := Scalar.addi v8 c1_i32_951
  let c2_i32_952 : BitVec 32 := 2#32
  let v1513 : BitVec 32 := Scalar.addi v1512 c2_i32_952
  let c3_i32_953 : BitVec 32 := 3#32
  let v1514 : BitVec 1 := Scalar.cmpi .sle v1513 c3_i32_953
  let v1515 : BitVec 32 := Scalar.extui v1514
  let c0_i32_954 : BitVec 32 := 0#32
  let v1516 : BitVec 1 := Scalar.cmpi .ne v1515 c0_i32_954
  v1516

def k0_off197 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c2_i32_1747 : BitVec 32 := 2#32
  let v2637 : BitVec 32 := Scalar.addi v2636 c2_i32_1747
  let c4096_i32_1748 : BitVec 32 := 4096#32
  let v2638 : BitVec 32 := Scalar.muli v2637 c4096_i32_1748
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1749 : BitVec 32 := 1024#32
  let v2639 : BitVec 32 := Scalar.muli v30 c1024_i32_1749
  let v2640 : BitVec 32 := Scalar.addi v2638 v2639
  let c128_i32_1750 : BitVec 32 := 128#32
  let v2641 : BitVec 32 := Scalar.addi v2640 c128_i32_1750
  let c0_i32_1756 : BitVec 32 := 0#32
  ![v2641.toNat, 0]
def k0_cond174 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_955 : BitVec 32 := 3#32
  let v1517 : BitVec 1 := Scalar.cmpi .sge v8 c3_i32_955
  let v1518 : BitVec 32 := Scalar.extui v1517
  let c0_i32_956 : BitVec 32 := 0#32
  let v1519 : BitVec 1 := Scalar.cmpi .ne v1518 c0_i32_956
  v1519

def k0_off198 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c2_i32_1747 : BitVec 32 := 2#32
  let v2637 : BitVec 32 := Scalar.subi v2636 c2_i32_1747
  let c4096_i32_1748 : BitVec 32 := 4096#32
  let v2638 : BitVec 32 := Scalar.muli v2637 c4096_i32_1748
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1749 : BitVec 32 := 1024#32
  let v2639 : BitVec 32 := Scalar.muli v30 c1024_i32_1749
  let v2640 : BitVec 32 := Scalar.addi v2638 v2639
  let c256_i32_1750 : BitVec 32 := 256#32
  let v2641 : BitVec 32 := Scalar.addi v2640 c256_i32_1750
  let c0_i32_1756 : BitVec 32 := 0#32
  ![v2641.toNat, 0]
def k0_cond175 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_957 : BitVec 32 := 1#32
  let v1520 : BitVec 32 := Scalar.addi v8 c1_i32_957
  let c2_i32_958 : BitVec 32 := 2#32
  let v1521 : BitVec 32 := Scalar.addi v1520 c2_i32_958
  let c3_i32_959 : BitVec 32 := 3#32
  let v1522 : BitVec 1 := Scalar.cmpi .sle v1521 c3_i32_959
  let v1523 : BitVec 32 := Scalar.extui v1522
  let c0_i32_960 : BitVec 32 := 0#32
  let v1524 : BitVec 1 := Scalar.cmpi .ne v1523 c0_i32_960
  v1524

def k0_off199 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c2_i32_1747 : BitVec 32 := 2#32
  let v2637 : BitVec 32 := Scalar.addi v2636 c2_i32_1747
  let c4096_i32_1748 : BitVec 32 := 4096#32
  let v2638 : BitVec 32 := Scalar.muli v2637 c4096_i32_1748
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1749 : BitVec 32 := 1024#32
  let v2639 : BitVec 32 := Scalar.muli v30 c1024_i32_1749
  let v2640 : BitVec 32 := Scalar.addi v2638 v2639
  let c256_i32_1750 : BitVec 32 := 256#32
  let v2641 : BitVec 32 := Scalar.addi v2640 c256_i32_1750
  let c0_i32_1756 : BitVec 32 := 0#32
  ![v2641.toNat, 0]
def k0_cond176 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_961 : BitVec 32 := 2#32
  let v1525 : BitVec 1 := Scalar.cmpi .sge v8 c2_i32_961
  let v1526 : BitVec 32 := Scalar.extui v1525
  let c0_i32_962 : BitVec 32 := 0#32
  let v1527 : BitVec 1 := Scalar.cmpi .ne v1526 c0_i32_962
  v1527

def k0_off200 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c1_i32_1747 : BitVec 32 := 1#32
  let v2637 : BitVec 32 := Scalar.subi v2636 c1_i32_1747
  let c4096_i32_1748 : BitVec 32 := 4096#32
  let v2638 : BitVec 32 := Scalar.muli v2637 c4096_i32_1748
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1749 : BitVec 32 := 1024#32
  let v2639 : BitVec 32 := Scalar.muli v26 c1024_i32_1749
  let v2640 : BitVec 32 := Scalar.addi v2638 v2639
  let c0_i32_1750 : BitVec 32 := 0#32
  let v2641 : BitVec 32 := Scalar.addi v2640 c0_i32_1750
  let c0_i32_1756 : BitVec 32 := 0#32
  ![v2641.toNat, 0]
def k0_cond177 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_963 : BitVec 32 := 2#32
  let v1528 : BitVec 1 := Scalar.cmpi .sge v8 c2_i32_963
  let v1529 : BitVec 32 := Scalar.extui v1528
  let c0_i32_964 : BitVec 32 := 0#32
  let v1530 : BitVec 1 := Scalar.cmpi .ne v1529 c0_i32_964
  v1530

def k0_off201 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c1_i32_1747 : BitVec 32 := 1#32
  let v2637 : BitVec 32 := Scalar.subi v2636 c1_i32_1747
  let c4096_i32_1748 : BitVec 32 := 4096#32
  let v2638 : BitVec 32 := Scalar.muli v2637 c4096_i32_1748
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1749 : BitVec 32 := 1024#32
  let v2639 : BitVec 32 := Scalar.muli v29 c1024_i32_1749
  let v2640 : BitVec 32 := Scalar.addi v2638 v2639
  let c0_i32_1750 : BitVec 32 := 0#32
  let v2641 : BitVec 32 := Scalar.addi v2640 c0_i32_1750
  let c0_i32_1756 : BitVec 32 := 0#32
  ![v2641.toNat, 0]
def k0_cond178 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_965 : BitVec 32 := 1#32
  let v1531 : BitVec 32 := Scalar.addi v8 c1_i32_965
  let c1_i32_966 : BitVec 32 := 1#32
  let v1532 : BitVec 32 := Scalar.addi v1531 c1_i32_966
  let c3_i32_967 : BitVec 32 := 3#32
  let v1533 : BitVec 1 := Scalar.cmpi .sle v1532 c3_i32_967
  let v1534 : BitVec 32 := Scalar.extui v1533
  let c0_i32_968 : BitVec 32 := 0#32
  let v1535 : BitVec 1 := Scalar.cmpi .ne v1534 c0_i32_968
  v1535

def k0_off202 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c1_i32_1747 : BitVec 32 := 1#32
  let v2637 : BitVec 32 := Scalar.addi v2636 c1_i32_1747
  let c4096_i32_1748 : BitVec 32 := 4096#32
  let v2638 : BitVec 32 := Scalar.muli v2637 c4096_i32_1748
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1749 : BitVec 32 := 1024#32
  let v2639 : BitVec 32 := Scalar.muli v26 c1024_i32_1749
  let v2640 : BitVec 32 := Scalar.addi v2638 v2639
  let c0_i32_1750 : BitVec 32 := 0#32
  let v2641 : BitVec 32 := Scalar.addi v2640 c0_i32_1750
  let c0_i32_1756 : BitVec 32 := 0#32
  ![v2641.toNat, 0]
def k0_cond179 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_969 : BitVec 32 := 1#32
  let v1536 : BitVec 32 := Scalar.addi v8 c1_i32_969
  let c1_i32_970 : BitVec 32 := 1#32
  let v1537 : BitVec 32 := Scalar.addi v1536 c1_i32_970
  let c3_i32_971 : BitVec 32 := 3#32
  let v1538 : BitVec 1 := Scalar.cmpi .sle v1537 c3_i32_971
  let v1539 : BitVec 32 := Scalar.extui v1538
  let c0_i32_972 : BitVec 32 := 0#32
  let v1540 : BitVec 1 := Scalar.cmpi .ne v1539 c0_i32_972
  v1540

def k0_off203 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c1_i32_1747 : BitVec 32 := 1#32
  let v2637 : BitVec 32 := Scalar.addi v2636 c1_i32_1747
  let c4096_i32_1748 : BitVec 32 := 4096#32
  let v2638 : BitVec 32 := Scalar.muli v2637 c4096_i32_1748
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1749 : BitVec 32 := 1024#32
  let v2639 : BitVec 32 := Scalar.muli v29 c1024_i32_1749
  let v2640 : BitVec 32 := Scalar.addi v2638 v2639
  let c0_i32_1750 : BitVec 32 := 0#32
  let v2641 : BitVec 32 := Scalar.addi v2640 c0_i32_1750
  let c0_i32_1756 : BitVec 32 := 0#32
  ![v2641.toNat, 0]
def k0_cond180 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_973 : BitVec 32 := 2#32
  let v1541 : BitVec 1 := Scalar.cmpi .sge v8 c2_i32_973
  let v1542 : BitVec 32 := Scalar.extui v1541
  let c0_i32_974 : BitVec 32 := 0#32
  let v1543 : BitVec 1 := Scalar.cmpi .ne v1542 c0_i32_974
  v1543

def k0_off204 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c1_i32_1747 : BitVec 32 := 1#32
  let v2637 : BitVec 32 := Scalar.subi v2636 c1_i32_1747
  let c4096_i32_1748 : BitVec 32 := 4096#32
  let v2638 : BitVec 32 := Scalar.muli v2637 c4096_i32_1748
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1749 : BitVec 32 := 1024#32
  let v2639 : BitVec 32 := Scalar.muli v26 c1024_i32_1749
  let v2640 : BitVec 32 := Scalar.addi v2638 v2639
  let c128_i32_1750 : BitVec 32 := 128#32
  let v2641 : BitVec 32 := Scalar.addi v2640 c128_i32_1750
  let c0_i32_1756 : BitVec 32 := 0#32
  ![v2641.toNat, 0]
def k0_cond181 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_975 : BitVec 32 := 2#32
  let v1544 : BitVec 1 := Scalar.cmpi .sge v8 c2_i32_975
  let v1545 : BitVec 32 := Scalar.extui v1544
  let c0_i32_976 : BitVec 32 := 0#32
  let v1546 : BitVec 1 := Scalar.cmpi .ne v1545 c0_i32_976
  v1546

def k0_off205 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c1_i32_1747 : BitVec 32 := 1#32
  let v2637 : BitVec 32 := Scalar.subi v2636 c1_i32_1747
  let c4096_i32_1748 : BitVec 32 := 4096#32
  let v2638 : BitVec 32 := Scalar.muli v2637 c4096_i32_1748
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1749 : BitVec 32 := 1024#32
  let v2639 : BitVec 32 := Scalar.muli v29 c1024_i32_1749
  let v2640 : BitVec 32 := Scalar.addi v2638 v2639
  let c128_i32_1750 : BitVec 32 := 128#32
  let v2641 : BitVec 32 := Scalar.addi v2640 c128_i32_1750
  let c0_i32_1756 : BitVec 32 := 0#32
  ![v2641.toNat, 0]
def k0_cond182 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_977 : BitVec 32 := 1#32
  let v1547 : BitVec 32 := Scalar.addi v8 c1_i32_977
  let c1_i32_978 : BitVec 32 := 1#32
  let v1548 : BitVec 32 := Scalar.addi v1547 c1_i32_978
  let c3_i32_979 : BitVec 32 := 3#32
  let v1549 : BitVec 1 := Scalar.cmpi .sle v1548 c3_i32_979
  let v1550 : BitVec 32 := Scalar.extui v1549
  let c0_i32_980 : BitVec 32 := 0#32
  let v1551 : BitVec 1 := Scalar.cmpi .ne v1550 c0_i32_980
  v1551

def k0_off206 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c1_i32_1747 : BitVec 32 := 1#32
  let v2637 : BitVec 32 := Scalar.addi v2636 c1_i32_1747
  let c4096_i32_1748 : BitVec 32 := 4096#32
  let v2638 : BitVec 32 := Scalar.muli v2637 c4096_i32_1748
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1749 : BitVec 32 := 1024#32
  let v2639 : BitVec 32 := Scalar.muli v26 c1024_i32_1749
  let v2640 : BitVec 32 := Scalar.addi v2638 v2639
  let c128_i32_1750 : BitVec 32 := 128#32
  let v2641 : BitVec 32 := Scalar.addi v2640 c128_i32_1750
  let c0_i32_1756 : BitVec 32 := 0#32
  ![v2641.toNat, 0]
def k0_cond183 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_981 : BitVec 32 := 1#32
  let v1552 : BitVec 32 := Scalar.addi v8 c1_i32_981
  let c1_i32_982 : BitVec 32 := 1#32
  let v1553 : BitVec 32 := Scalar.addi v1552 c1_i32_982
  let c3_i32_983 : BitVec 32 := 3#32
  let v1554 : BitVec 1 := Scalar.cmpi .sle v1553 c3_i32_983
  let v1555 : BitVec 32 := Scalar.extui v1554
  let c0_i32_984 : BitVec 32 := 0#32
  let v1556 : BitVec 1 := Scalar.cmpi .ne v1555 c0_i32_984
  v1556

def k0_off207 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c1_i32_1747 : BitVec 32 := 1#32
  let v2637 : BitVec 32 := Scalar.addi v2636 c1_i32_1747
  let c4096_i32_1748 : BitVec 32 := 4096#32
  let v2638 : BitVec 32 := Scalar.muli v2637 c4096_i32_1748
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1749 : BitVec 32 := 1024#32
  let v2639 : BitVec 32 := Scalar.muli v29 c1024_i32_1749
  let v2640 : BitVec 32 := Scalar.addi v2638 v2639
  let c128_i32_1750 : BitVec 32 := 128#32
  let v2641 : BitVec 32 := Scalar.addi v2640 c128_i32_1750
  let c0_i32_1756 : BitVec 32 := 0#32
  ![v2641.toNat, 0]
def k0_cond184 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_985 : BitVec 32 := 2#32
  let v1557 : BitVec 1 := Scalar.cmpi .sge v8 c2_i32_985
  let v1558 : BitVec 32 := Scalar.extui v1557
  let c0_i32_986 : BitVec 32 := 0#32
  let v1559 : BitVec 1 := Scalar.cmpi .ne v1558 c0_i32_986
  v1559

def k0_off208 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c1_i32_1747 : BitVec 32 := 1#32
  let v2637 : BitVec 32 := Scalar.subi v2636 c1_i32_1747
  let c4096_i32_1748 : BitVec 32 := 4096#32
  let v2638 : BitVec 32 := Scalar.muli v2637 c4096_i32_1748
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1749 : BitVec 32 := 1024#32
  let v2639 : BitVec 32 := Scalar.muli v26 c1024_i32_1749
  let v2640 : BitVec 32 := Scalar.addi v2638 v2639
  let c256_i32_1750 : BitVec 32 := 256#32
  let v2641 : BitVec 32 := Scalar.addi v2640 c256_i32_1750
  let c0_i32_1756 : BitVec 32 := 0#32
  ![v2641.toNat, 0]
def k0_cond185 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_987 : BitVec 32 := 2#32
  let v1560 : BitVec 1 := Scalar.cmpi .sge v8 c2_i32_987
  let v1561 : BitVec 32 := Scalar.extui v1560
  let c0_i32_988 : BitVec 32 := 0#32
  let v1562 : BitVec 1 := Scalar.cmpi .ne v1561 c0_i32_988
  v1562

def k0_off209 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c1_i32_1747 : BitVec 32 := 1#32
  let v2637 : BitVec 32 := Scalar.subi v2636 c1_i32_1747
  let c4096_i32_1748 : BitVec 32 := 4096#32
  let v2638 : BitVec 32 := Scalar.muli v2637 c4096_i32_1748
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1749 : BitVec 32 := 1024#32
  let v2639 : BitVec 32 := Scalar.muli v29 c1024_i32_1749
  let v2640 : BitVec 32 := Scalar.addi v2638 v2639
  let c256_i32_1750 : BitVec 32 := 256#32
  let v2641 : BitVec 32 := Scalar.addi v2640 c256_i32_1750
  let c0_i32_1756 : BitVec 32 := 0#32
  ![v2641.toNat, 0]
def k0_cond186 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_989 : BitVec 32 := 1#32
  let v1563 : BitVec 32 := Scalar.addi v8 c1_i32_989
  let c1_i32_990 : BitVec 32 := 1#32
  let v1564 : BitVec 32 := Scalar.addi v1563 c1_i32_990
  let c3_i32_991 : BitVec 32 := 3#32
  let v1565 : BitVec 1 := Scalar.cmpi .sle v1564 c3_i32_991
  let v1566 : BitVec 32 := Scalar.extui v1565
  let c0_i32_992 : BitVec 32 := 0#32
  let v1567 : BitVec 1 := Scalar.cmpi .ne v1566 c0_i32_992
  v1567

def k0_off210 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c1_i32_1747 : BitVec 32 := 1#32
  let v2637 : BitVec 32 := Scalar.addi v2636 c1_i32_1747
  let c4096_i32_1748 : BitVec 32 := 4096#32
  let v2638 : BitVec 32 := Scalar.muli v2637 c4096_i32_1748
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1749 : BitVec 32 := 1024#32
  let v2639 : BitVec 32 := Scalar.muli v26 c1024_i32_1749
  let v2640 : BitVec 32 := Scalar.addi v2638 v2639
  let c256_i32_1750 : BitVec 32 := 256#32
  let v2641 : BitVec 32 := Scalar.addi v2640 c256_i32_1750
  let c0_i32_1756 : BitVec 32 := 0#32
  ![v2641.toNat, 0]
def k0_cond187 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_993 : BitVec 32 := 1#32
  let v1568 : BitVec 32 := Scalar.addi v8 c1_i32_993
  let c1_i32_994 : BitVec 32 := 1#32
  let v1569 : BitVec 32 := Scalar.addi v1568 c1_i32_994
  let c3_i32_995 : BitVec 32 := 3#32
  let v1570 : BitVec 1 := Scalar.cmpi .sle v1569 c3_i32_995
  let v1571 : BitVec 32 := Scalar.extui v1570
  let c0_i32_996 : BitVec 32 := 0#32
  let v1572 : BitVec 1 := Scalar.cmpi .ne v1571 c0_i32_996
  v1572

def k0_off211 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c1_i32_1747 : BitVec 32 := 1#32
  let v2637 : BitVec 32 := Scalar.addi v2636 c1_i32_1747
  let c4096_i32_1748 : BitVec 32 := 4096#32
  let v2638 : BitVec 32 := Scalar.muli v2637 c4096_i32_1748
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1749 : BitVec 32 := 1024#32
  let v2639 : BitVec 32 := Scalar.muli v29 c1024_i32_1749
  let v2640 : BitVec 32 := Scalar.addi v2638 v2639
  let c256_i32_1750 : BitVec 32 := 256#32
  let v2641 : BitVec 32 := Scalar.addi v2640 c256_i32_1750
  let c0_i32_1756 : BitVec 32 := 0#32
  ![v2641.toNat, 0]
def k0_cond188 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_997 : BitVec 32 := 2#32
  let v1573 : BitVec 1 := Scalar.cmpi .sge v8 c2_i32_997
  let v1574 : BitVec 32 := Scalar.extui v1573
  let c0_i32_998 : BitVec 32 := 0#32
  let v1575 : BitVec 1 := Scalar.cmpi .ne v1574 c0_i32_998
  v1575

def k0_off212 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c1_i32_1747 : BitVec 32 := 1#32
  let v2637 : BitVec 32 := Scalar.subi v2636 c1_i32_1747
  let c4096_i32_1748 : BitVec 32 := 4096#32
  let v2638 : BitVec 32 := Scalar.muli v2637 c4096_i32_1748
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1749 : BitVec 32 := 1024#32
  let v2639 : BitVec 32 := Scalar.muli v26 c1024_i32_1749
  let v2640 : BitVec 32 := Scalar.addi v2638 v2639
  let c384_i32_1750 : BitVec 32 := 384#32
  let v2641 : BitVec 32 := Scalar.addi v2640 c384_i32_1750
  let c0_i32_1757 : BitVec 32 := 0#32
  ![v2641.toNat, 0]
def k0_cond189 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_999 : BitVec 32 := 2#32
  let v1576 : BitVec 1 := Scalar.cmpi .sge v8 c2_i32_999
  let v1577 : BitVec 32 := Scalar.extui v1576
  let c0_i32_1000 : BitVec 32 := 0#32
  let v1578 : BitVec 1 := Scalar.cmpi .ne v1577 c0_i32_1000
  v1578

def k0_off213 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c1_i32_1747 : BitVec 32 := 1#32
  let v2637 : BitVec 32 := Scalar.subi v2636 c1_i32_1747
  let c4096_i32_1748 : BitVec 32 := 4096#32
  let v2638 : BitVec 32 := Scalar.muli v2637 c4096_i32_1748
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1749 : BitVec 32 := 1024#32
  let v2639 : BitVec 32 := Scalar.muli v29 c1024_i32_1749
  let v2640 : BitVec 32 := Scalar.addi v2638 v2639
  let c384_i32_1750 : BitVec 32 := 384#32
  let v2641 : BitVec 32 := Scalar.addi v2640 c384_i32_1750
  let c0_i32_1757 : BitVec 32 := 0#32
  ![v2641.toNat, 0]
def k0_dev177 (d0 : Dev nD) : Nat :=
  let c0_i32_1767 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1766 : BitVec 32 := 16#32
  let v2658 : BitVec 32 := Scalar.muli v31 c16_i32_1766
  let v2659 : BitVec 32 := Scalar.addi c0_i32_1767 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1768 : BitVec 32 := 4#32
  let v2660 : BitVec 32 := Scalar.muli v5 c4_i32_1768
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1769 : BitVec 32 := 1#32
  let v2662 : BitVec 32 := Scalar.muli v8 c1_i32_1769
  let v2663 : BitVec 32 := Scalar.addi v2661 v2662
  v2663.toNat
def k0_cond190 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1001 : BitVec 32 := 1#32
  let v1579 : BitVec 32 := Scalar.addi v8 c1_i32_1001
  let c1_i32_1002 : BitVec 32 := 1#32
  let v1580 : BitVec 32 := Scalar.addi v1579 c1_i32_1002
  let c3_i32_1003 : BitVec 32 := 3#32
  let v1581 : BitVec 1 := Scalar.cmpi .sle v1580 c3_i32_1003
  let v1582 : BitVec 32 := Scalar.extui v1581
  let c0_i32_1004 : BitVec 32 := 0#32
  let v1583 : BitVec 1 := Scalar.cmpi .ne v1582 c0_i32_1004
  v1583

def k0_off214 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c1_i32_1747 : BitVec 32 := 1#32
  let v2637 : BitVec 32 := Scalar.addi v2636 c1_i32_1747
  let c4096_i32_1748 : BitVec 32 := 4096#32
  let v2638 : BitVec 32 := Scalar.muli v2637 c4096_i32_1748
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1749 : BitVec 32 := 1024#32
  let v2639 : BitVec 32 := Scalar.muli v26 c1024_i32_1749
  let v2640 : BitVec 32 := Scalar.addi v2638 v2639
  let c384_i32_1750 : BitVec 32 := 384#32
  let v2641 : BitVec 32 := Scalar.addi v2640 c384_i32_1750
  let c0_i32_1757 : BitVec 32 := 0#32
  ![v2641.toNat, 0]
def k0_cond191 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1005 : BitVec 32 := 1#32
  let v1584 : BitVec 32 := Scalar.addi v8 c1_i32_1005
  let c1_i32_1006 : BitVec 32 := 1#32
  let v1585 : BitVec 32 := Scalar.addi v1584 c1_i32_1006
  let c3_i32_1007 : BitVec 32 := 3#32
  let v1586 : BitVec 1 := Scalar.cmpi .sle v1585 c3_i32_1007
  let v1587 : BitVec 32 := Scalar.extui v1586
  let c0_i32_1008 : BitVec 32 := 0#32
  let v1588 : BitVec 1 := Scalar.cmpi .ne v1587 c0_i32_1008
  v1588

def k0_off215 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c1_i32_1747 : BitVec 32 := 1#32
  let v2637 : BitVec 32 := Scalar.addi v2636 c1_i32_1747
  let c4096_i32_1748 : BitVec 32 := 4096#32
  let v2638 : BitVec 32 := Scalar.muli v2637 c4096_i32_1748
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1749 : BitVec 32 := 1024#32
  let v2639 : BitVec 32 := Scalar.muli v29 c1024_i32_1749
  let v2640 : BitVec 32 := Scalar.addi v2638 v2639
  let c384_i32_1750 : BitVec 32 := 384#32
  let v2641 : BitVec 32 := Scalar.addi v2640 c384_i32_1750
  let c0_i32_1757 : BitVec 32 := 0#32
  ![v2641.toNat, 0]
def k0_dev178 (d0 : Dev nD) : Nat :=
  let c0_i32_1767 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1766 : BitVec 32 := 16#32
  let v2658 : BitVec 32 := Scalar.muli v31 c16_i32_1766
  let v2659 : BitVec 32 := Scalar.addi c0_i32_1767 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1768 : BitVec 32 := 4#32
  let v2660 : BitVec 32 := Scalar.muli v5 c4_i32_1768
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1769 : BitVec 32 := 1#32
  let v2662 : BitVec 32 := Scalar.muli v8 c1_i32_1769
  let v2663 : BitVec 32 := Scalar.addi v2661 v2662
  v2663.toNat
def k0_cond192 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1009 : BitVec 32 := 2#32
  let v1589 : BitVec 1 := Scalar.cmpi .sge v8 c2_i32_1009
  let v1590 : BitVec 32 := Scalar.extui v1589
  let c0_i32_1010 : BitVec 32 := 0#32
  let v1591 : BitVec 1 := Scalar.cmpi .ne v1590 c0_i32_1010
  v1591

def k0_off216 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c1_i32_1747 : BitVec 32 := 1#32
  let v2637 : BitVec 32 := Scalar.subi v2636 c1_i32_1747
  let c4096_i32_1748 : BitVec 32 := 4096#32
  let v2638 : BitVec 32 := Scalar.muli v2637 c4096_i32_1748
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1749 : BitVec 32 := 1024#32
  let v2639 : BitVec 32 := Scalar.muli v26 c1024_i32_1749
  let v2640 : BitVec 32 := Scalar.addi v2638 v2639
  let c512_i32_1750 : BitVec 32 := 512#32
  let v2641 : BitVec 32 := Scalar.addi v2640 c512_i32_1750
  let c0_i32_1756 : BitVec 32 := 0#32
  ![v2641.toNat, 0]
def k0_cond193 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1011 : BitVec 32 := 2#32
  let v1592 : BitVec 1 := Scalar.cmpi .sge v8 c2_i32_1011
  let v1593 : BitVec 32 := Scalar.extui v1592
  let c0_i32_1012 : BitVec 32 := 0#32
  let v1594 : BitVec 1 := Scalar.cmpi .ne v1593 c0_i32_1012
  v1594

def k0_off217 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c1_i32_1747 : BitVec 32 := 1#32
  let v2637 : BitVec 32 := Scalar.subi v2636 c1_i32_1747
  let c4096_i32_1748 : BitVec 32 := 4096#32
  let v2638 : BitVec 32 := Scalar.muli v2637 c4096_i32_1748
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1749 : BitVec 32 := 1024#32
  let v2639 : BitVec 32 := Scalar.muli v29 c1024_i32_1749
  let v2640 : BitVec 32 := Scalar.addi v2638 v2639
  let c512_i32_1750 : BitVec 32 := 512#32
  let v2641 : BitVec 32 := Scalar.addi v2640 c512_i32_1750
  let c0_i32_1756 : BitVec 32 := 0#32
  ![v2641.toNat, 0]
def k0_dev179 (d0 : Dev nD) : Nat :=
  let c0_i32_1766 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1765 : BitVec 32 := 16#32
  let v2658 : BitVec 32 := Scalar.muli v31 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1767 : BitVec 32 := 4#32
  let v2660 : BitVec 32 := Scalar.muli v5 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_cond194 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1013 : BitVec 32 := 1#32
  let v1595 : BitVec 32 := Scalar.addi v8 c1_i32_1013
  let c1_i32_1014 : BitVec 32 := 1#32
  let v1596 : BitVec 32 := Scalar.addi v1595 c1_i32_1014
  let c3_i32_1015 : BitVec 32 := 3#32
  let v1597 : BitVec 1 := Scalar.cmpi .sle v1596 c3_i32_1015
  let v1598 : BitVec 32 := Scalar.extui v1597
  let c0_i32_1016 : BitVec 32 := 0#32
  let v1599 : BitVec 1 := Scalar.cmpi .ne v1598 c0_i32_1016
  v1599

def k0_off218 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c1_i32_1747 : BitVec 32 := 1#32
  let v2637 : BitVec 32 := Scalar.addi v2636 c1_i32_1747
  let c4096_i32_1748 : BitVec 32 := 4096#32
  let v2638 : BitVec 32 := Scalar.muli v2637 c4096_i32_1748
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1749 : BitVec 32 := 1024#32
  let v2639 : BitVec 32 := Scalar.muli v26 c1024_i32_1749
  let v2640 : BitVec 32 := Scalar.addi v2638 v2639
  let c512_i32_1750 : BitVec 32 := 512#32
  let v2641 : BitVec 32 := Scalar.addi v2640 c512_i32_1750
  let c0_i32_1756 : BitVec 32 := 0#32
  ![v2641.toNat, 0]
def k0_cond195 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1017 : BitVec 32 := 1#32
  let v1600 : BitVec 32 := Scalar.addi v8 c1_i32_1017
  let c1_i32_1018 : BitVec 32 := 1#32
  let v1601 : BitVec 32 := Scalar.addi v1600 c1_i32_1018
  let c3_i32_1019 : BitVec 32 := 3#32
  let v1602 : BitVec 1 := Scalar.cmpi .sle v1601 c3_i32_1019
  let v1603 : BitVec 32 := Scalar.extui v1602
  let c0_i32_1020 : BitVec 32 := 0#32
  let v1604 : BitVec 1 := Scalar.cmpi .ne v1603 c0_i32_1020
  v1604

def k0_off219 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c1_i32_1747 : BitVec 32 := 1#32
  let v2637 : BitVec 32 := Scalar.addi v2636 c1_i32_1747
  let c4096_i32_1748 : BitVec 32 := 4096#32
  let v2638 : BitVec 32 := Scalar.muli v2637 c4096_i32_1748
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1749 : BitVec 32 := 1024#32
  let v2639 : BitVec 32 := Scalar.muli v29 c1024_i32_1749
  let v2640 : BitVec 32 := Scalar.addi v2638 v2639
  let c512_i32_1750 : BitVec 32 := 512#32
  let v2641 : BitVec 32 := Scalar.addi v2640 c512_i32_1750
  let c0_i32_1756 : BitVec 32 := 0#32
  ![v2641.toNat, 0]
def k0_dev180 (d0 : Dev nD) : Nat :=
  let c0_i32_1766 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1765 : BitVec 32 := 16#32
  let v2658 : BitVec 32 := Scalar.muli v31 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1767 : BitVec 32 := 4#32
  let v2660 : BitVec 32 := Scalar.muli v5 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_cond196 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1021 : BitVec 32 := 2#32
  let v1605 : BitVec 1 := Scalar.cmpi .sge v8 c2_i32_1021
  let v1606 : BitVec 32 := Scalar.extui v1605
  let c0_i32_1022 : BitVec 32 := 0#32
  let v1607 : BitVec 1 := Scalar.cmpi .ne v1606 c0_i32_1022
  v1607

def k0_off220 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c1_i32_1747 : BitVec 32 := 1#32
  let v2637 : BitVec 32 := Scalar.subi v2636 c1_i32_1747
  let c4096_i32_1748 : BitVec 32 := 4096#32
  let v2638 : BitVec 32 := Scalar.muli v2637 c4096_i32_1748
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1749 : BitVec 32 := 1024#32
  let v2639 : BitVec 32 := Scalar.muli v26 c1024_i32_1749
  let v2640 : BitVec 32 := Scalar.addi v2638 v2639
  let c640_i32_1750 : BitVec 32 := 640#32
  let v2641 : BitVec 32 := Scalar.addi v2640 c640_i32_1750
  let c0_i32_1756 : BitVec 32 := 0#32
  ![v2641.toNat, 0]
def k0_dev181 (d0 : Dev nD) : Nat :=
  let c0_i32_1766 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1765 : BitVec 32 := 16#32
  let v2658 : BitVec 32 := Scalar.muli v2 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1767 : BitVec 32 := 4#32
  let v2660 : BitVec 32 := Scalar.muli v21 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_cond197 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1023 : BitVec 32 := 2#32
  let v1608 : BitVec 1 := Scalar.cmpi .sge v8 c2_i32_1023
  let v1609 : BitVec 32 := Scalar.extui v1608
  let c0_i32_1024 : BitVec 32 := 0#32
  let v1610 : BitVec 1 := Scalar.cmpi .ne v1609 c0_i32_1024
  v1610

def k0_off221 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c1_i32_1747 : BitVec 32 := 1#32
  let v2637 : BitVec 32 := Scalar.subi v2636 c1_i32_1747
  let c4096_i32_1748 : BitVec 32 := 4096#32
  let v2638 : BitVec 32 := Scalar.muli v2637 c4096_i32_1748
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1749 : BitVec 32 := 1024#32
  let v2639 : BitVec 32 := Scalar.muli v29 c1024_i32_1749
  let v2640 : BitVec 32 := Scalar.addi v2638 v2639
  let c640_i32_1750 : BitVec 32 := 640#32
  let v2641 : BitVec 32 := Scalar.addi v2640 c640_i32_1750
  let c0_i32_1756 : BitVec 32 := 0#32
  ![v2641.toNat, 0]
def k0_cond198 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1025 : BitVec 32 := 1#32
  let v1611 : BitVec 32 := Scalar.addi v8 c1_i32_1025
  let c1_i32_1026 : BitVec 32 := 1#32
  let v1612 : BitVec 32 := Scalar.addi v1611 c1_i32_1026
  let c3_i32_1027 : BitVec 32 := 3#32
  let v1613 : BitVec 1 := Scalar.cmpi .sle v1612 c3_i32_1027
  let v1614 : BitVec 32 := Scalar.extui v1613
  let c0_i32_1028 : BitVec 32 := 0#32
  let v1615 : BitVec 1 := Scalar.cmpi .ne v1614 c0_i32_1028
  v1615

def k0_off222 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c1_i32_1747 : BitVec 32 := 1#32
  let v2637 : BitVec 32 := Scalar.addi v2636 c1_i32_1747
  let c4096_i32_1748 : BitVec 32 := 4096#32
  let v2638 : BitVec 32 := Scalar.muli v2637 c4096_i32_1748
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1749 : BitVec 32 := 1024#32
  let v2639 : BitVec 32 := Scalar.muli v26 c1024_i32_1749
  let v2640 : BitVec 32 := Scalar.addi v2638 v2639
  let c640_i32_1750 : BitVec 32 := 640#32
  let v2641 : BitVec 32 := Scalar.addi v2640 c640_i32_1750
  let c0_i32_1756 : BitVec 32 := 0#32
  ![v2641.toNat, 0]
def k0_dev182 (d0 : Dev nD) : Nat :=
  let c0_i32_1766 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1765 : BitVec 32 := 16#32
  let v2658 : BitVec 32 := Scalar.muli v2 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1767 : BitVec 32 := 4#32
  let v2660 : BitVec 32 := Scalar.muli v21 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_cond199 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1029 : BitVec 32 := 1#32
  let v1616 : BitVec 32 := Scalar.addi v8 c1_i32_1029
  let c1_i32_1030 : BitVec 32 := 1#32
  let v1617 : BitVec 32 := Scalar.addi v1616 c1_i32_1030
  let c3_i32_1031 : BitVec 32 := 3#32
  let v1618 : BitVec 1 := Scalar.cmpi .sle v1617 c3_i32_1031
  let v1619 : BitVec 32 := Scalar.extui v1618
  let c0_i32_1032 : BitVec 32 := 0#32
  let v1620 : BitVec 1 := Scalar.cmpi .ne v1619 c0_i32_1032
  v1620

def k0_off223 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c1_i32_1747 : BitVec 32 := 1#32
  let v2637 : BitVec 32 := Scalar.addi v2636 c1_i32_1747
  let c4096_i32_1748 : BitVec 32 := 4096#32
  let v2638 : BitVec 32 := Scalar.muli v2637 c4096_i32_1748
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1749 : BitVec 32 := 1024#32
  let v2639 : BitVec 32 := Scalar.muli v29 c1024_i32_1749
  let v2640 : BitVec 32 := Scalar.addi v2638 v2639
  let c640_i32_1750 : BitVec 32 := 640#32
  let v2641 : BitVec 32 := Scalar.addi v2640 c640_i32_1750
  let c0_i32_1756 : BitVec 32 := 0#32
  ![v2641.toNat, 0]
def k0_cond200 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1033 : BitVec 32 := 2#32
  let v1621 : BitVec 1 := Scalar.cmpi .sge v8 c2_i32_1033
  let v1622 : BitVec 32 := Scalar.extui v1621
  let c0_i32_1034 : BitVec 32 := 0#32
  let v1623 : BitVec 1 := Scalar.cmpi .ne v1622 c0_i32_1034
  v1623

def k0_off224 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c1_i32_1747 : BitVec 32 := 1#32
  let v2637 : BitVec 32 := Scalar.subi v2636 c1_i32_1747
  let c4096_i32_1748 : BitVec 32 := 4096#32
  let v2638 : BitVec 32 := Scalar.muli v2637 c4096_i32_1748
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1749 : BitVec 32 := 1024#32
  let v2639 : BitVec 32 := Scalar.muli v26 c1024_i32_1749
  let v2640 : BitVec 32 := Scalar.addi v2638 v2639
  let c768_i32_1750 : BitVec 32 := 768#32
  let v2641 : BitVec 32 := Scalar.addi v2640 c768_i32_1750
  let c0_i32_1756 : BitVec 32 := 0#32
  ![v2641.toNat, 0]
def k0_dev183 (d0 : Dev nD) : Nat :=
  let c0_i32_1766 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1765 : BitVec 32 := 16#32
  let v2658 : BitVec 32 := Scalar.muli v2 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1767 : BitVec 32 := 4#32
  let v2660 : BitVec 32 := Scalar.muli v21 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_cond201 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1035 : BitVec 32 := 2#32
  let v1624 : BitVec 1 := Scalar.cmpi .sge v8 c2_i32_1035
  let v1625 : BitVec 32 := Scalar.extui v1624
  let c0_i32_1036 : BitVec 32 := 0#32
  let v1626 : BitVec 1 := Scalar.cmpi .ne v1625 c0_i32_1036
  v1626

def k0_off225 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c1_i32_1747 : BitVec 32 := 1#32
  let v2637 : BitVec 32 := Scalar.subi v2636 c1_i32_1747
  let c4096_i32_1748 : BitVec 32 := 4096#32
  let v2638 : BitVec 32 := Scalar.muli v2637 c4096_i32_1748
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1749 : BitVec 32 := 1024#32
  let v2639 : BitVec 32 := Scalar.muli v29 c1024_i32_1749
  let v2640 : BitVec 32 := Scalar.addi v2638 v2639
  let c768_i32_1750 : BitVec 32 := 768#32
  let v2641 : BitVec 32 := Scalar.addi v2640 c768_i32_1750
  let c0_i32_1756 : BitVec 32 := 0#32
  ![v2641.toNat, 0]
def k0_cond202 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1037 : BitVec 32 := 1#32
  let v1627 : BitVec 32 := Scalar.addi v8 c1_i32_1037
  let c1_i32_1038 : BitVec 32 := 1#32
  let v1628 : BitVec 32 := Scalar.addi v1627 c1_i32_1038
  let c3_i32_1039 : BitVec 32 := 3#32
  let v1629 : BitVec 1 := Scalar.cmpi .sle v1628 c3_i32_1039
  let v1630 : BitVec 32 := Scalar.extui v1629
  let c0_i32_1040 : BitVec 32 := 0#32
  let v1631 : BitVec 1 := Scalar.cmpi .ne v1630 c0_i32_1040
  v1631

def k0_off226 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c1_i32_1747 : BitVec 32 := 1#32
  let v2637 : BitVec 32 := Scalar.addi v2636 c1_i32_1747
  let c4096_i32_1748 : BitVec 32 := 4096#32
  let v2638 : BitVec 32 := Scalar.muli v2637 c4096_i32_1748
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1749 : BitVec 32 := 1024#32
  let v2639 : BitVec 32 := Scalar.muli v26 c1024_i32_1749
  let v2640 : BitVec 32 := Scalar.addi v2638 v2639
  let c768_i32_1750 : BitVec 32 := 768#32
  let v2641 : BitVec 32 := Scalar.addi v2640 c768_i32_1750
  let c0_i32_1756 : BitVec 32 := 0#32
  ![v2641.toNat, 0]
def k0_dev184 (d0 : Dev nD) : Nat :=
  let c0_i32_1766 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1765 : BitVec 32 := 16#32
  let v2658 : BitVec 32 := Scalar.muli v2 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1767 : BitVec 32 := 4#32
  let v2660 : BitVec 32 := Scalar.muli v21 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_cond203 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1041 : BitVec 32 := 1#32
  let v1632 : BitVec 32 := Scalar.addi v8 c1_i32_1041
  let c1_i32_1042 : BitVec 32 := 1#32
  let v1633 : BitVec 32 := Scalar.addi v1632 c1_i32_1042
  let c3_i32_1043 : BitVec 32 := 3#32
  let v1634 : BitVec 1 := Scalar.cmpi .sle v1633 c3_i32_1043
  let v1635 : BitVec 32 := Scalar.extui v1634
  let c0_i32_1044 : BitVec 32 := 0#32
  let v1636 : BitVec 1 := Scalar.cmpi .ne v1635 c0_i32_1044
  v1636

def k0_off227 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c1_i32_1747 : BitVec 32 := 1#32
  let v2637 : BitVec 32 := Scalar.addi v2636 c1_i32_1747
  let c4096_i32_1748 : BitVec 32 := 4096#32
  let v2638 : BitVec 32 := Scalar.muli v2637 c4096_i32_1748
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1749 : BitVec 32 := 1024#32
  let v2639 : BitVec 32 := Scalar.muli v29 c1024_i32_1749
  let v2640 : BitVec 32 := Scalar.addi v2638 v2639
  let c768_i32_1750 : BitVec 32 := 768#32
  let v2641 : BitVec 32 := Scalar.addi v2640 c768_i32_1750
  let c0_i32_1756 : BitVec 32 := 0#32
  ![v2641.toNat, 0]
def k0_cond204 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1045 : BitVec 32 := 2#32
  let v1637 : BitVec 1 := Scalar.cmpi .sge v8 c2_i32_1045
  let v1638 : BitVec 32 := Scalar.extui v1637
  let c0_i32_1046 : BitVec 32 := 0#32
  let v1639 : BitVec 1 := Scalar.cmpi .ne v1638 c0_i32_1046
  v1639

def k0_off228 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c1_i32_1747 : BitVec 32 := 1#32
  let v2637 : BitVec 32 := Scalar.subi v2636 c1_i32_1747
  let c4096_i32_1748 : BitVec 32 := 4096#32
  let v2638 : BitVec 32 := Scalar.muli v2637 c4096_i32_1748
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1749 : BitVec 32 := 1024#32
  let v2639 : BitVec 32 := Scalar.muli v26 c1024_i32_1749
  let v2640 : BitVec 32 := Scalar.addi v2638 v2639
  let c896_i32_1750 : BitVec 32 := 896#32
  let v2641 : BitVec 32 := Scalar.addi v2640 c896_i32_1750
  let c0_i32_1756 : BitVec 32 := 0#32
  ![v2641.toNat, 0]
def k0_dev185 (d0 : Dev nD) : Nat :=
  let c0_i32_1766 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1765 : BitVec 32 := 16#32
  let v2658 : BitVec 32 := Scalar.muli v2 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1767 : BitVec 32 := 4#32
  let v2660 : BitVec 32 := Scalar.muli v21 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_off229 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1771 : BitVec 32 := 1#32
  let v2670 : BitVec 32 := Scalar.subi v8 c1_i32_1771
  let c1_i32_1772 : BitVec 32 := 1#32
  let v2671 : BitVec 32 := Scalar.subi v2670 c1_i32_1772
  let c4096_i32_1775 : BitVec 32 := 4096#32
  let v2675 : BitVec 32 := Scalar.muli v2671 c4096_i32_1775
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1776 : BitVec 32 := 1024#32
  let v2676 : BitVec 32 := Scalar.muli v26 c1024_i32_1776
  let v2677 : BitVec 32 := Scalar.addi v2675 v2676
  let c0_i32_1777 : BitVec 32 := 0#32
  ![v2677.toNat, 0]
def k0_cond205 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1047 : BitVec 32 := 2#32
  let v1640 : BitVec 1 := Scalar.cmpi .sge v8 c2_i32_1047
  let v1641 : BitVec 32 := Scalar.extui v1640
  let c0_i32_1048 : BitVec 32 := 0#32
  let v1642 : BitVec 1 := Scalar.cmpi .ne v1641 c0_i32_1048
  v1642

def k0_off230 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c1_i32_1747 : BitVec 32 := 1#32
  let v2637 : BitVec 32 := Scalar.subi v2636 c1_i32_1747
  let c4096_i32_1748 : BitVec 32 := 4096#32
  let v2638 : BitVec 32 := Scalar.muli v2637 c4096_i32_1748
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1749 : BitVec 32 := 1024#32
  let v2639 : BitVec 32 := Scalar.muli v29 c1024_i32_1749
  let v2640 : BitVec 32 := Scalar.addi v2638 v2639
  let c896_i32_1750 : BitVec 32 := 896#32
  let v2641 : BitVec 32 := Scalar.addi v2640 c896_i32_1750
  let c0_i32_1756 : BitVec 32 := 0#32
  ![v2641.toNat, 0]
def k0_off231 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1758 : BitVec 32 := 1#32
  let v2652 : BitVec 32 := Scalar.subi v8 c1_i32_1758
  let c1_i32_1759 : BitVec 32 := 1#32
  let v2653 : BitVec 32 := Scalar.subi v2652 c1_i32_1759
  let c4096_i32_1762 : BitVec 32 := 4096#32
  let v2657 : BitVec 32 := Scalar.muli v2653 c4096_i32_1762
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1763 : BitVec 32 := 1024#32
  let v2658 : BitVec 32 := Scalar.muli v29 c1024_i32_1763
  let v2659 : BitVec 32 := Scalar.addi v2657 v2658
  let c0_i32_1765 : BitVec 32 := 0#32
  ![v2659.toNat, 0]
def k0_cond206 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1049 : BitVec 32 := 1#32
  let v1643 : BitVec 32 := Scalar.addi v8 c1_i32_1049
  let c1_i32_1050 : BitVec 32 := 1#32
  let v1644 : BitVec 32 := Scalar.addi v1643 c1_i32_1050
  let c3_i32_1051 : BitVec 32 := 3#32
  let v1645 : BitVec 1 := Scalar.cmpi .sle v1644 c3_i32_1051
  let v1646 : BitVec 32 := Scalar.extui v1645
  let c0_i32_1052 : BitVec 32 := 0#32
  let v1647 : BitVec 1 := Scalar.cmpi .ne v1646 c0_i32_1052
  v1647

def k0_off232 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c1_i32_1747 : BitVec 32 := 1#32
  let v2637 : BitVec 32 := Scalar.addi v2636 c1_i32_1747
  let c4096_i32_1748 : BitVec 32 := 4096#32
  let v2638 : BitVec 32 := Scalar.muli v2637 c4096_i32_1748
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1749 : BitVec 32 := 1024#32
  let v2639 : BitVec 32 := Scalar.muli v26 c1024_i32_1749
  let v2640 : BitVec 32 := Scalar.addi v2638 v2639
  let c896_i32_1750 : BitVec 32 := 896#32
  let v2641 : BitVec 32 := Scalar.addi v2640 c896_i32_1750
  let c0_i32_1756 : BitVec 32 := 0#32
  ![v2641.toNat, 0]
def k0_dev186 (d0 : Dev nD) : Nat :=
  let c0_i32_1766 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1765 : BitVec 32 := 16#32
  let v2658 : BitVec 32 := Scalar.muli v2 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1767 : BitVec 32 := 4#32
  let v2660 : BitVec 32 := Scalar.muli v21 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_off233 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1771 : BitVec 32 := 1#32
  let v2670 : BitVec 32 := Scalar.addi v8 c1_i32_1771
  let c1_i32_1772 : BitVec 32 := 1#32
  let v2671 : BitVec 32 := Scalar.addi v2670 c1_i32_1772
  let c4096_i32_1775 : BitVec 32 := 4096#32
  let v2675 : BitVec 32 := Scalar.muli v2671 c4096_i32_1775
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1776 : BitVec 32 := 1024#32
  let v2676 : BitVec 32 := Scalar.muli v26 c1024_i32_1776
  let v2677 : BitVec 32 := Scalar.addi v2675 v2676
  let c0_i32_1778 : BitVec 32 := 0#32
  ![v2677.toNat, 0]
def k0_cond207 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1053 : BitVec 32 := 1#32
  let v1648 : BitVec 32 := Scalar.addi v8 c1_i32_1053
  let c1_i32_1054 : BitVec 32 := 1#32
  let v1649 : BitVec 32 := Scalar.addi v1648 c1_i32_1054
  let c3_i32_1055 : BitVec 32 := 3#32
  let v1650 : BitVec 1 := Scalar.cmpi .sle v1649 c3_i32_1055
  let v1651 : BitVec 32 := Scalar.extui v1650
  let c0_i32_1056 : BitVec 32 := 0#32
  let v1652 : BitVec 1 := Scalar.cmpi .ne v1651 c0_i32_1056
  v1652

def k0_off234 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c1_i32_1747 : BitVec 32 := 1#32
  let v2637 : BitVec 32 := Scalar.addi v2636 c1_i32_1747
  let c4096_i32_1748 : BitVec 32 := 4096#32
  let v2638 : BitVec 32 := Scalar.muli v2637 c4096_i32_1748
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1749 : BitVec 32 := 1024#32
  let v2639 : BitVec 32 := Scalar.muli v29 c1024_i32_1749
  let v2640 : BitVec 32 := Scalar.addi v2638 v2639
  let c896_i32_1750 : BitVec 32 := 896#32
  let v2641 : BitVec 32 := Scalar.addi v2640 c896_i32_1750
  let c0_i32_1756 : BitVec 32 := 0#32
  ![v2641.toNat, 0]
def k0_off235 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1758 : BitVec 32 := 1#32
  let v2652 : BitVec 32 := Scalar.addi v8 c1_i32_1758
  let c1_i32_1759 : BitVec 32 := 1#32
  let v2653 : BitVec 32 := Scalar.addi v2652 c1_i32_1759
  let c4096_i32_1762 : BitVec 32 := 4096#32
  let v2657 : BitVec 32 := Scalar.muli v2653 c4096_i32_1762
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1763 : BitVec 32 := 1024#32
  let v2658 : BitVec 32 := Scalar.muli v29 c1024_i32_1763
  let v2659 : BitVec 32 := Scalar.addi v2657 v2658
  let c0_i32_1764 : BitVec 32 := 0#32
  ![v2659.toNat, 0]
def k0_cond208 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1057 : BitVec 32 := 3#32
  let v1653 : BitVec 1 := Scalar.cmpi .sge v8 c3_i32_1057
  let v1654 : BitVec 32 := Scalar.extui v1653
  let c0_i32_1058 : BitVec 32 := 0#32
  let v1655 : BitVec 1 := Scalar.cmpi .ne v1654 c0_i32_1058
  v1655

def k0_off236 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c2_i32_1747 : BitVec 32 := 2#32
  let v2637 : BitVec 32 := Scalar.subi v2636 c2_i32_1747
  let c4096_i32_1748 : BitVec 32 := 4096#32
  let v2638 : BitVec 32 := Scalar.muli v2637 c4096_i32_1748
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1749 : BitVec 32 := 1024#32
  let v2639 : BitVec 32 := Scalar.muli v26 c1024_i32_1749
  let v2640 : BitVec 32 := Scalar.addi v2638 v2639
  let c0_i32_1750 : BitVec 32 := 0#32
  let v2641 : BitVec 32 := Scalar.addi v2640 c0_i32_1750
  let c0_i32_1757 : BitVec 32 := 0#32
  ![v2641.toNat, 0]
def k0_cond209 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1059 : BitVec 32 := 3#32
  let v1656 : BitVec 1 := Scalar.cmpi .sge v8 c3_i32_1059
  let v1657 : BitVec 32 := Scalar.extui v1656
  let c0_i32_1060 : BitVec 32 := 0#32
  let v1658 : BitVec 1 := Scalar.cmpi .ne v1657 c0_i32_1060
  v1658

def k0_off237 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c2_i32_1747 : BitVec 32 := 2#32
  let v2637 : BitVec 32 := Scalar.subi v2636 c2_i32_1747
  let c4096_i32_1748 : BitVec 32 := 4096#32
  let v2638 : BitVec 32 := Scalar.muli v2637 c4096_i32_1748
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1749 : BitVec 32 := 1024#32
  let v2639 : BitVec 32 := Scalar.muli v29 c1024_i32_1749
  let v2640 : BitVec 32 := Scalar.addi v2638 v2639
  let c0_i32_1750 : BitVec 32 := 0#32
  let v2641 : BitVec 32 := Scalar.addi v2640 c0_i32_1750
  let c0_i32_1757 : BitVec 32 := 0#32
  ![v2641.toNat, 0]
def k0_cond210 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1061 : BitVec 32 := 1#32
  let v1659 : BitVec 32 := Scalar.addi v8 c1_i32_1061
  let c2_i32_1062 : BitVec 32 := 2#32
  let v1660 : BitVec 32 := Scalar.addi v1659 c2_i32_1062
  let c3_i32_1063 : BitVec 32 := 3#32
  let v1661 : BitVec 1 := Scalar.cmpi .sle v1660 c3_i32_1063
  let v1662 : BitVec 32 := Scalar.extui v1661
  let c0_i32_1064 : BitVec 32 := 0#32
  let v1663 : BitVec 1 := Scalar.cmpi .ne v1662 c0_i32_1064
  v1663

def k0_off238 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c2_i32_1747 : BitVec 32 := 2#32
  let v2637 : BitVec 32 := Scalar.addi v2636 c2_i32_1747
  let c4096_i32_1748 : BitVec 32 := 4096#32
  let v2638 : BitVec 32 := Scalar.muli v2637 c4096_i32_1748
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1749 : BitVec 32 := 1024#32
  let v2639 : BitVec 32 := Scalar.muli v26 c1024_i32_1749
  let v2640 : BitVec 32 := Scalar.addi v2638 v2639
  let c0_i32_1750 : BitVec 32 := 0#32
  let v2641 : BitVec 32 := Scalar.addi v2640 c0_i32_1750
  let c0_i32_1757 : BitVec 32 := 0#32
  ![v2641.toNat, 0]
def k0_cond211 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1065 : BitVec 32 := 1#32
  let v1664 : BitVec 32 := Scalar.addi v8 c1_i32_1065
  let c2_i32_1066 : BitVec 32 := 2#32
  let v1665 : BitVec 32 := Scalar.addi v1664 c2_i32_1066
  let c3_i32_1067 : BitVec 32 := 3#32
  let v1666 : BitVec 1 := Scalar.cmpi .sle v1665 c3_i32_1067
  let v1667 : BitVec 32 := Scalar.extui v1666
  let c0_i32_1068 : BitVec 32 := 0#32
  let v1668 : BitVec 1 := Scalar.cmpi .ne v1667 c0_i32_1068
  v1668

def k0_off239 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c2_i32_1747 : BitVec 32 := 2#32
  let v2637 : BitVec 32 := Scalar.addi v2636 c2_i32_1747
  let c4096_i32_1748 : BitVec 32 := 4096#32
  let v2638 : BitVec 32 := Scalar.muli v2637 c4096_i32_1748
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1749 : BitVec 32 := 1024#32
  let v2639 : BitVec 32 := Scalar.muli v29 c1024_i32_1749
  let v2640 : BitVec 32 := Scalar.addi v2638 v2639
  let c0_i32_1750 : BitVec 32 := 0#32
  let v2641 : BitVec 32 := Scalar.addi v2640 c0_i32_1750
  let c0_i32_1757 : BitVec 32 := 0#32
  ![v2641.toNat, 0]
def k0_cond212 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1069 : BitVec 32 := 3#32
  let v1669 : BitVec 1 := Scalar.cmpi .sge v8 c3_i32_1069
  let v1670 : BitVec 32 := Scalar.extui v1669
  let c0_i32_1070 : BitVec 32 := 0#32
  let v1671 : BitVec 1 := Scalar.cmpi .ne v1670 c0_i32_1070
  v1671

def k0_off240 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c2_i32_1747 : BitVec 32 := 2#32
  let v2637 : BitVec 32 := Scalar.subi v2636 c2_i32_1747
  let c4096_i32_1748 : BitVec 32 := 4096#32
  let v2638 : BitVec 32 := Scalar.muli v2637 c4096_i32_1748
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1749 : BitVec 32 := 1024#32
  let v2639 : BitVec 32 := Scalar.muli v26 c1024_i32_1749
  let v2640 : BitVec 32 := Scalar.addi v2638 v2639
  let c128_i32_1750 : BitVec 32 := 128#32
  let v2641 : BitVec 32 := Scalar.addi v2640 c128_i32_1750
  let c0_i32_1756 : BitVec 32 := 0#32
  ![v2641.toNat, 0]
def k0_cond213 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1071 : BitVec 32 := 3#32
  let v1672 : BitVec 1 := Scalar.cmpi .sge v8 c3_i32_1071
  let v1673 : BitVec 32 := Scalar.extui v1672
  let c0_i32_1072 : BitVec 32 := 0#32
  let v1674 : BitVec 1 := Scalar.cmpi .ne v1673 c0_i32_1072
  v1674

def k0_off241 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c2_i32_1747 : BitVec 32 := 2#32
  let v2637 : BitVec 32 := Scalar.subi v2636 c2_i32_1747
  let c4096_i32_1748 : BitVec 32 := 4096#32
  let v2638 : BitVec 32 := Scalar.muli v2637 c4096_i32_1748
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1749 : BitVec 32 := 1024#32
  let v2639 : BitVec 32 := Scalar.muli v29 c1024_i32_1749
  let v2640 : BitVec 32 := Scalar.addi v2638 v2639
  let c128_i32_1750 : BitVec 32 := 128#32
  let v2641 : BitVec 32 := Scalar.addi v2640 c128_i32_1750
  let c0_i32_1756 : BitVec 32 := 0#32
  ![v2641.toNat, 0]
def k0_cond214 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1073 : BitVec 32 := 1#32
  let v1675 : BitVec 32 := Scalar.addi v8 c1_i32_1073
  let c2_i32_1074 : BitVec 32 := 2#32
  let v1676 : BitVec 32 := Scalar.addi v1675 c2_i32_1074
  let c3_i32_1075 : BitVec 32 := 3#32
  let v1677 : BitVec 1 := Scalar.cmpi .sle v1676 c3_i32_1075
  let v1678 : BitVec 32 := Scalar.extui v1677
  let c0_i32_1076 : BitVec 32 := 0#32
  let v1679 : BitVec 1 := Scalar.cmpi .ne v1678 c0_i32_1076
  v1679

def k0_off242 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c2_i32_1747 : BitVec 32 := 2#32
  let v2637 : BitVec 32 := Scalar.addi v2636 c2_i32_1747
  let c4096_i32_1748 : BitVec 32 := 4096#32
  let v2638 : BitVec 32 := Scalar.muli v2637 c4096_i32_1748
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1749 : BitVec 32 := 1024#32
  let v2639 : BitVec 32 := Scalar.muli v26 c1024_i32_1749
  let v2640 : BitVec 32 := Scalar.addi v2638 v2639
  let c128_i32_1750 : BitVec 32 := 128#32
  let v2641 : BitVec 32 := Scalar.addi v2640 c128_i32_1750
  let c0_i32_1756 : BitVec 32 := 0#32
  ![v2641.toNat, 0]
def k0_cond215 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1077 : BitVec 32 := 1#32
  let v1680 : BitVec 32 := Scalar.addi v8 c1_i32_1077
  let c2_i32_1078 : BitVec 32 := 2#32
  let v1681 : BitVec 32 := Scalar.addi v1680 c2_i32_1078
  let c3_i32_1079 : BitVec 32 := 3#32
  let v1682 : BitVec 1 := Scalar.cmpi .sle v1681 c3_i32_1079
  let v1683 : BitVec 32 := Scalar.extui v1682
  let c0_i32_1080 : BitVec 32 := 0#32
  let v1684 : BitVec 1 := Scalar.cmpi .ne v1683 c0_i32_1080
  v1684

def k0_off243 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c2_i32_1747 : BitVec 32 := 2#32
  let v2637 : BitVec 32 := Scalar.addi v2636 c2_i32_1747
  let c4096_i32_1748 : BitVec 32 := 4096#32
  let v2638 : BitVec 32 := Scalar.muli v2637 c4096_i32_1748
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1749 : BitVec 32 := 1024#32
  let v2639 : BitVec 32 := Scalar.muli v29 c1024_i32_1749
  let v2640 : BitVec 32 := Scalar.addi v2638 v2639
  let c128_i32_1750 : BitVec 32 := 128#32
  let v2641 : BitVec 32 := Scalar.addi v2640 c128_i32_1750
  let c0_i32_1756 : BitVec 32 := 0#32
  ![v2641.toNat, 0]
def k0_cond216 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1081 : BitVec 32 := 3#32
  let v1685 : BitVec 1 := Scalar.cmpi .sge v8 c3_i32_1081
  let v1686 : BitVec 32 := Scalar.extui v1685
  let c0_i32_1082 : BitVec 32 := 0#32
  let v1687 : BitVec 1 := Scalar.cmpi .ne v1686 c0_i32_1082
  v1687

def k0_off244 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c2_i32_1747 : BitVec 32 := 2#32
  let v2637 : BitVec 32 := Scalar.subi v2636 c2_i32_1747
  let c4096_i32_1748 : BitVec 32 := 4096#32
  let v2638 : BitVec 32 := Scalar.muli v2637 c4096_i32_1748
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1749 : BitVec 32 := 1024#32
  let v2639 : BitVec 32 := Scalar.muli v26 c1024_i32_1749
  let v2640 : BitVec 32 := Scalar.addi v2638 v2639
  let c256_i32_1750 : BitVec 32 := 256#32
  let v2641 : BitVec 32 := Scalar.addi v2640 c256_i32_1750
  let c0_i32_1756 : BitVec 32 := 0#32
  ![v2641.toNat, 0]
def k0_cond217 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1083 : BitVec 32 := 3#32
  let v1688 : BitVec 1 := Scalar.cmpi .sge v8 c3_i32_1083
  let v1689 : BitVec 32 := Scalar.extui v1688
  let c0_i32_1084 : BitVec 32 := 0#32
  let v1690 : BitVec 1 := Scalar.cmpi .ne v1689 c0_i32_1084
  v1690

def k0_off245 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c2_i32_1747 : BitVec 32 := 2#32
  let v2637 : BitVec 32 := Scalar.subi v2636 c2_i32_1747
  let c4096_i32_1748 : BitVec 32 := 4096#32
  let v2638 : BitVec 32 := Scalar.muli v2637 c4096_i32_1748
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1749 : BitVec 32 := 1024#32
  let v2639 : BitVec 32 := Scalar.muli v29 c1024_i32_1749
  let v2640 : BitVec 32 := Scalar.addi v2638 v2639
  let c256_i32_1750 : BitVec 32 := 256#32
  let v2641 : BitVec 32 := Scalar.addi v2640 c256_i32_1750
  let c0_i32_1756 : BitVec 32 := 0#32
  ![v2641.toNat, 0]
def k0_cond218 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1085 : BitVec 32 := 1#32
  let v1691 : BitVec 32 := Scalar.addi v8 c1_i32_1085
  let c2_i32_1086 : BitVec 32 := 2#32
  let v1692 : BitVec 32 := Scalar.addi v1691 c2_i32_1086
  let c3_i32_1087 : BitVec 32 := 3#32
  let v1693 : BitVec 1 := Scalar.cmpi .sle v1692 c3_i32_1087
  let v1694 : BitVec 32 := Scalar.extui v1693
  let c0_i32_1088 : BitVec 32 := 0#32
  let v1695 : BitVec 1 := Scalar.cmpi .ne v1694 c0_i32_1088
  v1695

def k0_off246 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c2_i32_1747 : BitVec 32 := 2#32
  let v2637 : BitVec 32 := Scalar.addi v2636 c2_i32_1747
  let c4096_i32_1748 : BitVec 32 := 4096#32
  let v2638 : BitVec 32 := Scalar.muli v2637 c4096_i32_1748
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1749 : BitVec 32 := 1024#32
  let v2639 : BitVec 32 := Scalar.muli v26 c1024_i32_1749
  let v2640 : BitVec 32 := Scalar.addi v2638 v2639
  let c256_i32_1750 : BitVec 32 := 256#32
  let v2641 : BitVec 32 := Scalar.addi v2640 c256_i32_1750
  let c0_i32_1756 : BitVec 32 := 0#32
  ![v2641.toNat, 0]
def k0_cond219 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1089 : BitVec 32 := 1#32
  let v1696 : BitVec 32 := Scalar.addi v8 c1_i32_1089
  let c2_i32_1090 : BitVec 32 := 2#32
  let v1697 : BitVec 32 := Scalar.addi v1696 c2_i32_1090
  let c3_i32_1091 : BitVec 32 := 3#32
  let v1698 : BitVec 1 := Scalar.cmpi .sle v1697 c3_i32_1091
  let v1699 : BitVec 32 := Scalar.extui v1698
  let c0_i32_1092 : BitVec 32 := 0#32
  let v1700 : BitVec 1 := Scalar.cmpi .ne v1699 c0_i32_1092
  v1700

def k0_off247 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c2_i32_1747 : BitVec 32 := 2#32
  let v2637 : BitVec 32 := Scalar.addi v2636 c2_i32_1747
  let c4096_i32_1748 : BitVec 32 := 4096#32
  let v2638 : BitVec 32 := Scalar.muli v2637 c4096_i32_1748
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1749 : BitVec 32 := 1024#32
  let v2639 : BitVec 32 := Scalar.muli v29 c1024_i32_1749
  let v2640 : BitVec 32 := Scalar.addi v2638 v2639
  let c256_i32_1750 : BitVec 32 := 256#32
  let v2641 : BitVec 32 := Scalar.addi v2640 c256_i32_1750
  let c0_i32_1756 : BitVec 32 := 0#32
  ![v2641.toNat, 0]
def k0_cond220 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1093 : BitVec 32 := 3#32
  let v1701 : BitVec 1 := Scalar.cmpi .sge v8 c3_i32_1093
  let v1702 : BitVec 32 := Scalar.extui v1701
  let c0_i32_1094 : BitVec 32 := 0#32
  let v1703 : BitVec 1 := Scalar.cmpi .ne v1702 c0_i32_1094
  v1703

def k0_off248 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c2_i32_1747 : BitVec 32 := 2#32
  let v2637 : BitVec 32 := Scalar.subi v2636 c2_i32_1747
  let c4096_i32_1748 : BitVec 32 := 4096#32
  let v2638 : BitVec 32 := Scalar.muli v2637 c4096_i32_1748
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1749 : BitVec 32 := 1024#32
  let v2639 : BitVec 32 := Scalar.muli v26 c1024_i32_1749
  let v2640 : BitVec 32 := Scalar.addi v2638 v2639
  let c384_i32_1750 : BitVec 32 := 384#32
  let v2641 : BitVec 32 := Scalar.addi v2640 c384_i32_1750
  let c0_i32_1756 : BitVec 32 := 0#32
  ![v2641.toNat, 0]
def k0_cond221 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1095 : BitVec 32 := 3#32
  let v1704 : BitVec 1 := Scalar.cmpi .sge v8 c3_i32_1095
  let v1705 : BitVec 32 := Scalar.extui v1704
  let c0_i32_1096 : BitVec 32 := 0#32
  let v1706 : BitVec 1 := Scalar.cmpi .ne v1705 c0_i32_1096
  v1706

def k0_off249 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c2_i32_1747 : BitVec 32 := 2#32
  let v2637 : BitVec 32 := Scalar.subi v2636 c2_i32_1747
  let c4096_i32_1748 : BitVec 32 := 4096#32
  let v2638 : BitVec 32 := Scalar.muli v2637 c4096_i32_1748
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1749 : BitVec 32 := 1024#32
  let v2639 : BitVec 32 := Scalar.muli v29 c1024_i32_1749
  let v2640 : BitVec 32 := Scalar.addi v2638 v2639
  let c384_i32_1750 : BitVec 32 := 384#32
  let v2641 : BitVec 32 := Scalar.addi v2640 c384_i32_1750
  let c0_i32_1756 : BitVec 32 := 0#32
  ![v2641.toNat, 0]
def k0_dev187 (d0 : Dev nD) : Nat :=
  let c0_i32_1766 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1765 : BitVec 32 := 16#32
  let v2658 : BitVec 32 := Scalar.muli v31 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1767 : BitVec 32 := 4#32
  let v2660 : BitVec 32 := Scalar.muli v5 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_cond222 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1097 : BitVec 32 := 1#32
  let v1707 : BitVec 32 := Scalar.addi v8 c1_i32_1097
  let c2_i32_1098 : BitVec 32 := 2#32
  let v1708 : BitVec 32 := Scalar.addi v1707 c2_i32_1098
  let c3_i32_1099 : BitVec 32 := 3#32
  let v1709 : BitVec 1 := Scalar.cmpi .sle v1708 c3_i32_1099
  let v1710 : BitVec 32 := Scalar.extui v1709
  let c0_i32_1100 : BitVec 32 := 0#32
  let v1711 : BitVec 1 := Scalar.cmpi .ne v1710 c0_i32_1100
  v1711

def k0_off250 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c2_i32_1747 : BitVec 32 := 2#32
  let v2637 : BitVec 32 := Scalar.addi v2636 c2_i32_1747
  let c4096_i32_1748 : BitVec 32 := 4096#32
  let v2638 : BitVec 32 := Scalar.muli v2637 c4096_i32_1748
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1749 : BitVec 32 := 1024#32
  let v2639 : BitVec 32 := Scalar.muli v26 c1024_i32_1749
  let v2640 : BitVec 32 := Scalar.addi v2638 v2639
  let c384_i32_1750 : BitVec 32 := 384#32
  let v2641 : BitVec 32 := Scalar.addi v2640 c384_i32_1750
  let c0_i32_1756 : BitVec 32 := 0#32
  ![v2641.toNat, 0]
def k0_cond223 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1101 : BitVec 32 := 1#32
  let v1712 : BitVec 32 := Scalar.addi v8 c1_i32_1101
  let c2_i32_1102 : BitVec 32 := 2#32
  let v1713 : BitVec 32 := Scalar.addi v1712 c2_i32_1102
  let c3_i32_1103 : BitVec 32 := 3#32
  let v1714 : BitVec 1 := Scalar.cmpi .sle v1713 c3_i32_1103
  let v1715 : BitVec 32 := Scalar.extui v1714
  let c0_i32_1104 : BitVec 32 := 0#32
  let v1716 : BitVec 1 := Scalar.cmpi .ne v1715 c0_i32_1104
  v1716

def k0_off251 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c2_i32_1747 : BitVec 32 := 2#32
  let v2637 : BitVec 32 := Scalar.addi v2636 c2_i32_1747
  let c4096_i32_1748 : BitVec 32 := 4096#32
  let v2638 : BitVec 32 := Scalar.muli v2637 c4096_i32_1748
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1749 : BitVec 32 := 1024#32
  let v2639 : BitVec 32 := Scalar.muli v29 c1024_i32_1749
  let v2640 : BitVec 32 := Scalar.addi v2638 v2639
  let c384_i32_1750 : BitVec 32 := 384#32
  let v2641 : BitVec 32 := Scalar.addi v2640 c384_i32_1750
  let c0_i32_1756 : BitVec 32 := 0#32
  ![v2641.toNat, 0]
def k0_dev188 (d0 : Dev nD) : Nat :=
  let c0_i32_1766 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1765 : BitVec 32 := 16#32
  let v2658 : BitVec 32 := Scalar.muli v31 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1767 : BitVec 32 := 4#32
  let v2660 : BitVec 32 := Scalar.muli v5 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_cond224 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1105 : BitVec 32 := 3#32
  let v1717 : BitVec 1 := Scalar.cmpi .sge v8 c3_i32_1105
  let v1718 : BitVec 32 := Scalar.extui v1717
  let c0_i32_1106 : BitVec 32 := 0#32
  let v1719 : BitVec 1 := Scalar.cmpi .ne v1718 c0_i32_1106
  v1719

def k0_off252 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c2_i32_1747 : BitVec 32 := 2#32
  let v2637 : BitVec 32 := Scalar.subi v2636 c2_i32_1747
  let c4096_i32_1748 : BitVec 32 := 4096#32
  let v2638 : BitVec 32 := Scalar.muli v2637 c4096_i32_1748
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1749 : BitVec 32 := 1024#32
  let v2639 : BitVec 32 := Scalar.muli v26 c1024_i32_1749
  let v2640 : BitVec 32 := Scalar.addi v2638 v2639
  let c512_i32_1750 : BitVec 32 := 512#32
  let v2641 : BitVec 32 := Scalar.addi v2640 c512_i32_1750
  let c0_i32_1756 : BitVec 32 := 0#32
  ![v2641.toNat, 0]
def k0_cond225 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1107 : BitVec 32 := 3#32
  let v1720 : BitVec 1 := Scalar.cmpi .sge v8 c3_i32_1107
  let v1721 : BitVec 32 := Scalar.extui v1720
  let c0_i32_1108 : BitVec 32 := 0#32
  let v1722 : BitVec 1 := Scalar.cmpi .ne v1721 c0_i32_1108
  v1722

def k0_off253 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c2_i32_1747 : BitVec 32 := 2#32
  let v2637 : BitVec 32 := Scalar.subi v2636 c2_i32_1747
  let c4096_i32_1748 : BitVec 32 := 4096#32
  let v2638 : BitVec 32 := Scalar.muli v2637 c4096_i32_1748
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1749 : BitVec 32 := 1024#32
  let v2639 : BitVec 32 := Scalar.muli v29 c1024_i32_1749
  let v2640 : BitVec 32 := Scalar.addi v2638 v2639
  let c512_i32_1750 : BitVec 32 := 512#32
  let v2641 : BitVec 32 := Scalar.addi v2640 c512_i32_1750
  let c0_i32_1756 : BitVec 32 := 0#32
  ![v2641.toNat, 0]
def k0_dev189 (d0 : Dev nD) : Nat :=
  let c0_i32_1766 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1765 : BitVec 32 := 16#32
  let v2658 : BitVec 32 := Scalar.muli v31 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1767 : BitVec 32 := 4#32
  let v2660 : BitVec 32 := Scalar.muli v5 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_cond226 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1109 : BitVec 32 := 1#32
  let v1723 : BitVec 32 := Scalar.addi v8 c1_i32_1109
  let c2_i32_1110 : BitVec 32 := 2#32
  let v1724 : BitVec 32 := Scalar.addi v1723 c2_i32_1110
  let c3_i32_1111 : BitVec 32 := 3#32
  let v1725 : BitVec 1 := Scalar.cmpi .sle v1724 c3_i32_1111
  let v1726 : BitVec 32 := Scalar.extui v1725
  let c0_i32_1112 : BitVec 32 := 0#32
  let v1727 : BitVec 1 := Scalar.cmpi .ne v1726 c0_i32_1112
  v1727

def k0_off254 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c2_i32_1747 : BitVec 32 := 2#32
  let v2637 : BitVec 32 := Scalar.addi v2636 c2_i32_1747
  let c4096_i32_1748 : BitVec 32 := 4096#32
  let v2638 : BitVec 32 := Scalar.muli v2637 c4096_i32_1748
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1749 : BitVec 32 := 1024#32
  let v2639 : BitVec 32 := Scalar.muli v26 c1024_i32_1749
  let v2640 : BitVec 32 := Scalar.addi v2638 v2639
  let c512_i32_1750 : BitVec 32 := 512#32
  let v2641 : BitVec 32 := Scalar.addi v2640 c512_i32_1750
  let c0_i32_1756 : BitVec 32 := 0#32
  ![v2641.toNat, 0]
def k0_cond227 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1113 : BitVec 32 := 1#32
  let v1728 : BitVec 32 := Scalar.addi v8 c1_i32_1113
  let c2_i32_1114 : BitVec 32 := 2#32
  let v1729 : BitVec 32 := Scalar.addi v1728 c2_i32_1114
  let c3_i32_1115 : BitVec 32 := 3#32
  let v1730 : BitVec 1 := Scalar.cmpi .sle v1729 c3_i32_1115
  let v1731 : BitVec 32 := Scalar.extui v1730
  let c0_i32_1116 : BitVec 32 := 0#32
  let v1732 : BitVec 1 := Scalar.cmpi .ne v1731 c0_i32_1116
  v1732

def k0_off255 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c2_i32_1747 : BitVec 32 := 2#32
  let v2637 : BitVec 32 := Scalar.addi v2636 c2_i32_1747
  let c4096_i32_1748 : BitVec 32 := 4096#32
  let v2638 : BitVec 32 := Scalar.muli v2637 c4096_i32_1748
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1749 : BitVec 32 := 1024#32
  let v2639 : BitVec 32 := Scalar.muli v29 c1024_i32_1749
  let v2640 : BitVec 32 := Scalar.addi v2638 v2639
  let c512_i32_1750 : BitVec 32 := 512#32
  let v2641 : BitVec 32 := Scalar.addi v2640 c512_i32_1750
  let c0_i32_1756 : BitVec 32 := 0#32
  ![v2641.toNat, 0]
def k0_dev190 (d0 : Dev nD) : Nat :=
  let c0_i32_1766 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_14 v2
  let c16_i32_1765 : BitVec 32 := 16#32
  let v2658 : BitVec 32 := Scalar.muli v31 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1767 : BitVec 32 := 4#32
  let v2660 : BitVec 32 := Scalar.muli v5 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_cond228 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1117 : BitVec 32 := 3#32
  let v1733 : BitVec 1 := Scalar.cmpi .sge v8 c3_i32_1117
  let v1734 : BitVec 32 := Scalar.extui v1733
  let c0_i32_1118 : BitVec 32 := 0#32
  let v1735 : BitVec 1 := Scalar.cmpi .ne v1734 c0_i32_1118
  v1735

def k0_off256 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c2_i32_1747 : BitVec 32 := 2#32
  let v2637 : BitVec 32 := Scalar.subi v2636 c2_i32_1747
  let c4096_i32_1748 : BitVec 32 := 4096#32
  let v2638 : BitVec 32 := Scalar.muli v2637 c4096_i32_1748
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1749 : BitVec 32 := 1024#32
  let v2639 : BitVec 32 := Scalar.muli v26 c1024_i32_1749
  let v2640 : BitVec 32 := Scalar.addi v2638 v2639
  let c640_i32_1750 : BitVec 32 := 640#32
  let v2641 : BitVec 32 := Scalar.addi v2640 c640_i32_1750
  let c0_i32_1756 : BitVec 32 := 0#32
  ![v2641.toNat, 0]
def k0_dev191 (d0 : Dev nD) : Nat :=
  let c0_i32_1766 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1765 : BitVec 32 := 16#32
  let v2658 : BitVec 32 := Scalar.muli v2 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1767 : BitVec 32 := 4#32
  let v2660 : BitVec 32 := Scalar.muli v21 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_cond229 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1119 : BitVec 32 := 3#32
  let v1736 : BitVec 1 := Scalar.cmpi .sge v8 c3_i32_1119
  let v1737 : BitVec 32 := Scalar.extui v1736
  let c0_i32_1120 : BitVec 32 := 0#32
  let v1738 : BitVec 1 := Scalar.cmpi .ne v1737 c0_i32_1120
  v1738

def k0_off257 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c2_i32_1747 : BitVec 32 := 2#32
  let v2637 : BitVec 32 := Scalar.subi v2636 c2_i32_1747
  let c4096_i32_1748 : BitVec 32 := 4096#32
  let v2638 : BitVec 32 := Scalar.muli v2637 c4096_i32_1748
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1749 : BitVec 32 := 1024#32
  let v2639 : BitVec 32 := Scalar.muli v29 c1024_i32_1749
  let v2640 : BitVec 32 := Scalar.addi v2638 v2639
  let c640_i32_1750 : BitVec 32 := 640#32
  let v2641 : BitVec 32 := Scalar.addi v2640 c640_i32_1750
  let c0_i32_1756 : BitVec 32 := 0#32
  ![v2641.toNat, 0]
def k0_cond230 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1121 : BitVec 32 := 1#32
  let v1739 : BitVec 32 := Scalar.addi v8 c1_i32_1121
  let c2_i32_1122 : BitVec 32 := 2#32
  let v1740 : BitVec 32 := Scalar.addi v1739 c2_i32_1122
  let c3_i32_1123 : BitVec 32 := 3#32
  let v1741 : BitVec 1 := Scalar.cmpi .sle v1740 c3_i32_1123
  let v1742 : BitVec 32 := Scalar.extui v1741
  let c0_i32_1124 : BitVec 32 := 0#32
  let v1743 : BitVec 1 := Scalar.cmpi .ne v1742 c0_i32_1124
  v1743

def k0_off258 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c2_i32_1747 : BitVec 32 := 2#32
  let v2637 : BitVec 32 := Scalar.addi v2636 c2_i32_1747
  let c4096_i32_1748 : BitVec 32 := 4096#32
  let v2638 : BitVec 32 := Scalar.muli v2637 c4096_i32_1748
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1749 : BitVec 32 := 1024#32
  let v2639 : BitVec 32 := Scalar.muli v26 c1024_i32_1749
  let v2640 : BitVec 32 := Scalar.addi v2638 v2639
  let c640_i32_1750 : BitVec 32 := 640#32
  let v2641 : BitVec 32 := Scalar.addi v2640 c640_i32_1750
  let c0_i32_1756 : BitVec 32 := 0#32
  ![v2641.toNat, 0]
def k0_dev192 (d0 : Dev nD) : Nat :=
  let c0_i32_1766 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1765 : BitVec 32 := 16#32
  let v2658 : BitVec 32 := Scalar.muli v2 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1767 : BitVec 32 := 4#32
  let v2660 : BitVec 32 := Scalar.muli v21 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_cond231 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1125 : BitVec 32 := 1#32
  let v1744 : BitVec 32 := Scalar.addi v8 c1_i32_1125
  let c2_i32_1126 : BitVec 32 := 2#32
  let v1745 : BitVec 32 := Scalar.addi v1744 c2_i32_1126
  let c3_i32_1127 : BitVec 32 := 3#32
  let v1746 : BitVec 1 := Scalar.cmpi .sle v1745 c3_i32_1127
  let v1747 : BitVec 32 := Scalar.extui v1746
  let c0_i32_1128 : BitVec 32 := 0#32
  let v1748 : BitVec 1 := Scalar.cmpi .ne v1747 c0_i32_1128
  v1748

def k0_off259 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c2_i32_1747 : BitVec 32 := 2#32
  let v2637 : BitVec 32 := Scalar.addi v2636 c2_i32_1747
  let c4096_i32_1748 : BitVec 32 := 4096#32
  let v2638 : BitVec 32 := Scalar.muli v2637 c4096_i32_1748
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1749 : BitVec 32 := 1024#32
  let v2639 : BitVec 32 := Scalar.muli v29 c1024_i32_1749
  let v2640 : BitVec 32 := Scalar.addi v2638 v2639
  let c640_i32_1750 : BitVec 32 := 640#32
  let v2641 : BitVec 32 := Scalar.addi v2640 c640_i32_1750
  let c0_i32_1756 : BitVec 32 := 0#32
  ![v2641.toNat, 0]
def k0_cond232 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1129 : BitVec 32 := 3#32
  let v1749 : BitVec 1 := Scalar.cmpi .sge v8 c3_i32_1129
  let v1750 : BitVec 32 := Scalar.extui v1749
  let c0_i32_1130 : BitVec 32 := 0#32
  let v1751 : BitVec 1 := Scalar.cmpi .ne v1750 c0_i32_1130
  v1751

def k0_off260 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c2_i32_1747 : BitVec 32 := 2#32
  let v2637 : BitVec 32 := Scalar.subi v2636 c2_i32_1747
  let c4096_i32_1748 : BitVec 32 := 4096#32
  let v2638 : BitVec 32 := Scalar.muli v2637 c4096_i32_1748
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1749 : BitVec 32 := 1024#32
  let v2639 : BitVec 32 := Scalar.muli v26 c1024_i32_1749
  let v2640 : BitVec 32 := Scalar.addi v2638 v2639
  let c768_i32_1750 : BitVec 32 := 768#32
  let v2641 : BitVec 32 := Scalar.addi v2640 c768_i32_1750
  let c0_i32_1756 : BitVec 32 := 0#32
  ![v2641.toNat, 0]
def k0_dev193 (d0 : Dev nD) : Nat :=
  let c0_i32_1766 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1765 : BitVec 32 := 16#32
  let v2658 : BitVec 32 := Scalar.muli v2 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1767 : BitVec 32 := 4#32
  let v2660 : BitVec 32 := Scalar.muli v21 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_cond233 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1131 : BitVec 32 := 3#32
  let v1752 : BitVec 1 := Scalar.cmpi .sge v8 c3_i32_1131
  let v1753 : BitVec 32 := Scalar.extui v1752
  let c0_i32_1132 : BitVec 32 := 0#32
  let v1754 : BitVec 1 := Scalar.cmpi .ne v1753 c0_i32_1132
  v1754

def k0_off261 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c2_i32_1747 : BitVec 32 := 2#32
  let v2637 : BitVec 32 := Scalar.subi v2636 c2_i32_1747
  let c4096_i32_1748 : BitVec 32 := 4096#32
  let v2638 : BitVec 32 := Scalar.muli v2637 c4096_i32_1748
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1749 : BitVec 32 := 1024#32
  let v2639 : BitVec 32 := Scalar.muli v29 c1024_i32_1749
  let v2640 : BitVec 32 := Scalar.addi v2638 v2639
  let c768_i32_1750 : BitVec 32 := 768#32
  let v2641 : BitVec 32 := Scalar.addi v2640 c768_i32_1750
  let c0_i32_1756 : BitVec 32 := 0#32
  ![v2641.toNat, 0]
def k0_cond234 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1133 : BitVec 32 := 1#32
  let v1755 : BitVec 32 := Scalar.addi v8 c1_i32_1133
  let c2_i32_1134 : BitVec 32 := 2#32
  let v1756 : BitVec 32 := Scalar.addi v1755 c2_i32_1134
  let c3_i32_1135 : BitVec 32 := 3#32
  let v1757 : BitVec 1 := Scalar.cmpi .sle v1756 c3_i32_1135
  let v1758 : BitVec 32 := Scalar.extui v1757
  let c0_i32_1136 : BitVec 32 := 0#32
  let v1759 : BitVec 1 := Scalar.cmpi .ne v1758 c0_i32_1136
  v1759

def k0_off262 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c2_i32_1747 : BitVec 32 := 2#32
  let v2637 : BitVec 32 := Scalar.addi v2636 c2_i32_1747
  let c4096_i32_1748 : BitVec 32 := 4096#32
  let v2638 : BitVec 32 := Scalar.muli v2637 c4096_i32_1748
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1749 : BitVec 32 := 1024#32
  let v2639 : BitVec 32 := Scalar.muli v26 c1024_i32_1749
  let v2640 : BitVec 32 := Scalar.addi v2638 v2639
  let c768_i32_1750 : BitVec 32 := 768#32
  let v2641 : BitVec 32 := Scalar.addi v2640 c768_i32_1750
  let c0_i32_1756 : BitVec 32 := 0#32
  ![v2641.toNat, 0]
def k0_dev194 (d0 : Dev nD) : Nat :=
  let c0_i32_1766 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1765 : BitVec 32 := 16#32
  let v2658 : BitVec 32 := Scalar.muli v2 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1767 : BitVec 32 := 4#32
  let v2660 : BitVec 32 := Scalar.muli v21 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_cond235 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1137 : BitVec 32 := 1#32
  let v1760 : BitVec 32 := Scalar.addi v8 c1_i32_1137
  let c2_i32_1138 : BitVec 32 := 2#32
  let v1761 : BitVec 32 := Scalar.addi v1760 c2_i32_1138
  let c3_i32_1139 : BitVec 32 := 3#32
  let v1762 : BitVec 1 := Scalar.cmpi .sle v1761 c3_i32_1139
  let v1763 : BitVec 32 := Scalar.extui v1762
  let c0_i32_1140 : BitVec 32 := 0#32
  let v1764 : BitVec 1 := Scalar.cmpi .ne v1763 c0_i32_1140
  v1764

def k0_off263 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c2_i32_1747 : BitVec 32 := 2#32
  let v2637 : BitVec 32 := Scalar.addi v2636 c2_i32_1747
  let c4096_i32_1748 : BitVec 32 := 4096#32
  let v2638 : BitVec 32 := Scalar.muli v2637 c4096_i32_1748
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1749 : BitVec 32 := 1024#32
  let v2639 : BitVec 32 := Scalar.muli v29 c1024_i32_1749
  let v2640 : BitVec 32 := Scalar.addi v2638 v2639
  let c768_i32_1750 : BitVec 32 := 768#32
  let v2641 : BitVec 32 := Scalar.addi v2640 c768_i32_1750
  let c0_i32_1756 : BitVec 32 := 0#32
  ![v2641.toNat, 0]
def k0_cond236 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1141 : BitVec 32 := 3#32
  let v1765 : BitVec 1 := Scalar.cmpi .sge v8 c3_i32_1141
  let v1766 : BitVec 32 := Scalar.extui v1765
  let c0_i32_1142 : BitVec 32 := 0#32
  let v1767 : BitVec 1 := Scalar.cmpi .ne v1766 c0_i32_1142
  v1767

def k0_off264 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c2_i32_1747 : BitVec 32 := 2#32
  let v2637 : BitVec 32 := Scalar.subi v2636 c2_i32_1747
  let c4096_i32_1748 : BitVec 32 := 4096#32
  let v2638 : BitVec 32 := Scalar.muli v2637 c4096_i32_1748
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1749 : BitVec 32 := 1024#32
  let v2639 : BitVec 32 := Scalar.muli v26 c1024_i32_1749
  let v2640 : BitVec 32 := Scalar.addi v2638 v2639
  let c896_i32_1750 : BitVec 32 := 896#32
  let v2641 : BitVec 32 := Scalar.addi v2640 c896_i32_1750
  let c0_i32_1756 : BitVec 32 := 0#32
  ![v2641.toNat, 0]
def k0_dev195 (d0 : Dev nD) : Nat :=
  let c0_i32_1766 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1765 : BitVec 32 := 16#32
  let v2658 : BitVec 32 := Scalar.muli v2 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1767 : BitVec 32 := 4#32
  let v2660 : BitVec 32 := Scalar.muli v21 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_off265 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1771 : BitVec 32 := 1#32
  let v2670 : BitVec 32 := Scalar.subi v8 c1_i32_1771
  let c2_i32_1772 : BitVec 32 := 2#32
  let v2671 : BitVec 32 := Scalar.subi v2670 c2_i32_1772
  let c4096_i32_1775 : BitVec 32 := 4096#32
  let v2675 : BitVec 32 := Scalar.muli v2671 c4096_i32_1775
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1776 : BitVec 32 := 1024#32
  let v2676 : BitVec 32 := Scalar.muli v26 c1024_i32_1776
  let v2677 : BitVec 32 := Scalar.addi v2675 v2676
  let c0_i32_1777 : BitVec 32 := 0#32
  ![v2677.toNat, 0]
def k0_cond237 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1143 : BitVec 32 := 3#32
  let v1768 : BitVec 1 := Scalar.cmpi .sge v8 c3_i32_1143
  let v1769 : BitVec 32 := Scalar.extui v1768
  let c0_i32_1144 : BitVec 32 := 0#32
  let v1770 : BitVec 1 := Scalar.cmpi .ne v1769 c0_i32_1144
  v1770

def k0_off266 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c2_i32_1747 : BitVec 32 := 2#32
  let v2637 : BitVec 32 := Scalar.subi v2636 c2_i32_1747
  let c4096_i32_1748 : BitVec 32 := 4096#32
  let v2638 : BitVec 32 := Scalar.muli v2637 c4096_i32_1748
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1749 : BitVec 32 := 1024#32
  let v2639 : BitVec 32 := Scalar.muli v29 c1024_i32_1749
  let v2640 : BitVec 32 := Scalar.addi v2638 v2639
  let c896_i32_1750 : BitVec 32 := 896#32
  let v2641 : BitVec 32 := Scalar.addi v2640 c896_i32_1750
  let c0_i32_1756 : BitVec 32 := 0#32
  ![v2641.toNat, 0]
def k0_off267 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1758 : BitVec 32 := 1#32
  let v2652 : BitVec 32 := Scalar.subi v8 c1_i32_1758
  let c2_i32_1759 : BitVec 32 := 2#32
  let v2653 : BitVec 32 := Scalar.subi v2652 c2_i32_1759
  let c4096_i32_1762 : BitVec 32 := 4096#32
  let v2657 : BitVec 32 := Scalar.muli v2653 c4096_i32_1762
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1763 : BitVec 32 := 1024#32
  let v2658 : BitVec 32 := Scalar.muli v29 c1024_i32_1763
  let v2659 : BitVec 32 := Scalar.addi v2657 v2658
  let c0_i32_1764 : BitVec 32 := 0#32
  ![v2659.toNat, 0]
def k0_cond238 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1145 : BitVec 32 := 1#32
  let v1771 : BitVec 32 := Scalar.addi v8 c1_i32_1145
  let c2_i32_1146 : BitVec 32 := 2#32
  let v1772 : BitVec 32 := Scalar.addi v1771 c2_i32_1146
  let c3_i32_1147 : BitVec 32 := 3#32
  let v1773 : BitVec 1 := Scalar.cmpi .sle v1772 c3_i32_1147
  let v1774 : BitVec 32 := Scalar.extui v1773
  let c0_i32_1148 : BitVec 32 := 0#32
  let v1775 : BitVec 1 := Scalar.cmpi .ne v1774 c0_i32_1148
  v1775

def k0_off268 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c2_i32_1747 : BitVec 32 := 2#32
  let v2637 : BitVec 32 := Scalar.addi v2636 c2_i32_1747
  let c4096_i32_1748 : BitVec 32 := 4096#32
  let v2638 : BitVec 32 := Scalar.muli v2637 c4096_i32_1748
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1749 : BitVec 32 := 1024#32
  let v2639 : BitVec 32 := Scalar.muli v26 c1024_i32_1749
  let v2640 : BitVec 32 := Scalar.addi v2638 v2639
  let c896_i32_1750 : BitVec 32 := 896#32
  let v2641 : BitVec 32 := Scalar.addi v2640 c896_i32_1750
  let c0_i32_1756 : BitVec 32 := 0#32
  ![v2641.toNat, 0]
def k0_dev196 (d0 : Dev nD) : Nat :=
  let c0_i32_1766 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1765 : BitVec 32 := 16#32
  let v2658 : BitVec 32 := Scalar.muli v2 c16_i32_1765
  let v2659 : BitVec 32 := Scalar.addi c0_i32_1766 v2658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.addi v5 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c4_i32_1767 : BitVec 32 := 4#32
  let v2660 : BitVec 32 := Scalar.muli v21 c4_i32_1767
  let v2661 : BitVec 32 := Scalar.addi v2659 v2660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1768 : BitVec 32 := 1#32
  let v2662 : BitVec 32 := Scalar.muli v8 c1_i32_1768
  let v2663 : BitVec 32 := Scalar.addi v2661 v2662
  v2663.toNat
def k0_off269 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1771 : BitVec 32 := 1#32
  let v2670 : BitVec 32 := Scalar.addi v8 c1_i32_1771
  let c2_i32_1772 : BitVec 32 := 2#32
  let v2671 : BitVec 32 := Scalar.addi v2670 c2_i32_1772
  let c4096_i32_1775 : BitVec 32 := 4096#32
  let v2675 : BitVec 32 := Scalar.muli v2671 c4096_i32_1775
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1776 : BitVec 32 := 1024#32
  let v2676 : BitVec 32 := Scalar.muli v26 c1024_i32_1776
  let v2677 : BitVec 32 := Scalar.addi v2675 v2676
  let c0_i32_1777 : BitVec 32 := 0#32
  ![v2677.toNat, 0]
def k0_cond239 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1149 : BitVec 32 := 1#32
  let v1776 : BitVec 32 := Scalar.addi v8 c1_i32_1149
  let c2_i32_1150 : BitVec 32 := 2#32
  let v1777 : BitVec 32 := Scalar.addi v1776 c2_i32_1150
  let c3_i32_1151 : BitVec 32 := 3#32
  let v1778 : BitVec 1 := Scalar.cmpi .sle v1777 c3_i32_1151
  let v1779 : BitVec 32 := Scalar.extui v1778
  let c0_i32_1152 : BitVec 32 := 0#32
  let v1780 : BitVec 1 := Scalar.cmpi .ne v1779 c0_i32_1152
  v1780

def k0_off270 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c2_i32_1747 : BitVec 32 := 2#32
  let v2637 : BitVec 32 := Scalar.addi v2636 c2_i32_1747
  let c4096_i32_1748 : BitVec 32 := 4096#32
  let v2638 : BitVec 32 := Scalar.muli v2637 c4096_i32_1748
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1749 : BitVec 32 := 1024#32
  let v2639 : BitVec 32 := Scalar.muli v29 c1024_i32_1749
  let v2640 : BitVec 32 := Scalar.addi v2638 v2639
  let c896_i32_1750 : BitVec 32 := 896#32
  let v2641 : BitVec 32 := Scalar.addi v2640 c896_i32_1750
  let c0_i32_1756 : BitVec 32 := 0#32
  ![v2641.toNat, 0]
def k0_off271 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1758 : BitVec 32 := 1#32
  let v2652 : BitVec 32 := Scalar.addi v8 c1_i32_1758
  let c2_i32_1759 : BitVec 32 := 2#32
  let v2653 : BitVec 32 := Scalar.addi v2652 c2_i32_1759
  let c4096_i32_1762 : BitVec 32 := 4096#32
  let v2657 : BitVec 32 := Scalar.muli v2653 c4096_i32_1762
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1763 : BitVec 32 := 1024#32
  let v2658 : BitVec 32 := Scalar.muli v29 c1024_i32_1763
  let v2659 : BitVec 32 := Scalar.addi v2657 v2658
  let c0_i32_1764 : BitVec 32 := 0#32
  ![v2659.toNat, 0]
def k0_cond240 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1153 : BitVec 32 := 1#32
  let v1781 : BitVec 1 := Scalar.cmpi .sge v8 c1_i32_1153
  let v1782 : BitVec 32 := Scalar.extui v1781
  let c0_i32_1154 : BitVec 32 := 0#32
  let v1783 : BitVec 1 := Scalar.cmpi .ne v1782 c0_i32_1154
  v1783

def k0_off272 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c0_i32_1747 : BitVec 32 := 0#32
  let v2637 : BitVec 32 := Scalar.subi v2636 c0_i32_1747
  let c4096_i32_1748 : BitVec 32 := 4096#32
  let v2638 : BitVec 32 := Scalar.muli v2637 c4096_i32_1748
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1749 : BitVec 32 := 1024#32
  let v2639 : BitVec 32 := Scalar.muli v30 c1024_i32_1749
  let v2640 : BitVec 32 := Scalar.addi v2638 v2639
  let c384_i32_1750 : BitVec 32 := 384#32
  let v2641 : BitVec 32 := Scalar.addi v2640 c384_i32_1750
  let c0_i32_1757 : BitVec 32 := 0#32
  ![v2641.toNat, 0]
def k0_cond241 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1155 : BitVec 32 := 1#32
  let v1784 : BitVec 32 := Scalar.addi v8 c1_i32_1155
  let c0_i32_1156 : BitVec 32 := 0#32
  let v1785 : BitVec 32 := Scalar.addi v1784 c0_i32_1156
  let c3_i32_1157 : BitVec 32 := 3#32
  let v1786 : BitVec 1 := Scalar.cmpi .sle v1785 c3_i32_1157
  let v1787 : BitVec 32 := Scalar.extui v1786
  let c0_i32_1158 : BitVec 32 := 0#32
  let v1788 : BitVec 1 := Scalar.cmpi .ne v1787 c0_i32_1158
  v1788

def k0_off273 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c0_i32_1747 : BitVec 32 := 0#32
  let v2637 : BitVec 32 := Scalar.addi v2636 c0_i32_1747
  let c4096_i32_1748 : BitVec 32 := 4096#32
  let v2638 : BitVec 32 := Scalar.muli v2637 c4096_i32_1748
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1749 : BitVec 32 := 1024#32
  let v2639 : BitVec 32 := Scalar.muli v30 c1024_i32_1749
  let v2640 : BitVec 32 := Scalar.addi v2638 v2639
  let c384_i32_1750 : BitVec 32 := 384#32
  let v2641 : BitVec 32 := Scalar.addi v2640 c384_i32_1750
  let c0_i32_1757 : BitVec 32 := 0#32
  ![v2641.toNat, 0]
def k0_cond242 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1159 : BitVec 32 := 1#32
  let v1789 : BitVec 1 := Scalar.cmpi .sge v8 c1_i32_1159
  let v1790 : BitVec 32 := Scalar.extui v1789
  let c0_i32_1160 : BitVec 32 := 0#32
  let v1791 : BitVec 1 := Scalar.cmpi .ne v1790 c0_i32_1160
  v1791

def k0_off274 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c0_i32_1747 : BitVec 32 := 0#32
  let v2637 : BitVec 32 := Scalar.subi v2636 c0_i32_1747
  let c4096_i32_1748 : BitVec 32 := 4096#32
  let v2638 : BitVec 32 := Scalar.muli v2637 c4096_i32_1748
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1749 : BitVec 32 := 1024#32
  let v2639 : BitVec 32 := Scalar.muli v30 c1024_i32_1749
  let v2640 : BitVec 32 := Scalar.addi v2638 v2639
  let c512_i32_1750 : BitVec 32 := 512#32
  let v2641 : BitVec 32 := Scalar.addi v2640 c512_i32_1750
  let c0_i32_1757 : BitVec 32 := 0#32
  ![v2641.toNat, 0]
def k0_cond243 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1161 : BitVec 32 := 1#32
  let v1792 : BitVec 32 := Scalar.addi v8 c1_i32_1161
  let c0_i32_1162 : BitVec 32 := 0#32
  let v1793 : BitVec 32 := Scalar.addi v1792 c0_i32_1162
  let c3_i32_1163 : BitVec 32 := 3#32
  let v1794 : BitVec 1 := Scalar.cmpi .sle v1793 c3_i32_1163
  let v1795 : BitVec 32 := Scalar.extui v1794
  let c0_i32_1164 : BitVec 32 := 0#32
  let v1796 : BitVec 1 := Scalar.cmpi .ne v1795 c0_i32_1164
  v1796

def k0_off275 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c0_i32_1747 : BitVec 32 := 0#32
  let v2637 : BitVec 32 := Scalar.addi v2636 c0_i32_1747
  let c4096_i32_1748 : BitVec 32 := 4096#32
  let v2638 : BitVec 32 := Scalar.muli v2637 c4096_i32_1748
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1749 : BitVec 32 := 1024#32
  let v2639 : BitVec 32 := Scalar.muli v30 c1024_i32_1749
  let v2640 : BitVec 32 := Scalar.addi v2638 v2639
  let c512_i32_1750 : BitVec 32 := 512#32
  let v2641 : BitVec 32 := Scalar.addi v2640 c512_i32_1750
  let c0_i32_1757 : BitVec 32 := 0#32
  ![v2641.toNat, 0]
def k0_cond244 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1165 : BitVec 32 := 1#32
  let v1797 : BitVec 1 := Scalar.cmpi .sge v8 c1_i32_1165
  let v1798 : BitVec 32 := Scalar.extui v1797
  let c0_i32_1166 : BitVec 32 := 0#32
  let v1799 : BitVec 1 := Scalar.cmpi .ne v1798 c0_i32_1166
  v1799

def k0_off276 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c0_i32_1747 : BitVec 32 := 0#32
  let v2637 : BitVec 32 := Scalar.subi v2636 c0_i32_1747
  let c4096_i32_1748 : BitVec 32 := 4096#32
  let v2638 : BitVec 32 := Scalar.muli v2637 c4096_i32_1748
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1749 : BitVec 32 := 1024#32
  let v2639 : BitVec 32 := Scalar.muli v30 c1024_i32_1749
  let v2640 : BitVec 32 := Scalar.addi v2638 v2639
  let c640_i32_1750 : BitVec 32 := 640#32
  let v2641 : BitVec 32 := Scalar.addi v2640 c640_i32_1750
  let c0_i32_1756 : BitVec 32 := 0#32
  ![v2641.toNat, 0]
def k0_cond245 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1167 : BitVec 32 := 1#32
  let v1800 : BitVec 32 := Scalar.addi v8 c1_i32_1167
  let c0_i32_1168 : BitVec 32 := 0#32
  let v1801 : BitVec 32 := Scalar.addi v1800 c0_i32_1168
  let c3_i32_1169 : BitVec 32 := 3#32
  let v1802 : BitVec 1 := Scalar.cmpi .sle v1801 c3_i32_1169
  let v1803 : BitVec 32 := Scalar.extui v1802
  let c0_i32_1170 : BitVec 32 := 0#32
  let v1804 : BitVec 1 := Scalar.cmpi .ne v1803 c0_i32_1170
  v1804

def k0_off277 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c0_i32_1747 : BitVec 32 := 0#32
  let v2637 : BitVec 32 := Scalar.addi v2636 c0_i32_1747
  let c4096_i32_1748 : BitVec 32 := 4096#32
  let v2638 : BitVec 32 := Scalar.muli v2637 c4096_i32_1748
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1749 : BitVec 32 := 1024#32
  let v2639 : BitVec 32 := Scalar.muli v30 c1024_i32_1749
  let v2640 : BitVec 32 := Scalar.addi v2638 v2639
  let c640_i32_1750 : BitVec 32 := 640#32
  let v2641 : BitVec 32 := Scalar.addi v2640 c640_i32_1750
  let c0_i32_1756 : BitVec 32 := 0#32
  ![v2641.toNat, 0]
def k0_cond246 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1171 : BitVec 32 := 1#32
  let v1805 : BitVec 1 := Scalar.cmpi .sge v8 c1_i32_1171
  let v1806 : BitVec 32 := Scalar.extui v1805
  let c0_i32_1172 : BitVec 32 := 0#32
  let v1807 : BitVec 1 := Scalar.cmpi .ne v1806 c0_i32_1172
  v1807

def k0_off278 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c0_i32_1747 : BitVec 32 := 0#32
  let v2637 : BitVec 32 := Scalar.subi v2636 c0_i32_1747
  let c4096_i32_1748 : BitVec 32 := 4096#32
  let v2638 : BitVec 32 := Scalar.muli v2637 c4096_i32_1748
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1749 : BitVec 32 := 1024#32
  let v2639 : BitVec 32 := Scalar.muli v30 c1024_i32_1749
  let v2640 : BitVec 32 := Scalar.addi v2638 v2639
  let c768_i32_1750 : BitVec 32 := 768#32
  let v2641 : BitVec 32 := Scalar.addi v2640 c768_i32_1750
  let c0_i32_1756 : BitVec 32 := 0#32
  ![v2641.toNat, 0]
def k0_cond247 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1173 : BitVec 32 := 1#32
  let v1808 : BitVec 32 := Scalar.addi v8 c1_i32_1173
  let c0_i32_1174 : BitVec 32 := 0#32
  let v1809 : BitVec 32 := Scalar.addi v1808 c0_i32_1174
  let c3_i32_1175 : BitVec 32 := 3#32
  let v1810 : BitVec 1 := Scalar.cmpi .sle v1809 c3_i32_1175
  let v1811 : BitVec 32 := Scalar.extui v1810
  let c0_i32_1176 : BitVec 32 := 0#32
  let v1812 : BitVec 1 := Scalar.cmpi .ne v1811 c0_i32_1176
  v1812

def k0_off279 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c0_i32_1747 : BitVec 32 := 0#32
  let v2637 : BitVec 32 := Scalar.addi v2636 c0_i32_1747
  let c4096_i32_1748 : BitVec 32 := 4096#32
  let v2638 : BitVec 32 := Scalar.muli v2637 c4096_i32_1748
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1749 : BitVec 32 := 1024#32
  let v2639 : BitVec 32 := Scalar.muli v30 c1024_i32_1749
  let v2640 : BitVec 32 := Scalar.addi v2638 v2639
  let c768_i32_1750 : BitVec 32 := 768#32
  let v2641 : BitVec 32 := Scalar.addi v2640 c768_i32_1750
  let c0_i32_1756 : BitVec 32 := 0#32
  ![v2641.toNat, 0]
def k0_cond248 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1177 : BitVec 32 := 1#32
  let v1813 : BitVec 1 := Scalar.cmpi .sge v8 c1_i32_1177
  let v1814 : BitVec 32 := Scalar.extui v1813
  let c0_i32_1178 : BitVec 32 := 0#32
  let v1815 : BitVec 1 := Scalar.cmpi .ne v1814 c0_i32_1178
  v1815

def k0_off280 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c0_i32_1747 : BitVec 32 := 0#32
  let v2637 : BitVec 32 := Scalar.subi v2636 c0_i32_1747
  let c4096_i32_1748 : BitVec 32 := 4096#32
  let v2638 : BitVec 32 := Scalar.muli v2637 c4096_i32_1748
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1749 : BitVec 32 := 1024#32
  let v2639 : BitVec 32 := Scalar.muli v30 c1024_i32_1749
  let v2640 : BitVec 32 := Scalar.addi v2638 v2639
  let c896_i32_1750 : BitVec 32 := 896#32
  let v2641 : BitVec 32 := Scalar.addi v2640 c896_i32_1750
  let c0_i32_1756 : BitVec 32 := 0#32
  ![v2641.toNat, 0]
def k0_off281 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1758 : BitVec 32 := 1#32
  let v2652 : BitVec 32 := Scalar.subi v8 c1_i32_1758
  let c0_i32_1759 : BitVec 32 := 0#32
  let v2653 : BitVec 32 := Scalar.subi v2652 c0_i32_1759
  let c4096_i32_1762 : BitVec 32 := 4096#32
  let v2657 : BitVec 32 := Scalar.muli v2653 c4096_i32_1762
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1763 : BitVec 32 := 1024#32
  let v2658 : BitVec 32 := Scalar.muli v30 c1024_i32_1763
  let v2659 : BitVec 32 := Scalar.addi v2657 v2658
  let c0_i32_1764 : BitVec 32 := 0#32
  ![v2659.toNat, 0]
def k0_cond249 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1179 : BitVec 32 := 1#32
  let v1816 : BitVec 32 := Scalar.addi v8 c1_i32_1179
  let c0_i32_1180 : BitVec 32 := 0#32
  let v1817 : BitVec 32 := Scalar.addi v1816 c0_i32_1180
  let c3_i32_1181 : BitVec 32 := 3#32
  let v1818 : BitVec 1 := Scalar.cmpi .sle v1817 c3_i32_1181
  let v1819 : BitVec 32 := Scalar.extui v1818
  let c0_i32_1182 : BitVec 32 := 0#32
  let v1820 : BitVec 1 := Scalar.cmpi .ne v1819 c0_i32_1182
  v1820

def k0_off282 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c0_i32_1747 : BitVec 32 := 0#32
  let v2637 : BitVec 32 := Scalar.addi v2636 c0_i32_1747
  let c4096_i32_1748 : BitVec 32 := 4096#32
  let v2638 : BitVec 32 := Scalar.muli v2637 c4096_i32_1748
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1749 : BitVec 32 := 1024#32
  let v2639 : BitVec 32 := Scalar.muli v30 c1024_i32_1749
  let v2640 : BitVec 32 := Scalar.addi v2638 v2639
  let c896_i32_1750 : BitVec 32 := 896#32
  let v2641 : BitVec 32 := Scalar.addi v2640 c896_i32_1750
  let c0_i32_1756 : BitVec 32 := 0#32
  ![v2641.toNat, 0]
def k0_off283 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1758 : BitVec 32 := 1#32
  let v2652 : BitVec 32 := Scalar.addi v8 c1_i32_1758
  let c0_i32_1759 : BitVec 32 := 0#32
  let v2653 : BitVec 32 := Scalar.addi v2652 c0_i32_1759
  let c4096_i32_1762 : BitVec 32 := 4096#32
  let v2657 : BitVec 32 := Scalar.muli v2653 c4096_i32_1762
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1763 : BitVec 32 := 1024#32
  let v2658 : BitVec 32 := Scalar.muli v30 c1024_i32_1763
  let v2659 : BitVec 32 := Scalar.addi v2657 v2658
  let c0_i32_1764 : BitVec 32 := 0#32
  ![v2659.toNat, 0]
def k0_cond250 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1183 : BitVec 32 := 2#32
  let v1821 : BitVec 1 := Scalar.cmpi .sge v8 c2_i32_1183
  let v1822 : BitVec 32 := Scalar.extui v1821
  let c0_i32_1184 : BitVec 32 := 0#32
  let v1823 : BitVec 1 := Scalar.cmpi .ne v1822 c0_i32_1184
  v1823

def k0_off284 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c1_i32_1747 : BitVec 32 := 1#32
  let v2637 : BitVec 32 := Scalar.subi v2636 c1_i32_1747
  let c4096_i32_1748 : BitVec 32 := 4096#32
  let v2638 : BitVec 32 := Scalar.muli v2637 c4096_i32_1748
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1749 : BitVec 32 := 1024#32
  let v2639 : BitVec 32 := Scalar.muli v30 c1024_i32_1749
  let v2640 : BitVec 32 := Scalar.addi v2638 v2639
  let c384_i32_1750 : BitVec 32 := 384#32
  let v2641 : BitVec 32 := Scalar.addi v2640 c384_i32_1750
  let c0_i32_1757 : BitVec 32 := 0#32
  ![v2641.toNat, 0]
def k0_cond251 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1185 : BitVec 32 := 1#32
  let v1824 : BitVec 32 := Scalar.addi v8 c1_i32_1185
  let c1_i32_1186 : BitVec 32 := 1#32
  let v1825 : BitVec 32 := Scalar.addi v1824 c1_i32_1186
  let c3_i32_1187 : BitVec 32 := 3#32
  let v1826 : BitVec 1 := Scalar.cmpi .sle v1825 c3_i32_1187
  let v1827 : BitVec 32 := Scalar.extui v1826
  let c0_i32_1188 : BitVec 32 := 0#32
  let v1828 : BitVec 1 := Scalar.cmpi .ne v1827 c0_i32_1188
  v1828

def k0_off285 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c1_i32_1747 : BitVec 32 := 1#32
  let v2637 : BitVec 32 := Scalar.addi v2636 c1_i32_1747
  let c4096_i32_1748 : BitVec 32 := 4096#32
  let v2638 : BitVec 32 := Scalar.muli v2637 c4096_i32_1748
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1749 : BitVec 32 := 1024#32
  let v2639 : BitVec 32 := Scalar.muli v30 c1024_i32_1749
  let v2640 : BitVec 32 := Scalar.addi v2638 v2639
  let c384_i32_1750 : BitVec 32 := 384#32
  let v2641 : BitVec 32 := Scalar.addi v2640 c384_i32_1750
  let c0_i32_1757 : BitVec 32 := 0#32
  ![v2641.toNat, 0]
def k0_cond252 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1189 : BitVec 32 := 2#32
  let v1829 : BitVec 1 := Scalar.cmpi .sge v8 c2_i32_1189
  let v1830 : BitVec 32 := Scalar.extui v1829
  let c0_i32_1190 : BitVec 32 := 0#32
  let v1831 : BitVec 1 := Scalar.cmpi .ne v1830 c0_i32_1190
  v1831

def k0_off286 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c1_i32_1747 : BitVec 32 := 1#32
  let v2637 : BitVec 32 := Scalar.subi v2636 c1_i32_1747
  let c4096_i32_1748 : BitVec 32 := 4096#32
  let v2638 : BitVec 32 := Scalar.muli v2637 c4096_i32_1748
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1749 : BitVec 32 := 1024#32
  let v2639 : BitVec 32 := Scalar.muli v30 c1024_i32_1749
  let v2640 : BitVec 32 := Scalar.addi v2638 v2639
  let c512_i32_1750 : BitVec 32 := 512#32
  let v2641 : BitVec 32 := Scalar.addi v2640 c512_i32_1750
  let c0_i32_1756 : BitVec 32 := 0#32
  ![v2641.toNat, 0]
def k0_cond253 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1191 : BitVec 32 := 1#32
  let v1832 : BitVec 32 := Scalar.addi v8 c1_i32_1191
  let c1_i32_1192 : BitVec 32 := 1#32
  let v1833 : BitVec 32 := Scalar.addi v1832 c1_i32_1192
  let c3_i32_1193 : BitVec 32 := 3#32
  let v1834 : BitVec 1 := Scalar.cmpi .sle v1833 c3_i32_1193
  let v1835 : BitVec 32 := Scalar.extui v1834
  let c0_i32_1194 : BitVec 32 := 0#32
  let v1836 : BitVec 1 := Scalar.cmpi .ne v1835 c0_i32_1194
  v1836

def k0_off287 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c1_i32_1747 : BitVec 32 := 1#32
  let v2637 : BitVec 32 := Scalar.addi v2636 c1_i32_1747
  let c4096_i32_1748 : BitVec 32 := 4096#32
  let v2638 : BitVec 32 := Scalar.muli v2637 c4096_i32_1748
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1749 : BitVec 32 := 1024#32
  let v2639 : BitVec 32 := Scalar.muli v30 c1024_i32_1749
  let v2640 : BitVec 32 := Scalar.addi v2638 v2639
  let c512_i32_1750 : BitVec 32 := 512#32
  let v2641 : BitVec 32 := Scalar.addi v2640 c512_i32_1750
  let c0_i32_1756 : BitVec 32 := 0#32
  ![v2641.toNat, 0]
def k0_cond254 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1195 : BitVec 32 := 2#32
  let v1837 : BitVec 1 := Scalar.cmpi .sge v8 c2_i32_1195
  let v1838 : BitVec 32 := Scalar.extui v1837
  let c0_i32_1196 : BitVec 32 := 0#32
  let v1839 : BitVec 1 := Scalar.cmpi .ne v1838 c0_i32_1196
  v1839

def k0_off288 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c1_i32_1747 : BitVec 32 := 1#32
  let v2637 : BitVec 32 := Scalar.subi v2636 c1_i32_1747
  let c4096_i32_1748 : BitVec 32 := 4096#32
  let v2638 : BitVec 32 := Scalar.muli v2637 c4096_i32_1748
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1749 : BitVec 32 := 1024#32
  let v2639 : BitVec 32 := Scalar.muli v30 c1024_i32_1749
  let v2640 : BitVec 32 := Scalar.addi v2638 v2639
  let c640_i32_1750 : BitVec 32 := 640#32
  let v2641 : BitVec 32 := Scalar.addi v2640 c640_i32_1750
  let c0_i32_1756 : BitVec 32 := 0#32
  ![v2641.toNat, 0]
def k0_cond255 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1197 : BitVec 32 := 1#32
  let v1840 : BitVec 32 := Scalar.addi v8 c1_i32_1197
  let c1_i32_1198 : BitVec 32 := 1#32
  let v1841 : BitVec 32 := Scalar.addi v1840 c1_i32_1198
  let c3_i32_1199 : BitVec 32 := 3#32
  let v1842 : BitVec 1 := Scalar.cmpi .sle v1841 c3_i32_1199
  let v1843 : BitVec 32 := Scalar.extui v1842
  let c0_i32_1200 : BitVec 32 := 0#32
  let v1844 : BitVec 1 := Scalar.cmpi .ne v1843 c0_i32_1200
  v1844

def k0_off289 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c1_i32_1747 : BitVec 32 := 1#32
  let v2637 : BitVec 32 := Scalar.addi v2636 c1_i32_1747
  let c4096_i32_1748 : BitVec 32 := 4096#32
  let v2638 : BitVec 32 := Scalar.muli v2637 c4096_i32_1748
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1749 : BitVec 32 := 1024#32
  let v2639 : BitVec 32 := Scalar.muli v30 c1024_i32_1749
  let v2640 : BitVec 32 := Scalar.addi v2638 v2639
  let c640_i32_1750 : BitVec 32 := 640#32
  let v2641 : BitVec 32 := Scalar.addi v2640 c640_i32_1750
  let c0_i32_1756 : BitVec 32 := 0#32
  ![v2641.toNat, 0]
def k0_cond256 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1201 : BitVec 32 := 2#32
  let v1845 : BitVec 1 := Scalar.cmpi .sge v8 c2_i32_1201
  let v1846 : BitVec 32 := Scalar.extui v1845
  let c0_i32_1202 : BitVec 32 := 0#32
  let v1847 : BitVec 1 := Scalar.cmpi .ne v1846 c0_i32_1202
  v1847

def k0_off290 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c1_i32_1747 : BitVec 32 := 1#32
  let v2637 : BitVec 32 := Scalar.subi v2636 c1_i32_1747
  let c4096_i32_1748 : BitVec 32 := 4096#32
  let v2638 : BitVec 32 := Scalar.muli v2637 c4096_i32_1748
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1749 : BitVec 32 := 1024#32
  let v2639 : BitVec 32 := Scalar.muli v30 c1024_i32_1749
  let v2640 : BitVec 32 := Scalar.addi v2638 v2639
  let c768_i32_1750 : BitVec 32 := 768#32
  let v2641 : BitVec 32 := Scalar.addi v2640 c768_i32_1750
  let c0_i32_1756 : BitVec 32 := 0#32
  ![v2641.toNat, 0]
def k0_cond257 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1203 : BitVec 32 := 1#32
  let v1848 : BitVec 32 := Scalar.addi v8 c1_i32_1203
  let c1_i32_1204 : BitVec 32 := 1#32
  let v1849 : BitVec 32 := Scalar.addi v1848 c1_i32_1204
  let c3_i32_1205 : BitVec 32 := 3#32
  let v1850 : BitVec 1 := Scalar.cmpi .sle v1849 c3_i32_1205
  let v1851 : BitVec 32 := Scalar.extui v1850
  let c0_i32_1206 : BitVec 32 := 0#32
  let v1852 : BitVec 1 := Scalar.cmpi .ne v1851 c0_i32_1206
  v1852

def k0_off291 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c1_i32_1747 : BitVec 32 := 1#32
  let v2637 : BitVec 32 := Scalar.addi v2636 c1_i32_1747
  let c4096_i32_1748 : BitVec 32 := 4096#32
  let v2638 : BitVec 32 := Scalar.muli v2637 c4096_i32_1748
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1749 : BitVec 32 := 1024#32
  let v2639 : BitVec 32 := Scalar.muli v30 c1024_i32_1749
  let v2640 : BitVec 32 := Scalar.addi v2638 v2639
  let c768_i32_1750 : BitVec 32 := 768#32
  let v2641 : BitVec 32 := Scalar.addi v2640 c768_i32_1750
  let c0_i32_1756 : BitVec 32 := 0#32
  ![v2641.toNat, 0]
def k0_cond258 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1207 : BitVec 32 := 2#32
  let v1853 : BitVec 1 := Scalar.cmpi .sge v8 c2_i32_1207
  let v1854 : BitVec 32 := Scalar.extui v1853
  let c0_i32_1208 : BitVec 32 := 0#32
  let v1855 : BitVec 1 := Scalar.cmpi .ne v1854 c0_i32_1208
  v1855

def k0_off292 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c1_i32_1747 : BitVec 32 := 1#32
  let v2637 : BitVec 32 := Scalar.subi v2636 c1_i32_1747
  let c4096_i32_1748 : BitVec 32 := 4096#32
  let v2638 : BitVec 32 := Scalar.muli v2637 c4096_i32_1748
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1749 : BitVec 32 := 1024#32
  let v2639 : BitVec 32 := Scalar.muli v30 c1024_i32_1749
  let v2640 : BitVec 32 := Scalar.addi v2638 v2639
  let c896_i32_1750 : BitVec 32 := 896#32
  let v2641 : BitVec 32 := Scalar.addi v2640 c896_i32_1750
  let c0_i32_1756 : BitVec 32 := 0#32
  ![v2641.toNat, 0]
def k0_off293 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1758 : BitVec 32 := 1#32
  let v2652 : BitVec 32 := Scalar.subi v8 c1_i32_1758
  let c1_i32_1759 : BitVec 32 := 1#32
  let v2653 : BitVec 32 := Scalar.subi v2652 c1_i32_1759
  let c4096_i32_1762 : BitVec 32 := 4096#32
  let v2657 : BitVec 32 := Scalar.muli v2653 c4096_i32_1762
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1763 : BitVec 32 := 1024#32
  let v2658 : BitVec 32 := Scalar.muli v30 c1024_i32_1763
  let v2659 : BitVec 32 := Scalar.addi v2657 v2658
  let c0_i32_1764 : BitVec 32 := 0#32
  ![v2659.toNat, 0]
def k0_cond259 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1209 : BitVec 32 := 1#32
  let v1856 : BitVec 32 := Scalar.addi v8 c1_i32_1209
  let c1_i32_1210 : BitVec 32 := 1#32
  let v1857 : BitVec 32 := Scalar.addi v1856 c1_i32_1210
  let c3_i32_1211 : BitVec 32 := 3#32
  let v1858 : BitVec 1 := Scalar.cmpi .sle v1857 c3_i32_1211
  let v1859 : BitVec 32 := Scalar.extui v1858
  let c0_i32_1212 : BitVec 32 := 0#32
  let v1860 : BitVec 1 := Scalar.cmpi .ne v1859 c0_i32_1212
  v1860

def k0_off294 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c1_i32_1747 : BitVec 32 := 1#32
  let v2637 : BitVec 32 := Scalar.addi v2636 c1_i32_1747
  let c4096_i32_1748 : BitVec 32 := 4096#32
  let v2638 : BitVec 32 := Scalar.muli v2637 c4096_i32_1748
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1749 : BitVec 32 := 1024#32
  let v2639 : BitVec 32 := Scalar.muli v30 c1024_i32_1749
  let v2640 : BitVec 32 := Scalar.addi v2638 v2639
  let c896_i32_1750 : BitVec 32 := 896#32
  let v2641 : BitVec 32 := Scalar.addi v2640 c896_i32_1750
  let c0_i32_1756 : BitVec 32 := 0#32
  ![v2641.toNat, 0]
def k0_off295 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1758 : BitVec 32 := 1#32
  let v2652 : BitVec 32 := Scalar.addi v8 c1_i32_1758
  let c1_i32_1759 : BitVec 32 := 1#32
  let v2653 : BitVec 32 := Scalar.addi v2652 c1_i32_1759
  let c4096_i32_1762 : BitVec 32 := 4096#32
  let v2657 : BitVec 32 := Scalar.muli v2653 c4096_i32_1762
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1763 : BitVec 32 := 1024#32
  let v2658 : BitVec 32 := Scalar.muli v30 c1024_i32_1763
  let v2659 : BitVec 32 := Scalar.addi v2657 v2658
  let c0_i32_1764 : BitVec 32 := 0#32
  ![v2659.toNat, 0]
def k0_cond260 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1213 : BitVec 32 := 3#32
  let v1861 : BitVec 1 := Scalar.cmpi .sge v8 c3_i32_1213
  let v1862 : BitVec 32 := Scalar.extui v1861
  let c0_i32_1214 : BitVec 32 := 0#32
  let v1863 : BitVec 1 := Scalar.cmpi .ne v1862 c0_i32_1214
  v1863

def k0_off296 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c2_i32_1747 : BitVec 32 := 2#32
  let v2637 : BitVec 32 := Scalar.subi v2636 c2_i32_1747
  let c4096_i32_1748 : BitVec 32 := 4096#32
  let v2638 : BitVec 32 := Scalar.muli v2637 c4096_i32_1748
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1749 : BitVec 32 := 1024#32
  let v2639 : BitVec 32 := Scalar.muli v30 c1024_i32_1749
  let v2640 : BitVec 32 := Scalar.addi v2638 v2639
  let c384_i32_1750 : BitVec 32 := 384#32
  let v2641 : BitVec 32 := Scalar.addi v2640 c384_i32_1750
  let c0_i32_1756 : BitVec 32 := 0#32
  ![v2641.toNat, 0]
def k0_cond261 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1215 : BitVec 32 := 1#32
  let v1864 : BitVec 32 := Scalar.addi v8 c1_i32_1215
  let c2_i32_1216 : BitVec 32 := 2#32
  let v1865 : BitVec 32 := Scalar.addi v1864 c2_i32_1216
  let c3_i32_1217 : BitVec 32 := 3#32
  let v1866 : BitVec 1 := Scalar.cmpi .sle v1865 c3_i32_1217
  let v1867 : BitVec 32 := Scalar.extui v1866
  let c0_i32_1218 : BitVec 32 := 0#32
  let v1868 : BitVec 1 := Scalar.cmpi .ne v1867 c0_i32_1218
  v1868

def k0_off297 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c2_i32_1747 : BitVec 32 := 2#32
  let v2637 : BitVec 32 := Scalar.addi v2636 c2_i32_1747
  let c4096_i32_1748 : BitVec 32 := 4096#32
  let v2638 : BitVec 32 := Scalar.muli v2637 c4096_i32_1748
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1749 : BitVec 32 := 1024#32
  let v2639 : BitVec 32 := Scalar.muli v30 c1024_i32_1749
  let v2640 : BitVec 32 := Scalar.addi v2638 v2639
  let c384_i32_1750 : BitVec 32 := 384#32
  let v2641 : BitVec 32 := Scalar.addi v2640 c384_i32_1750
  let c0_i32_1756 : BitVec 32 := 0#32
  ![v2641.toNat, 0]
def k0_cond262 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1219 : BitVec 32 := 3#32
  let v1869 : BitVec 1 := Scalar.cmpi .sge v8 c3_i32_1219
  let v1870 : BitVec 32 := Scalar.extui v1869
  let c0_i32_1220 : BitVec 32 := 0#32
  let v1871 : BitVec 1 := Scalar.cmpi .ne v1870 c0_i32_1220
  v1871

def k0_off298 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c2_i32_1747 : BitVec 32 := 2#32
  let v2637 : BitVec 32 := Scalar.subi v2636 c2_i32_1747
  let c4096_i32_1748 : BitVec 32 := 4096#32
  let v2638 : BitVec 32 := Scalar.muli v2637 c4096_i32_1748
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1749 : BitVec 32 := 1024#32
  let v2639 : BitVec 32 := Scalar.muli v30 c1024_i32_1749
  let v2640 : BitVec 32 := Scalar.addi v2638 v2639
  let c512_i32_1750 : BitVec 32 := 512#32
  let v2641 : BitVec 32 := Scalar.addi v2640 c512_i32_1750
  let c0_i32_1756 : BitVec 32 := 0#32
  ![v2641.toNat, 0]
def k0_cond263 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1221 : BitVec 32 := 1#32
  let v1872 : BitVec 32 := Scalar.addi v8 c1_i32_1221
  let c2_i32_1222 : BitVec 32 := 2#32
  let v1873 : BitVec 32 := Scalar.addi v1872 c2_i32_1222
  let c3_i32_1223 : BitVec 32 := 3#32
  let v1874 : BitVec 1 := Scalar.cmpi .sle v1873 c3_i32_1223
  let v1875 : BitVec 32 := Scalar.extui v1874
  let c0_i32_1224 : BitVec 32 := 0#32
  let v1876 : BitVec 1 := Scalar.cmpi .ne v1875 c0_i32_1224
  v1876

def k0_off299 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c2_i32_1747 : BitVec 32 := 2#32
  let v2637 : BitVec 32 := Scalar.addi v2636 c2_i32_1747
  let c4096_i32_1748 : BitVec 32 := 4096#32
  let v2638 : BitVec 32 := Scalar.muli v2637 c4096_i32_1748
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1749 : BitVec 32 := 1024#32
  let v2639 : BitVec 32 := Scalar.muli v30 c1024_i32_1749
  let v2640 : BitVec 32 := Scalar.addi v2638 v2639
  let c512_i32_1750 : BitVec 32 := 512#32
  let v2641 : BitVec 32 := Scalar.addi v2640 c512_i32_1750
  let c0_i32_1756 : BitVec 32 := 0#32
  ![v2641.toNat, 0]
def k0_cond264 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1225 : BitVec 32 := 3#32
  let v1877 : BitVec 1 := Scalar.cmpi .sge v8 c3_i32_1225
  let v1878 : BitVec 32 := Scalar.extui v1877
  let c0_i32_1226 : BitVec 32 := 0#32
  let v1879 : BitVec 1 := Scalar.cmpi .ne v1878 c0_i32_1226
  v1879

def k0_off300 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c2_i32_1747 : BitVec 32 := 2#32
  let v2637 : BitVec 32 := Scalar.subi v2636 c2_i32_1747
  let c4096_i32_1748 : BitVec 32 := 4096#32
  let v2638 : BitVec 32 := Scalar.muli v2637 c4096_i32_1748
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1749 : BitVec 32 := 1024#32
  let v2639 : BitVec 32 := Scalar.muli v30 c1024_i32_1749
  let v2640 : BitVec 32 := Scalar.addi v2638 v2639
  let c640_i32_1750 : BitVec 32 := 640#32
  let v2641 : BitVec 32 := Scalar.addi v2640 c640_i32_1750
  let c0_i32_1756 : BitVec 32 := 0#32
  ![v2641.toNat, 0]
def k0_cond265 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1227 : BitVec 32 := 1#32
  let v1880 : BitVec 32 := Scalar.addi v8 c1_i32_1227
  let c2_i32_1228 : BitVec 32 := 2#32
  let v1881 : BitVec 32 := Scalar.addi v1880 c2_i32_1228
  let c3_i32_1229 : BitVec 32 := 3#32
  let v1882 : BitVec 1 := Scalar.cmpi .sle v1881 c3_i32_1229
  let v1883 : BitVec 32 := Scalar.extui v1882
  let c0_i32_1230 : BitVec 32 := 0#32
  let v1884 : BitVec 1 := Scalar.cmpi .ne v1883 c0_i32_1230
  v1884

def k0_off301 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c2_i32_1747 : BitVec 32 := 2#32
  let v2637 : BitVec 32 := Scalar.addi v2636 c2_i32_1747
  let c4096_i32_1748 : BitVec 32 := 4096#32
  let v2638 : BitVec 32 := Scalar.muli v2637 c4096_i32_1748
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1749 : BitVec 32 := 1024#32
  let v2639 : BitVec 32 := Scalar.muli v30 c1024_i32_1749
  let v2640 : BitVec 32 := Scalar.addi v2638 v2639
  let c640_i32_1750 : BitVec 32 := 640#32
  let v2641 : BitVec 32 := Scalar.addi v2640 c640_i32_1750
  let c0_i32_1756 : BitVec 32 := 0#32
  ![v2641.toNat, 0]
def k0_cond266 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1231 : BitVec 32 := 3#32
  let v1885 : BitVec 1 := Scalar.cmpi .sge v8 c3_i32_1231
  let v1886 : BitVec 32 := Scalar.extui v1885
  let c0_i32_1232 : BitVec 32 := 0#32
  let v1887 : BitVec 1 := Scalar.cmpi .ne v1886 c0_i32_1232
  v1887

def k0_off302 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c2_i32_1747 : BitVec 32 := 2#32
  let v2637 : BitVec 32 := Scalar.subi v2636 c2_i32_1747
  let c4096_i32_1748 : BitVec 32 := 4096#32
  let v2638 : BitVec 32 := Scalar.muli v2637 c4096_i32_1748
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1749 : BitVec 32 := 1024#32
  let v2639 : BitVec 32 := Scalar.muli v30 c1024_i32_1749
  let v2640 : BitVec 32 := Scalar.addi v2638 v2639
  let c768_i32_1750 : BitVec 32 := 768#32
  let v2641 : BitVec 32 := Scalar.addi v2640 c768_i32_1750
  let c0_i32_1756 : BitVec 32 := 0#32
  ![v2641.toNat, 0]
def k0_cond267 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1233 : BitVec 32 := 1#32
  let v1888 : BitVec 32 := Scalar.addi v8 c1_i32_1233
  let c2_i32_1234 : BitVec 32 := 2#32
  let v1889 : BitVec 32 := Scalar.addi v1888 c2_i32_1234
  let c3_i32_1235 : BitVec 32 := 3#32
  let v1890 : BitVec 1 := Scalar.cmpi .sle v1889 c3_i32_1235
  let v1891 : BitVec 32 := Scalar.extui v1890
  let c0_i32_1236 : BitVec 32 := 0#32
  let v1892 : BitVec 1 := Scalar.cmpi .ne v1891 c0_i32_1236
  v1892

def k0_off303 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c2_i32_1747 : BitVec 32 := 2#32
  let v2637 : BitVec 32 := Scalar.addi v2636 c2_i32_1747
  let c4096_i32_1748 : BitVec 32 := 4096#32
  let v2638 : BitVec 32 := Scalar.muli v2637 c4096_i32_1748
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1749 : BitVec 32 := 1024#32
  let v2639 : BitVec 32 := Scalar.muli v30 c1024_i32_1749
  let v2640 : BitVec 32 := Scalar.addi v2638 v2639
  let c768_i32_1750 : BitVec 32 := 768#32
  let v2641 : BitVec 32 := Scalar.addi v2640 c768_i32_1750
  let c0_i32_1756 : BitVec 32 := 0#32
  ![v2641.toNat, 0]
def k0_cond268 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1237 : BitVec 32 := 3#32
  let v1893 : BitVec 1 := Scalar.cmpi .sge v8 c3_i32_1237
  let v1894 : BitVec 32 := Scalar.extui v1893
  let c0_i32_1238 : BitVec 32 := 0#32
  let v1895 : BitVec 1 := Scalar.cmpi .ne v1894 c0_i32_1238
  v1895

def k0_off304 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c2_i32_1747 : BitVec 32 := 2#32
  let v2637 : BitVec 32 := Scalar.subi v2636 c2_i32_1747
  let c4096_i32_1748 : BitVec 32 := 4096#32
  let v2638 : BitVec 32 := Scalar.muli v2637 c4096_i32_1748
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1749 : BitVec 32 := 1024#32
  let v2639 : BitVec 32 := Scalar.muli v30 c1024_i32_1749
  let v2640 : BitVec 32 := Scalar.addi v2638 v2639
  let c896_i32_1750 : BitVec 32 := 896#32
  let v2641 : BitVec 32 := Scalar.addi v2640 c896_i32_1750
  let c0_i32_1756 : BitVec 32 := 0#32
  ![v2641.toNat, 0]
def k0_off305 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1758 : BitVec 32 := 1#32
  let v2652 : BitVec 32 := Scalar.subi v8 c1_i32_1758
  let c2_i32_1759 : BitVec 32 := 2#32
  let v2653 : BitVec 32 := Scalar.subi v2652 c2_i32_1759
  let c4096_i32_1762 : BitVec 32 := 4096#32
  let v2657 : BitVec 32 := Scalar.muli v2653 c4096_i32_1762
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1763 : BitVec 32 := 1024#32
  let v2658 : BitVec 32 := Scalar.muli v30 c1024_i32_1763
  let v2659 : BitVec 32 := Scalar.addi v2657 v2658
  let c0_i32_1764 : BitVec 32 := 0#32
  ![v2659.toNat, 0]
def k0_cond269 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1239 : BitVec 32 := 1#32
  let v1896 : BitVec 32 := Scalar.addi v8 c1_i32_1239
  let c2_i32_1240 : BitVec 32 := 2#32
  let v1897 : BitVec 32 := Scalar.addi v1896 c2_i32_1240
  let c3_i32_1241 : BitVec 32 := 3#32
  let v1898 : BitVec 1 := Scalar.cmpi .sle v1897 c3_i32_1241
  let v1899 : BitVec 32 := Scalar.extui v1898
  let c0_i32_1242 : BitVec 32 := 0#32
  let v1900 : BitVec 1 := Scalar.cmpi .ne v1899 c0_i32_1242
  v1900

def k0_off306 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c2_i32_1747 : BitVec 32 := 2#32
  let v2637 : BitVec 32 := Scalar.addi v2636 c2_i32_1747
  let c4096_i32_1748 : BitVec 32 := 4096#32
  let v2638 : BitVec 32 := Scalar.muli v2637 c4096_i32_1748
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1749 : BitVec 32 := 1024#32
  let v2639 : BitVec 32 := Scalar.muli v30 c1024_i32_1749
  let v2640 : BitVec 32 := Scalar.addi v2638 v2639
  let c896_i32_1750 : BitVec 32 := 896#32
  let v2641 : BitVec 32 := Scalar.addi v2640 c896_i32_1750
  let c0_i32_1756 : BitVec 32 := 0#32
  ![v2641.toNat, 0]
def k0_off307 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1758 : BitVec 32 := 1#32
  let v2652 : BitVec 32 := Scalar.addi v8 c1_i32_1758
  let c2_i32_1759 : BitVec 32 := 2#32
  let v2653 : BitVec 32 := Scalar.addi v2652 c2_i32_1759
  let c4096_i32_1762 : BitVec 32 := 4096#32
  let v2657 : BitVec 32 := Scalar.muli v2653 c4096_i32_1762
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1763 : BitVec 32 := 1024#32
  let v2658 : BitVec 32 := Scalar.muli v30 c1024_i32_1763
  let v2659 : BitVec 32 := Scalar.addi v2657 v2658
  let c0_i32_1764 : BitVec 32 := 0#32
  ![v2659.toNat, 0]
def k0_cond270 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1271 : BitVec 32 := 1#32
  let v1943 : BitVec 1 := Scalar.cmpi .sge v8 c1_i32_1271
  let v1944 : BitVec 32 := Scalar.extui v1943
  let c0_i32_1272 : BitVec 32 := 0#32
  let v1945 : BitVec 1 := Scalar.cmpi .ne v1944 c0_i32_1272
  v1945

def k0_off308 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c0_i32_1747 : BitVec 32 := 0#32
  let v2637 : BitVec 32 := Scalar.subi v2636 c0_i32_1747
  let c4096_i32_1750 : BitVec 32 := 4096#32
  let v2641 : BitVec 32 := Scalar.muli v2637 c4096_i32_1750
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1751 : BitVec 32 := 1024#32
  let v2642 : BitVec 32 := Scalar.muli v23 c1024_i32_1751
  let v2643 : BitVec 32 := Scalar.addi v2641 v2642
  let c0_i32_1753 : BitVec 32 := 0#32
  ![v2643.toNat, 0]
def k0_cond271 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1273 : BitVec 32 := 1#32
  let v1946 : BitVec 32 := Scalar.addi v8 c1_i32_1273
  let c0_i32_1274 : BitVec 32 := 0#32
  let v1947 : BitVec 32 := Scalar.addi v1946 c0_i32_1274
  let c3_i32_1275 : BitVec 32 := 3#32
  let v1948 : BitVec 1 := Scalar.cmpi .sle v1947 c3_i32_1275
  let v1949 : BitVec 32 := Scalar.extui v1948
  let c0_i32_1276 : BitVec 32 := 0#32
  let v1950 : BitVec 1 := Scalar.cmpi .ne v1949 c0_i32_1276
  v1950

def k0_off309 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c0_i32_1747 : BitVec 32 := 0#32
  let v2637 : BitVec 32 := Scalar.addi v2636 c0_i32_1747
  let c4096_i32_1750 : BitVec 32 := 4096#32
  let v2641 : BitVec 32 := Scalar.muli v2637 c4096_i32_1750
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1751 : BitVec 32 := 1024#32
  let v2642 : BitVec 32 := Scalar.muli v23 c1024_i32_1751
  let v2643 : BitVec 32 := Scalar.addi v2641 v2642
  let c0_i32_1753 : BitVec 32 := 0#32
  ![v2643.toNat, 0]
def k0_cond272 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1291 : BitVec 32 := 2#32
  let v1972 : BitVec 1 := Scalar.cmpi .sge v8 c2_i32_1291
  let v1973 : BitVec 32 := Scalar.extui v1972
  let c0_i32_1292 : BitVec 32 := 0#32
  let v1974 : BitVec 1 := Scalar.cmpi .ne v1973 c0_i32_1292
  v1974

def k0_off310 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c1_i32_1747 : BitVec 32 := 1#32
  let v2637 : BitVec 32 := Scalar.subi v2636 c1_i32_1747
  let c4096_i32_1750 : BitVec 32 := 4096#32
  let v2641 : BitVec 32 := Scalar.muli v2637 c4096_i32_1750
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1751 : BitVec 32 := 1024#32
  let v2642 : BitVec 32 := Scalar.muli v23 c1024_i32_1751
  let v2643 : BitVec 32 := Scalar.addi v2641 v2642
  let c0_i32_1752 : BitVec 32 := 0#32
  ![v2643.toNat, 0]
def k0_cond273 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1293 : BitVec 32 := 1#32
  let v1975 : BitVec 32 := Scalar.addi v8 c1_i32_1293
  let c1_i32_1294 : BitVec 32 := 1#32
  let v1976 : BitVec 32 := Scalar.addi v1975 c1_i32_1294
  let c3_i32_1295 : BitVec 32 := 3#32
  let v1977 : BitVec 1 := Scalar.cmpi .sle v1976 c3_i32_1295
  let v1978 : BitVec 32 := Scalar.extui v1977
  let c0_i32_1296 : BitVec 32 := 0#32
  let v1979 : BitVec 1 := Scalar.cmpi .ne v1978 c0_i32_1296
  v1979

def k0_off311 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c1_i32_1747 : BitVec 32 := 1#32
  let v2637 : BitVec 32 := Scalar.addi v2636 c1_i32_1747
  let c4096_i32_1750 : BitVec 32 := 4096#32
  let v2641 : BitVec 32 := Scalar.muli v2637 c4096_i32_1750
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1751 : BitVec 32 := 1024#32
  let v2642 : BitVec 32 := Scalar.muli v23 c1024_i32_1751
  let v2643 : BitVec 32 := Scalar.addi v2641 v2642
  let c0_i32_1752 : BitVec 32 := 0#32
  ![v2643.toNat, 0]
def k0_cond274 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1297 : BitVec 32 := 1#32
  let v1980 : BitVec 1 := Scalar.cmpi .sge v8 c1_i32_1297
  let v1981 : BitVec 32 := Scalar.extui v1980
  let c0_i32_1298 : BitVec 32 := 0#32
  let v1982 : BitVec 1 := Scalar.cmpi .ne v1981 c0_i32_1298
  v1982

def k0_off312 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c0_i32_1747 : BitVec 32 := 0#32
  let v2637 : BitVec 32 := Scalar.subi v2636 c0_i32_1747
  let c4096_i32_1750 : BitVec 32 := 4096#32
  let v2641 : BitVec 32 := Scalar.muli v2637 c4096_i32_1750
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1751 : BitVec 32 := 1024#32
  let v2642 : BitVec 32 := Scalar.muli v26 c1024_i32_1751
  let v2643 : BitVec 32 := Scalar.addi v2641 v2642
  let c0_i32_1752 : BitVec 32 := 0#32
  ![v2643.toNat, 0]
def k0_cond275 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1299 : BitVec 32 := 1#32
  let v1983 : BitVec 1 := Scalar.cmpi .sge v8 c1_i32_1299
  let v1984 : BitVec 32 := Scalar.extui v1983
  let c0_i32_1300 : BitVec 32 := 0#32
  let v1985 : BitVec 1 := Scalar.cmpi .ne v1984 c0_i32_1300
  v1985

def k0_off313 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c0_i32_1747 : BitVec 32 := 0#32
  let v2637 : BitVec 32 := Scalar.subi v2636 c0_i32_1747
  let c4096_i32_1750 : BitVec 32 := 4096#32
  let v2641 : BitVec 32 := Scalar.muli v2637 c4096_i32_1750
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1751 : BitVec 32 := 1024#32
  let v2642 : BitVec 32 := Scalar.muli v29 c1024_i32_1751
  let v2643 : BitVec 32 := Scalar.addi v2641 v2642
  let c0_i32_1752 : BitVec 32 := 0#32
  ![v2643.toNat, 0]
def k0_cond276 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1301 : BitVec 32 := 1#32
  let v1986 : BitVec 32 := Scalar.addi v8 c1_i32_1301
  let c0_i32_1302 : BitVec 32 := 0#32
  let v1987 : BitVec 32 := Scalar.addi v1986 c0_i32_1302
  let c3_i32_1303 : BitVec 32 := 3#32
  let v1988 : BitVec 1 := Scalar.cmpi .sle v1987 c3_i32_1303
  let v1989 : BitVec 32 := Scalar.extui v1988
  let c0_i32_1304 : BitVec 32 := 0#32
  let v1990 : BitVec 1 := Scalar.cmpi .ne v1989 c0_i32_1304
  v1990

def k0_off314 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c0_i32_1747 : BitVec 32 := 0#32
  let v2637 : BitVec 32 := Scalar.addi v2636 c0_i32_1747
  let c4096_i32_1750 : BitVec 32 := 4096#32
  let v2641 : BitVec 32 := Scalar.muli v2637 c4096_i32_1750
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1751 : BitVec 32 := 1024#32
  let v2642 : BitVec 32 := Scalar.muli v26 c1024_i32_1751
  let v2643 : BitVec 32 := Scalar.addi v2641 v2642
  let c0_i32_1752 : BitVec 32 := 0#32
  ![v2643.toNat, 0]
def k0_cond277 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1305 : BitVec 32 := 1#32
  let v1991 : BitVec 32 := Scalar.addi v8 c1_i32_1305
  let c0_i32_1306 : BitVec 32 := 0#32
  let v1992 : BitVec 32 := Scalar.addi v1991 c0_i32_1306
  let c3_i32_1307 : BitVec 32 := 3#32
  let v1993 : BitVec 1 := Scalar.cmpi .sle v1992 c3_i32_1307
  let v1994 : BitVec 32 := Scalar.extui v1993
  let c0_i32_1308 : BitVec 32 := 0#32
  let v1995 : BitVec 1 := Scalar.cmpi .ne v1994 c0_i32_1308
  v1995

def k0_off315 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c0_i32_1747 : BitVec 32 := 0#32
  let v2637 : BitVec 32 := Scalar.addi v2636 c0_i32_1747
  let c4096_i32_1750 : BitVec 32 := 4096#32
  let v2641 : BitVec 32 := Scalar.muli v2637 c4096_i32_1750
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1751 : BitVec 32 := 1024#32
  let v2642 : BitVec 32 := Scalar.muli v29 c1024_i32_1751
  let v2643 : BitVec 32 := Scalar.addi v2641 v2642
  let c0_i32_1752 : BitVec 32 := 0#32
  ![v2643.toNat, 0]
def k0_cond278 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1323 : BitVec 32 := 3#32
  let v2017 : BitVec 1 := Scalar.cmpi .sge v8 c3_i32_1323
  let v2018 : BitVec 32 := Scalar.extui v2017
  let c0_i32_1324 : BitVec 32 := 0#32
  let v2019 : BitVec 1 := Scalar.cmpi .ne v2018 c0_i32_1324
  v2019

def k0_off316 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c2_i32_1747 : BitVec 32 := 2#32
  let v2637 : BitVec 32 := Scalar.subi v2636 c2_i32_1747
  let c4096_i32_1750 : BitVec 32 := 4096#32
  let v2641 : BitVec 32 := Scalar.muli v2637 c4096_i32_1750
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1751 : BitVec 32 := 1024#32
  let v2642 : BitVec 32 := Scalar.muli v23 c1024_i32_1751
  let v2643 : BitVec 32 := Scalar.addi v2641 v2642
  let c0_i32_1752 : BitVec 32 := 0#32
  ![v2643.toNat, 0]
def k0_cond279 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1325 : BitVec 32 := 1#32
  let v2020 : BitVec 32 := Scalar.addi v8 c1_i32_1325
  let c2_i32_1326 : BitVec 32 := 2#32
  let v2021 : BitVec 32 := Scalar.addi v2020 c2_i32_1326
  let c3_i32_1327 : BitVec 32 := 3#32
  let v2022 : BitVec 1 := Scalar.cmpi .sle v2021 c3_i32_1327
  let v2023 : BitVec 32 := Scalar.extui v2022
  let c0_i32_1328 : BitVec 32 := 0#32
  let v2024 : BitVec 1 := Scalar.cmpi .ne v2023 c0_i32_1328
  v2024

def k0_off317 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c2_i32_1747 : BitVec 32 := 2#32
  let v2637 : BitVec 32 := Scalar.addi v2636 c2_i32_1747
  let c4096_i32_1750 : BitVec 32 := 4096#32
  let v2641 : BitVec 32 := Scalar.muli v2637 c4096_i32_1750
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1751 : BitVec 32 := 1024#32
  let v2642 : BitVec 32 := Scalar.muli v23 c1024_i32_1751
  let v2643 : BitVec 32 := Scalar.addi v2641 v2642
  let c0_i32_1752 : BitVec 32 := 0#32
  ![v2643.toNat, 0]
def k0_cond280 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1329 : BitVec 32 := 2#32
  let v2025 : BitVec 1 := Scalar.cmpi .sge v8 c2_i32_1329
  let v2026 : BitVec 32 := Scalar.extui v2025
  let c0_i32_1330 : BitVec 32 := 0#32
  let v2027 : BitVec 1 := Scalar.cmpi .ne v2026 c0_i32_1330
  v2027

def k0_off318 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c1_i32_1747 : BitVec 32 := 1#32
  let v2637 : BitVec 32 := Scalar.subi v2636 c1_i32_1747
  let c4096_i32_1750 : BitVec 32 := 4096#32
  let v2641 : BitVec 32 := Scalar.muli v2637 c4096_i32_1750
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1751 : BitVec 32 := 1024#32
  let v2642 : BitVec 32 := Scalar.muli v26 c1024_i32_1751
  let v2643 : BitVec 32 := Scalar.addi v2641 v2642
  let c0_i32_1752 : BitVec 32 := 0#32
  ![v2643.toNat, 0]
def k0_cond281 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1331 : BitVec 32 := 2#32
  let v2028 : BitVec 1 := Scalar.cmpi .sge v8 c2_i32_1331
  let v2029 : BitVec 32 := Scalar.extui v2028
  let c0_i32_1332 : BitVec 32 := 0#32
  let v2030 : BitVec 1 := Scalar.cmpi .ne v2029 c0_i32_1332
  v2030

def k0_off319 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c1_i32_1747 : BitVec 32 := 1#32
  let v2637 : BitVec 32 := Scalar.subi v2636 c1_i32_1747
  let c4096_i32_1750 : BitVec 32 := 4096#32
  let v2641 : BitVec 32 := Scalar.muli v2637 c4096_i32_1750
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1751 : BitVec 32 := 1024#32
  let v2642 : BitVec 32 := Scalar.muli v29 c1024_i32_1751
  let v2643 : BitVec 32 := Scalar.addi v2641 v2642
  let c0_i32_1752 : BitVec 32 := 0#32
  ![v2643.toNat, 0]
def k0_cond282 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1333 : BitVec 32 := 1#32
  let v2031 : BitVec 32 := Scalar.addi v8 c1_i32_1333
  let c1_i32_1334 : BitVec 32 := 1#32
  let v2032 : BitVec 32 := Scalar.addi v2031 c1_i32_1334
  let c3_i32_1335 : BitVec 32 := 3#32
  let v2033 : BitVec 1 := Scalar.cmpi .sle v2032 c3_i32_1335
  let v2034 : BitVec 32 := Scalar.extui v2033
  let c0_i32_1336 : BitVec 32 := 0#32
  let v2035 : BitVec 1 := Scalar.cmpi .ne v2034 c0_i32_1336
  v2035

def k0_off320 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c1_i32_1747 : BitVec 32 := 1#32
  let v2637 : BitVec 32 := Scalar.addi v2636 c1_i32_1747
  let c4096_i32_1750 : BitVec 32 := 4096#32
  let v2641 : BitVec 32 := Scalar.muli v2637 c4096_i32_1750
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1751 : BitVec 32 := 1024#32
  let v2642 : BitVec 32 := Scalar.muli v26 c1024_i32_1751
  let v2643 : BitVec 32 := Scalar.addi v2641 v2642
  let c0_i32_1753 : BitVec 32 := 0#32
  ![v2643.toNat, 0]
def k0_cond283 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1337 : BitVec 32 := 1#32
  let v2036 : BitVec 32 := Scalar.addi v8 c1_i32_1337
  let c1_i32_1338 : BitVec 32 := 1#32
  let v2037 : BitVec 32 := Scalar.addi v2036 c1_i32_1338
  let c3_i32_1339 : BitVec 32 := 3#32
  let v2038 : BitVec 1 := Scalar.cmpi .sle v2037 c3_i32_1339
  let v2039 : BitVec 32 := Scalar.extui v2038
  let c0_i32_1340 : BitVec 32 := 0#32
  let v2040 : BitVec 1 := Scalar.cmpi .ne v2039 c0_i32_1340
  v2040

def k0_off321 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c1_i32_1747 : BitVec 32 := 1#32
  let v2637 : BitVec 32 := Scalar.addi v2636 c1_i32_1747
  let c4096_i32_1750 : BitVec 32 := 4096#32
  let v2641 : BitVec 32 := Scalar.muli v2637 c4096_i32_1750
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1751 : BitVec 32 := 1024#32
  let v2642 : BitVec 32 := Scalar.muli v29 c1024_i32_1751
  let v2643 : BitVec 32 := Scalar.addi v2641 v2642
  let c0_i32_1752 : BitVec 32 := 0#32
  ![v2643.toNat, 0]
def k0_cond284 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1341 : BitVec 32 := 3#32
  let v2041 : BitVec 1 := Scalar.cmpi .sge v8 c3_i32_1341
  let v2042 : BitVec 32 := Scalar.extui v2041
  let c0_i32_1342 : BitVec 32 := 0#32
  let v2043 : BitVec 1 := Scalar.cmpi .ne v2042 c0_i32_1342
  v2043

def k0_off322 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c2_i32_1747 : BitVec 32 := 2#32
  let v2637 : BitVec 32 := Scalar.subi v2636 c2_i32_1747
  let c4096_i32_1750 : BitVec 32 := 4096#32
  let v2641 : BitVec 32 := Scalar.muli v2637 c4096_i32_1750
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1751 : BitVec 32 := 1024#32
  let v2642 : BitVec 32 := Scalar.muli v26 c1024_i32_1751
  let v2643 : BitVec 32 := Scalar.addi v2641 v2642
  let c0_i32_1752 : BitVec 32 := 0#32
  ![v2643.toNat, 0]
def k0_cond285 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1343 : BitVec 32 := 3#32
  let v2044 : BitVec 1 := Scalar.cmpi .sge v8 c3_i32_1343
  let v2045 : BitVec 32 := Scalar.extui v2044
  let c0_i32_1344 : BitVec 32 := 0#32
  let v2046 : BitVec 1 := Scalar.cmpi .ne v2045 c0_i32_1344
  v2046

def k0_off323 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c2_i32_1747 : BitVec 32 := 2#32
  let v2637 : BitVec 32 := Scalar.subi v2636 c2_i32_1747
  let c4096_i32_1750 : BitVec 32 := 4096#32
  let v2641 : BitVec 32 := Scalar.muli v2637 c4096_i32_1750
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1751 : BitVec 32 := 1024#32
  let v2642 : BitVec 32 := Scalar.muli v29 c1024_i32_1751
  let v2643 : BitVec 32 := Scalar.addi v2641 v2642
  let c0_i32_1752 : BitVec 32 := 0#32
  ![v2643.toNat, 0]
def k0_cond286 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1345 : BitVec 32 := 1#32
  let v2047 : BitVec 32 := Scalar.addi v8 c1_i32_1345
  let c2_i32_1346 : BitVec 32 := 2#32
  let v2048 : BitVec 32 := Scalar.addi v2047 c2_i32_1346
  let c3_i32_1347 : BitVec 32 := 3#32
  let v2049 : BitVec 1 := Scalar.cmpi .sle v2048 c3_i32_1347
  let v2050 : BitVec 32 := Scalar.extui v2049
  let c0_i32_1348 : BitVec 32 := 0#32
  let v2051 : BitVec 1 := Scalar.cmpi .ne v2050 c0_i32_1348
  v2051

def k0_off324 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c2_i32_1747 : BitVec 32 := 2#32
  let v2637 : BitVec 32 := Scalar.addi v2636 c2_i32_1747
  let c4096_i32_1750 : BitVec 32 := 4096#32
  let v2641 : BitVec 32 := Scalar.muli v2637 c4096_i32_1750
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1751 : BitVec 32 := 1024#32
  let v2642 : BitVec 32 := Scalar.muli v26 c1024_i32_1751
  let v2643 : BitVec 32 := Scalar.addi v2641 v2642
  let c0_i32_1752 : BitVec 32 := 0#32
  ![v2643.toNat, 0]
def k0_cond287 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1349 : BitVec 32 := 1#32
  let v2052 : BitVec 32 := Scalar.addi v8 c1_i32_1349
  let c2_i32_1350 : BitVec 32 := 2#32
  let v2053 : BitVec 32 := Scalar.addi v2052 c2_i32_1350
  let c3_i32_1351 : BitVec 32 := 3#32
  let v2054 : BitVec 1 := Scalar.cmpi .sle v2053 c3_i32_1351
  let v2055 : BitVec 32 := Scalar.extui v2054
  let c0_i32_1352 : BitVec 32 := 0#32
  let v2056 : BitVec 1 := Scalar.cmpi .ne v2055 c0_i32_1352
  v2056

def k0_off325 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c2_i32_1747 : BitVec 32 := 2#32
  let v2637 : BitVec 32 := Scalar.addi v2636 c2_i32_1747
  let c4096_i32_1750 : BitVec 32 := 4096#32
  let v2641 : BitVec 32 := Scalar.muli v2637 c4096_i32_1750
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1751 : BitVec 32 := 1024#32
  let v2642 : BitVec 32 := Scalar.muli v29 c1024_i32_1751
  let v2643 : BitVec 32 := Scalar.addi v2641 v2642
  let c0_i32_1752 : BitVec 32 := 0#32
  ![v2643.toNat, 0]
def k0_cond288 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1353 : BitVec 32 := 1#32
  let v2057 : BitVec 1 := Scalar.cmpi .sge v8 c1_i32_1353
  let v2058 : BitVec 32 := Scalar.extui v2057
  let c0_i32_1354 : BitVec 32 := 0#32
  let v2059 : BitVec 1 := Scalar.cmpi .ne v2058 c0_i32_1354
  v2059

def k0_off326 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c0_i32_1747 : BitVec 32 := 0#32
  let v2637 : BitVec 32 := Scalar.subi v2636 c0_i32_1747
  let c4096_i32_1750 : BitVec 32 := 4096#32
  let v2641 : BitVec 32 := Scalar.muli v2637 c4096_i32_1750
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1751 : BitVec 32 := 1024#32
  let v2642 : BitVec 32 := Scalar.muli v30 c1024_i32_1751
  let v2643 : BitVec 32 := Scalar.addi v2641 v2642
  let c0_i32_1752 : BitVec 32 := 0#32
  ![v2643.toNat, 0]
def k0_cond289 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1355 : BitVec 32 := 1#32
  let v2060 : BitVec 32 := Scalar.addi v8 c1_i32_1355
  let c0_i32_1356 : BitVec 32 := 0#32
  let v2061 : BitVec 32 := Scalar.addi v2060 c0_i32_1356
  let c3_i32_1357 : BitVec 32 := 3#32
  let v2062 : BitVec 1 := Scalar.cmpi .sle v2061 c3_i32_1357
  let v2063 : BitVec 32 := Scalar.extui v2062
  let c0_i32_1358 : BitVec 32 := 0#32
  let v2064 : BitVec 1 := Scalar.cmpi .ne v2063 c0_i32_1358
  v2064

def k0_off327 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c0_i32_1747 : BitVec 32 := 0#32
  let v2637 : BitVec 32 := Scalar.addi v2636 c0_i32_1747
  let c4096_i32_1750 : BitVec 32 := 4096#32
  let v2641 : BitVec 32 := Scalar.muli v2637 c4096_i32_1750
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1751 : BitVec 32 := 1024#32
  let v2642 : BitVec 32 := Scalar.muli v30 c1024_i32_1751
  let v2643 : BitVec 32 := Scalar.addi v2641 v2642
  let c0_i32_1752 : BitVec 32 := 0#32
  ![v2643.toNat, 0]
def k0_cond290 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1359 : BitVec 32 := 2#32
  let v2065 : BitVec 1 := Scalar.cmpi .sge v8 c2_i32_1359
  let v2066 : BitVec 32 := Scalar.extui v2065
  let c0_i32_1360 : BitVec 32 := 0#32
  let v2067 : BitVec 1 := Scalar.cmpi .ne v2066 c0_i32_1360
  v2067

def k0_off328 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c1_i32_1747 : BitVec 32 := 1#32
  let v2637 : BitVec 32 := Scalar.subi v2636 c1_i32_1747
  let c4096_i32_1750 : BitVec 32 := 4096#32
  let v2641 : BitVec 32 := Scalar.muli v2637 c4096_i32_1750
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1751 : BitVec 32 := 1024#32
  let v2642 : BitVec 32 := Scalar.muli v30 c1024_i32_1751
  let v2643 : BitVec 32 := Scalar.addi v2641 v2642
  let c0_i32_1752 : BitVec 32 := 0#32
  ![v2643.toNat, 0]
def k0_cond291 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1361 : BitVec 32 := 1#32
  let v2068 : BitVec 32 := Scalar.addi v8 c1_i32_1361
  let c1_i32_1362 : BitVec 32 := 1#32
  let v2069 : BitVec 32 := Scalar.addi v2068 c1_i32_1362
  let c3_i32_1363 : BitVec 32 := 3#32
  let v2070 : BitVec 1 := Scalar.cmpi .sle v2069 c3_i32_1363
  let v2071 : BitVec 32 := Scalar.extui v2070
  let c0_i32_1364 : BitVec 32 := 0#32
  let v2072 : BitVec 1 := Scalar.cmpi .ne v2071 c0_i32_1364
  v2072

def k0_off329 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c1_i32_1747 : BitVec 32 := 1#32
  let v2637 : BitVec 32 := Scalar.addi v2636 c1_i32_1747
  let c4096_i32_1750 : BitVec 32 := 4096#32
  let v2641 : BitVec 32 := Scalar.muli v2637 c4096_i32_1750
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1751 : BitVec 32 := 1024#32
  let v2642 : BitVec 32 := Scalar.muli v30 c1024_i32_1751
  let v2643 : BitVec 32 := Scalar.addi v2641 v2642
  let c0_i32_1752 : BitVec 32 := 0#32
  ![v2643.toNat, 0]
def k0_cond292 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1365 : BitVec 32 := 3#32
  let v2073 : BitVec 1 := Scalar.cmpi .sge v8 c3_i32_1365
  let v2074 : BitVec 32 := Scalar.extui v2073
  let c0_i32_1366 : BitVec 32 := 0#32
  let v2075 : BitVec 1 := Scalar.cmpi .ne v2074 c0_i32_1366
  v2075

def k0_off330 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c2_i32_1747 : BitVec 32 := 2#32
  let v2637 : BitVec 32 := Scalar.subi v2636 c2_i32_1747
  let c4096_i32_1750 : BitVec 32 := 4096#32
  let v2641 : BitVec 32 := Scalar.muli v2637 c4096_i32_1750
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1751 : BitVec 32 := 1024#32
  let v2642 : BitVec 32 := Scalar.muli v30 c1024_i32_1751
  let v2643 : BitVec 32 := Scalar.addi v2641 v2642
  let c0_i32_1752 : BitVec 32 := 0#32
  ![v2643.toNat, 0]
def k0_cond293 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1367 : BitVec 32 := 1#32
  let v2076 : BitVec 32 := Scalar.addi v8 c1_i32_1367
  let c2_i32_1368 : BitVec 32 := 2#32
  let v2077 : BitVec 32 := Scalar.addi v2076 c2_i32_1368
  let c3_i32_1369 : BitVec 32 := 3#32
  let v2078 : BitVec 1 := Scalar.cmpi .sle v2077 c3_i32_1369
  let v2079 : BitVec 32 := Scalar.extui v2078
  let c0_i32_1370 : BitVec 32 := 0#32
  let v2080 : BitVec 1 := Scalar.cmpi .ne v2079 c0_i32_1370
  v2080

def k0_off331 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c2_i32_1747 : BitVec 32 := 2#32
  let v2637 : BitVec 32 := Scalar.addi v2636 c2_i32_1747
  let c4096_i32_1750 : BitVec 32 := 4096#32
  let v2641 : BitVec 32 := Scalar.muli v2637 c4096_i32_1750
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1751 : BitVec 32 := 1024#32
  let v2642 : BitVec 32 := Scalar.muli v30 c1024_i32_1751
  let v2643 : BitVec 32 := Scalar.addi v2641 v2642
  let c0_i32_1752 : BitVec 32 := 0#32
  ![v2643.toNat, 0]
def k0_cond294 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1371 : BitVec 32 := 2#32
  let v2081 : BitVec 1 := Scalar.cmpi .sle v8 c2_i32_1371
  let c0_i32_1372 : BitVec 32 := 0#32
  let v2082 : BitVec 1 := Scalar.cmpi .sge v8 c0_i32_1372
  let v2083 : BitVec 1 := Scalar.andi v2081 v2082
  let v2084 : BitVec 32 := Scalar.extui v2083
  let c0_i32_1373 : BitVec 32 := 0#32
  let v2085 : BitVec 1 := Scalar.cmpi .ne v2084 c0_i32_1373
  v2085

def k0_off332 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1746 : BitVec 32 := 0#32
  let v2636 : BitVec 32 := Scalar.subi v8 c0_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c0_i32_1749 : BitVec 32 := 0#32
  let v2640 : BitVec 32 := Scalar.addi v2639 c0_i32_1749
  let c0_i32_1754 : BitVec 32 := 0#32
  ![v2640.toNat, 0]
def k0_cond295 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1374 : BitVec 32 := 1#32
  let v2086 : BitVec 1 := Scalar.cmpi .sge v8 c1_i32_1374
  let c0_i32_1375 : BitVec 32 := 0#32
  let v2087 : BitVec 32 := Scalar.addi v8 c0_i32_1375
  let c3_i32_1376 : BitVec 32 := 3#32
  let v2088 : BitVec 1 := Scalar.cmpi .sle v2087 c3_i32_1376
  let v2089 : BitVec 1 := Scalar.andi v2086 v2088
  let v2090 : BitVec 32 := Scalar.extui v2089
  let c0_i32_1377 : BitVec 32 := 0#32
  let v2091 : BitVec 1 := Scalar.cmpi .ne v2090 c0_i32_1377
  v2091

def k0_off333 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1746 : BitVec 32 := 0#32
  let v2636 : BitVec 32 := Scalar.addi v8 c0_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c0_i32_1749 : BitVec 32 := 0#32
  let v2640 : BitVec 32 := Scalar.addi v2639 c0_i32_1749
  let c0_i32_1754 : BitVec 32 := 0#32
  ![v2640.toNat, 0]
def k0_cond296 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1378 : BitVec 32 := 1#32
  let v2092 : BitVec 1 := Scalar.cmpi .sge v8 c1_i32_1378
  let v2093 : BitVec 32 := Scalar.extui v2092
  let c0_i32_1379 : BitVec 32 := 0#32
  let v2094 : BitVec 1 := Scalar.cmpi .ne v2093 c0_i32_1379
  v2094

def k0_off334 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c0_i32_1747 : BitVec 32 := 0#32
  let v2637 : BitVec 32 := Scalar.subi v2636 c0_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c0_i32_1750 : BitVec 32 := 0#32
  let v2641 : BitVec 32 := Scalar.addi v2640 c0_i32_1750
  let c0_i32_1754 : BitVec 32 := 0#32
  ![v2641.toNat, 0]
def k0_cond297 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1380 : BitVec 32 := 1#32
  let v2095 : BitVec 32 := Scalar.addi v8 c1_i32_1380
  let c0_i32_1381 : BitVec 32 := 0#32
  let v2096 : BitVec 32 := Scalar.addi v2095 c0_i32_1381
  let c3_i32_1382 : BitVec 32 := 3#32
  let v2097 : BitVec 1 := Scalar.cmpi .sle v2096 c3_i32_1382
  let v2098 : BitVec 32 := Scalar.extui v2097
  let c0_i32_1383 : BitVec 32 := 0#32
  let v2099 : BitVec 1 := Scalar.cmpi .ne v2098 c0_i32_1383
  v2099

def k0_off335 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c0_i32_1747 : BitVec 32 := 0#32
  let v2637 : BitVec 32 := Scalar.addi v2636 c0_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c0_i32_1750 : BitVec 32 := 0#32
  let v2641 : BitVec 32 := Scalar.addi v2640 c0_i32_1750
  let c0_i32_1754 : BitVec 32 := 0#32
  ![v2641.toNat, 0]
def k0_cond298 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1384 : BitVec 32 := 2#32
  let v2100 : BitVec 1 := Scalar.cmpi .sle v8 c2_i32_1384
  let c0_i32_1385 : BitVec 32 := 0#32
  let v2101 : BitVec 1 := Scalar.cmpi .sge v8 c0_i32_1385
  let v2102 : BitVec 1 := Scalar.andi v2100 v2101
  let v2103 : BitVec 32 := Scalar.extui v2102
  let c0_i32_1386 : BitVec 32 := 0#32
  let v2104 : BitVec 1 := Scalar.cmpi .ne v2103 c0_i32_1386
  v2104

def k0_off336 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1746 : BitVec 32 := 0#32
  let v2636 : BitVec 32 := Scalar.subi v8 c0_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c128_i32_1749 : BitVec 32 := 128#32
  let v2640 : BitVec 32 := Scalar.addi v2639 c128_i32_1749
  let c0_i32_1754 : BitVec 32 := 0#32
  ![v2640.toNat, 0]
def k0_cond299 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1387 : BitVec 32 := 1#32
  let v2105 : BitVec 1 := Scalar.cmpi .sge v8 c1_i32_1387
  let c0_i32_1388 : BitVec 32 := 0#32
  let v2106 : BitVec 32 := Scalar.addi v8 c0_i32_1388
  let c3_i32_1389 : BitVec 32 := 3#32
  let v2107 : BitVec 1 := Scalar.cmpi .sle v2106 c3_i32_1389
  let v2108 : BitVec 1 := Scalar.andi v2105 v2107
  let v2109 : BitVec 32 := Scalar.extui v2108
  let c0_i32_1390 : BitVec 32 := 0#32
  let v2110 : BitVec 1 := Scalar.cmpi .ne v2109 c0_i32_1390
  v2110

def k0_off337 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1746 : BitVec 32 := 0#32
  let v2636 : BitVec 32 := Scalar.addi v8 c0_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c128_i32_1749 : BitVec 32 := 128#32
  let v2640 : BitVec 32 := Scalar.addi v2639 c128_i32_1749
  let c0_i32_1754 : BitVec 32 := 0#32
  ![v2640.toNat, 0]
def k0_cond300 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1391 : BitVec 32 := 1#32
  let v2111 : BitVec 1 := Scalar.cmpi .sge v8 c1_i32_1391
  let v2112 : BitVec 32 := Scalar.extui v2111
  let c0_i32_1392 : BitVec 32 := 0#32
  let v2113 : BitVec 1 := Scalar.cmpi .ne v2112 c0_i32_1392
  v2113

def k0_off338 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c0_i32_1747 : BitVec 32 := 0#32
  let v2637 : BitVec 32 := Scalar.subi v2636 c0_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c128_i32_1750 : BitVec 32 := 128#32
  let v2641 : BitVec 32 := Scalar.addi v2640 c128_i32_1750
  let c0_i32_1754 : BitVec 32 := 0#32
  ![v2641.toNat, 0]
def k0_cond301 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1393 : BitVec 32 := 1#32
  let v2114 : BitVec 32 := Scalar.addi v8 c1_i32_1393
  let c0_i32_1394 : BitVec 32 := 0#32
  let v2115 : BitVec 32 := Scalar.addi v2114 c0_i32_1394
  let c3_i32_1395 : BitVec 32 := 3#32
  let v2116 : BitVec 1 := Scalar.cmpi .sle v2115 c3_i32_1395
  let v2117 : BitVec 32 := Scalar.extui v2116
  let c0_i32_1396 : BitVec 32 := 0#32
  let v2118 : BitVec 1 := Scalar.cmpi .ne v2117 c0_i32_1396
  v2118

def k0_off339 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c0_i32_1747 : BitVec 32 := 0#32
  let v2637 : BitVec 32 := Scalar.addi v2636 c0_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c128_i32_1750 : BitVec 32 := 128#32
  let v2641 : BitVec 32 := Scalar.addi v2640 c128_i32_1750
  let c0_i32_1754 : BitVec 32 := 0#32
  ![v2641.toNat, 0]
def k0_cond302 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1397 : BitVec 32 := 2#32
  let v2119 : BitVec 1 := Scalar.cmpi .sle v8 c2_i32_1397
  let c0_i32_1398 : BitVec 32 := 0#32
  let v2120 : BitVec 1 := Scalar.cmpi .sge v8 c0_i32_1398
  let v2121 : BitVec 1 := Scalar.andi v2119 v2120
  let v2122 : BitVec 32 := Scalar.extui v2121
  let c0_i32_1399 : BitVec 32 := 0#32
  let v2123 : BitVec 1 := Scalar.cmpi .ne v2122 c0_i32_1399
  v2123

def k0_off340 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1746 : BitVec 32 := 0#32
  let v2636 : BitVec 32 := Scalar.subi v8 c0_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c256_i32_1749 : BitVec 32 := 256#32
  let v2640 : BitVec 32 := Scalar.addi v2639 c256_i32_1749
  let c0_i32_1754 : BitVec 32 := 0#32
  ![v2640.toNat, 0]
def k0_cond303 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1400 : BitVec 32 := 1#32
  let v2124 : BitVec 1 := Scalar.cmpi .sge v8 c1_i32_1400
  let c0_i32_1401 : BitVec 32 := 0#32
  let v2125 : BitVec 32 := Scalar.addi v8 c0_i32_1401
  let c3_i32_1402 : BitVec 32 := 3#32
  let v2126 : BitVec 1 := Scalar.cmpi .sle v2125 c3_i32_1402
  let v2127 : BitVec 1 := Scalar.andi v2124 v2126
  let v2128 : BitVec 32 := Scalar.extui v2127
  let c0_i32_1403 : BitVec 32 := 0#32
  let v2129 : BitVec 1 := Scalar.cmpi .ne v2128 c0_i32_1403
  v2129

def k0_off341 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1746 : BitVec 32 := 0#32
  let v2636 : BitVec 32 := Scalar.addi v8 c0_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c256_i32_1749 : BitVec 32 := 256#32
  let v2640 : BitVec 32 := Scalar.addi v2639 c256_i32_1749
  let c0_i32_1754 : BitVec 32 := 0#32
  ![v2640.toNat, 0]
def k0_cond304 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1404 : BitVec 32 := 1#32
  let v2130 : BitVec 1 := Scalar.cmpi .sge v8 c1_i32_1404
  let v2131 : BitVec 32 := Scalar.extui v2130
  let c0_i32_1405 : BitVec 32 := 0#32
  let v2132 : BitVec 1 := Scalar.cmpi .ne v2131 c0_i32_1405
  v2132

def k0_off342 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c0_i32_1747 : BitVec 32 := 0#32
  let v2637 : BitVec 32 := Scalar.subi v2636 c0_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c256_i32_1750 : BitVec 32 := 256#32
  let v2641 : BitVec 32 := Scalar.addi v2640 c256_i32_1750
  let c0_i32_1754 : BitVec 32 := 0#32
  ![v2641.toNat, 0]
def k0_cond305 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1406 : BitVec 32 := 1#32
  let v2133 : BitVec 32 := Scalar.addi v8 c1_i32_1406
  let c0_i32_1407 : BitVec 32 := 0#32
  let v2134 : BitVec 32 := Scalar.addi v2133 c0_i32_1407
  let c3_i32_1408 : BitVec 32 := 3#32
  let v2135 : BitVec 1 := Scalar.cmpi .sle v2134 c3_i32_1408
  let v2136 : BitVec 32 := Scalar.extui v2135
  let c0_i32_1409 : BitVec 32 := 0#32
  let v2137 : BitVec 1 := Scalar.cmpi .ne v2136 c0_i32_1409
  v2137

def k0_off343 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c0_i32_1747 : BitVec 32 := 0#32
  let v2637 : BitVec 32 := Scalar.addi v2636 c0_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c256_i32_1750 : BitVec 32 := 256#32
  let v2641 : BitVec 32 := Scalar.addi v2640 c256_i32_1750
  let c0_i32_1754 : BitVec 32 := 0#32
  ![v2641.toNat, 0]
def k0_cond306 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1410 : BitVec 32 := 2#32
  let v2138 : BitVec 1 := Scalar.cmpi .sle v8 c2_i32_1410
  let c0_i32_1411 : BitVec 32 := 0#32
  let v2139 : BitVec 1 := Scalar.cmpi .sge v8 c0_i32_1411
  let v2140 : BitVec 1 := Scalar.andi v2138 v2139
  let v2141 : BitVec 32 := Scalar.extui v2140
  let c0_i32_1412 : BitVec 32 := 0#32
  let v2142 : BitVec 1 := Scalar.cmpi .ne v2141 c0_i32_1412
  v2142

def k0_off344 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1746 : BitVec 32 := 0#32
  let v2636 : BitVec 32 := Scalar.subi v8 c0_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c384_i32_1749 : BitVec 32 := 384#32
  let v2640 : BitVec 32 := Scalar.addi v2639 c384_i32_1749
  let c0_i32_1754 : BitVec 32 := 0#32
  ![v2640.toNat, 0]
def k0_cond307 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1413 : BitVec 32 := 1#32
  let v2143 : BitVec 1 := Scalar.cmpi .sge v8 c1_i32_1413
  let c0_i32_1414 : BitVec 32 := 0#32
  let v2144 : BitVec 32 := Scalar.addi v8 c0_i32_1414
  let c3_i32_1415 : BitVec 32 := 3#32
  let v2145 : BitVec 1 := Scalar.cmpi .sle v2144 c3_i32_1415
  let v2146 : BitVec 1 := Scalar.andi v2143 v2145
  let v2147 : BitVec 32 := Scalar.extui v2146
  let c0_i32_1416 : BitVec 32 := 0#32
  let v2148 : BitVec 1 := Scalar.cmpi .ne v2147 c0_i32_1416
  v2148

def k0_off345 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1746 : BitVec 32 := 0#32
  let v2636 : BitVec 32 := Scalar.addi v8 c0_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c384_i32_1749 : BitVec 32 := 384#32
  let v2640 : BitVec 32 := Scalar.addi v2639 c384_i32_1749
  let c0_i32_1754 : BitVec 32 := 0#32
  ![v2640.toNat, 0]
def k0_cond308 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1417 : BitVec 32 := 1#32
  let v2149 : BitVec 1 := Scalar.cmpi .sge v8 c1_i32_1417
  let v2150 : BitVec 32 := Scalar.extui v2149
  let c0_i32_1418 : BitVec 32 := 0#32
  let v2151 : BitVec 1 := Scalar.cmpi .ne v2150 c0_i32_1418
  v2151

def k0_off346 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c0_i32_1747 : BitVec 32 := 0#32
  let v2637 : BitVec 32 := Scalar.subi v2636 c0_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c384_i32_1750 : BitVec 32 := 384#32
  let v2641 : BitVec 32 := Scalar.addi v2640 c384_i32_1750
  let c0_i32_1754 : BitVec 32 := 0#32
  ![v2641.toNat, 0]
def k0_off347 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1766 : BitVec 32 := 1#32
  let v2656 : BitVec 32 := Scalar.subi v8 c1_i32_1766
  let c0_i32_1767 : BitVec 32 := 0#32
  let v2657 : BitVec 32 := Scalar.subi v2656 c0_i32_1767
  let c4096_i32_1768 : BitVec 32 := 4096#32
  let v2658 : BitVec 32 := Scalar.muli v2657 c4096_i32_1768
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1769 : BitVec 32 := 1024#32
  let v2659 : BitVec 32 := Scalar.muli v29 c1024_i32_1769
  let v2660 : BitVec 32 := Scalar.addi v2658 v2659
  let c384_i32_1770 : BitVec 32 := 384#32
  let v2661 : BitVec 32 := Scalar.addi v2660 c384_i32_1770
  let c0_i32_1774 : BitVec 32 := 0#32
  ![v2661.toNat, 0]
def k0_cond309 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1419 : BitVec 32 := 1#32
  let v2152 : BitVec 32 := Scalar.addi v8 c1_i32_1419
  let c0_i32_1420 : BitVec 32 := 0#32
  let v2153 : BitVec 32 := Scalar.addi v2152 c0_i32_1420
  let c3_i32_1421 : BitVec 32 := 3#32
  let v2154 : BitVec 1 := Scalar.cmpi .sle v2153 c3_i32_1421
  let v2155 : BitVec 32 := Scalar.extui v2154
  let c0_i32_1422 : BitVec 32 := 0#32
  let v2156 : BitVec 1 := Scalar.cmpi .ne v2155 c0_i32_1422
  v2156

def k0_off348 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c0_i32_1747 : BitVec 32 := 0#32
  let v2637 : BitVec 32 := Scalar.addi v2636 c0_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c384_i32_1750 : BitVec 32 := 384#32
  let v2641 : BitVec 32 := Scalar.addi v2640 c384_i32_1750
  let c0_i32_1754 : BitVec 32 := 0#32
  ![v2641.toNat, 0]
def k0_off349 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1766 : BitVec 32 := 1#32
  let v2656 : BitVec 32 := Scalar.addi v8 c1_i32_1766
  let c0_i32_1767 : BitVec 32 := 0#32
  let v2657 : BitVec 32 := Scalar.addi v2656 c0_i32_1767
  let c4096_i32_1768 : BitVec 32 := 4096#32
  let v2658 : BitVec 32 := Scalar.muli v2657 c4096_i32_1768
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1769 : BitVec 32 := 1024#32
  let v2659 : BitVec 32 := Scalar.muli v29 c1024_i32_1769
  let v2660 : BitVec 32 := Scalar.addi v2658 v2659
  let c384_i32_1770 : BitVec 32 := 384#32
  let v2661 : BitVec 32 := Scalar.addi v2660 c384_i32_1770
  let c0_i32_1774 : BitVec 32 := 0#32
  ![v2661.toNat, 0]
def k0_cond310 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1423 : BitVec 32 := 2#32
  let v2157 : BitVec 1 := Scalar.cmpi .sle v8 c2_i32_1423
  let c0_i32_1424 : BitVec 32 := 0#32
  let v2158 : BitVec 1 := Scalar.cmpi .sge v8 c0_i32_1424
  let v2159 : BitVec 1 := Scalar.andi v2157 v2158
  let v2160 : BitVec 32 := Scalar.extui v2159
  let c0_i32_1425 : BitVec 32 := 0#32
  let v2161 : BitVec 1 := Scalar.cmpi .ne v2160 c0_i32_1425
  v2161

def k0_off350 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1746 : BitVec 32 := 0#32
  let v2636 : BitVec 32 := Scalar.subi v8 c0_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c512_i32_1749 : BitVec 32 := 512#32
  let v2640 : BitVec 32 := Scalar.addi v2639 c512_i32_1749
  let c0_i32_1754 : BitVec 32 := 0#32
  ![v2640.toNat, 0]
def k0_cond311 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1426 : BitVec 32 := 1#32
  let v2162 : BitVec 1 := Scalar.cmpi .sge v8 c1_i32_1426
  let c0_i32_1427 : BitVec 32 := 0#32
  let v2163 : BitVec 32 := Scalar.addi v8 c0_i32_1427
  let c3_i32_1428 : BitVec 32 := 3#32
  let v2164 : BitVec 1 := Scalar.cmpi .sle v2163 c3_i32_1428
  let v2165 : BitVec 1 := Scalar.andi v2162 v2164
  let v2166 : BitVec 32 := Scalar.extui v2165
  let c0_i32_1429 : BitVec 32 := 0#32
  let v2167 : BitVec 1 := Scalar.cmpi .ne v2166 c0_i32_1429
  v2167

def k0_off351 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1746 : BitVec 32 := 0#32
  let v2636 : BitVec 32 := Scalar.addi v8 c0_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c512_i32_1749 : BitVec 32 := 512#32
  let v2640 : BitVec 32 := Scalar.addi v2639 c512_i32_1749
  let c0_i32_1754 : BitVec 32 := 0#32
  ![v2640.toNat, 0]
def k0_cond312 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1430 : BitVec 32 := 1#32
  let v2168 : BitVec 1 := Scalar.cmpi .sge v8 c1_i32_1430
  let v2169 : BitVec 32 := Scalar.extui v2168
  let c0_i32_1431 : BitVec 32 := 0#32
  let v2170 : BitVec 1 := Scalar.cmpi .ne v2169 c0_i32_1431
  v2170

def k0_off352 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c0_i32_1747 : BitVec 32 := 0#32
  let v2637 : BitVec 32 := Scalar.subi v2636 c0_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c512_i32_1750 : BitVec 32 := 512#32
  let v2641 : BitVec 32 := Scalar.addi v2640 c512_i32_1750
  let c0_i32_1754 : BitVec 32 := 0#32
  ![v2641.toNat, 0]
def k0_off353 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1766 : BitVec 32 := 1#32
  let v2656 : BitVec 32 := Scalar.subi v8 c1_i32_1766
  let c0_i32_1767 : BitVec 32 := 0#32
  let v2657 : BitVec 32 := Scalar.subi v2656 c0_i32_1767
  let c4096_i32_1768 : BitVec 32 := 4096#32
  let v2658 : BitVec 32 := Scalar.muli v2657 c4096_i32_1768
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1769 : BitVec 32 := 1024#32
  let v2659 : BitVec 32 := Scalar.muli v29 c1024_i32_1769
  let v2660 : BitVec 32 := Scalar.addi v2658 v2659
  let c512_i32_1770 : BitVec 32 := 512#32
  let v2661 : BitVec 32 := Scalar.addi v2660 c512_i32_1770
  let c0_i32_1774 : BitVec 32 := 0#32
  ![v2661.toNat, 0]
def k0_cond313 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1432 : BitVec 32 := 1#32
  let v2171 : BitVec 32 := Scalar.addi v8 c1_i32_1432
  let c0_i32_1433 : BitVec 32 := 0#32
  let v2172 : BitVec 32 := Scalar.addi v2171 c0_i32_1433
  let c3_i32_1434 : BitVec 32 := 3#32
  let v2173 : BitVec 1 := Scalar.cmpi .sle v2172 c3_i32_1434
  let v2174 : BitVec 32 := Scalar.extui v2173
  let c0_i32_1435 : BitVec 32 := 0#32
  let v2175 : BitVec 1 := Scalar.cmpi .ne v2174 c0_i32_1435
  v2175

def k0_off354 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c0_i32_1747 : BitVec 32 := 0#32
  let v2637 : BitVec 32 := Scalar.addi v2636 c0_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c512_i32_1750 : BitVec 32 := 512#32
  let v2641 : BitVec 32 := Scalar.addi v2640 c512_i32_1750
  let c0_i32_1754 : BitVec 32 := 0#32
  ![v2641.toNat, 0]
def k0_off355 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1766 : BitVec 32 := 1#32
  let v2656 : BitVec 32 := Scalar.addi v8 c1_i32_1766
  let c0_i32_1767 : BitVec 32 := 0#32
  let v2657 : BitVec 32 := Scalar.addi v2656 c0_i32_1767
  let c4096_i32_1768 : BitVec 32 := 4096#32
  let v2658 : BitVec 32 := Scalar.muli v2657 c4096_i32_1768
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1769 : BitVec 32 := 1024#32
  let v2659 : BitVec 32 := Scalar.muli v29 c1024_i32_1769
  let v2660 : BitVec 32 := Scalar.addi v2658 v2659
  let c512_i32_1770 : BitVec 32 := 512#32
  let v2661 : BitVec 32 := Scalar.addi v2660 c512_i32_1770
  let c0_i32_1774 : BitVec 32 := 0#32
  ![v2661.toNat, 0]
def k0_cond314 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1436 : BitVec 32 := 2#32
  let v2176 : BitVec 1 := Scalar.cmpi .sle v8 c2_i32_1436
  let c0_i32_1437 : BitVec 32 := 0#32
  let v2177 : BitVec 1 := Scalar.cmpi .sge v8 c0_i32_1437
  let v2178 : BitVec 1 := Scalar.andi v2176 v2177
  let v2179 : BitVec 32 := Scalar.extui v2178
  let c0_i32_1438 : BitVec 32 := 0#32
  let v2180 : BitVec 1 := Scalar.cmpi .ne v2179 c0_i32_1438
  v2180

def k0_off356 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1746 : BitVec 32 := 0#32
  let v2636 : BitVec 32 := Scalar.subi v8 c0_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c640_i32_1749 : BitVec 32 := 640#32
  let v2640 : BitVec 32 := Scalar.addi v2639 c640_i32_1749
  let c0_i32_1753 : BitVec 32 := 0#32
  ![v2640.toNat, 0]
def k0_cond315 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1439 : BitVec 32 := 1#32
  let v2181 : BitVec 1 := Scalar.cmpi .sge v8 c1_i32_1439
  let c0_i32_1440 : BitVec 32 := 0#32
  let v2182 : BitVec 32 := Scalar.addi v8 c0_i32_1440
  let c3_i32_1441 : BitVec 32 := 3#32
  let v2183 : BitVec 1 := Scalar.cmpi .sle v2182 c3_i32_1441
  let v2184 : BitVec 1 := Scalar.andi v2181 v2183
  let v2185 : BitVec 32 := Scalar.extui v2184
  let c0_i32_1442 : BitVec 32 := 0#32
  let v2186 : BitVec 1 := Scalar.cmpi .ne v2185 c0_i32_1442
  v2186

def k0_off357 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1746 : BitVec 32 := 0#32
  let v2636 : BitVec 32 := Scalar.addi v8 c0_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c640_i32_1749 : BitVec 32 := 640#32
  let v2640 : BitVec 32 := Scalar.addi v2639 c640_i32_1749
  let c0_i32_1753 : BitVec 32 := 0#32
  ![v2640.toNat, 0]
def k0_cond316 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1443 : BitVec 32 := 1#32
  let v2187 : BitVec 1 := Scalar.cmpi .sge v8 c1_i32_1443
  let v2188 : BitVec 32 := Scalar.extui v2187
  let c0_i32_1444 : BitVec 32 := 0#32
  let v2189 : BitVec 1 := Scalar.cmpi .ne v2188 c0_i32_1444
  v2189

def k0_off358 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c0_i32_1747 : BitVec 32 := 0#32
  let v2637 : BitVec 32 := Scalar.subi v2636 c0_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c640_i32_1750 : BitVec 32 := 640#32
  let v2641 : BitVec 32 := Scalar.addi v2640 c640_i32_1750
  let c0_i32_1753 : BitVec 32 := 0#32
  ![v2641.toNat, 0]
def k0_off359 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1765 : BitVec 32 := 1#32
  let v2656 : BitVec 32 := Scalar.subi v8 c1_i32_1765
  let c0_i32_1766 : BitVec 32 := 0#32
  let v2657 : BitVec 32 := Scalar.subi v2656 c0_i32_1766
  let c4096_i32_1767 : BitVec 32 := 4096#32
  let v2658 : BitVec 32 := Scalar.muli v2657 c4096_i32_1767
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1768 : BitVec 32 := 1024#32
  let v2659 : BitVec 32 := Scalar.muli v26 c1024_i32_1768
  let v2660 : BitVec 32 := Scalar.addi v2658 v2659
  let c640_i32_1769 : BitVec 32 := 640#32
  let v2661 : BitVec 32 := Scalar.addi v2660 c640_i32_1769
  let c0_i32_1773 : BitVec 32 := 0#32
  ![v2661.toNat, 0]
def k0_cond317 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1445 : BitVec 32 := 1#32
  let v2190 : BitVec 32 := Scalar.addi v8 c1_i32_1445
  let c0_i32_1446 : BitVec 32 := 0#32
  let v2191 : BitVec 32 := Scalar.addi v2190 c0_i32_1446
  let c3_i32_1447 : BitVec 32 := 3#32
  let v2192 : BitVec 1 := Scalar.cmpi .sle v2191 c3_i32_1447
  let v2193 : BitVec 32 := Scalar.extui v2192
  let c0_i32_1448 : BitVec 32 := 0#32
  let v2194 : BitVec 1 := Scalar.cmpi .ne v2193 c0_i32_1448
  v2194

def k0_off360 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c0_i32_1747 : BitVec 32 := 0#32
  let v2637 : BitVec 32 := Scalar.addi v2636 c0_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c640_i32_1750 : BitVec 32 := 640#32
  let v2641 : BitVec 32 := Scalar.addi v2640 c640_i32_1750
  let c0_i32_1753 : BitVec 32 := 0#32
  ![v2641.toNat, 0]
def k0_off361 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1765 : BitVec 32 := 1#32
  let v2656 : BitVec 32 := Scalar.addi v8 c1_i32_1765
  let c0_i32_1766 : BitVec 32 := 0#32
  let v2657 : BitVec 32 := Scalar.addi v2656 c0_i32_1766
  let c4096_i32_1767 : BitVec 32 := 4096#32
  let v2658 : BitVec 32 := Scalar.muli v2657 c4096_i32_1767
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1768 : BitVec 32 := 1024#32
  let v2659 : BitVec 32 := Scalar.muli v26 c1024_i32_1768
  let v2660 : BitVec 32 := Scalar.addi v2658 v2659
  let c640_i32_1769 : BitVec 32 := 640#32
  let v2661 : BitVec 32 := Scalar.addi v2660 c640_i32_1769
  let c0_i32_1773 : BitVec 32 := 0#32
  ![v2661.toNat, 0]
def k0_cond318 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1449 : BitVec 32 := 2#32
  let v2195 : BitVec 1 := Scalar.cmpi .sle v8 c2_i32_1449
  let c0_i32_1450 : BitVec 32 := 0#32
  let v2196 : BitVec 1 := Scalar.cmpi .sge v8 c0_i32_1450
  let v2197 : BitVec 1 := Scalar.andi v2195 v2196
  let v2198 : BitVec 32 := Scalar.extui v2197
  let c0_i32_1451 : BitVec 32 := 0#32
  let v2199 : BitVec 1 := Scalar.cmpi .ne v2198 c0_i32_1451
  v2199

def k0_off362 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1746 : BitVec 32 := 0#32
  let v2636 : BitVec 32 := Scalar.subi v8 c0_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c768_i32_1749 : BitVec 32 := 768#32
  let v2640 : BitVec 32 := Scalar.addi v2639 c768_i32_1749
  let c0_i32_1753 : BitVec 32 := 0#32
  ![v2640.toNat, 0]
def k0_cond319 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1452 : BitVec 32 := 1#32
  let v2200 : BitVec 1 := Scalar.cmpi .sge v8 c1_i32_1452
  let c0_i32_1453 : BitVec 32 := 0#32
  let v2201 : BitVec 32 := Scalar.addi v8 c0_i32_1453
  let c3_i32_1454 : BitVec 32 := 3#32
  let v2202 : BitVec 1 := Scalar.cmpi .sle v2201 c3_i32_1454
  let v2203 : BitVec 1 := Scalar.andi v2200 v2202
  let v2204 : BitVec 32 := Scalar.extui v2203
  let c0_i32_1455 : BitVec 32 := 0#32
  let v2205 : BitVec 1 := Scalar.cmpi .ne v2204 c0_i32_1455
  v2205

def k0_off363 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1746 : BitVec 32 := 0#32
  let v2636 : BitVec 32 := Scalar.addi v8 c0_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c768_i32_1749 : BitVec 32 := 768#32
  let v2640 : BitVec 32 := Scalar.addi v2639 c768_i32_1749
  let c0_i32_1753 : BitVec 32 := 0#32
  ![v2640.toNat, 0]
def k0_cond320 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1456 : BitVec 32 := 1#32
  let v2206 : BitVec 1 := Scalar.cmpi .sge v8 c1_i32_1456
  let v2207 : BitVec 32 := Scalar.extui v2206
  let c0_i32_1457 : BitVec 32 := 0#32
  let v2208 : BitVec 1 := Scalar.cmpi .ne v2207 c0_i32_1457
  v2208

def k0_off364 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c0_i32_1747 : BitVec 32 := 0#32
  let v2637 : BitVec 32 := Scalar.subi v2636 c0_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c768_i32_1750 : BitVec 32 := 768#32
  let v2641 : BitVec 32 := Scalar.addi v2640 c768_i32_1750
  let c0_i32_1753 : BitVec 32 := 0#32
  ![v2641.toNat, 0]
def k0_off365 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1765 : BitVec 32 := 1#32
  let v2656 : BitVec 32 := Scalar.subi v8 c1_i32_1765
  let c0_i32_1766 : BitVec 32 := 0#32
  let v2657 : BitVec 32 := Scalar.subi v2656 c0_i32_1766
  let c4096_i32_1767 : BitVec 32 := 4096#32
  let v2658 : BitVec 32 := Scalar.muli v2657 c4096_i32_1767
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1768 : BitVec 32 := 1024#32
  let v2659 : BitVec 32 := Scalar.muli v26 c1024_i32_1768
  let v2660 : BitVec 32 := Scalar.addi v2658 v2659
  let c768_i32_1769 : BitVec 32 := 768#32
  let v2661 : BitVec 32 := Scalar.addi v2660 c768_i32_1769
  let c0_i32_1773 : BitVec 32 := 0#32
  ![v2661.toNat, 0]
def k0_cond321 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1458 : BitVec 32 := 1#32
  let v2209 : BitVec 32 := Scalar.addi v8 c1_i32_1458
  let c0_i32_1459 : BitVec 32 := 0#32
  let v2210 : BitVec 32 := Scalar.addi v2209 c0_i32_1459
  let c3_i32_1460 : BitVec 32 := 3#32
  let v2211 : BitVec 1 := Scalar.cmpi .sle v2210 c3_i32_1460
  let v2212 : BitVec 32 := Scalar.extui v2211
  let c0_i32_1461 : BitVec 32 := 0#32
  let v2213 : BitVec 1 := Scalar.cmpi .ne v2212 c0_i32_1461
  v2213

def k0_off366 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c0_i32_1747 : BitVec 32 := 0#32
  let v2637 : BitVec 32 := Scalar.addi v2636 c0_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c768_i32_1750 : BitVec 32 := 768#32
  let v2641 : BitVec 32 := Scalar.addi v2640 c768_i32_1750
  let c0_i32_1753 : BitVec 32 := 0#32
  ![v2641.toNat, 0]
def k0_off367 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1765 : BitVec 32 := 1#32
  let v2656 : BitVec 32 := Scalar.addi v8 c1_i32_1765
  let c0_i32_1766 : BitVec 32 := 0#32
  let v2657 : BitVec 32 := Scalar.addi v2656 c0_i32_1766
  let c4096_i32_1767 : BitVec 32 := 4096#32
  let v2658 : BitVec 32 := Scalar.muli v2657 c4096_i32_1767
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1768 : BitVec 32 := 1024#32
  let v2659 : BitVec 32 := Scalar.muli v26 c1024_i32_1768
  let v2660 : BitVec 32 := Scalar.addi v2658 v2659
  let c768_i32_1769 : BitVec 32 := 768#32
  let v2661 : BitVec 32 := Scalar.addi v2660 c768_i32_1769
  let c0_i32_1773 : BitVec 32 := 0#32
  ![v2661.toNat, 0]
def k0_cond322 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1462 : BitVec 32 := 2#32
  let v2214 : BitVec 1 := Scalar.cmpi .sle v8 c2_i32_1462
  let c0_i32_1463 : BitVec 32 := 0#32
  let v2215 : BitVec 1 := Scalar.cmpi .sge v8 c0_i32_1463
  let v2216 : BitVec 1 := Scalar.andi v2214 v2215
  let v2217 : BitVec 32 := Scalar.extui v2216
  let c0_i32_1464 : BitVec 32 := 0#32
  let v2218 : BitVec 1 := Scalar.cmpi .ne v2217 c0_i32_1464
  v2218

def k0_off368 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1746 : BitVec 32 := 0#32
  let v2636 : BitVec 32 := Scalar.subi v8 c0_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c896_i32_1749 : BitVec 32 := 896#32
  let v2640 : BitVec 32 := Scalar.addi v2639 c896_i32_1749
  let c0_i32_1753 : BitVec 32 := 0#32
  ![v2640.toNat, 0]
def k0_cond323 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1465 : BitVec 32 := 1#32
  let v2219 : BitVec 1 := Scalar.cmpi .sge v8 c1_i32_1465
  let c0_i32_1466 : BitVec 32 := 0#32
  let v2220 : BitVec 32 := Scalar.addi v8 c0_i32_1466
  let c3_i32_1467 : BitVec 32 := 3#32
  let v2221 : BitVec 1 := Scalar.cmpi .sle v2220 c3_i32_1467
  let v2222 : BitVec 1 := Scalar.andi v2219 v2221
  let v2223 : BitVec 32 := Scalar.extui v2222
  let c0_i32_1468 : BitVec 32 := 0#32
  let v2224 : BitVec 1 := Scalar.cmpi .ne v2223 c0_i32_1468
  v2224

def k0_off369 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1746 : BitVec 32 := 0#32
  let v2636 : BitVec 32 := Scalar.addi v8 c0_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c896_i32_1749 : BitVec 32 := 896#32
  let v2640 : BitVec 32 := Scalar.addi v2639 c896_i32_1749
  let c0_i32_1753 : BitVec 32 := 0#32
  ![v2640.toNat, 0]
def k0_cond324 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1469 : BitVec 32 := 1#32
  let v2225 : BitVec 1 := Scalar.cmpi .sge v8 c1_i32_1469
  let v2226 : BitVec 32 := Scalar.extui v2225
  let c0_i32_1470 : BitVec 32 := 0#32
  let v2227 : BitVec 1 := Scalar.cmpi .ne v2226 c0_i32_1470
  v2227

def k0_off370 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c0_i32_1747 : BitVec 32 := 0#32
  let v2637 : BitVec 32 := Scalar.subi v2636 c0_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c896_i32_1750 : BitVec 32 := 896#32
  let v2641 : BitVec 32 := Scalar.addi v2640 c896_i32_1750
  let c0_i32_1753 : BitVec 32 := 0#32
  ![v2641.toNat, 0]
def k0_off371 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1765 : BitVec 32 := 1#32
  let v2656 : BitVec 32 := Scalar.subi v8 c1_i32_1765
  let c0_i32_1766 : BitVec 32 := 0#32
  let v2657 : BitVec 32 := Scalar.subi v2656 c0_i32_1766
  let c4096_i32_1767 : BitVec 32 := 4096#32
  let v2658 : BitVec 32 := Scalar.muli v2657 c4096_i32_1767
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1768 : BitVec 32 := 1024#32
  let v2659 : BitVec 32 := Scalar.muli v26 c1024_i32_1768
  let v2660 : BitVec 32 := Scalar.addi v2658 v2659
  let c896_i32_1769 : BitVec 32 := 896#32
  let v2661 : BitVec 32 := Scalar.addi v2660 c896_i32_1769
  let c0_i32_1773 : BitVec 32 := 0#32
  ![v2661.toNat, 0]
def k0_cond325 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1471 : BitVec 32 := 1#32
  let v2228 : BitVec 32 := Scalar.addi v8 c1_i32_1471
  let c0_i32_1472 : BitVec 32 := 0#32
  let v2229 : BitVec 32 := Scalar.addi v2228 c0_i32_1472
  let c3_i32_1473 : BitVec 32 := 3#32
  let v2230 : BitVec 1 := Scalar.cmpi .sle v2229 c3_i32_1473
  let v2231 : BitVec 32 := Scalar.extui v2230
  let c0_i32_1474 : BitVec 32 := 0#32
  let v2232 : BitVec 1 := Scalar.cmpi .ne v2231 c0_i32_1474
  v2232

def k0_off372 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c0_i32_1747 : BitVec 32 := 0#32
  let v2637 : BitVec 32 := Scalar.addi v2636 c0_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c896_i32_1750 : BitVec 32 := 896#32
  let v2641 : BitVec 32 := Scalar.addi v2640 c896_i32_1750
  let c0_i32_1753 : BitVec 32 := 0#32
  ![v2641.toNat, 0]
def k0_off373 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1765 : BitVec 32 := 1#32
  let v2656 : BitVec 32 := Scalar.addi v8 c1_i32_1765
  let c0_i32_1766 : BitVec 32 := 0#32
  let v2657 : BitVec 32 := Scalar.addi v2656 c0_i32_1766
  let c4096_i32_1767 : BitVec 32 := 4096#32
  let v2658 : BitVec 32 := Scalar.muli v2657 c4096_i32_1767
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1768 : BitVec 32 := 1024#32
  let v2659 : BitVec 32 := Scalar.muli v26 c1024_i32_1768
  let v2660 : BitVec 32 := Scalar.addi v2658 v2659
  let c896_i32_1769 : BitVec 32 := 896#32
  let v2661 : BitVec 32 := Scalar.addi v2660 c896_i32_1769
  let c0_i32_1773 : BitVec 32 := 0#32
  ![v2661.toNat, 0]
def k0_cond326 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1475 : BitVec 32 := 2#32
  let v2233 : BitVec 1 := Scalar.cmpi .sle v8 c2_i32_1475
  let c1_i32_1476 : BitVec 32 := 1#32
  let v2234 : BitVec 1 := Scalar.cmpi .sge v8 c1_i32_1476
  let v2235 : BitVec 1 := Scalar.andi v2233 v2234
  let v2236 : BitVec 32 := Scalar.extui v2235
  let c0_i32_1477 : BitVec 32 := 0#32
  let v2237 : BitVec 1 := Scalar.cmpi .ne v2236 c0_i32_1477
  v2237

def k0_off374 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c0_i32_1749 : BitVec 32 := 0#32
  let v2640 : BitVec 32 := Scalar.addi v2639 c0_i32_1749
  let c0_i32_1753 : BitVec 32 := 0#32
  ![v2640.toNat, 0]
def k0_cond327 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1478 : BitVec 32 := 1#32
  let v2238 : BitVec 1 := Scalar.cmpi .sge v8 c1_i32_1478
  let c1_i32_1479 : BitVec 32 := 1#32
  let v2239 : BitVec 32 := Scalar.addi v8 c1_i32_1479
  let c3_i32_1480 : BitVec 32 := 3#32
  let v2240 : BitVec 1 := Scalar.cmpi .sle v2239 c3_i32_1480
  let v2241 : BitVec 1 := Scalar.andi v2238 v2240
  let v2242 : BitVec 32 := Scalar.extui v2241
  let c0_i32_1481 : BitVec 32 := 0#32
  let v2243 : BitVec 1 := Scalar.cmpi .ne v2242 c0_i32_1481
  v2243

def k0_off375 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c0_i32_1749 : BitVec 32 := 0#32
  let v2640 : BitVec 32 := Scalar.addi v2639 c0_i32_1749
  let c0_i32_1753 : BitVec 32 := 0#32
  ![v2640.toNat, 0]
def k0_cond328 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1482 : BitVec 32 := 2#32
  let v2244 : BitVec 1 := Scalar.cmpi .sge v8 c2_i32_1482
  let v2245 : BitVec 32 := Scalar.extui v2244
  let c0_i32_1483 : BitVec 32 := 0#32
  let v2246 : BitVec 1 := Scalar.cmpi .ne v2245 c0_i32_1483
  v2246

def k0_off376 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c1_i32_1747 : BitVec 32 := 1#32
  let v2637 : BitVec 32 := Scalar.subi v2636 c1_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c0_i32_1750 : BitVec 32 := 0#32
  let v2641 : BitVec 32 := Scalar.addi v2640 c0_i32_1750
  let c0_i32_1753 : BitVec 32 := 0#32
  ![v2641.toNat, 0]
def k0_cond329 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1484 : BitVec 32 := 1#32
  let v2247 : BitVec 32 := Scalar.addi v8 c1_i32_1484
  let c1_i32_1485 : BitVec 32 := 1#32
  let v2248 : BitVec 32 := Scalar.addi v2247 c1_i32_1485
  let c3_i32_1486 : BitVec 32 := 3#32
  let v2249 : BitVec 1 := Scalar.cmpi .sle v2248 c3_i32_1486
  let v2250 : BitVec 32 := Scalar.extui v2249
  let c0_i32_1487 : BitVec 32 := 0#32
  let v2251 : BitVec 1 := Scalar.cmpi .ne v2250 c0_i32_1487
  v2251

def k0_off377 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c1_i32_1747 : BitVec 32 := 1#32
  let v2637 : BitVec 32 := Scalar.addi v2636 c1_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c0_i32_1750 : BitVec 32 := 0#32
  let v2641 : BitVec 32 := Scalar.addi v2640 c0_i32_1750
  let c0_i32_1753 : BitVec 32 := 0#32
  ![v2641.toNat, 0]
def k0_cond330 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1488 : BitVec 32 := 2#32
  let v2252 : BitVec 1 := Scalar.cmpi .sle v8 c2_i32_1488
  let c1_i32_1489 : BitVec 32 := 1#32
  let v2253 : BitVec 1 := Scalar.cmpi .sge v8 c1_i32_1489
  let v2254 : BitVec 1 := Scalar.andi v2252 v2253
  let v2255 : BitVec 32 := Scalar.extui v2254
  let c0_i32_1490 : BitVec 32 := 0#32
  let v2256 : BitVec 1 := Scalar.cmpi .ne v2255 c0_i32_1490
  v2256

def k0_off378 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c128_i32_1749 : BitVec 32 := 128#32
  let v2640 : BitVec 32 := Scalar.addi v2639 c128_i32_1749
  let c0_i32_1753 : BitVec 32 := 0#32
  ![v2640.toNat, 0]
def k0_cond331 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1491 : BitVec 32 := 1#32
  let v2257 : BitVec 1 := Scalar.cmpi .sge v8 c1_i32_1491
  let c1_i32_1492 : BitVec 32 := 1#32
  let v2258 : BitVec 32 := Scalar.addi v8 c1_i32_1492
  let c3_i32_1493 : BitVec 32 := 3#32
  let v2259 : BitVec 1 := Scalar.cmpi .sle v2258 c3_i32_1493
  let v2260 : BitVec 1 := Scalar.andi v2257 v2259
  let v2261 : BitVec 32 := Scalar.extui v2260
  let c0_i32_1494 : BitVec 32 := 0#32
  let v2262 : BitVec 1 := Scalar.cmpi .ne v2261 c0_i32_1494
  v2262

def k0_off379 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c128_i32_1749 : BitVec 32 := 128#32
  let v2640 : BitVec 32 := Scalar.addi v2639 c128_i32_1749
  let c0_i32_1753 : BitVec 32 := 0#32
  ![v2640.toNat, 0]
def k0_cond332 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1495 : BitVec 32 := 2#32
  let v2263 : BitVec 1 := Scalar.cmpi .sge v8 c2_i32_1495
  let v2264 : BitVec 32 := Scalar.extui v2263
  let c0_i32_1496 : BitVec 32 := 0#32
  let v2265 : BitVec 1 := Scalar.cmpi .ne v2264 c0_i32_1496
  v2265

def k0_off380 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c1_i32_1747 : BitVec 32 := 1#32
  let v2637 : BitVec 32 := Scalar.subi v2636 c1_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c128_i32_1750 : BitVec 32 := 128#32
  let v2641 : BitVec 32 := Scalar.addi v2640 c128_i32_1750
  let c0_i32_1753 : BitVec 32 := 0#32
  ![v2641.toNat, 0]
def k0_cond333 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1497 : BitVec 32 := 1#32
  let v2266 : BitVec 32 := Scalar.addi v8 c1_i32_1497
  let c1_i32_1498 : BitVec 32 := 1#32
  let v2267 : BitVec 32 := Scalar.addi v2266 c1_i32_1498
  let c3_i32_1499 : BitVec 32 := 3#32
  let v2268 : BitVec 1 := Scalar.cmpi .sle v2267 c3_i32_1499
  let v2269 : BitVec 32 := Scalar.extui v2268
  let c0_i32_1500 : BitVec 32 := 0#32
  let v2270 : BitVec 1 := Scalar.cmpi .ne v2269 c0_i32_1500
  v2270

def k0_off381 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c1_i32_1747 : BitVec 32 := 1#32
  let v2637 : BitVec 32 := Scalar.addi v2636 c1_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c128_i32_1750 : BitVec 32 := 128#32
  let v2641 : BitVec 32 := Scalar.addi v2640 c128_i32_1750
  let c0_i32_1753 : BitVec 32 := 0#32
  ![v2641.toNat, 0]
def k0_cond334 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1501 : BitVec 32 := 2#32
  let v2271 : BitVec 1 := Scalar.cmpi .sle v8 c2_i32_1501
  let c1_i32_1502 : BitVec 32 := 1#32
  let v2272 : BitVec 1 := Scalar.cmpi .sge v8 c1_i32_1502
  let v2273 : BitVec 1 := Scalar.andi v2271 v2272
  let v2274 : BitVec 32 := Scalar.extui v2273
  let c0_i32_1503 : BitVec 32 := 0#32
  let v2275 : BitVec 1 := Scalar.cmpi .ne v2274 c0_i32_1503
  v2275

def k0_off382 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c256_i32_1749 : BitVec 32 := 256#32
  let v2640 : BitVec 32 := Scalar.addi v2639 c256_i32_1749
  let c0_i32_1753 : BitVec 32 := 0#32
  ![v2640.toNat, 0]
def k0_cond335 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1504 : BitVec 32 := 1#32
  let v2276 : BitVec 1 := Scalar.cmpi .sge v8 c1_i32_1504
  let c1_i32_1505 : BitVec 32 := 1#32
  let v2277 : BitVec 32 := Scalar.addi v8 c1_i32_1505
  let c3_i32_1506 : BitVec 32 := 3#32
  let v2278 : BitVec 1 := Scalar.cmpi .sle v2277 c3_i32_1506
  let v2279 : BitVec 1 := Scalar.andi v2276 v2278
  let v2280 : BitVec 32 := Scalar.extui v2279
  let c0_i32_1507 : BitVec 32 := 0#32
  let v2281 : BitVec 1 := Scalar.cmpi .ne v2280 c0_i32_1507
  v2281

def k0_off383 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c256_i32_1749 : BitVec 32 := 256#32
  let v2640 : BitVec 32 := Scalar.addi v2639 c256_i32_1749
  let c0_i32_1753 : BitVec 32 := 0#32
  ![v2640.toNat, 0]
def k0_cond336 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1508 : BitVec 32 := 2#32
  let v2282 : BitVec 1 := Scalar.cmpi .sge v8 c2_i32_1508
  let v2283 : BitVec 32 := Scalar.extui v2282
  let c0_i32_1509 : BitVec 32 := 0#32
  let v2284 : BitVec 1 := Scalar.cmpi .ne v2283 c0_i32_1509
  v2284

def k0_off384 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c1_i32_1747 : BitVec 32 := 1#32
  let v2637 : BitVec 32 := Scalar.subi v2636 c1_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c256_i32_1750 : BitVec 32 := 256#32
  let v2641 : BitVec 32 := Scalar.addi v2640 c256_i32_1750
  let c0_i32_1753 : BitVec 32 := 0#32
  ![v2641.toNat, 0]
def k0_cond337 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1510 : BitVec 32 := 1#32
  let v2285 : BitVec 32 := Scalar.addi v8 c1_i32_1510
  let c1_i32_1511 : BitVec 32 := 1#32
  let v2286 : BitVec 32 := Scalar.addi v2285 c1_i32_1511
  let c3_i32_1512 : BitVec 32 := 3#32
  let v2287 : BitVec 1 := Scalar.cmpi .sle v2286 c3_i32_1512
  let v2288 : BitVec 32 := Scalar.extui v2287
  let c0_i32_1513 : BitVec 32 := 0#32
  let v2289 : BitVec 1 := Scalar.cmpi .ne v2288 c0_i32_1513
  v2289

def k0_off385 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c1_i32_1747 : BitVec 32 := 1#32
  let v2637 : BitVec 32 := Scalar.addi v2636 c1_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c256_i32_1750 : BitVec 32 := 256#32
  let v2641 : BitVec 32 := Scalar.addi v2640 c256_i32_1750
  let c0_i32_1753 : BitVec 32 := 0#32
  ![v2641.toNat, 0]
def k0_cond338 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1514 : BitVec 32 := 2#32
  let v2290 : BitVec 1 := Scalar.cmpi .sle v8 c2_i32_1514
  let c1_i32_1515 : BitVec 32 := 1#32
  let v2291 : BitVec 1 := Scalar.cmpi .sge v8 c1_i32_1515
  let v2292 : BitVec 1 := Scalar.andi v2290 v2291
  let v2293 : BitVec 32 := Scalar.extui v2292
  let c0_i32_1516 : BitVec 32 := 0#32
  let v2294 : BitVec 1 := Scalar.cmpi .ne v2293 c0_i32_1516
  v2294

def k0_off386 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c384_i32_1749 : BitVec 32 := 384#32
  let v2640 : BitVec 32 := Scalar.addi v2639 c384_i32_1749
  let c0_i32_1754 : BitVec 32 := 0#32
  ![v2640.toNat, 0]
def k0_cond339 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1517 : BitVec 32 := 1#32
  let v2295 : BitVec 1 := Scalar.cmpi .sge v8 c1_i32_1517
  let c1_i32_1518 : BitVec 32 := 1#32
  let v2296 : BitVec 32 := Scalar.addi v8 c1_i32_1518
  let c3_i32_1519 : BitVec 32 := 3#32
  let v2297 : BitVec 1 := Scalar.cmpi .sle v2296 c3_i32_1519
  let v2298 : BitVec 1 := Scalar.andi v2295 v2297
  let v2299 : BitVec 32 := Scalar.extui v2298
  let c0_i32_1520 : BitVec 32 := 0#32
  let v2300 : BitVec 1 := Scalar.cmpi .ne v2299 c0_i32_1520
  v2300

def k0_off387 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c384_i32_1749 : BitVec 32 := 384#32
  let v2640 : BitVec 32 := Scalar.addi v2639 c384_i32_1749
  let c0_i32_1754 : BitVec 32 := 0#32
  ![v2640.toNat, 0]
def k0_cond340 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1521 : BitVec 32 := 2#32
  let v2301 : BitVec 1 := Scalar.cmpi .sge v8 c2_i32_1521
  let v2302 : BitVec 32 := Scalar.extui v2301
  let c0_i32_1522 : BitVec 32 := 0#32
  let v2303 : BitVec 1 := Scalar.cmpi .ne v2302 c0_i32_1522
  v2303

def k0_off388 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c1_i32_1747 : BitVec 32 := 1#32
  let v2637 : BitVec 32 := Scalar.subi v2636 c1_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c384_i32_1750 : BitVec 32 := 384#32
  let v2641 : BitVec 32 := Scalar.addi v2640 c384_i32_1750
  let c0_i32_1754 : BitVec 32 := 0#32
  ![v2641.toNat, 0]
def k0_off389 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1766 : BitVec 32 := 1#32
  let v2656 : BitVec 32 := Scalar.subi v8 c1_i32_1766
  let c1_i32_1767 : BitVec 32 := 1#32
  let v2657 : BitVec 32 := Scalar.subi v2656 c1_i32_1767
  let c4096_i32_1768 : BitVec 32 := 4096#32
  let v2658 : BitVec 32 := Scalar.muli v2657 c4096_i32_1768
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1769 : BitVec 32 := 1024#32
  let v2659 : BitVec 32 := Scalar.muli v29 c1024_i32_1769
  let v2660 : BitVec 32 := Scalar.addi v2658 v2659
  let c384_i32_1770 : BitVec 32 := 384#32
  let v2661 : BitVec 32 := Scalar.addi v2660 c384_i32_1770
  let c0_i32_1774 : BitVec 32 := 0#32
  ![v2661.toNat, 0]
def k0_cond341 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1523 : BitVec 32 := 1#32
  let v2304 : BitVec 32 := Scalar.addi v8 c1_i32_1523
  let c1_i32_1524 : BitVec 32 := 1#32
  let v2305 : BitVec 32 := Scalar.addi v2304 c1_i32_1524
  let c3_i32_1525 : BitVec 32 := 3#32
  let v2306 : BitVec 1 := Scalar.cmpi .sle v2305 c3_i32_1525
  let v2307 : BitVec 32 := Scalar.extui v2306
  let c0_i32_1526 : BitVec 32 := 0#32
  let v2308 : BitVec 1 := Scalar.cmpi .ne v2307 c0_i32_1526
  v2308

def k0_off390 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c1_i32_1747 : BitVec 32 := 1#32
  let v2637 : BitVec 32 := Scalar.addi v2636 c1_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c384_i32_1750 : BitVec 32 := 384#32
  let v2641 : BitVec 32 := Scalar.addi v2640 c384_i32_1750
  let c0_i32_1754 : BitVec 32 := 0#32
  ![v2641.toNat, 0]
def k0_off391 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1766 : BitVec 32 := 1#32
  let v2656 : BitVec 32 := Scalar.addi v8 c1_i32_1766
  let c1_i32_1767 : BitVec 32 := 1#32
  let v2657 : BitVec 32 := Scalar.addi v2656 c1_i32_1767
  let c4096_i32_1768 : BitVec 32 := 4096#32
  let v2658 : BitVec 32 := Scalar.muli v2657 c4096_i32_1768
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1769 : BitVec 32 := 1024#32
  let v2659 : BitVec 32 := Scalar.muli v29 c1024_i32_1769
  let v2660 : BitVec 32 := Scalar.addi v2658 v2659
  let c384_i32_1770 : BitVec 32 := 384#32
  let v2661 : BitVec 32 := Scalar.addi v2660 c384_i32_1770
  let c0_i32_1774 : BitVec 32 := 0#32
  ![v2661.toNat, 0]
def k0_cond342 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1527 : BitVec 32 := 2#32
  let v2309 : BitVec 1 := Scalar.cmpi .sle v8 c2_i32_1527
  let c1_i32_1528 : BitVec 32 := 1#32
  let v2310 : BitVec 1 := Scalar.cmpi .sge v8 c1_i32_1528
  let v2311 : BitVec 1 := Scalar.andi v2309 v2310
  let v2312 : BitVec 32 := Scalar.extui v2311
  let c0_i32_1529 : BitVec 32 := 0#32
  let v2313 : BitVec 1 := Scalar.cmpi .ne v2312 c0_i32_1529
  v2313

def k0_off392 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c512_i32_1749 : BitVec 32 := 512#32
  let v2640 : BitVec 32 := Scalar.addi v2639 c512_i32_1749
  let c0_i32_1753 : BitVec 32 := 0#32
  ![v2640.toNat, 0]
def k0_cond343 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1530 : BitVec 32 := 1#32
  let v2314 : BitVec 1 := Scalar.cmpi .sge v8 c1_i32_1530
  let c1_i32_1531 : BitVec 32 := 1#32
  let v2315 : BitVec 32 := Scalar.addi v8 c1_i32_1531
  let c3_i32_1532 : BitVec 32 := 3#32
  let v2316 : BitVec 1 := Scalar.cmpi .sle v2315 c3_i32_1532
  let v2317 : BitVec 1 := Scalar.andi v2314 v2316
  let v2318 : BitVec 32 := Scalar.extui v2317
  let c0_i32_1533 : BitVec 32 := 0#32
  let v2319 : BitVec 1 := Scalar.cmpi .ne v2318 c0_i32_1533
  v2319

def k0_off393 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c512_i32_1749 : BitVec 32 := 512#32
  let v2640 : BitVec 32 := Scalar.addi v2639 c512_i32_1749
  let c0_i32_1753 : BitVec 32 := 0#32
  ![v2640.toNat, 0]
def k0_cond344 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1534 : BitVec 32 := 2#32
  let v2320 : BitVec 1 := Scalar.cmpi .sge v8 c2_i32_1534
  let v2321 : BitVec 32 := Scalar.extui v2320
  let c0_i32_1535 : BitVec 32 := 0#32
  let v2322 : BitVec 1 := Scalar.cmpi .ne v2321 c0_i32_1535
  v2322

def k0_off394 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c1_i32_1747 : BitVec 32 := 1#32
  let v2637 : BitVec 32 := Scalar.subi v2636 c1_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c512_i32_1750 : BitVec 32 := 512#32
  let v2641 : BitVec 32 := Scalar.addi v2640 c512_i32_1750
  let c0_i32_1753 : BitVec 32 := 0#32
  ![v2641.toNat, 0]
def k0_off395 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1765 : BitVec 32 := 1#32
  let v2656 : BitVec 32 := Scalar.subi v8 c1_i32_1765
  let c1_i32_1766 : BitVec 32 := 1#32
  let v2657 : BitVec 32 := Scalar.subi v2656 c1_i32_1766
  let c4096_i32_1767 : BitVec 32 := 4096#32
  let v2658 : BitVec 32 := Scalar.muli v2657 c4096_i32_1767
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1768 : BitVec 32 := 1024#32
  let v2659 : BitVec 32 := Scalar.muli v29 c1024_i32_1768
  let v2660 : BitVec 32 := Scalar.addi v2658 v2659
  let c512_i32_1769 : BitVec 32 := 512#32
  let v2661 : BitVec 32 := Scalar.addi v2660 c512_i32_1769
  let c0_i32_1773 : BitVec 32 := 0#32
  ![v2661.toNat, 0]
def k0_cond345 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1536 : BitVec 32 := 1#32
  let v2323 : BitVec 32 := Scalar.addi v8 c1_i32_1536
  let c1_i32_1537 : BitVec 32 := 1#32
  let v2324 : BitVec 32 := Scalar.addi v2323 c1_i32_1537
  let c3_i32_1538 : BitVec 32 := 3#32
  let v2325 : BitVec 1 := Scalar.cmpi .sle v2324 c3_i32_1538
  let v2326 : BitVec 32 := Scalar.extui v2325
  let c0_i32_1539 : BitVec 32 := 0#32
  let v2327 : BitVec 1 := Scalar.cmpi .ne v2326 c0_i32_1539
  v2327

def k0_off396 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c1_i32_1747 : BitVec 32 := 1#32
  let v2637 : BitVec 32 := Scalar.addi v2636 c1_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c512_i32_1750 : BitVec 32 := 512#32
  let v2641 : BitVec 32 := Scalar.addi v2640 c512_i32_1750
  let c0_i32_1753 : BitVec 32 := 0#32
  ![v2641.toNat, 0]
def k0_off397 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1765 : BitVec 32 := 1#32
  let v2656 : BitVec 32 := Scalar.addi v8 c1_i32_1765
  let c1_i32_1766 : BitVec 32 := 1#32
  let v2657 : BitVec 32 := Scalar.addi v2656 c1_i32_1766
  let c4096_i32_1767 : BitVec 32 := 4096#32
  let v2658 : BitVec 32 := Scalar.muli v2657 c4096_i32_1767
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1768 : BitVec 32 := 1024#32
  let v2659 : BitVec 32 := Scalar.muli v29 c1024_i32_1768
  let v2660 : BitVec 32 := Scalar.addi v2658 v2659
  let c512_i32_1769 : BitVec 32 := 512#32
  let v2661 : BitVec 32 := Scalar.addi v2660 c512_i32_1769
  let c0_i32_1773 : BitVec 32 := 0#32
  ![v2661.toNat, 0]
def k0_cond346 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1540 : BitVec 32 := 2#32
  let v2328 : BitVec 1 := Scalar.cmpi .sle v8 c2_i32_1540
  let c1_i32_1541 : BitVec 32 := 1#32
  let v2329 : BitVec 1 := Scalar.cmpi .sge v8 c1_i32_1541
  let v2330 : BitVec 1 := Scalar.andi v2328 v2329
  let v2331 : BitVec 32 := Scalar.extui v2330
  let c0_i32_1542 : BitVec 32 := 0#32
  let v2332 : BitVec 1 := Scalar.cmpi .ne v2331 c0_i32_1542
  v2332

def k0_off398 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c640_i32_1749 : BitVec 32 := 640#32
  let v2640 : BitVec 32 := Scalar.addi v2639 c640_i32_1749
  let c0_i32_1753 : BitVec 32 := 0#32
  ![v2640.toNat, 0]
def k0_cond347 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1543 : BitVec 32 := 1#32
  let v2333 : BitVec 1 := Scalar.cmpi .sge v8 c1_i32_1543
  let c1_i32_1544 : BitVec 32 := 1#32
  let v2334 : BitVec 32 := Scalar.addi v8 c1_i32_1544
  let c3_i32_1545 : BitVec 32 := 3#32
  let v2335 : BitVec 1 := Scalar.cmpi .sle v2334 c3_i32_1545
  let v2336 : BitVec 1 := Scalar.andi v2333 v2335
  let v2337 : BitVec 32 := Scalar.extui v2336
  let c0_i32_1546 : BitVec 32 := 0#32
  let v2338 : BitVec 1 := Scalar.cmpi .ne v2337 c0_i32_1546
  v2338

def k0_off399 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c640_i32_1749 : BitVec 32 := 640#32
  let v2640 : BitVec 32 := Scalar.addi v2639 c640_i32_1749
  let c0_i32_1753 : BitVec 32 := 0#32
  ![v2640.toNat, 0]
def k0_cond348 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1547 : BitVec 32 := 2#32
  let v2339 : BitVec 1 := Scalar.cmpi .sge v8 c2_i32_1547
  let v2340 : BitVec 32 := Scalar.extui v2339
  let c0_i32_1548 : BitVec 32 := 0#32
  let v2341 : BitVec 1 := Scalar.cmpi .ne v2340 c0_i32_1548
  v2341

def k0_off400 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c1_i32_1747 : BitVec 32 := 1#32
  let v2637 : BitVec 32 := Scalar.subi v2636 c1_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c640_i32_1750 : BitVec 32 := 640#32
  let v2641 : BitVec 32 := Scalar.addi v2640 c640_i32_1750
  let c0_i32_1753 : BitVec 32 := 0#32
  ![v2641.toNat, 0]
def k0_off401 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1765 : BitVec 32 := 1#32
  let v2656 : BitVec 32 := Scalar.subi v8 c1_i32_1765
  let c1_i32_1766 : BitVec 32 := 1#32
  let v2657 : BitVec 32 := Scalar.subi v2656 c1_i32_1766
  let c4096_i32_1767 : BitVec 32 := 4096#32
  let v2658 : BitVec 32 := Scalar.muli v2657 c4096_i32_1767
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1768 : BitVec 32 := 1024#32
  let v2659 : BitVec 32 := Scalar.muli v26 c1024_i32_1768
  let v2660 : BitVec 32 := Scalar.addi v2658 v2659
  let c640_i32_1769 : BitVec 32 := 640#32
  let v2661 : BitVec 32 := Scalar.addi v2660 c640_i32_1769
  let c0_i32_1773 : BitVec 32 := 0#32
  ![v2661.toNat, 0]
def k0_cond349 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1549 : BitVec 32 := 1#32
  let v2342 : BitVec 32 := Scalar.addi v8 c1_i32_1549
  let c1_i32_1550 : BitVec 32 := 1#32
  let v2343 : BitVec 32 := Scalar.addi v2342 c1_i32_1550
  let c3_i32_1551 : BitVec 32 := 3#32
  let v2344 : BitVec 1 := Scalar.cmpi .sle v2343 c3_i32_1551
  let v2345 : BitVec 32 := Scalar.extui v2344
  let c0_i32_1552 : BitVec 32 := 0#32
  let v2346 : BitVec 1 := Scalar.cmpi .ne v2345 c0_i32_1552
  v2346

def k0_off402 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c1_i32_1747 : BitVec 32 := 1#32
  let v2637 : BitVec 32 := Scalar.addi v2636 c1_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c640_i32_1750 : BitVec 32 := 640#32
  let v2641 : BitVec 32 := Scalar.addi v2640 c640_i32_1750
  let c0_i32_1753 : BitVec 32 := 0#32
  ![v2641.toNat, 0]
def k0_off403 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1765 : BitVec 32 := 1#32
  let v2656 : BitVec 32 := Scalar.addi v8 c1_i32_1765
  let c1_i32_1766 : BitVec 32 := 1#32
  let v2657 : BitVec 32 := Scalar.addi v2656 c1_i32_1766
  let c4096_i32_1767 : BitVec 32 := 4096#32
  let v2658 : BitVec 32 := Scalar.muli v2657 c4096_i32_1767
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1768 : BitVec 32 := 1024#32
  let v2659 : BitVec 32 := Scalar.muli v26 c1024_i32_1768
  let v2660 : BitVec 32 := Scalar.addi v2658 v2659
  let c640_i32_1769 : BitVec 32 := 640#32
  let v2661 : BitVec 32 := Scalar.addi v2660 c640_i32_1769
  let c0_i32_1773 : BitVec 32 := 0#32
  ![v2661.toNat, 0]
def k0_cond350 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1553 : BitVec 32 := 2#32
  let v2347 : BitVec 1 := Scalar.cmpi .sle v8 c2_i32_1553
  let c1_i32_1554 : BitVec 32 := 1#32
  let v2348 : BitVec 1 := Scalar.cmpi .sge v8 c1_i32_1554
  let v2349 : BitVec 1 := Scalar.andi v2347 v2348
  let v2350 : BitVec 32 := Scalar.extui v2349
  let c0_i32_1555 : BitVec 32 := 0#32
  let v2351 : BitVec 1 := Scalar.cmpi .ne v2350 c0_i32_1555
  v2351

def k0_off404 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c768_i32_1749 : BitVec 32 := 768#32
  let v2640 : BitVec 32 := Scalar.addi v2639 c768_i32_1749
  let c0_i32_1753 : BitVec 32 := 0#32
  ![v2640.toNat, 0]
def k0_cond351 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1556 : BitVec 32 := 1#32
  let v2352 : BitVec 1 := Scalar.cmpi .sge v8 c1_i32_1556
  let c1_i32_1557 : BitVec 32 := 1#32
  let v2353 : BitVec 32 := Scalar.addi v8 c1_i32_1557
  let c3_i32_1558 : BitVec 32 := 3#32
  let v2354 : BitVec 1 := Scalar.cmpi .sle v2353 c3_i32_1558
  let v2355 : BitVec 1 := Scalar.andi v2352 v2354
  let v2356 : BitVec 32 := Scalar.extui v2355
  let c0_i32_1559 : BitVec 32 := 0#32
  let v2357 : BitVec 1 := Scalar.cmpi .ne v2356 c0_i32_1559
  v2357

def k0_off405 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c768_i32_1749 : BitVec 32 := 768#32
  let v2640 : BitVec 32 := Scalar.addi v2639 c768_i32_1749
  let c0_i32_1753 : BitVec 32 := 0#32
  ![v2640.toNat, 0]
def k0_cond352 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1560 : BitVec 32 := 2#32
  let v2358 : BitVec 1 := Scalar.cmpi .sge v8 c2_i32_1560
  let v2359 : BitVec 32 := Scalar.extui v2358
  let c0_i32_1561 : BitVec 32 := 0#32
  let v2360 : BitVec 1 := Scalar.cmpi .ne v2359 c0_i32_1561
  v2360

def k0_off406 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c1_i32_1747 : BitVec 32 := 1#32
  let v2637 : BitVec 32 := Scalar.subi v2636 c1_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c768_i32_1750 : BitVec 32 := 768#32
  let v2641 : BitVec 32 := Scalar.addi v2640 c768_i32_1750
  let c0_i32_1753 : BitVec 32 := 0#32
  ![v2641.toNat, 0]
def k0_off407 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1765 : BitVec 32 := 1#32
  let v2656 : BitVec 32 := Scalar.subi v8 c1_i32_1765
  let c1_i32_1766 : BitVec 32 := 1#32
  let v2657 : BitVec 32 := Scalar.subi v2656 c1_i32_1766
  let c4096_i32_1767 : BitVec 32 := 4096#32
  let v2658 : BitVec 32 := Scalar.muli v2657 c4096_i32_1767
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1768 : BitVec 32 := 1024#32
  let v2659 : BitVec 32 := Scalar.muli v26 c1024_i32_1768
  let v2660 : BitVec 32 := Scalar.addi v2658 v2659
  let c768_i32_1769 : BitVec 32 := 768#32
  let v2661 : BitVec 32 := Scalar.addi v2660 c768_i32_1769
  let c0_i32_1773 : BitVec 32 := 0#32
  ![v2661.toNat, 0]
def k0_cond353 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1562 : BitVec 32 := 1#32
  let v2361 : BitVec 32 := Scalar.addi v8 c1_i32_1562
  let c1_i32_1563 : BitVec 32 := 1#32
  let v2362 : BitVec 32 := Scalar.addi v2361 c1_i32_1563
  let c3_i32_1564 : BitVec 32 := 3#32
  let v2363 : BitVec 1 := Scalar.cmpi .sle v2362 c3_i32_1564
  let v2364 : BitVec 32 := Scalar.extui v2363
  let c0_i32_1565 : BitVec 32 := 0#32
  let v2365 : BitVec 1 := Scalar.cmpi .ne v2364 c0_i32_1565
  v2365

def k0_off408 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c1_i32_1747 : BitVec 32 := 1#32
  let v2637 : BitVec 32 := Scalar.addi v2636 c1_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c768_i32_1750 : BitVec 32 := 768#32
  let v2641 : BitVec 32 := Scalar.addi v2640 c768_i32_1750
  let c0_i32_1753 : BitVec 32 := 0#32
  ![v2641.toNat, 0]
def k0_off409 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1765 : BitVec 32 := 1#32
  let v2656 : BitVec 32 := Scalar.addi v8 c1_i32_1765
  let c1_i32_1766 : BitVec 32 := 1#32
  let v2657 : BitVec 32 := Scalar.addi v2656 c1_i32_1766
  let c4096_i32_1767 : BitVec 32 := 4096#32
  let v2658 : BitVec 32 := Scalar.muli v2657 c4096_i32_1767
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1768 : BitVec 32 := 1024#32
  let v2659 : BitVec 32 := Scalar.muli v26 c1024_i32_1768
  let v2660 : BitVec 32 := Scalar.addi v2658 v2659
  let c768_i32_1769 : BitVec 32 := 768#32
  let v2661 : BitVec 32 := Scalar.addi v2660 c768_i32_1769
  let c0_i32_1773 : BitVec 32 := 0#32
  ![v2661.toNat, 0]
def k0_cond354 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1566 : BitVec 32 := 2#32
  let v2366 : BitVec 1 := Scalar.cmpi .sle v8 c2_i32_1566
  let c1_i32_1567 : BitVec 32 := 1#32
  let v2367 : BitVec 1 := Scalar.cmpi .sge v8 c1_i32_1567
  let v2368 : BitVec 1 := Scalar.andi v2366 v2367
  let v2369 : BitVec 32 := Scalar.extui v2368
  let c0_i32_1568 : BitVec 32 := 0#32
  let v2370 : BitVec 1 := Scalar.cmpi .ne v2369 c0_i32_1568
  v2370

def k0_off410 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c896_i32_1749 : BitVec 32 := 896#32
  let v2640 : BitVec 32 := Scalar.addi v2639 c896_i32_1749
  let c0_i32_1753 : BitVec 32 := 0#32
  ![v2640.toNat, 0]
def k0_cond355 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1569 : BitVec 32 := 1#32
  let v2371 : BitVec 1 := Scalar.cmpi .sge v8 c1_i32_1569
  let c1_i32_1570 : BitVec 32 := 1#32
  let v2372 : BitVec 32 := Scalar.addi v8 c1_i32_1570
  let c3_i32_1571 : BitVec 32 := 3#32
  let v2373 : BitVec 1 := Scalar.cmpi .sle v2372 c3_i32_1571
  let v2374 : BitVec 1 := Scalar.andi v2371 v2373
  let v2375 : BitVec 32 := Scalar.extui v2374
  let c0_i32_1572 : BitVec 32 := 0#32
  let v2376 : BitVec 1 := Scalar.cmpi .ne v2375 c0_i32_1572
  v2376

def k0_off411 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c896_i32_1749 : BitVec 32 := 896#32
  let v2640 : BitVec 32 := Scalar.addi v2639 c896_i32_1749
  let c0_i32_1753 : BitVec 32 := 0#32
  ![v2640.toNat, 0]
def k0_cond356 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1573 : BitVec 32 := 2#32
  let v2377 : BitVec 1 := Scalar.cmpi .sge v8 c2_i32_1573
  let v2378 : BitVec 32 := Scalar.extui v2377
  let c0_i32_1574 : BitVec 32 := 0#32
  let v2379 : BitVec 1 := Scalar.cmpi .ne v2378 c0_i32_1574
  v2379

def k0_off412 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c1_i32_1747 : BitVec 32 := 1#32
  let v2637 : BitVec 32 := Scalar.subi v2636 c1_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c896_i32_1750 : BitVec 32 := 896#32
  let v2641 : BitVec 32 := Scalar.addi v2640 c896_i32_1750
  let c0_i32_1753 : BitVec 32 := 0#32
  ![v2641.toNat, 0]
def k0_off413 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1765 : BitVec 32 := 1#32
  let v2656 : BitVec 32 := Scalar.subi v8 c1_i32_1765
  let c1_i32_1766 : BitVec 32 := 1#32
  let v2657 : BitVec 32 := Scalar.subi v2656 c1_i32_1766
  let c4096_i32_1767 : BitVec 32 := 4096#32
  let v2658 : BitVec 32 := Scalar.muli v2657 c4096_i32_1767
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1768 : BitVec 32 := 1024#32
  let v2659 : BitVec 32 := Scalar.muli v26 c1024_i32_1768
  let v2660 : BitVec 32 := Scalar.addi v2658 v2659
  let c896_i32_1769 : BitVec 32 := 896#32
  let v2661 : BitVec 32 := Scalar.addi v2660 c896_i32_1769
  let c0_i32_1773 : BitVec 32 := 0#32
  ![v2661.toNat, 0]
def k0_cond357 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1575 : BitVec 32 := 1#32
  let v2380 : BitVec 32 := Scalar.addi v8 c1_i32_1575
  let c1_i32_1576 : BitVec 32 := 1#32
  let v2381 : BitVec 32 := Scalar.addi v2380 c1_i32_1576
  let c3_i32_1577 : BitVec 32 := 3#32
  let v2382 : BitVec 1 := Scalar.cmpi .sle v2381 c3_i32_1577
  let v2383 : BitVec 32 := Scalar.extui v2382
  let c0_i32_1578 : BitVec 32 := 0#32
  let v2384 : BitVec 1 := Scalar.cmpi .ne v2383 c0_i32_1578
  v2384

def k0_off414 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c1_i32_1747 : BitVec 32 := 1#32
  let v2637 : BitVec 32 := Scalar.addi v2636 c1_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c896_i32_1750 : BitVec 32 := 896#32
  let v2641 : BitVec 32 := Scalar.addi v2640 c896_i32_1750
  let c0_i32_1753 : BitVec 32 := 0#32
  ![v2641.toNat, 0]
def k0_off415 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1765 : BitVec 32 := 1#32
  let v2656 : BitVec 32 := Scalar.addi v8 c1_i32_1765
  let c1_i32_1766 : BitVec 32 := 1#32
  let v2657 : BitVec 32 := Scalar.addi v2656 c1_i32_1766
  let c4096_i32_1767 : BitVec 32 := 4096#32
  let v2658 : BitVec 32 := Scalar.muli v2657 c4096_i32_1767
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1768 : BitVec 32 := 1024#32
  let v2659 : BitVec 32 := Scalar.muli v26 c1024_i32_1768
  let v2660 : BitVec 32 := Scalar.addi v2658 v2659
  let c896_i32_1769 : BitVec 32 := 896#32
  let v2661 : BitVec 32 := Scalar.addi v2660 c896_i32_1769
  let c0_i32_1773 : BitVec 32 := 0#32
  ![v2661.toNat, 0]
def k0_cond358 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1579 : BitVec 32 := 2#32
  let v2385 : BitVec 1 := Scalar.cmpi .sle v8 c2_i32_1579
  let c2_i32_1580 : BitVec 32 := 2#32
  let v2386 : BitVec 1 := Scalar.cmpi .sge v8 c2_i32_1580
  let v2387 : BitVec 1 := Scalar.andi v2385 v2386
  let v2388 : BitVec 32 := Scalar.extui v2387
  let c0_i32_1581 : BitVec 32 := 0#32
  let v2389 : BitVec 1 := Scalar.cmpi .ne v2388 c0_i32_1581
  v2389

def k0_off416 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1746 : BitVec 32 := 2#32
  let v2636 : BitVec 32 := Scalar.subi v8 c2_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c0_i32_1749 : BitVec 32 := 0#32
  let v2640 : BitVec 32 := Scalar.addi v2639 c0_i32_1749
  let c0_i32_1754 : BitVec 32 := 0#32
  ![v2640.toNat, 0]
def k0_cond359 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1582 : BitVec 32 := 1#32
  let v2390 : BitVec 1 := Scalar.cmpi .sge v8 c1_i32_1582
  let c2_i32_1583 : BitVec 32 := 2#32
  let v2391 : BitVec 32 := Scalar.addi v8 c2_i32_1583
  let c3_i32_1584 : BitVec 32 := 3#32
  let v2392 : BitVec 1 := Scalar.cmpi .sle v2391 c3_i32_1584
  let v2393 : BitVec 1 := Scalar.andi v2390 v2392
  let v2394 : BitVec 32 := Scalar.extui v2393
  let c0_i32_1585 : BitVec 32 := 0#32
  let v2395 : BitVec 1 := Scalar.cmpi .ne v2394 c0_i32_1585
  v2395

def k0_off417 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1746 : BitVec 32 := 2#32
  let v2636 : BitVec 32 := Scalar.addi v8 c2_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c0_i32_1749 : BitVec 32 := 0#32
  let v2640 : BitVec 32 := Scalar.addi v2639 c0_i32_1749
  let c0_i32_1754 : BitVec 32 := 0#32
  ![v2640.toNat, 0]
def k0_cond360 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1586 : BitVec 32 := 3#32
  let v2396 : BitVec 1 := Scalar.cmpi .sge v8 c3_i32_1586
  let v2397 : BitVec 32 := Scalar.extui v2396
  let c0_i32_1587 : BitVec 32 := 0#32
  let v2398 : BitVec 1 := Scalar.cmpi .ne v2397 c0_i32_1587
  v2398

def k0_off418 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c2_i32_1747 : BitVec 32 := 2#32
  let v2637 : BitVec 32 := Scalar.subi v2636 c2_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c0_i32_1750 : BitVec 32 := 0#32
  let v2641 : BitVec 32 := Scalar.addi v2640 c0_i32_1750
  let c0_i32_1754 : BitVec 32 := 0#32
  ![v2641.toNat, 0]
def k0_cond361 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1588 : BitVec 32 := 1#32
  let v2399 : BitVec 32 := Scalar.addi v8 c1_i32_1588
  let c2_i32_1589 : BitVec 32 := 2#32
  let v2400 : BitVec 32 := Scalar.addi v2399 c2_i32_1589
  let c3_i32_1590 : BitVec 32 := 3#32
  let v2401 : BitVec 1 := Scalar.cmpi .sle v2400 c3_i32_1590
  let v2402 : BitVec 32 := Scalar.extui v2401
  let c0_i32_1591 : BitVec 32 := 0#32
  let v2403 : BitVec 1 := Scalar.cmpi .ne v2402 c0_i32_1591
  v2403

def k0_off419 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c2_i32_1747 : BitVec 32 := 2#32
  let v2637 : BitVec 32 := Scalar.addi v2636 c2_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c0_i32_1750 : BitVec 32 := 0#32
  let v2641 : BitVec 32 := Scalar.addi v2640 c0_i32_1750
  let c0_i32_1754 : BitVec 32 := 0#32
  ![v2641.toNat, 0]
def k0_cond362 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1592 : BitVec 32 := 2#32
  let v2404 : BitVec 1 := Scalar.cmpi .sle v8 c2_i32_1592
  let c2_i32_1593 : BitVec 32 := 2#32
  let v2405 : BitVec 1 := Scalar.cmpi .sge v8 c2_i32_1593
  let v2406 : BitVec 1 := Scalar.andi v2404 v2405
  let v2407 : BitVec 32 := Scalar.extui v2406
  let c0_i32_1594 : BitVec 32 := 0#32
  let v2408 : BitVec 1 := Scalar.cmpi .ne v2407 c0_i32_1594
  v2408

def k0_off420 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1746 : BitVec 32 := 2#32
  let v2636 : BitVec 32 := Scalar.subi v8 c2_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c128_i32_1749 : BitVec 32 := 128#32
  let v2640 : BitVec 32 := Scalar.addi v2639 c128_i32_1749
  let c0_i32_1753 : BitVec 32 := 0#32
  ![v2640.toNat, 0]
def k0_cond363 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1595 : BitVec 32 := 1#32
  let v2409 : BitVec 1 := Scalar.cmpi .sge v8 c1_i32_1595
  let c2_i32_1596 : BitVec 32 := 2#32
  let v2410 : BitVec 32 := Scalar.addi v8 c2_i32_1596
  let c3_i32_1597 : BitVec 32 := 3#32
  let v2411 : BitVec 1 := Scalar.cmpi .sle v2410 c3_i32_1597
  let v2412 : BitVec 1 := Scalar.andi v2409 v2411
  let v2413 : BitVec 32 := Scalar.extui v2412
  let c0_i32_1598 : BitVec 32 := 0#32
  let v2414 : BitVec 1 := Scalar.cmpi .ne v2413 c0_i32_1598
  v2414

def k0_off421 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1746 : BitVec 32 := 2#32
  let v2636 : BitVec 32 := Scalar.addi v8 c2_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c128_i32_1749 : BitVec 32 := 128#32
  let v2640 : BitVec 32 := Scalar.addi v2639 c128_i32_1749
  let c0_i32_1753 : BitVec 32 := 0#32
  ![v2640.toNat, 0]
def k0_cond364 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1599 : BitVec 32 := 3#32
  let v2415 : BitVec 1 := Scalar.cmpi .sge v8 c3_i32_1599
  let v2416 : BitVec 32 := Scalar.extui v2415
  let c0_i32_1600 : BitVec 32 := 0#32
  let v2417 : BitVec 1 := Scalar.cmpi .ne v2416 c0_i32_1600
  v2417

def k0_off422 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c2_i32_1747 : BitVec 32 := 2#32
  let v2637 : BitVec 32 := Scalar.subi v2636 c2_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c128_i32_1750 : BitVec 32 := 128#32
  let v2641 : BitVec 32 := Scalar.addi v2640 c128_i32_1750
  let c0_i32_1753 : BitVec 32 := 0#32
  ![v2641.toNat, 0]
def k0_cond365 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1601 : BitVec 32 := 1#32
  let v2418 : BitVec 32 := Scalar.addi v8 c1_i32_1601
  let c2_i32_1602 : BitVec 32 := 2#32
  let v2419 : BitVec 32 := Scalar.addi v2418 c2_i32_1602
  let c3_i32_1603 : BitVec 32 := 3#32
  let v2420 : BitVec 1 := Scalar.cmpi .sle v2419 c3_i32_1603
  let v2421 : BitVec 32 := Scalar.extui v2420
  let c0_i32_1604 : BitVec 32 := 0#32
  let v2422 : BitVec 1 := Scalar.cmpi .ne v2421 c0_i32_1604
  v2422

def k0_off423 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c2_i32_1747 : BitVec 32 := 2#32
  let v2637 : BitVec 32 := Scalar.addi v2636 c2_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c128_i32_1750 : BitVec 32 := 128#32
  let v2641 : BitVec 32 := Scalar.addi v2640 c128_i32_1750
  let c0_i32_1753 : BitVec 32 := 0#32
  ![v2641.toNat, 0]
def k0_cond366 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1605 : BitVec 32 := 2#32
  let v2423 : BitVec 1 := Scalar.cmpi .sle v8 c2_i32_1605
  let c2_i32_1606 : BitVec 32 := 2#32
  let v2424 : BitVec 1 := Scalar.cmpi .sge v8 c2_i32_1606
  let v2425 : BitVec 1 := Scalar.andi v2423 v2424
  let v2426 : BitVec 32 := Scalar.extui v2425
  let c0_i32_1607 : BitVec 32 := 0#32
  let v2427 : BitVec 1 := Scalar.cmpi .ne v2426 c0_i32_1607
  v2427

def k0_off424 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1746 : BitVec 32 := 2#32
  let v2636 : BitVec 32 := Scalar.subi v8 c2_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c256_i32_1749 : BitVec 32 := 256#32
  let v2640 : BitVec 32 := Scalar.addi v2639 c256_i32_1749
  let c0_i32_1753 : BitVec 32 := 0#32
  ![v2640.toNat, 0]
def k0_cond367 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1608 : BitVec 32 := 1#32
  let v2428 : BitVec 1 := Scalar.cmpi .sge v8 c1_i32_1608
  let c2_i32_1609 : BitVec 32 := 2#32
  let v2429 : BitVec 32 := Scalar.addi v8 c2_i32_1609
  let c3_i32_1610 : BitVec 32 := 3#32
  let v2430 : BitVec 1 := Scalar.cmpi .sle v2429 c3_i32_1610
  let v2431 : BitVec 1 := Scalar.andi v2428 v2430
  let v2432 : BitVec 32 := Scalar.extui v2431
  let c0_i32_1611 : BitVec 32 := 0#32
  let v2433 : BitVec 1 := Scalar.cmpi .ne v2432 c0_i32_1611
  v2433

def k0_off425 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1746 : BitVec 32 := 2#32
  let v2636 : BitVec 32 := Scalar.addi v8 c2_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c256_i32_1749 : BitVec 32 := 256#32
  let v2640 : BitVec 32 := Scalar.addi v2639 c256_i32_1749
  let c0_i32_1753 : BitVec 32 := 0#32
  ![v2640.toNat, 0]
def k0_cond368 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1612 : BitVec 32 := 3#32
  let v2434 : BitVec 1 := Scalar.cmpi .sge v8 c3_i32_1612
  let v2435 : BitVec 32 := Scalar.extui v2434
  let c0_i32_1613 : BitVec 32 := 0#32
  let v2436 : BitVec 1 := Scalar.cmpi .ne v2435 c0_i32_1613
  v2436

def k0_off426 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c2_i32_1747 : BitVec 32 := 2#32
  let v2637 : BitVec 32 := Scalar.subi v2636 c2_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c256_i32_1750 : BitVec 32 := 256#32
  let v2641 : BitVec 32 := Scalar.addi v2640 c256_i32_1750
  let c0_i32_1753 : BitVec 32 := 0#32
  ![v2641.toNat, 0]
def k0_cond369 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1614 : BitVec 32 := 1#32
  let v2437 : BitVec 32 := Scalar.addi v8 c1_i32_1614
  let c2_i32_1615 : BitVec 32 := 2#32
  let v2438 : BitVec 32 := Scalar.addi v2437 c2_i32_1615
  let c3_i32_1616 : BitVec 32 := 3#32
  let v2439 : BitVec 1 := Scalar.cmpi .sle v2438 c3_i32_1616
  let v2440 : BitVec 32 := Scalar.extui v2439
  let c0_i32_1617 : BitVec 32 := 0#32
  let v2441 : BitVec 1 := Scalar.cmpi .ne v2440 c0_i32_1617
  v2441

def k0_off427 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c2_i32_1747 : BitVec 32 := 2#32
  let v2637 : BitVec 32 := Scalar.addi v2636 c2_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c256_i32_1750 : BitVec 32 := 256#32
  let v2641 : BitVec 32 := Scalar.addi v2640 c256_i32_1750
  let c0_i32_1753 : BitVec 32 := 0#32
  ![v2641.toNat, 0]
def k0_cond370 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1618 : BitVec 32 := 2#32
  let v2442 : BitVec 1 := Scalar.cmpi .sle v8 c2_i32_1618
  let c2_i32_1619 : BitVec 32 := 2#32
  let v2443 : BitVec 1 := Scalar.cmpi .sge v8 c2_i32_1619
  let v2444 : BitVec 1 := Scalar.andi v2442 v2443
  let v2445 : BitVec 32 := Scalar.extui v2444
  let c0_i32_1620 : BitVec 32 := 0#32
  let v2446 : BitVec 1 := Scalar.cmpi .ne v2445 c0_i32_1620
  v2446

def k0_off428 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1746 : BitVec 32 := 2#32
  let v2636 : BitVec 32 := Scalar.subi v8 c2_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c384_i32_1749 : BitVec 32 := 384#32
  let v2640 : BitVec 32 := Scalar.addi v2639 c384_i32_1749
  let c0_i32_1753 : BitVec 32 := 0#32
  ![v2640.toNat, 0]
def k0_cond371 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1621 : BitVec 32 := 1#32
  let v2447 : BitVec 1 := Scalar.cmpi .sge v8 c1_i32_1621
  let c2_i32_1622 : BitVec 32 := 2#32
  let v2448 : BitVec 32 := Scalar.addi v8 c2_i32_1622
  let c3_i32_1623 : BitVec 32 := 3#32
  let v2449 : BitVec 1 := Scalar.cmpi .sle v2448 c3_i32_1623
  let v2450 : BitVec 1 := Scalar.andi v2447 v2449
  let v2451 : BitVec 32 := Scalar.extui v2450
  let c0_i32_1624 : BitVec 32 := 0#32
  let v2452 : BitVec 1 := Scalar.cmpi .ne v2451 c0_i32_1624
  v2452

def k0_off429 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1746 : BitVec 32 := 2#32
  let v2636 : BitVec 32 := Scalar.addi v8 c2_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c384_i32_1749 : BitVec 32 := 384#32
  let v2640 : BitVec 32 := Scalar.addi v2639 c384_i32_1749
  let c0_i32_1753 : BitVec 32 := 0#32
  ![v2640.toNat, 0]
def k0_cond372 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1625 : BitVec 32 := 3#32
  let v2453 : BitVec 1 := Scalar.cmpi .sge v8 c3_i32_1625
  let v2454 : BitVec 32 := Scalar.extui v2453
  let c0_i32_1626 : BitVec 32 := 0#32
  let v2455 : BitVec 1 := Scalar.cmpi .ne v2454 c0_i32_1626
  v2455

def k0_off430 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c2_i32_1747 : BitVec 32 := 2#32
  let v2637 : BitVec 32 := Scalar.subi v2636 c2_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c384_i32_1750 : BitVec 32 := 384#32
  let v2641 : BitVec 32 := Scalar.addi v2640 c384_i32_1750
  let c0_i32_1753 : BitVec 32 := 0#32
  ![v2641.toNat, 0]
def k0_off431 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1765 : BitVec 32 := 1#32
  let v2656 : BitVec 32 := Scalar.subi v8 c1_i32_1765
  let c2_i32_1766 : BitVec 32 := 2#32
  let v2657 : BitVec 32 := Scalar.subi v2656 c2_i32_1766
  let c4096_i32_1767 : BitVec 32 := 4096#32
  let v2658 : BitVec 32 := Scalar.muli v2657 c4096_i32_1767
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1768 : BitVec 32 := 1024#32
  let v2659 : BitVec 32 := Scalar.muli v29 c1024_i32_1768
  let v2660 : BitVec 32 := Scalar.addi v2658 v2659
  let c384_i32_1769 : BitVec 32 := 384#32
  let v2661 : BitVec 32 := Scalar.addi v2660 c384_i32_1769
  let c0_i32_1773 : BitVec 32 := 0#32
  ![v2661.toNat, 0]
def k0_cond373 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1627 : BitVec 32 := 1#32
  let v2456 : BitVec 32 := Scalar.addi v8 c1_i32_1627
  let c2_i32_1628 : BitVec 32 := 2#32
  let v2457 : BitVec 32 := Scalar.addi v2456 c2_i32_1628
  let c3_i32_1629 : BitVec 32 := 3#32
  let v2458 : BitVec 1 := Scalar.cmpi .sle v2457 c3_i32_1629
  let v2459 : BitVec 32 := Scalar.extui v2458
  let c0_i32_1630 : BitVec 32 := 0#32
  let v2460 : BitVec 1 := Scalar.cmpi .ne v2459 c0_i32_1630
  v2460

def k0_off432 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c2_i32_1747 : BitVec 32 := 2#32
  let v2637 : BitVec 32 := Scalar.addi v2636 c2_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c384_i32_1750 : BitVec 32 := 384#32
  let v2641 : BitVec 32 := Scalar.addi v2640 c384_i32_1750
  let c0_i32_1753 : BitVec 32 := 0#32
  ![v2641.toNat, 0]
def k0_off433 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1765 : BitVec 32 := 1#32
  let v2656 : BitVec 32 := Scalar.addi v8 c1_i32_1765
  let c2_i32_1766 : BitVec 32 := 2#32
  let v2657 : BitVec 32 := Scalar.addi v2656 c2_i32_1766
  let c4096_i32_1767 : BitVec 32 := 4096#32
  let v2658 : BitVec 32 := Scalar.muli v2657 c4096_i32_1767
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1768 : BitVec 32 := 1024#32
  let v2659 : BitVec 32 := Scalar.muli v29 c1024_i32_1768
  let v2660 : BitVec 32 := Scalar.addi v2658 v2659
  let c384_i32_1769 : BitVec 32 := 384#32
  let v2661 : BitVec 32 := Scalar.addi v2660 c384_i32_1769
  let c0_i32_1773 : BitVec 32 := 0#32
  ![v2661.toNat, 0]
def k0_cond374 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1631 : BitVec 32 := 2#32
  let v2461 : BitVec 1 := Scalar.cmpi .sle v8 c2_i32_1631
  let c2_i32_1632 : BitVec 32 := 2#32
  let v2462 : BitVec 1 := Scalar.cmpi .sge v8 c2_i32_1632
  let v2463 : BitVec 1 := Scalar.andi v2461 v2462
  let v2464 : BitVec 32 := Scalar.extui v2463
  let c0_i32_1633 : BitVec 32 := 0#32
  let v2465 : BitVec 1 := Scalar.cmpi .ne v2464 c0_i32_1633
  v2465

def k0_off434 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1746 : BitVec 32 := 2#32
  let v2636 : BitVec 32 := Scalar.subi v8 c2_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c512_i32_1749 : BitVec 32 := 512#32
  let v2640 : BitVec 32 := Scalar.addi v2639 c512_i32_1749
  let c0_i32_1753 : BitVec 32 := 0#32
  ![v2640.toNat, 0]
def k0_cond375 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1634 : BitVec 32 := 1#32
  let v2466 : BitVec 1 := Scalar.cmpi .sge v8 c1_i32_1634
  let c2_i32_1635 : BitVec 32 := 2#32
  let v2467 : BitVec 32 := Scalar.addi v8 c2_i32_1635
  let c3_i32_1636 : BitVec 32 := 3#32
  let v2468 : BitVec 1 := Scalar.cmpi .sle v2467 c3_i32_1636
  let v2469 : BitVec 1 := Scalar.andi v2466 v2468
  let v2470 : BitVec 32 := Scalar.extui v2469
  let c0_i32_1637 : BitVec 32 := 0#32
  let v2471 : BitVec 1 := Scalar.cmpi .ne v2470 c0_i32_1637
  v2471

def k0_off435 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1746 : BitVec 32 := 2#32
  let v2636 : BitVec 32 := Scalar.addi v8 c2_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c512_i32_1749 : BitVec 32 := 512#32
  let v2640 : BitVec 32 := Scalar.addi v2639 c512_i32_1749
  let c0_i32_1753 : BitVec 32 := 0#32
  ![v2640.toNat, 0]
def k0_cond376 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1638 : BitVec 32 := 3#32
  let v2472 : BitVec 1 := Scalar.cmpi .sge v8 c3_i32_1638
  let v2473 : BitVec 32 := Scalar.extui v2472
  let c0_i32_1639 : BitVec 32 := 0#32
  let v2474 : BitVec 1 := Scalar.cmpi .ne v2473 c0_i32_1639
  v2474

def k0_off436 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c2_i32_1747 : BitVec 32 := 2#32
  let v2637 : BitVec 32 := Scalar.subi v2636 c2_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c512_i32_1750 : BitVec 32 := 512#32
  let v2641 : BitVec 32 := Scalar.addi v2640 c512_i32_1750
  let c0_i32_1753 : BitVec 32 := 0#32
  ![v2641.toNat, 0]
def k0_off437 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1765 : BitVec 32 := 1#32
  let v2656 : BitVec 32 := Scalar.subi v8 c1_i32_1765
  let c2_i32_1766 : BitVec 32 := 2#32
  let v2657 : BitVec 32 := Scalar.subi v2656 c2_i32_1766
  let c4096_i32_1767 : BitVec 32 := 4096#32
  let v2658 : BitVec 32 := Scalar.muli v2657 c4096_i32_1767
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1768 : BitVec 32 := 1024#32
  let v2659 : BitVec 32 := Scalar.muli v29 c1024_i32_1768
  let v2660 : BitVec 32 := Scalar.addi v2658 v2659
  let c512_i32_1769 : BitVec 32 := 512#32
  let v2661 : BitVec 32 := Scalar.addi v2660 c512_i32_1769
  let c0_i32_1773 : BitVec 32 := 0#32
  ![v2661.toNat, 0]
def k0_cond377 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1640 : BitVec 32 := 1#32
  let v2475 : BitVec 32 := Scalar.addi v8 c1_i32_1640
  let c2_i32_1641 : BitVec 32 := 2#32
  let v2476 : BitVec 32 := Scalar.addi v2475 c2_i32_1641
  let c3_i32_1642 : BitVec 32 := 3#32
  let v2477 : BitVec 1 := Scalar.cmpi .sle v2476 c3_i32_1642
  let v2478 : BitVec 32 := Scalar.extui v2477
  let c0_i32_1643 : BitVec 32 := 0#32
  let v2479 : BitVec 1 := Scalar.cmpi .ne v2478 c0_i32_1643
  v2479

def k0_off438 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c2_i32_1747 : BitVec 32 := 2#32
  let v2637 : BitVec 32 := Scalar.addi v2636 c2_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c512_i32_1750 : BitVec 32 := 512#32
  let v2641 : BitVec 32 := Scalar.addi v2640 c512_i32_1750
  let c0_i32_1753 : BitVec 32 := 0#32
  ![v2641.toNat, 0]
def k0_off439 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1765 : BitVec 32 := 1#32
  let v2656 : BitVec 32 := Scalar.addi v8 c1_i32_1765
  let c2_i32_1766 : BitVec 32 := 2#32
  let v2657 : BitVec 32 := Scalar.addi v2656 c2_i32_1766
  let c4096_i32_1767 : BitVec 32 := 4096#32
  let v2658 : BitVec 32 := Scalar.muli v2657 c4096_i32_1767
  let c2_i32_12 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v27 : BitVec 32 := Scalar.muli c2_i32_12 v2
  let c1_i32_13 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.subi c1_i32_13 v18
  let v29 : BitVec 32 := Scalar.addi v27 v28
  let c1024_i32_1768 : BitVec 32 := 1024#32
  let v2659 : BitVec 32 := Scalar.muli v29 c1024_i32_1768
  let v2660 : BitVec 32 := Scalar.addi v2658 v2659
  let c512_i32_1769 : BitVec 32 := 512#32
  let v2661 : BitVec 32 := Scalar.addi v2660 c512_i32_1769
  let c0_i32_1773 : BitVec 32 := 0#32
  ![v2661.toNat, 0]
def k0_cond378 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1644 : BitVec 32 := 2#32
  let v2480 : BitVec 1 := Scalar.cmpi .sle v8 c2_i32_1644
  let c2_i32_1645 : BitVec 32 := 2#32
  let v2481 : BitVec 1 := Scalar.cmpi .sge v8 c2_i32_1645
  let v2482 : BitVec 1 := Scalar.andi v2480 v2481
  let v2483 : BitVec 32 := Scalar.extui v2482
  let c0_i32_1646 : BitVec 32 := 0#32
  let v2484 : BitVec 1 := Scalar.cmpi .ne v2483 c0_i32_1646
  v2484

def k0_off440 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1746 : BitVec 32 := 2#32
  let v2636 : BitVec 32 := Scalar.subi v8 c2_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c640_i32_1749 : BitVec 32 := 640#32
  let v2640 : BitVec 32 := Scalar.addi v2639 c640_i32_1749
  let c0_i32_1753 : BitVec 32 := 0#32
  ![v2640.toNat, 0]
def k0_cond379 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1647 : BitVec 32 := 1#32
  let v2485 : BitVec 1 := Scalar.cmpi .sge v8 c1_i32_1647
  let c2_i32_1648 : BitVec 32 := 2#32
  let v2486 : BitVec 32 := Scalar.addi v8 c2_i32_1648
  let c3_i32_1649 : BitVec 32 := 3#32
  let v2487 : BitVec 1 := Scalar.cmpi .sle v2486 c3_i32_1649
  let v2488 : BitVec 1 := Scalar.andi v2485 v2487
  let v2489 : BitVec 32 := Scalar.extui v2488
  let c0_i32_1650 : BitVec 32 := 0#32
  let v2490 : BitVec 1 := Scalar.cmpi .ne v2489 c0_i32_1650
  v2490

def k0_off441 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1746 : BitVec 32 := 2#32
  let v2636 : BitVec 32 := Scalar.addi v8 c2_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c640_i32_1749 : BitVec 32 := 640#32
  let v2640 : BitVec 32 := Scalar.addi v2639 c640_i32_1749
  let c0_i32_1753 : BitVec 32 := 0#32
  ![v2640.toNat, 0]
def k0_cond380 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1651 : BitVec 32 := 3#32
  let v2491 : BitVec 1 := Scalar.cmpi .sge v8 c3_i32_1651
  let v2492 : BitVec 32 := Scalar.extui v2491
  let c0_i32_1652 : BitVec 32 := 0#32
  let v2493 : BitVec 1 := Scalar.cmpi .ne v2492 c0_i32_1652
  v2493

def k0_off442 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c2_i32_1747 : BitVec 32 := 2#32
  let v2637 : BitVec 32 := Scalar.subi v2636 c2_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c640_i32_1750 : BitVec 32 := 640#32
  let v2641 : BitVec 32 := Scalar.addi v2640 c640_i32_1750
  let c0_i32_1753 : BitVec 32 := 0#32
  ![v2641.toNat, 0]
def k0_off443 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1765 : BitVec 32 := 1#32
  let v2656 : BitVec 32 := Scalar.subi v8 c1_i32_1765
  let c2_i32_1766 : BitVec 32 := 2#32
  let v2657 : BitVec 32 := Scalar.subi v2656 c2_i32_1766
  let c4096_i32_1767 : BitVec 32 := 4096#32
  let v2658 : BitVec 32 := Scalar.muli v2657 c4096_i32_1767
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1768 : BitVec 32 := 1024#32
  let v2659 : BitVec 32 := Scalar.muli v26 c1024_i32_1768
  let v2660 : BitVec 32 := Scalar.addi v2658 v2659
  let c640_i32_1769 : BitVec 32 := 640#32
  let v2661 : BitVec 32 := Scalar.addi v2660 c640_i32_1769
  let c0_i32_1773 : BitVec 32 := 0#32
  ![v2661.toNat, 0]
def k0_cond381 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1653 : BitVec 32 := 1#32
  let v2494 : BitVec 32 := Scalar.addi v8 c1_i32_1653
  let c2_i32_1654 : BitVec 32 := 2#32
  let v2495 : BitVec 32 := Scalar.addi v2494 c2_i32_1654
  let c3_i32_1655 : BitVec 32 := 3#32
  let v2496 : BitVec 1 := Scalar.cmpi .sle v2495 c3_i32_1655
  let v2497 : BitVec 32 := Scalar.extui v2496
  let c0_i32_1656 : BitVec 32 := 0#32
  let v2498 : BitVec 1 := Scalar.cmpi .ne v2497 c0_i32_1656
  v2498

def k0_off444 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c2_i32_1747 : BitVec 32 := 2#32
  let v2637 : BitVec 32 := Scalar.addi v2636 c2_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c640_i32_1750 : BitVec 32 := 640#32
  let v2641 : BitVec 32 := Scalar.addi v2640 c640_i32_1750
  let c0_i32_1753 : BitVec 32 := 0#32
  ![v2641.toNat, 0]
def k0_off445 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1765 : BitVec 32 := 1#32
  let v2656 : BitVec 32 := Scalar.addi v8 c1_i32_1765
  let c2_i32_1766 : BitVec 32 := 2#32
  let v2657 : BitVec 32 := Scalar.addi v2656 c2_i32_1766
  let c4096_i32_1767 : BitVec 32 := 4096#32
  let v2658 : BitVec 32 := Scalar.muli v2657 c4096_i32_1767
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1768 : BitVec 32 := 1024#32
  let v2659 : BitVec 32 := Scalar.muli v26 c1024_i32_1768
  let v2660 : BitVec 32 := Scalar.addi v2658 v2659
  let c640_i32_1769 : BitVec 32 := 640#32
  let v2661 : BitVec 32 := Scalar.addi v2660 c640_i32_1769
  let c0_i32_1773 : BitVec 32 := 0#32
  ![v2661.toNat, 0]
def k0_cond382 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1657 : BitVec 32 := 2#32
  let v2499 : BitVec 1 := Scalar.cmpi .sle v8 c2_i32_1657
  let c2_i32_1658 : BitVec 32 := 2#32
  let v2500 : BitVec 1 := Scalar.cmpi .sge v8 c2_i32_1658
  let v2501 : BitVec 1 := Scalar.andi v2499 v2500
  let v2502 : BitVec 32 := Scalar.extui v2501
  let c0_i32_1659 : BitVec 32 := 0#32
  let v2503 : BitVec 1 := Scalar.cmpi .ne v2502 c0_i32_1659
  v2503

def k0_off446 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1746 : BitVec 32 := 2#32
  let v2636 : BitVec 32 := Scalar.subi v8 c2_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c768_i32_1749 : BitVec 32 := 768#32
  let v2640 : BitVec 32 := Scalar.addi v2639 c768_i32_1749
  let c0_i32_1753 : BitVec 32 := 0#32
  ![v2640.toNat, 0]
def k0_cond383 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1660 : BitVec 32 := 1#32
  let v2504 : BitVec 1 := Scalar.cmpi .sge v8 c1_i32_1660
  let c2_i32_1661 : BitVec 32 := 2#32
  let v2505 : BitVec 32 := Scalar.addi v8 c2_i32_1661
  let c3_i32_1662 : BitVec 32 := 3#32
  let v2506 : BitVec 1 := Scalar.cmpi .sle v2505 c3_i32_1662
  let v2507 : BitVec 1 := Scalar.andi v2504 v2506
  let v2508 : BitVec 32 := Scalar.extui v2507
  let c0_i32_1663 : BitVec 32 := 0#32
  let v2509 : BitVec 1 := Scalar.cmpi .ne v2508 c0_i32_1663
  v2509

def k0_off447 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1746 : BitVec 32 := 2#32
  let v2636 : BitVec 32 := Scalar.addi v8 c2_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c768_i32_1749 : BitVec 32 := 768#32
  let v2640 : BitVec 32 := Scalar.addi v2639 c768_i32_1749
  let c0_i32_1753 : BitVec 32 := 0#32
  ![v2640.toNat, 0]
def k0_cond384 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1664 : BitVec 32 := 3#32
  let v2510 : BitVec 1 := Scalar.cmpi .sge v8 c3_i32_1664
  let v2511 : BitVec 32 := Scalar.extui v2510
  let c0_i32_1665 : BitVec 32 := 0#32
  let v2512 : BitVec 1 := Scalar.cmpi .ne v2511 c0_i32_1665
  v2512

def k0_off448 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c2_i32_1747 : BitVec 32 := 2#32
  let v2637 : BitVec 32 := Scalar.subi v2636 c2_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c768_i32_1750 : BitVec 32 := 768#32
  let v2641 : BitVec 32 := Scalar.addi v2640 c768_i32_1750
  let c0_i32_1753 : BitVec 32 := 0#32
  ![v2641.toNat, 0]
def k0_off449 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1765 : BitVec 32 := 1#32
  let v2656 : BitVec 32 := Scalar.subi v8 c1_i32_1765
  let c2_i32_1766 : BitVec 32 := 2#32
  let v2657 : BitVec 32 := Scalar.subi v2656 c2_i32_1766
  let c4096_i32_1767 : BitVec 32 := 4096#32
  let v2658 : BitVec 32 := Scalar.muli v2657 c4096_i32_1767
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1768 : BitVec 32 := 1024#32
  let v2659 : BitVec 32 := Scalar.muli v26 c1024_i32_1768
  let v2660 : BitVec 32 := Scalar.addi v2658 v2659
  let c768_i32_1769 : BitVec 32 := 768#32
  let v2661 : BitVec 32 := Scalar.addi v2660 c768_i32_1769
  let c0_i32_1773 : BitVec 32 := 0#32
  ![v2661.toNat, 0]
def k0_cond385 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1666 : BitVec 32 := 1#32
  let v2513 : BitVec 32 := Scalar.addi v8 c1_i32_1666
  let c2_i32_1667 : BitVec 32 := 2#32
  let v2514 : BitVec 32 := Scalar.addi v2513 c2_i32_1667
  let c3_i32_1668 : BitVec 32 := 3#32
  let v2515 : BitVec 1 := Scalar.cmpi .sle v2514 c3_i32_1668
  let v2516 : BitVec 32 := Scalar.extui v2515
  let c0_i32_1669 : BitVec 32 := 0#32
  let v2517 : BitVec 1 := Scalar.cmpi .ne v2516 c0_i32_1669
  v2517

def k0_off450 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c2_i32_1747 : BitVec 32 := 2#32
  let v2637 : BitVec 32 := Scalar.addi v2636 c2_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c768_i32_1750 : BitVec 32 := 768#32
  let v2641 : BitVec 32 := Scalar.addi v2640 c768_i32_1750
  let c0_i32_1753 : BitVec 32 := 0#32
  ![v2641.toNat, 0]
def k0_off451 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1765 : BitVec 32 := 1#32
  let v2656 : BitVec 32 := Scalar.addi v8 c1_i32_1765
  let c2_i32_1766 : BitVec 32 := 2#32
  let v2657 : BitVec 32 := Scalar.addi v2656 c2_i32_1766
  let c4096_i32_1767 : BitVec 32 := 4096#32
  let v2658 : BitVec 32 := Scalar.muli v2657 c4096_i32_1767
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1768 : BitVec 32 := 1024#32
  let v2659 : BitVec 32 := Scalar.muli v26 c1024_i32_1768
  let v2660 : BitVec 32 := Scalar.addi v2658 v2659
  let c768_i32_1769 : BitVec 32 := 768#32
  let v2661 : BitVec 32 := Scalar.addi v2660 c768_i32_1769
  let c0_i32_1773 : BitVec 32 := 0#32
  ![v2661.toNat, 0]
def k0_cond386 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1670 : BitVec 32 := 2#32
  let v2518 : BitVec 1 := Scalar.cmpi .sle v8 c2_i32_1670
  let c2_i32_1671 : BitVec 32 := 2#32
  let v2519 : BitVec 1 := Scalar.cmpi .sge v8 c2_i32_1671
  let v2520 : BitVec 1 := Scalar.andi v2518 v2519
  let v2521 : BitVec 32 := Scalar.extui v2520
  let c0_i32_1672 : BitVec 32 := 0#32
  let v2522 : BitVec 1 := Scalar.cmpi .ne v2521 c0_i32_1672
  v2522

def k0_off452 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1746 : BitVec 32 := 2#32
  let v2636 : BitVec 32 := Scalar.subi v8 c2_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c896_i32_1749 : BitVec 32 := 896#32
  let v2640 : BitVec 32 := Scalar.addi v2639 c896_i32_1749
  let c0_i32_1753 : BitVec 32 := 0#32
  ![v2640.toNat, 0]
def k0_cond387 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1673 : BitVec 32 := 1#32
  let v2523 : BitVec 1 := Scalar.cmpi .sge v8 c1_i32_1673
  let c2_i32_1674 : BitVec 32 := 2#32
  let v2524 : BitVec 32 := Scalar.addi v8 c2_i32_1674
  let c3_i32_1675 : BitVec 32 := 3#32
  let v2525 : BitVec 1 := Scalar.cmpi .sle v2524 c3_i32_1675
  let v2526 : BitVec 1 := Scalar.andi v2523 v2525
  let v2527 : BitVec 32 := Scalar.extui v2526
  let c0_i32_1676 : BitVec 32 := 0#32
  let v2528 : BitVec 1 := Scalar.cmpi .ne v2527 c0_i32_1676
  v2528

def k0_off453 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1746 : BitVec 32 := 2#32
  let v2636 : BitVec 32 := Scalar.addi v8 c2_i32_1746
  let c4096_i32_1747 : BitVec 32 := 4096#32
  let v2637 : BitVec 32 := Scalar.muli v2636 c4096_i32_1747
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1748 : BitVec 32 := 1024#32
  let v2638 : BitVec 32 := Scalar.muli v23 c1024_i32_1748
  let v2639 : BitVec 32 := Scalar.addi v2637 v2638
  let c896_i32_1749 : BitVec 32 := 896#32
  let v2640 : BitVec 32 := Scalar.addi v2639 c896_i32_1749
  let c0_i32_1753 : BitVec 32 := 0#32
  ![v2640.toNat, 0]
def k0_cond388 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1677 : BitVec 32 := 3#32
  let v2529 : BitVec 1 := Scalar.cmpi .sge v8 c3_i32_1677
  let v2530 : BitVec 32 := Scalar.extui v2529
  let c0_i32_1678 : BitVec 32 := 0#32
  let v2531 : BitVec 1 := Scalar.cmpi .ne v2530 c0_i32_1678
  v2531

def k0_off454 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c2_i32_1747 : BitVec 32 := 2#32
  let v2637 : BitVec 32 := Scalar.subi v2636 c2_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c896_i32_1750 : BitVec 32 := 896#32
  let v2641 : BitVec 32 := Scalar.addi v2640 c896_i32_1750
  let c0_i32_1753 : BitVec 32 := 0#32
  ![v2641.toNat, 0]
def k0_off455 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1765 : BitVec 32 := 1#32
  let v2656 : BitVec 32 := Scalar.subi v8 c1_i32_1765
  let c2_i32_1766 : BitVec 32 := 2#32
  let v2657 : BitVec 32 := Scalar.subi v2656 c2_i32_1766
  let c4096_i32_1767 : BitVec 32 := 4096#32
  let v2658 : BitVec 32 := Scalar.muli v2657 c4096_i32_1767
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1768 : BitVec 32 := 1024#32
  let v2659 : BitVec 32 := Scalar.muli v26 c1024_i32_1768
  let v2660 : BitVec 32 := Scalar.addi v2658 v2659
  let c896_i32_1769 : BitVec 32 := 896#32
  let v2661 : BitVec 32 := Scalar.addi v2660 c896_i32_1769
  let c0_i32_1773 : BitVec 32 := 0#32
  ![v2661.toNat, 0]
def k0_cond389 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1679 : BitVec 32 := 1#32
  let v2532 : BitVec 32 := Scalar.addi v8 c1_i32_1679
  let c2_i32_1680 : BitVec 32 := 2#32
  let v2533 : BitVec 32 := Scalar.addi v2532 c2_i32_1680
  let c3_i32_1681 : BitVec 32 := 3#32
  let v2534 : BitVec 1 := Scalar.cmpi .sle v2533 c3_i32_1681
  let v2535 : BitVec 32 := Scalar.extui v2534
  let c0_i32_1682 : BitVec 32 := 0#32
  let v2536 : BitVec 1 := Scalar.cmpi .ne v2535 c0_i32_1682
  v2536

def k0_off456 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c2_i32_1747 : BitVec 32 := 2#32
  let v2637 : BitVec 32 := Scalar.addi v2636 c2_i32_1747
  let c4096_i32_1748 : BitVec 32 := 4096#32
  let v2638 : BitVec 32 := Scalar.muli v2637 c4096_i32_1748
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let c1024_i32_1749 : BitVec 32 := 1024#32
  let v2639 : BitVec 32 := Scalar.muli v23 c1024_i32_1749
  let v2640 : BitVec 32 := Scalar.addi v2638 v2639
  let c896_i32_1750 : BitVec 32 := 896#32
  let v2641 : BitVec 32 := Scalar.addi v2640 c896_i32_1750
  let c0_i32_1753 : BitVec 32 := 0#32
  ![v2641.toNat, 0]
def k0_off457 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1765 : BitVec 32 := 1#32
  let v2656 : BitVec 32 := Scalar.addi v8 c1_i32_1765
  let c2_i32_1766 : BitVec 32 := 2#32
  let v2657 : BitVec 32 := Scalar.addi v2656 c2_i32_1766
  let c4096_i32_1767 : BitVec 32 := 4096#32
  let v2658 : BitVec 32 := Scalar.muli v2657 c4096_i32_1767
  let c2_i32_11 : BitVec 32 := 2#32
  let c1_i32_10 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_10 v2
  let v25 : BitVec 32 := Scalar.muli c2_i32_11 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v26 : BitVec 32 := Scalar.addi v25 v18
  let c1024_i32_1768 : BitVec 32 := 1024#32
  let v2659 : BitVec 32 := Scalar.muli v26 c1024_i32_1768
  let v2660 : BitVec 32 := Scalar.addi v2658 v2659
  let c896_i32_1769 : BitVec 32 := 896#32
  let v2661 : BitVec 32 := Scalar.addi v2660 c896_i32_1769
  let c0_i32_1773 : BitVec 32 := 0#32
  ![v2661.toNat, 0]
def k0_cond390 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1683 : BitVec 32 := 2#32
  let v2537 : BitVec 1 := Scalar.cmpi .sle v8 c2_i32_1683
  let c0_i32_1684 : BitVec 32 := 0#32
  let v2538 : BitVec 1 := Scalar.cmpi .sge v8 c0_i32_1684
  let v2539 : BitVec 1 := Scalar.andi v2537 v2538
  let v2540 : BitVec 32 := Scalar.extui v2539
  let c0_i32_1685 : BitVec 32 := 0#32
  let v2541 : BitVec 1 := Scalar.cmpi .ne v2540 c0_i32_1685
  v2541

def k0_off458 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1746 : BitVec 32 := 0#32
  let v2636 : BitVec 32 := Scalar.subi v8 c0_i32_1746
  let c4096_i32_1747 : BitVec 32 := 4096#32
  let v2637 : BitVec 32 := Scalar.muli v2636 c4096_i32_1747
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1748 : BitVec 32 := 1024#32
  let v2638 : BitVec 32 := Scalar.muli v30 c1024_i32_1748
  let v2639 : BitVec 32 := Scalar.addi v2637 v2638
  let c0_i32_1749 : BitVec 32 := 0#32
  let v2640 : BitVec 32 := Scalar.addi v2639 c0_i32_1749
  let c0_i32_1754 : BitVec 32 := 0#32
  ![v2640.toNat, 0]
def k0_cond391 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1686 : BitVec 32 := 1#32
  let v2542 : BitVec 1 := Scalar.cmpi .sge v8 c1_i32_1686
  let c0_i32_1687 : BitVec 32 := 0#32
  let v2543 : BitVec 32 := Scalar.addi v8 c0_i32_1687
  let c3_i32_1688 : BitVec 32 := 3#32
  let v2544 : BitVec 1 := Scalar.cmpi .sle v2543 c3_i32_1688
  let v2545 : BitVec 1 := Scalar.andi v2542 v2544
  let v2546 : BitVec 32 := Scalar.extui v2545
  let c0_i32_1689 : BitVec 32 := 0#32
  let v2547 : BitVec 1 := Scalar.cmpi .ne v2546 c0_i32_1689
  v2547

def k0_off459 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1746 : BitVec 32 := 0#32
  let v2636 : BitVec 32 := Scalar.addi v8 c0_i32_1746
  let c4096_i32_1747 : BitVec 32 := 4096#32
  let v2637 : BitVec 32 := Scalar.muli v2636 c4096_i32_1747
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1748 : BitVec 32 := 1024#32
  let v2638 : BitVec 32 := Scalar.muli v30 c1024_i32_1748
  let v2639 : BitVec 32 := Scalar.addi v2637 v2638
  let c0_i32_1749 : BitVec 32 := 0#32
  let v2640 : BitVec 32 := Scalar.addi v2639 c0_i32_1749
  let c0_i32_1754 : BitVec 32 := 0#32
  ![v2640.toNat, 0]
def k0_cond392 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1690 : BitVec 32 := 2#32
  let v2548 : BitVec 1 := Scalar.cmpi .sle v8 c2_i32_1690
  let c0_i32_1691 : BitVec 32 := 0#32
  let v2549 : BitVec 1 := Scalar.cmpi .sge v8 c0_i32_1691
  let v2550 : BitVec 1 := Scalar.andi v2548 v2549
  let v2551 : BitVec 32 := Scalar.extui v2550
  let c0_i32_1692 : BitVec 32 := 0#32
  let v2552 : BitVec 1 := Scalar.cmpi .ne v2551 c0_i32_1692
  v2552

def k0_off460 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1746 : BitVec 32 := 0#32
  let v2636 : BitVec 32 := Scalar.subi v8 c0_i32_1746
  let c4096_i32_1747 : BitVec 32 := 4096#32
  let v2637 : BitVec 32 := Scalar.muli v2636 c4096_i32_1747
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1748 : BitVec 32 := 1024#32
  let v2638 : BitVec 32 := Scalar.muli v30 c1024_i32_1748
  let v2639 : BitVec 32 := Scalar.addi v2637 v2638
  let c128_i32_1749 : BitVec 32 := 128#32
  let v2640 : BitVec 32 := Scalar.addi v2639 c128_i32_1749
  let c0_i32_1754 : BitVec 32 := 0#32
  ![v2640.toNat, 0]
def k0_cond393 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1693 : BitVec 32 := 1#32
  let v2553 : BitVec 1 := Scalar.cmpi .sge v8 c1_i32_1693
  let c0_i32_1694 : BitVec 32 := 0#32
  let v2554 : BitVec 32 := Scalar.addi v8 c0_i32_1694
  let c3_i32_1695 : BitVec 32 := 3#32
  let v2555 : BitVec 1 := Scalar.cmpi .sle v2554 c3_i32_1695
  let v2556 : BitVec 1 := Scalar.andi v2553 v2555
  let v2557 : BitVec 32 := Scalar.extui v2556
  let c0_i32_1696 : BitVec 32 := 0#32
  let v2558 : BitVec 1 := Scalar.cmpi .ne v2557 c0_i32_1696
  v2558

def k0_off461 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1746 : BitVec 32 := 0#32
  let v2636 : BitVec 32 := Scalar.addi v8 c0_i32_1746
  let c4096_i32_1747 : BitVec 32 := 4096#32
  let v2637 : BitVec 32 := Scalar.muli v2636 c4096_i32_1747
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1748 : BitVec 32 := 1024#32
  let v2638 : BitVec 32 := Scalar.muli v30 c1024_i32_1748
  let v2639 : BitVec 32 := Scalar.addi v2637 v2638
  let c128_i32_1749 : BitVec 32 := 128#32
  let v2640 : BitVec 32 := Scalar.addi v2639 c128_i32_1749
  let c0_i32_1754 : BitVec 32 := 0#32
  ![v2640.toNat, 0]
def k0_cond394 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1697 : BitVec 32 := 2#32
  let v2559 : BitVec 1 := Scalar.cmpi .sle v8 c2_i32_1697
  let c0_i32_1698 : BitVec 32 := 0#32
  let v2560 : BitVec 1 := Scalar.cmpi .sge v8 c0_i32_1698
  let v2561 : BitVec 1 := Scalar.andi v2559 v2560
  let v2562 : BitVec 32 := Scalar.extui v2561
  let c0_i32_1699 : BitVec 32 := 0#32
  let v2563 : BitVec 1 := Scalar.cmpi .ne v2562 c0_i32_1699
  v2563

def k0_off462 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1746 : BitVec 32 := 0#32
  let v2636 : BitVec 32 := Scalar.subi v8 c0_i32_1746
  let c4096_i32_1747 : BitVec 32 := 4096#32
  let v2637 : BitVec 32 := Scalar.muli v2636 c4096_i32_1747
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1748 : BitVec 32 := 1024#32
  let v2638 : BitVec 32 := Scalar.muli v30 c1024_i32_1748
  let v2639 : BitVec 32 := Scalar.addi v2637 v2638
  let c256_i32_1749 : BitVec 32 := 256#32
  let v2640 : BitVec 32 := Scalar.addi v2639 c256_i32_1749
  let c0_i32_1754 : BitVec 32 := 0#32
  ![v2640.toNat, 0]
def k0_cond395 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1700 : BitVec 32 := 1#32
  let v2564 : BitVec 1 := Scalar.cmpi .sge v8 c1_i32_1700
  let c0_i32_1701 : BitVec 32 := 0#32
  let v2565 : BitVec 32 := Scalar.addi v8 c0_i32_1701
  let c3_i32_1702 : BitVec 32 := 3#32
  let v2566 : BitVec 1 := Scalar.cmpi .sle v2565 c3_i32_1702
  let v2567 : BitVec 1 := Scalar.andi v2564 v2566
  let v2568 : BitVec 32 := Scalar.extui v2567
  let c0_i32_1703 : BitVec 32 := 0#32
  let v2569 : BitVec 1 := Scalar.cmpi .ne v2568 c0_i32_1703
  v2569

def k0_off463 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1746 : BitVec 32 := 0#32
  let v2636 : BitVec 32 := Scalar.addi v8 c0_i32_1746
  let c4096_i32_1747 : BitVec 32 := 4096#32
  let v2637 : BitVec 32 := Scalar.muli v2636 c4096_i32_1747
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1748 : BitVec 32 := 1024#32
  let v2638 : BitVec 32 := Scalar.muli v30 c1024_i32_1748
  let v2639 : BitVec 32 := Scalar.addi v2637 v2638
  let c256_i32_1749 : BitVec 32 := 256#32
  let v2640 : BitVec 32 := Scalar.addi v2639 c256_i32_1749
  let c0_i32_1754 : BitVec 32 := 0#32
  ![v2640.toNat, 0]
def k0_cond396 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1704 : BitVec 32 := 2#32
  let v2570 : BitVec 1 := Scalar.cmpi .sle v8 c2_i32_1704
  let c1_i32_1705 : BitVec 32 := 1#32
  let v2571 : BitVec 1 := Scalar.cmpi .sge v8 c1_i32_1705
  let v2572 : BitVec 1 := Scalar.andi v2570 v2571
  let v2573 : BitVec 32 := Scalar.extui v2572
  let c0_i32_1706 : BitVec 32 := 0#32
  let v2574 : BitVec 1 := Scalar.cmpi .ne v2573 c0_i32_1706
  v2574

def k0_off464 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c4096_i32_1747 : BitVec 32 := 4096#32
  let v2637 : BitVec 32 := Scalar.muli v2636 c4096_i32_1747
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1748 : BitVec 32 := 1024#32
  let v2638 : BitVec 32 := Scalar.muli v30 c1024_i32_1748
  let v2639 : BitVec 32 := Scalar.addi v2637 v2638
  let c0_i32_1749 : BitVec 32 := 0#32
  let v2640 : BitVec 32 := Scalar.addi v2639 c0_i32_1749
  let c0_i32_1754 : BitVec 32 := 0#32
  ![v2640.toNat, 0]
def k0_cond397 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1707 : BitVec 32 := 1#32
  let v2575 : BitVec 1 := Scalar.cmpi .sge v8 c1_i32_1707
  let c1_i32_1708 : BitVec 32 := 1#32
  let v2576 : BitVec 32 := Scalar.addi v8 c1_i32_1708
  let c3_i32_1709 : BitVec 32 := 3#32
  let v2577 : BitVec 1 := Scalar.cmpi .sle v2576 c3_i32_1709
  let v2578 : BitVec 1 := Scalar.andi v2575 v2577
  let v2579 : BitVec 32 := Scalar.extui v2578
  let c0_i32_1710 : BitVec 32 := 0#32
  let v2580 : BitVec 1 := Scalar.cmpi .ne v2579 c0_i32_1710
  v2580

def k0_off465 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c4096_i32_1747 : BitVec 32 := 4096#32
  let v2637 : BitVec 32 := Scalar.muli v2636 c4096_i32_1747
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1748 : BitVec 32 := 1024#32
  let v2638 : BitVec 32 := Scalar.muli v30 c1024_i32_1748
  let v2639 : BitVec 32 := Scalar.addi v2637 v2638
  let c0_i32_1749 : BitVec 32 := 0#32
  let v2640 : BitVec 32 := Scalar.addi v2639 c0_i32_1749
  let c0_i32_1754 : BitVec 32 := 0#32
  ![v2640.toNat, 0]
def k0_cond398 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1711 : BitVec 32 := 2#32
  let v2581 : BitVec 1 := Scalar.cmpi .sle v8 c2_i32_1711
  let c1_i32_1712 : BitVec 32 := 1#32
  let v2582 : BitVec 1 := Scalar.cmpi .sge v8 c1_i32_1712
  let v2583 : BitVec 1 := Scalar.andi v2581 v2582
  let v2584 : BitVec 32 := Scalar.extui v2583
  let c0_i32_1713 : BitVec 32 := 0#32
  let v2585 : BitVec 1 := Scalar.cmpi .ne v2584 c0_i32_1713
  v2585

def k0_off466 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c4096_i32_1747 : BitVec 32 := 4096#32
  let v2637 : BitVec 32 := Scalar.muli v2636 c4096_i32_1747
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1748 : BitVec 32 := 1024#32
  let v2638 : BitVec 32 := Scalar.muli v30 c1024_i32_1748
  let v2639 : BitVec 32 := Scalar.addi v2637 v2638
  let c128_i32_1749 : BitVec 32 := 128#32
  let v2640 : BitVec 32 := Scalar.addi v2639 c128_i32_1749
  let c0_i32_1754 : BitVec 32 := 0#32
  ![v2640.toNat, 0]
def k0_cond399 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1714 : BitVec 32 := 1#32
  let v2586 : BitVec 1 := Scalar.cmpi .sge v8 c1_i32_1714
  let c1_i32_1715 : BitVec 32 := 1#32
  let v2587 : BitVec 32 := Scalar.addi v8 c1_i32_1715
  let c3_i32_1716 : BitVec 32 := 3#32
  let v2588 : BitVec 1 := Scalar.cmpi .sle v2587 c3_i32_1716
  let v2589 : BitVec 1 := Scalar.andi v2586 v2588
  let v2590 : BitVec 32 := Scalar.extui v2589
  let c0_i32_1717 : BitVec 32 := 0#32
  let v2591 : BitVec 1 := Scalar.cmpi .ne v2590 c0_i32_1717
  v2591

def k0_off467 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c4096_i32_1747 : BitVec 32 := 4096#32
  let v2637 : BitVec 32 := Scalar.muli v2636 c4096_i32_1747
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1748 : BitVec 32 := 1024#32
  let v2638 : BitVec 32 := Scalar.muli v30 c1024_i32_1748
  let v2639 : BitVec 32 := Scalar.addi v2637 v2638
  let c128_i32_1749 : BitVec 32 := 128#32
  let v2640 : BitVec 32 := Scalar.addi v2639 c128_i32_1749
  let c0_i32_1754 : BitVec 32 := 0#32
  ![v2640.toNat, 0]
def k0_cond400 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1718 : BitVec 32 := 2#32
  let v2592 : BitVec 1 := Scalar.cmpi .sle v8 c2_i32_1718
  let c1_i32_1719 : BitVec 32 := 1#32
  let v2593 : BitVec 1 := Scalar.cmpi .sge v8 c1_i32_1719
  let v2594 : BitVec 1 := Scalar.andi v2592 v2593
  let v2595 : BitVec 32 := Scalar.extui v2594
  let c0_i32_1720 : BitVec 32 := 0#32
  let v2596 : BitVec 1 := Scalar.cmpi .ne v2595 c0_i32_1720
  v2596

def k0_off468 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.subi v8 c1_i32_1746
  let c4096_i32_1747 : BitVec 32 := 4096#32
  let v2637 : BitVec 32 := Scalar.muli v2636 c4096_i32_1747
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1748 : BitVec 32 := 1024#32
  let v2638 : BitVec 32 := Scalar.muli v30 c1024_i32_1748
  let v2639 : BitVec 32 := Scalar.addi v2637 v2638
  let c256_i32_1749 : BitVec 32 := 256#32
  let v2640 : BitVec 32 := Scalar.addi v2639 c256_i32_1749
  let c0_i32_1753 : BitVec 32 := 0#32
  ![v2640.toNat, 0]
def k0_cond401 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1721 : BitVec 32 := 1#32
  let v2597 : BitVec 1 := Scalar.cmpi .sge v8 c1_i32_1721
  let c1_i32_1722 : BitVec 32 := 1#32
  let v2598 : BitVec 32 := Scalar.addi v8 c1_i32_1722
  let c3_i32_1723 : BitVec 32 := 3#32
  let v2599 : BitVec 1 := Scalar.cmpi .sle v2598 c3_i32_1723
  let v2600 : BitVec 1 := Scalar.andi v2597 v2599
  let v2601 : BitVec 32 := Scalar.extui v2600
  let c0_i32_1724 : BitVec 32 := 0#32
  let v2602 : BitVec 1 := Scalar.cmpi .ne v2601 c0_i32_1724
  v2602

def k0_off469 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1746 : BitVec 32 := 1#32
  let v2636 : BitVec 32 := Scalar.addi v8 c1_i32_1746
  let c4096_i32_1747 : BitVec 32 := 4096#32
  let v2637 : BitVec 32 := Scalar.muli v2636 c4096_i32_1747
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1748 : BitVec 32 := 1024#32
  let v2638 : BitVec 32 := Scalar.muli v30 c1024_i32_1748
  let v2639 : BitVec 32 := Scalar.addi v2637 v2638
  let c256_i32_1749 : BitVec 32 := 256#32
  let v2640 : BitVec 32 := Scalar.addi v2639 c256_i32_1749
  let c0_i32_1753 : BitVec 32 := 0#32
  ![v2640.toNat, 0]
def k0_cond402 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1725 : BitVec 32 := 2#32
  let v2603 : BitVec 1 := Scalar.cmpi .sle v8 c2_i32_1725
  let c2_i32_1726 : BitVec 32 := 2#32
  let v2604 : BitVec 1 := Scalar.cmpi .sge v8 c2_i32_1726
  let v2605 : BitVec 1 := Scalar.andi v2603 v2604
  let v2606 : BitVec 32 := Scalar.extui v2605
  let c0_i32_1727 : BitVec 32 := 0#32
  let v2607 : BitVec 1 := Scalar.cmpi .ne v2606 c0_i32_1727
  v2607

def k0_off470 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1746 : BitVec 32 := 2#32
  let v2636 : BitVec 32 := Scalar.subi v8 c2_i32_1746
  let c4096_i32_1747 : BitVec 32 := 4096#32
  let v2637 : BitVec 32 := Scalar.muli v2636 c4096_i32_1747
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1748 : BitVec 32 := 1024#32
  let v2638 : BitVec 32 := Scalar.muli v30 c1024_i32_1748
  let v2639 : BitVec 32 := Scalar.addi v2637 v2638
  let c0_i32_1749 : BitVec 32 := 0#32
  let v2640 : BitVec 32 := Scalar.addi v2639 c0_i32_1749
  let c0_i32_1753 : BitVec 32 := 0#32
  ![v2640.toNat, 0]
def k0_cond403 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1728 : BitVec 32 := 1#32
  let v2608 : BitVec 1 := Scalar.cmpi .sge v8 c1_i32_1728
  let c2_i32_1729 : BitVec 32 := 2#32
  let v2609 : BitVec 32 := Scalar.addi v8 c2_i32_1729
  let c3_i32_1730 : BitVec 32 := 3#32
  let v2610 : BitVec 1 := Scalar.cmpi .sle v2609 c3_i32_1730
  let v2611 : BitVec 1 := Scalar.andi v2608 v2610
  let v2612 : BitVec 32 := Scalar.extui v2611
  let c0_i32_1731 : BitVec 32 := 0#32
  let v2613 : BitVec 1 := Scalar.cmpi .ne v2612 c0_i32_1731
  v2613

def k0_off471 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1746 : BitVec 32 := 2#32
  let v2636 : BitVec 32 := Scalar.addi v8 c2_i32_1746
  let c4096_i32_1747 : BitVec 32 := 4096#32
  let v2637 : BitVec 32 := Scalar.muli v2636 c4096_i32_1747
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1748 : BitVec 32 := 1024#32
  let v2638 : BitVec 32 := Scalar.muli v30 c1024_i32_1748
  let v2639 : BitVec 32 := Scalar.addi v2637 v2638
  let c0_i32_1749 : BitVec 32 := 0#32
  let v2640 : BitVec 32 := Scalar.addi v2639 c0_i32_1749
  let c0_i32_1753 : BitVec 32 := 0#32
  ![v2640.toNat, 0]
def k0_cond404 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1732 : BitVec 32 := 2#32
  let v2614 : BitVec 1 := Scalar.cmpi .sle v8 c2_i32_1732
  let c2_i32_1733 : BitVec 32 := 2#32
  let v2615 : BitVec 1 := Scalar.cmpi .sge v8 c2_i32_1733
  let v2616 : BitVec 1 := Scalar.andi v2614 v2615
  let v2617 : BitVec 32 := Scalar.extui v2616
  let c0_i32_1734 : BitVec 32 := 0#32
  let v2618 : BitVec 1 := Scalar.cmpi .ne v2617 c0_i32_1734
  v2618

def k0_off472 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1746 : BitVec 32 := 2#32
  let v2636 : BitVec 32 := Scalar.subi v8 c2_i32_1746
  let c4096_i32_1747 : BitVec 32 := 4096#32
  let v2637 : BitVec 32 := Scalar.muli v2636 c4096_i32_1747
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1748 : BitVec 32 := 1024#32
  let v2638 : BitVec 32 := Scalar.muli v30 c1024_i32_1748
  let v2639 : BitVec 32 := Scalar.addi v2637 v2638
  let c128_i32_1749 : BitVec 32 := 128#32
  let v2640 : BitVec 32 := Scalar.addi v2639 c128_i32_1749
  let c0_i32_1753 : BitVec 32 := 0#32
  ![v2640.toNat, 0]
def k0_cond405 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1735 : BitVec 32 := 1#32
  let v2619 : BitVec 1 := Scalar.cmpi .sge v8 c1_i32_1735
  let c2_i32_1736 : BitVec 32 := 2#32
  let v2620 : BitVec 32 := Scalar.addi v8 c2_i32_1736
  let c3_i32_1737 : BitVec 32 := 3#32
  let v2621 : BitVec 1 := Scalar.cmpi .sle v2620 c3_i32_1737
  let v2622 : BitVec 1 := Scalar.andi v2619 v2621
  let v2623 : BitVec 32 := Scalar.extui v2622
  let c0_i32_1738 : BitVec 32 := 0#32
  let v2624 : BitVec 1 := Scalar.cmpi .ne v2623 c0_i32_1738
  v2624

def k0_off473 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1746 : BitVec 32 := 2#32
  let v2636 : BitVec 32 := Scalar.addi v8 c2_i32_1746
  let c4096_i32_1747 : BitVec 32 := 4096#32
  let v2637 : BitVec 32 := Scalar.muli v2636 c4096_i32_1747
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1748 : BitVec 32 := 1024#32
  let v2638 : BitVec 32 := Scalar.muli v30 c1024_i32_1748
  let v2639 : BitVec 32 := Scalar.addi v2637 v2638
  let c128_i32_1749 : BitVec 32 := 128#32
  let v2640 : BitVec 32 := Scalar.addi v2639 c128_i32_1749
  let c0_i32_1753 : BitVec 32 := 0#32
  ![v2640.toNat, 0]
def k0_cond406 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1739 : BitVec 32 := 2#32
  let v2625 : BitVec 1 := Scalar.cmpi .sle v8 c2_i32_1739
  let c2_i32_1740 : BitVec 32 := 2#32
  let v2626 : BitVec 1 := Scalar.cmpi .sge v8 c2_i32_1740
  let v2627 : BitVec 1 := Scalar.andi v2625 v2626
  let v2628 : BitVec 32 := Scalar.extui v2627
  let c0_i32_1741 : BitVec 32 := 0#32
  let v2629 : BitVec 1 := Scalar.cmpi .ne v2628 c0_i32_1741
  v2629

def k0_off474 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1746 : BitVec 32 := 2#32
  let v2636 : BitVec 32 := Scalar.subi v8 c2_i32_1746
  let c4096_i32_1747 : BitVec 32 := 4096#32
  let v2637 : BitVec 32 := Scalar.muli v2636 c4096_i32_1747
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1748 : BitVec 32 := 1024#32
  let v2638 : BitVec 32 := Scalar.muli v30 c1024_i32_1748
  let v2639 : BitVec 32 := Scalar.addi v2637 v2638
  let c256_i32_1749 : BitVec 32 := 256#32
  let v2640 : BitVec 32 := Scalar.addi v2639 c256_i32_1749
  let c0_i32_1753 : BitVec 32 := 0#32
  ![v2640.toNat, 0]
def k0_cond407 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1742 : BitVec 32 := 1#32
  let v2630 : BitVec 1 := Scalar.cmpi .sge v8 c1_i32_1742
  let c2_i32_1743 : BitVec 32 := 2#32
  let v2631 : BitVec 32 := Scalar.addi v8 c2_i32_1743
  let c3_i32_1744 : BitVec 32 := 3#32
  let v2632 : BitVec 1 := Scalar.cmpi .sle v2631 c3_i32_1744
  let v2633 : BitVec 1 := Scalar.andi v2630 v2632
  let v2634 : BitVec 32 := Scalar.extui v2633
  let c0_i32_1745 : BitVec 32 := 0#32
  let v2635 : BitVec 1 := Scalar.cmpi .ne v2634 c0_i32_1745
  v2635

def k0_off475 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1746 : BitVec 32 := 2#32
  let v2636 : BitVec 32 := Scalar.addi v8 c2_i32_1746
  let c4096_i32_1747 : BitVec 32 := 4096#32
  let v2637 : BitVec 32 := Scalar.muli v2636 c4096_i32_1747
  let c3_i32 : BitVec 32 := 3#32
  let c2_i32_9 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.muli c2_i32_9 v2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v23 : BitVec 32 := Scalar.addi v22 v18
  let v30 : BitVec 32 := Scalar.subi c3_i32 v23
  let c1024_i32_1748 : BitVec 32 := 1024#32
  let v2638 : BitVec 32 := Scalar.muli v30 c1024_i32_1748
  let v2639 : BitVec 32 := Scalar.addi v2637 v2638
  let c256_i32_1749 : BitVec 32 := 256#32
  let v2640 : BitVec 32 := Scalar.addi v2639 c256_i32_1749
  let c0_i32_1753 : BitVec 32 := 0#32
  ![v2640.toNat, 0]
abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S16384x1024 : Shape := ⟨2, ![16384, 1024]⟩

abbrev nBuf : Space → Nat
  | .hbm => 1
  | .vmem => 0
  | .smem => 0
  | _ => 0

abbrev bufTy : (tb : Table) → Fin (tcTables nBuf tb) → BufTy
  | .hbm, ⟨0, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Geom.lean ====
module

public import Idealize.ShloMosaic.Lib.Pipeline.Launch

@[expose] public section

/-! The protocol of the all-gather kernel, as data.

Thirty-two devices, numbered `16 * x + 4 * y + z`. Every device's `x` block is one chunk of 4096 rows; a chunk
has four quarters of 1024 rows, a quarter eight pieces of 128 rows. Piece number `32 * chunk + 8 * quarter + p`
names rows `128 * n … 128 * n + 127` of the gathered array. Twelve families of remote copies move pieces, every
one from a piece of the gathered array to the same piece at a neighbour. The kernel's text is a list of steps
(`Op`), each under a guard that depends on the device; a step takes some resources (numbered by codes) and gives
others back. Here the lists are written down and run by evaluation for all thirty-two devices. -/

namespace Cert.AG

/-- The devices. -/
abbrev D := Fin 32

/-- A device's coordinates. -/
def cx (c : D) : ℕ := c.val / 16
def cy (c : D) : ℕ := c.val / 4 % 4
def cz (c : D) : ℕ := c.val % 4

/-- The device at the coordinates. -/
def dev (x y z : ℕ) : D := Fin.ofNat 32 (16 * x + 4 * y + z)

/-- The device's mate along `y`. -/
def mate (y : ℕ) : ℕ := y + 1 - 2 * (y % 2)

/-- The four neighbours: one down and one up the ring of `z`, across `x`, across the `y` pair. -/
def nb (j : Fin 4) (c : D) : D :=
  match j with
  | 0 => dev (cx c) (cy c) ((cz c + 3) % 4)
  | 1 => dev (cx c) (cy c) ((cz c + 1) % 4)
  | 2 => dev (1 - cx c) (cy c) (cz c)
  | 3 => dev (cx c) (mate (cy c)) (cz c)

/-- The way back. -/
def opp (j : Fin 4) : Fin 4 :=
  match j with
  | 0 => 1 | 1 => 0 | 2 => 2 | 3 => 3

/-- The quarter a device brings through `z`, the ones it is handed by its `x` peer and its `y` mate, and the one
    opposite. -/
def qk (c : D) : ℕ := 2 * cx c + cy c % 2
def qx (c : D) : ℕ := 2 * (1 - cx c) + cy c % 2
def qy (c : D) : ℕ := 2 * cx c + (1 - cy c % 2)
def qd (c : D) : ℕ := 3 - qk c

/-- A piece's number. -/
def pc (chunk q p : ℕ) : ℕ := 32 * chunk + 8 * q + p % 8

/-- The families of remote copies: around `z` (the quarter `qk`, and the start of the quarter `qd`), direct across
    `x` and `y`, and relayed across `y` and `x`; the last digit is the direction the chunk came along `z`. -/
inductive Kd
  | zr | zl | z2r | z2l | xd0 | xd1 | yd0 | yd1 | yr0 | yr1 | xr0 | xr1
  deriving DecidableEq

/-- The neighbour a family sends to. -/
def dir : Kd → Fin 4
  | .zr | .z2r => 1
  | .zl | .z2l => 0
  | .xd0 | .xd1 | .xr0 | .xr1 => 2
  | .yd0 | .yd1 | .yr0 | .yr1 => 3

def tgt (k : Kd) (c : D) : D := nb (dir k) c
def src (k : Kd) (c : D) : D := nb (opp (dir k)) c

/-- How many copies a family has. -/
def cnt : Kd → ℕ
  | .z2r | .z2l => 9
  | _ => 24

/-- The number of a family's first send semaphore; the receive semaphores follow the send ones. -/
def base : Kd → ℕ
  | .zr => 0 | .zl => 48 | .z2r => 96 | .z2l => 114 | .xd0 => 132 | .xd1 => 180 | .yd0 => 228 | .yd1 => 276
  | .yr0 => 324 | .yr1 => 372 | .xr0 => 420 | .xr1 => 468

def snd (k : Kd) (i : ℕ) : ℕ := base k + i
def rcv (k : Kd) (i : ℕ) : ℕ := base k + cnt k + i
def dsm (idx : ℕ) : ℕ := 516 + idx

/-- Does the chunk `1 + i / 8` steps away exist in the direction? -/
def has0 (z s : ℕ) : Bool := decide (1 + s ≤ z)
def has1 (z s : ℕ) : Bool := decide (z + 1 + s ≤ 3)
def sR (z s : ℕ) : Bool := decide (z ≤ 2) && decide (s ≤ z)
def sL (z s : ℕ) : Bool := decide (1 ≤ z) && decide (z + s ≤ 3)
def bset (i : ℕ) : Bool := decide (i % 8 = 3) || decide (i % 8 = 4)
def cset (i : ℕ) : Bool := decide (5 ≤ i % 8)

/-- Does the device start copy `i` of the family? -/
def sg (k : Kd) (i : ℕ) (c : D) : Bool :=
  match k with
  | .zr => sR (cz c) (i / 8)
  | .zl => sL (cz c) (i / 8)
  | .z2r => sR (cz c) (i / 3)
  | .z2l => sL (cz c) (i / 3)
  | .xd0 | .yd0 => has0 (cz c) (i / 8)
  | .xd1 | .yd1 => has1 (cz c) (i / 8)
  | .yr0 => has0 (cz c) (i / 8) && cset i
  | .yr1 => has1 (cz c) (i / 8) && cset i
  | .xr0 => has0 (cz c) (i / 8) && bset i
  | .xr1 => has1 (cz c) (i / 8) && bset i

/-- The piece it sends. -/
def sp (k : Kd) (i : ℕ) (c : D) : ℕ :=
  match k with
  | .zr => pc (cz c - i / 8) (qk c) i
  | .zl => pc (cz c + i / 8) (qk c) i
  | .z2r => pc (cz c - i / 3) (qd c) (i % 3)
  | .z2l => pc (cz c + i / 3) (qd c) (i % 3)
  | .xd0 | .yd0 => pc (cz c - 1 - i / 8) (qk c) i
  | .xd1 | .yd1 => pc (cz c + 1 + i / 8) (qk c) i
  | .yr0 => pc (cz c - 1 - i / 8) (qx c) i
  | .yr1 => pc (cz c + 1 + i / 8) (qx c) i
  | .xr0 => pc (cz c - 1 - i / 8) (qy c) i
  | .xr1 => pc (cz c + 1 + i / 8) (qy c) i

/-- Does copy `i` of the family reach the device, and with which piece: read off its sender. -/
def rg (k : Kd) (i : ℕ) (c : D) : Bool := sg k i (src k c)
def rp (k : Kd) (i : ℕ) (c : D) : ℕ := sp k i (src k c)

/-- The share of a piece a family's copy reads with. -/
def slot : Kd → ℕ
  | .zr | .z2r => 1
  | .zl | .z2l => 2
  | .xd0 | .xd1 | .xr0 | .xr1 | .yr0 | .yr1 => 3
  | .yd0 | .yd1 => 4

/-- The twenty-eight copies of a quarter to the result: which quarter (`0` own, `1` `qk`, `2` `qx`, `3` `qy`,
    `4` `qd`), the direction or the own quarter's distance from `qk`, and the number of steps along `z`. -/
def sites : List (ℕ × ℕ × ℕ) :=
  [(0, 0, 0), (0, 1, 0), (1, 0, 0), (1, 1, 0), (0, 2, 0), (1, 0, 1), (1, 1, 1),
   (2, 0, 0), (3, 0, 0), (2, 1, 0), (3, 1, 0), (0, 3, 0), (1, 0, 2), (1, 1, 2),
   (2, 0, 1), (3, 0, 1), (2, 1, 1), (3, 1, 1), (2, 0, 2), (3, 0, 2), (2, 1, 2),
   (3, 1, 2), (4, 0, 0), (4, 1, 0), (4, 0, 1), (4, 1, 1), (4, 0, 2), (4, 1, 2)]

def site (idx : ℕ) : ℕ × ℕ × ℕ := sites.getD idx (0, 0, 0)

/-- Is the copy made at the device? -/
def hg (idx : ℕ) (c : D) : Bool :=
  match site idx with
  | (0, _, _) => true
  | (_, 0, s) => has0 (cz c) s
  | (_, _, s) => has1 (cz c) s

/-- The quarter (`4 * chunk + quarter`) it moves. -/
def hq (idx : ℕ) (c : D) : ℕ :=
  match site idx with
  | (0, a, _) => 4 * cz c + (qk c + a) % 4
  | (kind, a, s) =>
    4 * (if a = 0 then cz c - 1 - s else cz c + 1 + s) +
      (match kind with
       | 1 => qk c
       | 2 => qx c
       | 3 => qy c
       | _ => qd c)

/-- The steps: a barrier signal, the barrier wait, a piece of the own block stored (quarter `qk + o`, or `qd` when
    `o = 4`), a remote copy started, its arrival awaited, its send awaited, a quarter's copy to the result started
    and awaited. -/
inductive Op
  | sig (j : Fin 4)
  | bar
  | store (o p : ℕ)
  | send (k : Kd) (i : ℕ)
  | recv (k : Kd) (i : ℕ)
  | swait (k : Kd) (i : ℕ)
  | hst (idx : ℕ)
  | hwt (idx : ℕ)

/-- Is there a neighbour this way? -/
def bg (j : Fin 4) (c : D) : Bool :=
  match j with
  | 0 => decide (1 ≤ cz c)
  | 1 => decide (cz c ≤ 2)
  | _ => true

/-- The quarter of the own block a store writes. -/
def oq (o : ℕ) (c : D) : ℕ := if o = 4 then qd c else (qk c + o) % 4

/-- Is the step taken at the device? -/
def guard (op : Op) (c : D) : Bool :=
  match op with
  | .sig j => bg j c
  | .bar => true
  | .store o p => decide (o = 0) || decide (o = 4) || decide (3 ≤ p) || decide (oq o c ≠ qd c)
  | .send k i => sg k i c
  | .recv k i => rg k i c
  | .swait k i => sg k i c
  | .hst idx => hg idx c
  | .hwt idx => hg idx c

/-! ## Codes of resources -/

def cPos (s : ℕ) : ℕ := 1024 * 0 + s
def cTok (s : ℕ) : ℕ := 1024 * 1 + s
def cCr (s : ℕ) : ℕ := 1024 * 2 + s
def cZ (s : ℕ) : ℕ := 1024 * 3 + s
def cSh (slot n : ℕ) : ℕ := 1024 * (4 + slot) + n
def cRaw (n : ℕ) : ℕ := 1024 * 9 + n
def cLand (s : ℕ) : ℕ := 1024 * 10 + s
def cORaw (q : ℕ) : ℕ := 1024 * 11 + q
def cODone (q : ℕ) : ℕ := 1024 * 12 + q
def cX : ℕ := 1024 * 13 + 0
def cSig (j : Fin 4) : ℕ := 1024 * 14 + j.val
def cPosB : ℕ := 1024 * 13 + 1
def cCrB (j : Fin 4) : ℕ := 1024 * 15 + j.val
def cZB : ℕ := 1024 * 13 + 2

def kds : List Kd := [.zr, .zl, .z2r, .z2l, .xd0, .xd1, .yd0, .yd1, .yr0, .yr1, .xr0, .xr1]
def dirs : List (Fin 4) := [0, 1, 2, 3]

/-- Every copy of every family. -/
def chans : List (Kd × ℕ) := kds.flatMap fun k => (List.range (cnt k)).map fun i => (k, i)

/-- The copies a device starts towards neighbour `j`. -/
def outTo (j : Fin 4) (c : D) : List (Kd × ℕ) := chans.filter fun a => dir a.1 = j && sg a.1 a.2 c

/-- All five shares of a piece. -/
def shs (n : ℕ) : List ℕ := [cSh 0 n, cSh 1 n, cSh 2 n, cSh 3 n, cSh 4 n]

/-- The result-copy shares of a quarter's eight pieces. -/
def sh8 (q : ℕ) : List ℕ := (List.range 8).map fun p => cSh 0 (8 * q + p)

/-- What a barrier payment by `c` to neighbour `j` hands over: the pieces that neighbour's copies land on. -/
def sigRaws (j : Fin 4) (c : D) : List ℕ := (outTo (opp j) (nb j c)).map fun a => cRaw (sp a.1 a.2 (nb j c))

/-- What arrives at the barrier from neighbour `j`: the places to write. -/
def lands (j : Fin 4) (c : D) : List ℕ := (outTo j c).map fun a => cLand (rcv a.1 a.2)

def actDirs (c : D) : List (Fin 4) := dirs.filter fun j => bg j c

/-- What a step takes. -/
def pre (op : Op) (c : D) : List ℕ :=
  match op with
  | .sig j => cSig j :: sigRaws j c
  | .bar => cPosB :: (actDirs c).map cCrB
  | .store o p => [cX, cRaw (pc (cz c) (oq o c) p)]
  | .send k i => [cTok (snd k i), cTok (rcv k i), cLand (rcv k i), cSh (slot k) (sp k i c)]
  | .recv k i => [cPos (rcv k i), cCr (rcv k i)]
  | .swait k i => [cPos (snd k i), cCr (snd k i)]
  | .hst idx => cTok (dsm idx) :: cORaw (hq idx c) :: sh8 (hq idx c)
  | .hwt idx => [cPos (dsm idx), cCr (dsm idx)]

/-- What it gives back. -/
def post (op : Op) (c : D) : List ℕ :=
  match op with
  | .sig _ => []
  | .bar => cZB :: (actDirs c).flatMap fun j => lands j c
  | .store o p => cX :: shs (pc (cz c) (oq o c) p)
  | .send k i => [cCr (snd k i)]
  | .recv k i => cZ (rcv k i) :: shs (rp k i c)
  | .swait k i => [cZ (snd k i), cSh (slot k) (sp k i c)]
  | .hst idx => [cCr (dsm idx)]
  | .hwt idx => cZ (dsm idx) :: cODone (hq idx c) :: sh8 (hq idx c)

/-- What a device ends with: every semaphore at rest, every piece and every quarter of the result holding its rows. -/
def finCodes (c : D) : List ℕ :=
  ((List.range 544).map cZ) ++ (((List.range 128).flatMap shs) ++ (((List.range 16).map cODone) ++ [cX, cZB]))

/-- How many codes. -/
def NB : ℕ := 16384

/-- Take codes out of a mask; fails if one is not there. -/
def takes : List ℕ → ℕ → Option ℕ
  | [], σ => some σ
  | i :: l, σ => if i < NB ∧ σ.testBit i = true then takes l (σ ^^^ 2 ^ i) else none

/-- Put codes into a mask; fails if one is there already. -/
def puts : List ℕ → ℕ → Option ℕ
  | [], σ => some σ
  | i :: l, σ => if i < NB ∧ σ.testBit i = false then puts l (σ ^^^ 2 ^ i) else none

/-- Run a list of steps on a mask of codes. -/
def run (c : D) : List Op → ℕ → Option ℕ
  | [], σ => some σ
  | op :: l, σ =>
    if guard op c then
      match takes (pre op c) σ with
      | none => none
      | some σ₁ =>
        match puts (post op c) σ₁ with
        | none => none
        | some σ₂ => run c l σ₂
    else run c l σ

/-! ## The kernel's text

One inner list per printed statement or guarded block, one outer list per window of the printed text. -/

def g110 : List (List Op) := [[.sig 0], [.sig 1], [.sig 2], [.sig 3], [.bar]]
def g111 : List (List Op) := [[.store 0 0], [.send .zr 0], [.send .zl 0], [.store 0 1], [.send .zr 1]]
def g112 : List (List Op) := [[.send .zl 1], [.store 0 2], [.send .zr 2], [.send .zl 2]]
def g113 : List (List Op) := [[.store 0 3], [.send .zr 3], [.send .zl 3], [.store 0 4], [.send .zr 4]]
def g114 : List (List Op) := [[.send .zl 4], [.store 0 5], [.send .zr 5], [.send .zl 5]]
def g115 : List (List Op) := [[.store 0 6], [.send .zr 6], [.send .zl 6], [.store 0 7], [.send .zr 7]]
def g116 : List (List Op) := [[.send .zl 7], [.store 4 0], [.send .z2r 0], [.send .z2l 0]]
def g117 : List (List Op) := [[.store 4 1], [.send .z2r 1], [.send .z2l 1], [.store 4 2]]
def g118 : List (List Op) := [[.send .z2r 2], [.send .z2l 2], [.hst 0], [.recv .zr 0, .send .xd0 0, .send .yd0 0]]
def g119 : List (List Op) := [[.send .zr 8], [.recv .zl 0, .send .xd1 0, .send .yd1 0], [.send .zl 8], [.recv .z2r 0],
  [.send .z2r 3], [.recv .z2l 0]]
def g120 : List (List Op) := [[.send .z2l 3], [.store 1 0], [.recv .zr 1, .send .xd0 1, .send .yd0 1], [.send .zr 9],
  [.recv .zl 1, .send .xd1 1, .send .yd1 1], [.send .zl 9]]
def g121 : List (List Op) := [[.recv .z2r 1], [.send .z2r 4], [.recv .z2l 1], [.send .z2l 4], [.store 1 1]]
def g122 : List (List Op) := [[.store 1 2], [.recv .zr 2, .send .xd0 2, .send .yd0 2], [.send .zr 10],
  [.recv .zl 2, .send .xd1 2, .send .yd1 2], [.send .zl 10]]
def g123 : List (List Op) := [[.recv .z2r 2], [.send .z2r 5], [.recv .z2l 2], [.send .z2l 5]]
def g124 : List (List Op) := [[.store 1 3], [.recv .zr 3, .send .xd0 3, .send .yd0 3], [.send .zr 11],
  [.recv .zl 3, .send .xd1 3, .send .yd1 3], [.send .zl 11]]
def g125 : List (List Op) := [[.store 1 4]]
def g126 : List (List Op) := [[.store 1 5], [.recv .zr 4, .send .xd0 4, .send .yd0 4], [.send .zr 12],
  [.recv .zl 4, .send .xd1 4, .send .yd1 4], [.send .zl 12]]
def g127 : List (List Op) := [[.store 1 6], [.recv .zr 5, .send .xd0 5, .send .yd0 5], [.send .zr 13],
  [.recv .zl 5, .send .xd1 5, .send .yd1 5], [.send .zl 13]]
def g128 : List (List Op) := [[.store 1 7]]
def g129 : List (List Op) := [[.hst 1], [.store 2 0], [.recv .zr 6, .send .xd0 6, .send .yd0 6], [.send .zr 14]]
def g130 : List (List Op) := [[.recv .zl 6, .send .xd1 6, .send .yd1 6], [.send .zl 14], [.store 2 1],
  [.recv .zr 7, .send .xd0 7, .send .yd0 7, .hst 2], [.send .zr 15],
  [.recv .zl 7, .send .xd1 7, .send .yd1 7, .hst 3]]
def g131 : List (List Op) := [[.send .zl 15], [.store 2 2]]
def g132 : List (List Op) := [[.store 2 3], [.recv .zr 8, .send .xd0 8, .send .yd0 8], [.send .zr 16],
  [.recv .zl 8, .send .xd1 8, .send .yd1 8], [.send .zl 16], [.recv .z2r 3]]
def g133 : List (List Op) := [[.send .z2r 6], [.recv .z2l 3], [.send .z2l 6], [.recv .xd0 0], [.recv .yd0 0],
  [.recv .xd1 0], [.recv .yd1 0]]
def g134 : List (List Op) := [[.store 2 4], [.recv .zr 9, .send .xd0 9, .send .yd0 9], [.send .zr 17]]
def g135 : List (List Op) := [[.recv .zl 9, .send .xd1 9, .send .yd1 9], [.send .zl 17], [.recv .z2r 4],
  [.send .z2r 7], [.recv .z2l 4], [.send .z2l 7], [.recv .xd0 1], [.recv .yd0 1]]
def g136 : List (List Op) := [[.recv .xd1 1], [.recv .yd1 1], [.store 2 5]]
def g137 : List (List Op) := [[.store 2 6], [.recv .zr 10, .send .xd0 10, .send .yd0 10], [.send .zr 18]]
def g138 : List (List Op) := [[.recv .zl 10, .send .xd1 10, .send .yd1 10], [.send .zl 18], [.recv .z2r 5],
  [.send .z2r 8], [.recv .z2l 5], [.send .z2l 8], [.recv .xd0 2]]
def g139 : List (List Op) := [[.recv .yd0 2], [.recv .xd1 2], [.recv .yd1 2]]
def g140 : List (List Op) := [[.store 2 7], [.hst 4], [.recv .zr 11, .send .xd0 11, .send .yd0 11], [.send .zr 19]]
def g141 : List (List Op) := [[.recv .zl 11, .send .xd1 11, .send .yd1 11], [.send .zl 19], [.recv .xd0 3],
  [.recv .yd0 3, .send .xr0 3], [.recv .xd1 3], [.recv .yd1 3, .send .xr1 3]]
def g142 : List (List Op) := [[.store 3 0], [.store 3 1], [.recv .zr 12, .send .xd0 12, .send .yd0 12],
  [.send .zr 20], [.recv .zl 12, .send .xd1 12, .send .yd1 12]]
def g143 : List (List Op) := [[.send .zl 20], [.recv .xd0 4], [.recv .yd0 4, .send .xr0 4], [.recv .xd1 4],
  [.recv .yd1 4, .send .xr1 4]]
def g144 : List (List Op) := [[.store 3 2], [.recv .zr 13, .send .xd0 13, .send .yd0 13], [.send .zr 21],
  [.recv .zl 13, .send .xd1 13, .send .yd1 13], [.send .zl 21], [.recv .xd0 5, .send .yr0 5], [.recv .yd0 5],
  [.recv .xd1 5, .send .yr1 5]]
def g145 : List (List Op) := [[.recv .yd1 5], [.store 3 3]]
def g146 : List (List Op) := [[.store 3 4], [.recv .zr 14, .send .xd0 14, .send .yd0 14], [.send .zr 22],
  [.recv .zl 14, .send .xd1 14, .send .yd1 14]]
def g147 : List (List Op) := [[.send .zl 22], [.recv .xd0 6, .send .yr0 6], [.recv .yd0 6],
  [.recv .xd1 6, .send .yr1 6], [.recv .yd1 6]]
def g148 : List (List Op) := [[.store 3 5], [.recv .zr 15, .send .xd0 15, .send .yd0 15, .hst 5], [.send .zr 23],
  [.recv .zl 15, .send .xd1 15, .send .yd1 15, .hst 6], [.send .zl 23], [.recv .xd0 7, .send .yr0 7, .hst 7]]
def g149 : List (List Op) := [[.recv .yd0 7, .hst 8], [.recv .xd1 7, .send .yr1 7, .hst 9], [.recv .yd1 7, .hst 10]]
def g150 : List (List Op) := [[.store 3 6], [.store 3 7]]
def g151 : List (List Op) := [[.hst 11], [.recv .zr 16, .send .xd0 16, .send .yd0 16],
  [.recv .zl 16, .send .xd1 16, .send .yd1 16], [.recv .zr 17, .send .xd0 17, .send .yd0 17],
  [.recv .zl 17, .send .xd1 17, .send .yd1 17], [.recv .zr 18, .send .xd0 18, .send .yd0 18]]
def g152 : List (List Op) := [[.recv .zl 18, .send .xd1 18, .send .yd1 18],
  [.recv .zr 19, .send .xd0 19, .send .yd0 19], [.recv .zl 19, .send .xd1 19, .send .yd1 19],
  [.recv .zr 20, .send .xd0 20, .send .yd0 20], [.recv .zl 20, .send .xd1 20, .send .yd1 20],
  [.recv .zr 21, .send .xd0 21, .send .yd0 21], [.recv .zl 21, .send .xd1 21, .send .yd1 21],
  [.recv .zr 22, .send .xd0 22, .send .yd0 22]]
def g153 : List (List Op) := [[.recv .zl 22, .send .xd1 22, .send .yd1 22],
  [.recv .zr 23, .send .xd0 23, .send .yd0 23, .hst 12], [.recv .zl 23, .send .xd1 23, .send .yd1 23, .hst 13],
  [.recv .z2r 6], [.recv .z2l 6], [.recv .z2r 7], [.recv .z2l 7]]
def g154 : List (List Op) := [[.recv .z2r 8], [.recv .z2l 8], [.recv .xd0 8], [.recv .yd0 8], [.recv .xd1 8],
  [.recv .yd1 8], [.recv .xd0 9], [.recv .yd0 9]]
def g155 : List (List Op) := [[.recv .xd1 9], [.recv .yd1 9], [.recv .xd0 10], [.recv .yd0 10], [.recv .xd1 10],
  [.recv .yd1 10], [.recv .xd0 11]]
def g156 : List (List Op) := [[.recv .yd0 11, .send .xr0 11], [.recv .xd1 11], [.recv .yd1 11, .send .xr1 11],
  [.recv .xd0 12], [.recv .yd0 12, .send .xr0 12], [.recv .xd1 12], [.recv .yd1 12, .send .xr1 12],
  [.recv .xd0 13, .send .yr0 13]]
def g157 : List (List Op) := [[.recv .yd0 13], [.recv .xd1 13, .send .yr1 13], [.recv .yd1 13],
  [.recv .xd0 14, .send .yr0 14], [.recv .yd0 14], [.recv .xd1 14, .send .yr1 14], [.recv .yd1 14]]
def g158 : List (List Op) := [[.recv .xd0 15, .send .yr0 15, .hst 14], [.recv .yd0 15, .hst 15],
  [.recv .xd1 15, .send .yr1 15, .hst 16], [.recv .yd1 15, .hst 17], [.recv .xd0 16], [.recv .yd0 16],
  [.recv .xd1 16]]
def g159 : List (List Op) := [[.recv .yd1 16], [.recv .xd0 17], [.recv .yd0 17], [.recv .xd1 17], [.recv .yd1 17],
  [.recv .xd0 18], [.recv .yd0 18], [.recv .xd1 18]]
def g160 : List (List Op) := [[.recv .yd1 18], [.recv .xd0 19], [.recv .yd0 19, .send .xr0 19], [.recv .xd1 19],
  [.recv .yd1 19, .send .xr1 19], [.recv .xd0 20], [.recv .yd0 20, .send .xr0 20], [.recv .xd1 20]]
def g161 : List (List Op) := [[.recv .yd1 20, .send .xr1 20], [.recv .xd0 21, .send .yr0 21], [.recv .yd0 21],
  [.recv .xd1 21, .send .yr1 21], [.recv .yd1 21], [.recv .xd0 22, .send .yr0 22], [.recv .yd0 22]]
def g162 : List (List Op) := [[.recv .xd1 22, .send .yr1 22], [.recv .yd1 22],
  [.recv .xd0 23, .send .yr0 23, .hst 18], [.recv .yd0 23, .hst 19], [.recv .xd1 23, .send .yr1 23, .hst 20],
  [.recv .yd1 23, .hst 21], [.recv .xr0 3]]
def g163 : List (List Op) := [[.recv .xr1 3], [.recv .xr0 4], [.recv .xr1 4], [.recv .yr0 5], [.recv .yr1 5],
  [.recv .yr0 6], [.recv .yr1 6], [.recv .yr0 7, .hst 22]]
def g164 : List (List Op) := [[.recv .yr1 7, .hst 23], [.recv .xr0 11], [.recv .xr1 11], [.recv .xr0 12],
  [.recv .xr1 12], [.recv .yr0 13], [.recv .yr1 13], [.recv .yr0 14]]
def g165 : List (List Op) := [[.recv .yr1 14], [.recv .yr0 15, .hst 24], [.recv .yr1 15, .hst 25], [.recv .xr0 19],
  [.recv .xr1 19], [.recv .xr0 20], [.recv .xr1 20]]
def g166 : List (List Op) := [[.recv .yr0 21], [.recv .yr1 21], [.recv .yr0 22], [.recv .yr1 22],
  [.recv .yr0 23, .hst 26], [.recv .yr1 23, .hst 27]]
def g167 : List (List Op) := [[.hwt 0], [.hwt 1]]
def g168 : List (List Op) := [[.hwt 2], [.hwt 3], [.hwt 4], [.hwt 5]]
def g169 : List (List Op) := [[.hwt 6], [.hwt 7], [.hwt 8], [.hwt 9], [.hwt 10]]
def g170 : List (List Op) := [[.hwt 11], [.hwt 12], [.hwt 13], [.hwt 14], [.hwt 15], [.hwt 16]]
def g171 : List (List Op) := [[.hwt 17], [.hwt 18], [.hwt 19], [.hwt 20], [.hwt 21], [.hwt 22], [.hwt 23], [.hwt 24]]
def g172 : List (List Op) := [[.hwt 25], [.hwt 26], [.hwt 27], [.swait .zr 0], [.swait .zl 0],
  [.swait .xd0 0, .swait .yd0 0], [.swait .xd1 0, .swait .yd1 0]]
def g173 : List (List Op) := [[.swait .zr 1], [.swait .zl 1], [.swait .xd0 1, .swait .yd0 1],
  [.swait .xd1 1, .swait .yd1 1], [.swait .zr 2], [.swait .zl 2], [.swait .xd0 2, .swait .yd0 2]]
def g174 : List (List Op) := [[.swait .xd1 2, .swait .yd1 2], [.swait .zr 3], [.swait .zl 3],
  [.swait .xd0 3, .swait .yd0 3, .swait .xr0 3], [.swait .xd1 3, .swait .yd1 3, .swait .xr1 3], [.swait .zr 4]]
def g175 : List (List Op) := [[.swait .zl 4], [.swait .xd0 4, .swait .yd0 4, .swait .xr0 4],
  [.swait .xd1 4, .swait .yd1 4, .swait .xr1 4], [.swait .zr 5], [.swait .zl 5],
  [.swait .xd0 5, .swait .yd0 5, .swait .yr0 5], [.swait .xd1 5, .swait .yd1 5, .swait .yr1 5]]
def g176 : List (List Op) := [[.swait .zr 6], [.swait .zl 6], [.swait .xd0 6, .swait .yd0 6, .swait .yr0 6],
  [.swait .xd1 6, .swait .yd1 6, .swait .yr1 6], [.swait .zr 7], [.swait .zl 7],
  [.swait .xd0 7, .swait .yd0 7, .swait .yr0 7]]
def g177 : List (List Op) := [[.swait .xd1 7, .swait .yd1 7, .swait .yr1 7], [.swait .zr 8], [.swait .zl 8],
  [.swait .xd0 8, .swait .yd0 8], [.swait .xd1 8, .swait .yd1 8], [.swait .zr 9]]
def g178 : List (List Op) := [[.swait .zl 9], [.swait .xd0 9, .swait .yd0 9], [.swait .xd1 9, .swait .yd1 9],
  [.swait .zr 10], [.swait .zl 10], [.swait .xd0 10, .swait .yd0 10], [.swait .xd1 10, .swait .yd1 10]]
def g179 : List (List Op) := [[.swait .zr 11], [.swait .zl 11], [.swait .xd0 11, .swait .yd0 11, .swait .xr0 11],
  [.swait .xd1 11, .swait .yd1 11, .swait .xr1 11], [.swait .zr 12], [.swait .zl 12],
  [.swait .xd0 12, .swait .yd0 12, .swait .xr0 12]]
def g180 : List (List Op) := [[.swait .xd1 12, .swait .yd1 12, .swait .xr1 12], [.swait .zr 13], [.swait .zl 13],
  [.swait .xd0 13, .swait .yd0 13, .swait .yr0 13], [.swait .xd1 13, .swait .yd1 13, .swait .yr1 13], [.swait .zr 14]]
def g181 : List (List Op) := [[.swait .zl 14], [.swait .xd0 14, .swait .yd0 14, .swait .yr0 14],
  [.swait .xd1 14, .swait .yd1 14, .swait .yr1 14], [.swait .zr 15], [.swait .zl 15],
  [.swait .xd0 15, .swait .yd0 15, .swait .yr0 15], [.swait .xd1 15, .swait .yd1 15, .swait .yr1 15]]
def g182 : List (List Op) := [[.swait .zr 16], [.swait .zl 16], [.swait .xd0 16, .swait .yd0 16],
  [.swait .xd1 16, .swait .yd1 16], [.swait .zr 17], [.swait .zl 17], [.swait .xd0 17, .swait .yd0 17]]
def g183 : List (List Op) := [[.swait .xd1 17, .swait .yd1 17], [.swait .zr 18], [.swait .zl 18],
  [.swait .xd0 18, .swait .yd0 18], [.swait .xd1 18, .swait .yd1 18], [.swait .zr 19]]
def g184 : List (List Op) := [[.swait .zl 19], [.swait .xd0 19, .swait .yd0 19, .swait .xr0 19],
  [.swait .xd1 19, .swait .yd1 19, .swait .xr1 19], [.swait .zr 20], [.swait .zl 20],
  [.swait .xd0 20, .swait .yd0 20, .swait .xr0 20], [.swait .xd1 20, .swait .yd1 20, .swait .xr1 20]]
def g185 : List (List Op) := [[.swait .zr 21], [.swait .zl 21], [.swait .xd0 21, .swait .yd0 21, .swait .yr0 21],
  [.swait .xd1 21, .swait .yd1 21, .swait .yr1 21], [.swait .zr 22], [.swait .zl 22],
  [.swait .xd0 22, .swait .yd0 22, .swait .yr0 22]]
def g186 : List (List Op) := [[.swait .xd1 22, .swait .yd1 22, .swait .yr1 22], [.swait .zr 23], [.swait .zl 23],
  [.swait .xd0 23, .swait .yd0 23, .swait .yr0 23], [.swait .xd1 23, .swait .yd1 23, .swait .yr1 23], [.swait .z2r 0]]
def g187 : List (List Op) := [[.swait .z2l 0], [.swait .z2r 1], [.swait .z2l 1], [.swait .z2r 2], [.swait .z2l 2],
  [.swait .z2r 3]]
def g188 : List (List Op) := [[.swait .z2l 3], [.swait .z2r 4], [.swait .z2l 4], [.swait .z2r 5], [.swait .z2l 5],
  [.swait .z2r 6]]
def g190 : List (List Op) := [[.swait .z2l 6], [.swait .z2r 7], [.swait .z2l 7], [.swait .z2r 8]]
def gEnd : List (List Op) := [[.swait .z2l 8]]

/-- The whole text. -/
def allG : List (List Op) :=
  g110 ++ (g111 ++ (g112 ++ (g113 ++ (g114 ++ (g115 ++ (g116 ++ (g117 ++ (g118 ++ (g119 ++ (g120 ++ (g121 ++
    (g122 ++ (g123 ++ (g124 ++ (g125 ++ (g126 ++ (g127 ++ (g128 ++ (g129 ++ (g130 ++ (g131 ++ (g132 ++ (g133 ++
    (g134 ++ (g135 ++ (g136 ++ (g137 ++ (g138 ++ (g139 ++ (g140 ++ (g141 ++ (g142 ++ (g143 ++ (g144 ++ (g145 ++
    (g146 ++ (g147 ++ (g148 ++ (g149 ++ (g150 ++ (g151 ++ (g152 ++ (g153 ++ (g154 ++ (g155 ++ (g156 ++ (g157 ++
    (g158 ++ (g159 ++ (g160 ++ (g161 ++ (g162 ++ (g163 ++ (g164 ++ (g165 ++ (g166 ++ (g167 ++ (g168 ++ (g169 ++
    (g170 ++ (g171 ++ (g172 ++ (g173 ++ (g174 ++ (g175 ++ (g176 ++ (g177 ++ (g178 ++ (g179 ++ (g180 ++ (g181 ++
    (g182 ++ (g183 ++ (g184 ++ (g185 ++ (g186 ++ (g187 ++ (g188 ++ (g190 ++
    (gEnd))))))))))))))))))))))))))))))))))))))))))))))))))))))))))))))))))))))))))))))))

/-- Every step in order. -/
def allOps : List Op := allG.flatten

end Cert.AG
-- ==== Proof.Res.lean ====
module

public import proofs.«01_k».proof.Proof.Geom

@[expose] public section

/-! Resources by number.

A list of codes stands for the separating conjunction of what the codes denote, a mask for that of the codes whose
bits are set. What a list of steps needs (`Res`) is read off the steps; a mask on which the steps run by
evaluation (`run`) provides it. -/

noncomputable section

namespace Cert.AG

open Idealize.SL Idealize.SL.RA Idealize.SL.BI
open scoped Idealize.SL.BI
open Idealize.SL.BI.BIBase Idealize.SL.BI.Laws Idealize.SL.ProofMode

variable {M : Type} [URA M] (den : ℕ → sProp M)

/-- The conjunction of a list of codes. -/
def sepL : List ℕ → sProp M
  | [] => iprop(emp)
  | i :: l => iprop(den i ∗ sepL l)

/-- The conjunction of a mask's codes. -/
def maskS (σ : ℕ) : sProp M := bigSep ((Finset.range NB).filter fun i => σ.testBit i = true) den

theorem testBit_flip (σ i j : ℕ) : (σ ^^^ 2 ^ i).testBit j = (σ.testBit j ^^ decide (i = j)) := by
  rw [Nat.testBit_xor, Nat.testBit_two_pow]

theorem sep_flat (P Q R : sProp M) : iprop((P ∗ Q) ∗ R) = iprop(P ∗ Q ∗ R) :=
  equiv_iff.mp ⟨BI.sep_assoc, BI.sep_assoc'⟩
theorem sep_drop (P : sProp M) : iprop(emp ∗ P) = P := equiv_iff.mp BI.emp_sep
theorem bigSep_cons {I : Type} [DecidableEq I] {i : I} {s : Finset I} (h : i ∉ s) (Φ : I → sProp M) :
    bigSep (insert i s) Φ = iprop(Φ i ∗ bigSep s Φ) := bigSep_insert h
theorem sep_comm_eq (P Q : sProp M) : iprop(P ∗ Q) = iprop(Q ∗ P) := equiv_iff.mp ⟨BI.sep_comm, BI.sep_comm⟩

/-- Clearing a bit that is set takes its code out. -/
theorem maskS_clear {σ i : ℕ} (hi : i < NB) (h : σ.testBit i = true) :
    maskS den σ = iprop(den i ∗ maskS den (σ ^^^ 2 ^ i)) := by
  have e : (Finset.range NB).filter (fun j => σ.testBit j = true) =
      insert i ((Finset.range NB).filter fun j => (σ ^^^ 2 ^ i).testBit j = true) := by
    ext j
    simp only [Finset.mem_filter, Finset.mem_range, Finset.mem_insert, testBit_flip]
    by_cases hj : i = j
    · subst hj; simp [h, hi]
    · have hj' : ¬ j = i := fun e => hj e.symm
      simp [hj, hj']
  unfold maskS
  rw [e, bigSep_cons (by simp only [Finset.mem_filter, testBit_flip, h]; simp)]

/-- Setting a bit that is clear puts its code in. -/
theorem maskS_set {σ i : ℕ} (hi : i < NB) (h : σ.testBit i = false) :
    maskS den (σ ^^^ 2 ^ i) = iprop(den i ∗ maskS den σ) := by
  rw [maskS_clear den (σ := σ ^^^ 2 ^ i) hi (by simp [testBit_flip, h])]
  congr 2
  rw [Nat.xor_assoc, Nat.xor_self, Nat.xor_zero]

theorem maskS_zero : maskS den 0 = iprop(emp) := by
  unfold maskS
  rw [show (Finset.range NB).filter (fun i => (0 : ℕ).testBit i = true) = ∅ from by ext; simp]
  exact bigSep_empty

/-- Taking codes out of a mask. -/
theorem maskS_takes (l : List ℕ) : ∀ {σ σ' : ℕ}, takes l σ = some σ' → maskS den σ = iprop(sepL den l ∗ maskS den σ') := by
  induction l with
  | nil =>
    intro σ σ' h
    simp only [takes, Option.some.injEq] at h
    rw [h, sepL, sep_drop]
  | cons i l ih =>
    intro σ σ' h
    simp only [takes] at h
    by_cases hi : i < NB ∧ σ.testBit i = true
    · rw [if_pos hi] at h
      rw [maskS_clear den hi.1 hi.2, ih h, sepL, sep_flat]
    · rw [if_neg hi] at h
      exact absurd h (by simp)

/-- Putting codes into a mask. -/
theorem maskS_puts (l : List ℕ) : ∀ {σ σ' : ℕ}, puts l σ = some σ' → maskS den σ' = iprop(sepL den l ∗ maskS den σ) := by
  induction l with
  | nil =>
    intro σ σ' h
    simp only [puts, Option.some.injEq] at h
    rw [h, sepL, sep_drop]
  | cons i l ih =>
    intro σ σ' h
    simp only [puts] at h
    by_cases hi : i < NB ∧ σ.testBit i = false
    · rw [if_pos hi] at h
      rw [ih h, maskS_set den hi.1 hi.2, sepL, ← sep_flat, sep_comm_eq (sepL den l)]
    · rw [if_neg hi] at h
      exact absurd h (by simp)

/-- What the steps need to go from here to `R`: each step's resources, and after giving its results back what the
    rest needs. -/
def Res (c : D) (R : sProp M) : List Op → sProp M
  | [] => R
  | op :: l => if guard op c = true then iprop(sepL den (pre op c) ∗ (sepL den (post op c) -∗ Res c R l)) else Res c R l

theorem Res_nil (c : D) (R : sProp M) : Res den c R [] = R := rfl
theorem Res_pos (c : D) (R : sProp M) {op : Op} (l : List Op) (h : guard op c = true) :
    Res den c R (op :: l) = iprop(sepL den (pre op c) ∗ (sepL den (post op c) -∗ Res den c R l)) := if_pos h
theorem Res_neg (c : D) (R : sProp M) {op : Op} (l : List Op) (h : ¬guard op c = true) :
    Res den c R (op :: l) = Res den c R l := if_neg h

theorem run_nil (c : D) (σ : ℕ) : run c [] σ = some σ := rfl
theorem run_neg (c : D) {op : Op} (l : List Op) (σ : ℕ) (h : ¬guard op c = true) :
    run c (op :: l) σ = run c l σ := if_neg h
theorem run_pos (c : D) {op : Op} (l : List Op) (σ : ℕ) (h : guard op c = true) :
    run c (op :: l) σ = match takes (pre op c) σ with
      | none => none
      | some σ₁ =>
        match puts (post op c) σ₁ with
        | none => none
        | some σ₂ => run c l σ₂ := if_pos h

/-- A mask on which the steps run provides what they need. -/
theorem Res_of_run (c : D) (l : List Op) : ∀ {σ σ' : ℕ}, run c l σ = some σ' →
    maskS den σ ⊢ Res den c (maskS den σ') l := by
  induction l with
  | nil =>
    intro σ σ' h
    cases (run_nil c σ).symm.trans h
    exact .refl
  | cons op l ih =>
    intro σ σ' h
    by_cases hg : guard op c = true
    · rw [run_pos _ _ _ hg] at h
      rw [Res_pos _ _ _ _ hg]
      cases ht : takes (pre op c) σ with
      | none => simp [ht] at h
      | some σ₁ =>
        cases hp : puts (post op c) σ₁ with
        | none => simp [ht, hp] at h
        | some σ₂ =>
          simp only [ht, hp] at h
          rw [maskS_takes den _ ht]
          refine BIClass.sep_mono .refl (BIClass.wand_intro ?_)
          refine (BIBase.Entails.of_eq (sep_comm_eq _ _)).trans ?_
          rw [← maskS_puts den _ hp]
          exact ih h
    · rw [run_neg _ _ _ hg] at h
      rw [Res_neg _ _ _ _ hg]
      exact ih h

theorem sepL_append (l l' : List ℕ) : sepL den (l ++ l') = iprop(sepL den l ∗ sepL den l') := by
  induction l with
  | nil => rw [List.nil_append, sepL, sep_drop]
  | cons i l ih => rw [List.cons_append, sepL, sepL, ih, sep_flat]

/-- The codes' conjunctions entail one another position by position. -/
theorem sepL_map {A : Type} (den' : ℕ → sProp M) (l : List A) (f g : A → ℕ) (h : ∀ a ∈ l, den (f a) ⊢ den' (g a)) :
    sepL den (l.map f) ⊢ sepL den' (l.map g) := by
  induction l with
  | nil => exact .refl
  | cons a l ih =>
    simp only [List.map_cons, sepL]
    exact BIClass.sep_mono (h a (by simp)) (ih fun b hb => h b (by simp [hb]))

/-- Rewriting each code of a mapped list into a list of codes. -/
theorem sepL_flatMap {A : Type} (l : List A) (f : A → List ℕ) (P : A → sProp M) (h : ∀ a ∈ l, P a ⊢ sepL den (f a)) :
    l.foldr (fun a R => iprop(P a ∗ R)) iprop(emp) ⊢ sepL den (l.flatMap f) := by
  induction l with
  | nil => exact .refl
  | cons a l ih =>
    rw [List.flatMap_cons, sepL_append, List.foldr_cons]
    exact BIClass.sep_mono (h a (by simp)) (ih fun b hb => h b (by simp [hb]))

end Cert.AG

end
-- ==== Proof.Sched.lean ====
module

public import proofs.«01_k».proof.Proof.Res
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

/-! The contents, the schedule of the semaphores and the meaning of the resource codes. -/

noncomputable section

namespace Cert.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline's copy of the rounds algebra and this kernel's, whose duties have four names. -/
abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Semaphores -/

/-- The kernel's own DMA semaphore number `s` (the pipeline's one is number `0` of the signature). -/
def dq (s : ℕ) : DmaSem sig := (Fin.ofNat 545 (s + 1) : Fin 545)

/-- The runtime's barrier semaphore. -/
abbrev barS : Sem sig := (SemArray.scalar (sig.barrier 0 rfl) : Sems sig S_).sem

abbrev barC (c : Dev nD) : GSem nD τ sig := ((c : Thread nD τ), .reg barS)
abbrev kc (c : Dev nD) (s : ℕ) : GSem nD τ sig := ((c : Thread nD τ), .dma (dq s))

/-- What a number stands for: the send or receive semaphore of a family's copy, or that of a copy to the result. -/
inductive Role
  | snd (k : Kd) (i : ℕ)
  | rcv (k : Kd) (i : ℕ)
  | hbm (idx : ℕ)
  deriving DecidableEq

/-- The family a number falls in. -/
def kof (s : ℕ) : Kd :=
  if s < 48 then .zr else if s < 96 then .zl else if s < 114 then .z2r else if s < 132 then .z2l
  else if s < 180 then .xd0 else if s < 228 then .xd1 else if s < 276 then .yd0 else if s < 324 then .yd1
  else if s < 372 then .yr0 else if s < 420 then .yr1 else if s < 468 then .xr0 else .xr1

def role (s : ℕ) : Role :=
  if 516 ≤ s then .hbm (s - 516)
  else if s - base (kof s) < cnt (kof s) then .snd (kof s) (s - base (kof s))
  else .rcv (kof s) (s - base (kof s) - cnt (kof s))

theorem role_snd (k : Kd) : ∀ i < cnt k, role (snd k i) = .snd k i := by cases k <;> decide +kernel
theorem role_rcv (k : Kd) : ∀ i < cnt k, role (rcv k i) = .rcv k i := by cases k <;> decide +kernel
theorem role_dsm : ∀ i < 28, role (dsm i) = .hbm i := by decide +kernel
theorem snd_lt (k : Kd) : ∀ i < cnt k, snd k i < 516 := by cases k <;> decide +kernel
theorem rcv_lt (k : Kd) : ∀ i < cnt k, rcv k i < 516 := by cases k <;> decide +kernel

/-- Is the semaphore used at the device? -/
def act (s : ℕ) (c : Dev nD) : Bool :=
  match role s with
  | .snd k i => sg k i c
  | .rcv k i => rg k i c
  | .hbm idx => hg idx c

theorem dq_val {s : ℕ} (h : s < 544) : (dq s).val = s + 1 := by
  show (s + 1) % 545 = s + 1
  exact Nat.mod_eq_of_lt (by omega)

theorem dq_inj {s t : ℕ} (hs : s < 544) (ht : t < 544) (h : dq s = dq t) : s = t := by
  have := congrArg Fin.val h
  rw [dq_val hs, dq_val ht] at this
  omega

/-! ## Contents -/

/-- Indices of the gathered array and of a block. -/
abbrev GI := S16384x1024.Idx
abbrev BI' := S4096x1024.Idx

/-- The rows from `lo` up to `hi`. -/
def rows (lo hi : ℕ) : Finset GI := Finset.univ.filter fun i => lo ≤ (i 0).val ∧ (i 0).val < hi

theorem mem_rows {lo hi : ℕ} {i : GI} : i ∈ rows lo hi ↔ lo ≤ (i 0).val ∧ (i 0).val < hi := by
  unfold rows; rw [Finset.mem_filter]; exact ⟨fun h => h.2, fun h => ⟨Finset.mem_univ _, h⟩⟩

theorem rows_union {a b d : ℕ} (h₁ : a ≤ b) (h₂ : b ≤ d) : rows a d = rows a b ∪ rows b d := by
  ext i; rw [Finset.mem_union, mem_rows, mem_rows, mem_rows]; omega

theorem rows_disj {a b d e : ℕ} (h : b ≤ d) : Disjoint (rows a b) (rows d e) := by
  rw [Finset.disjoint_left]; intro i hi hj; rw [mem_rows] at hi hj; omega

theorem rows_empty (a : ℕ) : rows a a = ∅ := by
  ext i; rw [mem_rows]; simp only [Finset.notMem_empty, iff_false]; omega

theorem rows_all : rows 0 16384 = Finset.univ := by
  ext i; rw [mem_rows]; exact ⟨fun _ => Finset.mem_univ _, fun _ => ⟨Nat.zero_le _, (i 0).isLt⟩⟩

/-- A piece's and a quarter's rows. -/
abbrev prow (n : ℕ) : Finset GI := rows (128 * n) (128 * n + 128)
abbrev qrow (q : ℕ) : Finset GI := rows (1024 * q) (1024 * q + 1024)

/-- The device whose own block piece `n` at device `c` comes from, along the way the piece takes to `c`. -/
def srcDev (c : D) (n : ℕ) : D :=
  if n / 32 = cz c then c
  else
    if n / 8 % 4 = qk c then dev (cx c) (cy c) (n / 32)
    else if n / 8 % 4 = qx c then dev (1 - cx c) (cy c) (n / 32)
    else if n / 8 % 4 = qy c then dev (cx c) (mate (cy c)) (n / 32)
    else if n % 8 < 3 then dev (cx c) (cy c) (n / 32)
    else dev (1 - cx c) (mate (cy c)) (n / 32)

/-- A copy keeps a piece's origin. -/
theorem srcDev_sp : ∀ a ∈ chans, ∀ c : D, sg a.1 a.2 c = true →
    srcDev (tgt a.1 c) (sp a.1 a.2 c) = srcDev c (sp a.1 a.2 c) := by decide +kernel

theorem mem_chans (k : Kd) : ∀ i < cnt k, (k, i) ∈ chans := by cases k <;> decide +kernel

theorem srcDev_z : ∀ n < 128, ∀ c : D, cz (srcDev c n) = n / 32 := by decide +kernel

/-- A row of the gathered array inside its block. -/
def inner (i : GI) : BI' := fun a =>
  match a with
  | 0 => ⟨(i 0).val % 4096, Nat.mod_lt _ (by decide)⟩
  | 1 => ⟨(i 1).val, (i 1).isLt⟩

section
variable (xs : Dev nD → BI' → Elt F .bf16)

/-- The gathered array, as it is at device `c`. -/
def gath (c : Dev nD) : GI → Elt F .bf16 := fun i => xs (srcDev c ((i 0).val / 128)) (inner i)

/-! ## Points-tos -/

/-- Rows of the scratch, of the result. -/
def cP (c : Dev nD) (S : Finset GI) (q : PosShare TreeShare) (f : GI → Elt F .bf16) : sProp 𝕄 :=
  (c : Thread nD τ).loc cc0_scratch0 ↦[S]{q} f
def oP (c : Dev nD) (S : Finset GI) (f : GI → Elt F .bf16) : sProp 𝕄 :=
  (c : Thread nD τ).loc main_v1 ↦[S]{fullShare} f
def xP (c : Dev nD) : sProp 𝕄 := (c : Thread nD τ).loc cc0_stg0_0 ↦{fullShare} xs c

omit [FloatOps F] in
instance cP_storable (c : Dev nD) (S q f) : BI.Storable (upEmb : UEmb _ 𝕄) (cP (F := F) c S q f) := by
  unfold cP; infer_instance
omit [FloatOps F] in
instance oP_storable (c : Dev nD) (S f) : BI.Storable (upEmb : UEmb _ 𝕄) (oP (F := F) c S f) := by
  unfold oP; infer_instance

/-- The five shares. -/
def shq : ℕ → PosShare TreeShare
  | 0 => fullShare.left
  | 1 => fullShare.right.left.left
  | 2 => fullShare.right.left.right
  | 3 => fullShare.right.right.left
  | _ => fullShare.right.right.right

/-- A share of a piece, holding the gathered rows; eight pieces of a quarter. -/
def shR (c : Dev nD) (sl n : ℕ) : sProp 𝕄 := cP c (prow n) (shq sl) (gath xs c)
def rawR (c : Dev nD) (n : ℕ) : sProp 𝕄 := iprop(∃ f, cP c (prow n) fullShare f)
def landR (c : Dev nD) (s : ℕ) : sProp 𝕄 :=
  match role s with
  | .rcv k i => rawR (tgt k c) (sp k i c)
  | _ => iprop(emp)
def oRawR (c : Dev nD) (q : ℕ) : sProp 𝕄 := iprop(∃ f, oP c (qrow q) f)
def oDoneR (c : Dev nD) (q : ℕ) : sProp 𝕄 := oP c (qrow q) (gath xs c)

/-! ## The schedule -/

/-- What a barrier payment hands over: places to write, one after the other. -/
def landsA (c : Dev nD) : List ℕ → sProp 𝕄
  | [] => iprop(emp)
  | s :: l => iprop(landR c s ∗ landsA c l)

/-- The credit of a piece, of a quarter. -/
abbrev NP : ℕ := (Memref.whole cc0_scratch0 : Memref sig .tc .vmem S16384x1024 .bf16).view.ref.dmaCredit S128x1024 .bf16
abbrev NQ : ℕ := (Memref.whole main_v1 : Memref sig .tc .hbm S16384x1024 .bf16).view.ref.dmaCredit S1024x1024 .bf16

def amt (s : ℕ) : ℕ := if 516 ≤ s then NQ else NP

/-- What the completion of a transfer on semaphore `s` hands to the device that owns it. -/
def payS (c : Dev nD) (s : ℕ) : sProp 𝕄 :=
  match role s with
  | .snd k i => shR xs c (slot k) (sp k i c)
  | .rcv k i => cP c (prow (rp k i c)) fullShare (gath xs c)
  | .hbm idx => iprop(oDoneR xs c (hq idx c) ∗ cP c (qrow (hq idx c)) (shq 0) (gath xs c))

theorem NP_pos : 0 < NP := View.dmaCredit_pos
    ((Memref.whole cc0_scratch0 : Memref sig .tc .vmem S16384x1024 .bf16).slice (Rect.unit (s := S16384x1024) ![0, 0] S128x1024.size (by decide)) (fun _ => rfl)).view (by decide)
theorem NQ_pos : 0 < NQ := View.dmaCredit_pos
    ((Memref.whole main_v1 : Memref sig .tc .hbm S16384x1024 .bf16).slice (Rect.unit (s := S16384x1024) ![0, 0] S1024x1024.size (by decide)) (fun _ => rfl)).view (by decide)
theorem amt_pos (s : ℕ) : 0 < amt s := by
  unfold amt; split
  · exact NQ_pos
  · exact NP_pos

/-- One round. A barrier cell has a duty for every neighbour there is, of one unit; a transfer semaphore that is used
    the duty `0`. -/
def Rd : Rounds.Schedule (GSem nD τ sig) (Fin 4) 𝕄 where
  duties g r :=
    if r = 0 ∧ g.1.2 = .tc then
      match g.2 with
      | .reg _ => Finset.univ.filter fun j => bg j g.1.1 = true
      | .dma q => if q.val ≠ 0 ∧ act (q.val - 1) g.1.1 = true then {0} else ∅
    else ∅
  unitless _ := False
  amount g _ _ :=
    match g.2 with
    | .reg _ => 1
    | .dma q => amt (q.val - 1)
  payload g _ j :=
    match g.2 with
    | .reg _ => landsA g.1.1 ((outTo j g.1.1).map fun a => rcv a.1 a.2)
    | .dma q => payS xs g.1.1 (q.val - 1)
  amount_pos g _ _ _ := by
    match g.2 with
    | .reg _ => exact Nat.one_pos
    | .dma q => exact amt_pos _

omit [FloatOps F] in
instance landsA_storable (c : Dev nD) (l : List ℕ) : BI.Storable (upEmb : UEmb _ 𝕄) (landsA (F := F) c l) := by
  induction l with
  | nil => unfold landsA; infer_instance
  | cons s l ih => unfold landsA landR rawR; split <;> infer_instance
omit [FloatOps F] in
instance payS_storable (c : Dev nD) (s : ℕ) : BI.Storable (upEmb : UEmb _ 𝕄) (payS xs c s) := by
  unfold payS shR oDoneR; split <;> infer_instance
omit [FloatOps F] in
instance Rd_storable (g : GSem nD τ sig) (r : ℕ) (d : Fin 4) :
    BI.Storable (upEmb : UEmb _ 𝕄) ((Rd xs).payload g r d) := by
  obtain ⟨t, sm⟩ := g
  cases sm
  · exact landsA_storable _ _
  · exact payS_storable xs _ _

omit [FloatOps F] in
theorem duties_later (g : GSem nD τ sig) : ∀ r, 1 ≤ r → (Rd xs).duties g r = ∅ :=
  fun r hr => by dsimp only [Rd]; exact if_neg fun h => by omega
omit [FloatOps F] in
theorem duties_bar (c : Dev nD) : (Rd xs).duties (barC c) 0 = Finset.univ.filter fun j => bg j c = true := by
  dsimp only [Rd]; exact if_pos ⟨rfl, rfl⟩
omit [FloatOps F] in
theorem duties_kc {c : Dev nD} {s : ℕ} (hs : s < 544) (h : act s c = true) : (Rd xs).duties (kc c s) 0 = {0} := by
  dsimp only [Rd]; rw [if_pos ⟨rfl, rfl⟩, dq_val hs]; exact if_pos ⟨by omega, h⟩
omit [FloatOps F] in
theorem duties_idle {c : Dev nD} {s : ℕ} (hs : s < 544) (h : act s c = false) (r : ℕ) : (Rd xs).duties (kc c s) r = ∅ := by
  dsimp only [Rd]; split
  · rw [dq_val hs]; exact if_neg fun h' => by rw [Nat.add_sub_cancel, h] at h'; exact absurd h'.2 (by decide)
  · rfl
omit [FloatOps F] in
theorem amount_bar (c : Dev nD) (r) (j : Fin 4) : (Rd xs).amount (barC c) r j = 1 := rfl
omit [FloatOps F] in
theorem amount_kc {c : Dev nD} {s : ℕ} (hs : s < 544) (r) (j : Fin 4) : (Rd xs).amount (kc c s) r j = amt s := by
  dsimp only [Rd]; rw [dq_val hs, Nat.add_sub_cancel]
omit [FloatOps F] in
theorem payload_kc {c : Dev nD} {s : ℕ} (hs : s < 544) (r) (j : Fin 4) : (Rd xs).payload (kc c s) r j = payS xs c s := by
  dsimp only [Rd]; rw [dq_val hs, Nat.add_sub_cancel]
omit [FloatOps F] in
theorem payload_bar (c : Dev nD) (r) (j : Fin 4) :
    (Rd xs).payload (barC c) r j = landsA c ((outTo j c).map fun a => rcv a.1 a.2) := rfl
omit [FloatOps F] in
theorem expect_kc {c : Dev nD} {s : ℕ} (hs : s < 544) (h : act s c = true) : (Rd xs).expect (kc c s) 0 = amt s := by
  unfold Schedule.expect Schedule.amountOf; rw [duties_kc xs hs h, Finset.sum_singleton, amount_kc xs hs]
omit [FloatOps F] in
theorem expect_bar (c : Dev nD) :
    (Rd xs).expect (barC c) 0 = (Finset.univ.filter fun j : Fin 4 => bg j c = true).card := by
  unfold Schedule.expect Schedule.amountOf
  rw [duties_bar, Finset.sum_congr rfl fun j _ => amount_bar xs c 0 j, Finset.sum_const, smul_eq_mul, Nat.mul_one]
omit [FloatOps F] in
theorem rest_kc {c : Dev nD} {s : ℕ} (hs : s < 544) (h : act s c = true) :
    bigSep ((Rd xs).duties (kc c s) 0 \ ∅) (fun d => (Rd xs).payload (kc c s) 0 d) = payS xs c s := by
  rw [Finset.sdiff_empty, duties_kc xs hs h, bigSep_singleton, payload_kc xs hs]

/-! ## What the codes denote -/

def posR (c : Dev nD) (s : ℕ) : sProp 𝕄 := atPos ER (kc c s) 0 ∅ 0
def tokR (c : Dev nD) (s : ℕ) : sProp 𝕄 :=
  match role s with
  | .rcv k i => dutyTok ER (kc (tgt k c) s) 0 0
  | _ => dutyTok ER (kc c s) 0 0
def crR (c : Dev nD) (s : ℕ) : sProp 𝕄 := cred (tallyAt (kc c s) () (amt s))
def zR (c : Dev nD) (s : ℕ) : sProp 𝕄 := semVal (kc c s) 0

def denB (c : Dev nD) (n : ℕ) : sProp 𝕄 :=
  match n with
  | 0 => xP xs c
  | 1 => atPos ER (barC c) 0 ∅ 0
  | _ => semVal (barC c) 0

def den (c : Dev nD) (code : ℕ) : sProp 𝕄 :=
  match code / 1024 with
  | 0 => posR c (code % 1024)
  | 1 => tokR c (code % 1024)
  | 2 => crR c (code % 1024)
  | 3 => zR c (code % 1024)
  | 4 => shR xs c 0 (code % 1024)
  | 5 => shR xs c 1 (code % 1024)
  | 6 => shR xs c 2 (code % 1024)
  | 7 => shR xs c 3 (code % 1024)
  | 8 => shR xs c 4 (code % 1024)
  | 9 => rawR c (code % 1024)
  | 10 => landR c (code % 1024)
  | 11 => oRawR c (code % 1024)
  | 12 => oDoneR xs c (code % 1024)
  | 13 => denB xs c (code % 1024)
  | 14 => dutyTok ER (barC (nb (Fin.ofNat 4 (code % 1024)) c)) 0 (opp (Fin.ofNat 4 (code % 1024)))
  | _ => cred (tallyAt (barC c) () 1)

end

theorem code_div {t s : ℕ} (h : s < 1024) : (1024 * t + s) / 1024 = t := by omega
theorem code_mod {t s : ℕ} (h : s < 1024) : (1024 * t + s) % 1024 = s := by omega

section
variable (xs : Dev nD → BI' → Elt F .bf16) (c : Dev nD) {s : ℕ} (h : s < 1024)
include h
omit [FloatOps F]
theorem den_pos : den xs c (cPos s) = posR c s := by unfold den cPos; rw [code_div h, code_mod h]; rfl
theorem den_tok : den xs c (cTok s) = tokR c s := by unfold den cTok; rw [code_div h, code_mod h]; rfl
theorem den_cr : den xs c (cCr s) = crR c s := by unfold den cCr; rw [code_div h, code_mod h]; rfl
theorem den_z : den xs c (cZ s) = zR c s := by unfold den cZ; rw [code_div h, code_mod h]; rfl
theorem den_sh {sl : ℕ} (hsl : sl < 5) : den xs c (cSh sl s) = shR xs c sl s := by
  unfold den cSh; rw [code_div h, code_mod h]
  rcases sl with _ | _ | _ | _ | _ | n
  all_goals first | rfl | omega
theorem den_raw : den xs c (cRaw s) = rawR c s := by unfold den cRaw; rw [code_div h, code_mod h]; rfl
theorem den_land : den xs c (cLand s) = landR c s := by unfold den cLand; rw [code_div h, code_mod h]; rfl
theorem den_oRaw : den xs c (cORaw s) = oRawR c s := by unfold den cORaw; rw [code_div h, code_mod h]; rfl
theorem den_oDone : den xs c (cODone s) = oDoneR xs c s := by unfold den cODone; rw [code_div h, code_mod h]; rfl
end

section
variable (xs : Dev nD → BI' → Elt F .bf16) (c : Dev nD)
omit [FloatOps F]
theorem den_X : den xs c cX = xP xs c := rfl
theorem den_posB : den xs c cPosB = atPos ER (barC c) 0 ∅ 0 := rfl
theorem den_zB : den xs c cZB = semVal (barC c) 0 := rfl
theorem den_sig (j : Fin 4) : den xs c (cSig j) = dutyTok ER (barC (nb j c)) 0 (opp j) := by
  unfold den cSig; rw [code_div (by omega), code_mod (by omega)]
  have e : Fin.ofNat 4 j.val = j := Fin.ext (Nat.mod_eq_of_lt j.isLt)
  show dutyTok ER (barC (nb (Fin.ofNat 4 j.val) c)) 0 (opp (Fin.ofNat 4 j.val)) = _
  rw [e]
theorem den_crB (j : Fin 4) : den xs c (cCrB j) = cred (tallyAt (barC c) () 1) := by
  unfold den cCrB; rw [code_div (by omega)]; rfl
end

/-! ## Levels and what a device owes -/

/-- The level of a receive semaphore. -/
def lvR (k : Kd) (i : ℕ) : ℕ :=
  match k with
  | .zr => 32 * i + 4
  | .zl => 32 * i + 8
  | .z2r => if i < 3 then 234 + 2 * i else 32 * (i / 3 * 8 + i % 3) + 9
  | .z2l => if i < 3 then 235 + 2 * i else 32 * (i / 3 * 8 + i % 3) + 10
  | .xd0 => 32 * (i + 8) + 1
  | .yd0 => 32 * (i + 8) + 2
  | .xd1 => 32 * (i + 8) + 5
  | .yd1 => 32 * (i + 8) + 6
  | _ => 10000

def lvS (s : ℕ) : ℕ :=
  match role s with
  | .rcv k i => lvR k i
  | _ => 0

def L (g : GSem nD τ sig) : Finset Unit := if g.1.2 = .tc then {()} else ∅
def lv (g : GSem nD τ sig) (_ : Unit) : ℕ :=
  match g.2 with
  | .reg _ => 1
  | .dma q => if q.val = 0 then 0 else lvS (q.val - 1)

theorem L_tc (g : GSem nD τ sig) (h : g.1.2 = .tc) : L g = {()} := if_pos h
theorem lv_bar (c : Dev nD) : lv (barC c) () = 1 := rfl
theorem lv_kc {c : Dev nD} {s : ℕ} (h : s < 544) : lv (kc c s) () = lvS s := by
  unfold lv; show (if (dq s).val = 0 then 0 else lvS ((dq s).val - 1)) = _
  rw [dq_val h, if_neg (by omega), Nat.add_sub_cancel]

/-- What the device still owes others: the units of its barrier signals, the credits of its remote copies. -/
def owed (c : Dev nD) : List Op → CellTallies nD τ sig Unit
  | [] => 0
  | .sig j :: l => if bg j c = true then owed c l + tallyAt (barC (nb j c)) () 1 else owed c l
  | .send k i :: l => if sg k i c = true then owed c l + tallyAt (kc (tgt k c) (rcv k i)) () NP else owed c l
  | _ :: l => owed c l

/-- The level a step waits at. -/
def lvW : Op → Option ℕ
  | .bar => some 1
  | .recv k i => some (lvR k i)
  | .swait _ _ => some 0
  | .hwt _ => some 0
  | _ => none

/-- The level of the debt a step pays. -/
def lvO : Op → Option ℕ
  | .sig _ => some 1
  | .send k i => some (lvR k i)
  | _ => none

/-- The counts of a step's copies are in range. -/
def okIx : Op → Bool
  | .send k i | .recv k i | .swait k i => decide (i < cnt k)
  | .hst idx | .hwt idx => decide (idx < 28)
  | .store o p => decide (o < 5) && decide (p < 8)
  | _ => true

/-- Seen from the end: is every wait below all debts still to be paid, and the least level of those. -/
def scan (c : D) : List Op → Bool × ℕ
  | [] => (true, 100000)
  | op :: l =>
    let r := scan c l
    if guard op c then
      (r.1 && okIx op && (match lvW op with | some v => decide (v < r.2) | none => true),
        match lvO op with | some v => min v r.2 | none => r.2)
    else r

theorem scan_all : ∀ c : D, (scan c allOps).1 = true := by decide +kernel

end Cert.AG
-- ==== Proof.Step.lean ====
module

public import proofs.«01_k».proof.Proof.Sched

@[expose] public section

/-! One rule for every kind of step of the kernel's text. -/

noncomputable section

namespace Cert.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Rectangles of rows -/

/-- A rectangle of whole rows covers those rows. -/
theorem unit_set {n lo : ℕ} {off : Fin S16384x1024.rank → ℕ} {inb} (h0 : off 0 = lo) (h1 : off 1 = 0) :
    (Rect.unit (s := S16384x1024) off (⟨2, ![n, 1024]⟩ : Shape).size inb).set = rows lo (lo + n) := by
  ext i
  rw [Rect.mem_set_unit, mem_rows]
  constructor
  · intro h
    have := h 0
    rw [h0] at this
    exact this
  · intro h a
    match a with
    | 0 => rw [h0]; exact h
    | 1 => rw [h1]; exact ⟨Nat.zero_le _, by have : (i 1).val < 1024 := (i 1).isLt; show (i 1).val < 0 + 1024; omega⟩

/-- Two rectangles of the same rows put an index at the same place. -/
theorem unit_emb {n : ℕ} {off off' : Fin S16384x1024.rank → ℕ} {inb inb'} (h : off = off')
    (x : (⟨2, ![n, 1024]⟩ : Shape).Idx) :
    (Rect.unit (s := S16384x1024) off (⟨2, ![n, 1024]⟩ : Shape).size inb).emb x =
      (Rect.unit (s := S16384x1024) off' (⟨2, ![n, 1024]⟩ : Shape).size inb').emb x := by
  subst h; rfl

theorem off_eq {off off' : Fin S16384x1024.rank → ℕ} {lo : ℕ} (h0 : off 0 = lo) (h1 : off 1 = 0) (h0' : off' 0 = lo)
    (h1' : off' 1 = 0) : off = off' := by
  funext a
  match a with
  | 0 => rw [h0, h0']
  | 1 => rw [h1, h1']

abbrev commM : Memref sig .tc .vmem S16384x1024 .bf16 := Memref.whole cc0_scratch0
abbrev outM : Memref sig .tc .hbm S16384x1024 .bf16 := Memref.whole main_v1
abbrev stgM : Memref sig .tc .vmem S4096x1024 .bf16 := Memref.whole cc0_stg0_0

theorem src_tgt (k : Kd) (c : D) : src k (tgt k c) = c := by revert c; cases k <;> decide +kernel
theorem sp_lt : ∀ a ∈ chans, ∀ c : D, sg a.1 a.2 c = true → sp a.1 a.2 c < 128 := by decide +kernel
theorem rp_lt : ∀ a ∈ chans, ∀ c : D, rg a.1 a.2 c = true → rp a.1 a.2 c < 128 := by decide +kernel
theorem slot_lt (k : Kd) : slot k < 5 := by cases k <;> decide
theorem hq_lt : ∀ i < 28, ∀ c : D, hg i c = true → hq i c < 16 := by decide +kernel

/-! ## The state between two steps -/

section
variable (xs : Dev nD → BI' → Elt F .bf16) (K : Dev nD × Fin 545 → ℕ)

def csem (n : Fin 545) : SemLoc sig := if n.val = 544 then .reg barS else .dma (dq n.val)
def kcell (ck : Dev nD × Fin 545) : GSem nD τ sig := ((ck.1 : Thread nD τ), csem ck.2)

/-- The persistent facts: the cells' invariants, that round `0` of every cell is reached, the levels. -/
def Pers : sProp 𝕄 :=
  iprop((bigSep Finset.univ fun ck => cellInv ER (Rd xs) (K ck) (kcell ck))
    ∗ (bigSep Finset.univ fun ck => reached ER (kcell ck) 0) ∗ levAts L lv)

instance Pers_persistent : BI.Persistent (Pers xs K) := by unfold Pers; infer_instance

def ix (s : ℕ) : Fin 545 := Fin.ofNat 545 s
omit [FloatOps F] in
theorem csem_ix {s : ℕ} (h : s < 544) : csem (ix s) = .dma (dq s) := by
  have e : (ix s).val = s := Nat.mod_eq_of_lt (by omega)
  unfold csem; rw [e, if_neg (by omega)]
omit [FloatOps F] in
theorem kcell_ix (c : Dev nD) {s : ℕ} (h : s < 544) : kcell (c, ix s) = kc c s := by
  unfold kcell; rw [csem_ix h]
omit [FloatOps F] in
theorem kcell_bar (c : Dev nD) : kcell (c, ix 544) = barC c := rfl

omit [FloatOps F] in
theorem inv_at (ck : Dev nD × Fin 545) {g : GSem nD τ sig} (h : kcell ck = g) :
    Pers xs K ⊢ cellInv ER (Rd xs) (K ck) g := by
  subst h; unfold Pers
  refine BIBase.Entails.trans ?_ (bigSep_elim (Φ := fun ck => cellInv ER (Rd xs) (K ck) (kcell ck)) (Finset.mem_univ ck))
  iintro ⟨H, -⟩; iexact H
omit [FloatOps F] in
theorem reached_at (ck : Dev nD × Fin 545) {g : GSem nD τ sig} (h : kcell ck = g) : Pers xs K ⊢ reached ER g 0 := by
  subst h; unfold Pers
  refine BIBase.Entails.trans ?_ (bigSep_elim (Φ := fun ck => reached ER (kcell ck) 0) (Finset.mem_univ ck))
  iintro ⟨-, H, -⟩; iexact H
omit [FloatOps F] in
theorem lev_at : Pers xs K ⊢ (levAts L lv : sProp 𝕄) := by
  unfold Pers; iintro ⟨-, -, H⟩; iexact H

/-- What a device is left with at the end. -/
def endR (c : Dev nD) : sProp 𝕄 := maskS (den xs c) ((puts (finCodes c) 0).getD 0)

/-- The state before a list of steps. -/
def St (c : Dev nD) (l : List Op) : sProp 𝕄 :=
  iprop(Pers xs K ∗ (∃ W, owes (c : Thread nD τ) (owed c l) W) ∗ Res (den xs c) c (endR xs c) l)

abbrev 𝒱₀ : Variants := Variants.none

/-- The weakest precondition of a piece of the body on device `c`. -/
abbrev WP (c : Dev nD) {α : Type} (p : Prog (TpuEff nD τ sig (Elt F) Λ₀ .tc) α) (Φ : α → sProp 𝕄) : sProp 𝕄 :=
  wp frame (wpE (defs₀ (F := F)) 𝒱₀ (c : Thread nD τ) none) Set.univ p Φ

/-- A piece of text does the steps `ops`, then those of the groups `gs` are left. -/
def Run (c : Dev nD) (ops : List Op) (gs : List (List Op)) {α : Type} (p : Prog (TpuEff nD τ sig (Elt F) Λ₀ .tc) α)
    (Φ : α → sProp 𝕄) : Prop :=
  (ops.all fun o => guard o c) = true → (scan c (ops ++ gs.flatten)).1 = true →
    (St xs K c (ops ++ gs.flatten) ⊢ WP c p Φ)

end

/-! ## Waiting is allowed -/

theorem scan_pos {c : D} {op : Op} {l : List Op} (hg : guard op c = true) (h : (scan c (op :: l)).1 = true) :
    (scan c l).1 = true ∧ okIx op = true ∧ (∀ v, lvW op = some v → v < (scan c l).2) := by
  have e : (scan c (op :: l)).1 = ((scan c l).1 && okIx op && (match lvW op with | some v => decide (v < (scan c l).2) | none => true)) := by
    exact congrArg Prod.fst (if_pos hg)
  rw [e] at h
  simp only [Bool.and_eq_true] at h
  refine ⟨h.1.1, h.1.2, fun v hv => ?_⟩
  have := h.2
  rw [hv] at this
  exact of_decide_eq_true this

theorem scan_neg {c : D} {op : Op} {l : List Op} (hg : ¬guard op c = true) : scan c (op :: l) = scan c l := by
  exact if_neg hg

theorem scan_snd {c : D} {op : Op} {l : List Op} (hg : guard op c = true) :
    (scan c (op :: l)).2 = match lvO op with | some v => min v (scan c l).2 | none => (scan c l).2 := by
  exact congrArg Prod.snd (if_pos hg)

theorem lvS_rcv {k : Kd} {i : ℕ} (h : i < cnt k) : lvS (rcv k i) = lvR k i := by
  unfold lvS; rw [role_rcv k i h]

/-- Every debt left is at or above the level the scan found, at a TensorCore's cell. -/
theorem owed_lv {c : Dev nD} {g : GSem nD τ sig} {u : Unit} (l : List Op) (h : (scan c l).1 = true)
    (hp : 0 < owed c l g u) : g.1.2 = .tc ∧ (scan c l).2 ≤ lv g u := by
  induction l with
  | nil => exact absurd hp (Nat.lt_irrefl 0)
  | cons op l ih =>
    by_cases hg : guard op c = true
    · obtain ⟨h1, h2, -⟩ := scan_pos hg h
      have hs := scan_snd (l := l) hg
      cases op with
      | sig j =>
        have e : owed c (.sig j :: l) = owed c l + tallyAt (barC (nb j c)) () 1 := if_pos hg
        rw [e, Pi.add_apply, Finsupp.add_apply, tallyAt_apply] at hp
        by_cases hh : g = barC (nb j c) ∧ u = ()
        · rw [hs, hh.1]
          exact ⟨rfl, min_le_left _ _⟩
        · rw [if_neg hh] at hp
          obtain ⟨ha, hb⟩ := ih h1 (by omega)
          exact ⟨ha, by rw [hs]; exact (min_le_right _ _).trans hb⟩
      | send k i =>
        have e : owed c (.send k i :: l) = owed c l + tallyAt (kc (tgt k c) (rcv k i)) () NP := if_pos hg
        rw [e, Pi.add_apply, Finsupp.add_apply, tallyAt_apply] at hp
        have hi : i < cnt k := of_decide_eq_true h2
        by_cases hh : g = kc (tgt k c) (rcv k i) ∧ u = ()
        · rw [hs, hh.1]
          refine ⟨rfl, ?_⟩
          rw [show lv (kc (tgt k c) (rcv k i)) u = lvR k i from
            (lv_kc (lt_trans (rcv_lt k i hi) (by decide))).trans (lvS_rcv hi)]
          exact min_le_left _ _
        · rw [if_neg hh] at hp
          obtain ⟨ha, hb⟩ := ih h1 (by omega)
          exact ⟨ha, by rw [hs]; exact (min_le_right _ _).trans hb⟩
      | _ => exact (ih h1 hp).imp_right fun hb => by rw [hs]; exact hb
    · have e : owed c (op :: l) = owed c l := by
        cases op with
        | sig j => exact if_neg hg
        | send k i => exact if_neg hg
        | _ => rfl
      rw [scan_neg hg] at h ⊢
      rw [e] at hp
      exact ih h hp

/-- A wait on an own cell below the debts left is allowed. -/
theorem may_wait (c : Dev nD) (sm : SemLoc sig) (l : List Op) (h : (scan c l).1 = true)
    (hl : lv ((c : Thread nD τ), sm) () < (scan c l).2) :
    (levAts L lv : sProp 𝕄) ⊢ MayWait (c : Thread nD τ) sm () (owed c l) :=
  MayOwe.of_cut (L := L) (lev := lv) (lv ((c : Thread nD τ), sm) ())
    (fun p hp => by rw [Finset.mem_singleton.mp hp, L_tc _ rfl]; exact Finset.mem_singleton_self _)
    (fun g u hg => by rw [L_tc g (owed_lv l h hg).1]; exact Finset.mem_singleton_self _)
    (fun p hp => by rw [Finset.mem_singleton.mp hp])
    (fun g u hg => lt_of_lt_of_le hl (owed_lv l h hg).2)

end Cert.AG

end
-- ==== Proof.RunAll.lean ====
module

public import proofs.«01_k».proof.Proof.Sched

@[expose] public section

/-! What a device starts with, as codes, and the whole list of steps run from there by evaluation. -/

namespace Cert.AG

/-- Does the device pay on semaphore number `s`: as the sender, or into a neighbour's semaphore of that number? -/
def pays (s : ℕ) (c : D) : Bool :=
  match role s with
  | .snd k i => sg k i c
  | .rcv k i => sg k i c
  | .hbm idx => hg idx c

/-- A semaphore's position if it is used, else the semaphore at rest. -/
def iniCell (c : D) (s : ℕ) : List ℕ := if act s c = true then [cPos s] else [cZ s]
/-- The token of a payment the device makes. -/
def iniTok (c : D) (s : ℕ) : List ℕ := if pays s c = true then [cTok s] else []
/-- The credit of a copy that arrives. -/
def iniCr (c : D) (a : Kd × ℕ) : List ℕ := if rg a.1 a.2 c = true then [cCr (rcv a.1 a.2)] else []
/-- The token of a barrier payment to a neighbour there is. -/
def iniSig (c : D) (j : Fin 4) : List ℕ := if bg j c = true then [cSig j] else []
/-- The credit of a neighbour's barrier payment. -/
def iniCrB (c : D) (j : Fin 4) : List ℕ := if bg j c = true then [cCrB j] else []

/-- What the launch deals a device. -/
def iniStart (c : D) : List ℕ :=
  (List.range 544).flatMap (iniCell c) ++ ((List.range 544).flatMap (iniTok c) ++ (chans.flatMap (iniCr c) ++
  (dirs.flatMap (iniSig c) ++ (dirs.flatMap (iniCrB c) ++ [cPosB]))))

/-- The device's own memory, cut up. -/
def iniMem : List ℕ := (List.range 128).map cRaw ++ ((List.range 16).map cORaw ++ [cX])

set_option maxRecDepth 100000 in
/-- On every device the steps run, from what the device starts with to what it ends with, and nothing is lost. -/
theorem run_all : ∀ c : D, (puts (iniStart c ++ iniMem) 0).bind (run c allOps) = puts (finCodes c) 0 ∧
    (puts (finCodes c) 0).isSome = true := by decide +kernel

end Cert.AG
-- ==== Proof.Deal.lean ====
module

public import proofs.«01_k».proof.Proof.Step
public import proofs.«01_k».proof.Proof.RunAll

@[expose] public section

/-! Dealing out what the launch has: the tokens to the devices that pay with them, the credits to the devices whose
waits use them. -/

noncomputable section

namespace Cert.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Tokens -/

/-- Whose semaphore number `s` a device pays into, and which device pays into its own. -/
def toS (s : ℕ) (c : Dev nD) : Dev nD :=
  match role s with
  | .rcv k _ => tgt k c
  | _ => c
def fromS (s : ℕ) (c : Dev nD) : Dev nD :=
  match role s with
  | .rcv k _ => src k c
  | _ => c

theorem tgt_src (k : Kd) (c : D) : tgt k (src k c) = c := by revert c; cases k <;> decide +kernel
theorem from_to (s : ℕ) (c : Dev nD) : fromS s (toS s c) = c := by
  unfold fromS toS; cases role s
  · rfl
  · exact src_tgt _ c
  · rfl
theorem to_from (s : ℕ) (c : Dev nD) : toS s (fromS s c) = c := by
  unfold fromS toS; cases role s
  · rfl
  · exact tgt_src _ c
  · rfl

theorem nb_opp (j : Fin 4) (c : D) : nb (opp j) (nb j c) = c := by revert j c; decide +kernel
theorem opp_opp (j : Fin 4) : opp (opp j) = j := by revert j; decide

/-- The tokens' names: a device and a semaphore number, or a device and the direction a barrier payment comes from. -/
abbrev TI : Type := Dev nD × (Fin 544 ⊕ Fin 4)

/-- The token a name stands for. -/
def tokOf (x : TI) : GSem nD τ sig × ℕ × Fin 4 :=
  match x.2 with
  | .inl s => (kc x.1 s.val, 0, 0)
  | .inr j => (barC x.1, 0, j)

theorem tokOf_injective : Function.Injective tokOf := by
  rintro ⟨c, s⟩ ⟨c', s'⟩ h
  have h1 : c = c' := by
    have := congrArg (fun x : GSem nD τ sig × ℕ × Fin 4 => x.1.1.1) h
    cases s <;> cases s' <;> exact this
  subst h1
  cases s with
  | inl s =>
    cases s' with
    | inl s' =>
      have h2 : (SemLoc.dma (dq s.val) : SemLoc sig) = .dma (dq s'.val) := congrArg (fun x : GSem nD τ sig × ℕ × Fin 4 => x.1.2) h
      have h3 : dq s.val = dq s'.val := by injection h2
      rw [Fin.ext (dq_inj s.isLt s'.isLt h3)]
    | inr j =>
      have h2 : (SemLoc.dma (dq s.val) : SemLoc sig) = .reg barS := congrArg (fun x : GSem nD τ sig × ℕ × Fin 4 => x.1.2) h
      cases h2
  | inr j =>
    cases s' with
    | inl s' =>
      have h2 : (SemLoc.reg barS : SemLoc sig) = .dma (dq s'.val) := congrArg (fun x : GSem nD τ sig × ℕ × Fin 4 => x.1.2) h
      cases h2
    | inr j' =>
      have h2 : j = j' := congrArg (fun x : GSem nD τ sig × ℕ × Fin 4 => x.2.2) h
      rw [h2]

/-- Who pays what: a device's payment in its own naming, and the token it uses up. -/
def payOf : TI ≃ TI where
  toFun x := match x with
    | (c, .inl s) => (toS s.val c, .inl s)
    | (c, .inr j) => (nb j c, .inr (opp j))
  invFun x := match x with
    | (c, .inl s) => (fromS s.val c, .inl s)
    | (c, .inr j) => (nb j c, .inr (opp j))
  left_inv x := by
    rcases x with ⟨c, s | j⟩
    · show (fromS s.val (toS s.val c), _) = _; rw [from_to]
    · show (nb (opp j) (nb j c), Sum.inr (opp (opp j))) = _; rw [nb_opp, opp_opp]
  right_inv x := by
    rcases x with ⟨c, s | j⟩
    · show (toS s.val (fromS s.val c), _) = _; rw [to_from]
    · show (nb (opp j) (nb j c), Sum.inr (opp (opp j))) = _; rw [nb_opp, opp_opp]

/-- The tokens a device pays with. -/
def payToks (c : Dev nD) : sProp 𝕄 :=
  iprop((bigSep Finset.univ fun s : Fin 544 => tokR (F := F) c s.val)
    ∗ bigSep Finset.univ fun j : Fin 4 => dutyTok ER (barC (nb j c)) 0 (opp j))

omit [FloatOps F] in
theorem tokR_to (c : Dev nD) (s : ℕ) : (tokR (F := F) c s : sProp 𝕄) = dutyTok ER (kc (toS s c) s) 0 0 := by
  unfold tokR toS; cases role s <;> rfl

omit [FloatOps F] in
/-- All tokens together are every device's payments. -/
theorem toks_deal : bigSep Finset.univ (fun x : TI => (dutyTok ER (tokOf x).1 (tokOf x).2.1 (tokOf x).2.2 : sProp 𝕄))
    = bigSep Finset.univ fun c : Dev nD => payToks (F := F) c := by
  rw [bigSep_univ_equiv payOf, bigSep_univ_prod]
  refine bigSep_congr fun c _ => ?_
  refine (bigSep_univ_sum _).trans ?_
  unfold payToks
  simp only [tokR_to]
  rfl

/-! ## Credits -/

omit [FloatOps F] in
theorem cred_two (a b : CellTallies nD τ sig Unit) : (cred (a + b) : sProp 𝕄) = iprop(cred a ∗ cred b) :=
  BI.Entails.antisymm (cred_add _ _).1 (cred_add _ _).2

omit [FloatOps F] in
/-- The credit of a list's sum is its members' credits. -/
theorem cred_list {A : Type} (f : A → CellTallies nD τ sig Unit) (l : List A) :
    (cred (l.map f).sum : sProp 𝕄) = l.foldr (fun a R => iprop(cred (f a) ∗ R)) iprop(emp) := by
  induction l with
  | nil => exact cred_zero
  | cons a l ih => rw [List.map_cons, List.sum_cons, cred_two, ih, List.foldr_cons]

/-- What a step pays to others, and the same payments at the device they arrive at. -/
def debt (c : Dev nD) (op : Op) : CellTallies nD τ sig Unit :=
  match op with
  | .sig j => if bg j c = true then tallyAt (barC (nb j c)) () 1 else 0
  | .send k i => if sg k i c = true then tallyAt (kc (tgt k c) (rcv k i)) () NP else 0
  | _ => 0

theorem owed_sum (c : Dev nD) (l : List Op) : owed c l = (l.map (debt c)).sum := by
  induction l with
  | nil => rfl
  | cons op l ih =>
    rw [List.map_cons, List.sum_cons, ← ih]
    cases op with
    | sig j =>
      show (if bg j c = true then owed c l + tallyAt (barC (nb j c)) () 1 else owed c l) = (if bg j c = true then tallyAt (barC (nb j c)) () 1 else 0) + owed c l
      split
      · exact add_comm _ _
      · exact (zero_add _).symm
    | send k i =>
      show (if sg k i c = true then owed c l + tallyAt (kc (tgt k c) (rcv k i)) () NP else owed c l)
        = (if sg k i c = true then tallyAt (kc (tgt k c) (rcv k i)) () NP else 0) + owed c l
      split
      · exact add_comm _ _
      · exact (zero_add _).symm
    | _ => exact (zero_add _).symm

deriving instance DecidableEq for Op

/-- Does the step pay another device? -/
def payer : Op → Bool
  | .sig _ | .send _ _ => true
  | _ => false

/-- Is the copy made by any device? -/
def made (a : Kd × ℕ) : Bool := (List.finRange 32).any fun c => sg a.1 a.2 c

set_option maxRecDepth 100000 in
/-- The steps that pay are the four signals and every copy that is made anywhere, once each. -/
theorem payers_perm : (allOps.filter payer).Perm (dirs.map Op.sig ++ (chans.filter made).map fun a => Op.send a.1 a.2) := by
  decide +kernel

theorem not_made {a : Kd × ℕ} (h : made a = false) (c : D) : sg a.1 a.2 c = false := by
  unfold made at h
  rw [List.any_eq_false] at h
  exact Bool.eq_false_iff.mpr (h c (List.mem_finRange c))

theorem debt_filter (c : Dev nD) (l : List Op) : (l.map (debt c)).sum = ((l.filter payer).map (debt c)).sum := by
  induction l with
  | nil => rfl
  | cons op l ih =>
    rw [List.map_cons, List.sum_cons, ih, List.filter_cons]
    cases op <;> first
      | rfl
      | exact zero_add _

theorem owed_all (c : Dev nD) : owed c allOps =
    (dirs.map fun j => debt c (.sig j)).sum + (chans.map fun a => debt c (.send a.1 a.2)).sum := by
  rw [owed_sum, debt_filter, (payers_perm.map (debt c)).sum_eq, List.map_append, List.sum_append, List.map_map, List.map_map]
  refine congrArg₂ (· + ·) rfl ?_
  show ((chans.filter made).map fun a => debt c (.send a.1 a.2)).sum = _
  generalize chans = l
  induction l with
  | nil => rfl
  | cons a l ih =>
    rw [List.filter_cons]
    split
    · rw [List.map_cons, List.sum_cons, ih, List.map_cons, List.sum_cons]
    · rename_i h
      rw [ih, List.map_cons, List.sum_cons]
      have e : debt c (.send a.1 a.2) = 0 := if_neg (by rw [not_made (Bool.eq_false_iff.mpr h)]; decide)
      rw [e, zero_add]

/-- What arrives at a device: a barrier unit from a direction, a copy. -/
def dueB (c : Dev nD) (j : Fin 4) : CellTallies nD τ sig Unit := if bg j c = true then tallyAt (barC c) () 1 else 0
def dueC (c : Dev nD) (a : Kd × ℕ) : CellTallies nD τ sig Unit :=
  if rg a.1 a.2 c = true then tallyAt (kc c (rcv a.1 a.2)) () NP else 0
def due (c : Dev nD) : CellTallies nD τ sig Unit := (dirs.map (dueB c)).sum + (chans.map (dueC c)).sum

/-- Sums over devices of two lists agree if they do member by member. -/
theorem sum_lists {A : Type} (f g : Dev nD → A → CellTallies nD τ sig Unit) (l : List A)
    (h : ∀ a ∈ l, ∑ d, f d a = ∑ d, g d a) : ∑ d, (l.map (f d)).sum = ∑ d, (l.map (g d)).sum := by
  induction l with
  | nil => rfl
  | cons a l ih =>
    simp only [List.map_cons, List.sum_cons, Finset.sum_add_distrib]
    rw [h a (by simp), ih fun b hb => h b (by simp [hb])]

/-- Every device's neighbour one way, as a permutation. -/
def around (j : Fin 4) : Dev nD ≃ Dev nD where
  toFun := nb j
  invFun := nb (opp j)
  left_inv := nb_opp j
  right_inv c := by have := nb_opp (opp j) c; rwa [opp_opp] at this

theorem bg_nb (j : Fin 4) (c : D) : bg (opp j) (nb j c) = bg j c := by revert j c; decide +kernel

theorem due_sum : ∑ d : Dev nD, owed d allOps = ∑ d : Dev nD, due d := by
  simp only [owed_all, due, Finset.sum_add_distrib]
  refine congrArg₂ (· + ·) ?_ ?_
  · have e : ∀ d : Dev nD, (dirs.map (dueB d)).sum = (dirs.map fun j => dueB d (opp j)).sum := fun d => by
      have p : dirs.Perm (dirs.map opp) := by decide
      rw [(p.map (dueB d)).sum_eq, List.map_map]; rfl
    simp only [e]
    refine sum_lists _ _ _ fun j _ => ?_
    refine Eq.trans ?_ (Equiv.sum_comp (around j) fun d => dueB d (opp j))
    refine Finset.sum_congr rfl fun d _ => ?_
    show (if bg j d = true then tallyAt (barC (nb j d)) () 1 else 0) = (if bg (opp j) (nb j d) = true then tallyAt (barC (nb j d)) () 1 else 0)
    rw [bg_nb]
  · refine sum_lists _ _ _ fun a _ => ?_
    refine Eq.trans ?_ (Equiv.sum_comp (around (dir a.1)) fun d => dueC d a)
    refine Finset.sum_congr rfl fun d _ => ?_
    show (if sg a.1 a.2 d = true then tallyAt (kc (tgt a.1 d) (rcv a.1 a.2)) () NP else 0)
      = (if sg a.1 a.2 (src a.1 (tgt a.1 d)) = true then tallyAt (kc (tgt a.1 d) (rcv a.1 a.2)) () NP else 0)
    rw [src_tgt]

theorem at_own {c : Dev nD} {g g' : GSem nD τ sig} {n : ℕ} (hg : g.1 = (c : Thread nD τ))
    (h : g'.1 ≠ (c : Thread nD τ)) : (tallyAt g () n : CellTallies nD τ sig Unit) g' = 0 := by
  refine Finsupp.ext fun u => ?_
  rw [tallyAt_apply]
  exact if_neg fun e => h (by rw [e.1, hg])

theorem list_own {A : Type} {g' : GSem nD τ sig} (f : A → CellTallies nD τ sig Unit) (l : List A)
    (h : ∀ a, f a g' = 0) : (l.map f).sum g' = 0 := by
  induction l with
  | nil => rfl
  | cons a l ih => rw [List.map_cons, List.sum_cons, Pi.add_apply, h a, ih]; exact add_zero _

/-- What is due at a device is due on its own semaphores. -/
theorem due_own (c : Dev nD) (g : GSem nD τ sig) (h : due c g ≠ 0) : g.1 = (c : Thread nD τ) := by
  by_contra hn
  refine h ?_
  unfold due
  rw [Pi.add_apply, list_own _ _ fun j => ?_, list_own _ _ fun a => ?_]
  · exact add_zero _
  · unfold dueC; split
    · exact at_own rfl hn
    · rfl
  · unfold dueB; split
    · exact at_own rfl hn
    · rfl

section
variable (xs : Dev nD → BI' → Elt F .bf16) (c : Dev nD)

omit [FloatOps F] in
theorem cr_amt : ∀ a ∈ chans, amt (rcv a.1 a.2) = NP ∧ rcv a.1 a.2 < 544 := by
  have h : ∀ a ∈ chans, rcv a.1 a.2 < 516 := by decide +kernel
  intro a ha
  have := h a ha
  unfold amt
  exact ⟨if_neg (by omega), by omega⟩

omit [FloatOps F] in
/-- The launch's credit at a device is the credits its waits use. -/
theorem creds : (Pipeline.launchCred (fun d => owed d allOps) c : sProp 𝕄)
    ⊢ iprop(sepL (den xs c) (chans.flatMap (iniCr c)) ∗ sepL (den xs c) (dirs.flatMap (iniCrB c))) := by
  rw [Pipeline.launchCred_of_sum (fun d => owed d allOps) due due_sum due_own c]
  unfold due
  rw [cred_two, cred_list, cred_list, sep_comm_eq]
  refine BIClass.sep_mono ?_ ?_
  · refine sepL_flatMap (den xs c) chans (iniCr c) (fun a => cred (dueC c a)) fun a ha => ?_
    unfold iniCr dueC
    split
    · show _ ⊢ iprop(den xs c (cCr (rcv a.1 a.2)) ∗ emp)
      obtain ⟨h1, h2⟩ := cr_amt a ha
      rw [den_cr xs c (by omega)]
      unfold crR
      rw [h1, sep_comm_eq, sep_drop]
    · rw [cred_zero]; exact .refl
  · refine sepL_flatMap (den xs c) dirs (iniCrB c) (fun j => cred (dueB c j)) fun j _ => ?_
    unfold iniCrB dueB
    split
    · show _ ⊢ iprop(den xs c (cCrB j) ∗ emp)
      rw [den_crB, sep_comm_eq, sep_drop]
    · rw [cred_zero]; exact .refl
end

end Cert.AG

end
-- ==== Proof.Alloc.lean ====
module

public import proofs.«01_k».proof.Proof.Deal

@[expose] public section

/-! The cells of all devices set up together, and what each device starts with. -/

noncomputable section

namespace Cert.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Conjunctions over an initial stretch of the numbers -/

section
variable {M : Type} [URA M] (den : ℕ → sProp M)

theorem bigSep_last {n : ℕ} (Φ : Fin (n + 1) → sProp M) :
    bigSep Finset.univ Φ = iprop((bigSep Finset.univ fun s : Fin n => Φ s.castSucc) ∗ Φ (Fin.last n)) := by
  rw [Fin.univ_castSuccEmb, Finset.cons_eq_insert, bigSep_cons (by simp), bigSep_map, sep_comm_eq]
  rfl

theorem sepL_one (i : ℕ) : sepL den [i] = den i := by
  show iprop(den i ∗ emp) = _
  rw [sep_comm_eq, sep_drop]

theorem drop_all (P : sProp M) : P ⊢ iprop(emp) := by iintro -; iempintro

theorem sepL_fin (n : ℕ) (f : ℕ → List ℕ) :
    sepL den ((List.range n).flatMap f) = bigSep Finset.univ fun s : Fin n => sepL den (f s.val) := by
  induction n with
  | zero => exact (bigSep_empty (Φ := fun s : Fin 0 => sepL den (f s.val))).symm
  | succ n ih =>
    rw [List.range_succ, List.flatMap_append, sepL_append, ih, bigSep_last, List.flatMap_singleton]
    rfl

theorem sepL_fin1 (n : ℕ) (g : ℕ → ℕ) :
    sepL den ((List.range n).map g) = bigSep Finset.univ fun s : Fin n => den (g s.val) := by
  rw [← List.flatMap_pure_eq_map, sepL_fin]
  refine bigSep_congr fun s _ => ?_
  exact sepL_one den _

theorem with_persistent {I : Type} [DecidableEq I] {S : Finset I} {R : sProp M} [BI.Persistent R] {Φ Ψ : I → sProp M}
    (h : ∀ i ∈ S, iprop(R ∗ Φ i) ⊢ Ψ i) : iprop(R ∗ bigSep S Φ) ⊢ bigSep S Ψ :=
  (BIClass.sep_mono (BI.bigSep_of_persistent S R) .refl).trans (by rw [← bigSep_sep']; exact bigSep_mono h)
end

variable {F : FTy → Type} [FloatOps F] (xs : Dev nD → BI' → Elt F .bf16)

local notation "𝕄" => MT nD τ sig Unit (Elt F) ℕ UU ℕ

/-! ## The cells -/

/-- The kernel's own semaphores. -/
abbrev osem : Fin 544 → SemLoc sig := fun s => .dma (dq s.val)

theorem kcell_own (c : Dev nD) (s : Fin 544) : kcell (c, s.castSucc) = kc c s.val := by
  unfold kcell csem
  rw [if_neg (show ¬s.castSucc.val = 544 from by have := s.isLt; rw [Fin.val_castSucc]; omega)]
  rfl
theorem kcell_last (c : Dev nD) : kcell (c, Fin.last 544) = barC c := rfl

theorem kcell_injective : Function.Injective (kcell : Dev nD × Fin 545 → GSem nD τ sig) := by
  rintro ⟨c, n⟩ ⟨c', n'⟩ h
  have h1 : c = c' := congrArg (fun g : GSem nD τ sig => g.1.1) h
  subst h1
  have h2 : csem n = csem n' := congrArg Prod.snd h
  unfold csem at h2
  have b := n.isLt
  have b' := n'.isLt
  refine congrArg (Prod.mk c) (Fin.ext ?_)
  split at h2 <;> split at h2
  · omega
  · cases h2
  · cases h2
  · have h3 : dq n.val = dq n'.val := by injection h2
    exact dq_inj (by omega) (by omega) h3

def allCells : Finset (GSem nD τ sig) := Finset.univ.map ⟨kcell, kcell_injective⟩
def allToks : Finset (GSem nD τ sig × ℕ × Fin 4) := Finset.univ.map ⟨tokOf, tokOf_injective⟩

/-- The launch's element: the pipeline's cells and tokens, and the kernel's. -/
def u₀ : UU :=
  (initOf (Pipeline.cells cfgs cellOf_inj) (Pipeline.launchToks cfgs cellOf_inj), initOf allCells allToks)

/-- What the launch's element gives a device. -/
def G (c : Dev nD) : sProp 𝕄 :=
  iprop((bigSep Finset.univ fun n : Fin 545 => roundState ER (Rd xs) (kcell (c, n)) 0)
    ∗ (bigSep Finset.univ fun n : Fin 545 => reached ER (kcell (c, n)) 0)
    ∗ (bigSep Finset.univ fun n : Fin 545 => atPos ER (kcell (c, n)) 0 ∅ 0) ∗ payToks (F := F) c)

/-- The cells' invariants and that their first round is reached. -/
def Recs (K : Dev nD × Fin 545 → ℕ) : sProp 𝕄 :=
  iprop((bigSep Finset.univ fun ck => cellInv ER (Rd xs) (K ck) (kcell ck)) ∗ (bigSep Finset.univ fun ck => reached ER (kcell ck) 0))
instance Recs_persistent (K : Dev nD × Fin 545 → ℕ) : BI.Persistent (Recs xs K) := by unfold Recs; infer_instance

/-- What a device alone has: its positions and the tokens it pays with. -/
def Lin (c : Dev nD) : sProp 𝕄 :=
  iprop((bigSep Finset.univ fun n : Fin 545 => atPos ER (kcell (c, n)) 0 ∅ 0) ∗ payToks (F := F) c)

/-- What the global step makes of it. -/
def G' (c : Dev nD) : sProp 𝕄 := iprop(∃ K, Recs xs K ∗ Lin (F := F) c)

omit [FloatOps F] in
theorem fund_all : BI.own (ER (initOf allCells allToks)) ⊢ (|==> bigSep Finset.univ (G xs) : sProp 𝕄) := by
  have hX (Φ : GSem nD τ sig → sProp 𝕄) : bigSep allCells Φ = bigSep Finset.univ fun c : Dev nD => bigSep Finset.univ fun n : Fin 545 => Φ (kcell (c, n)) := by
    unfold allCells; rw [bigSep_map, bigSep_univ_prod]; rfl
  have hT : bigSep allToks (fun x => (dutyTok ER x.1 x.2.1 x.2.2 : sProp 𝕄)) = bigSep Finset.univ fun c : Dev nD => payToks (F := F) c := by
    unfold allToks; rw [bigSep_map]; exact toks_deal
  iintro HX
  imod (Rounds.fund ER (Rd xs) allCells allToks) $$ HX with ⟨Hst, Hr, Hat, Htok⟩
  imodintro
  ihave Hst' := (Entails.of_eq (hX fun g => roundState ER (Rd xs) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hr']; · iexact Hr'
  isplitl [Hat'] <;> iassumption

omit [FloatOps F] in
/-- The barrier semaphore is the launch's one unscoped semaphore. -/
theorem unscoped_eq (c : Dev nD) : (unscopedSems0 c : sProp 𝕄) = semVal (barC c) 0 := by
  unfold unscopedSems0; rw [bigSep_eq_bigSepL_of_eq [SemLoc.reg barS] (by decide +kernel) (by decide)]; rfl

omit [FloatOps F] in
theorem own_eq (c : Dev nD) : (Pipeline.ownSems0 (Ix := Unit) (Name := ℕ) (U := UU) (Lvl := ℕ) (Val := Elt F) (τ := τ) osem c : sProp 𝕄)
    = bigSep Finset.univ fun s : Fin 544 => semVal (kc c s.val) 0 := rfl

omit [FloatOps F] in
theorem sems_eq (c : Dev nD) :
    iprop(Pipeline.ownSems0 (Ix := Unit) (Name := ℕ) (U := UU) (Lvl := ℕ) (Val := Elt F) (τ := τ) osem c ∗ unscopedSems0 c)
      = (bigSep Finset.univ fun n : Fin 545 => semVal (kcell (c, n)) 0 : sProp 𝕄) := by
  rw [bigSep_last, own_eq, unscoped_eq]
  simp only [kcell_own, kcell_last]

omit [FloatOps F] in
theorem core_alloc (c : Dev nD) :
    iprop(Pipeline.ownSems0 (Ix := Unit) (Name := ℕ) (U := UU) (Lvl := ℕ) (Val := Elt F) (τ := τ) osem c ∗ unscopedSems0 c ∗ G xs c)
      ⊢ |={Set.univ}=> iprop((bigSep Finset.univ fun n => iprop(∃ κ : ℕ, cellInv ER (Rd xs) κ (kcell (c, n))))
          ∗ (bigSep Finset.univ fun n : Fin 545 => reached ER (kcell (c, n)) 0) ∗ Lin (F := F) c) := by
  unfold G
  iintro ⟨Hos, Hus, Hst, Hr, Hat, Htok⟩
  ihave Hv := (Entails.of_eq (sems_eq (F := F) c)) $$ [Hos Hus]
  · isplitl [Hos] <;> iassumption
  imod (show iprop((bigSep Finset.univ fun n : Fin 545 => semVal (kcell (c, n)) 0) ∗ bigSep Finset.univ fun n : Fin 545 => roundState ER (Rd xs) (kcell (c, n)) 0)
      ⊢ (|={Set.univ}=> bigSep Finset.univ fun n => iprop(∃ κ : ℕ, cellInv ER (Rd xs) κ (kcell (c, n))) : sProp 𝕄) from by
        rw [← bigSep_sep']
        exact (bigSep_mono fun n _ => (Rounds.body_intro ER (Rd xs) (kcell (c, n))).trans inv_alloc).trans (bigSep_fupd _ _)) $$ [Hv Hst] with Hinv
  · isplitl [Hv] <;> iassumption
  imodintro
  unfold Lin
  isplitl [Hinv]; · iexact Hinv
  isplitl [Hr]; · iexact Hr
  isplitl [Hat] <;> iassumption

omit [FloatOps F] in
theorem regroup :
    (bigSep Finset.univ fun c : Dev nD => iprop((bigSep Finset.univ fun n => iprop(∃ κ : ℕ, cellInv ER (Rd xs) κ (kcell (c, n))))
          ∗ (bigSep Finset.univ fun n : Fin 545 => reached ER (kcell (c, n)) 0) ∗ Lin (F := F) c) : sProp 𝕄)
      ⊢ bigSep Finset.univ (G' xs) := by
  rw [bigSep_sep', bigSep_sep', ← bigSep_univ_prod (fun ck : Dev nD × Fin 545 => iprop(∃ κ : ℕ, cellInv ER (Rd xs) κ (kcell ck))),
    ← bigSep_univ_prod (fun ck : Dev nD × Fin 545 => (reached ER (kcell ck) 0 : sProp 𝕄))]
  iintro ⟨HI, #HR, Hl⟩
  ihave HK := (BI.bigSep_exists_pi Finset.univ (fun (ck : Dev nD × Fin 545) (κ : ℕ) => (cellInv ER (Rd xs) κ (kcell ck) : sProp 𝕄))) $$ HI
  icases HK with ⟨%K, #HI⟩
  iapply (with_persistent (R := Recs xs K) (Φ := fun c : Dev nD => Lin (F := F) c) fun c _ => show iprop(Recs xs K ∗ Lin (F := F) c) ⊢ G' xs c from by
    unfold G'; iintro H; iexists K; iexact H)
  isplitr
  · unfold Recs; isplitl; · iexact HI
    iexact HR
  · iexact Hl

omit [FloatOps F] in
/-- The global step: every device's semaphores at once. -/
theorem glob : (bigSep Finset.univ fun c => iprop(Pipeline.ownSems0 (Ix := Unit) (Name := ℕ) (U := UU) (Lvl := ℕ) (Val := Elt F) (τ := τ) osem c ∗ unscopedSems0 c ∗ G xs c) : sProp 𝕄)
    ⊢ |={Set.univ}=> bigSep Finset.univ (G' xs) :=
  ((bigSep_mono fun c _ => core_alloc xs c).trans (bigSep_fupd _ _)).trans (BI.fupd_mono (regroup xs))

/-! ## What a device starts with -/

/-- The start of a device, its memory apart. -/
def start (c : Dev nD) : sProp 𝕄 := iprop(∃ K, Pers xs K ∗ sepL (den xs c) (iniStart c))

omit [FloatOps F] in
theorem cells_ini (K : Dev nD × Fin 545 → ℕ) (c : Dev nD) :
    iprop(Pers xs K ∗ bigSep Finset.univ fun s : Fin 544 => posR (F := F) c s.val)
      ⊢ |={Set.univ}=> sepL (den xs c) ((List.range 544).flatMap (iniCell c)) := by
  rw [sepL_fin]
  refine (with_persistent (Ψ := fun s : Fin 544 => iprop(|={Set.univ}=> sepL (den xs c) (iniCell c s.val))) fun s _ => ?_).trans (bigSep_fupd _ _)
  have hs := s.isLt
  unfold iniCell
  iintro ⟨#HP, Hat⟩
  by_cases ha : act s.val c = true
  · rw [if_pos ha]
    imodintro
    rw [sepL_one, den_pos xs c (by omega)]
    iexact Hat
  · rw [if_neg ha]
    imod (Rounds.cell_close ER (Rd xs) (g := kc c s.val) (Set.mem_univ (K (c, ix s.val))) (fun h => h) (R := 0)
      (fun r _ => duties_idle xs hs (Bool.eq_false_iff.mpr ha) r)) $$ [Hat] with Hz
    · isplitr; · iapply (inv_at xs K (c, ix s.val) (kcell_ix c hs)); iexact HP
      unfold posR; iexact Hat
    imodintro
    rw [sepL_one, den_z xs c (by omega)]
    unfold zR
    iexact Hz

omit [FloatOps F] in
theorem toks_ini (c : Dev nD) : (payToks (F := F) c : sProp 𝕄)
    ⊢ iprop(sepL (den xs c) ((List.range 544).flatMap (iniTok c)) ∗ sepL (den xs c) (dirs.flatMap (iniSig c))) := by
  unfold payToks
  refine BIClass.sep_mono ?_ ?_
  · rw [sepL_fin]
    refine bigSep_mono fun s _ => ?_
    have hs := s.isLt
    unfold iniTok
    split
    · rw [sepL_one, den_tok xs c (by omega)]; exact BI.Entails.refl _
    · exact drop_all _
  · have e : dirs.flatMap (iniSig c) = (List.range 4).flatMap fun n => iniSig c (Fin.ofNat 4 n) := rfl
    rw [e, sepL_fin]
    refine bigSep_mono fun j _ => ?_
    rw [show Fin.ofNat 4 j.val = j from Fin.ext (Nat.mod_eq_of_lt j.isLt)]
    unfold iniSig
    split
    · rw [sepL_one, den_sig]; exact BI.Entails.refl _
    · exact drop_all _

omit [FloatOps F] in
theorem start_ini (c : Dev nD) :
    iprop(levAts L lv ∗ Pipeline.launchCred (fun d => owed d allOps) c ∗ G' xs c) ⊢ (|={Set.univ}=> start xs c : sProp 𝕄) := by
  unfold G' Lin
  iintro ⟨#Hlev, Hcr, ⟨%K, #HR, Hat, Htok⟩⟩
  ihave Hc := (creds xs c) $$ Hcr
  icases Hc with ⟨HC, HCB⟩
  ihave Ht := (toks_ini xs c) $$ Htok
  icases Ht with ⟨HT, HS⟩
  ihave Hat' := (Entails.of_eq (bigSep_last (fun n : Fin 545 => (atPos ER (kcell (c, n)) 0 ∅ 0 : sProp 𝕄)))) $$ Hat
  icases Hat' with ⟨Hown, Hbar⟩
  ihave HP := (show iprop(Recs xs K ∗ levAts L lv) ⊢ Pers xs K from by
    unfold Recs Pers; iintro ⟨⟨H1, H2⟩, H3⟩; isplitl [H1]; · iexact H1
    isplitl [H2] <;> iassumption) $$ []
  · isplitl; · iexact HR
    iexact Hlev
  icases HP with #HP
  imod (cells_ini xs K c) $$ [Hown] with Hcell
  · isplitr; · iexact HP
    iapply (Entails.of_eq (bigSep_congr (s := Finset.univ) fun (s : Fin 544) _ =>
      show (atPos ER (kcell (c, s.castSucc)) 0 ∅ 0 : sProp 𝕄) = posR (F := F) c s.val from by rw [kcell_own]; rfl))
    iexact Hown
  imodintro
  unfold start iniStart
  simp only [sepL_append]
  iexists K
  isplitr; · iexact HP
  isplitl [Hcell]; · iexact Hcell
  isplitl [HT]; · iexact HT
  isplitl [HC]; · iexact HC
  isplitl [HS]; · iexact HS
  isplitl [HCB]; · iexact HCB
  rw [sepL_one, den_posB]
  iexact Hbar

end Cert.AG

end
-- ==== Proof.Rules.lean ====
module

public import proofs.«01_k».proof.Proof.Step

@[expose] public section

/-! The rules for the steps: one per kind, for a text whose head does the step. -/

noncomputable section

namespace Cert.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → BI' → Elt F .bf16) (K : Dev nD × Fin 545 → ℕ)

/-! ## Resources of the steps, spelled out -/

section
omit [FloatOps F]

theorem pre_send {k : Kd} {i : ℕ} {c : Dev nD} (hi : i < cnt k) (hp : sp k i c < 128) :
    sepL (den xs c) (pre (.send k i) c) = iprop(dutyTok ER (kc c (snd k i)) 0 0 ∗ dutyTok ER (kc (tgt k c) (rcv k i)) 0 0
      ∗ rawR (tgt k c) (sp k i c) ∗ shR xs c (slot k) (sp k i c) ∗ emp) := by
  have h1 := snd_lt k i hi
  have h2 := rcv_lt k i hi
  show iprop(den xs c (cTok (snd k i)) ∗ den xs c (cTok (rcv k i)) ∗ den xs c (cLand (rcv k i)) ∗ den xs c (cSh (slot k) (sp k i c)) ∗ emp) = _
  rw [den_tok xs c (by omega), den_tok xs c (by omega), den_land xs c (by omega), den_sh xs c (by omega) (slot_lt k)]
  unfold tokR landR
  rw [role_snd k i hi, role_rcv k i hi]

theorem post_send {k : Kd} {i : ℕ} {c : Dev nD} (hi : i < cnt k) :
    sepL (den xs c) (post (.send k i) c) = iprop(cred (tallyAt (kc c (snd k i)) () NP) ∗ emp) := by
  have h1 := snd_lt k i hi
  show iprop(den xs c (cCr (snd k i)) ∗ emp) = _
  rw [den_cr xs c (by omega)]
  unfold crR amt
  rw [if_neg (by omega)]

theorem payS_snd {k : Kd} {i : ℕ} (c : Dev nD) (hi : i < cnt k) : payS xs c (snd k i) = shR xs c (slot k) (sp k i c) := by
  unfold payS; rw [role_snd k i hi]
theorem payS_rcv {k : Kd} {i : ℕ} (c : Dev nD) (hi : i < cnt k) :
    payS xs c (rcv k i) = cP c (prow (rp k i c)) fullShare (gath xs c) := by
  unfold payS; rw [role_rcv k i hi]
theorem act_snd {k : Kd} {i : ℕ} (c : Dev nD) (hi : i < cnt k) : act (snd k i) c = sg k i c := by
  unfold act; rw [role_snd k i hi]
theorem act_rcv {k : Kd} {i : ℕ} (c : Dev nD) (hi : i < cnt k) : act (rcv k i) c = rg k i c := by
  unfold act; rw [role_rcv k i hi]
theorem rg_tgt (k : Kd) (i : ℕ) (c : Dev nD) : rg k i (tgt k c) = sg k i c := by unfold rg; rw [src_tgt]
theorem rp_tgt (k : Kd) (i : ℕ) (c : Dev nD) : rp k i (tgt k c) = sp k i c := by unfold rp; rw [src_tgt]
theorem amt_rcv {k : Kd} {i : ℕ} (hi : i < cnt k) : amt (rcv k i) = NP := by
  have := rcv_lt k i hi
  unfold amt; rw [if_neg (by omega)]
theorem amt_snd {k : Kd} {i : ℕ} (hi : i < cnt k) : amt (snd k i) = NP := by
  have := snd_lt k i hi
  unfold amt; rw [if_neg (by omega)]

/-- The gathered arrays at a copy's two ends agree on the rows it moves. -/
theorem gath_tgt {k : Kd} {i : ℕ} {c : Dev nD} (hi : i < cnt k) (hg : sg k i c = true) {j : GI} (hj : j ∈ prow (sp k i c)) :
    gath xs c j = gath xs (tgt k c) j := by
  rw [mem_rows] at hj
  unfold gath
  rw [show (j 0).val / 128 = sp k i c by omega, srcDev_sp _ (mem_chans k i hi) c hg]
end

/-! ## A remote copy -/

/-- A piece's rows of the scratch, a quarter's of the scratch and of the result. -/
abbrev pcM (off : Fin S16384x1024.rank → ℕ) (inb : ∀ a, off a + S128x1024.size a ≤ S16384x1024.size a)
    (hr : ∀ a, (Rect.unit (s := S16384x1024) off S128x1024.size inb).stride a = 1) : Memref sig .tc .vmem S128x1024 .bf16 :=
  commM.slice (Rect.unit (s := S16384x1024) off S128x1024.size inb) hr
abbrev qcM (off : Fin S16384x1024.rank → ℕ) (inb : ∀ a, off a + S1024x1024.size a ≤ S16384x1024.size a)
    (hr : ∀ a, (Rect.unit (s := S16384x1024) off S1024x1024.size inb).stride a = 1) : Memref sig .tc .vmem S1024x1024 .bf16 :=
  commM.slice (Rect.unit (s := S16384x1024) off S1024x1024.size inb) hr
abbrev qoM (off : Fin S16384x1024.rank → ℕ) (inb : ∀ a, off a + S1024x1024.size a ≤ S16384x1024.size a)
    (hr : ∀ a, (Rect.unit (s := S16384x1024) off S1024x1024.size inb).stride a = 1) : Memref sig .tc .hbm S1024x1024 .bf16 :=
  outM.slice (Rect.unit (s := S16384x1024) off S1024x1024.size inb) hr

theorem send_core {c n : Dev nD} {k : Kd} {i : ℕ} (hi : i < cnt k) (hg : sg k i c = true) (hn : n = tgt k c)
    {offS offD : Fin S16384x1024.rank → ℕ} {inbS inbD}
    {hrS : ∀ a, (Rect.unit (s := S16384x1024) offS S128x1024.size inbS).stride a = 1}
    {hrD : ∀ a, (Rect.unit (s := S16384x1024) offD S128x1024.size inbD).stride a = 1}
    (hs0 : offS 0 = 128 * sp k i c) (hs1 : offS 1 = 0) (hd0 : offD 0 = 128 * sp k i c) (hd1 : offD 1 = 0)
    {hsc : (pcM offD inbD hrD).view.ref.isScScratch = false}
    {hsrc : (pcM offS inbS hrS).view.WordExact}
    {hdst : (pcM offD inbD hrD).view.WordExact}
    {hsem : DmaTarget.Typed (nD := nD) .vmem (.dma (dq (rcv k i))) (.remote (Dev.tc n : Thread nD τ)
      (pcM offD inbD hrD) (.dma (dq (snd k i))) hsc)}
    {α : Type} {Φ : α → sProp 𝕄} {kont : PUnit → Prog (TpuEff nD τ sig (Elt F) Λ₀ .tc) α}
    (fd : GI → Elt F .bf16) {O O' : CellTallies nD τ sig Unit} (hO : O' = O + tallyAt (kc (tgt k c) (rcv k i)) () NP) (W : Waits sig Unit)
    {κ₁ κ₂ : ℕ} :
    iprop(cellInv ER (Rd xs) κ₁ (kc c (snd k i)) ∗ cellInv ER (Rd xs) κ₂ (kc (tgt k c) (rcv k i))
        ∗ shR xs c (slot k) (sp k i c) ∗ cP (tgt k c) (prow (sp k i c)) fullShare fd
        ∗ owes (c : Thread nD τ) O' W
        ∗ dutyTok ER (kc c (snd k i)) 0 0 ∗ reached ER (kc c (snd k i)) 0
        ∗ dutyTok ER (kc (tgt k c) (rcv k i)) 0 0 ∗ reached ER (kc (tgt k c) (rcv k i)) 0)
      ⊢ iprop(((cred (tallyAt (kc c (snd k i)) () NP) ∗ owes (c : Thread nD τ) O W) -∗ WP c (kont ⟨⟩) Φ)
          -∗ WP c (.op (.enqueueDma (pcM offS inbS hrS)
              (.remote (Dev.tc n : Thread nD τ) (pcM offD inbD hrD) (.dma (dq (snd k i))) hsc)
              (.dma (dq (rcv k i))) hsrc hdst hsem) kont) Φ) := by
  subst hn
  have h1 := snd_lt k i hi
  have h2 := rcv_lt k i hi
  have eS : (pcM offS inbS hrS).view.set = prow (sp k i c) :=
    (View.set_slice_whole cc0_scratch0 (Rect.unit (s := S16384x1024) offS S128x1024.size inbS)).trans (unit_set hs0 hs1)
  have eD : (pcM offD inbD hrD).view.set = prow (sp k i c) :=
    (View.set_slice_whole cc0_scratch0 (Rect.unit (s := S16384x1024) offD S128x1024.size inbD)).trans (unit_set hd0 hd1)
  have hoff : offS = offD := off_eq hs0 hs1 hd0 hd1
  have eW : ∀ j ∈ prow (sp k i c), ((pcM offD inbD hrD).view.write (Elt F) fd
      ((pcM offS inbS hrS).view.read (Elt F) (gath xs c)) Finset.univ) j
        = gath xs (tgt k c) j := by
    intro j hj
    have hj' := hj
    rw [← eD] at hj'
    obtain ⟨x, -, rfl⟩ := Finset.mem_map.mp hj'
    refine (View.write_emb_of_mem (v := (pcM offD inbD hrD).view) (Val := Elt F) _ _ (Finset.mem_univ x)).trans ?_
    rw [← gath_tgt xs hi hg hj]
    subst hoff
    rfl
  rw [show shR xs c (slot k) (sp k i c) = ((pcM offS inbS hrS).view.loc (c : Thread nD τ)
        ↦[(pcM offS inbS hrS).view.set]{shq (slot k)} gath xs c : sProp 𝕄) from by rw [eS]; rfl,
    show cP (tgt k c) (prow (sp k i c)) fullShare fd = ((pcM offD inbD hrD).view.loc (tgt k c : Thread nD τ)
        ↦[(pcM offD inbD hrD).view.set]{fullShare} fd : sProp 𝕄) from by rw [eD]; rfl]
  exact Rounds.wp_send_pointsTo 𝒱₀ ER (Rd xs) (c : Thread nD τ) none (κ₁ := κ₁) (κ₂ := κ₂)
    (c' := (Dev.tc (tgt k c) : Thread nD τ)) (src := pcM offS inbS hrS) (dst := pcM offD inbD hrD) (q := shq (slot k)) (fs := gath xs c)
    (fd := fd) (r₁ := 0) (r₂ := 0) (d₁ := 0) (d₂ := 0)
    (by rw [duties_kc xs (by omega) (by rw [act_snd c hi, hg])]; exact Finset.mem_singleton_self _)
    (by rw [duties_kc xs (by omega) (by rw [act_rcv _ hi, rg_tgt, hg])]; exact Finset.mem_singleton_self _)
    () () NP rfl ((amount_kc xs (by omega) 0 0).trans (amt_snd hi)) ((amount_kc xs (by omega) 0 0).trans (amt_rcv hi)) O hO (W := W)
    (by rw [payload_kc xs (by omega), payS_snd xs c hi, eS]; exact .refl)
    (by rw [payload_kc xs (by omega), payS_rcv xs _ hi, rp_tgt, eD, pointsTo_congr eW]; exact .refl)

section
variable {c : Dev nD} {k : Kd} {i : ℕ} {ops : List Op} {gs : List (List Op)} {α : Type}

omit [FloatOps F] in
theorem all_cons {op : Op} (h : ((op :: ops).all fun o => guard o c) = true) :
    guard op c = true ∧ (ops.all fun o => guard o c) = true := by
  rw [List.all_cons, Bool.and_eq_true] at h; exact h

theorem run_send {Φ : α → sProp 𝕄} {kont : PUnit → Prog (TpuEff nD τ sig (Elt F) Λ₀ .tc) α}
    {offS offD : Dev nD → Fin S16384x1024.rank → ℕ} {devf : Dev nD → ℕ} {hlt : devf c < nD} {inbS inbD}
    {hrS : ∀ a, (Rect.unit (s := S16384x1024) (offS c) S128x1024.size inbS).stride a = 1}
    {hrD : ∀ a, (Rect.unit (s := S16384x1024) (offD c) S128x1024.size inbD).stride a = 1}
    {sS sR : SemLoc sig} {hsc hsrc hdst hsem}
    (hk : Run xs K c ops gs (kont ⟨⟩) Φ)
    (hs1 : sS = .dma (dq (snd k i))) (hs2 : sR = .dma (dq (rcv k i)))
    (hf : ∀ d : Dev nD, guard (.send k i) d = true → offS d 0 = 128 * sp k i d ∧ offS d 1 = 0 ∧
      offD d 0 = 128 * sp k i d ∧ offD d 1 = 0 ∧ devf d = (tgt k d).val) :
    Run xs K c (.send k i :: ops) gs (.op (.enqueueDma (pcM (offS c) inbS hrS)
      (.remote (Dev.tc (⟨devf c, hlt⟩ : Dev nD) : Thread nD τ) (pcM (offD c) inbD hrD) sS hsc)
      sR hsrc hdst hsem) kont) Φ := by
  intro hga hsc'
  obtain ⟨hg, hga'⟩ := all_cons hga
  obtain ⟨hsc1, hix, -⟩ := scan_pos hg hsc'
  have hi : i < cnt k := of_decide_eq_true hix
  obtain ⟨f1, f2, f3, f4, f5⟩ := hf c hg
  subst hs1 hs2
  have h1 := snd_lt k i hi
  have h2 := rcv_lt k i hi
  have hp := sp_lt _ (mem_chans k i hi) c hg
  refine BIBase.Entails.trans (Q := iprop(Pers xs K ∗ (∃ W, owes (c : Thread nD τ) (owed c (ops ++ gs.flatten) + tallyAt (kc (tgt k c) (rcv k i)) () NP) W)
    ∗ (dutyTok ER (kc c (snd k i)) 0 0 ∗ dutyTok ER (kc (tgt k c) (rcv k i)) 0 0
      ∗ rawR (tgt k c) (sp k i c) ∗ shR xs c (slot k) (sp k i c) ∗ emp)
    ∗ ((cred (tallyAt (kc c (snd k i)) () NP) ∗ emp) -∗ Res (den xs c) c (endR xs c) (ops ++ gs.flatten)))) (.of_eq ?_) ?_
  · rw [← pre_send xs hi hp, ← post_send xs hi, ← Res_pos _ _ _ _ hg]
    show St xs K c (.send k i :: (ops ++ gs.flatten)) = _
    unfold St
    rw [show owed c (.send k i :: (ops ++ gs.flatten)) = owed c (ops ++ gs.flatten) + tallyAt (kc (tgt k c) (rcv k i)) () NP from if_pos hg]
  unfold rawR
  iintro ⟨#HP, ⟨%W, HO⟩, ⟨Ht1, Ht2, ⟨%fd, Hd⟩, Hs, -⟩, Hpost⟩
  iapply (send_core xs hi hg (Fin.ext f5) f1 f2 f3 f4 fd (O := owed c (ops ++ gs.flatten)) rfl W
    (κ₁ := K (c, ix (snd k i))) (κ₂ := K (tgt k c, ix (rcv k i)))) $$ [HO Ht1 Ht2 Hd Hs]
  · isplitr; · iapply (inv_at xs K (c, ix (snd k i)) (kcell_ix c (by omega))); iexact HP
    isplitr; · iapply (inv_at xs K (tgt k c, ix (rcv k i)) (kcell_ix _ (by omega))); iexact HP
    isplitl [Hs]; · iexact Hs
    isplitl [Hd]; · iexact Hd
    isplitl [HO]; · iexact HO
    isplitl [Ht1]; · iexact Ht1
    isplitr; · iapply (reached_at xs K (c, ix (snd k i)) (kcell_ix c (by omega))); iexact HP
    isplitl [Ht2]; · iexact Ht2
    iapply (reached_at xs K (tgt k c, ix (rcv k i)) (kcell_ix _ (by omega))); iexact HP
  iintro ⟨Hc, HO⟩
  iapply (hk hga' hsc1)
  unfold St
  isplitr; · iexact HP
  isplitl [HO]; · iexists W; iexact HO
  iapply Hpost
  isplitl [Hc]; · iexact Hc
  iempintro

/-! ## Groups, guards and the end of a window -/

omit [FloatOps F] in
theorem run_open_aux {op : Op} : op :: (ops ++ gs.flatten) = [] ++ ((op :: ops) :: gs).flatten := rfl

/-- The next group is one every device does. -/
theorem run_open {Φ : α → sProp 𝕄} {blk : List Op} {p : Prog (TpuEff nD τ sig (Elt F) Λ₀ .tc) α} (hk : Run xs K c blk gs p Φ)
    (hb : ∀ d : D, (blk.all fun o => guard o d) = true) : Run xs K c [] (blk :: gs) p Φ :=
  fun _ h => hk (hb c) h

/-- The next group is under a condition: with it the group is done, without it none of its steps is guarded in. -/
theorem run_if {Φ : α → sProp 𝕄} {blk : List Op} {cnd : Dev nD → BitVec 1} {A : cnd c = 1#1 → Prog (TpuEff nD τ sig (Elt F) Λ₀ .tc) α}
    {p : Prog (TpuEff nD τ sig (Elt F) Λ₀ .tc) α}
    (hb : ∀ d : Dev nD, if cnd d = 1#1 then (blk.all fun o => guard o d) = true else (blk.all fun o => !guard o d) = true)
    (hyes : Run xs K c [] gs p Φ → ∀ h, Run xs K c blk gs (A h) Φ) (hno : Run xs K c [] gs p Φ) :
    Run xs K c [] (blk :: gs) (dite (cnd c = 1#1) A fun _ => p) Φ := by
  intro _ hs
  have hb' := hb c
  by_cases h : cnd c = 1#1
  · rw [if_pos h] at hb'
    rw [dif_pos h]
    exact hyes hno h hb' hs
  · rw [if_neg h] at hb'
    rw [dif_neg h]
    have e : ∀ b : List Op, (b.all fun o => !guard o c) = true → ∀ l, scan c (b ++ l) = scan c l ∧ St xs K c (b ++ l) = St xs K c l := by
      intro b
      induction b with
      | nil => exact fun _ _ => ⟨rfl, rfl⟩
      | cons op b ih =>
        intro hb l
        rw [List.all_cons, Bool.and_eq_true] at hb
        have hg : ¬guard op c = true := by
          intro h'; have := hb.1; rw [h'] at this; exact absurd this (by decide)
        obtain ⟨e1, e2⟩ := ih hb.2 l
        refine ⟨(scan_neg hg).trans e1, ?_⟩
        rw [← e2]
        show St xs K c (op :: (b ++ l)) = _
        unfold St
        rw [Res_neg _ _ _ _ hg, show owed c (op :: (b ++ l)) = owed c (b ++ l) from by
          cases op with
          | sig j => exact if_neg hg
          | send k i => exact if_neg hg
          | _ => rfl]
    obtain ⟨e1, e2⟩ := e blk hb' gs.flatten
    have e3 : [] ++ (blk :: gs).flatten = blk ++ gs.flatten := rfl
    rw [e3] at hs ⊢
    rw [e1] at hs
    rw [e2]
    exact hno rfl hs

/-- The end of a window. -/
theorem run_ret {Φ : α → sProp 𝕄} {a : α} (h : St xs K c (ops ++ gs.flatten) ⊢ Φ a) : Run xs K c ops gs (.ret a) Φ := by
  intro _ _
  unfold WP
  rw [wp_ret]
  exact h.trans (by iintro H; imodintro; iexact H)

/-! ## Stores and loads -/

omit [FloatOps F] in
theorem own_pc : ∀ o < 5, ∀ p < 8, ∀ d : D, pc (cz d) (oq o d) p < 128 ∧ pc (cz d) (oq o d) p / 32 = cz d := by decide +kernel

/-- The index of a piece's element in the gathered array. -/
def pidx (n : ℕ) (j : S128x1024.Idx) : GI := fun a =>
  match a with
  | 0 => ⟨(128 * n + (j 0).val) % 16384, Nat.mod_lt _ (by decide)⟩
  | 1 => ⟨(j 1).val, (j 1).isLt⟩

/-- A piece's contents. -/
def pv (c : Dev nD) (n : ℕ) : S128x1024.Idx → Elt F .bf16 := fun j => gath xs c (pidx n j)

omit [FloatOps F] in
theorem read_own {n : ℕ} (hn : n < 128) (hz : n / 32 = cz c) {off : Fin S4096x1024.rank → ℕ} {inb} (h0 : off 0 = 128 * (n % 32)) (h1 : off 1 = 0) :
    stgM.view.readAt (Elt F) (Rect.unit (s := S4096x1024) off S128x1024.size inb).toLoadRect (xs c) = pv xs c n := by
  funext j
  have hj : (j 0).val < 128 := (j 0).isLt
  show xs c ((Rect.unit (s := S4096x1024) off S128x1024.size inb).emb j) = xs (srcDev c ((128 * n + (j 0).val) % 16384 / 128)) (inner (pidx n j))
  rw [show (128 * n + (j 0).val) % 16384 / 128 = n by omega, show srcDev c n = c from if_pos hz]
  congr 1
  funext a
  apply Fin.ext
  match a with
  | 0 =>
    show off 0 + 1 * (j 0).val = (128 * n + (j 0).val) % 16384 % 4096
    omega
  | 1 =>
    show off 1 + 1 * (j 1).val = (j 1).val
    omega

omit [FloatOps F] in
theorem write_own {n : ℕ} (hn : n < 128) {off : Fin S16384x1024.rank → ℕ} {inb} (h0 : off 0 = 128 * n) (h1 : off 1 = 0)
    (f : GI → Elt F .bf16) : ∀ i ∈ prow n,
    (commM.access (Rect.unit (s := S16384x1024) off S128x1024.size inb)).write (Elt F) f (pv xs c n) Finset.univ i = gath xs c i := by
  intro i hi
  have eS : (commM.access (Rect.unit (s := S16384x1024) off S128x1024.size inb)).set = prow n :=
    (View.set_slice_whole cc0_scratch0 (Rect.unit (s := S16384x1024) off S128x1024.size inb)).trans (unit_set h0 h1)
  rw [← eS] at hi
  obtain ⟨x, -, rfl⟩ := Finset.mem_map.mp hi
  refine (View.write_emb_of_mem (v := commM.access (Rect.unit (s := S16384x1024) off S128x1024.size inb)) (Val := Elt F) _ _ (Finset.mem_univ x)).trans ?_
  show gath xs c (pidx n x) = gath xs c ((Rect.unit (s := S16384x1024) off S128x1024.size inb).emb x)
  congr 1
  have hx : (x 0).val < 128 := (x 0).isLt
  funext a
  apply Fin.ext
  match a with
  | 0 =>
    show (128 * n + (x 0).val) % 16384 = off 0 + 1 * (x 0).val
    omega
  | 1 =>
    show (x 1).val = off 1 + 1 * (x 1).val
    omega

/-- Two neighbouring row intervals' points-tos are that of the whole interval. -/
theorem cP_rows (c : Dev nD) (q : PosShare TreeShare) (f : GI → Elt F .bf16) {a b d : ℕ} (h₁ : a ≤ b) (h₂ : b ≤ d) :
    cP c (rows a d) q f = iprop(cP c (rows a b) q f ∗ cP c (rows b d) q f) := by
  unfold cP; rw [rows_union h₁ h₂]; exact BI.Entails.antisymm (pointsTo_union (rows_disj le_rfl)).1 (pointsTo_union (rows_disj le_rfl)).2
theorem oP_rows (c : Dev nD) (f : GI → Elt F .bf16) {a b d : ℕ} (h₁ : a ≤ b) (h₂ : b ≤ d) :
    oP c (rows a d) f = iprop(oP c (rows a b) f ∗ oP c (rows b d) f) := by
  unfold oP; rw [rows_union h₁ h₂]; exact BI.Entails.antisymm (pointsTo_union (rows_disj le_rfl)).1 (pointsTo_union (rows_disj le_rfl)).2

/-- A row interval cut into equal stretches, one code each. -/
theorem chop {P : ℕ → ℕ → sProp 𝕄} (hu : ∀ {a b d}, a ≤ b → b ≤ d → P a d = iprop(P a b ∗ P b d)) (he : ∀ a, P a a = iprop(emp))
    (w : ℕ) (dn : ℕ → sProp 𝕄) (g : ℕ → ℕ) (n : ℕ) : ∀ a, (∀ p, a ≤ p → p < a + n → dn (g p) = P (w * p) (w * p + w)) →
    P (w * a) (w * (a + n)) = sepL dn ((List.range' a n).map g) := by
  induction n with
  | zero => intro a _; exact he _
  | succ n ih =>
    intro a h
    show _ = iprop(dn (g a) ∗ sepL dn ((List.range' (a + 1) n).map g))
    rw [h a le_rfl (by omega), ← ih (a + 1) fun p h1 h2 => h p (by omega) (by omega),
      show w * (a + 1 + n) = w * (a + (n + 1)) by congr 1; omega, Nat.mul_add w a 1, Nat.mul_one]
    exact hu (by omega) (by rw [Nat.mul_add]; have : w ≤ w * (n + 1) := Nat.le_mul_of_pos_right w (by omega); omega)

/-- The five shares of a piece are the piece. -/
theorem shares5 (c : Dev nD) {n : ℕ} (hn : n < 128) :
    cP c (prow n) fullShare (gath xs c) = sepL (den xs c) (shs n) := by
  show _ = iprop(den xs c (cSh 0 n) ∗ den xs c (cSh 1 n) ∗ den xs c (cSh 2 n) ∗ den xs c (cSh 3 n) ∗ den xs c (cSh 4 n) ∗ emp)
  rw [den_sh xs c (by omega) (by omega), den_sh xs c (by omega) (by omega), den_sh xs c (by omega) (by omega),
    den_sh xs c (by omega) (by omega), den_sh xs c (by omega) (by omega)]
  have e : ∀ q : PosShare TreeShare, cP c (prow n) q (gath xs c) = iprop(cP c (prow n) q.left (gath xs c) ∗ cP c (prow n) q.right (gath xs c)) :=
    fun q => BI.Entails.antisymm (pointsTo_share (PosShare.mem_left_op_right q)).1 (pointsTo_share (PosShare.mem_left_op_right q)).2
  rw [e fullShare, e fullShare.right, e fullShare.right.left, e fullShare.right.right, sep_flat, sep_comm_eq (shR xs c 4 n) _, sep_drop]
  rfl

/-- The result-copy shares of a quarter's pieces are that share of the quarter. -/
theorem shares8 (c : Dev nD) {q : ℕ} (hq : q < 16) :
    cP c (qrow q) (shq 0) (gath xs c) = sepL (den xs c) (sh8 q) := by
  have h := chop (P := fun a b => cP c (rows a b) (shq 0) (gath xs c)) (fun h₁ h₂ => cP_rows c _ _ h₁ h₂)
    (fun a => by unfold cP; rw [rows_empty]; exact pointsTo_empty) 128 (den xs c) (cSh 0) 8 (8 * q)
    (fun p h1 h2 => by rw [den_sh xs c (by omega) (by omega)]; rfl)
  rw [show 128 * (8 * q) = 1024 * q by omega, show 128 * (8 * q + 8) = 1024 * q + 1024 by omega] at h
  refine h.trans ?_
  rw [List.range'_eq_map_range, List.map_map]
  rfl

theorem run_store {Φ : α → sProp 𝕄} {o p : ℕ} {kont : PUnit → Prog (TpuEff nD τ sig (Elt F) Λ₀ .tc) α}
    {off : Dev nD → Fin S16384x1024.rank → ℕ} {inb} {w : S128x1024.Idx → Elt F .bf16} {hx hm}
    (hk : Run xs K c ops gs (kont ⟨⟩) Φ)
    (hw : w = pv xs c (pc (cz c) (oq o c) p))
    (hf : ∀ d : Dev nD, guard (.store o p) d = true → off d 0 = 128 * pc (cz d) (oq o d) p ∧ off d 1 = 0) :
    Run xs K c (.store o p :: ops) gs (.op (.store commM (Rect.unit (s := S16384x1024) (off c) S128x1024.size inb) w Finset.univ hx hm) kont) Φ := by
  intro hga hsc'
  obtain ⟨hg, hga'⟩ := all_cons hga
  obtain ⟨hsc1, hix, -⟩ := scan_pos hg hsc'
  have hix' : (decide (o < 5) && decide (p < 8)) = true := hix
  rw [Bool.and_eq_true] at hix'
  obtain ⟨hn, hz⟩ := own_pc o (of_decide_eq_true hix'.1) p (of_decide_eq_true hix'.2) c
  obtain ⟨f1, f2⟩ := hf c hg
  subst hw
  generalize hN : pc (cz c) (oq o c) p = n at *
  refine BIBase.Entails.trans (Q := iprop(Pers xs K ∗ (∃ W, owes (c : Thread nD τ) (owed c (ops ++ gs.flatten)) W)
    ∗ (xP xs c ∗ rawR c n ∗ emp) ∗ ((xP xs c ∗ cP c (prow n) fullShare (gath xs c)) -∗ Res (den xs c) c (endR xs c) (ops ++ gs.flatten)))) (.of_eq ?_) ?_
  · rw [shares5 xs c hn, ← hN, ← den_raw xs c (by omega)]
    show St xs K c (.store o p :: (ops ++ gs.flatten)) = _
    unfold St
    rw [Res_pos _ _ _ _ hg]
    rfl
  unfold rawR
  iintro ⟨#HP, HO, ⟨HX, ⟨%f, Hc⟩, -⟩, Hpost⟩
  have eS : (commM.access (Rect.unit (s := S16384x1024) (off c) S128x1024.size inb)).set = prow n :=
    (View.set_slice_whole cc0_scratch0 (Rect.unit (s := S16384x1024) (off c) S128x1024.size inb)).trans (unit_set f1 f2)
  unfold cP
  iapply (wp_store 𝒱₀ (c : Thread nD τ) none Set.univ (m := commM) (r := Rect.unit (s := S16384x1024) (off c) S128x1024.size inb)
    (S := prow n) (f := f) (Mk := Finset.univ) (by rw [View.setOn_univ, eS])) $$ Hc
  iintro Hc
  iapply (hk hga' hsc1)
  unfold St
  isplitr; · iexact HP
  isplitl [HO]; · iexact HO
  iapply Hpost
  isplitl [HX]; · iexact HX
  ihave Hc' := (Entails.of_eq (pointsTo_congr (ℓ := (c : Thread nD τ).loc cc0_scratch0) (q := fullShare) (write_own xs hn f1 f2 f))) $$ Hc
  iexact Hc'

theorem run_load_x {Φ : α → sProp 𝕄} {o p : ℕ} {kont : (S128x1024.Idx → Elt F .bf16) → Prog (TpuEff nD τ sig (Elt F) Λ₀ .tc) α}
    {off : Dev nD → Fin S4096x1024.rank → ℕ} {inb} {hl}
    (hk : Run xs K c (.store o p :: ops) gs (kont (pv xs c (pc (cz c) (oq o c) p))) Φ)
    (hf : ∀ d : Dev nD, guard (.store o p) d = true → off d 0 = 128 * (pc (cz d) (oq o d) p % 32) ∧ off d 1 = 0) :
    Run xs K c (.store o p :: ops) gs (.op (.load stgM (Rect.unit (s := S4096x1024) (off c) S128x1024.size inb).toLoadRect hl) kont) Φ := by
  intro hga hsc'
  obtain ⟨hg, hga'⟩ := all_cons hga
  obtain ⟨hsc1, hix, -⟩ := scan_pos hg hsc'
  have hix' : (decide (o < 5) && decide (p < 8)) = true := hix
  rw [Bool.and_eq_true] at hix'
  obtain ⟨hn, hz⟩ := own_pc o (of_decide_eq_true hix'.1) p (of_decide_eq_true hix'.2) c
  obtain ⟨f1, f2⟩ := hf c hg
  have e : St xs K c (.store o p :: ops ++ gs.flatten) = iprop(Pers xs K ∗ (∃ W, owes (c : Thread nD τ) (owed c (.store o p :: ops ++ gs.flatten)) W)
    ∗ (xP xs c ∗ den xs c (cRaw (pc (cz c) (oq o c) p)) ∗ emp) ∗ (sepL (den xs c) (post (.store o p) c) -∗ Res (den xs c) c (endR xs c) (ops ++ gs.flatten))) := by
    unfold St
    rw [List.cons_append, Res_pos _ _ _ _ hg]
    rfl
  have hk' := hk hga hsc'
  rw [e] at hk' ⊢
  iintro ⟨#HP, HO, ⟨HX, Hc, -⟩, Hpost⟩
  unfold xP at hk' ⊢
  iapply (wp_load 𝒱₀ (c : Thread nD τ) none Set.univ (m := stgM) (r := (Rect.unit (s := S4096x1024) (off c) S128x1024.size inb).toLoadRect)
    (S := Finset.univ) (f := xs c) (Finset.subset_univ _)) $$ HX
  iintro HX
  rw [read_own xs hn hz f1 f2]
  iapply hk'
  isplitr; · iexact HP
  isplitl [HO]; · iexact HO
  isplitl [HX Hc]
  · isplitl [HX]; · iexact HX
    isplitl [Hc]; · iexact Hc
    iempintro
  iexact Hpost

theorem run_load_c {Φ : α → sProp 𝕄} {o p : ℕ} {kont : (S128x1024.Idx → Elt F .bf16) → Prog (TpuEff nD τ sig (Elt F) Λ₀ .tc) α}
    {off : Dev nD → Fin S16384x1024.rank → ℕ} {inb} {hl}
    (hk : ∀ v, Run xs K c (.store o p :: ops) gs (kont v) Φ)
    (hf : ∀ d : Dev nD, guard (.store o p) d = true → off d 0 = 128 * pc (cz d) (oq o d) p ∧ off d 1 = 0) :
    Run xs K c (.store o p :: ops) gs (.op (.load commM (Rect.unit (s := S16384x1024) (off c) S128x1024.size inb).toLoadRect hl) kont) Φ := by
  intro hga hsc'
  obtain ⟨hg, hga'⟩ := all_cons hga
  obtain ⟨hsc1, hix, -⟩ := scan_pos hg hsc'
  have hix' : (decide (o < 5) && decide (p < 8)) = true := hix
  rw [Bool.and_eq_true] at hix'
  obtain ⟨hn, hz⟩ := own_pc o (of_decide_eq_true hix'.1) p (of_decide_eq_true hix'.2) c
  obtain ⟨f1, f2⟩ := hf c hg
  have e : St xs K c (.store o p :: ops ++ gs.flatten) = iprop(Pers xs K ∗ (∃ W, owes (c : Thread nD τ) (owed c (.store o p :: ops ++ gs.flatten)) W)
    ∗ (xP xs c ∗ (∃ f, cP c (prow (pc (cz c) (oq o c) p)) fullShare f) ∗ emp) ∗ (sepL (den xs c) (post (.store o p) c) -∗ Res (den xs c) c (endR xs c) (ops ++ gs.flatten))) := by
    unfold St
    rw [List.cons_append, Res_pos _ _ _ _ hg]
    show iprop(_ ∗ _ ∗ (_ ∗ den xs c (cRaw _) ∗ _) ∗ _) = _
    rw [den_raw xs c (by omega)]
    rfl
  have hk' := fun v => hk v hga hsc'
  rw [e] at hk' ⊢
  have eS : (commM.view.setOn (Rect.unit (s := S16384x1024) (off c) S128x1024.size inb).toLoadRect.set) = prow (pc (cz c) (oq o c) p) := by
    refine Eq.trans ?_ (unit_set (inb := inb) f1 f2)
    exact Finset.map_refl
  iintro ⟨#HP, HO, ⟨HX, ⟨%f, Hc⟩, -⟩, Hpost⟩
  unfold cP at hk' ⊢
  iapply (wp_load 𝒱₀ (c : Thread nD τ) none Set.univ (m := commM) (r := (Rect.unit (s := S16384x1024) (off c) S128x1024.size inb).toLoadRect)
    (S := prow (pc (cz c) (oq o c) p)) (f := f) (by rw [eS])) $$ Hc
  iintro Hc
  iapply (hk' _)
  isplitr; · iexact HP
  isplitl [HO]; · iexact HO
  isplitl [HX Hc]
  · isplitl [HX]; · iexact HX
    isplitl [Hc]; · iexists f; iexact Hc
    iempintro
  iexact Hpost

end

end Cert.AG

end
-- ==== Proof.Rules2.lean ====
module

public import proofs.«01_k».proof.Proof.Rules

@[expose] public section

/-! The rules for the waits, the copies to the result and the barrier. -/

noncomputable section

namespace Cert.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → BI' → Elt F .bf16) (K : Dev nD × Fin 545 → ℕ)

/-! ## Waits -/

section
variable {c : Dev nD} {k : Kd} {i : ℕ} {ops : List Op} {gs : List (List Op)} {α : Type}

set_option maxRecDepth 20000 in
theorem pers_may (sm : SemLoc sig) (l : List Op) (h : (scan c l).1 = true)
    (hl : lv ((c : Thread nD τ), sm) () < (scan c l).2) : Pers xs K ⊢ MayWait (c : Thread nD τ) sm () (owed c l) := by
  have h1 := lev_at xs K
  have h2 := may_wait (F := F) c sm l h hl
  exact h1.trans h2

/-- A wait for a transfer: the semaphore is left at rest and what the transfer delivers is had. -/
theorem wait_core {Φ : α → sProp 𝕄} {s : ℕ} (hs : s < 544) (ha : act s c = true) {ms ms' : Space} {s₁ s₂ : Shape} {e₁ e₂ : EltTy}
    {src : Memref sig .tc ms' s₂ e₂} {dst : Memref sig .tc ms s₁ e₁} {h₁ : src.view.WordExact} {h₂ : dst.view.WordExact}
    (hN : dst.view.dmaCredit = amt s) {l : List Op} (hl : (scan c l).1 = true) (hlt : lvS s < (scan c l).2)
    {kont : PUnit → Prog (TpuEff nD τ sig (Elt F) Λ₀ .tc) α} :
    iprop(Pers xs K ∗ (∃ W, owes (c : Thread nD τ) (owed c l) W) ∗ posR c s ∗ crR c s)
      ⊢ iprop((((∃ W, owes (c : Thread nD τ) (owed c l) W) ∗ zR c s ∗ payS xs c s) -∗ WP c (kont ⟨⟩) Φ)
        -∗ WP c (.op (.waitDma2 (dq s) src dst h₁ h₂) kont) Φ) := by
  unfold posR crR zR
  iintro ⟨#HP, ⟨%W, HO⟩, Hat, Hc⟩ Hk
  iapply (Rounds.wp_wait_rest_token 𝒱₀ ER (Rd xs) (c : Thread nD τ) none (κ := K (c, ix s)) (sm := .dma (dq s)) (k' := amt s)
      (fun Kp => (wpE_waitDma2_eq 𝒱₀ (c : Thread nD τ) none Set.univ Kp).trans (by rw [hN]))
      (Set.mem_univ _) () (O := owed c l) (W := W) (R := 0) (m := 0) (T := ∅)
      (by rw [Nat.zero_add]; exact (expect_kc xs hs ha).symm)) $$ [HO Hat Hc]
  · isplitr; · iapply (inv_at xs K (c, ix s) (kcell_ix c hs)); iexact HP
    isplitl [Hc]; · iexact Hc
    isplitl [HO]; · iexact HO
    isplitr
    · iapply (pers_may xs K (.dma (dq s)) l hl ((lv_kc (c := c) hs).trans_lt hlt)); iexact HP
    iexact Hat
  iintro ⟨HO, Hat, -, Hpay'⟩
  ihave Hpay := (Entails.of_eq (rest_kc xs hs ha)) $$ Hpay'
  imod (Rounds.cell_close ER (Rd xs) (g := kc c s) (Set.mem_univ (K (c, ix s))) (fun h => h) (R := 0 + 1)
    (duties_later xs _)) $$ [Hat] with Hz
  · isplitr; · iapply (inv_at xs K (c, ix s) (kcell_ix c hs)); iexact HP
    iexact Hat
  iapply Hk
  isplitl [HO]; · iexists (insert ((.dma (dq s) : SemLoc sig), ()) W); iexact HO
  isplitl [Hz]; · iexact Hz
  iexact Hpay

/-- A step that awaits semaphore `s`, with what it gives back. -/
theorem run_wait {Φ : α → sProp 𝕄} {op : Op} {s : ℕ} (hs : s < 544) (hact : guard op c = true → act s c = true)
    (hpre : pre op c = [cPos s, cCr s]) (hlv : lvW op = some (lvS s)) (hO : ∀ l, owed c (op :: l) = owed c l)
    (hpost : guard op c = true → iprop(zR c s ∗ payS xs c s) ⊢ sepL (den xs c) (post op c))
    {ms ms' : Space} {s₁ s₂ : Shape} {e₁ e₂ : EltTy}
    {src : Memref sig .tc ms' s₂ e₂} {dst : Memref sig .tc ms s₁ e₁} {h₁ : src.view.WordExact} {h₂ : dst.view.WordExact}
    (hN : dst.view.dmaCredit = amt s) {kont : PUnit → Prog (TpuEff nD τ sig (Elt F) Λ₀ .tc) α} {q : DmaSem sig} (hq : q = dq s)
    (hk : Run xs K c ops gs (kont ⟨⟩) Φ) :
    Run xs K c (op :: ops) gs (.op (.waitDma2 q src dst h₁ h₂) kont) Φ := by
  intro hga hsc'
  obtain ⟨hg, hga'⟩ := all_cons hga
  obtain ⟨hsc1, -, hw⟩ := scan_pos hg hsc'
  subst hq
  refine BIBase.Entails.trans (Q := iprop(Pers xs K ∗ (∃ W, owes (c : Thread nD τ) (owed c (ops ++ gs.flatten)) W)
    ∗ (posR c s ∗ crR c s ∗ emp) ∗ (sepL (den xs c) (post op c) -∗ Res (den xs c) c (endR xs c) (ops ++ gs.flatten)))) (.of_eq ?_) ?_
  · show St xs K c (op :: (ops ++ gs.flatten)) = _
    unfold St
    rw [Res_pos _ _ _ _ hg, hO, hpre]
    show iprop(_ ∗ _ ∗ (den xs c (cPos s) ∗ den xs c (cCr s) ∗ emp) ∗ _) = _
    rw [den_pos xs c (by omega), den_cr xs c (by omega)]
  iintro ⟨#HP, HO, ⟨Hat, Hc, -⟩, Hpost⟩
  iapply (wait_core xs K hs (hact hg) hN hsc1 (hw _ hlv)) $$ [HO Hat Hc]
  · isplitr; · iexact HP
    isplitl [HO]; · iexact HO
    isplitl [Hat] <;> iassumption
  iintro ⟨HO, Hz⟩
  iapply (hk hga' hsc1)
  unfold St
  isplitr; · iexact HP
  isplitl [HO]; · iexact HO
  iapply Hpost
  iapply (hpost hg)
  iexact Hz

theorem run_recv {Φ : α → sProp 𝕄} (hi : i < cnt k) {ms ms' : Space} {s₁ s₂ : Shape} {e₁ e₂ : EltTy}
    {src : Memref sig .tc ms' s₂ e₂} {dst : Memref sig .tc ms s₁ e₁} {h₁ : src.view.WordExact} {h₂ : dst.view.WordExact}
    (hN : dst.view.dmaCredit = NP) {kont : PUnit → Prog (TpuEff nD τ sig (Elt F) Λ₀ .tc) α} {q : DmaSem sig} (hq : q = dq (rcv k i))
    (hk : Run xs K c ops gs (kont ⟨⟩) Φ) :
    Run xs K c (.recv k i :: ops) gs (.op (.waitDma2 q src dst h₁ h₂) kont) Φ := by
  have h2 := rcv_lt k i hi
  refine run_wait xs K (op := (.recv k i)) (s := rcv k i) (by omega) (fun hg => (act_rcv c hi).trans (show rg k i c = true from hg)) rfl (by rw [lvS_rcv hi]; rfl) (fun _ => rfl) ?_
    (hN.trans (amt_rcv hi).symm) hq hk
  intro hg
  rw [payS_rcv xs c hi, shares5 xs c (rp_lt _ (mem_chans k i hi) c hg), ← den_z xs c (by omega)]
  exact .refl

theorem run_swait {Φ : α → sProp 𝕄} (hi : i < cnt k) {ms ms' : Space} {s₁ s₂ : Shape} {e₁ e₂ : EltTy}
    {src : Memref sig .tc ms' s₂ e₂} {dst : Memref sig .tc ms s₁ e₁} {h₁ : src.view.WordExact} {h₂ : dst.view.WordExact}
    (hN : dst.view.dmaCredit = NP) {kont : PUnit → Prog (TpuEff nD τ sig (Elt F) Λ₀ .tc) α} {q : DmaSem sig} (hq : q = dq (snd k i))
    (hk : Run xs K c ops gs (kont ⟨⟩) Φ) :
    Run xs K c (.swait k i :: ops) gs (.op (.waitDma2 q src dst h₁ h₂) kont) Φ := by
  have h2 := snd_lt k i hi
  refine run_wait xs K (op := (.swait k i)) (s := snd k i) (by omega) (fun hg => (act_snd c hi).trans (show sg k i c = true from hg)) rfl
    (by unfold lvS; rw [role_snd k i hi]; rfl) (fun _ => rfl) ?_
    (hN.trans (amt_snd hi).symm) hq hk
  intro hg
  have hp : sp k i c < 128 := sp_lt _ (mem_chans k i hi) c hg
  show _ ⊢ iprop(den xs c (cZ (snd k i)) ∗ den xs c (cSh (slot k) (sp k i c)) ∗ emp)
  rw [payS_snd xs c hi, den_z xs c (by omega), den_sh xs c (by omega) (slot_lt k)]
  iintro ⟨H1, H2⟩
  isplitl [H1]; · iexact H1
  isplitl [H2]; · iexact H2
  iempintro

theorem payS_dsm {idx : ℕ} (hi : idx < 28) : payS xs c (dsm idx) = iprop(oDoneR xs c (hq idx c) ∗ cP c (qrow (hq idx c)) (shq 0) (gath xs c)) := by
  unfold payS; rw [role_dsm idx hi]
omit [FloatOps F] in
theorem act_dsm {idx : ℕ} (hi : idx < 28) : act (dsm idx) c = hg idx c := by
  unfold act; rw [role_dsm idx hi]
omit [FloatOps F] in
theorem amt_dsm {idx : ℕ} : amt (dsm idx) = NQ := by
  unfold amt; exact if_pos (by unfold dsm; omega)

theorem run_hwt {Φ : α → sProp 𝕄} {idx : ℕ} (hi : idx < 28) {ms ms' : Space} {s₁ s₂ : Shape} {e₁ e₂ : EltTy}
    {src : Memref sig .tc ms' s₂ e₂} {dst : Memref sig .tc ms s₁ e₁} {h₁ : src.view.WordExact} {h₂ : dst.view.WordExact}
    (hN : dst.view.dmaCredit = NQ) {kont : PUnit → Prog (TpuEff nD τ sig (Elt F) Λ₀ .tc) α} {q : DmaSem sig} (hq' : q = dq (dsm idx))
    (hk : Run xs K c ops gs (kont ⟨⟩) Φ) :
    Run xs K c (.hwt idx :: ops) gs (.op (.waitDma2 q src dst h₁ h₂) kont) Φ := by
  have hd : dsm idx < 544 := by unfold dsm; omega
  refine run_wait xs K (op := (.hwt idx)) (s := dsm idx) hd (fun hg => (act_dsm (c := c) hi).trans hg) rfl
    (by unfold lvS; rw [role_dsm idx hi]; rfl) (fun _ => rfl) ?_
    (hN.trans amt_dsm.symm) hq' hk
  intro hg
  have hp := hq_lt idx hi c hg
  show _ ⊢ iprop(den xs c (cZ (dsm idx)) ∗ den xs c (cODone (hq idx c)) ∗ sepL (den xs c) (sh8 (hq idx c)))
  rw [payS_dsm xs hi, den_z xs c (by omega), den_oDone xs c (by omega), shares8 xs c hp]

/-! ## A copy of a quarter to the result -/

theorem hst_core {Φ : α → sProp 𝕄} {idx : ℕ} (hi : idx < 28) (hg : hg idx c = true)
    {offS offD : Fin S16384x1024.rank → ℕ} {inbS inbD}
    {hrS : ∀ a, (Rect.unit (s := S16384x1024) offS S1024x1024.size inbS).stride a = 1}
    {hrD : ∀ a, (Rect.unit (s := S16384x1024) offD S1024x1024.size inbD).stride a = 1}
    (hs0 : offS 0 = 1024 * hq idx c) (hs1 : offS 1 = 0) (hd0 : offD 0 = 1024 * hq idx c) (hd1 : offD 1 = 0)
    {hsrc : (qcM offS inbS hrS).view.WordExact}
    {hdst : (qoM offD inbD hrD).view.WordExact}
    {hsem : DmaTarget.Typed (nD := nD) .vmem (.dma (dq (dsm idx))) (DmaTarget.here (nD := nD) (τ := τ) (p := .tc) (qoM offD inbD hrD))}
    {kont : PUnit → Prog (TpuEff nD τ sig (Elt F) Λ₀ .tc) α}
    (fd : GI → Elt F .bf16) {κ₁ : ℕ} :
    iprop(cellInv ER (Rd xs) κ₁ (kc c (dsm idx)) ∗ cP c (qrow (hq idx c)) (shq 0) (gath xs c) ∗ oP c (qrow (hq idx c)) fd
        ∗ dutyTok ER (kc c (dsm idx)) 0 0 ∗ reached ER (kc c (dsm idx)) 0)
      ⊢ iprop((cred (tallyAt (kc c (dsm idx)) () NQ) -∗ WP c (kont ⟨⟩) Φ)
          -∗ WP c (.op (.enqueueDma (qcM offS inbS hrS) (.here (qoM offD inbD hrD))
              (.dma (dq (dsm idx))) hsrc hdst hsem) kont) Φ) := by
  have hd : dsm idx < 544 := by unfold dsm; omega
  have eS : (qcM offS inbS hrS).view.set = qrow (hq idx c) :=
    (View.set_slice_whole cc0_scratch0 (Rect.unit (s := S16384x1024) offS S1024x1024.size inbS)).trans (unit_set hs0 hs1)
  have eD : (qoM offD inbD hrD).view.set = qrow (hq idx c) :=
    (View.set_slice_whole main_v1 (Rect.unit (s := S16384x1024) offD S1024x1024.size inbD)).trans (unit_set hd0 hd1)
  have hoff : offS = offD := off_eq hs0 hs1 hd0 hd1
  have eW : ∀ j ∈ qrow (hq idx c), ((qoM offD inbD hrD).view.write (Elt F) fd
      ((qcM offS inbS hrS).view.read (Elt F) (gath xs c)) Finset.univ) j = gath xs c j := by
    intro j hj
    rw [← eD] at hj
    obtain ⟨x, -, rfl⟩ := Finset.mem_map.mp hj
    refine (View.write_emb_of_mem (v := (qoM offD inbD hrD).view) (Val := Elt F) _ _ (Finset.mem_univ x)).trans ?_
    subst hoff
    rfl
  rw [show cP c (qrow (hq idx c)) (shq 0) (gath xs c) = ((qcM offS inbS hrS).view.loc (c : Thread nD τ)
        ↦[(qcM offS inbS hrS).view.set]{shq 0} gath xs c : sProp 𝕄) from by rw [eS]; rfl,
    show oP c (qrow (hq idx c)) fd = ((qoM offD inbD hrD).view.loc (c : Thread nD τ)
        ↦[(qoM offD inbD hrD).view.set]{fullShare} fd : sProp 𝕄) from by rw [eD]; rfl]
  exact Rounds.wp_copy_pointsTo 𝒱₀ ER (Rd xs) (c : Thread nD τ) none (κ := κ₁)
    (src := qcM offS inbS hrS) (dst := qoM offD inbD hrD) (q := shq 0) (fs := gath xs c) (fd := fd) (r := 0) (d := 0)
    (by rw [duties_kc xs hd (by rw [act_dsm hi, hg])]; exact Finset.mem_singleton_self _)
    () NQ rfl ((amount_kc xs hd 0 0).trans amt_dsm)
    (by rw [payload_kc xs hd, payS_dsm xs hi, eS, eD, pointsTo_congr eW]; exact .refl)

theorem run_hst {Φ : α → sProp 𝕄} {idx : ℕ} {kont : PUnit → Prog (TpuEff nD τ sig (Elt F) Λ₀ .tc) α}
    {offS offD : Dev nD → Fin S16384x1024.rank → ℕ} {inbS inbD}
    {hrS : ∀ a, (Rect.unit (s := S16384x1024) (offS c) S1024x1024.size inbS).stride a = 1}
    {hrD : ∀ a, (Rect.unit (s := S16384x1024) (offD c) S1024x1024.size inbD).stride a = 1}
    {sS : SemLoc sig} {hsrc hdst hsem}
    (hk : Run xs K c ops gs (kont ⟨⟩) Φ)
    (hs1 : sS = .dma (dq (dsm idx)))
    (hf : ∀ d : Dev nD, guard (.hst idx) d = true → offS d 0 = 1024 * hq idx d ∧ offS d 1 = 0 ∧
      offD d 0 = 1024 * hq idx d ∧ offD d 1 = 0) :
    Run xs K c (.hst idx :: ops) gs (.op (.enqueueDma (qcM (offS c) inbS hrS) (.here (qoM (offD c) inbD hrD)) sS hsrc hdst hsem) kont) Φ := by
  intro hga hsc'
  obtain ⟨hg, hga'⟩ := all_cons hga
  obtain ⟨hsc1, hix, -⟩ := scan_pos hg hsc'
  have hi : idx < 28 := of_decide_eq_true hix
  obtain ⟨f1, f2, f3, f4⟩ := hf c hg
  subst hs1
  have hp := hq_lt idx hi c hg
  have hd : dsm idx < 544 := by unfold dsm; omega
  refine BIBase.Entails.trans (Q := iprop(Pers xs K ∗ (∃ W, owes (c : Thread nD τ) (owed c (ops ++ gs.flatten)) W)
    ∗ (dutyTok ER (kc c (dsm idx)) 0 0 ∗ (∃ f, oP c (qrow (hq idx c)) f) ∗ cP c (qrow (hq idx c)) (shq 0) (gath xs c))
    ∗ ((cred (tallyAt (kc c (dsm idx)) () NQ) ∗ emp) -∗ Res (den xs c) c (endR xs c) (ops ++ gs.flatten)))) (.of_eq ?_) ?_
  · show St xs K c (.hst idx :: (ops ++ gs.flatten)) = _
    unfold St
    rw [Res_pos _ _ _ _ hg]
    show iprop(_ ∗ _ ∗ (den xs c (cTok (dsm idx)) ∗ den xs c (cORaw (hq idx c)) ∗ sepL (den xs c) (sh8 (hq idx c)))
      ∗ ((den xs c (cCr (dsm idx)) ∗ emp) -∗ _)) = _
    rw [den_tok xs c (by omega), den_oRaw xs c (by omega), den_cr xs c (by omega), ← shares8 xs c hp]
    unfold tokR crR
    rw [role_dsm idx hi, amt_dsm]
    rfl
  iintro ⟨#HP, HO, ⟨Ht, ⟨%fd, Hd⟩, Hs⟩, Hpost⟩
  iapply (hst_core xs hi hg f1 f2 f3 f4 fd (κ₁ := K (c, ix (dsm idx)))) $$ [Ht Hd Hs]
  · isplitr; · iapply (inv_at xs K (c, ix (dsm idx)) (kcell_ix c hd)); iexact HP
    isplitl [Hs]; · iexact Hs
    isplitl [Hd]; · iexact Hd
    isplitl [Ht]; · iexact Ht
    iapply (reached_at xs K (c, ix (dsm idx)) (kcell_ix c hd)); iexact HP
  iintro Hc
  iapply (hk hga' hsc1)
  unfold St
  isplitr; · iexact HP
  isplitl [HO]; · iexact HO
  iapply Hpost
  isplitl [Hc]; · iexact Hc
  iempintro

/-! ## The barrier -/

omit [FloatOps F] in
theorem nb_back : ∀ (j : Fin 4) (d : D), nb (opp j) (nb j d) = d := by decide +kernel
omit [FloatOps F] in
theorem bg_back : ∀ (j : Fin 4) (d : D), bg j d = true → bg (opp j) (nb j d) = true := by decide +kernel
omit [FloatOps F] in
theorem out_lt : ∀ (j : Fin 4) (d : D), ∀ a ∈ outTo j d, sp a.1 a.2 d < 128 := by
  intro j d a ha
  unfold outTo at ha
  rw [List.mem_filter, Bool.and_eq_true] at ha
  exact sp_lt a ha.1 d ha.2.2

omit [FloatOps F] in
theorem lands_raw (d c' : Dev nD) (l : List (Kd × ℕ)) (h : ∀ a ∈ l, a.2 < cnt a.1 ∧ tgt a.1 d = c' ∧ sp a.1 a.2 d < 128) :
    sepL (den xs c') (l.map fun a => cRaw (sp a.1 a.2 d)) = landsA d (l.map fun a => rcv a.1 a.2) := by
  induction l with
  | nil => rfl
  | cons a l ih =>
    obtain ⟨h1, h2, h3⟩ := h a (by simp)
    show iprop(den xs c' (cRaw (sp a.1 a.2 d)) ∗ _) = iprop(landR d (rcv a.1 a.2) ∗ _)
    rw [ih fun b hb => h b (by simp [hb]), den_raw xs c' (by omega)]
    unfold landR
    rw [role_rcv a.1 a.2 h1, ← h2]

omit [FloatOps F] in
theorem chan_cnt : ∀ a ∈ chans, a.2 < cnt a.1 := by decide +kernel

omit [FloatOps F] in
theorem lands_out (j : Fin 4) (c : Dev nD) (l : List (Kd × ℕ)) (h : ∀ a ∈ l, a ∈ chans) :
    landsA c (l.map fun a => rcv a.1 a.2) = sepL (den xs c) (l.map fun a => cLand (rcv a.1 a.2)) := by
  induction l with
  | nil => rfl
  | cons a l ih =>
    have h1 := rcv_lt a.1 a.2 (chan_cnt a (h a (by simp)))
    show iprop(landR c (rcv a.1 a.2) ∗ _) = iprop(den xs c (cLand (rcv a.1 a.2)) ∗ _)
    rw [ih fun b hb => h b (by simp [hb]), den_land xs c (by omega)]

theorem run_sig {Φ : α → sProp 𝕄} {j : Fin 4} {kont : PUnit → Prog (TpuEff nD τ sig (Elt F) Λ₀ .tc) α}
    {devf : Dev nD → ℕ} {hlt : devf c < nD} {n : ℤ} {sm : Sem sig}
    (hk : Run xs K c ops gs (kont ⟨⟩) Φ) (hn : n = ((1 : ℕ) : ℤ)) (hsm : sm = barS)
    (hf : ∀ d : Dev nD, guard (.sig j) d = true → devf d = (nb j d).val) :
    Run xs K c (.sig j :: ops) gs (.op (.semSignal (Dev.tc (⟨devf c, hlt⟩ : Dev nD) : Thread nD τ) sm n) kont) Φ := by
  intro hga hsc'
  obtain ⟨hg, hga'⟩ := all_cons hga
  obtain ⟨hsc1, -, -⟩ := scan_pos hg hsc'
  subst hn hsm
  have hdev : (⟨devf c, hlt⟩ : Dev nD) = nb j c := Fin.ext (hf c hg)
  rw [hdev]
  refine BIBase.Entails.trans (Q := iprop(Pers xs K ∗ (∃ W, owes (c : Thread nD τ) (owed c (ops ++ gs.flatten) + tallyAt (barC (nb j c)) () 1) W)
    ∗ (dutyTok ER (barC (nb j c)) 0 (opp j) ∗ landsA (nb j c) ((outTo (opp j) (nb j c)).map fun a => rcv a.1 a.2))
    ∗ (emp -∗ Res (den xs c) c (endR xs c) (ops ++ gs.flatten)))) (.of_eq ?_) ?_
  · show St xs K c (.sig j :: (ops ++ gs.flatten)) = _
    unfold St
    rw [Res_pos _ _ _ _ hg, show owed c (.sig j :: (ops ++ gs.flatten)) = owed c (ops ++ gs.flatten) + tallyAt (barC (nb j c)) () 1 from if_pos hg]
    show iprop(_ ∗ _ ∗ (den xs c (cSig j) ∗ sepL (den xs c) (sigRaws j c)) ∗ (emp -∗ _)) = _
    unfold sigRaws
    rw [den_sig, lands_raw xs (nb j c) c (outTo (opp j) (nb j c)) ?_]
    intro a ha
    refine ⟨?_, ?_, out_lt _ _ a ha⟩
    · exact chan_cnt a (List.mem_filter.mp ha).1
    · have h2 := (List.mem_filter.mp ha).2
      rw [Bool.and_eq_true] at h2
      unfold tgt
      rw [of_decide_eq_true h2.1]
      exact nb_back j c
  iintro ⟨#HP, ⟨%W, HO⟩, ⟨Ht, Hl⟩, Hpost⟩
  iapply (Rounds.wp_signal 𝒱₀ ER (Rd xs) (c : Thread nD τ) none (dst := (nb j c : Thread nD τ)) (κ := K (nb j c, ix 544)) (d := opp j) (k' := 1) (r := 0)
    (sem := barS)
    (by rw [duties_bar, Finset.mem_filter]; exact ⟨Finset.mem_univ _, bg_back j c hg⟩) (amount_bar xs _ 0 _) ()
    (owed c (ops ++ gs.flatten)) rfl (W := W)) $$ [HO Ht Hl]
  · isplitr; · iapply (inv_at xs K (nb j c, ix 544) (kcell_bar _)); iexact HP
    isplitl [HO]; · iexact HO
    isplitl [Ht]; · iexact Ht
    isplitl [Hl]; · rw [payload_bar]; iexact Hl
    iapply (reached_at xs K (nb j c, ix 544) (kcell_bar _)); iexact HP
  iintro HO
  iapply (hk hga' hsc1)
  unfold St
  isplitr; · iexact HP
  isplitl [HO]; · iexists W; iexact HO
  iapply Hpost
  iempintro

omit [FloatOps F] in
theorem bar_creds (l : List (Fin 4)) : sepL (den xs c) (l.map cCrB) = cred (tallyAt (barC c) () l.length) := by
  induction l with
  | nil => rw [List.length_nil, tallyAt_zero, cred_zero]; rfl
  | cons j l ih =>
    show iprop(den xs c (cCrB j) ∗ sepL (den xs c) (l.map cCrB)) = _
    rw [ih, den_crB, List.length_cons, Nat.add_comm, ← tallyAt_add]
    exact (BI.Entails.antisymm (cred_add _ _).1 (cred_add _ _).2).symm

omit [FloatOps F] in
theorem bar_rest (l : List (Fin 4)) (hl : l.Nodup) :
    bigSep l.toFinset (fun j => (Rd xs).payload (barC c) 0 j) = sepL (den xs c) (l.flatMap fun j => lands j c) := by
  induction l with
  | nil => exact bigSep_empty
  | cons j l ih =>
    rw [List.toFinset_cons, bigSep_cons (by rw [List.mem_toFinset]; exact (List.nodup_cons.mp hl).1), ih (List.nodup_cons.mp hl).2,
      List.flatMap_cons, sepL_append, payload_bar, lands_out xs j c (outTo j c) fun a ha => (List.mem_filter.mp ha).1]
    rfl

omit [FloatOps F] in
theorem bar_dirs : ∀ d : D, (Finset.univ.filter fun j : Fin 4 => bg j d = true) = (actDirs d).toFinset ∧ (actDirs d).Nodup ∧
    (Finset.univ.filter fun j : Fin 4 => bg j d = true).card = (actDirs d).length := by decide +kernel

theorem run_bar {Φ : α → sProp 𝕄} {kont : PUnit → Prog (TpuEff nD τ sig (Elt F) Λ₀ .tc) α} {n : Dev nD → ℤ} {sm : Sem sig}
    (hk : Run xs K c ops gs (kont ⟨⟩) Φ) (hsm : sm = barS) (hf : ∀ d : Dev nD, n d = (((actDirs d).length : ℕ) : ℤ)) :
    Run xs K c (.bar :: ops) gs (.op (.semWait sm (n c)) kont) Φ := by
  intro hga hsc'
  obtain ⟨hg, hga'⟩ := all_cons hga
  obtain ⟨hsc1, -, hw⟩ := scan_pos hg hsc'
  obtain ⟨d1, d2, d3⟩ := bar_dirs c
  subst hsm
  rw [hf c]
  refine BIBase.Entails.trans (Q := iprop(Pers xs K ∗ (∃ W, owes (c : Thread nD τ) (owed c (ops ++ gs.flatten)) W)
    ∗ (atPos ER (barC c) 0 ∅ 0 ∗ cred (tallyAt (barC c) () (actDirs c).length))
    ∗ ((semVal (barC c) 0 ∗ sepL (den xs c) ((actDirs c).flatMap fun j => lands j c)) -∗ Res (den xs c) c (endR xs c) (ops ++ gs.flatten)))) (.of_eq ?_) ?_
  · show St xs K c (.bar :: (ops ++ gs.flatten)) = _
    unfold St
    rw [Res_pos _ _ _ _ hg, ← bar_creds xs]
    rfl
  iintro ⟨#HP, ⟨%W, HO⟩, ⟨Hat, Hc⟩, Hpost⟩
  iapply (Rounds.wp_wait_rest_token 𝒱₀ ER (Rd xs) (c : Thread nD τ) none (κ := K (c, ix 544)) (sm := .reg barS) (k' := (actDirs c).length)
      (wpE_semWait_eq 𝒱₀ (c : Thread nD τ) none Set.univ)
      (Set.mem_univ _) () (O := owed c (ops ++ gs.flatten)) (W := W) (R := 0) (m := 0) (T := ∅)
      (by rw [Nat.zero_add]; exact ((expect_bar xs c).trans d3).symm)) $$ [HO Hat Hc]
  · isplitr; · iapply (inv_at xs K (c, ix 544) (kcell_bar c)); iexact HP
    isplitl [Hc]; · iexact Hc
    isplitl [HO]; · iexact HO
    isplitr
    · iapply (pers_may xs K (.reg barS) (ops ++ gs.flatten) hsc1 (hw 1 rfl)); iexact HP
    iexact Hat
  iintro ⟨HO, Hat, -, Hpay'⟩
  have er : bigSep ((Rd xs).duties (barC c) 0 \ ∅) (fun d => (Rd xs).payload (barC c) 0 d) = sepL (den xs c) ((actDirs c).flatMap fun j => lands j c) := by
    rw [Finset.sdiff_empty, duties_bar, d1, bar_rest xs _ d2]
  ihave Hpay := (Entails.of_eq er) $$ Hpay'
  imod (Rounds.cell_close ER (Rd xs) (g := barC c) (Set.mem_univ (K (c, ix 544))) (fun h => h) (R := 0 + 1)
    (duties_later xs _)) $$ [Hat] with Hz
  · isplitr; · iapply (inv_at xs K (c, ix 544) (kcell_bar c)); iexact HP
    iexact Hat
  iapply (hk hga' hsc1)
  unfold St
  isplitr; · iexact HP
  isplitl [HO]; · iexists (insert ((.reg barS : SemLoc sig), ()) W); iexact HO
  iapply Hpost
  isplitl [Hz] <;> iassumption

end

end Cert.AG

end
-- ==== Proof.Text.lean ====
module

public import proofs.«01_k».proof.Proof.Rules2
public import Idealize.ShloMosaic.Lib.Pipeline.Value

@[expose] public section

/-! The kernel's text against the list of steps: what one window of the printed text has to satisfy, and how windows
are put one after another. -/

noncomputable section

namespace Cert.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A window of the text on the call's own buffers and semaphores. -/
abbrev At {β : Type 1} (f : (a0 : Memref sig .tc .vmem S4096x1024 .bf16) → a0.IsWhole →
    (a1 : Memref sig .tc .hbm S16384x1024 .bf16) → a1.IsWhole → (a2 : Memref sig .tc .vmem S16384x1024 .bf16) → a2.IsWhole →
    DmaSems sig S24 → DmaSems sig S24 → DmaSems sig S24 → DmaSems sig S24 → DmaSems sig S9 → DmaSems sig S9 →
    DmaSems sig S9 → DmaSems sig S9 → DmaSems sig S24 → DmaSems sig S24 → DmaSems sig S24 → DmaSems sig S24 →
    DmaSems sig S24 → DmaSems sig S24 → DmaSems sig S24 → DmaSems sig S24 → DmaSems sig S24 → DmaSems sig S24 →
    DmaSems sig S24 → DmaSems sig S24 → DmaSems sig S24 → DmaSems sig S24 → DmaSems sig S24 → DmaSems sig S24 →
    DmaSems sig S28 → β) : β :=
  f stgM (Memref.isWhole_whole _) outM (Memref.isWhole_whole _) commM (Memref.isWhole_whole _) cc0_scratch1 cc0_scratch2
    cc0_scratch3 cc0_scratch4 cc0_scratch5 cc0_scratch6 cc0_scratch7 cc0_scratch8 cc0_scratch9 cc0_scratch10 cc0_scratch11
    cc0_scratch12 cc0_scratch13 cc0_scratch14 cc0_scratch15 cc0_scratch16 cc0_scratch17 cc0_scratch18 cc0_scratch19
    cc0_scratch20 cc0_scratch21 cc0_scratch22 cc0_scratch23 cc0_scratch24 cc0_scratch25

variable (xs : Dev nD → BI' → Elt F .bf16) (K : Dev nD × Fin 545 → ℕ) (c : Dev nD)

/-- A window of the text does the steps of `g`, and hands on a value of which `P` holds; it may look at the groups
    `pre` that come next. -/
def Part {α : Type} (g : List (List Op)) (p : Prog (TpuEff nD τ sig (Elt F) Λ₀ .tc) α) (P : α → Prop := fun _ => True)
    (pre : List (List Op) := []) : Prop :=
  ∀ (gs : List (List Op)) (Φ : α → sProp 𝕄), (∀ r, P r → St xs K c (pre ++ gs).flatten ⊢ Φ r) →
    Run xs K c [] (g ++ (pre ++ gs)) p Φ

variable {xs K c}

theorem scan_suffix {a l : List Op} (h : (scan c (a ++ l)).1 = true) : (scan c l).1 = true := by
  induction a with
  | nil => exact h
  | cons op a ih =>
    refine ih ?_
    by_cases hg : guard op c = true
    · exact (scan_pos hg h).1
    · rwa [List.cons_append, scan_neg hg] at h

/-- A window, then the rest of the text. -/
theorem Part.bind {α β : Type} {g pre G gs : List (List Op)} {p : Prog (TpuEff nD τ sig (Elt F) Λ₀ .tc) α} {P : α → Prop}
    {q : α → Prog (TpuEff nD τ sig (Elt F) Λ₀ .tc) β} {Φ : β → sProp 𝕄}
    (hp : Part xs K c g p P pre) (hG : G = pre ++ gs) (hq : ∀ r, P r → Run xs K c [] G (q r) Φ) :
    Run xs K c [] (g ++ G) (p >>= q) Φ := by
  subst hG
  intro h1 h2
  have h3 : (scan c (pre ++ gs).flatten).1 = true := by
    rw [List.nil_append, List.flatten_append] at h2
    exact scan_suffix h2
  refine (hp gs (fun r => WP c (q r) Φ) (fun r hr => hq r hr rfl h3) h1 h2).trans ?_
  unfold WP
  rw [wp_bind]

section
variable {k : Kd} {i : ℕ} {ops : List Op} {gs : List (List Op)} {α : Type} (xs) (K)

/-- `run_hst` with rows that depend on a number too. -/
theorem run_hst1 {Φ : α → sProp 𝕄} {idx : ℕ} {kont : PUnit → Prog (TpuEff nD τ sig (Elt F) Λ₀ .tc) α}
    {offS offD : Dev nD → BitVec 32 → Fin S16384x1024.rank → ℕ} {w w' : BitVec 32} {inbS inbD}
    {hrS : ∀ a, (Rect.unit (s := S16384x1024) (offS c w) S1024x1024.size inbS).stride a = 1}
    {hrD : ∀ a, (Rect.unit (s := S16384x1024) (offD c w') S1024x1024.size inbD).stride a = 1}
    {sS : SemLoc sig} {hsrc hdst hsem}
    (hk : Run xs K c ops gs (kont ⟨⟩) Φ)
    (hs1 : sS = .dma (dq (dsm idx)))
    (hf : ∀ d : Dev nD, guard (.hst idx) d = true → offS d w 0 = 1024 * hq idx d ∧ offS d w 1 = 0 ∧
      offD d w' 0 = 1024 * hq idx d ∧ offD d w' 1 = 0) :
    Run xs K c (.hst idx :: ops) gs (.op (.enqueueDma (qcM (offS c w) inbS hrS) (.here (qoM (offD c w') inbD hrD)) sS hsrc hdst hsem) kont) Φ :=
  run_hst xs K (offS := fun d => offS d w) (offD := fun d => offD d w') hk hs1 hf

theorem run_store1 {Φ : α → sProp 𝕄} {o p : ℕ} {kont : PUnit → Prog (TpuEff nD τ sig (Elt F) Λ₀ .tc) α}
    {off : Dev nD → BitVec 32 → Fin S16384x1024.rank → ℕ} {v : BitVec 32} {inb} {w : S128x1024.Idx → Elt F .bf16} {hx hm}
    (hk : Run xs K c ops gs (kont ⟨⟩) Φ)
    (hw : w = pv xs c (pc (cz c) (oq o c) p))
    (hf : ∀ d : Dev nD, guard (.store o p) d = true → off d v 0 = 128 * pc (cz d) (oq o d) p ∧ off d v 1 = 0) :
    Run xs K c (.store o p :: ops) gs (.op (.store commM (Rect.unit (s := S16384x1024) (off c v) S128x1024.size inb) w Finset.univ hx hm) kont) Φ :=
  run_store xs K (off := fun d => off d v) hk hw hf

theorem run_store2 {Φ : α → sProp 𝕄} {o p : ℕ} {kont : PUnit → Prog (TpuEff nD τ sig (Elt F) Λ₀ .tc) α}
    {off : Dev nD → BitVec 32 → BitVec 32 → Fin S16384x1024.rank → ℕ} {u v : BitVec 32} {inb} {w : S128x1024.Idx → Elt F .bf16} {hx hm}
    (hk : Run xs K c ops gs (kont ⟨⟩) Φ)
    (hw : w = pv xs c (pc (cz c) (oq o c) p))
    (hf : ∀ d : Dev nD, guard (.store o p) d = true → off d u v 0 = 128 * pc (cz d) (oq o d) p ∧ off d u v 1 = 0) :
    Run xs K c (.store o p :: ops) gs (.op (.store commM (Rect.unit (s := S16384x1024) (off c u v) S128x1024.size inb) w Finset.univ hx hm) kont) Φ :=
  run_store xs K (off := fun d => off d u v) hk hw hf

theorem run_load_x1 {Φ : α → sProp 𝕄} {o p : ℕ} {kont : (S128x1024.Idx → Elt F .bf16) → Prog (TpuEff nD τ sig (Elt F) Λ₀ .tc) α}
    {off : Dev nD → BitVec 32 → Fin S4096x1024.rank → ℕ} {v : BitVec 32} {inb} {hl}
    (hk : Run xs K c (.store o p :: ops) gs (kont (pv xs c (pc (cz c) (oq o c) p))) Φ)
    (hf : ∀ d : Dev nD, guard (.store o p) d = true → off d v 0 = 128 * (pc (cz d) (oq o d) p % 32) ∧ off d v 1 = 0) :
    Run xs K c (.store o p :: ops) gs (.op (.load stgM (Rect.unit (s := S4096x1024) (off c v) S128x1024.size inb).toLoadRect hl) kont) Φ :=
  run_load_x xs K (off := fun d => off d v) hk hf

theorem run_load_x2 {Φ : α → sProp 𝕄} {o p : ℕ} {kont : (S128x1024.Idx → Elt F .bf16) → Prog (TpuEff nD τ sig (Elt F) Λ₀ .tc) α}
    {off : Dev nD → BitVec 32 → BitVec 32 → Fin S4096x1024.rank → ℕ} {u v : BitVec 32} {inb} {hl}
    (hk : Run xs K c (.store o p :: ops) gs (kont (pv xs c (pc (cz c) (oq o c) p))) Φ)
    (hf : ∀ d : Dev nD, guard (.store o p) d = true → off d u v 0 = 128 * (pc (cz d) (oq o d) p % 32) ∧ off d u v 1 = 0) :
    Run xs K c (.store o p :: ops) gs (.op (.load stgM (Rect.unit (s := S4096x1024) (off c u v) S128x1024.size inb).toLoadRect hl) kont) Φ :=
  run_load_x xs K (off := fun d => off d u v) hk hf

theorem run_load_c1 {Φ : α → sProp 𝕄} {o p : ℕ} {kont : (S128x1024.Idx → Elt F .bf16) → Prog (TpuEff nD τ sig (Elt F) Λ₀ .tc) α}
    {off : Dev nD → BitVec 32 → Fin S16384x1024.rank → ℕ} {w : BitVec 32} {inb} {hl}
    (hk : ∀ v, Run xs K c (.store o p :: ops) gs (kont v) Φ)
    (hf : ∀ d : Dev nD, guard (.store o p) d = true → off d w 0 = 128 * pc (cz d) (oq o d) p ∧ off d w 1 = 0) :
    Run xs K c (.store o p :: ops) gs (.op (.load commM (Rect.unit (s := S16384x1024) (off c w) S128x1024.size inb).toLoadRect hl) kont) Φ :=
  run_load_c xs K (off := fun d => off d w) hk hf

theorem run_load_c2 {Φ : α → sProp 𝕄} {o p : ℕ} {kont : (S128x1024.Idx → Elt F .bf16) → Prog (TpuEff nD τ sig (Elt F) Λ₀ .tc) α}
    {off : Dev nD → BitVec 32 → BitVec 32 → Fin S16384x1024.rank → ℕ} {u w : BitVec 32} {inb} {hl}
    (hk : ∀ v, Run xs K c (.store o p :: ops) gs (kont v) Φ)
    (hf : ∀ d : Dev nD, guard (.store o p) d = true → off d u w 0 = 128 * pc (cz d) (oq o d) p ∧ off d u w 1 = 0) :
    Run xs K c (.store o p :: ops) gs (.op (.load commM (Rect.unit (s := S16384x1024) (off c u w) S128x1024.size inb).toLoadRect hl) kont) Φ :=
  run_load_c xs K (off := fun d => off d u w) hk hf

end

end Cert.AG

end
-- ==== Proof.Win110.lean ====
module

public import proofs.«01_k».proof.Proof.Text

@[expose] public section

/-! Windows 110 to 129 of the kernel's text do their steps. -/

noncomputable section

namespace Cert.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] (xs : Dev nD → BI' → Elt F .bf16) (K : Dev nD × Fin 545 → ℕ) (c : Dev nD)

attribute [local irreducible] Run St k0_off1 k0_off2 k0_off19 k0_off20 k0_off27 k0_off58 k0_off59

set_option maxHeartbeats 0 in
/-- Each of the windows does its groups of steps. -/
theorem win110 :
    (∀ (v2 v5 v8 v21 v23 v31 : BitVec 32),
      Part xs K c g110 (At k0_part110 c v2 v5 v8 v21 v23 v31 (SemArray.scalar (sig.barrier 0 rfl))) (fun r => r.1 = pv xs c (pc (cz c) (oq 0 c) 0)) [[.store 0 0]]) ∧
    (∀ (v2 v5 v8 v23 : BitVec 32) (v67 : Vec F S128x1024 .bf16),
      Part xs K c g111 (At k0_part111 c v2 v5 v8 v23 (pv xs c (pc (cz c) (oq 0 c) 0)) v67)) ∧
    (∀ (v2 v5 v8 v23 : BitVec 32) (v102 : BitVec 1),
      Part xs K c g112 (At k0_part112 c v2 v5 v8 v23 v102) (fun r => r.1 = pv xs c (pc (cz c) (oq 0 c) 3)) [[.store 0 3]]) ∧
    (∀ (v2 v5 v8 v23 v137 : BitVec 32),
      Part xs K c g113 (At k0_part113 c v2 v5 v8 v23 (pv xs c (pc (cz c) (oq 0 c) 3)) v137)) ∧
    (∀ (v2 v5 v8 v23 v172 : BitVec 32) (v171 : BitVec 1),
      Part xs K c g114 (At k0_part114 c v2 v5 v8 v23 v171 v172) (fun r => r.1 = pv xs c (pc (cz c) (oq 0 c) 6)) [[.store 0 6]]) ∧
    (∀ (v2 v5 v8 v23 v206 v207 : BitVec 32),
      Part xs K c g115 (At k0_part115 c v2 v5 v8 v23 (pv xs c (pc (cz c) (oq 0 c) 6)) v206 v207)) ∧
    (∀ (v2 v5 v8 v23 v30 c1_i32_130 : BitVec 32),
      Part xs K c g116 (At k0_part116 c v2 v5 v8 v23 v30 c1_i32_130) (fun r => r.1 = pv xs c (pc (cz c) (oq 4 c) 1)) [[.store 4 1]]) ∧
    (∀ (v2 v5 v8 v30 c4096_i32_151 : BitVec 32),
      Part xs K c g117 (At k0_part117 c v2 v5 v8 v30 (pv xs c (pc (cz c) (oq 4 c) 1)) c4096_i32_151)) ∧
    (∀ (v2 v5 v8 v21 v23 v30 v31 v313 c0_i32_171 : BitVec 32),
      Part xs K c g118 (At k0_part118 c v2 v5 v8 v21 v23 v30 v31 v313 c0_i32_171)) ∧
    (∀ (v2 v5 v8 v21 v23 v30 v31 : BitVec 32) (v347 : BitVec 1),
      Part xs K c g119 (At k0_part119 c v2 v5 v8 v21 v23 v30 v31 v347)) ∧
    (∀ (v2 v5 v8 v21 v23 v30 v31 : BitVec 32),
      Part xs K c g120 (At k0_part120 c v2 v5 v8 v21 v23 v30 v31)) ∧
    (∀ (v2 v5 v8 v23 v30 : BitVec 32),
      Part xs K c g121 (At k0_part121 c v2 v5 v8 v23 v30)) ∧
    (∀ (v2 v5 v8 v21 v23 v30 v31 c1_i32_258 : BitVec 32),
      Part xs K c g122 (At k0_part122 c v2 v5 v8 v21 v23 v30 v31 c1_i32_258)) ∧
    (∀ (v2 v5 v8 v23 v30 : BitVec 32) (v479 : BitVec 1),
      Part xs K c g123 (At k0_part123 c v2 v5 v8 v23 v30 v479) (fun r => r.2 = pv xs c (pc (cz c) (oq 1 c) 3)) [[.store 1 3]]) ∧
    (∀ (v2 v5 v8 v21 v23 v31 v508 : BitVec 32),
      Part xs K c g124 (At k0_part124 c v2 v5 v8 v21 v23 v31 v508 (pv xs c (pc (cz c) (oq 1 c) 3)))) ∧
    (∀ (v8 v23 v543 v544 c0_i32_324 : BitVec 32) (v545 : BitVec 1),
      Part xs K c g125 (At k0_part125 c v8 v23 v543 v544 v545 c0_i32_324) (fun r => r.1 = pv xs c (pc (cz c) (oq 1 c) 5)) [[.store 1 5]]) ∧
    (∀ (v2 v5 v8 v21 v23 v31 v583 c640_i32_345 : BitVec 32),
      Part xs K c g126 (At k0_part126 c v2 v5 v8 v21 v23 v31 (pv xs c (pc (cz c) (oq 1 c) 5)) v583 c640_i32_345)) ∧
    (∀ (v2 v5 v8 v21 v23 v31 v611 v617 : BitVec 32) (v616 : BitVec 1),
      Part xs K c g127 (At k0_part127 c v2 v5 v8 v21 v23 v31 v611 v616 v617)) ∧
    (∀ (v8 v23 v651 : BitVec 32),
      Part xs K c g128 (At k0_part128 c v8 v23 v651)) ∧
    (∀ (v2 v5 v8 v21 v23 v30 v31 v685 : BitVec 32),
      Part xs K c g129 (At k0_part129 c v2 v5 v8 v21 v23 v30 v31 v685)) := by
  refine ⟨?_, ?_, ?_, ?_, ?_, ?_, ?_, ?_, ?_, ?_, ?_, ?_, ?_, ?_, ?_, ?_, ?_, ?_, ?_, ?_⟩ <;> intros <;> intro gs Φ hΦ <;> simp only [
    At, k0_part110_eq_skeleton, k0_part111_eq_skeleton, k0_part112_eq_skeleton, k0_part113_eq_skeleton,
    k0_part114_eq_skeleton, k0_part115_eq_skeleton, k0_part116_eq_skeleton, k0_part117_eq_skeleton,
    k0_part118_eq_skeleton, k0_part119_eq_skeleton, k0_part120_eq_skeleton, k0_part121_eq_skeleton,
    k0_part122_eq_skeleton, k0_part123_eq_skeleton, k0_part124_eq_skeleton, k0_part125_eq_skeleton,
    k0_part126_eq_skeleton, k0_part127_eq_skeleton, k0_part128_eq_skeleton, k0_part129_eq_skeleton,
    k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part110_skel, k0_part111_skel,
    k0_part112_skel, k0_part113_skel, k0_part114_skel, k0_part115_skel, k0_part116_skel, k0_part117_skel,
    k0_part118_skel, k0_part119_skel, k0_part120_skel, k0_part121_skel, k0_part122_skel, k0_part123_skel,
    k0_part124_skel, k0_part125_skel, k0_part126_skel, k0_part127_skel, k0_part128_skel, k0_part129_skel,
    k0_part1_skel, k0_part2_skel, k0_part3_skel, k0_part4_skel, k0_part5_skel, k0_part6_skel, k0_part7_skel,
    k0_part8_skel, k0_part9_skel, k0_part10_skel, k0_part11_skel, k0_part12_skel, k0_part13_skel, g110, g111, g112,
    g113, g114, g115, g116, g117, g118, g119, g120, g121, g122, g123, g124, g125, g126, g127, g128, g129, k0_pay1,
    k0_pay2, k0_pay3, k0_pay4, k0_pay5, k0_pay6, k0_pay7, k0_pay8, k0_pay9, k0_pay10, k0_pay11, k0_pay12, k0_pay13,
    k0_pay14, k0_pay15, k0_pay16, k0_pay17, k0_pay18, k0_pay19, k0_pay20, k0_pay21, k0_pay22, k0_pay23, k0_pay24,
    k0_pay25, k0_pay26, semSignalWord, semWaitWord, shapeCast_self, Prog.lift, Prog.bind_op, Prog.bind_ret,
    Prog.pure_eq_ret, List.cons_append, List.nil_append] <;>
  repeat' first
    | exact hK
    | refine run_if xs K (by decide +kernel) (fun hK _ => ?_) ?_
    | (refine run_ret xs K ?_; exact hΦ _ (by first | trivial | rfl))
    | refine run_send xs K ?_ (by decide +kernel) (by decide +kernel) (by decide +kernel)
    | refine run_recv xs K (by decide) rfl (by decide +kernel) ?_
    | refine run_swait xs K (by decide) rfl (by decide +kernel) ?_
    | refine run_hwt xs K (by decide) rfl (by decide +kernel) ?_
    | refine run_hst1 xs K ?_ (by decide +kernel) (by decide +kernel)
    | refine run_hst xs K ?_ (by decide +kernel) (by decide +kernel)
    | refine run_load_x1 xs K ?_ (by decide +kernel)
    | refine run_load_x2 xs K ?_ (by decide +kernel)
    | refine run_load_x xs K ?_ (by decide +kernel)
    | refine run_load_c1 xs K (fun _ => ?_) (by decide +kernel)
    | refine run_load_c2 xs K (fun _ => ?_) (by decide +kernel)
    | refine run_load_c xs K (fun _ => ?_) (by decide +kernel)
    | refine run_store1 xs K ?_ rfl (by decide +kernel)
    | refine run_store2 xs K ?_ rfl (by decide +kernel)
    | refine run_store xs K ?_ rfl (by decide +kernel)
    | refine run_sig xs K ?_ (by decide) rfl (by decide +kernel)
    | refine run_bar xs K (n := fun d => (k0_amt1 d).toInt) ?_ rfl (by decide +kernel)
    | refine run_open xs K ?_ (by decide +kernel)

end Cert.AG

end
-- ==== Proof.Win130.lean ====
module

public import proofs.«01_k».proof.Proof.Text

@[expose] public section

/-! Windows 130 to 149 of the kernel's text do their steps. -/

noncomputable section

namespace Cert.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] (xs : Dev nD → BI' → Elt F .bf16) (K : Dev nD × Fin 545 → ℕ) (c : Dev nD)

attribute [local irreducible] Run St k0_off1 k0_off2 k0_off19 k0_off20 k0_off27 k0_off58 k0_off59

set_option maxHeartbeats 0 in
/-- Each of the windows does its groups of steps. -/
theorem win130 :
    (∀ (v2 v5 v8 v21 v23 v30 v31 : BitVec 32),
      Part xs K c g130 (At k0_part130 c v2 v5 v8 v21 v23 v30 v31)) ∧
    (∀ (v2 v5 v8 v23 v30 : BitVec 32),
      Part xs K c g131 (At k0_part131 c v2 v5 v8 v23 v30) (fun r => r.2 = pv xs c (pc (cz c) (oq 2 c) 3)) [[.store 2 3]]) ∧
    (∀ (v2 v5 v8 v21 v23 v30 v31 v786 : BitVec 32),
      Part xs K c g132 (At k0_part132 c v2 v5 v8 v21 v23 v30 v31 v786 (pv xs c (pc (cz c) (oq 2 c) 3)))) ∧
    (∀ (v2 v5 v8 v23 v26 v29 v30 : BitVec 32) (v824 : BitVec 1),
      Part xs K c g133 (At k0_part133 c v2 v5 v8 v23 v26 v29 v30 v824)) ∧
    (∀ (v2 v5 v8 v21 v23 v31 v854 c4_i32_518 : BitVec 32),
      Part xs K c g134 (At k0_part134 c v2 v5 v8 v21 v23 v31 v854 c4_i32_518)) ∧
    (∀ (v2 v5 v8 v21 v23 v26 v29 v30 v31 : BitVec 32),
      Part xs K c g135 (At k0_part135 c v2 v5 v8 v21 v23 v26 v29 v30 v31)) ∧
    (∀ (v2 v5 v8 v23 v26 v29 : BitVec 32),
      Part xs K c g136 (At k0_part136 c v2 v5 v8 v23 v26 v29)) ∧
    (∀ (v2 v5 v8 v21 v23 v31 c2_i32_583 : BitVec 32),
      Part xs K c g137 (At k0_part137 c v2 v5 v8 v21 v23 v31 c2_i32_583)) ∧
    (∀ (v2 v5 v8 v21 v23 v26 v30 v31 v991 : BitVec 32),
      Part xs K c g138 (At k0_part138 c v2 v5 v8 v21 v23 v26 v30 v31 v991)) ∧
    (∀ (v2 v5 v8 v23 v26 v29 v1022 c0_i32_626 : BitVec 32),
      Part xs K c g139 (At k0_part139 c v2 v5 v8 v23 v26 v29 v1022 c0_i32_626) (fun r => r = pv xs c (pc (cz c) (oq 2 c) 7)) [[.store 2 7]]) ∧
    (∀ (v2 v5 v8 v21 v23 v31 : BitVec 32),
      Part xs K c g140 (At k0_part140 c v2 v5 v8 v21 v23 v31 (pv xs c (pc (cz c) (oq 2 c) 7)))) ∧
    (∀ (v2 v5 v8 v21 v23 v26 v29 v31 v1090 c0_i32_671 : BitVec 32),
      Part xs K c g141 (At k0_part141 c v2 v5 v8 v21 v23 v26 v29 v31 v1090 c0_i32_671)) ∧
    (∀ (v2 v5 v8 v21 v23 v30 v31 v1116 v1117 : BitVec 32) (v1118 v1121 : BitVec 1),
      Part xs K c g142 (At k0_part142 c v2 v5 v8 v21 v23 v30 v31 v1116 v1117 v1118 v1121)) ∧
    (∀ (v2 v5 v8 v23 v26 v29 v30 v31 v1156 : BitVec 32) (v1155 : BitVec 1),
      Part xs K c g143 (At k0_part143 c v2 v5 v8 v23 v26 v29 v30 v31 v1155 v1156)) ∧
    (∀ (v2 v5 v8 v21 v23 v26 v29 v31 v1187 v1189 c0_i32_736 : BitVec 32),
      Part xs K c g144 (At k0_part144 c v2 v5 v8 v21 v23 v26 v29 v31 v1187 v1189 c0_i32_736)) ∧
    (∀ (v2 v5 v8 v23 v29 : BitVec 32),
      Part xs K c g145 (At k0_part145 c v2 v5 v8 v23 v29)) ∧
    (∀ (v2 v5 v8 v21 v23 v31 v1252 v1253 c0_i32_781 : BitVec 32) (v1254 : BitVec 1),
      Part xs K c g146 (At k0_part146 c v2 v5 v8 v21 v23 v31 v1252 v1253 v1254 c0_i32_781)) ∧
    (∀ (v2 v5 v8 v21 v23 v26 v29 : BitVec 32) (v1290 : BitVec 1),
      Part xs K c g147 (At k0_part147 c v2 v5 v8 v21 v23 v26 v29 v1290)) ∧
    (∀ (v2 v5 v8 v21 v23 v26 v31 v1319 : BitVec 32),
      Part xs K c g148 (At k0_part148 c v2 v5 v8 v21 v23 v26 v31 v1319)) ∧
    (∀ (v2 v5 v8 v21 v23 v26 v29 v1356 : BitVec 32),
      Part xs K c g149 (At k0_part149 c v2 v5 v8 v21 v23 v26 v29 v1356) (fun r => r = pv xs c (pc (cz c) (oq 3 c) 6)) [[.store 3 6]]) := by
  refine ⟨?_, ?_, ?_, ?_, ?_, ?_, ?_, ?_, ?_, ?_, ?_, ?_, ?_, ?_, ?_, ?_, ?_, ?_, ?_, ?_⟩ <;> intros <;> intro gs Φ hΦ <;> simp only [
    At, k0_part130_eq_skeleton, k0_part131_eq_skeleton, k0_part132_eq_skeleton, k0_part133_eq_skeleton,
    k0_part134_eq_skeleton, k0_part135_eq_skeleton, k0_part136_eq_skeleton, k0_part137_eq_skeleton,
    k0_part138_eq_skeleton, k0_part139_eq_skeleton, k0_part140_eq_skeleton, k0_part141_eq_skeleton,
    k0_part142_eq_skeleton, k0_part143_eq_skeleton, k0_part144_eq_skeleton, k0_part145_eq_skeleton,
    k0_part146_eq_skeleton, k0_part147_eq_skeleton, k0_part148_eq_skeleton, k0_part149_eq_skeleton,
    k0_part14_eq_skeleton, k0_part15_eq_skeleton, k0_part16_eq_skeleton, k0_part17_eq_skeleton,
    k0_part18_eq_skeleton, k0_part19_eq_skeleton, k0_part20_eq_skeleton, k0_part21_eq_skeleton,
    k0_part22_eq_skeleton, k0_part23_eq_skeleton, k0_part24_eq_skeleton, k0_part25_eq_skeleton,
    k0_part26_eq_skeleton, k0_part27_eq_skeleton, k0_part28_eq_skeleton, k0_part29_eq_skeleton,
    k0_part30_eq_skeleton, k0_part31_eq_skeleton, k0_part32_eq_skeleton, k0_part33_eq_skeleton,
    k0_part34_eq_skeleton, k0_part35_eq_skeleton, k0_part36_eq_skeleton, k0_part37_eq_skeleton,
    k0_part38_eq_skeleton, k0_part39_eq_skeleton, k0_part40_eq_skeleton, k0_part41_eq_skeleton,
    k0_part42_eq_skeleton, k0_part130_skel, k0_part131_skel, k0_part132_skel, k0_part133_skel, k0_part134_skel,
    k0_part135_skel, k0_part136_skel, k0_part137_skel, k0_part138_skel, k0_part139_skel, k0_part140_skel,
    k0_part141_skel, k0_part142_skel, k0_part143_skel, k0_part144_skel, k0_part145_skel, k0_part146_skel,
    k0_part147_skel, k0_part148_skel, k0_part149_skel, k0_part14_skel, k0_part15_skel, k0_part16_skel,
    k0_part17_skel, k0_part18_skel, k0_part19_skel, k0_part20_skel, k0_part21_skel, k0_part22_skel, k0_part23_skel,
    k0_part24_skel, k0_part25_skel, k0_part26_skel, k0_part27_skel, k0_part28_skel, k0_part29_skel, k0_part30_skel,
    k0_part31_skel, k0_part32_skel, k0_part33_skel, k0_part34_skel, k0_part35_skel, k0_part36_skel, k0_part37_skel,
    k0_part38_skel, k0_part39_skel, k0_part40_skel, k0_part41_skel, k0_part42_skel, g130, g131, g132, g133, g134,
    g135, g136, g137, g138, g139, g140, g141, g142, g143, g144, g145, g146, g147, g148, g149, k0_pay27, k0_pay28,
    k0_pay29, k0_pay30, k0_pay31, k0_pay32, k0_pay33, k0_pay34, k0_pay35, k0_pay36, k0_pay37, k0_pay38, k0_pay39,
    k0_pay40, k0_pay41, semSignalWord, semWaitWord, shapeCast_self, Prog.lift, Prog.bind_op, Prog.bind_ret,
    Prog.pure_eq_ret, List.cons_append, List.nil_append] <;>
  repeat' first
    | exact hK
    | refine run_if xs K (by decide +kernel) (fun hK _ => ?_) ?_
    | (refine run_ret xs K ?_; exact hΦ _ (by first | trivial | rfl))
    | refine run_send xs K ?_ (by decide +kernel) (by decide +kernel) (by decide +kernel)
    | refine run_recv xs K (by decide) rfl (by decide +kernel) ?_
    | refine run_swait xs K (by decide) rfl (by decide +kernel) ?_
    | refine run_hwt xs K (by decide) rfl (by decide +kernel) ?_
    | refine run_hst1 xs K ?_ (by decide +kernel) (by decide +kernel)
    | refine run_hst xs K ?_ (by decide +kernel) (by decide +kernel)
    | refine run_load_x1 xs K ?_ (by decide +kernel)
    | refine run_load_x2 xs K ?_ (by decide +kernel)
    | refine run_load_x xs K ?_ (by decide +kernel)
    | refine run_load_c1 xs K (fun _ => ?_) (by decide +kernel)
    | refine run_load_c2 xs K (fun _ => ?_) (by decide +kernel)
    | refine run_load_c xs K (fun _ => ?_) (by decide +kernel)
    | refine run_store1 xs K ?_ rfl (by decide +kernel)
    | refine run_store2 xs K ?_ rfl (by decide +kernel)
    | refine run_store xs K ?_ rfl (by decide +kernel)
    | refine run_open xs K ?_ (by decide +kernel)

end Cert.AG

end
-- ==== Proof.Win150.lean ====
module

public import proofs.«01_k».proof.Proof.Text

@[expose] public section

/-! Windows 150 to 169 of the kernel's text do their steps. -/

noncomputable section

namespace Cert.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] (xs : Dev nD → BI' → Elt F .bf16) (K : Dev nD × Fin 545 → ℕ) (c : Dev nD)

attribute [local irreducible] Run St k0_off1 k0_off2 k0_off19 k0_off20 k0_off27 k0_off58 k0_off59

set_option maxHeartbeats 0 in
/-- Each of the windows does its groups of steps. -/
theorem win150 :
    (∀ (v8 v23 : BitVec 32),
      Part xs K c g150 (At k0_part150 c v8 v23 (pv xs c (pc (cz c) (oq 3 c) 6)))) ∧
    (∀ (v2 v5 v8 v21 v23 v31 v1426 c4096_i32_889 : BitVec 32),
      Part xs K c g151 (At k0_part151 c v2 v5 v8 v21 v23 v31 v1426 c4096_i32_889)) ∧
    (∀ (v2 v5 v8 v21 v23 v31 v1457 c3_i32_911 : BitVec 32),
      Part xs K c g152 (At k0_part152 c v2 v5 v8 v21 v23 v31 v1457 c3_i32_911)) ∧
    (∀ (v2 v5 v8 v21 v23 v30 v31 c1_i32_933 : BitVec 32),
      Part xs K c g153 (At k0_part153 c v2 v5 v8 v21 v23 v30 v31 c1_i32_933)) ∧
    (∀ (v2 v5 v8 v26 v29 v30 v1518 : BitVec 32),
      Part xs K c g154 (At k0_part154 c v2 v5 v8 v26 v29 v30 v1518)) ∧
    (∀ (v2 v5 v8 v26 v29 v1547 c1_i32_978 : BitVec 32),
      Part xs K c g155 (At k0_part155 c v2 v5 v8 v26 v29 v1547 c1_i32_978)) ∧
    (∀ (v2 v5 v8 v21 v26 v29 v31 : BitVec 32),
      Part xs K c g156 (At k0_part156 c v2 v5 v8 v21 v26 v29 v31)) ∧
    (∀ (v2 v5 v8 v21 v26 v29 c2_i32_1023 : BitVec 32),
      Part xs K c g157 (At k0_part157 c v2 v5 v8 v21 v26 v29 c2_i32_1023)) ∧
    (∀ (v2 v5 v8 v21 v26 v29 v1638 : BitVec 32),
      Part xs K c g158 (At k0_part158 c v2 v5 v8 v21 v26 v29 v1638)) ∧
    (∀ (v2 v5 v8 v26 v29 : BitVec 32),
      Part xs K c g159 (At k0_part159 c v2 v5 v8 v26 v29)) ∧
    (∀ (v2 v5 v8 v26 v29 v31 v1697 c3_i32_1091 : BitVec 32),
      Part xs K c g160 (At k0_part160 c v2 v5 v8 v26 v29 v31 v1697 c3_i32_1091)) ∧
    (∀ (v2 v5 v8 v21 v26 v29 v31 c1_i32_1113 : BitVec 32),
      Part xs K c g161 (At k0_part161 c v2 v5 v8 v21 v26 v29 v31 c1_i32_1113)) ∧
    (∀ (v2 v5 v8 v21 v26 v29 v30 v1758 : BitVec 32),
      Part xs K c g162 (At k0_part162 c v2 v5 v8 v21 v26 v29 v30 v1758)) ∧
    (∀ (v2 v5 v8 v30 : BitVec 32),
      Part xs K c g163 (At k0_part163 c v2 v5 v8 v30)) ∧
    (∀ (v2 v5 v8 v30 v1817 c3_i32_1181 : BitVec 32),
      Part xs K c g164 (At k0_part164 c v2 v5 v8 v30 v1817 c3_i32_1181)) ∧
    (∀ (v2 v5 v8 v30 c1_i32_1203 : BitVec 32),
      Part xs K c g165 (At k0_part165 c v2 v5 v8 v30 c1_i32_1203)) ∧
    (∀ (v2 v5 v8 v23 v30 v1878 : BitVec 32),
      Part xs K c g166 (At k0_part166 c v2 v5 v8 v23 v30 v1878)) ∧
    (∀ (v8 v23 v1903 v1904 : BitVec 32) (v1905 v1908 : BitVec 1),
      Part xs K c g167 (At k0_part167 c v8 v23 v1903 v1904 v1905 v1908)) ∧
    (∀ (v8 v23 v1944 : BitVec 32),
      Part xs K c g168 (At k0_part168 c v8 v23 v1944)) ∧
    (∀ (v8 v23 v26 v29 v1976 c3_i32_1295 : BitVec 32),
      Part xs K c g169 (At k0_part169 c v8 v23 v26 v29 v1976 c3_i32_1295)) := by
  refine ⟨?_, ?_, ?_, ?_, ?_, ?_, ?_, ?_, ?_, ?_, ?_, ?_, ?_, ?_, ?_, ?_, ?_, ?_, ?_, ?_⟩ <;> intros <;> intro gs Φ hΦ <;> simp only [
    At, k0_part150_eq_skeleton, k0_part151_eq_skeleton, k0_part152_eq_skeleton, k0_part153_eq_skeleton,
    k0_part154_eq_skeleton, k0_part155_eq_skeleton, k0_part156_eq_skeleton, k0_part157_eq_skeleton,
    k0_part158_eq_skeleton, k0_part159_eq_skeleton, k0_part160_eq_skeleton, k0_part161_eq_skeleton,
    k0_part162_eq_skeleton, k0_part163_eq_skeleton, k0_part164_eq_skeleton, k0_part165_eq_skeleton,
    k0_part166_eq_skeleton, k0_part167_eq_skeleton, k0_part168_eq_skeleton, k0_part169_eq_skeleton,
    k0_part43_eq_skeleton, k0_part44_eq_skeleton, k0_part45_eq_skeleton, k0_part46_eq_skeleton,
    k0_part47_eq_skeleton, k0_part48_eq_skeleton, k0_part49_eq_skeleton, k0_part50_eq_skeleton,
    k0_part51_eq_skeleton, k0_part52_eq_skeleton, k0_part53_eq_skeleton, k0_part54_eq_skeleton,
    k0_part55_eq_skeleton, k0_part56_eq_skeleton, k0_part57_eq_skeleton, k0_part58_eq_skeleton,
    k0_part59_eq_skeleton, k0_part60_eq_skeleton, k0_part61_eq_skeleton, k0_part62_eq_skeleton,
    k0_part63_eq_skeleton, k0_part64_eq_skeleton, k0_part65_eq_skeleton, k0_part66_eq_skeleton,
    k0_part67_eq_skeleton, k0_part68_eq_skeleton, k0_part69_eq_skeleton, k0_part70_eq_skeleton,
    k0_part71_eq_skeleton, k0_part72_eq_skeleton, k0_part73_eq_skeleton, k0_part74_eq_skeleton,
    k0_part75_eq_skeleton, k0_part76_eq_skeleton, k0_part77_eq_skeleton, k0_part78_eq_skeleton, k0_part150_skel,
    k0_part151_skel, k0_part152_skel, k0_part153_skel, k0_part154_skel, k0_part155_skel, k0_part156_skel,
    k0_part157_skel, k0_part158_skel, k0_part159_skel, k0_part160_skel, k0_part161_skel, k0_part162_skel,
    k0_part163_skel, k0_part164_skel, k0_part165_skel, k0_part166_skel, k0_part167_skel, k0_part168_skel,
    k0_part169_skel, k0_part43_skel, k0_part44_skel, k0_part45_skel, k0_part46_skel, k0_part47_skel,
    k0_part48_skel, k0_part49_skel, k0_part50_skel, k0_part51_skel, k0_part52_skel, k0_part53_skel, k0_part54_skel,
    k0_part55_skel, k0_part56_skel, k0_part57_skel, k0_part58_skel, k0_part59_skel, k0_part60_skel, k0_part61_skel,
    k0_part62_skel, k0_part63_skel, k0_part64_skel, k0_part65_skel, k0_part66_skel, k0_part67_skel, k0_part68_skel,
    k0_part69_skel, k0_part70_skel, k0_part71_skel, k0_part72_skel, k0_part73_skel, k0_part74_skel, k0_part75_skel,
    k0_part76_skel, k0_part77_skel, k0_part78_skel, g150, g151, g152, g153, g154, g155, g156, g157, g158, g159,
    g160, g161, g162, g163, g164, g165, g166, g167, g168, g169, k0_pay42, k0_pay43, semSignalWord, semWaitWord,
    shapeCast_self, Prog.lift, Prog.bind_op, Prog.bind_ret, Prog.pure_eq_ret, List.cons_append, List.nil_append] <;>
  repeat' first
    | exact hK
    | refine run_if xs K (by decide +kernel) (fun hK _ => ?_) ?_
    | (refine run_ret xs K ?_; exact hΦ _ (by first | trivial | rfl))
    | refine run_send xs K ?_ (by decide +kernel) (by decide +kernel) (by decide +kernel)
    | refine run_recv xs K (by decide) rfl (by decide +kernel) ?_
    | refine run_swait xs K (by decide) rfl (by decide +kernel) ?_
    | refine run_hwt xs K (by decide) rfl (by decide +kernel) ?_
    | refine run_hst1 xs K ?_ (by decide +kernel) (by decide +kernel)
    | refine run_hst xs K ?_ (by decide +kernel) (by decide +kernel)
    | refine run_load_x1 xs K ?_ (by decide +kernel)
    | refine run_load_x2 xs K ?_ (by decide +kernel)
    | refine run_load_x xs K ?_ (by decide +kernel)
    | refine run_load_c1 xs K (fun _ => ?_) (by decide +kernel)
    | refine run_load_c2 xs K (fun _ => ?_) (by decide +kernel)
    | refine run_load_c xs K (fun _ => ?_) (by decide +kernel)
    | refine run_store1 xs K ?_ rfl (by decide +kernel)
    | refine run_store2 xs K ?_ rfl (by decide +kernel)
    | refine run_store xs K ?_ rfl (by decide +kernel)
    | refine run_open xs K ?_ (by decide +kernel)

end Cert.AG

end
-- ==== Proof.Win170.lean ====
module

public import proofs.«01_k».proof.Proof.Text

@[expose] public section

/-! Windows 170 to 188 of the kernel's text do their steps. -/

noncomputable section

namespace Cert.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] (xs : Dev nD → BI' → Elt F .bf16) (K : Dev nD × Fin 545 → ℕ) (c : Dev nD)

attribute [local irreducible] Run St k0_off1 k0_off2 k0_off19 k0_off20 k0_off27 k0_off58 k0_off59

set_option maxHeartbeats 0 in
/-- Each of the windows does its groups of steps. -/
theorem win170 :
    (∀ (v8 v23 v26 v29 v2006 : BitVec 32),
      Part xs K c g170 (At k0_part170 c v8 v23 v26 v29 v2006)) ∧
    (∀ (v8 v26 v29 v30 : BitVec 32),
      Part xs K c g171 (At k0_part171 c v8 v26 v29 v30)) ∧
    (∀ (v8 v23 v30 v2069 c3_i32_1363 : BitVec 32),
      Part xs K c g172 (At k0_part172 c v8 v23 v30 v2069 c3_i32_1363)) ∧
    (∀ (v8 v23 c0_i32_1385 : BitVec 32) (v2100 : BitVec 1),
      Part xs K c g173 (At k0_part173 c v8 v23 v2100 c0_i32_1385)) ∧
    (∀ (v8 v23 v29 c1_i32_1406 : BitVec 32),
      Part xs K c g174 (At k0_part174 c v8 v23 v29 c1_i32_1406)) ∧
    (∀ (v8 v23 v26 v29 : BitVec 32) (v2162 v2164 : BitVec 1),
      Part xs K c g175 (At k0_part175 c v8 v23 v26 v29 v2162 v2164)) ∧
    (∀ (v8 v23 v26 c0_i32_1450 : BitVec 32) (v2195 : BitVec 1),
      Part xs K c g176 (At k0_part176 c v8 v23 v26 v2195 c0_i32_1450)) ∧
    (∀ (v8 v23 v26 c1_i32_1471 : BitVec 32),
      Part xs K c g177 (At k0_part177 c v8 v23 v26 c1_i32_1471)) ∧
    (∀ (v8 v23 : BitVec 32) (v2257 v2259 : BitVec 1),
      Part xs K c g178 (At k0_part178 c v8 v23 v2257 v2259)) ∧
    (∀ (v8 v23 v29 c1_i32_1515 : BitVec 32) (v2290 : BitVec 1),
      Part xs K c g179 (At k0_part179 c v8 v23 v29 v2290 c1_i32_1515)) ∧
    (∀ (v8 v23 v26 v29 c1_i32_1536 : BitVec 32),
      Part xs K c g180 (At k0_part180 c v8 v23 v26 v29 c1_i32_1536)) ∧
    (∀ (v8 v23 v26 : BitVec 32) (v2352 v2354 : BitVec 1),
      Part xs K c g181 (At k0_part181 c v8 v23 v26 v2352 v2354)) ∧
    (∀ (v8 v23 c2_i32_1580 : BitVec 32) (v2385 : BitVec 1),
      Part xs K c g182 (At k0_part182 c v8 v23 v2385 c2_i32_1580)) ∧
    (∀ (v8 v23 c1_i32_1601 : BitVec 32),
      Part xs K c g183 (At k0_part183 c v8 v23 c1_i32_1601)) ∧
    (∀ (v8 v23 v29 : BitVec 32) (v2447 v2449 : BitVec 1),
      Part xs K c g184 (At k0_part184 c v8 v23 v29 v2447 v2449)) ∧
    (∀ (v8 v23 v26 c2_i32_1645 : BitVec 32) (v2480 : BitVec 1),
      Part xs K c g185 (At k0_part185 c v8 v23 v26 v2480 c2_i32_1645)) ∧
    (∀ (v8 v23 v26 v30 c1_i32_1666 : BitVec 32),
      Part xs K c g186 (At k0_part186 c v8 v23 v26 v30 c1_i32_1666)) ∧
    (∀ (v8 v30 : BitVec 32) (v2542 v2544 : BitVec 1),
      Part xs K c g187 (At k0_part187 c v8 v30 v2542 v2544)) ∧
    (∀ (v8 v30 : BitVec 32) (v2575 v2577 : BitVec 1),
      Part xs K c g188 (At k0_part188 c v8 v30 v2575 v2577)) := by
  refine ⟨?_, ?_, ?_, ?_, ?_, ?_, ?_, ?_, ?_, ?_, ?_, ?_, ?_, ?_, ?_, ?_, ?_, ?_, ?_⟩ <;> intros <;> intro gs Φ hΦ <;> simp only [
    At, k0_part170_eq_skeleton, k0_part171_eq_skeleton, k0_part172_eq_skeleton, k0_part173_eq_skeleton,
    k0_part174_eq_skeleton, k0_part175_eq_skeleton, k0_part176_eq_skeleton, k0_part177_eq_skeleton,
    k0_part178_eq_skeleton, k0_part179_eq_skeleton, k0_part180_eq_skeleton, k0_part181_eq_skeleton,
    k0_part182_eq_skeleton, k0_part183_eq_skeleton, k0_part184_eq_skeleton, k0_part185_eq_skeleton,
    k0_part186_eq_skeleton, k0_part187_eq_skeleton, k0_part188_eq_skeleton, k0_part79_eq_skeleton,
    k0_part80_eq_skeleton, k0_part81_eq_skeleton, k0_part82_eq_skeleton, k0_part83_eq_skeleton,
    k0_part84_eq_skeleton, k0_part85_eq_skeleton, k0_part86_eq_skeleton, k0_part87_eq_skeleton,
    k0_part88_eq_skeleton, k0_part89_eq_skeleton, k0_part90_eq_skeleton, k0_part91_eq_skeleton,
    k0_part92_eq_skeleton, k0_part93_eq_skeleton, k0_part94_eq_skeleton, k0_part95_eq_skeleton,
    k0_part96_eq_skeleton, k0_part97_eq_skeleton, k0_part98_eq_skeleton, k0_part99_eq_skeleton,
    k0_part100_eq_skeleton, k0_part101_eq_skeleton, k0_part102_eq_skeleton, k0_part103_eq_skeleton,
    k0_part104_eq_skeleton, k0_part105_eq_skeleton, k0_part106_eq_skeleton, k0_part107_eq_skeleton,
    k0_part108_eq_skeleton, k0_part170_skel, k0_part171_skel, k0_part172_skel, k0_part173_skel, k0_part174_skel,
    k0_part175_skel, k0_part176_skel, k0_part177_skel, k0_part178_skel, k0_part179_skel, k0_part180_skel,
    k0_part181_skel, k0_part182_skel, k0_part183_skel, k0_part184_skel, k0_part185_skel, k0_part186_skel,
    k0_part187_skel, k0_part188_skel, k0_part79_skel, k0_part80_skel, k0_part81_skel, k0_part82_skel,
    k0_part83_skel, k0_part84_skel, k0_part85_skel, k0_part86_skel, k0_part87_skel, k0_part88_skel, k0_part89_skel,
    k0_part90_skel, k0_part91_skel, k0_part92_skel, k0_part93_skel, k0_part94_skel, k0_part95_skel, k0_part96_skel,
    k0_part97_skel, k0_part98_skel, k0_part99_skel, k0_part100_skel, k0_part101_skel, k0_part102_skel,
    k0_part103_skel, k0_part104_skel, k0_part105_skel, k0_part106_skel, k0_part107_skel, k0_part108_skel, g170,
    g171, g172, g173, g174, g175, g176, g177, g178, g179, g180, g181, g182, g183, g184, g185, g186, g187, g188,
    semSignalWord, semWaitWord, Prog.lift, Prog.bind_op, Prog.bind_ret, Prog.pure_eq_ret, List.cons_append,
    List.nil_append] <;>
  repeat' first
    | exact hK
    | refine run_if xs K (by decide +kernel) (fun hK _ => ?_) ?_
    | (refine run_ret xs K ?_; exact hΦ _ (by first | trivial | rfl))
    | refine run_send xs K ?_ (by decide +kernel) (by decide +kernel) (by decide +kernel)
    | refine run_recv xs K (by decide) rfl (by decide +kernel) ?_
    | refine run_swait xs K (by decide) rfl (by decide +kernel) ?_
    | refine run_hwt xs K (by decide) rfl (by decide +kernel) ?_
    | refine run_hst1 xs K ?_ (by decide +kernel) (by decide +kernel)
    | refine run_hst xs K ?_ (by decide +kernel) (by decide +kernel)
    | refine run_open xs K ?_ (by decide +kernel)

end Cert.AG

end
-- ==== Proof.Body.lean ====
module

public import proofs.«01_k».proof.Proof.Win110
public import proofs.«01_k».proof.Proof.Win130
public import proofs.«01_k».proof.Proof.Win150
public import proofs.«01_k».proof.Proof.Win170

@[expose] public section

/-! The kernel's body on a device: its windows one after another. -/

noncomputable section

namespace Cert.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] (xs : Dev nD → BI' → Elt F .bf16) (K : Dev nD × Fin 545 → ℕ) (c : Dev nD)

local notation "𝕄" => MT nD τ sig Unit (Elt F) ℕ UU ℕ

/-- Asking for the device's number gives `c`. -/
theorem run_dev {ops : List Op} {gs : List (List Op)} {α : Type} {Φ : α → sProp 𝕄}
    {kont : Dev nD → Prog (TpuEff nD τ sig (Elt F) Λ₀ .tc) α} (hk : Run xs K c ops gs (kont c) Φ) :
    Run xs K c ops gs (.op .deviceId kont) Φ := by
  intro h1 h2
  refine (hk h1 h2).trans ?_
  exact Entails.of_eq (Eq.symm (wp_deviceId _ _ _ _))

/-- The first window only computes numbers: the device's own, and the name of its barrier semaphore. -/
theorem dev_ids : Part xs K c [] (At k0_part109)
    (fun r => r.1 = c ∧ r.2.2.2.2.2.2.2.2.2.2 = SemArray.scalar (sig.barrier 0 rfl)) := by
  intro gs Φ hΦ
  simp only [At, k0_part109_eq_skeleton, k0_part109_skel, Prog.lift, Prog.bind_op, Prog.bind_ret, Prog.pure_eq_ret]
  refine run_dev xs K c ?_
  refine run_ret xs K ?_
  exact hΦ _ ⟨rfl, rfl⟩

/-- The first window, then the rest of the text. -/
theorem ids_bind {β : Type} {G : List (List Op)} {α : Type} {p : Prog (TpuEff nD τ sig (Elt F) Λ₀ .tc) α} {P : α → Prop}
    {q : α → Prog (TpuEff nD τ sig (Elt F) Λ₀ .tc) β} {Φ : β → sProp 𝕄} (hp : Part xs K c [] p P)
    (hq : ∀ r, P r → Run xs K c [] G (q r) Φ) : Run xs K c [] G (p >>= q) Φ :=
  Part.bind (g := []) (pre := []) hp rfl hq

attribute [local irreducible] Run St k0_off1 k0_off2 k0_off19 k0_off20 k0_off27 k0_off58 k0_off59

/-- The steps of the first sixty windows. -/
def gA : List (List Op) :=
    g110 ++ (g111 ++ (g112 ++ (g113 ++ (g114 ++ (g115 ++ (g116 ++ (g117 ++ (g118 ++ (g119 ++ (g120 ++ (g121 ++
    (g122 ++ (g123 ++ (g124 ++ (g125 ++ (g126 ++ (g127 ++ (g128 ++ (g129 ++ (g130 ++ (g131 ++ (g132 ++ (g133 ++
    (g134 ++ (g135 ++ (g136 ++ (g137 ++ (g138 ++ (g139 ++ (g140 ++ (g141 ++ (g142 ++ (g143 ++ (g144 ++ (g145 ++
    (g146 ++ (g147 ++ (g148 ++ (g149 ++ (g150 ++ (g151 ++ (g152 ++ (g153 ++ (g154 ++ (g155 ++ (g156 ++ (g157 ++
    (g158 ++ (g159 ++ (g160 ++ (g161 ++ (g162 ++ (g163 ++ (g164 ++ (g165 ++ (g166 ++ (g167 ++
    (g168))))))))))))))))))))))))))))))))))))))))))))))))))))))))))

/-- The steps of the other windows. -/
def gB : List (List Op) :=
    g169 ++ (g170 ++ (g171 ++ (g172 ++ (g173 ++ (g174 ++ (g175 ++ (g176 ++ (g177 ++ (g178 ++ (g179 ++ (g180 ++
    (g181 ++ (g182 ++ (g183 ++ (g184 ++ (g185 ++ (g186 ++ (g187 ++ (g188 ++ (g190))))))))))))))))))))

set_option maxHeartbeats 0 in
set_option maxRecDepth 20000 in
/-- The first sixty windows, one after another. -/
theorem first_part : Part xs K c gA (At k0_part189) (fun r => r.1 = c) := by
  obtain ⟨w110, w111, w112, w113, w114, w115, w116, w117, w118, w119,
    w120, w121, w122, w123, w124, w125, w126, w127, w128, w129⟩ := win110 xs K c
  obtain ⟨w130, w131, w132, w133, w134, w135, w136, w137, w138, w139,
    w140, w141, w142, w143, w144, w145, w146, w147, w148, w149⟩ := win130 xs K c
  obtain ⟨w150, w151, w152, w153, w154, w155, w156, w157, w158, w159,
    w160, w161, w162, w163, w164, w165, w166, w167, w168, w169⟩ := win150 xs K c
  intro gs Φ hΦ
  simp only [At, k0_part189_eq_skeleton, k0_part189_skel, gA, List.append_assoc]
  refine ids_bind xs K c (dev_ids xs K c) ?_
  rintro ⟨d0, v2, v5, v8, v21, v23, v26, v29, v30, v31, v32⟩ ⟨h0, h32⟩
  dsimp only at h0 h32
  subst h0 h32
  refine Part.bind (w110 _ _ _ _ _ _) rfl ?_
  rintro ⟨v61, v67⟩ h
  obtain rfl : v61 = _ := h
  refine Part.bind (w111 _ _ _ _ _) rfl ?_
  rintro v102 -
  refine Part.bind (w112 _ _ _ _ _) rfl ?_
  rintro ⟨v133, v137⟩ h
  obtain rfl : v133 = _ := h
  refine Part.bind (w113 _ _ _ _ _) rfl ?_
  rintro ⟨v171, v172⟩ -
  refine Part.bind (w114 _ _ _ _ _ _) rfl ?_
  rintro ⟨v205, v206, v207⟩ h
  obtain rfl : v205 = _ := h
  refine Part.bind (w115 _ _ _ _ _ _) rfl ?_
  rintro c1_i32_130 -
  refine Part.bind (w116 _ _ _ _ _ _) rfl ?_
  rintro ⟨v277, c4096_i32_151⟩ h
  obtain rfl : v277 = _ := h
  refine Part.bind (w117 _ _ _ _ _) rfl ?_
  rintro ⟨v313, c0_i32_171⟩ -
  refine Part.bind (w118 _ _ _ _ _ _ _ _ _) rfl ?_
  rintro v347 -
  refine Part.bind (w119 _ _ _ _ _ _ _ _) rfl ?_
  rintro ⟨⟩ -
  refine Part.bind (w120 _ _ _ _ _ _ _) rfl ?_
  rintro ⟨⟩ -
  refine Part.bind (w121 _ _ _ _ _) rfl ?_
  rintro c1_i32_258 -
  refine Part.bind (w122 _ _ _ _ _ _ _ _) rfl ?_
  rintro v479 -
  refine Part.bind (w123 _ _ _ _ _ _) rfl ?_
  rintro ⟨v508, v513⟩ h
  obtain rfl : v513 = _ := h
  refine Part.bind (w124 _ _ _ _ _ _ _) rfl ?_
  rintro ⟨v543, v544, v545, c0_i32_324⟩ -
  refine Part.bind (w125 _ _ _ _ _ _) rfl ?_
  rintro ⟨v580, v583, c640_i32_345⟩ h
  obtain rfl : v580 = _ := h
  refine Part.bind (w126 _ _ _ _ _ _ _ _) rfl ?_
  rintro ⟨v611, v616, v617⟩ -
  refine Part.bind (w127 _ _ _ _ _ _ _ _ _) rfl ?_
  rintro v651 -
  refine Part.bind (w128 _ _ _) rfl ?_
  rintro v685 -
  refine Part.bind (w129 _ _ _ _ _ _ _ _) rfl ?_
  rintro ⟨⟩ -
  refine Part.bind (w130 _ _ _ _ _ _ _) rfl ?_
  rintro ⟨⟩ -
  refine Part.bind (w131 _ _ _ _ _) rfl ?_
  rintro ⟨v786, v791⟩ h
  obtain rfl : v791 = _ := h
  refine Part.bind (w132 _ _ _ _ _ _ _ _) rfl ?_
  rintro v824 -
  refine Part.bind (w133 _ _ _ _ _ _ _ _) rfl ?_
  rintro ⟨v854, c4_i32_518⟩ -
  refine Part.bind (w134 _ _ _ _ _ _ _ _) rfl ?_
  rintro ⟨⟩ -
  refine Part.bind (w135 _ _ _ _ _ _ _ _ _) rfl ?_
  rintro ⟨⟩ -
  refine Part.bind (w136 _ _ _ _ _ _) rfl ?_
  rintro c2_i32_583 -
  refine Part.bind (w137 _ _ _ _ _ _ _) rfl ?_
  rintro v991 -
  refine Part.bind (w138 _ _ _ _ _ _ _ _ _) rfl ?_
  rintro ⟨v1022, c0_i32_626⟩ -
  refine Part.bind (w139 _ _ _ _ _ _ _ _) rfl ?_
  rintro v1057 h
  obtain rfl : v1057 = _ := h
  refine Part.bind (w140 _ _ _ _ _ _) rfl ?_
  rintro ⟨v1090, c0_i32_671⟩ -
  refine Part.bind (w141 _ _ _ _ _ _ _ _ _ _) rfl ?_
  rintro ⟨v1116, v1117, v1118, v1121⟩ -
  refine Part.bind (w142 _ _ _ _ _ _ _ _ _ _ _) rfl ?_
  rintro ⟨v1155, v1156⟩ -
  refine Part.bind (w143 _ _ _ _ _ _ _ _ _ _) rfl ?_
  rintro ⟨v1187, v1189, c0_i32_736⟩ -
  refine Part.bind (w144 _ _ _ _ _ _ _ _ _ _ _) rfl ?_
  rintro ⟨⟩ -
  refine Part.bind (w145 _ _ _ _ _) rfl ?_
  rintro ⟨v1252, v1253, v1254, c0_i32_781⟩ -
  refine Part.bind (w146 _ _ _ _ _ _ _ _ _ _) rfl ?_
  rintro v1290 -
  refine Part.bind (w147 _ _ _ _ _ _ _ _) rfl ?_
  rintro v1319 -
  refine Part.bind (w148 _ _ _ _ _ _ _ _) rfl ?_
  rintro v1356 -
  refine Part.bind (w149 _ _ _ _ _ _ _ _) rfl ?_
  rintro v1383 h
  obtain rfl : v1383 = _ := h
  refine Part.bind (w150 _ _) rfl ?_
  rintro ⟨v1426, c4096_i32_889⟩ -
  refine Part.bind (w151 _ _ _ _ _ _ _ _) rfl ?_
  rintro ⟨v1457, c3_i32_911⟩ -
  refine Part.bind (w152 _ _ _ _ _ _ _ _) rfl ?_
  rintro c1_i32_933 -
  refine Part.bind (w153 _ _ _ _ _ _ _ _) rfl ?_
  rintro v1518 -
  refine Part.bind (w154 _ _ _ _ _ _ _) rfl ?_
  rintro ⟨v1547, c1_i32_978⟩ -
  refine Part.bind (w155 _ _ _ _ _ _ _) rfl ?_
  rintro ⟨⟩ -
  refine Part.bind (w156 _ _ _ _ _ _ _) rfl ?_
  rintro c2_i32_1023 -
  refine Part.bind (w157 _ _ _ _ _ _ _) rfl ?_
  rintro v1638 -
  refine Part.bind (w158 _ _ _ _ _ _ _) rfl ?_
  rintro ⟨⟩ -
  refine Part.bind (w159 _ _ _ _ _) rfl ?_
  rintro ⟨v1697, c3_i32_1091⟩ -
  refine Part.bind (w160 _ _ _ _ _ _ _ _) rfl ?_
  rintro c1_i32_1113 -
  refine Part.bind (w161 _ _ _ _ _ _ _ _) rfl ?_
  rintro v1758 -
  refine Part.bind (w162 _ _ _ _ _ _ _ _) rfl ?_
  rintro ⟨⟩ -
  refine Part.bind (w163 _ _ _ _) rfl ?_
  rintro ⟨v1817, c3_i32_1181⟩ -
  refine Part.bind (w164 _ _ _ _ _ _) rfl ?_
  rintro c1_i32_1203 -
  refine Part.bind (w165 _ _ _ _ _) rfl ?_
  rintro v1878 -
  refine Part.bind (w166 _ _ _ _ _ _) rfl ?_
  rintro ⟨v1903, v1904, v1905, v1908⟩ -
  refine Part.bind (w167 _ _ _ _ _ _) rfl ?_
  rintro v1944 -
  refine Part.bind (w168 _ _ _) rfl ?_
  rintro ⟨v1976, c3_i32_1295⟩ -
  exact run_ret xs K (hΦ _ rfl)

set_option maxHeartbeats 0 in
set_option maxRecDepth 20000 in
/-- The other windows, one after another, and the last waits of that piece of the text. -/
theorem second_part (v8 v23 v26 v29 v30 v1976 w : BitVec 32) :
    Part xs K c gB (At k0_part190 c v8 v23 v26 v29 v30 v1976 w) := by
  obtain ⟨w150, w151, w152, w153, w154, w155, w156, w157, w158, w159,
    w160, w161, w162, w163, w164, w165, w166, w167, w168, w169⟩ := win150 xs K c
  obtain ⟨w170, w171, w172, w173, w174, w175, w176, w177, w178,
    w179, w180, w181, w182, w183, w184, w185, w186, w187, w188⟩ := win170 xs K c
  intro gs Φ hΦ
  simp only [At, k0_part190_eq_skeleton, k0_part190_skel, gB, List.append_assoc]
  refine Part.bind (w169 _ _ _ _ _ _) rfl ?_
  rintro v2006 -
  refine Part.bind (w170 _ _ _ _ _) rfl ?_
  rintro ⟨⟩ -
  refine Part.bind (w171 _ _ _ _) rfl ?_
  rintro ⟨v2069, c3_i32_1363⟩ -
  refine Part.bind (w172 _ _ _ _ _) rfl ?_
  rintro ⟨v2100, c0_i32_1385⟩ -
  refine Part.bind (w173 _ _ _ _) rfl ?_
  rintro c1_i32_1406 -
  refine Part.bind (w174 _ _ _ _) rfl ?_
  rintro ⟨v2162, v2164⟩ -
  refine Part.bind (w175 _ _ _ _ _ _) rfl ?_
  rintro ⟨v2195, c0_i32_1450⟩ -
  refine Part.bind (w176 _ _ _ _ _) rfl ?_
  rintro c1_i32_1471 -
  refine Part.bind (w177 _ _ _ _) rfl ?_
  rintro ⟨v2257, v2259⟩ -
  refine Part.bind (w178 _ _ _ _) rfl ?_
  rintro ⟨v2290, c1_i32_1515⟩ -
  refine Part.bind (w179 _ _ _ _ _) rfl ?_
  rintro c1_i32_1536 -
  refine Part.bind (w180 _ _ _ _ _) rfl ?_
  rintro ⟨v2352, v2354⟩ -
  refine Part.bind (w181 _ _ _ _ _) rfl ?_
  rintro ⟨v2385, c2_i32_1580⟩ -
  refine Part.bind (w182 _ _ _ _) rfl ?_
  rintro c1_i32_1601 -
  refine Part.bind (w183 _ _ _) rfl ?_
  rintro ⟨v2447, v2449⟩ -
  refine Part.bind (w184 _ _ _ _ _) rfl ?_
  rintro ⟨v2480, c2_i32_1645⟩ -
  refine Part.bind (w185 _ _ _ _ _) rfl ?_
  rintro c1_i32_1666 -
  refine Part.bind (w186 _ _ _ _ _) rfl ?_
  rintro ⟨v2542, v2544⟩ -
  refine Part.bind (w187 _ _ _ _) rfl ?_
  rintro ⟨v2575, v2577⟩ -
  refine Part.bind (w188 _ _ _ _) rfl ?_
  rintro ⟨v2608, v2610⟩ -
  simp only [g190, Prog.lift, Prog.bind_op, Prog.bind_ret, Prog.pure_eq_ret, List.cons_append, List.nil_append]
  repeat' first
    | exact hK
    | refine run_if xs K (by decide +kernel) (fun hK _ => ?_) ?_
    | (refine run_ret xs K ?_; exact hΦ _ (by first | trivial | rfl))
    | refine run_swait xs K (by decide) rfl (by decide +kernel) ?_

set_option maxHeartbeats 0 in
set_option maxRecDepth 20000 in
/-- The whole body does the whole list of steps. -/
theorem body_part : Part xs K c allG (At cc0_body) := by
  intro gs Φ hΦ
  rw [show allG = gA ++ (gB ++ gEnd) from by simp only [allG, gA, gB, List.append_assoc]]
  simp only [At, cc0_body_eq_skeleton, cc0_body_skel, List.append_assoc]
  refine Part.bind (first_part xs K c) rfl ?_
  rintro ⟨d0, v8, v23, v26, v29, v30, v1976, w⟩ h
  dsimp only at h
  subst h
  refine Part.bind (second_part xs K d0 _ _ _ _ _ _ _) rfl ?_
  rintro ⟨v2630, v2632⟩ -
  simp only [gEnd, Prog.lift, Prog.bind_op, Prog.bind_ret, Prog.pure_eq_ret, List.cons_append, List.nil_append]
  repeat' first
    | exact hK
    | refine run_if xs K (by decide +kernel) (fun hK _ => ?_) ?_
    | (refine run_ret xs K ?_; exact hΦ _ (by first | trivial | rfl))
    | refine run_swait xs K (by decide) rfl (by decide +kernel) ?_

end Cert.AG

end
-- ==== Proof.Ends.lean ====
module

public import proofs.«01_k».proof.Proof.Alloc
public import proofs.«01_k».proof.Proof.Body

@[expose] public section

/-! What a device holds before its body and after it, in terms of whole buffers. -/

noncomputable section

namespace Cert.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] (xs : Dev nD → BI' → Elt F .bf16)

local notation "𝕄" => MT nD τ sig Unit (Elt F) ℕ UU ℕ

/-- The whole scratch is its 128 pieces. -/
theorem comm_pieces (c : Dev nD) (f : GI → Elt F .bf16) :
    cP c (rows 0 16384) fullShare f = sepL (fun n => cP c (prow n) fullShare f) ((List.range 128).map id) := by
  have h := chop (P := fun a b => cP c (rows a b) fullShare f) (fun h₁ h₂ => cP_rows c _ _ h₁ h₂)
    (fun a => by unfold cP; rw [rows_empty]; exact pointsTo_empty) 128 (fun n => cP c (prow n) fullShare f) id 128 0
    (fun p _ _ => rfl)
  rw [List.range_eq_range']
  exact h

/-- The whole result is its 16 quarters of blocks. -/
theorem out_quarters (c : Dev nD) (f : GI → Elt F .bf16) :
    oP c (rows 0 16384) f = sepL (fun n => oP c (qrow n) f) ((List.range 16).map id) := by
  have h := chop (P := fun a b => oP c (rows a b) f) (fun h₁ h₂ => oP_rows c _ h₁ h₂)
    (fun a => by unfold oP; rw [rows_empty]; exact pointsTo_empty) 1024 (fun n => oP c (qrow n) f) id 16 0
    (fun p _ _ => rfl)
  rw [List.range_eq_range']
  exact h

/-- Scratch, result and the staged block give the memory codes. -/
theorem mem_ini (c : Dev nD) (f g : GI → Elt F .bf16) :
    iprop(cP c (rows 0 16384) fullShare f ∗ oP c (rows 0 16384) g ∗ xP xs c) ⊢ sepL (den xs c) iniMem := by
  unfold iniMem
  rw [comm_pieces, out_quarters, sepL_append, sepL_append, sepL_one, den_X]
  refine BIClass.sep_mono (sepL_map _ _ _ _ _ fun n hn => ?_) (BIClass.sep_mono (sepL_map _ _ _ _ _ fun n hn => ?_) (BI.Entails.refl _))
  · rw [den_raw xs c (by have := List.mem_range.mp hn; omega)]
    unfold rawR; iintro H; iexists f; iexact H
  · rw [den_oRaw xs c (by have := List.mem_range.mp hn; omega)]
    unfold oRawR; iintro H; iexists g; iexact H

/-- What is left at the end: every own semaphore at zero, the scratch and the result at the gathered array, the staged
    block, the barrier semaphore at zero. -/
theorem fin_all (c : Dev nD) : endR xs c ⊢ iprop((bigSep Finset.univ fun s : Fin 544 => (semVal (kc c s.val) 0 : sProp 𝕄)) ∗
    cP c (rows 0 16384) fullShare (gath xs c) ∗ oP c (rows 0 16384) (gath xs c) ∗ xP xs c ∗ semVal (barC c) 0) := by
  obtain ⟨σ, hσ⟩ := Option.isSome_iff_exists.mp (run_all c).2
  unfold endR
  rw [hσ, Option.getD_some, maskS_puts (den xs c) _ hσ, maskS_zero, sep_comm_eq _ iprop(emp), sep_drop]
  unfold finCodes
  rw [sepL_append, sepL_append, sepL_append, comm_pieces, out_quarters, sepL_fin1 (den xs c) 544 cZ, sepL_fin,
    sepL_fin1 (fun n => cP c (prow n) fullShare (gath xs c)) 128 id]
  have e1 : (bigSep Finset.univ fun s : Fin 544 => den xs c (cZ s.val)) = bigSep Finset.univ fun s : Fin 544 => (semVal (kc c s.val) 0 : sProp 𝕄) :=
    bigSep_congr fun s _ => by rw [den_z xs c (by omega)]; rfl
  have e2 : (bigSep Finset.univ fun s : Fin 128 => sepL (den xs c) (shs s.val))
      = bigSep Finset.univ fun s : Fin 128 => cP c (prow (id s.val)) fullShare (gath xs c) :=
    bigSep_congr fun s _ => (shares5 xs c s.isLt).symm
  rw [e1, e2, show sepL (den xs c) [cX, cZB] = iprop(xP xs c ∗ semVal (barC c) 0 ∗ emp) from rfl]
  iintro ⟨Hz, Hs, Ho, Hx, Hb, -⟩
  isplitl [Hz]; · iexact Hz
  isplitl [Hs]; · iexact Hs
  isplitl [Ho]
  · iapply (sepL_map (den xs c) (fun n => oP c (qrow n) (gath xs c)) (List.range 16) cODone id fun n hn => by
      rw [den_oDone xs c (by have := List.mem_range.mp hn; omega)]; exact BI.Entails.refl _)
    iexact Ho
  isplitl [Hx]
  · iexact Hx
  · iexact Hb

/-- The body, run on what a device starts with, leaves what it ends with. -/
theorem body_runs (c : Dev nD) (Φ : PUnit → sProp 𝕄) (f g : GI → Elt F .bf16)
    (hΦ : ∀ r, iprop((∃ W, owes (c : Thread nD τ) 0 W) ∗ endR xs c) ⊢ Φ r) :
    iprop(start xs c ∗ (∃ W, owes (c : Thread nD τ) (owed c allOps) W) ∗
      cP c (rows 0 16384) fullShare f ∗ oP c (rows 0 16384) g ∗ xP xs c) ⊢ WP c (At cc0_body) Φ := by
  obtain ⟨σ, hσ⟩ := Option.isSome_iff_exists.mp (run_all c).2
  have hrun := (run_all c).1
  rw [hσ] at hrun
  obtain ⟨σ₀, h₀, h₁⟩ := Option.bind_eq_some_iff.mp hrun
  have hend : endR xs c = maskS (den xs c) σ := by unfold endR; rw [hσ]; rfl
  have hres : sepL (den xs c) (iniStart c ++ iniMem) ⊢ Res (den xs c) c (endR xs c) allOps := by
    rw [hend]
    refine BIBase.Entails.trans (Entails.of_eq ?_) (Res_of_run (den xs c) c allOps h₁)
    rw [maskS_puts (den xs c) _ h₀, maskS_zero, sep_comm_eq _ iprop(emp), sep_drop]
  unfold start
  iintro ⟨⟨%K, #HP, Hs⟩, Ho, Hm⟩
  ihave Hm' := (mem_ini xs c f g) $$ Hm
  iapply (body_part xs K c [] Φ (fun r _ => by
      refine BIBase.Entails.trans ?_ (hΦ r)
      rw [List.append_nil, List.flatten_nil]
      unfold St Res
      iintro ⟨-, Ho, HR⟩
      isplitl [Ho]; · iexact Ho
      iexact HR) rfl (by
      rw [List.nil_append, List.nil_append, List.append_nil]; exact scan_all c))
  rw [List.nil_append, List.nil_append, List.append_nil]
  unfold St
  isplitr; · iexact HP
  isplitl [Ho]; · iexact Ho
  iapply hres
  rw [sepL_append]
  isplitl [Hs]; · iexact Hs
  iexact Hm'

end Cert.AG
-- ==== Proof.Launch.lean ====
module

public import proofs.«01_k».proof.Proof.Ends
public import proofs.«01_k».proof.Proof.Gen.KernelIdeal.Launch
public import proofs.«01_k».proof.Proof.Gen.KernelIdeal.Points
public import Idealize.ShloMosaic.Lib.Pipeline.Launch
public import Idealize.ShloMosaic.Lib.Pipeline.CollectiveSegs
public import Idealize.ShloMosaic.Lib.Quiescent

@[expose] public section

/-! The run of the whole mesh: every device's body launched on what it is dealt. -/

noncomputable section

namespace Cert.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section
variable (m : (ℓ : Loc nD τ sig) → Buf (Elt F) ℓ) (ρ : Dev nD → PrngReg)

def s₀ : MemSt nD τ sig (Elt F) := ⟨m, fun _ => 0, ρ⟩

/-- The block device `c` is given, as the pipeline stages it. -/
def xst (c : Dev nD) : BI' → Elt F .bf16 :=
  (win0_0.blk (0 : Fin 1)).view.read (Elt F) ((s₀ m ρ).mem ((c : Thread nD τ).loc main_arg0))

/-- What a device's body starts from, and what it leaves. -/
def Φ₀ (c : Dev nD) : sProp 𝕄 :=
  iprop((start (xst m ρ) c ∗ oP c (rows 0 16384) (m ((c : Thread nD τ).loc main_v1))) ∗ ∃ f, cP c (rows 0 16384) fullShare f)
def Φ₁ (c : Dev nD) : sProp 𝕄 :=
  iprop((bigSep Finset.univ fun s : Fin 544 => (semVal (kc c s.val) 0 : sProp 𝕄)) ∗
    cP c (rows 0 16384) fullShare (gath (xst m ρ) c) ∗ oP c (rows 0 16384) (gath (xst m ρ) c) ∗ semVal (barC c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xst m ρ c
  Φ t := match t with
    | ⟨0, _⟩ => Φ₀ m ρ c
    | ⟨_ + 1, _⟩ => Φ₁ m ρ c
  q _ := fullShare
  owed t := match t with
    | ⟨0, _⟩ => owed c allOps
    | ⟨_ + 1, _⟩ => 0

omit [FloatOps F] in
theorem owns_stage (c : Dev nD) (X : (cc0_stg0_0 : Ref sig .tc).ty.Contents (Elt F)) :
    (owns (Ix := Unit) (Name := ℕ) (U := UU) (Lvl := ℕ) (c : Thread nD τ) (Memref.whole cc0_stg0_0) fullShare X : sProp 𝕄)
      = iprop(∃ f : Buf (Elt F) ((c : Thread nD τ).loc cc0_stg0_0), ⌜f = X⌝ ∗ (((c : Thread nD τ).loc cc0_stg0_0) ↦{fullShare} f)) := by
  unfold owns; simp only [Memref.view_whole, View.read_whole, View.set_whole]

def bodyPre (c : Dev nD) : sProp 𝕄 :=
  iprop(Φ₀ m ρ c ∗ (dats m ρ 0 c).owesAt () t0_0.castSucc
    ∗ (∃ d, ∃ f : Buf (Elt F) ((c : Thread nD τ).loc cc0_stg0_0), ⌜f = (dats m ρ 0 c).before (0 : Fin 1) t0_0 d⌝ ∗
        (((c : Thread nD τ).loc cc0_stg0_0) ↦{fullShare} f)))
def bodyPost (c : Dev nD) : sProp 𝕄 :=
  iprop(Φ₁ m ρ c ∗ (dats m ρ 0 c).owesAt () t0_0.succ
    ∗ (∃ f : Buf (Elt F) ((c : Thread nD τ).loc cc0_stg0_0), ⌜f = xst m ρ c⌝ ∗ (((c : Thread nD τ).loc cc0_stg0_0) ↦{fullShare} f)))

/-- What is left at the end is what the pipeline is to get back. -/
theorem post_of_end (c : Dev nD) :
    iprop((∃ W, owes (c : Thread nD τ) 0 W) ∗ endR (xst m ρ) c) ⊢ bodyPost m ρ c := by
  unfold bodyPost Φ₁ Dat.owesAt Pipeline.owesWithin
  iintro ⟨⟨%W, HO⟩, He⟩
  ihave H := (fin_all (xst m ρ) c) $$ He
  icases H with ⟨Hz, Hs, Ho, Hx, Hb⟩
  isplitl [Hz Hs Ho Hb]
  · isplitl [Hz]; · iexact Hz
    isplitl [Hs]; · iexact Hs
    isplitl [Ho] <;> iassumption
  isplitl [HO]
  · iexists W
    isplitr; · ipureintro; exact fun _ _ => Or.inl trivial
    iexact HO
  iexists _; isplitr; · (ipureintro; rfl)
  unfold xP
  iexact Hx

/-- The body on a device takes what the pipeline hands it to what it is to get back. -/
theorem body_sound (c : Dev nD) : bodyPre m ρ c ⊢ WP c (At cc0_body) (fun _ => bodyPost m ρ c) := by
  unfold bodyPre Φ₀
  iintro ⟨⟨⟨Hs, Ho⟩, ⟨%f, Hc⟩⟩, HO, ⟨%d, %g, %hg, Hx⟩⟩
  have hx : g = xst m ρ c := by rw [hg]; unfold Dat.before; rw [if_pos (fetch0_0 t0_0)]; rfl
  subst hx
  unfold Dat.owesAt Pipeline.owesWithin
  icases HO with ⟨%W, %hW, HO⟩
  iapply (body_runs (xst m ρ) c (fun _ => bodyPost m ρ c) f (m ((c : Thread nD τ).loc main_v1)) fun _ => post_of_end m ρ c)
  isplitl [Hs]; · iexact Hs
  isplitl [HO]
  · iexists W; iexact HO
  isplitl [Hc]; · iexact Hc
  isplitl [Ho]; · iexact Ho
  unfold xP
  iexact Hx

/-- The program run at the only grid point. -/
theorem body_at : defs₀ (F := F) Proc.tc 0 (t0_0, cfg0.slots t0_0) = bodyAt0 t0_0 := rfl

theorem body_whole : bodyAt0 (F := F) t0_0 = At cc0_body := rfl

set_option maxRecDepth 4000 in
/-- The pipeline's demand on the body. -/
theorem body_obligation (c : Dev nD) : BodyObligation (dats (F := F) m ρ 0 c) (defs₀ (F := F)) 𝒱₀ () Set.univ := fun t => by
  rw [fin_N0 t]
  rw [show (bigSep Finset.univ fun w : Fin cfg0.W => _) = _ from bigSep_W0 _, show (bigSep Finset.univ fun w : Fin cfg0.W => _) = _ from bigSep_W0 _]
  simp only [owns_stage]
  refine BIBase.Entails.trans (show _ ⊢ bodyPre m ρ c from BI.Entails.refl _) ?_
  rw [body_at, body_whole]
  have hp : ∀ p : Prog (TpuEff nD τ sig (Elt F) Λ₀ .tc) PUnit, WP c p (fun _ => bodyPost m ρ c) ⊢ WP c p (fun _ => iprop((dats m ρ 0 c).Φ t0_0.succ ∗
          (dats m ρ 0 c).owesAt () t0_0.succ ∗
            ∃ f, ⌜f = (dats m ρ 0 c).after (0 : Fin 1) t0_0⌝ ∗ (c : Thread nD τ).loc cc0_stg0_0 ↦{fullShare} f)) := fun p => BI.Entails.refl _
  generalize hq : At (cc0_body (F := F)) = q
  have h := body_sound m ρ c
  rw [hq] at h
  exact h.trans (hp q)

/-! ## The launch -/

omit [FloatOps F] in
/-- The kernel's own DMA semaphores, as the launch wants them: scoped, distinct, none a staging one. -/
theorem ownSemFacts : Pipeline.OwnSemFacts cfg0.spec osem where
  isScoped := by decide +kernel
  inj := fun s t h => Fin.ext (dq_inj s.isLt t.isLt (SemLoc.dma.inj h))
  disj := by decide +kernel

theorem share_eq (c : Dev nD) (w : Fin cfg0.W) : (dats m ρ 0 c).share w = fullShare := by unfold Dat.share; split <;> rfl

/-- Every debt is at a positive level. -/
theorem debts_pos : ∀ c : D, 0 < (scan c allOps).2 := by decide +kernel

theorem wait_stage (c : Dev nD) (sm : SemLoc sig) (h : lv ((c : Thread nD τ), sm) () = 0) (O : CellTallies nD τ sig Unit)
    (hO : O = owed c allOps ∨ O = 0) : (levAts L lv : sProp 𝕄) ⊢ MayWait (c : Thread nD τ) sm () O := by
  rcases hO with rfl | rfl
  · exact may_wait c sm allOps (scan_all c) (by rw [h]; exact debts_pos c)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    wait_stage c _ (by fin_cases w <;> fin_cases s <;> rfl) _ (by
      rcases t with ⟨_ | _, ht⟩
      · exact Or.inl rfl
      · exact Or.inr rfl)

theorem start_intro (c : Dev nD) :
    iprop(Pipeline.unscopedRestP Pipeline.Prefetch.none cfg0.spec c (fun b => m ((c : Thread nD τ).loc b)) ∗ levAts L lv
        ∗ Pipeline.launchCred (fun d => owed d allOps) c ∗ prngReg c (ρ c) ∗ G' (xst m ρ) c)
      ⊢ |={Set.univ}=> iprop((start (xst m ρ) c ∗ oP c (rows 0 16384) (m ((c : Thread nD τ).loc main_v1))) ∗ emp) := by
  rw [Pipeline.unscopedRestP_none, unscopedRest0_eq]
  iintro ⟨Ho, Hlev, Hcr, -, HG⟩
  imod (start_ini (xst m ρ) c) $$ [Hlev Hcr HG] with Hs
  · isplitl [Hlev]; · iexact Hlev
    isplitl [Hcr] <;> iassumption
  imodintro
  isplitl
  · isplitl [Hs]; · iexact Hs
    unfold oP; rw [rows_all]; iexact Ho
  · iempintro

theorem phi0_intro (c : Dev nD) :
    iprop((start (xst m ρ) c ∗ oP c (rows 0 16384) (m ((c : Thread nD τ).loc main_v1)))
        ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; unfold cP; rw [rows_all]; iexact Hr

theorem phi1_exit (c : Dev nD) :
    (dats m ρ 0 c).Φ (Fin.last cfg0.N)
      ⊢ iprop((unscopedSems0 c ∗ ((c : Thread nD τ).loc main_v1) ↦{fullShare} gath (xst m ρ) c) ∗ Pipeline.ownSems0 osem c ∗ Pipeline.scopedRest cfg0.spec c) := by
  rw [show (dats m ρ 0 c).Φ (Fin.last cfg0.N) = Φ₁ m ρ c from rfl, scopedRest0_eq, own_eq, unscoped_eq]
  unfold Φ₁ oP cP
  rw [rows_all]
  iintro ⟨Hz, Hc, Ho, Hb⟩
  isplitl [Hb Ho]
  · isplitl [Hb] <;> iassumption
  isplitl [Hz]; · iexact Hz
  iexists (gath (xst m ρ) c); iexact Hc

/-- What is read of the final memory on a device. -/
def QY (c : Dev nD) (s : MemSt nD τ sig (Elt F)) : Prop :=
  (∀ sm : SemLoc sig, sm.isScoped .tc = false → s.sem ((c.tc : Thread nD τ), sm) = 0)
    ∧ s.mem ((c : Thread nD τ).loc main_v1) = gath (xst m ρ) c

theorem read_end (c : Dev nD) (s' : Phys nD τ sig (Elt F)) :
    iprop((unscopedSems0 c ∗ ((c : Thread nD τ).loc main_v1) ↦{fullShare} gath (xst m ρ) c) ∗ emp ∗ SI s')
      ⊢ (|={Set.univ}=> iprop(⌜QY m ρ c s'.mem⌝ ∗ SI s') : sProp 𝕄) := by
  iintro ⟨⟨Hu, Ho⟩, -, HSI⟩
  icombine HSI Ho gives %h
  imod (Pipeline.unscopedSems0_read (X := unscopedSems0 c) (c := c) fupd_intro s') $$ [Hu HSI] with ⟨%hs, HSI⟩
  · isplitl [Hu] <;> iassumption
  imodintro
  isplitr
  · ipureintro; exact ⟨hs, Buf.eq_of_forall_mem_univ h⟩
  · iexact HSI

/-- From any memory with zero counters every fair execution of the kernel on the whole mesh ends, and then every
    device's result holds the gathered array, its block is unchanged and every counter is at zero. -/
theorem run_main : θ_run defs (onTc (τ := τ) (main (F := F))) (s₀ m ρ) (fun r =>
    (∀ c : Dev nD, r.2.mem ((c : Thread nD τ).loc main_arg0) = m ((c : Thread nD τ).loc main_arg0)
      ∧ r.2.mem ((c : Thread nD τ).loc main_v1) = gath (xst m ρ) c) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w <;> exact Nat.succ_pos _)
    (harr := arr_whole0) (hstage := stage_whole0) (hshare := share_eq m ρ)
    (hdistinct := winFacts0.arr_inj)
    (O₀ := fun d => owed d allOps) (howed₀ := fun _ => rfl) (howedN := fun _ => rfl)
    (L := L) (lv := lv) (hL := fun g h => if_neg h) (hwaits := waits m ρ)
    (G := G (xst m ρ)) (G' := G' (xst m ρ)) (u₀ := u₀)
    (hu₀ := by
      unfold u₀
      iintro Hu
      ihave H := (ownU_pair _ _) $$ Hu
      icases H with ⟨HP, HX⟩
      imod (fund_all (xst m ρ)) $$ HX with HG
      imodintro
      isplitl [HP] <;> iassumption)
    (hglob := glob (xst m ρ))
    (hA := fun _ _ => rfl) (hpf := fun _ k => k.elim0)
    (X := fun c => iprop(start (xst m ρ) c ∗ oP c (rows 0 16384) (m ((c : Thread nD τ).loc main_v1))))
    (Y := fun c => iprop(unscopedSems0 c ∗ ((c : Thread nD τ).loc main_v1) ↦{fullShare} gath (xst m ρ) c))
    (Z := fun _ => iprop(emp))
    (hX := start_intro m ρ) (hin := phi0_intro m ρ) (hout := phi1_exit m ρ)
    (QY := QY m ρ) (hY := read_end m ρ)
    (hQ := fun _ h hs => ⟨fun c => ⟨((h c).1 (0 : Fin 1)).trans ((dats (F := F) m ρ 0 c).arrAt_in (0 : Fin 1) rfl _), (h c).2.2.2⟩,
      sem_eq_zero hs fun c => (h c).2.2.1⟩)

end

end Cert.AG
-- ==== Proof.Same.lean ====
module

public import proofs.«01_k».proof.Defs
public import proofs.«01_k».proof.Proof.Launch
public import proofs.«01_k».proof.Proof.Gen.Kernel

@[expose] public section

/-! The kernel as printed and its ideal reading have one text, so one run serves both. -/

noncomputable section

namespace Cert.AG

open Idealize.ShloMosaic Idealize.SL.Sem

/-- The two programs' bodies are the same text. -/
theorem body_same : Cert.Kernel.cc0_body (F := Bits) = Cert.KernelIdeal.cc0_body (F := Bits) := rfl

/-- So are their body tables. -/
theorem table_same : Cert.Kernel.defs₀ (F := Bits) = Cert.KernelIdeal.defs₀ (F := Bits) := by
  unfold Cert.Kernel.defs₀ Cert.KernelIdeal.defs₀
  refine congrArg Defs.onTc ?_
  funext l a
  obtain ⟨_ | n, h⟩ := l
  · obtain ⟨t, s⟩ := a
    rfl
  · exact absurd h (by omega)

/-- With the pipelines around them. -/
theorem defs_same : Cert.Kernel.defs (F := Bits) = Cert.KernelIdeal.defs (F := Bits) :=
  congrArg (Pipeline.defs (Cert.KernelIdeal.pcfgs (F := Bits))) table_same

/-- The kernel runs, over the bit patterns: no fault, its argument kept, every counter back at zero. -/
theorem frame_kernel : Cert.quiescent_Kernel := by
  intro m ρ _
  rw [defs_same]
  exact (θ_run Cert.KernelIdeal.defs _ _).mono (fun _ h => ⟨fun c => (h.1 c).1, h.2⟩) (run_main (F := Bits) m ρ)

/-- So does its ideal reading, over the extended reals. -/
theorem frame_ideal : Cert.quiescent_KernelIdeal := fun m ρ _ =>
  (θ_run Cert.KernelIdeal.defs _ _).mono (fun _ h => ⟨fun c => (h.1 c).1, h.2⟩) (run_main (F := Ideal) m ρ)

end Cert.AG
-- ==== Proof.Value.lean ====
module

public import proofs.«01_k».proof.Defs
public import proofs.«01_k».proof.Proof.Launch
public import proofs.«01_k».proof.Proof.Gen.ReferenceIdeal
public import Idealize.ShloMosaic.Lib.StableHlo.RunHlo

@[expose] public section

/-! What the gathered array is when the devices hold the blocks of one array, and the reference's run. -/

noncomputable section

namespace Cert.AG

open Cert.KernelIdeal
open Idealize.ShloMosaic Idealize.ShloMosaic.TcCoe Idealize.SL.Sem

variable {F : FTy → Type} [FloatOps F]

/-- The staged block is the argument. -/
theorem staged (m : (ℓ : Loc nD τ sig) → Buf (Elt F) ℓ) (ρ : Dev nD → PrngReg) (c : Dev nD) :
    xst m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

omit [FloatOps F] in
/-- The block a device's place on the mesh names is that of its last coordinate. -/
theorem place (c : D) : Layout.meshLin [2, 4, 4] c.val [2] = cz c := by
  revert c; decide +kernel

/-- Gathering the blocks of an array gives the array. -/
theorem gath_blocks (v : GI → Elt F .bf16) (c : D) :
    gath (fun d : D => Layout.blockN ⟨2, ![4096, 1024]⟩ ⟨2, ![16384, 1024]⟩ (Layout.meshBlock [2, 4, 4] ![[2], []] d) v) c = v := by
  funext i
  have h0 : (i 0).val < 16384 := (i 0).isLt
  have hz := srcDev_z ((i 0).val / 128) (by omega) c
  unfold gath
  refine congrArg v (funext fun a => Fin.ext ?_)
  rw [Layout.TilesN.idx_val]
  have hp := place (srcDev c ((i 0).val / 128))
  match a with
  | ⟨0, _⟩ =>
    show Layout.meshLin [2, 4, 4] (srcDev c ((i 0).val / 128)).val [2] * 4096 + (i 0).val % 4096 = (i 0).val
    rw [hp, hz]; omega
  | ⟨1, _⟩ =>
    show 0 * 1024 + (i 1).val = (i 1).val
    omega

/-- The reference does nothing: every array of it ends as it was. -/
theorem run_reference (m : (ℓ : Loc Cert.ReferenceIdeal.nD Cert.ReferenceIdeal.τ Cert.ReferenceIdeal.sig) → Buf (Elt F) ℓ)
    (ρ : Dev Cert.ReferenceIdeal.nD → PrngReg) :
    θ_run (Cert.ReferenceIdeal.defs (F := F)) (onTc (τ := Cert.ReferenceIdeal.τ) (Cert.ReferenceIdeal.main (F := F))) ⟨m, fun _ => 0, ρ⟩
      (fun r => ∀ (d : Dev Cert.ReferenceIdeal.nD) (b : Ref Cert.ReferenceIdeal.sig .tc),
        r.2.mem ((d.tc : Thread Cert.ReferenceIdeal.nD Cert.ReferenceIdeal.τ).loc b) = m ((d.tc : Thread Cert.ReferenceIdeal.nD Cert.ReferenceIdeal.τ).loc b)) :=
  StableHlo.run_hlo _ _ (ops := []) (fun _ => rfl) (by decide) (by decide) trivial (fun _ h => absurd h (by simp)) m ρ

/-- The reference keeps its argument, and has no counter. -/
theorem frame_reference : Cert.quiescent_ReferenceIdeal := fun m ρ _ =>
  (θ_run Cert.ReferenceIdeal.defs _ _).mono
    (fun r h => ⟨fun c => h c _, sem_eq_zero_of_no_sems (by decide) r.2⟩) (run_reference (F := Ideal) m ρ)

/-- On devices that hold the blocks of an array along the mesh's last axis, the kernel ends with the whole array on every
    device, which is what the reference returns. -/
theorem value : Cert.algebraic_KernelIdeal_ReferenceIdeal := by
  intro m g m' g' _ hb
  refine ⟨m' (((0 : Dev Cert.ReferenceIdeal.nD).tc : Thread Cert.ReferenceIdeal.nD Cert.ReferenceIdeal.τ).loc Cert.ReferenceIdeal.main_arg0), ?_, ?_⟩
  · refine (θ_run Cert.KernelIdeal.defs _ _).mono (fun r h c => ⟨?_, (h.1 c).1⟩) (run_main (F := Ideal) m g)
    refine (h.1 c).2.trans ?_
    rw [show xst m g = _ from funext fun d => (staged m g d).trans (hb d)]
    exact gath_blocks _ c
  · exact (θ_run Cert.ReferenceIdeal.defs _ _).mono (fun r h => ⟨h 0 _, h 0 _⟩) (run_reference (F := Ideal) m' g')

end Cert.AG
-- ==== Proof.lean ====
/- The claim assembled: the two kernel frames, the reference's frame, that nothing was rewritten, and the value. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Same
public import proofs.«01_k».proof.Proof.Value
public import Idealize.ShloMosaic.Adequacy
public import Idealize.ShloMosaic.Init

@[expose] public section

noncomputable section

namespace Cert.Proof

/-- The kernel gathers the blocks of its argument along the mesh's last axis, from every memory and in every order. -/
theorem claim : Cert.Claim :=
  ⟨Cert.Kernel.Gen.facts, Cert.KernelIdeal.Gen.facts, Cert.ReferenceIdeal.Gen.facts,
    Cert.AG.frame_kernel, Cert.AG.frame_ideal, Cert.AG.frame_reference, trivial, Cert.AG.value⟩

end Cert.Proof

end
